-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19)
      ∧ r.2.mem ((c.tc : Thread Cert.Kernel3.nD Cert.Kernel3.τ).loc Cert.Kernel3.main_arg20) = m ((c.tc : Thread Cert.Kernel3.nD Cert.Kernel3.τ).loc Cert.Kernel3.main_arg20)
      ∧ r.2.mem ((c.tc : Thread Cert.Kernel3.nD Cert.Kernel3.τ).loc Cert.Kernel3.main_arg21) = m ((c.tc : Thread Cert.Kernel3.nD Cert.Kernel3.τ).loc Cert.Kernel3.main_arg21)
      ∧ r.2.mem ((c.tc : Thread Cert.Kernel3.nD Cert.Kernel3.τ).loc Cert.Kernel3.main_arg22) = m ((c.tc : Thread Cert.Kernel3.nD Cert.Kernel3.τ).loc Cert.Kernel3.main_arg22)
      ∧ r.2.mem ((c.tc : Thread Cert.Kernel3.nD Cert.Kernel3.τ).loc Cert.Kernel3.main_arg23) = m ((c.tc : Thread Cert.Kernel3.nD Cert.Kernel3.τ).loc Cert.Kernel3.main_arg23)
      ∧ r.2.mem ((c.tc : Thread Cert.Kernel3.nD Cert.Kernel3.τ).loc Cert.Kernel3.main_arg24) = m ((c.tc : Thread Cert.Kernel3.nD Cert.Kernel3.τ).loc Cert.Kernel3.main_arg24)
      ∧ r.2.mem ((c.tc : Thread Cert.Kernel3.nD Cert.Kernel3.τ).loc Cert.Kernel3.main_arg25) = m ((c.tc : Thread Cert.Kernel3.nD Cert.Kernel3.τ).loc Cert.Kernel3.main_arg25)
      ∧ r.2.mem ((c.tc : Thread Cert.Kernel3.nD Cert.Kernel3.τ).loc Cert.Kernel3.main_arg26) = m ((c.tc : Thread Cert.Kernel3.nD Cert.Kernel3.τ).loc Cert.Kernel3.main_arg26)
      ∧ r.2.mem ((c.tc : Thread Cert.Kernel3.nD Cert.Kernel3.τ).loc Cert.Kernel3.main_arg27) = m ((c.tc : Thread Cert.Kernel3.nD Cert.Kernel3.τ).loc Cert.Kernel3.main_arg27)
      ∧ r.2.mem ((c.tc : Thread Cert.Kernel3.nD Cert.Kernel3.τ).loc Cert.Kernel3.main_arg28) = m ((c.tc : Thread Cert.Kernel3.nD Cert.Kernel3.τ).loc Cert.Kernel3.main_arg28))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
      ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
      ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
      ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
      ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
      ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
      ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
      ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
      ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
      ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19)
      ∧ r.2.mem ((c.tc : Thread Cert.Reference3Ideal.nD Cert.Reference3Ideal.τ).loc Cert.Reference3Ideal.main_arg20) = m ((c.tc : Thread Cert.Reference3Ideal.nD Cert.Reference3Ideal.τ).loc Cert.Reference3Ideal.main_arg20)
      ∧ r.2.mem ((c.tc : Thread Cert.Reference3Ideal.nD Cert.Reference3Ideal.τ).loc Cert.Reference3Ideal.main_arg21) = m ((c.tc : Thread Cert.Reference3Ideal.nD Cert.Reference3Ideal.τ).loc Cert.Reference3Ideal.main_arg21)
      ∧ r.2.mem ((c.tc : Thread Cert.Reference3Ideal.nD Cert.Reference3Ideal.τ).loc Cert.Reference3Ideal.main_arg22) = m ((c.tc : Thread Cert.Reference3Ideal.nD Cert.Reference3Ideal.τ).loc Cert.Reference3Ideal.main_arg22)
      ∧ r.2.mem ((c.tc : Thread Cert.Reference3Ideal.nD Cert.Reference3Ideal.τ).loc Cert.Reference3Ideal.main_arg23) = m ((c.tc : Thread Cert.Reference3Ideal.nD Cert.Reference3Ideal.τ).loc Cert.Reference3Ideal.main_arg23)
      ∧ r.2.mem ((c.tc : Thread Cert.Reference3Ideal.nD Cert.Reference3Ideal.τ).loc Cert.Reference3Ideal.main_arg24) = m ((c.tc : Thread Cert.Reference3Ideal.nD Cert.Reference3Ideal.τ).loc Cert.Reference3Ideal.main_arg24)
      ∧ r.2.mem ((c.tc : Thread Cert.Reference3Ideal.nD Cert.Reference3Ideal.τ).loc Cert.Reference3Ideal.main_arg25) = m ((c.tc : Thread Cert.Reference3Ideal.nD Cert.Reference3Ideal.τ).loc Cert.Reference3Ideal.main_arg25)
      ∧ r.2.mem ((c.tc : Thread Cert.Reference3Ideal.nD Cert.Reference3Ideal.τ).loc Cert.Reference3Ideal.main_arg26) = m ((c.tc : Thread Cert.Reference3Ideal.nD Cert.Reference3Ideal.τ).loc Cert.Reference3Ideal.main_arg26)
      ∧ r.2.mem ((c.tc : Thread Cert.Reference3Ideal.nD Cert.Reference3Ideal.τ).loc Cert.Reference3Ideal.main_arg27) = m ((c.tc : Thread Cert.Reference3Ideal.nD Cert.Reference3Ideal.τ).loc Cert.Reference3Ideal.main_arg27)
      ∧ r.2.mem ((c.tc : Thread Cert.Reference3Ideal.nD Cert.Reference3Ideal.τ).loc Cert.Reference3Ideal.main_arg28) = m ((c.tc : Thread Cert.Reference3Ideal.nD Cert.Reference3Ideal.τ).loc Cert.Reference3Ideal.main_arg28))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)) (v5 : (c : Dev Cert.KernelIdeal.nD) → Buf (Elt Ideal) ((c.tc : Thread Cert.KernelIdeal.nD Cert.KernelIdeal.τ).loc Cert.KernelIdeal.main_v18_5)) (v6 : (c : Dev Cert.KernelIdeal.nD) → Buf (Elt Ideal) ((c.tc : Thread Cert.KernelIdeal.nD Cert.KernelIdeal.τ).loc Cert.KernelIdeal.main_v18_6)) (v7 : (c : Dev Cert.KernelIdeal.nD) → Buf (Elt Ideal) ((c.tc : Thread Cert.KernelIdeal.nD Cert.KernelIdeal.τ).loc Cert.KernelIdeal.main_v18_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_v18_5) = v5 c
          ∧ r.2.mem ((c.tc : Thread Cert.KernelIdeal.nD Cert.KernelIdeal.τ).loc Cert.KernelIdeal.main_v18_6) = v6 c
          ∧ r.2.mem ((c.tc : Thread Cert.KernelIdeal.nD Cert.KernelIdeal.τ).loc Cert.KernelIdeal.main_v18_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v151) = v2 c
          ∧ r.2.mem ((c.tc : Thread Cert.ReferenceIdeal.nD Cert.ReferenceIdeal.τ).loc Cert.ReferenceIdeal.main_v153) = v3 c
          ∧ r.2.mem ((c.tc : Thread Cert.ReferenceIdeal.nD Cert.ReferenceIdeal.τ).loc Cert.ReferenceIdeal.main_v155) = v4 c
          ∧ r.2.mem ((c.tc : Thread Cert.ReferenceIdeal.nD Cert.ReferenceIdeal.τ).loc Cert.ReferenceIdeal.main_v156) = v5 c
          ∧ r.2.mem ((c.tc : Thread Cert.ReferenceIdeal.nD Cert.ReferenceIdeal.τ).loc Cert.ReferenceIdeal.main_v158) = v6 c
          ∧ r.2.mem ((c.tc : Thread Cert.ReferenceIdeal.nD Cert.ReferenceIdeal.τ).loc Cert.ReferenceIdeal.main_v159) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v17_0)) (v2 : (c : Dev Cert.Kernel2Ideal.nD) → Buf (Elt Ideal) ((c.tc : Thread Cert.Kernel2Ideal.nD Cert.Kernel2Ideal.τ).loc Cert.Kernel2Ideal.main_v17_1)) (v3 : (c : Dev Cert.Kernel2Ideal.nD) → Buf (Elt Ideal) ((c.tc : Thread Cert.Kernel2Ideal.nD Cert.Kernel2Ideal.τ).loc Cert.Kernel2Ideal.main_v17_2)) (v4 : (c : Dev Cert.Kernel2Ideal.nD) → Buf (Elt Ideal) ((c.tc : Thread Cert.Kernel2Ideal.nD Cert.Kernel2Ideal.τ).loc Cert.Kernel2Ideal.main_v17_3)) (v5 : (c : Dev Cert.Kernel2Ideal.nD) → Buf (Elt Ideal) ((c.tc : Thread Cert.Kernel2Ideal.nD Cert.Kernel2Ideal.τ).loc Cert.Kernel2Ideal.main_v17_4)) (v6 : (c : Dev Cert.Kernel2Ideal.nD) → Buf (Elt Ideal) ((c.tc : Thread Cert.Kernel2Ideal.nD Cert.Kernel2Ideal.τ).loc Cert.Kernel2Ideal.main_v17_5)) (v7 : (c : Dev Cert.Kernel2Ideal.nD) → Buf (Elt Ideal) ((c.tc : Thread Cert.Kernel2Ideal.nD Cert.Kernel2Ideal.τ).loc Cert.Kernel2Ideal.main_v17_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v17_0) = v1 c
          ∧ r.2.mem ((c.tc : Thread Cert.Kernel2Ideal.nD Cert.Kernel2Ideal.τ).loc Cert.Kernel2Ideal.main_v17_1) = v2 c
          ∧ r.2.mem ((c.tc : Thread Cert.Kernel2Ideal.nD Cert.Kernel2Ideal.τ).loc Cert.Kernel2Ideal.main_v17_2) = v3 c
          ∧ r.2.mem ((c.tc : Thread Cert.Kernel2Ideal.nD Cert.Kernel2Ideal.τ).loc Cert.Kernel2Ideal.main_v17_3) = v4 c
          ∧ r.2.mem ((c.tc : Thread Cert.Kernel2Ideal.nD Cert.Kernel2Ideal.τ).loc Cert.Kernel2Ideal.main_v17_4) = v5 c
          ∧ r.2.mem ((c.tc : Thread Cert.Kernel2Ideal.nD Cert.Kernel2Ideal.τ).loc Cert.Kernel2Ideal.main_v17_5) = v6 c
          ∧ r.2.mem ((c.tc : Thread Cert.Kernel2Ideal.nD Cert.Kernel2Ideal.τ).loc Cert.Kernel2Ideal.main_v17_6) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v131) = v0 c
          ∧ r.2.mem ((c.tc : Thread Cert.Reference2Ideal.nD Cert.Reference2Ideal.τ).loc Cert.Reference2Ideal.main_v132) = v1 c
          ∧ r.2.mem ((c.tc : Thread Cert.Reference2Ideal.nD Cert.Reference2Ideal.τ).loc Cert.Reference2Ideal.main_v135) = v2 c
          ∧ r.2.mem ((c.tc : Thread Cert.Reference2Ideal.nD Cert.Reference2Ideal.τ).loc Cert.Reference2Ideal.main_v138) = v3 c
          ∧ r.2.mem ((c.tc : Thread Cert.Reference2Ideal.nD Cert.Reference2Ideal.τ).loc Cert.Reference2Ideal.main_v140) = v4 c
          ∧ r.2.mem ((c.tc : Thread Cert.Reference2Ideal.nD Cert.Reference2Ideal.τ).loc Cert.Reference2Ideal.main_v142) = v5 c
          ∧ r.2.mem ((c.tc : Thread Cert.Reference2Ideal.nD Cert.Reference2Ideal.τ).loc Cert.Reference2Ideal.main_v143) = v6 c
          ∧ r.2.mem ((c.tc : Thread Cert.Reference2Ideal.nD Cert.Reference2Ideal.τ).loc Cert.Reference2Ideal.main_v145) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)
      ∧ m' ((c.tc : Thread Cert.Reference3Ideal.nD Cert.Reference3Ideal.τ).loc Cert.Reference3Ideal.main_arg20) = m ((c.tc : Thread Cert.Kernel3Ideal.nD Cert.Kernel3Ideal.τ).loc Cert.Kernel3Ideal.main_arg20)
      ∧ m' ((c.tc : Thread Cert.Reference3Ideal.nD Cert.Reference3Ideal.τ).loc Cert.Reference3Ideal.main_arg21) = m ((c.tc : Thread Cert.Kernel3Ideal.nD Cert.Kernel3Ideal.τ).loc Cert.Kernel3Ideal.main_arg21)
      ∧ m' ((c.tc : Thread Cert.Reference3Ideal.nD Cert.Reference3Ideal.τ).loc Cert.Reference3Ideal.main_arg22) = m ((c.tc : Thread Cert.Kernel3Ideal.nD Cert.Kernel3Ideal.τ).loc Cert.Kernel3Ideal.main_arg22)
      ∧ m' ((c.tc : Thread Cert.Reference3Ideal.nD Cert.Reference3Ideal.τ).loc Cert.Reference3Ideal.main_arg23) = m ((c.tc : Thread Cert.Kernel3Ideal.nD Cert.Kernel3Ideal.τ).loc Cert.Kernel3Ideal.main_arg23)
      ∧ m' ((c.tc : Thread Cert.Reference3Ideal.nD Cert.Reference3Ideal.τ).loc Cert.Reference3Ideal.main_arg24) = m ((c.tc : Thread Cert.Kernel3Ideal.nD Cert.Kernel3Ideal.τ).loc Cert.Kernel3Ideal.main_arg24)
      ∧ m' ((c.tc : Thread Cert.Reference3Ideal.nD Cert.Reference3Ideal.τ).loc Cert.Reference3Ideal.main_arg25) = m ((c.tc : Thread Cert.Kernel3Ideal.nD Cert.Kernel3Ideal.τ).loc Cert.Kernel3Ideal.main_arg25)
      ∧ m' ((c.tc : Thread Cert.Reference3Ideal.nD Cert.Reference3Ideal.τ).loc Cert.Reference3Ideal.main_arg26) = m ((c.tc : Thread Cert.Kernel3Ideal.nD Cert.Kernel3Ideal.τ).loc Cert.Kernel3Ideal.main_arg26)
      ∧ m' ((c.tc : Thread Cert.Reference3Ideal.nD Cert.Reference3Ideal.τ).loc Cert.Reference3Ideal.main_arg27) = m ((c.tc : Thread Cert.Kernel3Ideal.nD Cert.Kernel3Ideal.τ).loc Cert.Kernel3Ideal.main_arg27)
      ∧ m' ((c.tc : Thread Cert.Reference3Ideal.nD Cert.Reference3Ideal.τ).loc Cert.Reference3Ideal.main_arg28) = m ((c.tc : Thread Cert.Kernel3Ideal.nD Cert.Kernel3Ideal.τ).loc Cert.Kernel3Ideal.main_arg28)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v10_0)) (v5 : (c : Dev Cert.Kernel3Ideal.nD) → Buf (Elt Ideal) ((c.tc : Thread Cert.Kernel3Ideal.nD Cert.Kernel3Ideal.τ).loc Cert.Kernel3Ideal.main_v10_1)) (v6 : (c : Dev Cert.Kernel3Ideal.nD) → Buf (Elt Ideal) ((c.tc : Thread Cert.Kernel3Ideal.nD Cert.Kernel3Ideal.τ).loc Cert.Kernel3Ideal.main_v10_2)) (v7 : (c : Dev Cert.Kernel3Ideal.nD) → Buf (Elt Ideal) ((c.tc : Thread Cert.Kernel3Ideal.nD Cert.Kernel3Ideal.τ).loc Cert.Kernel3Ideal.main_v10_3)) (v8 : (c : Dev Cert.Kernel3Ideal.nD) → Buf (Elt Ideal) ((c.tc : Thread Cert.Kernel3Ideal.nD Cert.Kernel3Ideal.τ).loc Cert.Kernel3Ideal.main_v14_0)) (v9 : (c : Dev Cert.Kernel3Ideal.nD) → Buf (Elt Ideal) ((c.tc : Thread Cert.Kernel3Ideal.nD Cert.Kernel3Ideal.τ).loc Cert.Kernel3Ideal.main_v14_1)) (v10 : (c : Dev Cert.Kernel3Ideal.nD) → Buf (Elt Ideal) ((c.tc : Thread Cert.Kernel3Ideal.nD Cert.Kernel3Ideal.τ).loc Cert.Kernel3Ideal.main_v14_2)) (v11 : (c : Dev Cert.Kernel3Ideal.nD) → Buf (Elt Ideal) ((c.tc : Thread Cert.Kernel3Ideal.nD Cert.Kernel3Ideal.τ).loc Cert.Kernel3Ideal.main_v14_3)) (v12 : (c : Dev Cert.Kernel3Ideal.nD) → Buf (Elt Ideal) ((c.tc : Thread Cert.Kernel3Ideal.nD Cert.Kernel3Ideal.τ).loc Cert.Kernel3Ideal.main_v18_0)) (v13 : (c : Dev Cert.Kernel3Ideal.nD) → Buf (Elt Ideal) ((c.tc : Thread Cert.Kernel3Ideal.nD Cert.Kernel3Ideal.τ).loc Cert.Kernel3Ideal.main_v18_1)) (v14 : (c : Dev Cert.Kernel3Ideal.nD) → Buf (Elt Ideal) ((c.tc : Thread Cert.Kernel3Ideal.nD Cert.Kernel3Ideal.τ).loc Cert.Kernel3Ideal.main_v18_2)) (v15 : (c : Dev Cert.Kernel3Ideal.nD) → Buf (Elt Ideal) ((c.tc : Thread Cert.Kernel3Ideal.nD Cert.Kernel3Ideal.τ).loc Cert.Kernel3Ideal.main_v18_3)) (v16 : (c : Dev Cert.Kernel3Ideal.nD) → Buf (Elt Ideal) ((c.tc : Thread Cert.Kernel3Ideal.nD Cert.Kernel3Ideal.τ).loc Cert.Kernel3Ideal.main_v22_0)) (v17 : (c : Dev Cert.Kernel3Ideal.nD) → Buf (Elt Ideal) ((c.tc : Thread Cert.Kernel3Ideal.nD Cert.Kernel3Ideal.τ).loc Cert.Kernel3Ideal.main_v22_1)) (v18 : (c : Dev Cert.Kernel3Ideal.nD) → Buf (Elt Ideal) ((c.tc : Thread Cert.Kernel3Ideal.nD Cert.Kernel3Ideal.τ).loc Cert.Kernel3Ideal.main_v22_2)) (v19 : (c : Dev Cert.Kernel3Ideal.nD) → Buf (Elt Ideal) ((c.tc : Thread Cert.Kernel3Ideal.nD Cert.Kernel3Ideal.τ).loc Cert.Kernel3Ideal.main_v22_3)) (v20 : (c : Dev Cert.Kernel3Ideal.nD) → Buf (Elt Ideal) ((c.tc : Thread Cert.Kernel3Ideal.nD Cert.Kernel3Ideal.τ).loc Cert.Kernel3Ideal.main_v29_0)) (v21 : (c : Dev Cert.Kernel3Ideal.nD) → Buf (Elt Ideal) ((c.tc : Thread Cert.Kernel3Ideal.nD Cert.Kernel3Ideal.τ).loc Cert.Kernel3Ideal.main_v29_1)) (v22 : (c : Dev Cert.Kernel3Ideal.nD) → Buf (Elt Ideal) ((c.tc : Thread Cert.Kernel3Ideal.nD Cert.Kernel3Ideal.τ).loc Cert.Kernel3Ideal.main_v29_2)) (v23 : (c : Dev Cert.Kernel3Ideal.nD) → Buf (Elt Ideal) ((c.tc : Thread Cert.Kernel3Ideal.nD Cert.Kernel3Ideal.τ).loc Cert.Kernel3Ideal.main_v29_3)) (v24 : (c : Dev Cert.Kernel3Ideal.nD) → Buf (Elt Ideal) ((c.tc : Thread Cert.Kernel3Ideal.nD Cert.Kernel3Ideal.τ).loc Cert.Kernel3Ideal.main_v33_0)) (v25 : (c : Dev Cert.Kernel3Ideal.nD) → Buf (Elt Ideal) ((c.tc : Thread Cert.Kernel3Ideal.nD Cert.Kernel3Ideal.τ).loc Cert.Kernel3Ideal.main_v33_1)) (v26 : (c : Dev Cert.Kernel3Ideal.nD) → Buf (Elt Ideal) ((c.tc : Thread Cert.Kernel3Ideal.nD Cert.Kernel3Ideal.τ).loc Cert.Kernel3Ideal.main_v33_2)) (v27 : (c : Dev Cert.Kernel3Ideal.nD) → Buf (Elt Ideal) ((c.tc : Thread Cert.Kernel3Ideal.nD Cert.Kernel3Ideal.τ).loc Cert.Kernel3Ideal.main_v33_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v10_0) = v4 c
          ∧ r.2.mem ((c.tc : Thread Cert.Kernel3Ideal.nD Cert.Kernel3Ideal.τ).loc Cert.Kernel3Ideal.main_v10_1) = v5 c
          ∧ r.2.mem ((c.tc : Thread Cert.Kernel3Ideal.nD Cert.Kernel3Ideal.τ).loc Cert.Kernel3Ideal.main_v10_2) = v6 c
          ∧ r.2.mem ((c.tc : Thread Cert.Kernel3Ideal.nD Cert.Kernel3Ideal.τ).loc Cert.Kernel3Ideal.main_v10_3) = v7 c
          ∧ r.2.mem ((c.tc : Thread Cert.Kernel3Ideal.nD Cert.Kernel3Ideal.τ).loc Cert.Kernel3Ideal.main_v14_0) = v8 c
          ∧ r.2.mem ((c.tc : Thread Cert.Kernel3Ideal.nD Cert.Kernel3Ideal.τ).loc Cert.Kernel3Ideal.main_v14_1) = v9 c
          ∧ r.2.mem ((c.tc : Thread Cert.Kernel3Ideal.nD Cert.Kernel3Ideal.τ).loc Cert.Kernel3Ideal.main_v14_2) = v10 c
          ∧ r.2.mem ((c.tc : Thread Cert.Kernel3Ideal.nD Cert.Kernel3Ideal.τ).loc Cert.Kernel3Ideal.main_v14_3) = v11 c
          ∧ r.2.mem ((c.tc : Thread Cert.Kernel3Ideal.nD Cert.Kernel3Ideal.τ).loc Cert.Kernel3Ideal.main_v18_0) = v12 c
          ∧ r.2.mem ((c.tc : Thread Cert.Kernel3Ideal.nD Cert.Kernel3Ideal.τ).loc Cert.Kernel3Ideal.main_v18_1) = v13 c
          ∧ r.2.mem ((c.tc : Thread Cert.Kernel3Ideal.nD Cert.Kernel3Ideal.τ).loc Cert.Kernel3Ideal.main_v18_2) = v14 c
          ∧ r.2.mem ((c.tc : Thread Cert.Kernel3Ideal.nD Cert.Kernel3Ideal.τ).loc Cert.Kernel3Ideal.main_v18_3) = v15 c
          ∧ r.2.mem ((c.tc : Thread Cert.Kernel3Ideal.nD Cert.Kernel3Ideal.τ).loc Cert.Kernel3Ideal.main_v22_0) = v16 c
          ∧ r.2.mem ((c.tc : Thread Cert.Kernel3Ideal.nD Cert.Kernel3Ideal.τ).loc Cert.Kernel3Ideal.main_v22_1) = v17 c
          ∧ r.2.mem ((c.tc : Thread Cert.Kernel3Ideal.nD Cert.Kernel3Ideal.τ).loc Cert.Kernel3Ideal.main_v22_2) = v18 c
          ∧ r.2.mem ((c.tc : Thread Cert.Kernel3Ideal.nD Cert.Kernel3Ideal.τ).loc Cert.Kernel3Ideal.main_v22_3) = v19 c
          ∧ r.2.mem ((c.tc : Thread Cert.Kernel3Ideal.nD Cert.Kernel3Ideal.τ).loc Cert.Kernel3Ideal.main_v29_0) = v20 c
          ∧ r.2.mem ((c.tc : Thread Cert.Kernel3Ideal.nD Cert.Kernel3Ideal.τ).loc Cert.Kernel3Ideal.main_v29_1) = v21 c
          ∧ r.2.mem ((c.tc : Thread Cert.Kernel3Ideal.nD Cert.Kernel3Ideal.τ).loc Cert.Kernel3Ideal.main_v29_2) = v22 c
          ∧ r.2.mem ((c.tc : Thread Cert.Kernel3Ideal.nD Cert.Kernel3Ideal.τ).loc Cert.Kernel3Ideal.main_v29_3) = v23 c
          ∧ r.2.mem ((c.tc : Thread Cert.Kernel3Ideal.nD Cert.Kernel3Ideal.τ).loc Cert.Kernel3Ideal.main_v33_0) = v24 c
          ∧ r.2.mem ((c.tc : Thread Cert.Kernel3Ideal.nD Cert.Kernel3Ideal.τ).loc Cert.Kernel3Ideal.main_v33_1) = v25 c
          ∧ r.2.mem ((c.tc : Thread Cert.Kernel3Ideal.nD Cert.Kernel3Ideal.τ).loc Cert.Kernel3Ideal.main_v33_2) = v26 c
          ∧ r.2.mem ((c.tc : Thread Cert.Kernel3Ideal.nD Cert.Kernel3Ideal.τ).loc Cert.Kernel3Ideal.main_v33_3) = v27 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19)
          ∧ r.2.mem ((c.tc : Thread Cert.Kernel3Ideal.nD Cert.Kernel3Ideal.τ).loc Cert.Kernel3Ideal.main_arg20) = m ((c.tc : Thread Cert.Kernel3Ideal.nD Cert.Kernel3Ideal.τ).loc Cert.Kernel3Ideal.main_arg20)
          ∧ r.2.mem ((c.tc : Thread Cert.Kernel3Ideal.nD Cert.Kernel3Ideal.τ).loc Cert.Kernel3Ideal.main_arg21) = m ((c.tc : Thread Cert.Kernel3Ideal.nD Cert.Kernel3Ideal.τ).loc Cert.Kernel3Ideal.main_arg21)
          ∧ r.2.mem ((c.tc : Thread Cert.Kernel3Ideal.nD Cert.Kernel3Ideal.τ).loc Cert.Kernel3Ideal.main_arg22) = m ((c.tc : Thread Cert.Kernel3Ideal.nD Cert.Kernel3Ideal.τ).loc Cert.Kernel3Ideal.main_arg22)
          ∧ r.2.mem ((c.tc : Thread Cert.Kernel3Ideal.nD Cert.Kernel3Ideal.τ).loc Cert.Kernel3Ideal.main_arg23) = m ((c.tc : Thread Cert.Kernel3Ideal.nD Cert.Kernel3Ideal.τ).loc Cert.Kernel3Ideal.main_arg23)
          ∧ r.2.mem ((c.tc : Thread Cert.Kernel3Ideal.nD Cert.Kernel3Ideal.τ).loc Cert.Kernel3Ideal.main_arg24) = m ((c.tc : Thread Cert.Kernel3Ideal.nD Cert.Kernel3Ideal.τ).loc Cert.Kernel3Ideal.main_arg24)
          ∧ r.2.mem ((c.tc : Thread Cert.Kernel3Ideal.nD Cert.Kernel3Ideal.τ).loc Cert.Kernel3Ideal.main_arg25) = m ((c.tc : Thread Cert.Kernel3Ideal.nD Cert.Kernel3Ideal.τ).loc Cert.Kernel3Ideal.main_arg25)
          ∧ r.2.mem ((c.tc : Thread Cert.Kernel3Ideal.nD Cert.Kernel3Ideal.τ).loc Cert.Kernel3Ideal.main_arg26) = m ((c.tc : Thread Cert.Kernel3Ideal.nD Cert.Kernel3Ideal.τ).loc Cert.Kernel3Ideal.main_arg26)
          ∧ r.2.mem ((c.tc : Thread Cert.Kernel3Ideal.nD Cert.Kernel3Ideal.τ).loc Cert.Kernel3Ideal.main_arg27) = m ((c.tc : Thread Cert.Kernel3Ideal.nD Cert.Kernel3Ideal.τ).loc Cert.Kernel3Ideal.main_arg27)
          ∧ r.2.mem ((c.tc : Thread Cert.Kernel3Ideal.nD Cert.Kernel3Ideal.τ).loc Cert.Kernel3Ideal.main_arg28) = m ((c.tc : Thread Cert.Kernel3Ideal.nD Cert.Kernel3Ideal.τ).loc Cert.Kernel3Ideal.main_arg28))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v3) = v4 c
          ∧ r.2.mem ((c.tc : Thread Cert.Reference3Ideal.nD Cert.Reference3Ideal.τ).loc Cert.Reference3Ideal.main_v90) = v5 c
          ∧ r.2.mem ((c.tc : Thread Cert.Reference3Ideal.nD Cert.Reference3Ideal.τ).loc Cert.Reference3Ideal.main_v71) = v6 c
          ∧ r.2.mem ((c.tc : Thread Cert.Reference3Ideal.nD Cert.Reference3Ideal.τ).loc Cert.Reference3Ideal.main_v77) = v7 c
          ∧ r.2.mem ((c.tc : Thread Cert.Reference3Ideal.nD Cert.Reference3Ideal.τ).loc Cert.Reference3Ideal.main_v5) = v8 c
          ∧ r.2.mem ((c.tc : Thread Cert.Reference3Ideal.nD Cert.Reference3Ideal.τ).loc Cert.Reference3Ideal.main_v114) = v9 c
          ∧ r.2.mem ((c.tc : Thread Cert.Reference3Ideal.nD Cert.Reference3Ideal.τ).loc Cert.Reference3Ideal.main_v95) = v10 c
          ∧ r.2.mem ((c.tc : Thread Cert.Reference3Ideal.nD Cert.Reference3Ideal.τ).loc Cert.Reference3Ideal.main_v101) = v11 c
          ∧ r.2.mem ((c.tc : Thread Cert.Reference3Ideal.nD Cert.Reference3Ideal.τ).loc Cert.Reference3Ideal.main_v7) = v12 c
          ∧ r.2.mem ((c.tc : Thread Cert.Reference3Ideal.nD Cert.Reference3Ideal.τ).loc Cert.Reference3Ideal.main_v138) = v13 c
          ∧ r.2.mem ((c.tc : Thread Cert.Reference3Ideal.nD Cert.Reference3Ideal.τ).loc Cert.Reference3Ideal.main_v119) = v14 c
          ∧ r.2.mem ((c.tc : Thread Cert.Reference3Ideal.nD Cert.Reference3Ideal.τ).loc Cert.Reference3Ideal.main_v125) = v15 c
          ∧ r.2.mem ((c.tc : Thread Cert.Reference3Ideal.nD Cert.Reference3Ideal.τ).loc Cert.Reference3Ideal.main_v11) = v16 c
          ∧ r.2.mem ((c.tc : Thread Cert.Reference3Ideal.nD Cert.Reference3Ideal.τ).loc Cert.Reference3Ideal.main_v162) = v17 c
          ∧ r.2.mem ((c.tc : Thread Cert.Reference3Ideal.nD Cert.Reference3Ideal.τ).loc Cert.Reference3Ideal.main_v143) = v18 c
          ∧ r.2.mem ((c.tc : Thread Cert.Reference3Ideal.nD Cert.Reference3Ideal.τ).loc Cert.Reference3Ideal.main_v149) = v19 c
          ∧ r.2.mem ((c.tc : Thread Cert.Reference3Ideal.nD Cert.Reference3Ideal.τ).loc Cert.Reference3Ideal.main_v13) = v20 c
          ∧ r.2.mem ((c.tc : Thread Cert.Reference3Ideal.nD Cert.Reference3Ideal.τ).loc Cert.Reference3Ideal.main_v186) = v21 c
          ∧ r.2.mem ((c.tc : Thread Cert.Reference3Ideal.nD Cert.Reference3Ideal.τ).loc Cert.Reference3Ideal.main_v167) = v22 c
          ∧ r.2.mem ((c.tc : Thread Cert.Reference3Ideal.nD Cert.Reference3Ideal.τ).loc Cert.Reference3Ideal.main_v173) = v23 c
          ∧ r.2.mem ((c.tc : Thread Cert.Reference3Ideal.nD Cert.Reference3Ideal.τ).loc Cert.Reference3Ideal.main_v15) = v24 c
          ∧ r.2.mem ((c.tc : Thread Cert.Reference3Ideal.nD Cert.Reference3Ideal.τ).loc Cert.Reference3Ideal.main_v210) = v25 c
          ∧ r.2.mem ((c.tc : Thread Cert.Reference3Ideal.nD Cert.Reference3Ideal.τ).loc Cert.Reference3Ideal.main_v191) = v26 c
          ∧ r.2.mem ((c.tc : Thread Cert.Reference3Ideal.nD Cert.Reference3Ideal.τ).loc Cert.Reference3Ideal.main_v197) = v27 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19)
          ∧ r.2.mem ((c.tc : Thread Cert.Reference3Ideal.nD Cert.Reference3Ideal.τ).loc Cert.Reference3Ideal.main_arg20) = m' ((c.tc : Thread Cert.Reference3Ideal.nD Cert.Reference3Ideal.τ).loc Cert.Reference3Ideal.main_arg20)
          ∧ r.2.mem ((c.tc : Thread Cert.Reference3Ideal.nD Cert.Reference3Ideal.τ).loc Cert.Reference3Ideal.main_arg21) = m' ((c.tc : Thread Cert.Reference3Ideal.nD Cert.Reference3Ideal.τ).loc Cert.Reference3Ideal.main_arg21)
          ∧ r.2.mem ((c.tc : Thread Cert.Reference3Ideal.nD Cert.Reference3Ideal.τ).loc Cert.Reference3Ideal.main_arg22) = m' ((c.tc : Thread Cert.Reference3Ideal.nD Cert.Reference3Ideal.τ).loc Cert.Reference3Ideal.main_arg22)
          ∧ r.2.mem ((c.tc : Thread Cert.Reference3Ideal.nD Cert.Reference3Ideal.τ).loc Cert.Reference3Ideal.main_arg23) = m' ((c.tc : Thread Cert.Reference3Ideal.nD Cert.Reference3Ideal.τ).loc Cert.Reference3Ideal.main_arg23)
          ∧ r.2.mem ((c.tc : Thread Cert.Reference3Ideal.nD Cert.Reference3Ideal.τ).loc Cert.Reference3Ideal.main_arg24) = m' ((c.tc : Thread Cert.Reference3Ideal.nD Cert.Reference3Ideal.τ).loc Cert.Reference3Ideal.main_arg24)
          ∧ r.2.mem ((c.tc : Thread Cert.Reference3Ideal.nD Cert.Reference3Ideal.τ).loc Cert.Reference3Ideal.main_arg25) = m' ((c.tc : Thread Cert.Reference3Ideal.nD Cert.Reference3Ideal.τ).loc Cert.Reference3Ideal.main_arg25)
          ∧ r.2.mem ((c.tc : Thread Cert.Reference3Ideal.nD Cert.Reference3Ideal.τ).loc Cert.Reference3Ideal.main_arg26) = m' ((c.tc : Thread Cert.Reference3Ideal.nD Cert.Reference3Ideal.τ).loc Cert.Reference3Ideal.main_arg26)
          ∧ r.2.mem ((c.tc : Thread Cert.Reference3Ideal.nD Cert.Reference3Ideal.τ).loc Cert.Reference3Ideal.main_arg27) = m' ((c.tc : Thread Cert.Reference3Ideal.nD Cert.Reference3Ideal.τ).loc Cert.Reference3Ideal.main_arg27)
          ∧ r.2.mem ((c.tc : Thread Cert.Reference3Ideal.nD Cert.Reference3Ideal.τ).loc Cert.Reference3Ideal.main_arg28) = m' ((c.tc : Thread Cert.Reference3Ideal.nD Cert.Reference3Ideal.τ).loc Cert.Reference3Ideal.main_arg28))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
-- ==== Pre_finite.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S2x2048x1024 : S_.BroadcastsInDim S2x2048x1024 (![] : Fin 0 → Fin S2x2048x1024.rank)
  bcast_S_S2x1024 : S_.BroadcastsInDim S2x1024 (![] : Fin 0 → Fin S2x1024.rank)
  bcast_S_S1x1024 : S_.BroadcastsInDim S1x1024 (![] : Fin 0 → Fin S1x1024.rank)
  bcast_S_S1x1024x5632 : S_.BroadcastsInDim S1x1024x5632 (![] : Fin 0 → Fin S1x1024x5632.rank)
  bcast_S_S1x2816x1024 : S_.BroadcastsInDim S1x2816x1024 (![] : Fin 0 → Fin S1x2816x1024.rank)

variable [Facts]

def fn_part1 {F : FTy → Type} [FloatOps F] (main_arg6 : FVec F S1x1024 .f32) (main_arg7 : FVec F S1x1024x5632 .f32) (main_arg8 : FVec F S1x2816x1024 .f32) (main_v2 : IVec S2x2048x1024 1) (main_v5 : IVec S2x2048x1024 1) (main_v8 : IVec S2x1024 1) (main_v11 : IVec S2x1024 1) (main_v14 : IVec S2x1024 1) (main_v17 : IVec S1x1024 1) : IVec S2x2048x1024 1 × IVec S2x2048x1024 1 × IVec S2x1024 1 × IVec S2x1024 1 × IVec S2x1024 1 × IVec S1x1024 1 × IVec S1x1024 1 × IVec S1x1024x5632 1 × IVec S1x2816x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024x5632 .f32 := Host.absf main_arg7
  let main_cst_6 : FVec F S_ .f32 := constant S_ .f32 0x7F800000#32
  let main_v22 : FVec F S1x1024x5632 .f32 := broadcastInDim S1x1024x5632 ![] bcast_S_S1x1024x5632 main_cst_6
  let main_v23 : IVec S1x1024x5632 1 := cmpf .olt main_v21 main_v22
  let main_v24 : FVec F S1x2816x1024 .f32 := Host.absf main_arg8
  let main_cst_7 : FVec F S_ .f32 := constant S_ .f32 0x7F800000#32
  let main_v25 : FVec F S1x2816x1024 .f32 := broadcastInDim S1x2816x1024 ![] bcast_S_S1x2816x1024 main_cst_7
  let main_v26 : IVec S1x2816x1024 1 := cmpf .olt main_v24 main_v25
  (main_v2, main_v5, main_v8, main_v11, main_v14, main_v17, main_v20, main_v23, main_v26)

def fn {F : FTy → Type} [FloatOps F] (main_arg0 : FVec F S2x2048x1024 .f32) (main_arg1 : FVec F S2x2048x1024 .f32) (main_arg2 : FVec F S2x1024 .f32) (main_arg3 : FVec F S2x1024 .f32) (main_arg4 : FVec F S2x1024 .f32) (main_arg5 : FVec F S1x1024 .f32) (main_arg6 : FVec F S1x1024 .f32) (main_arg7 : FVec F S1x1024x5632 .f32) (main_arg8 : FVec F S1x2816x1024 .f32) : IVec S2x2048x1024 1 × IVec S2x2048x1024 1 × IVec S2x1024 1 × IVec S2x1024 1 × IVec S2x1024 1 × IVec S1x1024 1 × IVec S1x1024 1 × IVec S1x1024x5632 1 × IVec S1x2816x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S2x1024 .f32 := Host.absf main_arg2
  let main_cst_1 : FVec F S_ .f32 := constant S_ .f32 0x7F800000#32
  let main_v7 : FVec F S2x1024 .f32 := broadcastInDim S2x1024 ![] bcast_S_S2x1024 main_cst_1
  let main_v8 : IVec S2x1024 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S2x1024 .f32 := Host.absf main_arg4
  let main_cst_3 : FVec F S_ .f32 := constant S_ .f32 0x7F800000#32
  let main_v13 : FVec F S2x1024 .f32 := broadcastInDim S2x1024 ![] bcast_S_S2x1024 main_cst_3
  let main_v14 : IVec S2x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_v2 main_v5 main_v8 main_v11 main_v14 main_v17
-- ==== Kernel.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S2x1x1024 : Shape := ⟨3, ![2, 1, 1024]⟩
abbrev S_ : Shape := ⟨0, ![]⟩
abbrev S2x5x1024 : Shape := ⟨3, ![2, 5, 1024]⟩
abbrev S2x8x1024 : Shape := ⟨3, ![2, 8, 1024]⟩
abbrev S8x1024 : Shape := ⟨2, ![8, 1024]⟩
abbrev S1024x5632 : Shape := ⟨2, ![1024, 5632]⟩
abbrev S5632x1024 : Shape := ⟨2, ![5632, 1024]⟩
abbrev S8x704x1024 : Shape := ⟨3, ![8, 704, 1024]⟩
abbrev S8x704x256 : Shape := ⟨3, ![8, 704, 256]⟩
abbrev S8x704x768 : Shape := ⟨3, ![8, 704, 768]⟩
abbrev S2816x1024 : Shape := ⟨2, ![2816, 1024]⟩
abbrev S4x704x1024 : Shape := ⟨3, ![4, 704, 1024]⟩
abbrev S4096x1024 : Shape := ⟨2, ![4096, 1024]⟩
abbrev S8x4096x704 : Shape := ⟨3, ![8, 4096, 704]⟩
abbrev S4x4096x704 : Shape := ⟨3, ![4, 4096, 704]⟩
abbrev S256x1024 : Shape := ⟨2, ![256, 1024]⟩
abbrev S1x8x1024 : Shape := ⟨3, ![1, 8, 1024]⟩
abbrev S8x256x704 : Shape := ⟨3, ![8, 256, 704]⟩
abbrev S4x256x704 : Shape := ⟨3, ![4, 256, 704]⟩
abbrev S1x1x1024 : Shape := ⟨3, ![1, 1, 1024]⟩
abbrev S256 : Shape := ⟨1, ![256]⟩
abbrev S256x1 : Shape := ⟨2, ![256, 1]⟩
abbrev S256x256 : Shape := ⟨2, ![256, 256]⟩
abbrev S256x768 : Shape := ⟨2, ![256, 768]⟩
abbrev S1x704x256 : Shape := ⟨3, ![1, 704, 256]⟩
abbrev S704x256 : Shape := ⟨2, ![704, 256]⟩
abbrev S256x704 : Shape := ⟨2, ![256, 704]⟩
abbrev S1x704x768 : Shape := ⟨3, ![1, 704, 768]⟩
abbrev S704x768 : Shape := ⟨2, ![704, 768]⟩
abbrev S1x256x704 : Shape := ⟨3, ![1, 256, 704]⟩
abbrev S1x704x1024 : Shape := ⟨3, ![1, 704, 1024]⟩
abbrev S704x1024 : Shape := ⟨2, ![704, 1024]⟩
abbrev S1024 : Shape := ⟨1, ![1024]⟩
abbrev S1 : Shape := ⟨1, ![1]⟩
abbrev S1x1 : Shape := ⟨2, ![1, 1]⟩

abbrev nBuf : Space → Nat
  | .hbm => 37
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S_, .f32⟩
  | .hbm, ⟨13, _⟩ => ⟨S2x5x1024, .f32⟩
  | .hbm, ⟨14, _⟩ => ⟨S2x8x1024, .f32⟩
  | .hbm, ⟨15, _⟩ => ⟨S_, .f32⟩
  | .hbm, ⟨16, _⟩ => ⟨S1x1024, .f32⟩
  | .hbm, ⟨17, _⟩ => ⟨S8x1024, .f32⟩
  | .hbm, ⟨18, _⟩ => ⟨S1024x5632, .f32⟩
  | .hbm, ⟨19, _⟩ => ⟨S5632x1024, .f32⟩
  | .hbm, ⟨20, _⟩ => ⟨S5632x1024, .bf16⟩
  | .hbm, ⟨21, _⟩ => ⟨S8x704x1024, .bf16⟩
  | .hbm, ⟨22, _⟩ => ⟨S8x704x256, .bf16⟩
  | .hbm, ⟨23, _⟩ => ⟨S8x704x768, .bf16⟩
  | .hbm, ⟨24, _⟩ => ⟨S2816x1024, .f32⟩
  | .hbm, ⟨25, _⟩ => ⟨S2816x1024, .bf16⟩
  | .hbm, ⟨26, _⟩ => ⟨S4x704x1024, .bf16⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S8x4096x704, .bf16⟩
  | .hbm, ⟨31, _⟩ => ⟨S4x4096x704, .bf16⟩
  | .hbm, ⟨32, _⟩ => ⟨S4096x1024, .bf16⟩
  | .hbm, ⟨33, _⟩ => ⟨S4096x1024, .bf16⟩
  | .hbm, ⟨34, _⟩ => ⟨S2x8x1024, .f32⟩
  | .hbm, ⟨35, _⟩ => ⟨S8x1024, .f32⟩
  | .hbm, ⟨36, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S8x1024, .f32⟩
  | .local _ .vmem, ⟨7, _⟩ => ⟨S8x704x256, .bf16⟩
  | .local _ .vmem, ⟨8, _⟩ => ⟨S8x704x768, .bf16⟩
  | .local _ .vmem, ⟨9, _⟩ => ⟨S4x704x1024, .bf16⟩
  | .local _ .vmem, ⟨10, _⟩ => ⟨S256x1024, .f32⟩
  | .local _ .vmem, ⟨11, _⟩ => ⟨S256x1024, .f32⟩
  | .local _ .vmem, ⟨12, _⟩ => ⟨S8x256x704, .bf16⟩
  | .local _ .vmem, ⟨13, _⟩ => ⟨S8x256x704, .bf16⟩
  | .local _ .vmem, ⟨14, _⟩ => ⟨S4x256x704, .bf16⟩
  | .local _ .vmem, ⟨15, _⟩ => ⟨S4x256x704, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S1x8x1024, .f32⟩
  | .local _ .vmem, ⟨21, _⟩ => ⟨S1x8x1024, .f32⟩
  | .local _ .vmem, ⟨22, _⟩ => ⟨S8x1024, .f32⟩
  | .local _ .vmem, ⟨23, _⟩ => ⟨S8x1024, .f32⟩
  | .local _ .vmem, ⟨24, _⟩ => ⟨S8x256x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev main_v18_5 : Ref sig .tc := ⟨.hbm, 34, rfl⟩
abbrev main_v18_6 : Ref sig .tc := ⟨.hbm, 35, rfl⟩
abbrev main_v18_7 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x704x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x704x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S2x2048x5632 : Shape := ⟨3, ![2, 2048, 5632]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024x5632 : Shape := ⟨2, ![1024, 5632]⟩
abbrev S2x2048x2816 : Shape := ⟨3, ![2, 2048, 2816]⟩
abbrev S2816x1024 : Shape := ⟨2, ![2816, 1024]⟩
abbrev S2x3x1024 : Shape := ⟨3, ![2, 3, 1024]⟩
abbrev S4096x1024 : Shape := ⟨2, ![4096, 1024]⟩
abbrev S4096x8x704 : Shape := ⟨3, ![4096, 8, 704]⟩
abbrev S8x4096x704 : Shape := ⟨3, ![8, 4096, 704]⟩
abbrev S4096x4x704 : Shape := ⟨3, ![4096, 4, 704]⟩
abbrev S4x4096x704 : Shape := ⟨3, ![4, 4096, 704]⟩
abbrev S2x8x1024 : Shape := ⟨3, ![2, 8, 1024]⟩
abbrev S8x1024 : Shape := ⟨2, ![8, 1024]⟩

abbrev nBuf : Space → Nat
  | .hbm => 225
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x1024, .f32⟩
  | 3 => ⟨S2x1024, .f32⟩
  | 4 => ⟨S2x1024, .f32⟩
  | 5 => ⟨S1x1024, .f32⟩
  | 6 => ⟨S1x1024, .f32⟩
  | 7 => ⟨S1x1024x5632, .f32⟩
  | 8 => ⟨S1x2816x1024, .f32⟩
  | 9 => ⟨S_, .f32⟩
  | 10 => ⟨S2x2048x5632, .f32⟩
  | 11 => ⟨S_, .f32⟩
  | 12 => ⟨S2x2048x1024, .f32⟩
  | 13 => ⟨S1024, .f32⟩
  | 14 => ⟨S2x2048x1024, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1024, .f32⟩
  | 30 => ⟨S2x2048x1024, .f32⟩
  | 31 => ⟨S1x1x1024, .f32⟩
  | 32 => ⟨S2x2048x1024, .f32⟩
  | 33 => ⟨S2x2048x1024, .f32⟩
  | 34 => ⟨S2x1x1024, .f32⟩
  | 35 => ⟨S_, .f32⟩
  | 36 => ⟨S2x1x1024, .f32⟩
  | 37 => ⟨S2x1x1024, .f32⟩
  | 38 => ⟨S2x2048x1024, .f32⟩
  | 39 => ⟨S2x2048x1024, .f32⟩
  | 40 => ⟨S2x1x1024, .f32⟩
  | 41 => ⟨S2x2048x1024, .f32⟩
  | 42 => ⟨S2x2048x1024, .f32⟩
  | 43 => ⟨S1024x5632, .f32⟩
  | 44 => ⟨S2x2048x5632, .f32⟩
  | 45 => ⟨S2x2048x5632, .f32⟩
  | 46 => ⟨S2x2048x2816, .f32⟩
  | 47 => ⟨S2x2048x2816, .f32⟩
  | 48 => ⟨S2x2048x2816, .f32⟩
  | 49 => ⟨S2x2048x2816, .f32⟩
  | 50 => ⟨S_, .f32⟩
  | 51 => ⟨S2x2048x2816, .f32⟩
  | 52 => ⟨S2x2048x2816, .f32⟩
  | 53 => ⟨S_, .f32⟩
  | 54 => ⟨S2x2048x2816, .f32⟩
  | 55 => ⟨S2x2048x2816, .f32⟩
  | 56 => ⟨S_, .f32⟩
  | 57 => ⟨S2x2048x2816, .f32⟩
  | 58 => ⟨S2x2048x2816, .f32⟩
  | 59 => ⟨S2x2048x2816, .f32⟩
  | 60 => ⟨S2x2048x2816, .f32⟩
  | 61 => ⟨S2x2048x2816, .f32⟩
  | 62 => ⟨S2x1x1024, .f32⟩
  | 63 => ⟨S_, .f32⟩
  | 64 => ⟨S2x1x1024, .f32⟩
  | 65 => ⟨S2x1x1024, .f32⟩
  | 66 => ⟨S2816x1024, .f32⟩
  | 67 => ⟨S2x2048x1024, .f32⟩
  | 68 => ⟨S2x2048x1024, .f32⟩
  | 69 => ⟨S1024, .f32⟩
  | 70 => ⟨S2x2048x1024, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048x1, .f32⟩
  | 79 => ⟨S2x2048x1, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S_, .f32⟩
  | 96 => ⟨S2x2048x1024, .f32⟩
  | 97 => ⟨S2x2048x1024, .f32⟩
  | 98 => ⟨S_, .f32⟩
  | 99 => ⟨S2x2048, .f32⟩
  | 100 => ⟨S_, .f32⟩
  | 101 => ⟨S2x2048, .f32⟩
  | 102 => ⟨S2x2048, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2x2048, .f32⟩
  | 111 => ⟨S_, .f32⟩
  | 112 => ⟨S2x2048, .f32⟩
  | 113 => ⟨S2x2048, .f32⟩
  | 114 => ⟨S2x2048x1024, .f32⟩
  | 115 => ⟨S2x2048x1024, .f32⟩
  | 116 => ⟨S2x2048x1024, .f32⟩
  | 117 => ⟨S2x2048x1024, .f32⟩
  | 118 => ⟨S2x2048x1024, .f32⟩
  | 119 => ⟨S_, .f32⟩
  | 120 => ⟨S2x1024, .f32⟩
  | 121 => ⟨S2x1x1024, .f32⟩
  | 122 => ⟨S2x2048x1024, .f32⟩
  | 123 => ⟨S_, .f32⟩
  | 124 => ⟨S1024, .f32⟩
  | 125 => ⟨S1x1x1024, .f32⟩
  | 126 => ⟨S2x2048x1024, .f32⟩
  | 127 => ⟨S2x2048x1024, .f32⟩
  | _ => ⟨S2x2048x1024, .f32⟩

abbrev hbmTy0_1 (i : Nat) : BufTy := match i % 128 with
  | 0 => ⟨S_, .f32⟩
  | 1 => ⟨S1024, .f32⟩
  | 2 => ⟨S2x2048x1024, .f32⟩
  | 3 => ⟨S_, .f32⟩
  | 4 => ⟨S2x2048, .f32⟩
  | 5 => ⟨S2x2048x1, .f32⟩
  | 6 => ⟨S2x2048x1024, .f32⟩
  | 7 => ⟨S2x2048x1024, .f32⟩
  | 8 => ⟨S2x2048x1, .f32⟩
  | 9 => ⟨S_, .f32⟩
  | 10 => ⟨S2x2048x1, .f32⟩
  | 11 => ⟨S2x2048x1, .f32⟩
  | 12 => ⟨S_, .f32⟩
  | 13 => ⟨S2x2048, .f32⟩
  | 14 => ⟨S2x2048x1024, .f32⟩
  | 15 => ⟨S2x2048x1024, .f32⟩
  | 16 => ⟨S2x2048x1024, .f32⟩
  | 17 => ⟨S2x2048x1024, .f32⟩
  | 18 => ⟨S2x2048x1024, .f32⟩
  | 19 => ⟨S1x1024, .f32⟩
  | 20 => ⟨S2x2048x2816, .f32⟩
  | 21 => ⟨S_, .f32⟩
  | 22 => ⟨S2x1x1024, .f32⟩
  | 23 => ⟨S2x1x1024, .f32⟩
  | 24 => ⟨S_, .f32⟩
  | 25 => ⟨S2x1024, .f32⟩
  | 26 => ⟨S2x2048x2816, .f32⟩
  | 27 => ⟨S2x2048x2816, .f32⟩
  | 28 => ⟨S2x2048x2816, .f32⟩
  | 29 => ⟨S2x2048x2816, .f32⟩
  | 30 => ⟨S2x2048x2816, .f32⟩
  | 31 => ⟨S2x2048x2816, .f32⟩
  | 32 => ⟨S2x2048x5632, .f32⟩
  | 33 => ⟨S2x2048x1024, .f32⟩
  | 34 => ⟨S_, .f32⟩
  | 35 => ⟨S2x1024, .f32⟩
  | 36 => ⟨S2x1x1024, .f32⟩
  | 37 => ⟨S_, .f32⟩
  | 38 => ⟨S2x1024, .f32⟩
  | 39 => ⟨S2x2048x1024, .f32⟩
  | 40 => ⟨S_, .f32⟩
  | 41 => ⟨S2x1024, .f32⟩
  | 42 => ⟨S2x1x1024, .f32⟩
  | 43 => ⟨S2x2048x1024, .f32⟩
  | 44 => ⟨S2x2048x1024, .f32⟩
  | 45 => ⟨S_, .f32⟩
  | 46 => ⟨S2x1024, .f32⟩
  | 47 => ⟨S2x2048x1024, .f32⟩
  | 48 => ⟨S_, .f32⟩
  | 49 => ⟨S1024, .f32⟩
  | 50 => ⟨S1x1x1024, .f32⟩
  | 51 => ⟨S2x2048x1024, .f32⟩
  | 52 => ⟨S2x2048x1024, .f32⟩
  | 53 => ⟨S_, .f32⟩
  | 54 => ⟨S1024, .f32⟩
  | 55 => ⟨S2x2048x1024, .f32⟩
  | 56 => ⟨S_, .f32⟩
  | 57 => ⟨S2x2048, .f32⟩
  | 58 => ⟨S2x2048x1, .f32⟩
  | 59 => ⟨S2x2048x1024, .f32⟩
  | 60 => ⟨S2x2048x1024, .f32⟩
  | 61 => ⟨S2x2048x1024, .f32⟩
  | 62 => ⟨S2x2048x1, .f32⟩
  | 63 => ⟨S_, .f32⟩
  | 64 => ⟨S2x2048x1, .f32⟩
  | 65 => ⟨S2x2048x1, .f32⟩
  | 66 => ⟨S_, .f32⟩
  | 67 => ⟨S2x2048, .f32⟩
  | 68 => ⟨S2x2048x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S1x1024, .f32⟩
  | 74 => ⟨S2x1x1024, .f32⟩
  | 75 => ⟨S2x1x1024, .f32⟩
  | 76 => ⟨S2x1x1024, .f32⟩
  | 77 => ⟨S2x3x1024, .f32⟩
  | 78 => ⟨S4096x1024, .f32⟩
  | 79 => ⟨S4096x8x704, .f32⟩
  | 80 => ⟨S8x4096x704, .f32⟩
  | 81 => ⟨S8x4096x704, .bf16⟩
  | 82 => ⟨S4096x4x704, .f32⟩
  | 83 => ⟨S4x4096x704, .f32⟩
  | 84 => ⟨S4x4096x704, .bf16⟩
  | 85 => ⟨S4096x1024, .f32⟩
  | 86 => ⟨S4096x1024, .bf16⟩
  | 87 => ⟨S4096x1024, .f32⟩
  | 88 => ⟨S4096x1024, .bf16⟩
  | 89 => ⟨S_, .i32⟩
  | 90 => ⟨S_, .f32⟩
  | 91 => ⟨S2x8x1024, .f32⟩
  | 92 => ⟨S2x1024, .f32⟩
  | 93 => ⟨S_, .i32⟩
  | 94 => ⟨S_, .f32⟩
  | 95 => ⟨S8x1024, .f32⟩
  | 96 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v32_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v32_1 : Ref sig .tc := ⟨.hbm, 59, rfl⟩
abbrev main_v32_0 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_cst_16 : Ref sig .tc := ⟨.hbm, 107, rfl⟩
abbrev main_cst_17 : Ref sig .tc := ⟨.hbm, 108, rfl⟩
abbrev main_v69 : Ref sig .tc := ⟨.hbm, 109, rfl⟩
abbrev main_v70 : Ref sig .tc := ⟨.hbm, 110, rfl⟩
abbrev main_cst_18 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_19 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_21 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_23 : Ref sig .tc := ⟨.hbm, 137, rfl⟩
abbrev main_v92 : Ref sig .tc := ⟨.hbm, 138, rfl⟩
abbrev main_v93 : Ref sig .tc := ⟨.hbm, 139, rfl⟩
abbrev main_cst_24 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_25 : Ref sig .tc := ⟨.hbm, 149, rfl⟩
abbrev main_v102 : Ref sig .tc := ⟨.hbm, 150, rfl⟩
abbrev main_v103 : Ref sig .tc := ⟨.hbm, 151, rfl⟩
abbrev main_cst_26 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_27 : Ref sig .tc := ⟨.hbm, 162, rfl⟩
abbrev main_v110 : Ref sig .tc := ⟨.hbm, 163, rfl⟩
abbrev main_v111 : Ref sig .tc := ⟨.hbm, 164, rfl⟩
abbrev main_cst_28 : Ref sig .tc := ⟨.hbm, 165, rfl⟩
abbrev main_v112 : Ref sig .tc := ⟨.hbm, 166, rfl⟩
abbrev main_v113 : Ref sig .tc := ⟨.hbm, 167, rfl⟩
abbrev main_cst_29 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_cst_30 : Ref sig .tc := ⟨.hbm, 173, rfl⟩
abbrev main_v118 : Ref sig .tc := ⟨.hbm, 174, rfl⟩
abbrev main_v119 : Ref sig .tc := ⟨.hbm, 175, rfl⟩
abbrev main_cst_31 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_cst_32 : Ref sig .tc := ⟨.hbm, 181, rfl⟩
abbrev main_v124 : Ref sig .tc := ⟨.hbm, 182, rfl⟩
abbrev main_v125 : Ref sig .tc := ⟨.hbm, 183, rfl⟩
abbrev main_cst_33 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_34 : Ref sig .tc := ⟨.hbm, 191, rfl⟩
abbrev main_v132 : Ref sig .tc := ⟨.hbm, 192, rfl⟩
abbrev main_v133 : Ref sig .tc := ⟨.hbm, 193, rfl⟩
abbrev main_cst_35 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_c : Ref sig .tc := ⟨.hbm, 217, rfl⟩
abbrev main_call2_v0 : Ref sig .tc := ⟨.hbm, 218, rfl⟩
abbrev main_v156 : Ref sig .tc := ⟨.hbm, 219, rfl⟩
abbrev main_v157 : Ref sig .tc := ⟨.hbm, 220, rfl⟩
abbrev main_c_36 : Ref sig .tc := ⟨.hbm, 221, rfl⟩
abbrev main_call3_v0 : Ref sig .tc := ⟨.hbm, 222, rfl⟩
abbrev main_v158 : Ref sig .tc := ⟨.hbm, 223, rfl⟩
abbrev main_v159 : Ref sig .tc := ⟨.hbm, 224, rfl⟩

abbrev nD : Nat := 1
abbrev τ : Topo := Topo.v7x

variable {F : FTy → Type} [FloatOps F]
-- ==== Kernel2.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S2x1x1024 : Shape := ⟨3, ![2, 1, 1024]⟩
abbrev S_ : Shape := ⟨0, ![]⟩
abbrev S2x5x1024 : Shape := ⟨3, ![2, 5, 1024]⟩
abbrev S2x8x1024 : Shape := ⟨3, ![2, 8, 1024]⟩
abbrev S8x1024 : Shape := ⟨2, ![8, 1024]⟩
abbrev S1024x5632 : Shape := ⟨2, ![1024, 5632]⟩
abbrev S5632x1024 : Shape := ⟨2, ![5632, 1024]⟩
abbrev S8x704x1024 : Shape := ⟨3, ![8, 704, 1024]⟩
abbrev S2816x1024 : Shape := ⟨2, ![2816, 1024]⟩
abbrev S4x704x1024 : Shape := ⟨3, ![4, 704, 1024]⟩
abbrev S4096x1024 : Shape := ⟨2, ![4096, 1024]⟩
abbrev S8x4096x704 : Shape := ⟨3, ![8, 4096, 704]⟩
abbrev S256x1024 : Shape := ⟨2, ![256, 1024]⟩
abbrev S1x8x1024 : Shape := ⟨3, ![1, 8, 1024]⟩
abbrev S8x256x704 : Shape := ⟨3, ![8, 256, 704]⟩
abbrev S1x1x1024 : Shape := ⟨3, ![1, 1, 1024]⟩
abbrev S256 : Shape := ⟨1, ![256]⟩
abbrev S256x1 : Shape := ⟨2, ![256, 1]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩
abbrev S4x4096x704 : Shape := ⟨3, ![4, 4096, 704]⟩
abbrev S4x256x704 : Shape := ⟨3, ![4, 256, 704]⟩
abbrev S1024 : Shape := ⟨1, ![1024]⟩

abbrev nBuf : Space → Nat
  | .hbm => 37
  | .vmem => 39
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S_, .f32⟩
  | .hbm, ⟨13, _⟩ => ⟨S2x5x1024, .f32⟩
  | .hbm, ⟨14, _⟩ => ⟨S2x8x1024, .f32⟩
  | .hbm, ⟨15, _⟩ => ⟨S_, .f32⟩
  | .hbm, ⟨16, _⟩ => ⟨S1x1024, .f32⟩
  | .hbm, ⟨17, _⟩ => ⟨S8x1024, .f32⟩
  | .hbm, ⟨18, _⟩ => ⟨S1024x5632, .f32⟩
  | .hbm, ⟨19, _⟩ => ⟨S5632x1024, .f32⟩
  | .hbm, ⟨20, _⟩ => ⟨S5632x1024, .bf16⟩
  | .hbm, ⟨21, _⟩ => ⟨S8x704x1024, .bf16⟩
  | .hbm, ⟨22, _⟩ => ⟨S2816x1024, .f32⟩
  | .hbm, ⟨23, _⟩ => ⟨S2816x1024, .bf16⟩
  | .hbm, ⟨24, _⟩ => ⟨S4x704x1024, .bf16⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S8x4096x704, .bf16⟩
  | .hbm, ⟨29, _⟩ => ⟨S4096x1024, .f32⟩
  | .hbm, ⟨30, _⟩ => ⟨S4096x1024, .f32⟩
  | .hbm, ⟨31, _⟩ => ⟨S8x4096x704, .bf16⟩
  | .hbm, ⟨32, _⟩ => ⟨S4x4096x704, .bf16⟩
  | .hbm, ⟨33, _⟩ => ⟨S4096x1024, .bf16⟩
  | .hbm, ⟨34, _⟩ => ⟨S4096x1024, .bf16⟩
  | .hbm, ⟨35, _⟩ => ⟨S2x8x1024, .f32⟩
  | .hbm, ⟨36, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S8x704x1024, .bf16⟩
  | .local _ .vmem, ⟨6, _⟩ => ⟨S4x704x1024, .bf16⟩
  | .local _ .vmem, ⟨7, _⟩ => ⟨S256x1024, .f32⟩
  | .local _ .vmem, ⟨8, _⟩ => ⟨S256x1024, .f32⟩
  | .local _ .vmem, ⟨9, _⟩ => ⟨S8x256x704, .bf16⟩
  | .local _ .vmem, ⟨10, _⟩ => ⟨S8x256x704, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S8x256x704, .bf16⟩
  | .local _ .vmem, ⟨20, _⟩ => ⟨S8x256x704, .bf16⟩
  | .local _ .vmem, ⟨21, _⟩ => ⟨S1x8x1024, .f32⟩
  | .local _ .vmem, ⟨22, _⟩ => ⟨S1x8x1024, .f32⟩
  | .local _ .vmem, ⟨23, _⟩ => ⟨S8x1024, .f32⟩
  | .local _ .vmem, ⟨24, _⟩ => ⟨S8x704x1024, .bf16⟩
  | .local _ .vmem, ⟨25, _⟩ => ⟨S4x704x1024, .bf16⟩
  | .local _ .vmem, ⟨26, _⟩ => ⟨S256x1024, .f32⟩
  | .local _ .vmem, ⟨27, _⟩ => ⟨S256x1024, .f32⟩
  | .local _ .vmem, ⟨28, _⟩ => ⟨S8x256x704, .bf16⟩
  | .local _ .vmem, ⟨29, _⟩ => ⟨S8x256x704, .bf16⟩
  | .local _ .vmem, ⟨30, _⟩ => ⟨S4x256x704, .bf16⟩
  | .local _ .vmem, ⟨31, _⟩ => ⟨S4x256x704, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S1x8x1024, .f32⟩
  | .local _ .vmem, ⟨37, _⟩ => ⟨S1x8x1024, .f32⟩
  | .local _ .vmem, ⟨38, _⟩ => ⟨S8x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_v17_5 : Ref sig .tc := ⟨.hbm, 35, rfl⟩
abbrev main_v17_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37
abbrev cc1_sem14_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256x704 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x704x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x704x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x256x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x256x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x8x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S8x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== Reference2Ideal.lean ====
abbrev S2x2048x1024 : Shape := ⟨3, ![2, 2048, 1024]⟩
abbrev S2x1024 : Shape := ⟨2, ![2, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩
abbrev S2x2048x5632 : Shape := ⟨3, ![2, 2048, 5632]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S1024x5632 : Shape := ⟨2, ![1024, 5632]⟩
abbrev S2x2048x2816 : Shape := ⟨3, ![2, 2048, 2816]⟩
abbrev S2816x1024 : Shape := ⟨2, ![2816, 1024]⟩
abbrev S2x3x1024 : Shape := ⟨3, ![2, 3, 1024]⟩
abbrev S4096x1024 : Shape := ⟨2, ![4096, 1024]⟩
abbrev S4096x8x704 : Shape := ⟨3, ![4096, 8, 704]⟩
abbrev S8x4096x704 : Shape := ⟨3, ![8, 4096, 704]⟩
abbrev S4096x4x704 : Shape := ⟨3, ![4096, 4, 704]⟩
abbrev S4x4096x704 : Shape := ⟨3, ![4, 4096, 704]⟩
abbrev S2x8x1024 : Shape := ⟨3, ![2, 8, 1024]⟩
abbrev S8x1024 : Shape := ⟨2, ![8, 1024]⟩

abbrev nBuf : Space → Nat
  | .hbm => 203
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S2x1024, .f32⟩
  | 3 => ⟨S2x1024, .f32⟩
  | 4 => ⟨S2x1024, .f32⟩
  | 5 => ⟨S1x1024, .f32⟩
  | 6 => ⟨S1x1024, .f32⟩
  | 7 => ⟨S1x1024x5632, .f32⟩
  | 8 => ⟨S1x2816x1024, .f32⟩
  | 9 => ⟨S_, .f32⟩
  | 10 => ⟨S2x2048x5632, .f32⟩
  | 11 => ⟨S_, .f32⟩
  | 12 => ⟨S2x2048x1024, .f32⟩
  | 13 => ⟨S1024, .f32⟩
  | 14 => ⟨S2x2048x1024, .f32⟩
  | 15 => ⟨S_, .f32⟩
  | 16 => ⟨S2x2048, .f32⟩
  | 17 => ⟨S2x2048x1, .f32⟩
  | 18 => ⟨S_, .f32⟩
  | 19 => ⟨S2x2048x1, .f32⟩
  | 20 => ⟨S2x2048x1, .f32⟩
  | 21 => ⟨S_, .f32⟩
  | 22 => ⟨S2x2048x1, .f32⟩
  | 23 => ⟨S2x2048x1, .f32⟩
  | 24 => ⟨S2x2048x1, .f32⟩
  | 25 => ⟨S2x2048x1, .f32⟩
  | 26 => ⟨S_, .f32⟩
  | 27 => ⟨S2x2048x1, .f32⟩
  | 28 => ⟨S2x2048x1, .f32⟩
  | 29 => ⟨S2x2048x1024, .f32⟩
  | 30 => ⟨S2x2048x1024, .f32⟩
  | 31 => ⟨S1x1x1024, .f32⟩
  | 32 => ⟨S2x2048x1024, .f32⟩
  | 33 => ⟨S2x2048x1024, .f32⟩
  | 34 => ⟨S2x1x1024, .f32⟩
  | 35 => ⟨S_, .f32⟩
  | 36 => ⟨S2x1x1024, .f32⟩
  | 37 => ⟨S2x1x1024, .f32⟩
  | 38 => ⟨S2x2048x1024, .f32⟩
  | 39 => ⟨S2x2048x1024, .f32⟩
  | 40 => ⟨S2x1x1024, .f32⟩
  | 41 => ⟨S2x2048x1024, .f32⟩
  | 42 => ⟨S2x2048x1024, .f32⟩
  | 43 => ⟨S1024x5632, .f32⟩
  | 44 => ⟨S2x2048x5632, .f32⟩
  | 45 => ⟨S2x2048x5632, .f32⟩
  | 46 => ⟨S2x2048x2816, .f32⟩
  | 47 => ⟨S2x2048x2816, .f32⟩
  | 48 => ⟨S2x2048x2816, .f32⟩
  | 49 => ⟨S2x2048x2816, .f32⟩
  | 50 => ⟨S_, .f32⟩
  | 51 => ⟨S2x2048x2816, .f32⟩
  | 52 => ⟨S2x2048x2816, .f32⟩
  | 53 => ⟨S_, .f32⟩
  | 54 => ⟨S2x2048x2816, .f32⟩
  | 55 => ⟨S2x2048x2816, .f32⟩
  | 56 => ⟨S_, .f32⟩
  | 57 => ⟨S2x2048x2816, .f32⟩
  | 58 => ⟨S2x2048x2816, .f32⟩
  | 59 => ⟨S2x2048x2816, .f32⟩
  | 60 => ⟨S2x2048x2816, .f32⟩
  | 61 => ⟨S2x2048x2816, .f32⟩
  | 62 => ⟨S2x1x1024, .f32⟩
  | 63 => ⟨S_, .f32⟩
  | 64 => ⟨S2x1x1024, .f32⟩
  | 65 => ⟨S2x1x1024, .f32⟩
  | 66 => ⟨S2816x1024, .f32⟩
  | 67 => ⟨S2x2048x1024, .f32⟩
  | 68 => ⟨S2x2048x1024, .f32⟩
  | 69 => ⟨S1024, .f32⟩
  | 70 => ⟨S2x2048x1024, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S_, .f32⟩
  | 78 => ⟨S2x2048x1, .f32⟩
  | 79 => ⟨S2x2048x1, .f32⟩
  | 80 => ⟨S2x2048x1, .f32⟩
  | 81 => ⟨S2x2048x1, .f32⟩
  | 82 => ⟨S_, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S2x2048x1024, .f32⟩
  | 94 => ⟨S2x2048x1024, .f32⟩
  | 95 => ⟨S2x2048x1024, .f32⟩
  | 96 => ⟨S2x2048x1024, .f32⟩
  | 97 => ⟨S_, .f32⟩
  | 98 => ⟨S2x1024, .f32⟩
  | 99 => ⟨S2x1x1024, .f32⟩
  | 100 => ⟨S2x2048x1024, .f32⟩
  | 101 => ⟨S_, .f32⟩
  | 102 => ⟨S1024, .f32⟩
  | 103 => ⟨S1x1x1024, .f32⟩
  | 104 => ⟨S2x2048x1024, .f32⟩
  | 105 => ⟨S2x2048x1024, .f32⟩
  | 106 => ⟨S_, .f32⟩
  | 107 => ⟨S1024, .f32⟩
  | 108 => ⟨S2x2048x1024, .f32⟩
  | 109 => ⟨S_, .f32⟩
  | 110 => ⟨S2x2048, .f32⟩
  | 111 => ⟨S2x2048x1, .f32⟩
  | 112 => ⟨S2x2048x1024, .f32⟩
  | 113 => ⟨S2x2048x1024, .f32⟩
  | 114 => ⟨S2x2048x1, .f32⟩
  | 115 => ⟨S_, .f32⟩
  | 116 => ⟨S2x2048x1, .f32⟩
  | 117 => ⟨S2x2048x1, .f32⟩
  | 118 => ⟨S_, .f32⟩
  | 119 => ⟨S2x2048, .f32⟩
  | 120 => ⟨S2x2048x1024, .f32⟩
  | 121 => ⟨S2x2048x1024, .f32⟩
  | 122 => ⟨S2x2048x1024, .f32⟩
  | 123 => ⟨S2x2048x1024, .f32⟩
  | 124 => ⟨S2x2048x1024, .f32⟩
  | 125 => ⟨S1x1024, .f32⟩
  | 126 => ⟨S2x2048x2816, .f32⟩
  | 127 => ⟨S_, .f32⟩
  | _ => ⟨S2x2048x1024, .f32⟩

abbrev hbmTy0_1 (i : Nat) : BufTy := match i % 128 with
  | 0 => ⟨S2x1x1024, .f32⟩
  | 1 => ⟨S2x1x1024, .f32⟩
  | 2 => ⟨S_, .f32⟩
  | 3 => ⟨S2x1024, .f32⟩
  | 4 => ⟨S2x2048x2816, .f32⟩
  | 5 => ⟨S2x2048x2816, .f32⟩
  | 6 => ⟨S2x2048x2816, .f32⟩
  | 7 => ⟨S2x2048x2816, .f32⟩
  | 8 => ⟨S2x2048x2816, .f32⟩
  | 9 => ⟨S2x2048x2816, .f32⟩
  | 10 => ⟨S2x2048x5632, .f32⟩
  | 11 => ⟨S2x2048x1024, .f32⟩
  | 12 => ⟨S_, .f32⟩
  | 13 => ⟨S2x1024, .f32⟩
  | 14 => ⟨S2x1x1024, .f32⟩
  | 15 => ⟨S_, .f32⟩
  | 16 => ⟨S2x1024, .f32⟩
  | 17 => ⟨S2x2048x1024, .f32⟩
  | 18 => ⟨S_, .f32⟩
  | 19 => ⟨S2x1024, .f32⟩
  | 20 => ⟨S2x1x1024, .f32⟩
  | 21 => ⟨S2x2048x1024, .f32⟩
  | 22 => ⟨S2x2048x1024, .f32⟩
  | 23 => ⟨S_, .f32⟩
  | 24 => ⟨S2x1024, .f32⟩
  | 25 => ⟨S2x2048x1024, .f32⟩
  | 26 => ⟨S_, .f32⟩
  | 27 => ⟨S1024, .f32⟩
  | 28 => ⟨S1x1x1024, .f32⟩
  | 29 => ⟨S2x2048x1024, .f32⟩
  | 30 => ⟨S2x2048x1024, .f32⟩
  | 31 => ⟨S_, .f32⟩
  | 32 => ⟨S1024, .f32⟩
  | 33 => ⟨S2x2048x1024, .f32⟩
  | 34 => ⟨S_, .f32⟩
  | 35 => ⟨S2x2048, .f32⟩
  | 36 => ⟨S2x2048x1, .f32⟩
  | 37 => ⟨S2x2048x1024, .f32⟩
  | 38 => ⟨S2x2048x1024, .f32⟩
  | 39 => ⟨S2x2048x1024, .f32⟩
  | 40 => ⟨S2x2048x1, .f32⟩
  | 41 => ⟨S_, .f32⟩
  | 42 => ⟨S2x2048x1, .f32⟩
  | 43 => ⟨S2x2048x1, .f32⟩
  | 44 => ⟨S_, .f32⟩
  | 45 => ⟨S2x2048, .f32⟩
  | 46 => ⟨S2x2048x1024, .f32⟩
  | 47 => ⟨S2x2048x1024, .f32⟩
  | 48 => ⟨S2x2048x1024, .f32⟩
  | 49 => ⟨S2x2048x1024, .f32⟩
  | 50 => ⟨S2x2048x1024, .f32⟩
  | 51 => ⟨S1x1024, .f32⟩
  | 52 => ⟨S2x1x1024, .f32⟩
  | 53 => ⟨S2x1x1024, .f32⟩
  | 54 => ⟨S2x1x1024, .f32⟩
  | 55 => ⟨S2x3x1024, .f32⟩
  | 56 => ⟨S4096x1024, .f32⟩
  | 57 => ⟨S4096x1024, .f32⟩
  | 58 => ⟨S4096x8x704, .f32⟩
  | 59 => ⟨S8x4096x704, .f32⟩
  | 60 => ⟨S8x4096x704, .bf16⟩
  | 61 => ⟨S4096x4x704, .f32⟩
  | 62 => ⟨S4x4096x704, .f32⟩
  | 63 => ⟨S4x4096x704, .bf16⟩
  | 64 => ⟨S4096x1024, .f32⟩
  | 65 => ⟨S4096x1024, .bf16⟩
  | 66 => ⟨S4096x1024, .f32⟩
  | 67 => ⟨S4096x1024, .bf16⟩
  | 68 => ⟨S_, .i32⟩
  | 69 => ⟨S_, .f32⟩
  | 70 => ⟨S2x8x1024, .f32⟩
  | 71 => ⟨S2x1024, .f32⟩
  | 72 => ⟨S_, .i32⟩
  | 73 => ⟨S_, .f32⟩
  | 74 => ⟨S8x1024, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v32_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v32_1 : Ref sig .tc := ⟨.hbm, 59, rfl⟩
abbrev main_v32_0 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩
abbrev main_cst_18 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_19 : Ref sig .tc := ⟨.hbm, 140, rfl⟩
abbrev main_v96 : Ref sig .tc := ⟨.hbm, 141, rfl⟩
abbrev main_v97 : Ref sig .tc := ⟨.hbm, 142, rfl⟩
abbrev main_cst_20 : Ref sig .tc := ⟨.hbm, 143, rfl⟩
abbrev main_v98 : Ref sig .tc := ⟨.hbm, 144, rfl⟩
abbrev main_v99 : Ref sig .tc := ⟨.hbm, 145, rfl⟩
abbrev main_cst_21 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_22 : Ref sig .tc := ⟨.hbm, 151, rfl⟩
abbrev main_v104 : Ref sig .tc := ⟨.hbm, 152, rfl⟩
abbrev main_v105 : Ref sig .tc := ⟨.hbm, 153, rfl⟩
abbrev main_cst_23 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_24 : Ref sig .tc := ⟨.hbm, 159, rfl⟩
abbrev main_v110 : Ref sig .tc := ⟨.hbm, 160, rfl⟩
abbrev main_v111 : Ref sig .tc := ⟨.hbm, 161, rfl⟩
abbrev main_cst_25 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_26 : Ref sig .tc := ⟨.hbm, 169, rfl⟩
abbrev main_v118 : Ref sig .tc := ⟨.hbm, 170, rfl⟩
abbrev main_v119 : Ref sig .tc := ⟨.hbm, 171, rfl⟩
abbrev main_cst_27 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_c : Ref sig .tc := ⟨.hbm, 196, rfl⟩
abbrev main_call2_v0 : Ref sig .tc := ⟨.hbm, 197, rfl⟩
abbrev main_v143 : Ref sig .tc := ⟨.hbm, 198, rfl⟩
abbrev main_v144 : Ref sig .tc := ⟨.hbm, 199, rfl⟩
abbrev main_c_28 : Ref sig .tc := ⟨.hbm, 200, rfl⟩
abbrev main_call3_v0 : Ref sig .tc := ⟨.hbm, 201, rfl⟩
abbrev main_v145 : Ref sig .tc := ⟨.hbm, 202, rfl⟩

abbrev nD : Nat := 1
abbrev τ : Topo := Topo.v7x

variable {F : FTy → Type} [FloatOps F]
-- ==== Kernel3.lean ====
abbrev S1x1024x704 : Shape := ⟨3, ![1, 1024, 704]⟩
abbrev S1x352x1024 : Shape := ⟨3, ![1, 352, 1024]⟩
abbrev S1x1024x256 : Shape := ⟨3, ![1, 1024, 256]⟩
abbrev S1x128x1024 : Shape := ⟨3, ![1, 128, 1024]⟩
abbrev S1x1024x1152 : Shape := ⟨3, ![1, 1024, 1152]⟩
abbrev S4x704x1024 : Shape := ⟨3, ![4, 704, 1024]⟩
abbrev S4x352x1024 : Shape := ⟨3, ![4, 352, 1024]⟩
abbrev S4x1024x256 : Shape := ⟨3, ![4, 1024, 256]⟩
abbrev S4x128x1024 : Shape := ⟨3, ![4, 128, 1024]⟩
abbrev S64x1024 : Shape := ⟨2, ![64, 1024]⟩
abbrev S64x1152 : Shape := ⟨2, ![64, 1152]⟩
abbrev S1024x704 : Shape := ⟨2, ![1024, 704]⟩
abbrev S704x1024 : Shape := ⟨2, ![704, 1024]⟩
abbrev S352x1024 : Shape := ⟨2, ![352, 1024]⟩
abbrev S1024x256 : Shape := ⟨2, ![1024, 256]⟩
abbrev S4x256x256 : Shape := ⟨3, ![4, 256, 256]⟩
abbrev S256x256 : Shape := ⟨2, ![256, 256]⟩
abbrev S1x256x256 : Shape := ⟨3, ![1, 256, 256]⟩
abbrev S128x1024 : Shape := ⟨2, ![128, 1024]⟩
abbrev S1024x1152 : Shape := ⟨2, ![1024, 1152]⟩
abbrev S64x256 : Shape := ⟨2, ![64, 256]⟩
abbrev S256x1152 : Shape := ⟨2, ![256, 1152]⟩

abbrev nBuf : Space → Nat
  | .hbm => 84
  | .vmem => 89
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x1024x256, .f32⟩
  | .hbm, ⟨7, _⟩ => ⟨S1x1024x256, .f32⟩
  | .hbm, ⟨8, _⟩ => ⟨S1x1024x256, .f32⟩
  | .hbm, ⟨9, _⟩ => ⟨S1x128x1024, .f32⟩
  | .hbm, ⟨10, _⟩ => ⟨S1x128x1024, .f32⟩
  | .hbm, ⟨11, _⟩ => ⟨S1x128x1024, .f32⟩
  | .hbm, ⟨12, _⟩ => ⟨S1x1024x1152, .f32⟩
  | .hbm, ⟨13, _⟩ => ⟨S1x1024x1152, .f32⟩
  | .hbm, ⟨14, _⟩ => ⟨S1x1024x1152, .f32⟩
  | .hbm, ⟨15, _⟩ => ⟨S1x1024x704, .f32⟩
  | .hbm, ⟨16, _⟩ => ⟨S1x1024x704, .f32⟩
  | .hbm, ⟨17, _⟩ => ⟨S1x1024x704, .f32⟩
  | .hbm, ⟨18, _⟩ => ⟨S1x352x1024, .f32⟩
  | .hbm, ⟨19, _⟩ => ⟨S1x352x1024, .f32⟩
  | .hbm, ⟨20, _⟩ => ⟨S1x352x1024, .f32⟩
  | .hbm, ⟨21, _⟩ => ⟨S4x704x1024, .bf16⟩
  | .hbm, ⟨22, _⟩ => ⟨S4x352x1024, .bf16⟩
  | .hbm, ⟨23, _⟩ => ⟨S4x1024x256, .bf16⟩
  | .hbm, ⟨24, _⟩ => ⟨S4x128x1024, .bf16⟩
  | .hbm, ⟨25, _⟩ => ⟨S64x1024, .f32⟩
  | .hbm, ⟨26, _⟩ => ⟨S64x1152, .f32⟩
  | .hbm, ⟨27, _⟩ => ⟨S4x704x1024, .bf16⟩
  | .hbm, ⟨28, _⟩ => ⟨S4x352x1024, .bf16⟩
  | .hbm, ⟨29, _⟩ => ⟨S1024x704, .f32⟩
  | .hbm, ⟨30, _⟩ => ⟨S704x1024, .f32⟩
  | .hbm, ⟨31, _⟩ => ⟨S1024x704, .f32⟩
  | .hbm, ⟨32, _⟩ => ⟨S704x1024, .f32⟩
  | .hbm, ⟨33, _⟩ => ⟨S1024x704, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S1024x256, .f32⟩
  | .hbm, ⟨50, _⟩ => ⟨S1024x256, .f32⟩
  | .hbm, ⟨51, _⟩ => ⟨S1024x256, .f32⟩
  | .hbm, ⟨52, _⟩ => ⟨S1024x256, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S128x1024, .f32⟩
  | .hbm, ⟨58, _⟩ => ⟨S128x1024, .f32⟩
  | .hbm, ⟨59, _⟩ => ⟨S128x1024, .f32⟩
  | .hbm, ⟨60, _⟩ => ⟨S1024x1152, .f32⟩
  | .hbm, ⟨61, _⟩ => ⟨S1024x1152, .f32⟩
  | .hbm, ⟨62, _⟩ => ⟨S1024x1152, .f32⟩
  | .hbm, ⟨63, _⟩ => ⟨S1024x1152, .f32⟩
  | .hbm, ⟨64, _⟩ => ⟨S1024x1152, .f32⟩
  | .hbm, ⟨65, _⟩ => ⟨S1024x1152, .f32⟩
  | .hbm, ⟨66, _⟩ => ⟨S1024x1152, .f32⟩
  | .hbm, ⟨67, _⟩ => ⟨S1024x704, .f32⟩
  | .hbm, ⟨68, _⟩ => ⟨S704x1024, .f32⟩
  | .hbm, ⟨69, _⟩ => ⟨S1024x704, .f32⟩
  | .hbm, ⟨70, _⟩ => ⟨S704x1024, .f32⟩
  | .hbm, ⟨71, _⟩ => ⟨S1024x704, .f32⟩
  | .hbm, ⟨72, _⟩ => ⟨S704x1024, .f32⟩
  | .hbm, ⟨73, _⟩ => ⟨S704x1024, .f32⟩
  | .hbm, ⟨74, _⟩ => ⟨S704x1024, .f32⟩
  | .hbm, ⟨75, _⟩ => ⟨S704x1024, .f32⟩
  | .hbm, ⟨76, _⟩ => ⟨S704x1024, .f32⟩
  | .hbm, ⟨77, _⟩ => ⟨S352x1024, .f32⟩
  | .hbm, ⟨78, _⟩ => ⟨S352x1024, .f32⟩
  | .hbm, ⟨79, _⟩ => ⟨S352x1024, .f32⟩
  | .hbm, ⟨80, _⟩ => ⟨S352x1024, .f32⟩
  | .hbm, ⟨81, _⟩ => ⟨S352x1024, .f32⟩
  | .hbm, ⟨82, _⟩ => ⟨S352x1024, .f32⟩
  | .hbm, ⟨83, _⟩ => ⟨S352x1024, .f32⟩
  | .local _ .vmem, ⟨0, _⟩ => ⟨S4x352x1024, .bf16⟩
  | .local _ .vmem, ⟨1, _⟩ => ⟨S4x352x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S4x352x1024, .bf16⟩
  | .local _ .vmem, ⟨17, _⟩ => ⟨S352x1024, .f32⟩
  | .local _ .vmem, ⟨18, _⟩ => ⟨S352x1024, .f32⟩
  | .local _ .vmem, ⟨19, _⟩ => ⟨S352x1024, .f32⟩
  | .local _ .vmem, ⟨20, _⟩ => ⟨S352x1024, .f32⟩
  | .local _ .vmem, ⟨21, _⟩ => ⟨S352x1024, .f32⟩
  | .local _ .vmem, ⟨22, _⟩ => ⟨S352x1024, .f32⟩
  | .local _ .vmem, ⟨23, _⟩ => ⟨S352x1024, .f32⟩
  | .local _ .vmem, ⟨24, _⟩ => ⟨S4x256x256, .bf16⟩
  | .local _ .vmem, ⟨25, _⟩ => ⟨S4x256x256, .bf16⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S256x256, .f32⟩
  | .local _ .vmem, ⟨37, _⟩ => ⟨S256x256, .f32⟩
  | .local _ .vmem, ⟨38, _⟩ => ⟨S256x256, .f32⟩
  | .local _ .vmem, ⟨39, _⟩ => ⟨S256x256, .f32⟩
  | .local _ .vmem, ⟨40, _⟩ => ⟨S4x128x1024, .bf16⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | .local _ .vmem, ⟨48, _⟩ => ⟨S64x256, .f32⟩
  | .local _ .vmem, ⟨49, _⟩ => ⟨S64x256, .f32⟩
  | .local _ .vmem, ⟨50, _⟩ => ⟨S64x1152, .f32⟩
  | .local _ .vmem, ⟨51, _⟩ => ⟨S256x1152, .f32⟩
  | .local _ .vmem, ⟨52, _⟩ => ⟨S256x1152, .f32⟩
  | .local _ .vmem, ⟨53, _⟩ => ⟨S256x1152, .f32⟩
  | .local _ .vmem, ⟨54, _⟩ => ⟨S256x1152, .f32⟩
  | .local _ .vmem, ⟨55, _⟩ => ⟨S256x1152, .f32⟩
  | .local _ .vmem, ⟨56, _⟩ => ⟨S256x1152, .f32⟩
  | .local _ .vmem, ⟨57, _⟩ => ⟨S256x1152, .f32⟩
  | .local _ .vmem, ⟨58, _⟩ => ⟨S256x1152, .f32⟩
  | .local _ .vmem, ⟨59, _⟩ => ⟨S256x1152, .f32⟩
  | .local _ .vmem, ⟨60, _⟩ => ⟨S256x1152, .f32⟩
  | .local _ .vmem, ⟨61, _⟩ => ⟨S256x1152, .f32⟩
  | .local _ .vmem, ⟨62, _⟩ => ⟨S256x1152, .f32⟩
  | .local _ .vmem, ⟨63, _⟩ => ⟨S256x1152, .f32⟩
  | .local _ .vmem, ⟨64, _⟩ => ⟨S256x1152, .f32⟩
  | .local _ .vmem, ⟨65, _⟩ => ⟨S4x352x1024, .bf16⟩
  | .local _ .vmem, ⟨66, _⟩ => ⟨S4x352x1024, .bf16⟩
  | .local _ .vmem, ⟨67, _⟩ => ⟨S352x1024, .f32⟩
  | .local _ .vmem, ⟨68, _⟩ => ⟨S352x1024, .f32⟩
  | .local _ .vmem, ⟨69, _⟩ => ⟨S352x1024, .f32⟩
  | .local _ .vmem, ⟨70, _⟩ => ⟨S352x1024, .f32⟩
  | .local _ .vmem, ⟨71, _⟩ => ⟨S352x1024, .f32⟩
  | .local _ .vmem, ⟨72, _⟩ => ⟨S352x1024, .f32⟩
  | .local _ .vmem, ⟨73, _⟩ => ⟨S352x1024, .f32⟩
  | .local _ .vmem, ⟨74, _⟩ => ⟨S352x1024, .f32⟩
  | .local _ .vmem, ⟨75, _⟩ => ⟨S352x1024, .f32⟩
  | .local _ .vmem, ⟨76, _⟩ => ⟨S352x1024, .f32⟩
  | .local _ .vmem, ⟨77, _⟩ => ⟨S352x1024, .f32⟩
  | .local _ .vmem, ⟨78, _⟩ => ⟨S352x1024, .f32⟩
  | .local _ .vmem, ⟨79, _⟩ => ⟨S352x1024, .f32⟩
  | .local _ .vmem, ⟨80, _⟩ => ⟨S352x1024, .f32⟩
  | .local _ .vmem, ⟨81, _⟩ => ⟨S4x352x1024, .bf16⟩
  | .local _ .vmem, ⟨82, _⟩ => ⟨S352x1024, .f32⟩
  | .local _ .vmem, ⟨83, _⟩ => ⟨S352x1024, .f32⟩
  | .local _ .vmem, ⟨84, _⟩ => ⟨S352x1024, .f32⟩
  | .local _ .vmem, ⟨85, _⟩ => ⟨S352x1024, .f32⟩
  | .local _ .vmem, ⟨86, _⟩ => ⟨S352x1024, .f32⟩
  | .local _ .vmem, ⟨87, _⟩ => ⟨S352x1024, .f32⟩
  | .local _ .vmem, ⟨88, _⟩ => ⟨S352x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | _, _ => false

abbrev semScoped : Fin 0 → Bool
  | ⟨_, h⟩ => absurd h (Nat.not_lt_zero _)

abbrev dmaSemScoped : Fin 89 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | _ => false

abbrev sig : RefSig :=
  ofTc nBuf bufTy 0 89 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6_0 : Ref sig .tc := ⟨.hbm, 35, rfl⟩
abbrev main_v6_1 : Ref sig .tc := ⟨.hbm, 36, rfl⟩
abbrev main_v6_2 : Ref sig .tc := ⟨.hbm, 37, rfl⟩
abbrev main_v6_3 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10_0 : Ref sig .tc := ⟨.hbm, 42, rfl⟩
abbrev main_v10_1 : Ref sig .tc := ⟨.hbm, 43, rfl⟩
abbrev main_v10_2 : Ref sig .tc := ⟨.hbm, 44, rfl⟩
abbrev main_v10_3 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14_0 : Ref sig .tc := ⟨.hbm, 49, rfl⟩
abbrev main_v14_1 : Ref sig .tc := ⟨.hbm, 50, rfl⟩
abbrev main_v14_2 : Ref sig .tc := ⟨.hbm, 51, rfl⟩
abbrev main_v14_3 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18_0 : Ref sig .tc := ⟨.hbm, 56, rfl⟩
abbrev main_v18_1 : Ref sig .tc := ⟨.hbm, 57, rfl⟩
abbrev main_v18_2 : Ref sig .tc := ⟨.hbm, 58, rfl⟩
abbrev main_v18_3 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22_0 : Ref sig .tc := ⟨.hbm, 63, rfl⟩
abbrev main_v22_1 : Ref sig .tc := ⟨.hbm, 64, rfl⟩
abbrev main_v22_2 : Ref sig .tc := ⟨.hbm, 65, rfl⟩
abbrev main_v22_3 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29_0 : Ref sig .tc := ⟨.hbm, 73, rfl⟩
abbrev main_v29_1 : Ref sig .tc := ⟨.hbm, 74, rfl⟩
abbrev main_v29_2 : Ref sig .tc := ⟨.hbm, 75, rfl⟩
abbrev main_v29_3 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33_0 : Ref sig .tc := ⟨.hbm, 80, rfl⟩
abbrev main_v33_1 : Ref sig .tc := ⟨.hbm, 81, rfl⟩
abbrev main_v33_2 : Ref sig .tc := ⟨.hbm, 82, rfl⟩
abbrev main_v33_3 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg1_0 : Ref sig .tc := ⟨.vmem, 41, rfl⟩
abbrev cc3_stg2_0 : Ref sig .tc := ⟨.vmem, 42, rfl⟩
abbrev cc3_stg3_0 : Ref sig .tc := ⟨.vmem, 43, rfl⟩
abbrev cc3_stg4_0 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg2_1 : Ref sig .tc := ⟨.vmem, 52, rfl⟩
abbrev cc4_stg3_0 : Ref sig .tc := ⟨.vmem, 53, rfl⟩
abbrev cc4_stg3_1 : Ref sig .tc := ⟨.vmem, 54, rfl⟩
abbrev cc4_stg4_0 : Ref sig .tc := ⟨.vmem, 55, rfl⟩
abbrev cc4_stg4_1 : Ref sig .tc := ⟨.vmem, 56, rfl⟩
abbrev cc4_stg5_0 : Ref sig .tc := ⟨.vmem, 57, rfl⟩
abbrev cc4_stg5_1 : Ref sig .tc := ⟨.vmem, 58, rfl⟩
abbrev cc4_stg6_0 : Ref sig .tc := ⟨.vmem, 59, rfl⟩
abbrev cc4_stg6_1 : Ref sig .tc := ⟨.vmem, 60, rfl⟩
abbrev cc4_stg7_0 : Ref sig .tc := ⟨.vmem, 61, rfl⟩
abbrev cc4_stg7_1 : Ref sig .tc := ⟨.vmem, 62, rfl⟩
abbrev cc4_stg8_0 : Ref sig .tc := ⟨.vmem, 63, rfl⟩
abbrev cc4_stg8_1 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg2_1 : Ref sig .tc := ⟨.vmem, 70, rfl⟩
abbrev cc5_stg3_0 : Ref sig .tc := ⟨.vmem, 71, rfl⟩
abbrev cc5_stg3_1 : Ref sig .tc := ⟨.vmem, 72, rfl⟩
abbrev cc5_stg4_0 : Ref sig .tc := ⟨.vmem, 73, rfl⟩
abbrev cc5_stg4_1 : Ref sig .tc := ⟨.vmem, 74, rfl⟩
abbrev cc5_stg5_0 : Ref sig .tc := ⟨.vmem, 75, rfl⟩
abbrev cc5_stg5_1 : Ref sig .tc := ⟨.vmem, 76, rfl⟩
abbrev cc5_stg6_0 : Ref sig .tc := ⟨.vmem, 77, rfl⟩
abbrev cc5_stg6_1 : Ref sig .tc := ⟨.vmem, 78, rfl⟩
abbrev cc5_stg7_0 : Ref sig .tc := ⟨.vmem, 79, rfl⟩
abbrev cc5_stg7_1 : Ref sig .tc := ⟨.vmem, 80, rfl⟩
abbrev cc6_stg0_0 : Ref sig .tc := ⟨.vmem, 81, rfl⟩
abbrev cc6_stg1_0 : Ref sig .tc := ⟨.vmem, 82, rfl⟩
abbrev cc6_stg2_0 : Ref sig .tc := ⟨.vmem, 83, rfl⟩
abbrev cc6_stg3_0 : Ref sig .tc := ⟨.vmem, 84, rfl⟩
abbrev cc6_stg4_0 : Ref sig .tc := ⟨.vmem, 85, rfl⟩
abbrev cc6_stg5_0 : Ref sig .tc := ⟨.vmem, 86, rfl⟩
abbrev cc6_stg6_0 : Ref sig .tc := ⟨.vmem, 87, rfl⟩
abbrev cc6_stg7_0 : Ref sig .tc := ⟨.vmem, 88, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem1_0 : DmaSem sig := 41
abbrev cc3_sem2_0 : DmaSem sig := 42
abbrev cc3_sem3_0 : DmaSem sig := 43
abbrev cc3_sem4_0 : DmaSem sig := 44
abbrev cc3_sem5_0 : DmaSem sig := 45
abbrev cc3_sem6_0 : DmaSem sig := 46
abbrev cc3_sem7_0 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem2_1 : DmaSem sig := 52
abbrev cc4_sem3_0 : DmaSem sig := 53
abbrev cc4_sem3_1 : DmaSem sig := 54
abbrev cc4_sem4_0 : DmaSem sig := 55
abbrev cc4_sem4_1 : DmaSem sig := 56
abbrev cc4_sem5_0 : DmaSem sig := 57
abbrev cc4_sem5_1 : DmaSem sig := 58
abbrev cc4_sem6_0 : DmaSem sig := 59
abbrev cc4_sem6_1 : DmaSem sig := 60
abbrev cc4_sem7_0 : DmaSem sig := 61
abbrev cc4_sem7_1 : DmaSem sig := 62
abbrev cc4_sem8_0 : DmaSem sig := 63
abbrev cc4_sem8_1 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem2_1 : DmaSem sig := 70
abbrev cc5_sem3_0 : DmaSem sig := 71
abbrev cc5_sem3_1 : DmaSem sig := 72
abbrev cc5_sem4_0 : DmaSem sig := 73
abbrev cc5_sem4_1 : DmaSem sig := 74
abbrev cc5_sem5_0 : DmaSem sig := 75
abbrev cc5_sem5_1 : DmaSem sig := 76
abbrev cc5_sem6_0 : DmaSem sig := 77
abbrev cc5_sem6_1 : DmaSem sig := 78
abbrev cc5_sem7_0 : DmaSem sig := 79
abbrev cc5_sem7_1 : DmaSem sig := 80
abbrev cc6_sem0_0 : DmaSem sig := 81
abbrev cc6_sem1_0 : DmaSem sig := 82
abbrev cc6_sem2_0 : DmaSem sig := 83
abbrev cc6_sem3_0 : DmaSem sig := 84
abbrev cc6_sem4_0 : DmaSem sig := 85
abbrev cc6_sem5_0 : DmaSem sig := 86
abbrev cc6_sem6_0 : DmaSem sig := 87
abbrev cc6_sem7_0 : DmaSem sig := 88

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S4x352x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S352x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S352x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S352x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S352x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S352x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]

abbrev stage1_6 : Fin 1 → Memref sig .tc .vmem S352x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true]

abbrev stage1_7 : Fin 1 → Memref sig .tc .vmem S352x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4x256x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S4x128x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S128x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S128x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S128x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S128x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S128x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S128x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S64x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1152 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S256x1152 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1152 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1152 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1152 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1152 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x1152 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S256x1152 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![2], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4x352x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S352x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S352x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S352x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S352x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S352x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S352x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S352x1024 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S4x352x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S352x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S352x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S352x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S352x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S352x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S352x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]

abbrev stage6_7 : Fin 1 → Memref sig .tc .vmem S352x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true]
-- ==== Reference3Ideal.lean ====
abbrev S1x1024x704 : Shape := ⟨3, ![1, 1024, 704]⟩
abbrev S1x352x1024 : Shape := ⟨3, ![1, 352, 1024]⟩
abbrev S1x1024x256 : Shape := ⟨3, ![1, 1024, 256]⟩
abbrev S1x128x1024 : Shape := ⟨3, ![1, 128, 1024]⟩
abbrev S1x1024x1152 : Shape := ⟨3, ![1, 1024, 1152]⟩
abbrev S4x704x1024 : Shape := ⟨3, ![4, 704, 1024]⟩
abbrev S4x352x1024 : Shape := ⟨3, ![4, 352, 1024]⟩
abbrev S4x1024x256 : Shape := ⟨3, ![4, 1024, 256]⟩
abbrev S4x128x1024 : Shape := ⟨3, ![4, 128, 1024]⟩
abbrev S64x1024 : Shape := ⟨2, ![64, 1024]⟩
abbrev S64x1152 : Shape := ⟨2, ![64, 1152]⟩
abbrev S_ : Shape := ⟨0, ![]⟩
abbrev S704x1024 : Shape := ⟨2, ![704, 1024]⟩
abbrev S352x1024 : Shape := ⟨2, ![352, 1024]⟩
abbrev S1024x256 : Shape := ⟨2, ![1024, 256]⟩
abbrev S128x1024 : Shape := ⟨2, ![128, 1024]⟩
abbrev S1024x1152 : Shape := ⟨2, ![1024, 1152]⟩
abbrev S1152x1024 : Shape := ⟨2, ![1152, 1024]⟩
abbrev S1024x704 : Shape := ⟨2, ![1024, 704]⟩

abbrev nBuf : Space → Nat
  | .hbm => 309
  | .vmem => 0
  | .smem => 0
  | _ => 0

abbrev hbmTy0_0 (i : Nat) : BufTy := match i % 128 with
  | 0 => ⟨S1x1024x704, .f32⟩
  | 1 => ⟨S1x1024x704, .f32⟩
  | 2 => ⟨S1x1024x704, .f32⟩
  | 3 => ⟨S1x352x1024, .f32⟩
  | 4 => ⟨S1x352x1024, .f32⟩
  | 5 => ⟨S1x352x1024, .f32⟩
  | 6 => ⟨S1x1024x256, .f32⟩
  | 7 => ⟨S1x1024x256, .f32⟩
  | 8 => ⟨S1x1024x256, .f32⟩
  | 9 => ⟨S1x128x1024, .f32⟩
  | 10 => ⟨S1x128x1024, .f32⟩
  | 11 => ⟨S1x128x1024, .f32⟩
  | 12 => ⟨S1x1024x1152, .f32⟩
  | 13 => ⟨S1x1024x1152, .f32⟩
  | 14 => ⟨S1x1024x1152, .f32⟩
  | 15 => ⟨S1x1024x704, .f32⟩
  | 16 => ⟨S1x1024x704, .f32⟩
  | 17 => ⟨S1x1024x704, .f32⟩
  | 18 => ⟨S1x352x1024, .f32⟩
  | 19 => ⟨S1x352x1024, .f32⟩
  | 20 => ⟨S1x352x1024, .f32⟩
  | 21 => ⟨S4x704x1024, .bf16⟩
  | 22 => ⟨S4x352x1024, .bf16⟩
  | 23 => ⟨S4x1024x256, .bf16⟩
  | 24 => ⟨S4x128x1024, .bf16⟩
  | 25 => ⟨S64x1024, .f32⟩
  | 26 => ⟨S64x1152, .f32⟩
  | 27 => ⟨S4x704x1024, .bf16⟩
  | 28 => ⟨S4x352x1024, .bf16⟩
  | 29 => ⟨S4x704x1024, .f32⟩
  | 30 => ⟨S_, .f32⟩
  | 31 => ⟨S704x1024, .f32⟩
  | 32 => ⟨S4x352x1024, .f32⟩
  | 33 => ⟨S_, .f32⟩
  | 34 => ⟨S352x1024, .f32⟩
  | 35 => ⟨S4x1024x256, .f32⟩
  | 36 => ⟨S_, .f32⟩
  | 37 => ⟨S1024x256, .f32⟩
  | 38 => ⟨S4x128x1024, .f32⟩
  | 39 => ⟨S_, .f32⟩
  | 40 => ⟨S128x1024, .f32⟩
  | 41 => ⟨S1024x1152, .f32⟩
  | 42 => ⟨S64x1152, .f32⟩
  | 43 => ⟨S1152x1024, .f32⟩
  | 44 => ⟨S1024x1152, .f32⟩
  | 45 => ⟨S4x704x1024, .f32⟩
  | 46 => ⟨S_, .f32⟩
  | 47 => ⟨S704x1024, .f32⟩
  | 48 => ⟨S4x352x1024, .f32⟩
  | 49 => ⟨S_, .f32⟩
  | 50 => ⟨S352x1024, .f32⟩
  | 51 => ⟨S1024x704, .f32⟩
  | 52 => ⟨S704x1024, .f32⟩
  | 53 => ⟨S1024x704, .f32⟩
  | 54 => ⟨S704x1024, .f32⟩
  | 55 => ⟨S1024x704, .f32⟩
  | 56 => ⟨S704x1024, .f32⟩
  | 57 => ⟨S352x1024, .f32⟩
  | 58 => ⟨S352x1024, .f32⟩
  | 59 => ⟨S352x1024, .f32⟩
  | 60 => ⟨S1024x256, .f32⟩
  | 61 => ⟨S1024x256, .f32⟩
  | 62 => ⟨S1024x256, .f32⟩
  | 63 => ⟨S128x1024, .f32⟩
  | 64 => ⟨S128x1024, .f32⟩
  | 65 => ⟨S128x1024, .f32⟩
  | 66 => ⟨S1024x1152, .f32⟩
  | 67 => ⟨S1024x1152, .f32⟩
  | 68 => ⟨S1024x1152, .f32⟩
  | 69 => ⟨S1024x704, .f32⟩
  | 70 => ⟨S704x1024, .f32⟩
  | 71 => ⟨S1024x704, .f32⟩
  | 72 => ⟨S704x1024, .f32⟩
  | 73 => ⟨S1024x704, .f32⟩
  | 74 => ⟨S704x1024, .f32⟩
  | 75 => ⟨S352x1024, .f32⟩
  | 76 => ⟨S352x1024, .f32⟩
  | 77 => ⟨S352x1024, .f32⟩
  | 78 => ⟨S_, .f32⟩
  | 79 => ⟨S704x1024, .f32⟩
  | 80 => ⟨S704x1024, .f32⟩
  | 81 => ⟨S_, .f32⟩
  | 82 => ⟨S704x1024, .f32⟩
  | 83 => ⟨S704x1024, .f32⟩
  | 84 => ⟨S704x1024, .f32⟩
  | 85 => ⟨S_, .f32⟩
  | 86 => ⟨S704x1024, .f32⟩
  | 87 => ⟨S704x1024, .f32⟩
  | 88 => ⟨S704x1024, .f32⟩
  | 89 => ⟨S_, .f32⟩
  | 90 => ⟨S704x1024, .f32⟩
  | 91 => ⟨S704x1024, .f32⟩
  | 92 => ⟨S704x1024, .f32⟩
  | 93 => ⟨S_, .f32⟩
  | 94 => ⟨S704x1024, .f32⟩
  | 95 => ⟨S704x1024, .f32⟩
  | 96 => ⟨S_, .f32⟩
  | 97 => ⟨S704x1024, .f32⟩
  | 98 => ⟨S704x1024, .f32⟩
  | 99 => ⟨S704x1024, .f32⟩
  | 100 => ⟨S_, .f32⟩
  | 101 => ⟨S704x1024, .f32⟩
  | 102 => ⟨S704x1024, .f32⟩
  | 103 => ⟨S704x1024, .f32⟩
  | 104 => ⟨S_, .f32⟩
  | 105 => ⟨S704x1024, .f32⟩
  | 106 => ⟨S704x1024, .f32⟩
  | 107 => ⟨S704x1024, .f32⟩
  | 108 => ⟨S_, .f32⟩
  | 109 => ⟨S704x1024, .f32⟩
  | 110 => ⟨S704x1024, .f32⟩
  | 111 => ⟨S_, .f32⟩
  | 112 => ⟨S352x1024, .f32⟩
  | 113 => ⟨S352x1024, .f32⟩
  | 114 => ⟨S_, .f32⟩
  | 115 => ⟨S352x1024, .f32⟩
  | 116 => ⟨S352x1024, .f32⟩
  | 117 => ⟨S352x1024, .f32⟩
  | 118 => ⟨S_, .f32⟩
  | 119 => ⟨S352x1024, .f32⟩
  | 120 => ⟨S352x1024, .f32⟩
  | 121 => ⟨S352x1024, .f32⟩
  | 122 => ⟨S_, .f32⟩
  | 123 => ⟨S352x1024, .f32⟩
  | 124 => ⟨S352x1024, .f32⟩
  | 125 => ⟨S352x1024, .f32⟩
  | 126 => ⟨S_, .f32⟩
  | 127 => ⟨S352x1024, .f32⟩
  | _ => ⟨S1x1024x704, .f32⟩

abbrev hbmTy0_1 (i : Nat) : BufTy := match i % 128 with
  | 0 => ⟨S352x1024, .f32⟩
  | 1 => ⟨S_, .f32⟩
  | 2 => ⟨S352x1024, .f32⟩
  | 3 => ⟨S352x1024, .f32⟩
  | 4 => ⟨S352x1024, .f32⟩
  | 5 => ⟨S_, .f32⟩
  | 6 => ⟨S352x1024, .f32⟩
  | 7 => ⟨S352x1024, .f32⟩
  | 8 => ⟨S352x1024, .f32⟩
  | 9 => ⟨S_, .f32⟩
  | 10 => ⟨S352x1024, .f32⟩
  | 11 => ⟨S352x1024, .f32⟩
  | 12 => ⟨S352x1024, .f32⟩
  | 13 => ⟨S_, .f32⟩
  | 14 => ⟨S352x1024, .f32⟩
  | 15 => ⟨S352x1024, .f32⟩
  | 16 => ⟨S_, .f32⟩
  | 17 => ⟨S1024x256, .f32⟩
  | 18 => ⟨S1024x256, .f32⟩
  | 19 => ⟨S_, .f32⟩
  | 20 => ⟨S1024x256, .f32⟩
  | 21 => ⟨S1024x256, .f32⟩
  | 22 => ⟨S1024x256, .f32⟩
  | 23 => ⟨S_, .f32⟩
  | 24 => ⟨S1024x256, .f32⟩
  | 25 => ⟨S1024x256, .f32⟩
  | 26 => ⟨S1024x256, .f32⟩
  | 27 => ⟨S_, .f32⟩
  | 28 => ⟨S1024x256, .f32⟩
  | 29 => ⟨S1024x256, .f32⟩
  | 30 => ⟨S1024x256, .f32⟩
  | 31 => ⟨S_, .f32⟩
  | 32 => ⟨S1024x256, .f32⟩
  | 33 => ⟨S1024x256, .f32⟩
  | 34 => ⟨S_, .f32⟩
  | 35 => ⟨S1024x256, .f32⟩
  | 36 => ⟨S1024x256, .f32⟩
  | 37 => ⟨S1024x256, .f32⟩
  | 38 => ⟨S_, .f32⟩
  | 39 => ⟨S1024x256, .f32⟩
  | 40 => ⟨S1024x256, .f32⟩
  | 41 => ⟨S1024x256, .f32⟩
  | 42 => ⟨S_, .f32⟩
  | 43 => ⟨S1024x256, .f32⟩
  | 44 => ⟨S1024x256, .f32⟩
  | 45 => ⟨S1024x256, .f32⟩
  | 46 => ⟨S_, .f32⟩
  | 47 => ⟨S1024x256, .f32⟩
  | 48 => ⟨S1024x256, .f32⟩
  | 49 => ⟨S_, .f32⟩
  | 50 => ⟨S128x1024, .f32⟩
  | 51 => ⟨S128x1024, .f32⟩
  | 52 => ⟨S_, .f32⟩
  | 53 => ⟨S128x1024, .f32⟩
  | 54 => ⟨S128x1024, .f32⟩
  | 55 => ⟨S128x1024, .f32⟩
  | 56 => ⟨S_, .f32⟩
  | 57 => ⟨S128x1024, .f32⟩
  | 58 => ⟨S128x1024, .f32⟩
  | 59 => ⟨S128x1024, .f32⟩
  | 60 => ⟨S_, .f32⟩
  | 61 => ⟨S128x1024, .f32⟩
  | 62 => ⟨S128x1024, .f32⟩
  | 63 => ⟨S128x1024, .f32⟩
  | 64 => ⟨S_, .f32⟩
  | 65 => ⟨S128x1024, .f32⟩
  | 66 => ⟨S128x1024, .f32⟩
  | 67 => ⟨S_, .f32⟩
  | 68 => ⟨S128x1024, .f32⟩
  | 69 => ⟨S128x1024, .f32⟩
  | 70 => ⟨S128x1024, .f32⟩
  | 71 => ⟨S_, .f32⟩
  | 72 => ⟨S128x1024, .f32⟩
  | 73 => ⟨S128x1024, .f32⟩
  | 74 => ⟨S128x1024, .f32⟩
  | 75 => ⟨S_, .f32⟩
  | 76 => ⟨S128x1024, .f32⟩
  | 77 => ⟨S128x1024, .f32⟩
  | 78 => ⟨S128x1024, .f32⟩
  | 79 => ⟨S_, .f32⟩
  | 80 => ⟨S128x1024, .f32⟩
  | 81 => ⟨S128x1024, .f32⟩
  | 82 => ⟨S_, .f32⟩
  | 83 => ⟨S1024x1152, .f32⟩
  | 84 => ⟨S1024x1152, .f32⟩
  | 85 => ⟨S_, .f32⟩
  | 86 => ⟨S1024x1152, .f32⟩
  | 87 => ⟨S1024x1152, .f32⟩
  | 88 => ⟨S1024x1152, .f32⟩
  | 89 => ⟨S_, .f32⟩
  | 90 => ⟨S1024x1152, .f32⟩
  | 91 => ⟨S1024x1152, .f32⟩
  | 92 => ⟨S1024x1152, .f32⟩
  | 93 => ⟨S_, .f32⟩
  | 94 => ⟨S1024x1152, .f32⟩
  | 95 => ⟨S1024x1152, .f32⟩
  | 96 => ⟨S1024x1152, .f32⟩
  | 97 => ⟨S_, .f32⟩
  | 98 => ⟨S1024x1152, .f32⟩
  | 99 => ⟨S1024x1152, .f32⟩
  | 100 => ⟨S_, .f32⟩
  | 101 => ⟨S1024x1152, .f32⟩
  | 102 => ⟨S1024x1152, .f32⟩
  | 103 => ⟨S1024x1152, .f32⟩
  | 104 => ⟨S_, .f32⟩
  | 105 => ⟨S1024x1152, .f32⟩
  | 106 => ⟨S1024x1152, .f32⟩
  | 107 => ⟨S1024x1152, .f32⟩
  | 108 => ⟨S_, .f32⟩
  | 109 => ⟨S1024x1152, .f32⟩
  | 110 => ⟨S1024x1152, .f32⟩
  | 111 => ⟨S1024x1152, .f32⟩
  | 112 => ⟨S_, .f32⟩
  | 113 => ⟨S1024x1152, .f32⟩
  | 114 => ⟨S1024x1152, .f32⟩
  | 115 => ⟨S_, .f32⟩
  | 116 => ⟨S704x1024, .f32⟩
  | 117 => ⟨S704x1024, .f32⟩
  | 118 => ⟨S_, .f32⟩
  | 119 => ⟨S704x1024, .f32⟩
  | 120 => ⟨S704x1024, .f32⟩
  | 121 => ⟨S704x1024, .f32⟩
  | 122 => ⟨S_, .f32⟩
  | 123 => ⟨S704x1024, .f32⟩
  | 124 => ⟨S704x1024, .f32⟩
  | 125 => ⟨S704x1024, .f32⟩
  | 126 => ⟨S_, .f32⟩
  | 127 => ⟨S704x1024, .f32⟩
  | _ => ⟨S1x1024x704, .f32⟩

abbrev hbmTy0_2 (i : Nat) : BufTy := match i % 128 with
  | 0 => ⟨S704x1024, .f32⟩
  | 1 => ⟨S704x1024, .f32⟩
  | 2 => ⟨S_, .f32⟩
  | 3 => ⟨S704x1024, .f32⟩
  | 4 => ⟨S704x1024, .f32⟩
  | 5 => ⟨S_, .f32⟩
  | 6 => ⟨S704x1024, .f32⟩
  | 7 => ⟨S704x1024, .f32⟩
  | 8 => ⟨S704x1024, .f32⟩
  | 9 => ⟨S_, .f32⟩
  | 10 => ⟨S704x1024, .f32⟩
  | 11 => ⟨S704x1024, .f32⟩
  | 12 => ⟨S704x1024, .f32⟩
  | 13 => ⟨S_, .f32⟩
  | 14 => ⟨S704x1024, .f32⟩
  | 15 => ⟨S704x1024, .f32⟩
  | 16 => ⟨S704x1024, .f32⟩
  | 17 => ⟨S_, .f32⟩
  | 18 => ⟨S704x1024, .f32⟩
  | 19 => ⟨S704x1024, .f32⟩
  | 20 => ⟨S_, .f32⟩
  | 21 => ⟨S352x1024, .f32⟩
  | 22 => ⟨S352x1024, .f32⟩
  | 23 => ⟨S_, .f32⟩
  | 24 => ⟨S352x1024, .f32⟩
  | 25 => ⟨S352x1024, .f32⟩
  | 26 => ⟨S352x1024, .f32⟩
  | 27 => ⟨S_, .f32⟩
  | 28 => ⟨S352x1024, .f32⟩
  | 29 => ⟨S352x1024, .f32⟩
  | 30 => ⟨S352x1024, .f32⟩
  | 31 => ⟨S_, .f32⟩
  | 32 => ⟨S352x1024, .f32⟩
  | 33 => ⟨S352x1024, .f32⟩
  | 34 => ⟨S352x1024, .f32⟩
  | 35 => ⟨S_, .f32⟩
  | 36 => ⟨S352x1024, .f32⟩
  | 37 => ⟨S352x1024, .f32⟩
  | 38 => ⟨S_, .f32⟩
  | 39 => ⟨S352x1024, .f32⟩
  | 40 => ⟨S352x1024, .f32⟩
  | 41 => ⟨S352x1024, .f32⟩
  | 42 => ⟨S_, .f32⟩
  | 43 => ⟨S352x1024, .f32⟩
  | 44 => ⟨S352x1024, .f32⟩
  | 45 => ⟨S352x1024, .f32⟩
  | 46 => ⟨S_, .f32⟩
  | 47 => ⟨S352x1024, .f32⟩
  | 48 => ⟨S352x1024, .f32⟩
  | 49 => ⟨S352x1024, .f32⟩
  | 50 => ⟨S_, .f32⟩
  | 51 => ⟨S352x1024, .f32⟩
  | 52 => ⟨S352x1024, .f32⟩
  | _ => ⟨S1x1024x704, .f32⟩

abbrev hbmTy (i : Nat) : BufTy := match i / 128 with
  | 0 => hbmTy0_0 i
  | 1 => hbmTy0_1 i
  | 2 => hbmTy0_2 i
  | _ => ⟨S1x1024x704, .f32⟩

abbrev bufTy : (tb : Table) → Fin (tcTables nBuf tb) → BufTy
  | .hbm, ⟨i, _⟩ => hbmTy i
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_cst : Ref sig .tc := ⟨.hbm, 30, rfl⟩
abbrev main_v1 : Ref sig .tc := ⟨.hbm, 31, rfl⟩
abbrev main_v2 : Ref sig .tc := ⟨.hbm, 32, rfl⟩
abbrev main_cst_0 : Ref sig .tc := ⟨.hbm, 33, rfl⟩
abbrev main_v3 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_v6 : Ref sig .tc := ⟨.hbm, 38, rfl⟩
abbrev main_cst_2 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_3 : Ref sig .tc := ⟨.hbm, 46, rfl⟩
abbrev main_v13 : Ref sig .tc := ⟨.hbm, 47, rfl⟩
abbrev main_v14 : Ref sig .tc := ⟨.hbm, 48, rfl⟩
abbrev main_cst_4 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_5 : Ref sig .tc := ⟨.hbm, 78, rfl⟩
abbrev main_v43 : Ref sig .tc := ⟨.hbm, 79, rfl⟩
abbrev main_v44 : Ref sig .tc := ⟨.hbm, 80, rfl⟩
abbrev main_cst_6 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_7 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_9 : Ref sig .tc := ⟨.hbm, 93, rfl⟩
abbrev main_v54 : Ref sig .tc := ⟨.hbm, 94, rfl⟩
abbrev main_v55 : Ref sig .tc := ⟨.hbm, 95, rfl⟩
abbrev main_cst_10 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_11 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_12 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_13 : Ref sig .tc := ⟨.hbm, 108, rfl⟩
abbrev main_v65 : Ref sig .tc := ⟨.hbm, 109, rfl⟩
abbrev main_v66 : Ref sig .tc := ⟨.hbm, 110, rfl⟩
abbrev main_cst_14 : Ref sig .tc := ⟨.hbm, 111, rfl⟩
abbrev main_v67 : Ref sig .tc := ⟨.hbm, 112, rfl⟩
abbrev main_v68 : Ref sig .tc := ⟨.hbm, 113, rfl⟩
abbrev main_cst_15 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_cst_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_17 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_18 : Ref sig .tc := ⟨.hbm, 126, rfl⟩
abbrev main_v78 : Ref sig .tc := ⟨.hbm, 127, rfl⟩
abbrev main_v79 : Ref sig .tc := ⟨.hbm, 128, rfl⟩
abbrev main_cst_19 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_20 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_21 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_cst_22 : Ref sig .tc := ⟨.hbm, 141, rfl⟩
abbrev main_v89 : Ref sig .tc := ⟨.hbm, 142, rfl⟩
abbrev main_v90 : Ref sig .tc := ⟨.hbm, 143, rfl⟩
abbrev main_cst_23 : Ref sig .tc := ⟨.hbm, 144, rfl⟩
abbrev main_v91 : Ref sig .tc := ⟨.hbm, 145, rfl⟩
abbrev main_v92 : Ref sig .tc := ⟨.hbm, 146, rfl⟩
abbrev main_cst_24 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_25 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_cst_26 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_27 : Ref sig .tc := ⟨.hbm, 159, rfl⟩
abbrev main_v102 : Ref sig .tc := ⟨.hbm, 160, rfl⟩
abbrev main_v103 : Ref sig .tc := ⟨.hbm, 161, rfl⟩
abbrev main_cst_28 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_29 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_30 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_cst_31 : Ref sig .tc := ⟨.hbm, 174, rfl⟩
abbrev main_v113 : Ref sig .tc := ⟨.hbm, 175, rfl⟩
abbrev main_v114 : Ref sig .tc := ⟨.hbm, 176, rfl⟩
abbrev main_cst_32 : Ref sig .tc := ⟨.hbm, 177, rfl⟩
abbrev main_v115 : Ref sig .tc := ⟨.hbm, 178, rfl⟩
abbrev main_v116 : Ref sig .tc := ⟨.hbm, 179, rfl⟩
abbrev main_cst_33 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_34 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_35 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_cst_36 : Ref sig .tc := ⟨.hbm, 192, rfl⟩
abbrev main_v126 : Ref sig .tc := ⟨.hbm, 193, rfl⟩
abbrev main_v127 : Ref sig .tc := ⟨.hbm, 194, rfl⟩
abbrev main_cst_37 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_38 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_39 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_cst_40 : Ref sig .tc := ⟨.hbm, 207, rfl⟩
abbrev main_v137 : Ref sig .tc := ⟨.hbm, 208, rfl⟩
abbrev main_v138 : Ref sig .tc := ⟨.hbm, 209, rfl⟩
abbrev main_cst_41 : Ref sig .tc := ⟨.hbm, 210, rfl⟩
abbrev main_v139 : Ref sig .tc := ⟨.hbm, 211, rfl⟩
abbrev main_v140 : Ref sig .tc := ⟨.hbm, 212, rfl⟩
abbrev main_cst_42 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_cst_43 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_cst_44 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_cst_45 : Ref sig .tc := ⟨.hbm, 225, rfl⟩
abbrev main_v150 : Ref sig .tc := ⟨.hbm, 226, rfl⟩
abbrev main_v151 : Ref sig .tc := ⟨.hbm, 227, rfl⟩
abbrev main_cst_46 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_cst_47 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_48 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_cst_49 : Ref sig .tc := ⟨.hbm, 240, rfl⟩
abbrev main_v161 : Ref sig .tc := ⟨.hbm, 241, rfl⟩
abbrev main_v162 : Ref sig .tc := ⟨.hbm, 242, rfl⟩
abbrev main_cst_50 : Ref sig .tc := ⟨.hbm, 243, rfl⟩
abbrev main_v163 : Ref sig .tc := ⟨.hbm, 244, rfl⟩
abbrev main_v164 : Ref sig .tc := ⟨.hbm, 245, rfl⟩
abbrev main_cst_51 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_cst_52 : Ref sig .tc := ⟨.hbm, 250, rfl⟩
abbrev main_v168 : Ref sig .tc := ⟨.hbm, 251, rfl⟩
abbrev main_v169 : Ref sig .tc := ⟨.hbm, 252, rfl⟩
abbrev main_v170 : Ref sig .tc := ⟨.hbm, 253, rfl⟩
abbrev main_cst_53 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_cst_54 : Ref sig .tc := ⟨.hbm, 258, rfl⟩
abbrev main_v174 : Ref sig .tc := ⟨.hbm, 259, rfl⟩
abbrev main_v175 : Ref sig .tc := ⟨.hbm, 260, rfl⟩
abbrev main_cst_55 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_cst_56 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_cst_57 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_cst_58 : Ref sig .tc := ⟨.hbm, 273, rfl⟩
abbrev main_v185 : Ref sig .tc := ⟨.hbm, 274, rfl⟩
abbrev main_v186 : Ref sig .tc := ⟨.hbm, 275, rfl⟩
abbrev main_cst_59 : Ref sig .tc := ⟨.hbm, 276, rfl⟩
abbrev main_v187 : Ref sig .tc := ⟨.hbm, 277, rfl⟩
abbrev main_v188 : Ref sig .tc := ⟨.hbm, 278, rfl⟩
abbrev main_cst_60 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_cst_61 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_cst_62 : Ref sig .tc := ⟨.hbm, 287, rfl⟩
abbrev main_v195 : Ref sig .tc := ⟨.hbm, 288, rfl⟩
abbrev main_v196 : Ref sig .tc := ⟨.hbm, 289, rfl⟩
abbrev main_v197 : Ref sig .tc := ⟨.hbm, 290, rfl⟩
abbrev main_cst_63 : Ref sig .tc := ⟨.hbm, 291, rfl⟩
abbrev main_v198 : Ref sig .tc := ⟨.hbm, 292, rfl⟩
abbrev main_v199 : Ref sig .tc := ⟨.hbm, 293, rfl⟩
abbrev main_cst_64 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_cst_65 : Ref sig .tc := ⟨.hbm, 298, rfl⟩
abbrev main_v203 : Ref sig .tc := ⟨.hbm, 299, rfl⟩
abbrev main_v204 : Ref sig .tc := ⟨.hbm, 300, rfl⟩
abbrev main_v205 : Ref sig .tc := ⟨.hbm, 301, rfl⟩
abbrev main_cst_66 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_cst_67 : Ref sig .tc := ⟨.hbm, 306, rfl⟩
abbrev main_v209 : Ref sig .tc := ⟨.hbm, 307, rfl⟩
abbrev main_v210 : Ref sig .tc := ⟨.hbm, 308, rfl⟩

abbrev nD : Nat := 1
abbrev τ : Topo := Topo.v7x

variable {F : FTy → Type} [FloatOps F]
-- ==== Proof.Spec.lean ====
module

public import Idealize.ShloMosaic.Lib.Pointwise

@[expose] public section

/-!
The feed-forward block and the gradient of its loss for ONE token, over the real numbers.

A token carries its own rows of the input and of the target, its sequence's modulation rows, and the two gains and
the two weight matrices that every token shares. Everything the program returns is a function of one token, or a
sum of such a function over the tokens.
-/

noncomputable section

namespace Cert.Ffn

open Finset

/-- What one token's loss depends on. -/
structure Tok where
  /-- the block's input -/
  x : Fin 1024 → ℝ
  /-- the loss target -/
  t : Fin 1024 → ℝ
  /-- the shift, the scale and the output gate of the token's sequence -/
  sh : Fin 1024 → ℝ
  sc : Fin 1024 → ℝ
  gt : Fin 1024 → ℝ
  /-- the gains of the two norms -/
  gpre : Fin 1024 → ℝ
  gpost : Fin 1024 → ℝ
  /-- the input projection (gate columns, then up columns) and the output projection -/
  wi : Fin 1024 → Fin 5632 → ℝ
  wo : Fin 2816 → Fin 1024 → ℝ

/-- The constant added under both square roots: the rational that the float word of `1e-6` is. -/
def eps : ℝ := 8796093 / 8796093022208

/-- The mean of a row of length 1024. -/
def mean (v : Fin 1024 → ℝ) : ℝ := (∑ k, v k) / 1024

/-- The reciprocal root mean square of a row. -/
def rrms (v : Fin 1024 → ℝ) : ℝ := (√(mean (fun k => v k * v k) + eps))⁻¹

/-- The logistic function, by the hyperbolic tangent. -/
def lgst (v : ℝ) : ℝ := 1 / 2 * Real.tanh (1 / 2 * v) + 1 / 2

/-- The backward pass of `v ↦ v / rms v`, given the row `v / rms v`, the reciprocal root mean square and the
    cotangent. -/
def rmsBack (r : ℝ) (vh d : Fin 1024 → ℝ) (k : Fin 1024) : ℝ := r * (d k - vh k * mean (fun i => d i * vh i))

/-- Column `f` of the gate half of the input projection. -/
def gcol (f : Fin 2816) : Fin 5632 := ⟨f.val, by omega⟩
/-- Column `f` of the up half of the input projection. -/
def ucol (f : Fin 2816) : Fin 5632 := ⟨2816 + f.val, by omega⟩
/-- Feature `f` of chunk `c` of the four chunks of hidden features. -/
def ch (c : Fin 4) (f : Fin 704) : Fin 2816 := ⟨704 * c.val + f.val, by omega⟩
/-- Column `f` of slab `g` of the eight slabs of the input projection. -/
def slab (g : Fin 8) (f : Fin 704) : Fin 5632 := ⟨704 * g.val + f.val, by omega⟩
/-- The first 256 model coordinates. -/
def lo (k : Fin 256) : Fin 1024 := ⟨k.val, by omega⟩
/-- The last 768 model coordinates. -/
def hi (k : Fin 768) : Fin 1024 := ⟨256 + k.val, by omega⟩

namespace Tok

variable (T : Tok)

/-- reciprocal root mean square of the input -/
def r : ℝ := rrms T.x
/-- normalised input -/
def xh (k : Fin 1024) : ℝ := T.x k * T.r
/-- normalised input times the gain -/
def n (k : Fin 1024) : ℝ := T.xh k * T.gpre k
/-- modulated input of the projection -/
def h (k : Fin 1024) : ℝ := T.n k * (1 + T.sc k) + T.sh k
/-- input projection -/
def gu (j : Fin 5632) : ℝ := ∑ k, T.h k * T.wi k j
/-- gate half -/
def gate (f : Fin 2816) : ℝ := T.gu (gcol f)
/-- up half -/
def up (f : Fin 2816) : ℝ := T.gu (ucol f)
/-- gated activation -/
def act (f : Fin 2816) : ℝ := T.gate f * lgst (T.gate f) * T.up f
/-- output projection -/
def y (k : Fin 1024) : ℝ := ∑ f, T.act f * T.wo f k
/-- reciprocal root mean square of the output projection -/
def ry : ℝ := rrms T.y
/-- normalised output projection -/
def yh (k : Fin 1024) : ℝ := T.y k * T.ry
/-- normalised output projection times the gain -/
def pn (k : Fin 1024) : ℝ := T.yh k * T.gpost k
/-- the block's output less the target -/
def err (k : Fin 1024) : ℝ := T.x k + (1 / 2 * T.gt k) * T.pn k - T.t k
/-- the token's mean squared error -/
def mse : ℝ := mean (fun k => T.err k * T.err k)
/-- gradient at the block's output -/
def dxo (k : Fin 1024) : ℝ := T.err k * (1 / 1024)
/-- gradient at the normalised output projection times the gain -/
def dp (k : Fin 1024) : ℝ := (1 / 2 * T.gt k) * T.dxo k
/-- gradient at the normalised output projection -/
def dyh (k : Fin 1024) : ℝ := T.dp k * T.gpost k
/-- gradient at the output projection -/
def dy (k : Fin 1024) : ℝ := rmsBack T.ry T.yh T.dyh k
/-- gradient at the gated activation -/
def dact (f : Fin 2816) : ℝ := ∑ k, T.dy k * T.wo f k
/-- gradient at the up half -/
def dup (f : Fin 2816) : ℝ := T.dact f * (T.gate f * lgst (T.gate f))
/-- gradient at the gate half -/
def dgate (f : Fin 2816) : ℝ :=
  T.dact f * T.up f * (lgst (T.gate f) * (1 + T.gate f * (1 - lgst (T.gate f))))
/-- gradient at the input projection -/
def dgu (j : Fin 5632) : ℝ :=
  if h : j.val < 2816 then T.dgate ⟨j.val, h⟩ else T.dup ⟨j.val - 2816, by omega⟩
/-- gradient at the modulated input of the projection -/
def dh (k : Fin 1024) : ℝ := ∑ j, T.dgu j * T.wi k j
/-- gradient at the normalised input times the gain -/
def dn (k : Fin 1024) : ℝ := T.dh k * (1 + T.sc k)
/-- gradient at the normalised input -/
def dxh (k : Fin 1024) : ℝ := T.dn k * T.gpre k
/-- gradient at the block's input -/
def dx (k : Fin 1024) : ℝ := T.dxo k + rmsBack T.r T.xh T.dxh k

end Tok

/-! ### Sums cut into the pieces the tiles use -/

/-- A sum over the model coordinates, its first 256 terms apart. -/
theorem sum_lohi (g : Fin 1024 → ℝ) : ∑ k, g k = ∑ k, g (lo k) + ∑ k, g (hi k) := by
  have e := Fin.sum_univ_add (a := 256) (b := 768) g
  exact e

/-- A sum over the hidden features, chunk by chunk. -/
theorem sum_ch (g : Fin 2816 → ℝ) :
    ∑ f, g f = ∑ f, g (ch 0 f) + ∑ f, g (ch 1 f) + ∑ f, g (ch 2 f) + ∑ f, g (ch 3 f) := by
  have e := Fin.sum_univ_add (a := 704 + 704 + 704) (b := 704) g
  rw [Fin.sum_univ_add (a := 704 + 704) (b := 704), Fin.sum_univ_add (a := 704) (b := 704)] at e
  exact e

/-- A sum over the columns of the input projection, the gate half and the up half. -/
theorem sum_gu (g : Fin 5632 → ℝ) : ∑ j, g j = ∑ f, g (gcol f) + ∑ f, g (ucol f) := by
  have e := Fin.sum_univ_add (a := 2816) (b := 2816) g
  exact e

theorem slab_gate (c : Fin 4) (f : Fin 704) (g : Fin 8) (hg : g.val = c.val) : slab g f = gcol (ch c f) :=
  Fin.ext (by simp [slab, gcol, ch, hg])

theorem slab_up (c : Fin 4) (f : Fin 704) (g : Fin 8) (hg : g.val = 4 + c.val) : slab g f = ucol (ch c f) :=
  Fin.ext (by simp [slab, ucol, ch, hg]; omega)

namespace Tok

variable (T : Tok)

@[simp] theorem dgu_gcol (f : Fin 2816) : T.dgu (gcol f) = T.dgate f := by
  simp [dgu, gcol]

@[simp] theorem dgu_ucol (f : Fin 2816) : T.dgu (ucol f) = T.dup f := by
  simp [dgu, ucol]

/-- The input projection's gradient pulled back, chunk by chunk in the order the chunks are visited. -/
theorem dh_chunks (k : Fin 1024) : T.dh k =
    (∑ f, T.dgate (ch 0 f) * T.wi k (gcol (ch 0 f))) + (∑ f, T.dup (ch 0 f) * T.wi k (ucol (ch 0 f)))
    + (∑ f, T.dgate (ch 1 f) * T.wi k (gcol (ch 1 f))) + (∑ f, T.dup (ch 1 f) * T.wi k (ucol (ch 1 f)))
    + (∑ f, T.dgate (ch 2 f) * T.wi k (gcol (ch 2 f))) + (∑ f, T.dup (ch 2 f) * T.wi k (ucol (ch 2 f)))
    + (∑ f, T.dgate (ch 3 f) * T.wi k (gcol (ch 3 f))) + (∑ f, T.dup (ch 3 f) * T.wi k (ucol (ch 3 f))) := by
  rw [dh, sum_gu, sum_ch, sum_ch]
  simp only [dgu_gcol, dgu_ucol]
  ring

/-- The input projection, its two halves of model coordinates apart. -/
theorem gu_lohi (j : Fin 5632) :
    T.gu j = (∑ k, T.h (lo k) * T.wi (lo k) j) + ∑ k, T.h (hi k) * T.wi (hi k) j := sum_lohi _

end Tok

end Cert.Ffn

end
-- ==== Proof.Reals.lean ====
module

public import proofs.«01_k».proof.Proof.Spec
public import Idealize.ShloMosaic.PureOps.Ideal

@[expose] public section

/-!
Arithmetic on extended reals that are real numbers: finite sums, the constants the two programs name, the mean of a
row, and the reciprocal square root of a positive number.
-/

noncomputable section

namespace Cert.Ffn

open Finset Idealize.ShloMosaic

/-- A finite sum of real numbers, taken among the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The word of one half. -/
theorem lit_half : Ideal.ofBits FTy.f32 0x3F000000#32 = ((1 / 2 : ℝ) : EReal) := by
  simp [Ideal.ofBits, Ideal.ieee, -EReal.coe_mul]; norm_num

/-- The word of minus one half. -/
theorem lit_neg_half : Ideal.ofBits FTy.f32 0xBF000000#32 = ((-(1 / 2) : ℝ) : EReal) := by
  simp [Ideal.ofBits, Ideal.ieee, -EReal.coe_mul]; norm_num

/-- The word of two. -/
theorem lit_two : Ideal.ofBits FTy.f32 0x40000000#32 = ((2 : ℝ) : EReal) := by
  simp [Ideal.ofBits, Ideal.ieee, -EReal.coe_mul]; norm_num

/-- The word of `1024`. -/
theorem lit_1024 : Ideal.ofBits FTy.f32 0x44800000#32 = ((1024 : ℝ) : EReal) := by
  simp [Ideal.ofBits, Ideal.ieee, -EReal.coe_mul]; norm_num

/-- The word of `1 / 1024`. -/
theorem lit_inv1024 : Ideal.ofBits FTy.f32 0x3A800000#32 = ((1 / 1024 : ℝ) : EReal) := by
  simp [Ideal.ofBits, Ideal.ieee, -EReal.coe_mul]; norm_num

/-- The word of the constant under the square roots. -/
theorem lit_eps : Ideal.ofBits FTy.f32 0x358637BD#32 = ((eps : ℝ) : EReal) := by
  simp [Ideal.ofBits, Ideal.ieee, -EReal.coe_mul, eps]; norm_num

/-- Division by `1024`. -/
theorem div_1024 (s : ℝ) : Ideal.div ((s : ℝ) : EReal) ((1024 : ℝ) : EReal) = ((s / 1024 : ℝ) : EReal) := by
  rw [Ideal.div_coe (by norm_num), ← EReal.coe_mul]; congr 1; ring

theorem eps_pos : 0 < eps := by unfold eps; norm_num

/-- A mean of squares is not negative. -/
theorem mean_sq_nonneg (v : Fin 1024 → ℝ) : 0 ≤ mean (fun k => v k * v k) :=
  div_nonneg (Finset.sum_nonneg fun k _ => mul_self_nonneg (v k)) (by norm_num)

/-- The number under a square root is positive. -/
theorem ms_pos (v : Fin 1024 → ℝ) : 0 < mean (fun k => v k * v k) + eps :=
  add_pos_of_nonneg_of_pos (mean_sq_nonneg v) eps_pos

/-- The reciprocal square root of a positive number. -/
theorem rsqrt_pos {r : ℝ} (h : 0 < r) : Ideal.rsqrt ((r : ℝ) : EReal) = (((√r)⁻¹ : ℝ) : EReal) := by
  rw [Ideal.rsqrt_coe, if_neg (not_lt.mpr h.le), if_neg h.ne']

/-- The reciprocal root mean square of a row, from the row's mean of squares. -/
theorem rsqrt_ms (v : Fin 1024 → ℝ) :
    Ideal.rsqrt (((∑ k, v k * v k) / 1024 + eps : ℝ) : EReal) = ((rrms v : ℝ) : EReal) :=
  rsqrt_pos (ms_pos v)

/-- The rules that carry an expression of real numbers among the extended reals back to one real number. -/
theorem reals : Ideal.ofBits FTy.f32 0x3F000000#32 = ((1 / 2 : ℝ) : EReal)
    ∧ Ideal.ofBits FTy.f32 0x358637BD#32 = ((eps : ℝ) : EReal)
    ∧ Ideal.ofBits FTy.f32 0x44800000#32 = ((1024 : ℝ) : EReal)
    ∧ Ideal.ofBits FTy.f32 0x3A800000#32 = ((1 / 1024 : ℝ) : EReal)
    ∧ (1 : EReal) = ((1 : ℝ) : EReal)
    ∧ (∀ a b : ℝ, ((a : ℝ) : EReal) * ((b : ℝ) : EReal) = ((a * b : ℝ) : EReal))
    ∧ (∀ a b : ℝ, ((a : ℝ) : EReal) + ((b : ℝ) : EReal) = ((a + b : ℝ) : EReal))
    ∧ (∀ a b : ℝ, ((a : ℝ) : EReal) - ((b : ℝ) : EReal) = ((a - b : ℝ) : EReal))
    ∧ (∀ (ι : Type) (s : Finset ι) (f : ι → ℝ), ∑ i ∈ s, ((f i : ℝ) : EReal) = ((∑ i ∈ s, f i : ℝ) : EReal))
    ∧ (∀ s : ℝ, Ideal.div ((s : ℝ) : EReal) ((1024 : ℝ) : EReal) = ((s / 1024 : ℝ) : EReal))
    ∧ (∀ r : ℝ, Ideal.tanh ((r : ℝ) : EReal) = ((Real.tanh r : ℝ) : EReal))
    ∧ ∀ v : Fin 1024 → ℝ, Ideal.rsqrt (((∑ k, v k * v k) / 1024 + eps : ℝ) : EReal) = ((rrms v : ℝ) : EReal) :=
  ⟨lit_half, lit_eps, lit_1024, lit_inv1024, EReal.coe_one.symm, fun a b => (EReal.coe_mul a b).symm,
    fun a b => (EReal.coe_add a b).symm, fun a b => (EReal.coe_sub a b).symm, fun _ => sum_coe, div_1024, Ideal.tanh_coe, rsqrt_ms⟩

end Cert.Ffn

end
-- ==== Proof.PayFwd.lean ====
module

public import proofs.«01_k».proof.Proof.Gen.KernelIdeal.Skeleton
public import proofs.«01_k».proof.Proof.Reals
public import Idealize.ShloMosaic.Lib.Pointwise

@[expose] public section

set_option maxRecDepth 16384

/-!
What each value of the forward half of the kernel's body is at an index, when the values it is computed from are real numbers: the norm and
modulation of the input, the two projections, and the gated activation.
-/

noncomputable section

namespace Cert.KernelIdeal.Value

open Cert.KernelIdeal Cert.KernelIdeal.Gen Cert.Ffn
open Idealize.ShloMosaic Idealize.ShloMosaic.TcCoe Idealize.SL.Sem

/-- The input block. -/
theorem pay5_at {x : Fin 256 → Fin 1024 → ℝ}
    {v0 : Vec Ideal S256x1024 .f32}
    (h0 : ∀ p k, v0 (ix2 p k) = ((x p k : ℝ) : EReal)) (p : Fin 256) (k : Fin 1024) :
    k0_pay5 (F := Ideal) v0 (ix2 p k) = ((x p k : ℝ) : EReal) := by
  pointwise [k0_pay5]
  simp only [h0, reals] <;> rfl

/-- The scale row. -/
theorem pay6_at {s : Fin 1024 → ℝ}
    {v4 : Vec Ideal S1x1x1024 .f32}
    (h4 : ∀ k, v4 (ix3 0 0 k) = ((s k : ℝ) : EReal)) (k : Fin 1024) :
    k0_pay6 (F := Ideal) v4 (ix2 0 k) = ((s k : ℝ) : EReal) := by
  pointwise [k0_pay6]
  simp only [h4, reals] <;> rfl

/-- The gate row. -/
theorem pay7_at {s : Fin 1024 → ℝ}
    {v6 : Vec Ideal S1x1x1024 .f32}
    (h6 : ∀ k, v6 (ix3 0 0 k) = ((s k : ℝ) : EReal)) (k : Fin 1024) :
    k0_pay7 (F := Ideal) v6 (ix2 0 k) = ((s k : ℝ) : EReal) := by
  pointwise [k0_pay7]
  simp only [h6, reals] <;> rfl

/-- The first gain. -/
theorem pay8_at {s : Fin 1024 → ℝ}
    {v8 : Vec Ideal S1x1024 .f32}
    (h8 : ∀ k, v8 (ix2 0 k) = ((s k : ℝ) : EReal)) (k : Fin 1024) :
    k0_pay8 (F := Ideal) v8 (ix2 0 k) = ((s k : ℝ) : EReal) := by
  pointwise [k0_pay8]
  simp only [h8, reals] <;> rfl

/-- The second gain. -/
theorem pay9_at {s : Fin 1024 → ℝ}
    {v10 : Vec Ideal S1x1024 .f32}
    (h10 : ∀ k, v10 (ix2 0 k) = ((s k : ℝ) : EReal)) (k : Fin 1024) :
    k0_pay9 (F := Ideal) v10 (ix2 0 k) = ((s k : ℝ) : EReal) := by
  pointwise [k0_pay9]
  simp only [h10, reals] <;> rfl

/-- The reciprocal root mean square of each row. -/
theorem pay10_at {x : Fin 256 → Fin 1024 → ℝ}
    {v0 : Vec Ideal S256x1024 .f32}
    (h0 : ∀ p k, v0 (ix2 p k) = ((x p k : ℝ) : EReal)) (p : Fin 256) :
    k0_pay10 (F := Ideal) v0 (ix2 p 0) = ((rrms (x p) : ℝ) : EReal) := by
  pointwise [k0_pay10, k0_pay5]
  simp only [h0, reals] <;> rfl

/-- The normalised input. -/
theorem pay11_at {x : Fin 256 → Fin 1024 → ℝ}
    {v0 : Vec Ideal S256x1024 .f32}
    (h0 : ∀ p k, v0 (ix2 p k) = ((x p k : ℝ) : EReal)) (p : Fin 256) (k : Fin 1024) :
    k0_pay11 (F := Ideal) v0 (ix2 p k) = ((x p k * rrms (x p) : ℝ) : EReal) := by
  pointwise [k0_pay11]
  simp only [h0, pay5_at h0, pay10_at h0, reals] <;> rfl

/-- The normalised input times the gain. -/
theorem pay12_at {x : Fin 256 → Fin 1024 → ℝ} {g : Fin 1024 → ℝ}
    {v0 : Vec Ideal S256x1024 .f32} {v8 : Vec Ideal S1x1024 .f32}
    (h0 : ∀ p k, v0 (ix2 p k) = ((x p k : ℝ) : EReal)) (h8 : ∀ k, v8 (ix2 0 k) = ((g k : ℝ) : EReal)) (p : Fin 256) (k : Fin 1024) :
    k0_pay12 (F := Ideal) v0 v8 (ix2 p k) = ((x p k * rrms (x p) * g k : ℝ) : EReal) := by
  pointwise [k0_pay12]
  simp only [h0, h8, pay11_at h0, pay8_at h8, reals] <;> rfl

/-- The modulated input. -/
theorem pay13_at {x : Fin 256 → Fin 1024 → ℝ} {sh : Fin 1024 → ℝ} {sc : Fin 1024 → ℝ} {g : Fin 1024 → ℝ}
    {v0 : Vec Ideal S256x1024 .f32} {v2 : Vec Ideal S1x1x1024 .f32} {v4 : Vec Ideal S1x1x1024 .f32} {v8 : Vec Ideal S1x1024 .f32}
    (h0 : ∀ p k, v0 (ix2 p k) = ((x p k : ℝ) : EReal)) (h2 : ∀ k, v2 (ix3 0 0 k) = ((sh k : ℝ) : EReal)) (h4 : ∀ k, v4 (ix3 0 0 k) = ((sc k : ℝ) : EReal)) (h8 : ∀ k, v8 (ix2 0 k) = ((g k : ℝ) : EReal)) (p : Fin 256) (k : Fin 1024) :
    k0_pay13 (F := Ideal) v0 v2 v4 v8 (ix2 p k) = ((x p k * rrms (x p) * g k * (1 + sc k) + sh k : ℝ) : EReal) := by
  pointwise [k0_pay13]
  simp only [h0, h2, h4, h8, pay12_at h0 h8, pay6_at h4, reals] <;> rfl

/-- Its first 256 columns. -/
theorem pay14_at {x : Fin 256 → Fin 1024 → ℝ} {sh : Fin 1024 → ℝ} {sc : Fin 1024 → ℝ} {g : Fin 1024 → ℝ}
    {v0 : Vec Ideal S256x1024 .f32} {v2 : Vec Ideal S1x1x1024 .f32} {v4 : Vec Ideal S1x1x1024 .f32} {v8 : Vec Ideal S1x1024 .f32}
    (h0 : ∀ p k, v0 (ix2 p k) = ((x p k : ℝ) : EReal)) (h2 : ∀ k, v2 (ix3 0 0 k) = ((sh k : ℝ) : EReal)) (h4 : ∀ k, v4 (ix3 0 0 k) = ((sc k : ℝ) : EReal)) (h8 : ∀ k, v8 (ix2 0 k) = ((g k : ℝ) : EReal)) (p : Fin 256) (k : Fin 256) :
    k0_pay14 (F := Ideal) v0 v2 v4 v8 (ix2 p k) = ((x p (lo k) * rrms (x p) * g (lo k) * (1 + sc (lo k)) + sh (lo k) : ℝ) : EReal) := by
  pointwise [k0_pay14]
  simp only [h0, h2, h4, h8, pay13_at h0 h2 h4 h8, reals] <;> rfl

/-- Its last 768 columns. -/
theorem pay15_at {x : Fin 256 → Fin 1024 → ℝ} {sh : Fin 1024 → ℝ} {sc : Fin 1024 → ℝ} {g : Fin 1024 → ℝ}
    {v0 : Vec Ideal S256x1024 .f32} {v2 : Vec Ideal S1x1x1024 .f32} {v4 : Vec Ideal S1x1x1024 .f32} {v8 : Vec Ideal S1x1024 .f32}
    (h0 : ∀ p k, v0 (ix2 p k) = ((x p k : ℝ) : EReal)) (h2 : ∀ k, v2 (ix3 0 0 k) = ((sh k : ℝ) : EReal)) (h4 : ∀ k, v4 (ix3 0 0 k) = ((sc k : ℝ) : EReal)) (h8 : ∀ k, v8 (ix2 0 k) = ((g k : ℝ) : EReal)) (p : Fin 256) (k : Fin 768) :
    k0_pay15 (F := Ideal) v0 v2 v4 v8 (ix2 p k) = ((x p (hi k) * rrms (x p) * g (hi k) * (1 + sc (hi k)) + sh (hi k) : ℝ) : EReal) := by
  pointwise [k0_pay15]
  simp only [h0, h2, h4, h8, pay13_at h0 h2 h4 h8, reals] <;> rfl

/-- The zero the output projection starts from. -/
theorem pay16_at (p : Fin 256) (k : Fin 1024) : k0_pay16 (F := Ideal) (ix2 p k) = ((0 : ℝ) : EReal) := by
  pointwise [k0_pay16]
  exact EReal.coe_zero.symm

/-- A slab of the input projection, contracted in two pieces. -/
theorem pay17_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v35 : Vec Ideal S1x704x256 .bf16} {v38 : Vec Ideal S1x704x768 .bf16}
    (h32 : ∀ p k, v32 (ix2 p k) = ((a p k : ℝ) : EReal)) (h33 : ∀ p k, v33 (ix2 p k) = ((b p k : ℝ) : EReal)) (h35 : ∀ p k, v35 (ix3 0 p k) = ((wa p k : ℝ) : EReal)) (h38 : ∀ p k, v38 (ix3 0 p k) = ((wb p k : ℝ) : EReal)) (p : Fin 256) (k : Fin 704) :
    k0_pay17 (F := Ideal) v32 v33 v35 v38 (ix2 p k) = (((∑ i, a p i * wa k i) + ∑ i, b p i * wb k i : ℝ) : EReal) := by
  pointwise [k0_pay17]
  simp only [h32, h33, h35, h38, reals] <;> rfl

/-- A slab of the input projection, contracted in two pieces. -/
theorem pay18_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v42 : Vec Ideal S1x704x256 .bf16} {v45 : Vec Ideal S1x704x768 .bf16}
    (h32 : ∀ p k, v32 (ix2 p k) = ((a p k : ℝ) : EReal)) (h33 : ∀ p k, v33 (ix2 p k) = ((b p k : ℝ) : EReal)) (h42 : ∀ p k, v42 (ix3 0 p k) = ((wa p k : ℝ) : EReal)) (h45 : ∀ p k, v45 (ix3 0 p k) = ((wb p k : ℝ) : EReal)) (p : Fin 256) (k : Fin 704) :
    k0_pay18 (F := Ideal) v32 v33 v42 v45 (ix2 p k) = (((∑ i, a p i * wa k i) + ∑ i, b p i * wb k i : ℝ) : EReal) := by
  pointwise [k0_pay18]
  simp only [h32, h33, h42, h45, reals] <;> rfl

/-- A slab of the input projection, contracted in two pieces. -/
theorem pay24_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v76 : Vec Ideal S1x704x256 .bf16} {v79 : Vec Ideal S1x704x768 .bf16}
    (h32 : ∀ p k, v32 (ix2 p k) = ((a p k : ℝ) : EReal)) (h33 : ∀ p k, v33 (ix2 p k) = ((b p k : ℝ) : EReal)) (h76 : ∀ p k, v76 (ix3 0 p k) = ((wa p k : ℝ) : EReal)) (h79 : ∀ p k, v79 (ix3 0 p k) = ((wb p k : ℝ) : EReal)) (p : Fin 256) (k : Fin 704) :
    k0_pay24 (F := Ideal) v32 v33 v76 v79 (ix2 p k) = (((∑ i, a p i * wa k i) + ∑ i, b p i * wb k i : ℝ) : EReal) := by
  pointwise [k0_pay24]
  simp only [h32, h33, h76, h79, reals] <;> rfl

/-- A slab of the input projection, contracted in two pieces. -/
theorem pay25_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v83 : Vec Ideal S1x704x256 .bf16} {v86 : Vec Ideal S1x704x768 .bf16}
    (h32 : ∀ p k, v32 (ix2 p k) = ((a p k : ℝ) : EReal)) (h33 : ∀ p k, v33 (ix2 p k) = ((b p k : ℝ) : EReal)) (h83 : ∀ p k, v83 (ix3 0 p k) = ((wa p k : ℝ) : EReal)) (h86 : ∀ p k, v86 (ix3 0 p k) = ((wb p k : ℝ) : EReal)) (p : Fin 256) (k : Fin 704) :
    k0_pay25 (F := Ideal) v32 v33 v83 v86 (ix2 p k) = (((∑ i, a p i * wa k i) + ∑ i, b p i * wb k i : ℝ) : EReal) := by
  pointwise [k0_pay25]
  simp only [h32, h33, h83, h86, reals] <;> rfl

/-- A slab of the input projection, contracted in two pieces. -/
theorem pay31_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v117 : Vec Ideal S1x704x256 .bf16} {v120 : Vec Ideal S1x704x768 .bf16}
    (h32 : ∀ p k, v32 (ix2 p k) = ((a p k : ℝ) : EReal)) (h33 : ∀ p k, v33 (ix2 p k) = ((b p k : ℝ) : EReal)) (h117 : ∀ p k, v117 (ix3 0 p k) = ((wa p k : ℝ) : EReal)) (h120 : ∀ p k, v120 (ix3 0 p k) = ((wb p k : ℝ) : EReal)) (p : Fin 256) (k : Fin 704) :
    k0_pay31 (F := Ideal) v32 v33 v117 v120 (ix2 p k) = (((∑ i, a p i * wa k i) + ∑ i, b p i * wb k i : ℝ) : EReal) := by
  pointwise [k0_pay31]
  simp only [h32, h33, h117, h120, reals] <;> rfl

/-- A slab of the input projection, contracted in two pieces. -/
theorem pay38_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v158 : Vec Ideal S1x704x256 .bf16} {v161 : Vec Ideal S1x704x768 .bf16}
    (h32 : ∀ p k, v32 (ix2 p k) = ((a p k : ℝ) : EReal)) (h33 : ∀ p k, v33 (ix2 p k) = ((b p k : ℝ) : EReal)) (h158 : ∀ p k, v158 (ix3 0 p k) = ((wa p k : ℝ) : EReal)) (h161 : ∀ p k, v161 (ix3 0 p k) = ((wb p k : ℝ) : EReal)) (p : Fin 256) (k : Fin 704) :
    k0_pay38 (F := Ideal) v32 v33 v158 v161 (ix2 p k) = (((∑ i, a p i * wa k i) + ∑ i, b p i * wb k i : ℝ) : EReal) := by
  pointwise [k0_pay38]
  simp only [h32, h33, h158, h161, reals] <;> rfl

/-- A slab of the input projection, contracted in two pieces. -/
theorem pay39_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v165 : Vec Ideal S1x704x256 .bf16} {v168 : Vec Ideal S1x704x768 .bf16}
    (h32 : ∀ p k, v32 (ix2 p k) = ((a p k : ℝ) : EReal)) (h33 : ∀ p k, v33 (ix2 p k) = ((b p k : ℝ) : EReal)) (h165 : ∀ p k, v165 (ix3 0 p k) = ((wa p k : ℝ) : EReal)) (h168 : ∀ p k, v168 (ix3 0 p k) = ((wb p k : ℝ) : EReal)) (p : Fin 256) (k : Fin 704) :
    k0_pay39 (F := Ideal) v32 v33 v165 v168 (ix2 p k) = (((∑ i, a p i * wa k i) + ∑ i, b p i * wb k i : ℝ) : EReal) := by
  pointwise [k0_pay39]
  simp only [h32, h33, h165, h168, reals] <;> rfl

/-- A slab of the input projection, its first piece. -/
theorem pay32_at {a : Fin 256 → Fin 256 → ℝ} {wa : Fin 704 → Fin 256 → ℝ}
    {v32 : FVec Ideal S256x256 .bf16} {v124 : Vec Ideal S1x704x256 .bf16}
    (h32 : ∀ p k, v32 (ix2 p k) = ((a p k : ℝ) : EReal)) (h124 : ∀ p k, v124 (ix3 0 p k) = ((wa p k : ℝ) : EReal)) (p : Fin 256) (k : Fin 704) :
    k0_pay32 (F := Ideal) v32 v124 (ix2 p k) = ((∑ i, a p i * wa k i : ℝ) : EReal) := by
  pointwise [k0_pay32]
  simp only [h32, h124, reals] <;> rfl

/-- A slab of the input projection, its second piece added. -/
theorem pay33_at {b : Fin 256 → Fin 768 → ℝ} {u : Fin 256 → Fin 704 → ℝ} {wb : Fin 704 → Fin 768 → ℝ}
    {v33 : FVec Ideal S256x768 .bf16} {v126 : FVec Ideal S256x704 .f32} {v127 : Vec Ideal S1x704x768 .bf16}
    (h33 : ∀ p k, v33 (ix2 p k) = ((b p k : ℝ) : EReal)) (h126 : ∀ p k, v126 (ix2 p k) = ((u p k : ℝ) : EReal)) (h127 : ∀ p k, v127 (ix3 0 p k) = ((wb p k : ℝ) : EReal)) (p : Fin 256) (k : Fin 704) :
    k0_pay33 (F := Ideal) v33 v126 v127 (ix2 p k) = ((u p k + ∑ i, b p i * wb k i : ℝ) : EReal) := by
  pointwise [k0_pay33]
  simp only [h33, h126, h127, reals] <;> rfl

/-- The gated activation, first chunk. -/
theorem pay21_at {a : Fin 256 → Fin 256 → ℝ} {b : Fin 256 → Fin 768 → ℝ} {ga : Fin 704 → Fin 256 → ℝ} {gb : Fin 704 → Fin 768 → ℝ} {ua : Fin 704 → Fin 256 → ℝ} {ub : Fin 704 → Fin 768 → ℝ}
    {v32 : FVec Ideal S256x256 .bf16} {v33 : FVec Ideal S256x768 .bf16} {v35 : Vec Ideal S1x704x256 .bf16} {v38 : Vec Ideal S1x704x768 .bf16} {v42 : Vec Ideal S1x704x256 .bf16} {v45 : Vec Ideal S1x704x768 .bf16}
    (h32 : ∀ p k, v32 (ix2 p k) = ((a p k : ℝ) : EReal)) (h33 : ∀ p k, v33 (ix2 p k) = ((b p k : ℝ) : EReal)) (h35 : ∀ p k, v35 (ix3 0 p k) = ((ga p k : ℝ) : EReal)) (h38 : ∀ p k, v38 (ix3 0 p k) = ((gb p k : ℝ) : EReal)) (h42 : ∀ p k, v42 (ix3 0 p k) = ((ua p k : ℝ) : EReal)) (h45 : ∀ p k, v45 (ix3 0 p k) = ((ub p k : ℝ) : EReal)) (p : Fin 256) (k : Fin 704) :
    k0_pay21 (F := Ideal) v32 v33 v35 v38 v42 v45 (ix2 p k) = ((((∑ i, a p i * ga k i) + ∑ i, b p i * gb k i) * lgst (((∑ i, a p i * ga k i) + ∑ i, b p i * gb k i)) * ((∑ i, a p i * ua k i) + ∑ i, b p i * ub k i) : ℝ) : EReal) := by
  pointwise [k0_pay21]
  simp only [h32, h33, h35, h38, h42, h45, pay17_at h32 h33 h35 h38, pay18_at h32 h33 h42 h45, reals] <;> rfl

/-- The slab as it is kept. -/
theorem pay19_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v35 : Vec Ideal S1x704x256 .bf16} {v38 : Vec Ideal S1x704x768 .bf16}
    (h32 : ∀ p k, v32 (ix2 p k) = ((a p k : ℝ) : EReal)) (h33 : ∀ p k, v33 (ix2 p k) = ((b p k : ℝ) : EReal)) (h35 : ∀ p k, v35 (ix3 0 p k) = ((wa p k : ℝ) : EReal)) (h38 : ∀ p k, v38 (ix3 0 p k) = ((wb p k : ℝ) : EReal)) (p : Fin 256) (k : Fin 704) :
    k0_pay19 (F := Ideal) v32 v33 v35 v38 (ix3 0 p k) = (((∑ i, a p i * wa k i) + ∑ i, b p i * wb k i : ℝ) : EReal) := by
  pointwise [k0_pay19]
  simp only [h32, h33, h35, h38, pay17_at h32 h33 h35 h38, reals] <;> rfl

/-- The slab as it is kept. -/
theorem pay20_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v42 : Vec Ideal S1x704x256 .bf16} {v45 : Vec Ideal S1x704x768 .bf16}
    (h32 : ∀ p k, v32 (ix2 p k) = ((a p k : ℝ) : EReal)) (h33 : ∀ p k, v33 (ix2 p k) = ((b p k : ℝ) : EReal)) (h42 : ∀ p k, v42 (ix3 0 p k) = ((wa p k : ℝ) : EReal)) (h45 : ∀ p k, v45 (ix3 0 p k) = ((wb p k : ℝ) : EReal)) (p : Fin 256) (k : Fin 704) :
    k0_pay20 (F := Ideal) v32 v33 v42 v45 (ix3 0 p k) = (((∑ i, a p i * wa k i) + ∑ i, b p i * wb k i : ℝ) : EReal) := by
  pointwise [k0_pay20]
  simp only [h32, h33, h42, h45, pay18_at h32 h33 h42 h45, reals] <;> rfl

/-- The activation as it is stored. -/
theorem pay22_at {u : Fin 256 → Fin 704 → ℝ}
    {v66 : FVec Ideal S256x704 .bf16}
    (h66 : ∀ p k, v66 (ix2 p k) = ((u p k : ℝ) : EReal)) (p : Fin 256) (k : Fin 704) :
    k0_pay22 (F := Ideal) v66 (ix3 0 p k) = ((u p k : ℝ) : EReal) := by
  pointwise [k0_pay22]
  simp only [h66, reals] <;> rfl

/-- The output projection, the first chunk added. -/
theorem pay23_at {y : Fin 256 → Fin 1024 → ℝ} {a : Fin 256 → Fin 704 → ℝ} {w : Fin 704 → Fin 1024 → ℝ}
    {v34 : FVec Ideal S256x1024 .f32} {v70 : Vec Ideal S1x256x704 .bf16} {v72 : Vec Ideal S1x704x1024 .bf16}
    (h34 : ∀ p k, v34 (ix2 p k) = ((y p k : ℝ) : EReal)) (h70 : ∀ p k, v70 (ix3 0 p k) = ((a p k : ℝ) : EReal)) (h72 : ∀ p k, v72 (ix3 0 p k) = ((w p k : ℝ) : EReal)) (p : Fin 256) (k : Fin 1024) :
    k0_pay23 (F := Ideal) v34 v70 v72 (ix2 p k) = ((y p k + ∑ i, a p i * w i k : ℝ) : EReal) := by
  pointwise [k0_pay23]
  simp only [h34, h70, h72, reals] <;> rfl

/-- The output projection, the second chunk added. -/
theorem pay30_at {y : Fin 256 → Fin 1024 → ℝ} {a : Fin 256 → Fin 704 → ℝ} {w : Fin 704 → Fin 1024 → ℝ}
    {v75 : FVec Ideal S256x1024 .f32} {v111 : Vec Ideal S1x256x704 .bf16} {v113 : Vec Ideal S1x704x1024 .bf16}
    (h75 : ∀ p k, v75 (ix2 p k) = ((y p k : ℝ) : EReal)) (h111 : ∀ p k, v111 (ix3 0 p k) = ((a p k : ℝ) : EReal)) (h113 : ∀ p k, v113 (ix3 0 p k) = ((w p k : ℝ) : EReal)) (p : Fin 256) (k : Fin 1024) :
    k0_pay30 (F := Ideal) v75 v111 v113 (ix2 p k) = ((y p k + ∑ i, a p i * w i k : ℝ) : EReal) := by
  pointwise [k0_pay30]
  simp only [h75, h111, h113, reals] <;> rfl

/-- The output projection, the third chunk added. -/
theorem pay37_at {y : Fin 256 → Fin 1024 → ℝ} {a : Fin 256 → Fin 704 → ℝ} {w : Fin 704 → Fin 1024 → ℝ}
    {v116 : FVec Ideal S256x1024 .f32} {v152 : Vec Ideal S1x256x704 .bf16} {v154 : Vec Ideal S1x704x1024 .bf16}
    (h116 : ∀ p k, v116 (ix2 p k) = ((y p k : ℝ) : EReal)) (h152 : ∀ p k, v152 (ix3 0 p k) = ((a p k : ℝ) : EReal)) (h154 : ∀ p k, v154 (ix3 0 p k) = ((w p k : ℝ) : EReal)) (p : Fin 256) (k : Fin 1024) :
    k0_pay37 (F := Ideal) v116 v152 v154 (ix2 p k) = ((y p k + ∑ i, a p i * w i k : ℝ) : EReal) := by
  pointwise [k0_pay37]
  simp only [h116, h152, h154, reals] <;> rfl

/-- The output projection, the fourth chunk added. -/
theorem pay44_at {y : Fin 256 → Fin 1024 → ℝ} {a : Fin 256 → Fin 704 → ℝ} {w : Fin 704 → Fin 1024 → ℝ}
    {v157 : FVec Ideal S256x1024 .f32} {v193 : Vec Ideal S1x256x704 .bf16} {v195 : Vec Ideal S1x704x1024 .bf16}
    (h157 : ∀ p k, v157 (ix2 p k) = ((y p k : ℝ) : EReal)) (h193 : ∀ p k, v193 (ix3 0 p k) = ((a p k : ℝ) : EReal)) (h195 : ∀ p k, v195 (ix3 0 p k) = ((w p k : ℝ) : EReal)) (p : Fin 256) (k : Fin 1024) :
    k0_pay44 (F := Ideal) v157 v193 v195 (ix2 p k) = ((y p k + ∑ i, a p i * w i k : ℝ) : EReal) := by
  pointwise [k0_pay44]
  simp only [h157, h193, h195, reals] <;> rfl

/-- The slab as it is kept. -/
theorem pay26_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v76 : Vec Ideal S1x704x256 .bf16} {v79 : Vec Ideal S1x704x768 .bf16}
    (h32 : ∀ p k, v32 (ix2 p k) = ((a p k : ℝ) : EReal)) (h33 : ∀ p k, v33 (ix2 p k) = ((b p k : ℝ) : EReal)) (h76 : ∀ p k, v76 (ix3 0 p k) = ((wa p k : ℝ) : EReal)) (h79 : ∀ p k, v79 (ix3 0 p k) = ((wb p k : ℝ) : EReal)) (p : Fin 256) (k : Fin 704) :
    k0_pay26 (F := Ideal) v32 v33 v76 v79 (ix3 0 p k) = (((∑ i, a p i * wa k i) + ∑ i, b p i * wb k i : ℝ) : EReal) := by
  pointwise [k0_pay26]
  simp only [h32, h33, h76, h79, pay24_at h32 h33 h76 h79, reals] <;> rfl

/-- The slab, narrowed. -/
theorem pay27_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v83 : Vec Ideal S1x704x256 .bf16} {v86 : Vec Ideal S1x704x768 .bf16}
    (h32 : ∀ p k, v32 (ix2 p k) = ((a p k : ℝ) : EReal)) (h33 : ∀ p k, v33 (ix2 p k) = ((b p k : ℝ) : EReal)) (h83 : ∀ p k, v83 (ix3 0 p k) = ((wa p k : ℝ) : EReal)) (h86 : ∀ p k, v86 (ix3 0 p k) = ((wb p k : ℝ) : EReal)) (p : Fin 256) (k : Fin 704) :
    k0_pay27 (F := Ideal) v32 v33 v83 v86 (ix2 p k) = (((∑ i, a p i * wa k i) + ∑ i, b p i * wb k i : ℝ) : EReal) := by
  pointwise [k0_pay27]
  simp only [h32, h33, h83, h86, pay25_at h32 h33 h83 h86, reals] <;> rfl

/-- The slab as it is kept. -/
theorem pay28_at {u : Fin 256 → Fin 704 → ℝ}
    {v94 : FVec Ideal S256x704 .bf16}
    (h94 : ∀ p k, v94 (ix2 p k) = ((u p k : ℝ) : EReal)) (p : Fin 256) (k : Fin 704) :
    k0_pay28 (F := Ideal) v94 (ix3 0 p k) = ((u p k : ℝ) : EReal) := by
  pointwise [k0_pay28]
  simp only [h94, reals] <;> rfl

/-- The gated activation, second chunk. -/
theorem pay29_at {g : Fin 256 → Fin 704 → ℝ} {u : Fin 256 → Fin 704 → ℝ}
    {v82 : FVec Ideal S256x704 .f32} {v89 : FVec Ideal S256x704 .f32}
    (h82 : ∀ p k, v82 (ix2 p k) = ((g p k : ℝ) : EReal)) (h89 : ∀ p k, v89 (ix2 p k) = ((u p k : ℝ) : EReal)) (p : Fin 256) (k : Fin 704) :
    k0_pay29 (F := Ideal) v82 v89 (ix3 0 p k) = ((g p k * lgst (g p k) * u p k : ℝ) : EReal) := by
  pointwise [k0_pay29]
  simp only [h82, h89, reals] <;> rfl

/-- The slab as it is kept. -/
theorem pay34_at {u : Fin 256 → Fin 704 → ℝ}
    {v123 : FVec Ideal S256x704 .f32}
    (h123 : ∀ p k, v123 (ix2 p k) = ((u p k : ℝ) : EReal)) (p : Fin 256) (k : Fin 704) :
    k0_pay34 (F := Ideal) v123 (ix3 0 p k) = ((u p k : ℝ) : EReal) := by
  pointwise [k0_pay34]
  simp only [h123, reals] <;> rfl

/-- The slab as it is kept. -/
theorem pay35_at {b : Fin 256 → Fin 768 → ℝ} {u : Fin 256 → Fin 704 → ℝ} {wb : Fin 704 → Fin 768 → ℝ}
    {v33 : FVec Ideal S256x768 .bf16} {v126 : FVec Ideal S256x704 .f32} {v127 : Vec Ideal S1x704x768 .bf16}
    (h33 : ∀ p k, v33 (ix2 p k) = ((b p k : ℝ) : EReal)) (h126 : ∀ p k, v126 (ix2 p k) = ((u p k : ℝ) : EReal)) (h127 : ∀ p k, v127 (ix3 0 p k) = ((wb p k : ℝ) : EReal)) (p : Fin 256) (k : Fin 704) :
    k0_pay35 (F := Ideal) v33 v126 v127 (ix3 0 p k) = ((u p k + ∑ i, b p i * wb k i : ℝ) : EReal) := by
  pointwise [k0_pay35]
  simp only [h33, h126, h127, pay33_at h33 h126 h127, reals] <;> rfl

/-- The gated activation, third chunk. -/
theorem pay36_at {b : Fin 256 → Fin 768 → ℝ} {g : Fin 256 → Fin 704 → ℝ} {u : Fin 256 → Fin 704 → ℝ} {wb : Fin 704 → Fin 768 → ℝ}
    {v33 : FVec Ideal S256x768 .bf16} {v123 : FVec Ideal S256x704 .f32} {v126 : FVec Ideal S256x704 .f32} {v127 : Vec Ideal S1x704x768 .bf16}
    (h33 : ∀ p k, v33 (ix2 p k) = ((b p k : ℝ) : EReal)) (h123 : ∀ p k, v123 (ix2 p k) = ((g p k : ℝ) : EReal)) (h126 : ∀ p k, v126 (ix2 p k) = ((u p k : ℝ) : EReal)) (h127 : ∀ p k, v127 (ix3 0 p k) = ((wb p k : ℝ) : EReal)) (p : Fin 256) (k : Fin 704) :
    k0_pay36 (F := Ideal) v33 v123 v126 v127 (ix3 0 p k) = ((g p k * lgst (g p k) * (u p k + ∑ i, b p i * wb k i) : ℝ) : EReal) := by
  pointwise [k0_pay36]
  simp only [h33, h123, h126, h127, pay33_at h33 h126 h127, reals] <;> rfl

/-- The slab as it is kept. -/
theorem pay40_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v158 : Vec Ideal S1x704x256 .bf16} {v161 : Vec Ideal S1x704x768 .bf16}
    (h32 : ∀ p k, v32 (ix2 p k) = ((a p k : ℝ) : EReal)) (h33 : ∀ p k, v33 (ix2 p k) = ((b p k : ℝ) : EReal)) (h158 : ∀ p k, v158 (ix3 0 p k) = ((wa p k : ℝ) : EReal)) (h161 : ∀ p k, v161 (ix3 0 p k) = ((wb p k : ℝ) : EReal)) (p : Fin 256) (k : Fin 704) :
    k0_pay40 (F := Ideal) v32 v33 v158 v161 (ix3 0 p k) = (((∑ i, a p i * wa k i) + ∑ i, b p i * wb k i : ℝ) : EReal) := by
  pointwise [k0_pay40]
  simp only [h32, h33, h158, h161, pay38_at h32 h33 h158 h161, reals] <;> rfl

/-- The slab as it is kept. -/
theorem pay41_at {a : Fin 256 → Fin 256 → ℝ} {b : Fin 256 → Fin 768 → ℝ} {wa : Fin 704 → Fin 256 → ℝ} {wb : Fin 704 → Fin 768 → ℝ}
    {v32 : FVec Ideal S256x256 .bf16} {v33 : FVec Ideal S256x768 .bf16} {v165 : Vec Ideal S1x704x256 .bf16} {v168 : Vec Ideal S1x704x768 .bf16}
    (h32 : ∀ p k, v32 (ix2 p k) = ((a p k : ℝ) : EReal)) (h33 : ∀ p k, v33 (ix2 p k) = ((b p k : ℝ) : EReal)) (h165 : ∀ p k, v165 (ix3 0 p k) = ((wa p k : ℝ) : EReal)) (h168 : ∀ p k, v168 (ix3 0 p k) = ((wb p k : ℝ) : EReal)) (p : Fin 256) (k : Fin 704) :
    k0_pay41 (F := Ideal) v32 v33 v165 v168 (ix3 0 p k) = (((∑ i, a p i * wa k i) + ∑ i, b p i * wb k i : ℝ) : EReal) := by
  pointwise [k0_pay41]
  simp only [h32, h33, h165, h168, pay39_at h32 h33 h165 h168, reals] <;> rfl

/-- The gated activation, fourth chunk. -/
theorem pay42_at {a : Fin 256 → Fin 256 → ℝ} {b : Fin 256 → Fin 768 → ℝ} {ga : Fin 704 → Fin 256 → ℝ} {gb : Fin 704 → Fin 768 → ℝ} {ua : Fin 704 → Fin 256 → ℝ} {ub : Fin 704 → Fin 768 → ℝ}
    {v32 : FVec Ideal S256x256 .bf16} {v33 : FVec Ideal S256x768 .bf16} {v158 : Vec Ideal S1x704x256 .bf16} {v161 : Vec Ideal S1x704x768 .bf16} {v165 : Vec Ideal S1x704x256 .bf16} {v168 : Vec Ideal S1x704x768 .bf16}
    (h32 : ∀ p k, v32 (ix2 p k) = ((a p k : ℝ) : EReal)) (h33 : ∀ p k, v33 (ix2 p k) = ((b p k : ℝ) : EReal)) (h158 : ∀ p k, v158 (ix3 0 p k) = ((ga p k : ℝ) : EReal)) (h161 : ∀ p k, v161 (ix3 0 p k) = ((gb p k : ℝ) : EReal)) (h165 : ∀ p k, v165 (ix3 0 p k) = ((ua p k : ℝ) : EReal)) (h168 : ∀ p k, v168 (ix3 0 p k) = ((ub p k : ℝ) : EReal)) (p : Fin 256) (k : Fin 704) :
    k0_pay42 (F := Ideal) v32 v33 v158 v161 v165 v168 (ix2 p k) = ((((∑ i, a p i * ga k i) + ∑ i, b p i * gb k i) * lgst (((∑ i, a p i * ga k i) + ∑ i, b p i * gb k i)) * ((∑ i, a p i * ua k i) + ∑ i, b p i * ub k i) : ℝ) : EReal) := by
  pointwise [k0_pay42]
  simp only [h32, h33, h158, h161, h165, h168, pay38_at h32 h33 h158 h161, pay39_at h32 h33 h165 h168, reals] <;> rfl

/-- The activation as it is stored. -/
theorem pay43_at {u : Fin 256 → Fin 704 → ℝ}
    {v189 : FVec Ideal S256x704 .bf16}
    (h189 : ∀ p k, v189 (ix2 p k) = ((u p k : ℝ) : EReal)) (p : Fin 256) (k : Fin 704) :
    k0_pay43 (F := Ideal) v189 (ix3 0 p k) = ((u p k : ℝ) : EReal) := by
  pointwise [k0_pay43]
  simp only [h189, reals] <;> rfl

end Cert.KernelIdeal.Value

end
-- ==== Proof.PayBwd.lean ====
module

public import proofs.«01_k».proof.Proof.PayFwd
public import proofs.«01_k».proof.Proof.Reals
public import Idealize.ShloMosaic.Lib.Pointwise

@[expose] public section

set_option maxRecDepth 16384

/-!
What each value of the backward half of the kernel's body is at an index, when the values it is computed from are real numbers.
-/

noncomputable section

namespace Cert.KernelIdeal.Value

open Cert.KernelIdeal Cert.KernelIdeal.Gen Cert.Ffn
open Idealize.ShloMosaic Idealize.ShloMosaic.TcCoe Idealize.SL.Sem

/-- The reciprocal root mean square of the output projection. -/
theorem pay45_at {Y : Fin 256 → Fin 1024 → ℝ}
    {v157 : FVec Ideal S256x1024 .f32} {v193 : Vec Ideal S1x256x704 .bf16} {v195 : Vec Ideal S1x704x1024 .bf16}
    (hY : ∀ p k, k0_pay44 (F := Ideal) v157 v193 v195 (ix2 p k) = ((Y p k : ℝ) : EReal)) (p : Fin 256) :
    k0_pay45 (F := Ideal) v157 v193 v195 (ix2 p 0) = ((rrms (Y p) : ℝ) : EReal) := by
  pointwise [k0_pay45]
  simp only [hY, reals] <;> rfl

/-- The normalised output projection. -/
theorem pay46_at {Y : Fin 256 → Fin 1024 → ℝ}
    {v157 : FVec Ideal S256x1024 .f32} {v193 : Vec Ideal S1x256x704 .bf16} {v195 : Vec Ideal S1x704x1024 .bf16}
    (hY : ∀ p k, k0_pay44 (F := Ideal) v157 v193 v195 (ix2 p k) = ((Y p k : ℝ) : EReal)) (p : Fin 256) (k : Fin 1024) :
    k0_pay46 (F := Ideal) v157 v193 v195 (ix2 p k) = ((Y p k * rrms (Y p) : ℝ) : EReal) := by
  pointwise [k0_pay46]
  simp only [hY, pay45_at hY, reals] <;> rfl

/-- The normalised output projection times the gain. -/
theorem pay47_at {g : Fin 1024 → ℝ} {Y : Fin 256 → Fin 1024 → ℝ}
    {v11 : FVec Ideal S1x1024 .f32} {v157 : FVec Ideal S256x1024 .f32} {v193 : Vec Ideal S1x256x704 .bf16} {v195 : Vec Ideal S1x704x1024 .bf16}
    (h11 : ∀ k, v11 (ix2 0 k) = ((g k : ℝ) : EReal)) (hY : ∀ p k, k0_pay44 (F := Ideal) v157 v193 v195 (ix2 p k) = ((Y p k : ℝ) : EReal)) (p : Fin 256) (k : Fin 1024) :
    k0_pay47 (F := Ideal) v11 v157 v193 v195 (ix2 p k) = ((Y p k * rrms (Y p) * g k : ℝ) : EReal) := by
  pointwise [k0_pay47]
  simp only [h11, hY, pay46_at hY, reals] <;> rfl

/-- The error at the block's output. -/
theorem pay48_at {x : Fin 256 → Fin 1024 → ℝ} {gt : Fin 1024 → ℝ} {g : Fin 1024 → ℝ} {t : Fin 256 → Fin 1024 → ℝ} {Y : Fin 256 → Fin 1024 → ℝ}
    {v1 : FVec Ideal S256x1024 .f32} {v7 : FVec Ideal S1x1024 .f32} {v11 : FVec Ideal S1x1024 .f32} {v157 : FVec Ideal S256x1024 .f32} {v193 : Vec Ideal S1x256x704 .bf16} {v195 : Vec Ideal S1x704x1024 .bf16} {v216 : Vec Ideal S256x1024 .f32}
    (h1 : ∀ p k, v1 (ix2 p k) = ((x p k : ℝ) : EReal)) (h7 : ∀ k, v7 (ix2 0 k) = ((gt k : ℝ) : EReal)) (h11 : ∀ k, v11 (ix2 0 k) = ((g k : ℝ) : EReal)) (h216 : ∀ p k, v216 (ix2 p k) = ((t p k : ℝ) : EReal)) (hY : ∀ p k, k0_pay44 (F := Ideal) v157 v193 v195 (ix2 p k) = ((Y p k : ℝ) : EReal)) (p : Fin 256) (k : Fin 1024) :
    k0_pay48 (F := Ideal) v1 v7 v11 v157 v193 v195 v216 (ix2 p k) = (((x p k + 1 / 2 * gt k * (Y p k * rrms (Y p) * g k) - t p k) : ℝ) : EReal) := by
  pointwise [k0_pay48]
  simp only [h1, h7, h11, h216, hY, pay47_at h11 hY, reals] <;> rfl

/-- The gradient at the block's output. -/
theorem pay49_at {x : Fin 256 → Fin 1024 → ℝ} {gt : Fin 1024 → ℝ} {g : Fin 1024 → ℝ} {t : Fin 256 → Fin 1024 → ℝ} {Y : Fin 256 → Fin 1024 → ℝ}
    {v1 : FVec Ideal S256x1024 .f32} {v7 : FVec Ideal S1x1024 .f32} {v11 : FVec Ideal S1x1024 .f32} {v157 : FVec Ideal S256x1024 .f32} {v193 : Vec Ideal S1x256x704 .bf16} {v195 : Vec Ideal S1x704x1024 .bf16} {v216 : Vec Ideal S256x1024 .f32}
    (h1 : ∀ p k, v1 (ix2 p k) = ((x p k : ℝ) : EReal)) (h7 : ∀ k, v7 (ix2 0 k) = ((gt k : ℝ) : EReal)) (h11 : ∀ k, v11 (ix2 0 k) = ((g k : ℝ) : EReal)) (h216 : ∀ p k, v216 (ix2 p k) = ((t p k : ℝ) : EReal)) (hY : ∀ p k, k0_pay44 (F := Ideal) v157 v193 v195 (ix2 p k) = ((Y p k : ℝ) : EReal)) (p : Fin 256) (k : Fin 1024) :
    k0_pay49 (F := Ideal) v1 v7 v11 v157 v193 v195 v216 (ix2 p k) = (((x p k + 1 / 2 * gt k * (Y p k * rrms (Y p) * g k) - t p k) * (1 / 1024) : ℝ) : EReal) := by
  pointwise [k0_pay49]
  simp only [h1, h7, h11, h216, hY, pay48_at h1 h7 h11 h216 hY, reals] <;> rfl

/-- The gradient at the output gate. -/
theorem pay50_at {x : Fin 256 → Fin 1024 → ℝ} {gt : Fin 1024 → ℝ} {g : Fin 1024 → ℝ} {t : Fin 256 → Fin 1024 → ℝ} {Y : Fin 256 → Fin 1024 → ℝ}
    {v1 : FVec Ideal S256x1024 .f32} {v7 : FVec Ideal S1x1024 .f32} {v11 : FVec Ideal S1x1024 .f32} {v157 : FVec Ideal S256x1024 .f32} {v193 : Vec Ideal S1x256x704 .bf16} {v195 : Vec Ideal S1x704x1024 .bf16} {v216 : Vec Ideal S256x1024 .f32}
    (h1 : ∀ p k, v1 (ix2 p k) = ((x p k : ℝ) : EReal)) (h7 : ∀ k, v7 (ix2 0 k) = ((gt k : ℝ) : EReal)) (h11 : ∀ k, v11 (ix2 0 k) = ((g k : ℝ) : EReal)) (h216 : ∀ p k, v216 (ix2 p k) = ((t p k : ℝ) : EReal)) (hY : ∀ p k, k0_pay44 (F := Ideal) v157 v193 v195 (ix2 p k) = ((Y p k : ℝ) : EReal)) (k : Fin 1024) :
    k0_pay50 (F := Ideal) v1 v7 v11 v157 v193 v195 v216 (ix2 0 k) = ((∑ p, 1 / 2 * ((x p k + 1 / 2 * gt k * (Y p k * rrms (Y p) * g k) - t p k) * (1 / 1024)) * (Y p k * rrms (Y p) * g k) : ℝ) : EReal) := by
  pointwise [k0_pay50]
  simp only [h1, h7, h11, h216, hY, pay49_at h1 h7 h11 h216 hY, pay47_at h11 hY, reals] <;> rfl

/-- The gradient at the normalised output projection times the gain. -/
theorem pay51_at {x : Fin 256 → Fin 1024 → ℝ} {gt : Fin 1024 → ℝ} {g : Fin 1024 → ℝ} {t : Fin 256 → Fin 1024 → ℝ} {Y : Fin 256 → Fin 1024 → ℝ}
    {v1 : FVec Ideal S256x1024 .f32} {v7 : FVec Ideal S1x1024 .f32} {v11 : FVec Ideal S1x1024 .f32} {v157 : FVec Ideal S256x1024 .f32} {v193 : Vec Ideal S1x256x704 .bf16} {v195 : Vec Ideal S1x704x1024 .bf16} {v216 : Vec Ideal S256x1024 .f32}
    (h1 : ∀ p k, v1 (ix2 p k) = ((x p k : ℝ) : EReal)) (h7 : ∀ k, v7 (ix2 0 k) = ((gt k : ℝ) : EReal)) (h11 : ∀ k, v11 (ix2 0 k) = ((g k : ℝ) : EReal)) (h216 : ∀ p k, v216 (ix2 p k) = ((t p k : ℝ) : EReal)) (hY : ∀ p k, k0_pay44 (F := Ideal) v157 v193 v195 (ix2 p k) = ((Y p k : ℝ) : EReal)) (p : Fin 256) (k : Fin 1024) :
    k0_pay51 (F := Ideal) v1 v7 v11 v157 v193 v195 v216 (ix2 p k) = ((1 / 2 * gt k * ((x p k + 1 / 2 * gt k * (Y p k * rrms (Y p) * g k) - t p k) * (1 / 1024)) : ℝ) : EReal) := by
  pointwise [k0_pay51]
  simp only [h1, h7, h11, h216, hY, pay49_at h1 h7 h11 h216 hY, reals] <;> rfl

/-- The gradient at the second gain. -/
theorem pay52_at {x : Fin 256 → Fin 1024 → ℝ} {gt : Fin 1024 → ℝ} {g : Fin 1024 → ℝ} {t : Fin 256 → Fin 1024 → ℝ} {Y : Fin 256 → Fin 1024 → ℝ}
    {v1 : FVec Ideal S256x1024 .f32} {v7 : FVec Ideal S1x1024 .f32} {v11 : FVec Ideal S1x1024 .f32} {v157 : FVec Ideal S256x1024 .f32} {v193 : Vec Ideal S1x256x704 .bf16} {v195 : Vec Ideal S1x704x1024 .bf16} {v216 : Vec Ideal S256x1024 .f32}
    (h1 : ∀ p k, v1 (ix2 p k) = ((x p k : ℝ) : EReal)) (h7 : ∀ k, v7 (ix2 0 k) = ((gt k : ℝ) : EReal)) (h11 : ∀ k, v11 (ix2 0 k) = ((g k : ℝ) : EReal)) (h216 : ∀ p k, v216 (ix2 p k) = ((t p k : ℝ) : EReal)) (hY : ∀ p k, k0_pay44 (F := Ideal) v157 v193 v195 (ix2 p k) = ((Y p k : ℝ) : EReal)) (k : Fin 1024) :
    k0_pay52 (F := Ideal) v1 v7 v11 v157 v193 v195 v216 (ix2 0 k) = ((∑ p, 1 / 2 * gt k * ((x p k + 1 / 2 * gt k * (Y p k * rrms (Y p) * g k) - t p k) * (1 / 1024)) * (Y p k * rrms (Y p)) : ℝ) : EReal) := by
  pointwise [k0_pay52]
  simp only [h1, h7, h11, h216, hY, pay51_at h1 h7 h11 h216 hY, pay46_at hY, reals] <;> rfl

/-- The gradient at the output projection. -/
theorem pay53_at {g : Fin 1024 → ℝ} {r : Fin 256 → ℝ} {yh : Fin 256 → Fin 1024 → ℝ} {d : Fin 256 → Fin 1024 → ℝ}
    {v11 : FVec Ideal S1x1024 .f32} {v206 : FVec Ideal S256x1 .f32} {v208 : FVec Ideal S256x1024 .f32} {v229 : FVec Ideal S256x1024 .f32}
    (h11 : ∀ k, v11 (ix2 0 k) = ((g k : ℝ) : EReal)) (h206 : ∀ p, v206 (ix2 p 0) = ((r p : ℝ) : EReal)) (h208 : ∀ p k, v208 (ix2 p k) = ((yh p k : ℝ) : EReal)) (h229 : ∀ p k, v229 (ix2 p k) = ((d p k : ℝ) : EReal)) (p : Fin 256) (k : Fin 1024) :
    k0_pay53 (F := Ideal) v11 v206 v208 v229 (ix2 p k) = ((rmsBack (r p) (yh p) (fun i => d p i * g i) k : ℝ) : EReal) := by
  pointwise [k0_pay53]
  simp only [h11, h206, h208, h229, reals] <;> rfl

/-- The zero the pulled back gradient starts from. -/
theorem pay54_at (p : Fin 256) (k : Fin 256) : k0_pay54 (F := Ideal) (ix2 p k) = ((0 : ℝ) : EReal) := by
  pointwise [k0_pay54]
  exact EReal.coe_zero.symm

/-- The zero the pulled back gradient starts from. -/
theorem pay55_at (p : Fin 256) (k : Fin 768) : k0_pay55 (F := Ideal) (ix2 p k) = ((0 : ℝ) : EReal) := by
  pointwise [k0_pay55]
  exact EReal.coe_zero.symm

/-- The kept gate slab. -/
theorem pay56_at {g : Fin 256 → Fin 704 → ℝ}
    {v249 : Vec Ideal S1x256x704 .bf16}
    (h249 : ∀ p k, v249 (ix3 0 p k) = ((g p k : ℝ) : EReal)) (p : Fin 256) (k : Fin 704) :
    k0_pay56 (F := Ideal) v249 (ix2 p k) = ((g p k : ℝ) : EReal) := by
  pointwise [k0_pay56]
  simp only [h249, reals] <;> rfl

/-- The logistic function of the gate. -/
theorem pay57_at {g : Fin 256 → Fin 704 → ℝ}
    {v249 : Vec Ideal S1x256x704 .bf16}
    (h249 : ∀ p k, v249 (ix3 0 p k) = ((g p k : ℝ) : EReal)) (p : Fin 256) (k : Fin 704) :
    k0_pay57 (F := Ideal) v249 (ix2 p k) = ((lgst (g p k) : ℝ) : EReal) := by
  pointwise [k0_pay57]
  simp only [h249, pay56_at h249, reals] <;> rfl

/-- The gradient at the activation, first chunk. -/
theorem pay58_at {w : Fin 704 → Fin 1024 → ℝ} {D : Fin 256 → Fin 1024 → ℝ}
    {v11 : FVec Ideal S1x1024 .f32} {v206 : FVec Ideal S256x1 .f32} {v208 : FVec Ideal S256x1024 .f32} {v229 : FVec Ideal S256x1024 .f32} {v263 : Vec Ideal S1x704x1024 .bf16}
    (h263 : ∀ p k, v263 (ix3 0 p k) = ((w p k : ℝ) : EReal)) (hD : ∀ p k, k0_pay53 (F := Ideal) v11 v206 v208 v229 (ix2 p k) = ((D p k : ℝ) : EReal)) (p : Fin 256) (k : Fin 704) :
    k0_pay58 (F := Ideal) v11 v206 v208 v229 v263 (ix2 p k) = (((∑ i, D p i * w k i) : ℝ) : EReal) := by
  pointwise [k0_pay58]
  simp only [h263, hD, reals] <;> rfl

/-- The gradient at the up half, first chunk. -/
theorem pay59_at {g : Fin 256 → Fin 704 → ℝ} {w : Fin 704 → Fin 1024 → ℝ} {D : Fin 256 → Fin 1024 → ℝ}
    {v11 : FVec Ideal S1x1024 .f32} {v206 : FVec Ideal S256x1 .f32} {v208 : FVec Ideal S256x1024 .f32} {v229 : FVec Ideal S256x1024 .f32} {v249 : Vec Ideal S1x256x704 .bf16} {v263 : Vec Ideal S1x704x1024 .bf16}
    (h249 : ∀ p k, v249 (ix3 0 p k) = ((g p k : ℝ) : EReal)) (h263 : ∀ p k, v263 (ix3 0 p k) = ((w p k : ℝ) : EReal)) (hD : ∀ p k, k0_pay53 (F := Ideal) v11 v206 v208 v229 (ix2 p k) = ((D p k : ℝ) : EReal)) (p : Fin 256) (k : Fin 704) :
    k0_pay59 (F := Ideal) v11 v206 v208 v229 v249 v263 (ix2 p k) = (((∑ i, D p i * w k i) * (g p k * lgst (g p k)) : ℝ) : EReal) := by
  pointwise [k0_pay59]
  simp only [h249, h263, hD, pay56_at h249, pay57_at h249, pay58_at h263 hD, reals] <;> rfl

/-- The gradient at the activation times the up half, first chunk. -/
theorem pay60_at {u : Fin 256 → Fin 704 → ℝ} {w : Fin 704 → Fin 1024 → ℝ} {D : Fin 256 → Fin 1024 → ℝ}
    {v11 : FVec Ideal S1x1024 .f32} {v206 : FVec Ideal S256x1 .f32} {v208 : FVec Ideal S256x1024 .f32} {v229 : FVec Ideal S256x1024 .f32} {v252 : Vec Ideal S1x256x704 .bf16} {v263 : Vec Ideal S1x704x1024 .bf16}
    (h252 : ∀ p k, v252 (ix3 0 p k) = ((u p k : ℝ) : EReal)) (h263 : ∀ p k, v263 (ix3 0 p k) = ((w p k : ℝ) : EReal)) (hD : ∀ p k, k0_pay53 (F := Ideal) v11 v206 v208 v229 (ix2 p k) = ((D p k : ℝ) : EReal)) (p : Fin 256) (k : Fin 704) :
    k0_pay60 (F := Ideal) v11 v206 v208 v229 v252 v263 (ix2 p k) = (((∑ i, D p i * w k i) * u p k : ℝ) : EReal) := by
  pointwise [k0_pay60]
  simp only [h252, h263, hD, pay58_at h263 hD, reals] <;> rfl

/-- The gate times one less its logistic function, first chunk. -/
theorem pay61_at {g : Fin 256 → Fin 704 → ℝ}
    {v249 : Vec Ideal S1x256x704 .bf16}
    (h249 : ∀ p k, v249 (ix3 0 p k) = ((g p k : ℝ) : EReal)) (p : Fin 256) (k : Fin 704) :
    k0_pay61 (F := Ideal) v249 (ix2 p k) = ((g p k * (1 - lgst (g p k)) : ℝ) : EReal) := by
  pointwise [k0_pay61]
  simp only [h249, pay56_at h249, pay57_at h249, reals] <;> rfl

/-- The gradient at the gate half, first chunk. -/
theorem pay62_at {s : Fin 256 → Fin 704 → ℝ} {q : Fin 256 → Fin 704 → ℝ} {z : Fin 256 → Fin 704 → ℝ}
    {v261 : FVec Ideal S256x704 .f32} {v268 : FVec Ideal S256x704 .f32} {v271 : FVec Ideal S256x704 .f32}
    (h261 : ∀ p k, v261 (ix2 p k) = ((s p k : ℝ) : EReal)) (h268 : ∀ p k, v268 (ix2 p k) = ((q p k : ℝ) : EReal)) (h271 : ∀ p k, v271 (ix2 p k) = ((z p k : ℝ) : EReal)) (p : Fin 256) (k : Fin 704) :
    k0_pay62 (F := Ideal) v261 v268 v271 (ix2 p k) = (((q p k * (s p k * (1 + z p k))) : ℝ) : EReal) := by
  pointwise [k0_pay62]
  simp only [h261, h268, h271, reals] <;> rfl

/-- The same, as it is stored. -/
theorem pay63_at {s : Fin 256 → Fin 704 → ℝ} {q : Fin 256 → Fin 704 → ℝ} {z : Fin 256 → Fin 704 → ℝ}
    {v261 : FVec Ideal S256x704 .f32} {v268 : FVec Ideal S256x704 .f32} {v271 : FVec Ideal S256x704 .f32}
    (h261 : ∀ p k, v261 (ix2 p k) = ((s p k : ℝ) : EReal)) (h268 : ∀ p k, v268 (ix2 p k) = ((q p k : ℝ) : EReal)) (h271 : ∀ p k, v271 (ix2 p k) = ((z p k : ℝ) : EReal)) (p : Fin 256) (k : Fin 704) :
    k0_pay63 (F := Ideal) v261 v268 v271 (ix3 0 p k) = (((q p k * (s p k * (1 + z p k))) : ℝ) : EReal) := by
  pointwise [k0_pay63]
  simp only [h261, h268, h271, pay62_at h261 h268 h271, reals] <;> rfl

/-- The gradient at the up half, as it is stored. -/
theorem pay64_at {u : Fin 256 → Fin 704 → ℝ}
    {v267 : FVec Ideal S256x704 .bf16}
    (h267 : ∀ p k, v267 (ix2 p k) = ((u p k : ℝ) : EReal)) (p : Fin 256) (k : Fin 704) :
    k0_pay64 (F := Ideal) v267 (ix3 0 p k) = ((u p k : ℝ) : EReal) := by
  pointwise [k0_pay64]
  simp only [h267, reals] <;> rfl

/-- The first chunk of the pulled back gradient. -/
theorem pay65_at {e : Fin 256 → Fin 256 → ℝ} {s : Fin 256 → Fin 704 → ℝ} {u : Fin 256 → Fin 704 → ℝ} {q : Fin 256 → Fin 704 → ℝ} {z : Fin 256 → Fin 704 → ℝ} {wg : Fin 704 → Fin 256 → ℝ} {wu : Fin 704 → Fin 256 → ℝ}
    {v247 : FVec Ideal S256x256 .f32} {v261 : FVec Ideal S256x704 .f32} {v267 : FVec Ideal S256x704 .bf16} {v268 : FVec Ideal S256x704 .f32} {v271 : FVec Ideal S256x704 .f32} {v283 : Vec Ideal S1x704x256 .bf16} {v287 : Vec Ideal S1x704x256 .bf16}
    (h247 : ∀ p k, v247 (ix2 p k) = ((e p k : ℝ) : EReal)) (h261 : ∀ p k, v261 (ix2 p k) = ((s p k : ℝ) : EReal)) (h267 : ∀ p k, v267 (ix2 p k) = ((u p k : ℝ) : EReal)) (h268 : ∀ p k, v268 (ix2 p k) = ((q p k : ℝ) : EReal)) (h271 : ∀ p k, v271 (ix2 p k) = ((z p k : ℝ) : EReal)) (h283 : ∀ p k, v283 (ix3 0 p k) = ((wg p k : ℝ) : EReal)) (h287 : ∀ p k, v287 (ix3 0 p k) = ((wu p k : ℝ) : EReal)) (p : Fin 256) (k : Fin 256) :
    k0_pay65 (F := Ideal) v247 v261 v267 v268 v271 v283 v287 (ix2 p k) = ((e p k + (∑ i, (q p i * (s p i * (1 + z p i))) * wg i k) + ∑ i, u p i * wu i k : ℝ) : EReal) := by
  pointwise [k0_pay65]
  simp only [h247, h261, h267, h268, h271, h283, h287, pay62_at h261 h268 h271, reals] <;> rfl

/-- The first chunk of the pulled back gradient. -/
theorem pay66_at {e : Fin 256 → Fin 768 → ℝ} {s : Fin 256 → Fin 704 → ℝ} {u : Fin 256 → Fin 704 → ℝ} {q : Fin 256 → Fin 704 → ℝ} {z : Fin 256 → Fin 704 → ℝ} {wg : Fin 704 → Fin 768 → ℝ} {wu : Fin 704 → Fin 768 → ℝ}
    {v248 : FVec Ideal S256x768 .f32} {v261 : FVec Ideal S256x704 .f32} {v267 : FVec Ideal S256x704 .bf16} {v268 : FVec Ideal S256x704 .f32} {v271 : FVec Ideal S256x704 .f32} {v291 : Vec Ideal S1x704x768 .bf16} {v295 : Vec Ideal S1x704x768 .bf16}
    (h248 : ∀ p k, v248 (ix2 p k) = ((e p k : ℝ) : EReal)) (h261 : ∀ p k, v261 (ix2 p k) = ((s p k : ℝ) : EReal)) (h267 : ∀ p k, v267 (ix2 p k) = ((u p k : ℝ) : EReal)) (h268 : ∀ p k, v268 (ix2 p k) = ((q p k : ℝ) : EReal)) (h271 : ∀ p k, v271 (ix2 p k) = ((z p k : ℝ) : EReal)) (h291 : ∀ p k, v291 (ix3 0 p k) = ((wg p k : ℝ) : EReal)) (h295 : ∀ p k, v295 (ix3 0 p k) = ((wu p k : ℝ) : EReal)) (p : Fin 256) (k : Fin 768) :
    k0_pay66 (F := Ideal) v248 v261 v267 v268 v271 v291 v295 (ix2 p k) = ((e p k + (∑ i, (q p i * (s p i * (1 + z p i))) * wg i k) + ∑ i, u p i * wu i k : ℝ) : EReal) := by
  pointwise [k0_pay66]
  simp only [h248, h261, h267, h268, h271, h291, h295, pay62_at h261 h268 h271, reals] <;> rfl

/-- The kept gate slab, second chunk. -/
theorem pay67_at {g : Fin 256 → Fin 704 → ℝ}
    {v299 : Vec Ideal S1x256x704 .bf16}
    (h299 : ∀ p k, v299 (ix3 0 p k) = ((g p k : ℝ) : EReal)) (p : Fin 256) (k : Fin 704) :
    k0_pay67 (F := Ideal) v299 (ix2 p k) = ((g p k : ℝ) : EReal) := by
  pointwise [k0_pay67]
  simp only [h299, reals] <;> rfl

/-- The logistic function of the gate, second chunk. -/
theorem pay68_at {g : Fin 256 → Fin 704 → ℝ}
    {v301 : FVec Ideal S256x704 .f32}
    (h301 : ∀ p k, v301 (ix2 p k) = ((g p k : ℝ) : EReal)) (p : Fin 256) (k : Fin 704) :
    k0_pay68 (F := Ideal) v301 (ix2 p k) = ((lgst (g p k) : ℝ) : EReal) := by
  pointwise [k0_pay68]
  simp only [h301, reals] <;> rfl

/-- The gradient at the activation, second chunk. -/
theorem pay69_at {D : Fin 256 → Fin 1024 → ℝ} {w : Fin 704 → Fin 1024 → ℝ}
    {v245 : FVec Ideal S256x1024 .bf16} {v313 : Vec Ideal S1x704x1024 .bf16}
    (h245 : ∀ p k, v245 (ix2 p k) = ((D p k : ℝ) : EReal)) (h313 : ∀ p k, v313 (ix3 0 p k) = ((w p k : ℝ) : EReal)) (p : Fin 256) (k : Fin 704) :
    k0_pay69 (F := Ideal) v245 v313 (ix2 p k) = (((∑ i, D p i * w k i) : ℝ) : EReal) := by
  pointwise [k0_pay69]
  simp only [h245, h313, reals] <;> rfl

/-- The gradient at the up half, second chunk. -/
theorem pay70_at {D : Fin 256 → Fin 1024 → ℝ} {g : Fin 256 → Fin 704 → ℝ} {w : Fin 704 → Fin 1024 → ℝ}
    {v245 : FVec Ideal S256x1024 .bf16} {v301 : FVec Ideal S256x704 .f32} {v313 : Vec Ideal S1x704x1024 .bf16}
    (h245 : ∀ p k, v245 (ix2 p k) = ((D p k : ℝ) : EReal)) (h301 : ∀ p k, v301 (ix2 p k) = ((g p k : ℝ) : EReal)) (h313 : ∀ p k, v313 (ix3 0 p k) = ((w p k : ℝ) : EReal)) (p : Fin 256) (k : Fin 704) :
    k0_pay70 (F := Ideal) v245 v301 v313 (ix2 p k) = (((∑ i, D p i * w k i) * (g p k * lgst (g p k)) : ℝ) : EReal) := by
  pointwise [k0_pay70]
  simp only [h245, h301, h313, pay68_at h301, pay69_at h245 h313, reals] <;> rfl

/-- The gradient at the gate half, second chunk. -/
theorem pay71_at {D : Fin 256 → Fin 1024 → ℝ} {g : Fin 256 → Fin 704 → ℝ} {u : Fin 256 → Fin 704 → ℝ} {w : Fin 704 → Fin 1024 → ℝ}
    {v245 : FVec Ideal S256x1024 .bf16} {v301 : FVec Ideal S256x704 .f32} {v302 : Vec Ideal S1x256x704 .bf16} {v313 : Vec Ideal S1x704x1024 .bf16}
    (h245 : ∀ p k, v245 (ix2 p k) = ((D p k : ℝ) : EReal)) (h301 : ∀ p k, v301 (ix2 p k) = ((g p k : ℝ) : EReal)) (h302 : ∀ p k, v302 (ix3 0 p k) = ((u p k : ℝ) : EReal)) (h313 : ∀ p k, v313 (ix3 0 p k) = ((w p k : ℝ) : EReal)) (p : Fin 256) (k : Fin 704) :
    k0_pay71 (F := Ideal) v245 v301 v302 v313 (ix2 p k) = (((∑ i, D p i * w k i) * u p k * (lgst (g p k) * (1 + g p k * (1 - lgst (g p k)))) : ℝ) : EReal) := by
  pointwise [k0_pay71]
  simp only [h245, h301, h302, h313, pay68_at h301, pay69_at h245 h313, reals] <;> rfl

/-- The same, as it is stored. -/
theorem pay72_at {D : Fin 256 → Fin 1024 → ℝ} {g : Fin 256 → Fin 704 → ℝ} {u : Fin 256 → Fin 704 → ℝ} {w : Fin 704 → Fin 1024 → ℝ}
    {v245 : FVec Ideal S256x1024 .bf16} {v301 : FVec Ideal S256x704 .f32} {v302 : Vec Ideal S1x256x704 .bf16} {v313 : Vec Ideal S1x704x1024 .bf16}
    (h245 : ∀ p k, v245 (ix2 p k) = ((D p k : ℝ) : EReal)) (h301 : ∀ p k, v301 (ix2 p k) = ((g p k : ℝ) : EReal)) (h302 : ∀ p k, v302 (ix3 0 p k) = ((u p k : ℝ) : EReal)) (h313 : ∀ p k, v313 (ix3 0 p k) = ((w p k : ℝ) : EReal)) (p : Fin 256) (k : Fin 704) :
    k0_pay72 (F := Ideal) v245 v301 v302 v313 (ix3 0 p k) = (((∑ i, D p i * w k i) * u p k * (lgst (g p k) * (1 + g p k * (1 - lgst (g p k)))) : ℝ) : EReal) := by
  pointwise [k0_pay72]
  simp only [h245, h301, h302, h313, pay71_at h245 h301 h302 h313, reals] <;> rfl

/-- The gradient at the up half, as it is stored. -/
theorem pay73_at {D : Fin 256 → Fin 1024 → ℝ} {g : Fin 256 → Fin 704 → ℝ} {w : Fin 704 → Fin 1024 → ℝ}
    {v245 : FVec Ideal S256x1024 .bf16} {v301 : FVec Ideal S256x704 .f32} {v313 : Vec Ideal S1x704x1024 .bf16}
    (h245 : ∀ p k, v245 (ix2 p k) = ((D p k : ℝ) : EReal)) (h301 : ∀ p k, v301 (ix2 p k) = ((g p k : ℝ) : EReal)) (h313 : ∀ p k, v313 (ix3 0 p k) = ((w p k : ℝ) : EReal)) (p : Fin 256) (k : Fin 704) :
    k0_pay73 (F := Ideal) v245 v301 v313 (ix3 0 p k) = (((∑ i, D p i * w k i) * (g p k * lgst (g p k)) : ℝ) : EReal) := by
  pointwise [k0_pay73]
  simp only [h245, h301, h313, pay70_at h245 h301 h313, reals] <;> rfl

/-- The pulled back gradient, second chunk of the gate half added. -/
theorem pay74_at {D : Fin 256 → Fin 1024 → ℝ} {e : Fin 256 → Fin 256 → ℝ} {g : Fin 256 → Fin 704 → ℝ} {u : Fin 256 → Fin 704 → ℝ} {w : Fin 704 → Fin 1024 → ℝ} {wg : Fin 704 → Fin 256 → ℝ}
    {v245 : FVec Ideal S256x1024 .bf16} {v290 : FVec Ideal S256x256 .f32} {v301 : FVec Ideal S256x704 .f32} {v302 : Vec Ideal S1x256x704 .bf16} {v313 : Vec Ideal S1x704x1024 .bf16} {v333 : Vec Ideal S1x704x256 .bf16}
    (h245 : ∀ p k, v245 (ix2 p k) = ((D p k : ℝ) : EReal)) (h290 : ∀ p k, v290 (ix2 p k) = ((e p k : ℝ) : EReal)) (h301 : ∀ p k, v301 (ix2 p k) = ((g p k : ℝ) : EReal)) (h302 : ∀ p k, v302 (ix3 0 p k) = ((u p k : ℝ) : EReal)) (h313 : ∀ p k, v313 (ix3 0 p k) = ((w p k : ℝ) : EReal)) (h333 : ∀ p k, v333 (ix3 0 p k) = ((wg p k : ℝ) : EReal)) (p : Fin 256) (k : Fin 256) :
    k0_pay74 (F := Ideal) v245 v290 v301 v302 v313 v333 (ix2 p k) = ((e p k + ∑ i, ((∑ j, D p j * w i j) * u p i * (lgst (g p i) * (1 + g p i * (1 - lgst (g p i))))) * wg i k : ℝ) : EReal) := by
  pointwise [k0_pay74]
  simp only [h245, h290, h301, h302, h313, h333, pay71_at h245 h301 h302 h313, reals] <;> rfl

/-- The second chunk of the up half added. -/
theorem pay75_at {u : Fin 256 → Fin 704 → ℝ} {e : Fin 256 → Fin 256 → ℝ} {wu : Fin 704 → Fin 256 → ℝ}
    {v317 : FVec Ideal S256x704 .bf16} {v336 : FVec Ideal S256x256 .f32} {v337 : Vec Ideal S1x704x256 .bf16}
    (h317 : ∀ p k, v317 (ix2 p k) = ((u p k : ℝ) : EReal)) (h336 : ∀ p k, v336 (ix2 p k) = ((e p k : ℝ) : EReal)) (h337 : ∀ p k, v337 (ix3 0 p k) = ((wu p k : ℝ) : EReal)) (p : Fin 256) (k : Fin 256) :
    k0_pay75 (F := Ideal) v317 v336 v337 (ix2 p k) = ((e p k + ∑ i, u p i * wu i k : ℝ) : EReal) := by
  pointwise [k0_pay75]
  simp only [h317, h336, h337, reals] <;> rfl

/-- The pulled back gradient, second chunk added. -/
theorem pay76_at {e : Fin 256 → Fin 768 → ℝ} {u : Fin 256 → Fin 704 → ℝ} {q : Fin 256 → Fin 704 → ℝ} {wg : Fin 704 → Fin 768 → ℝ} {wu : Fin 704 → Fin 768 → ℝ}
    {v298 : FVec Ideal S256x768 .f32} {v317 : FVec Ideal S256x704 .bf16} {v326 : FVec Ideal S256x704 .bf16} {v341 : Vec Ideal S1x704x768 .bf16} {v345 : Vec Ideal S1x704x768 .bf16}
    (h298 : ∀ p k, v298 (ix2 p k) = ((e p k : ℝ) : EReal)) (h317 : ∀ p k, v317 (ix2 p k) = ((u p k : ℝ) : EReal)) (h326 : ∀ p k, v326 (ix2 p k) = ((q p k : ℝ) : EReal)) (h341 : ∀ p k, v341 (ix3 0 p k) = ((wg p k : ℝ) : EReal)) (h345 : ∀ p k, v345 (ix3 0 p k) = ((wu p k : ℝ) : EReal)) (p : Fin 256) (k : Fin 768) :
    k0_pay76 (F := Ideal) v298 v317 v326 v341 v345 (ix2 p k) = ((e p k + (∑ i, q p i * wg i k) + ∑ i, u p i * wu i k : ℝ) : EReal) := by
  pointwise [k0_pay76]
  simp only [h298, h317, h326, h341, h345, reals] <;> rfl

/-- The kept gate slab, third chunk. -/
theorem pay77_at {g : Fin 256 → Fin 704 → ℝ}
    {v349 : Vec Ideal S1x256x704 .bf16}
    (h349 : ∀ p k, v349 (ix3 0 p k) = ((g p k : ℝ) : EReal)) (p : Fin 256) (k : Fin 704) :
    k0_pay77 (F := Ideal) v349 (ix2 p k) = ((g p k : ℝ) : EReal) := by
  pointwise [k0_pay77]
  simp only [h349, reals] <;> rfl

/-- The logistic function of the gate, third chunk. -/
theorem pay78_at {g : Fin 256 → Fin 704 → ℝ}
    {v349 : Vec Ideal S1x256x704 .bf16}
    (h349 : ∀ p k, v349 (ix3 0 p k) = ((g p k : ℝ) : EReal)) (p : Fin 256) (k : Fin 704) :
    k0_pay78 (F := Ideal) v349 (ix2 p k) = ((lgst (g p k) : ℝ) : EReal) := by
  pointwise [k0_pay78]
  simp only [h349, pay77_at h349, reals] <;> rfl

/-- The gradient at the activation, third chunk. -/
theorem pay79_at {D : Fin 256 → Fin 1024 → ℝ} {w : Fin 704 → Fin 1024 → ℝ}
    {v245 : FVec Ideal S256x1024 .bf16} {v363 : Vec Ideal S1x704x1024 .bf16}
    (h245 : ∀ p k, v245 (ix2 p k) = ((D p k : ℝ) : EReal)) (h363 : ∀ p k, v363 (ix3 0 p k) = ((w p k : ℝ) : EReal)) (p : Fin 256) (k : Fin 704) :
    k0_pay79 (F := Ideal) v245 v363 (ix2 p k) = (((∑ i, D p i * w k i) : ℝ) : EReal) := by
  pointwise [k0_pay79]
  simp only [h245, h363, reals] <;> rfl

/-- The gradient at the up half, third chunk. -/
theorem pay80_at {D : Fin 256 → Fin 1024 → ℝ} {g : Fin 256 → Fin 704 → ℝ} {w : Fin 704 → Fin 1024 → ℝ}
    {v245 : FVec Ideal S256x1024 .bf16} {v349 : Vec Ideal S1x256x704 .bf16} {v363 : Vec Ideal S1x704x1024 .bf16}
    (h245 : ∀ p k, v245 (ix2 p k) = ((D p k : ℝ) : EReal)) (h349 : ∀ p k, v349 (ix3 0 p k) = ((g p k : ℝ) : EReal)) (h363 : ∀ p k, v363 (ix3 0 p k) = ((w p k : ℝ) : EReal)) (p : Fin 256) (k : Fin 704) :
    k0_pay80 (F := Ideal) v245 v349 v363 (ix2 p k) = (((∑ i, D p i * w k i) * (g p k * lgst (g p k)) : ℝ) : EReal) := by
  pointwise [k0_pay80]
  simp only [h245, h349, h363, pay77_at h349, pay78_at h349, pay79_at h245 h363, reals] <;> rfl

/-- The gradient at the activation times the up half, third chunk. -/
theorem pay81_at {D : Fin 256 → Fin 1024 → ℝ} {u : Fin 256 → Fin 704 → ℝ} {w : Fin 704 → Fin 1024 → ℝ}
    {v245 : FVec Ideal S256x1024 .bf16} {v352 : Vec Ideal S1x256x704 .bf16} {v363 : Vec Ideal S1x704x1024 .bf16}
    (h245 : ∀ p k, v245 (ix2 p k) = ((D p k : ℝ) : EReal)) (h352 : ∀ p k, v352 (ix3 0 p k) = ((u p k : ℝ) : EReal)) (h363 : ∀ p k, v363 (ix3 0 p k) = ((w p k : ℝ) : EReal)) (p : Fin 256) (k : Fin 704) :
    k0_pay81 (F := Ideal) v245 v352 v363 (ix2 p k) = (((∑ i, D p i * w k i) * u p k : ℝ) : EReal) := by
  pointwise [k0_pay81]
  simp only [h245, h352, h363, pay79_at h245 h363, reals] <;> rfl

/-- The gate times one less its logistic function, third chunk. -/
theorem pay82_at {g : Fin 256 → Fin 704 → ℝ}
    {v349 : Vec Ideal S1x256x704 .bf16}
    (h349 : ∀ p k, v349 (ix3 0 p k) = ((g p k : ℝ) : EReal)) (p : Fin 256) (k : Fin 704) :
    k0_pay82 (F := Ideal) v349 (ix2 p k) = ((g p k * (1 - lgst (g p k)) : ℝ) : EReal) := by
  pointwise [k0_pay82]
  simp only [h349, pay77_at h349, pay78_at h349, reals] <;> rfl

/-- The one of the third chunk. -/
theorem pay83_at (p : Fin 256) (k : Fin 704) : k0_pay83 (F := Ideal) (ix2 p k) = ((1 : ℝ) : EReal) := by
  pointwise [k0_pay83]
  exact EReal.coe_one.symm

/-- The gradient at the gate half, third chunk. -/
theorem pay84_at {s : Fin 256 → Fin 704 → ℝ} {q : Fin 256 → Fin 704 → ℝ} {z : Fin 256 → Fin 704 → ℝ} {o : Fin 256 → Fin 704 → ℝ}
    {v361 : FVec Ideal S256x704 .f32} {v368 : FVec Ideal S256x704 .f32} {v371 : FVec Ideal S256x704 .f32} {v372 : FVec Ideal S256x704 .f32}
    (h361 : ∀ p k, v361 (ix2 p k) = ((s p k : ℝ) : EReal)) (h368 : ∀ p k, v368 (ix2 p k) = ((q p k : ℝ) : EReal)) (h371 : ∀ p k, v371 (ix2 p k) = ((z p k : ℝ) : EReal)) (h372 : ∀ p k, v372 (ix2 p k) = ((o p k : ℝ) : EReal)) (p : Fin 256) (k : Fin 704) :
    k0_pay84 (F := Ideal) v361 v368 v371 v372 (ix2 p k) = (((q p k * (s p k * (o p k + z p k))) : ℝ) : EReal) := by
  pointwise [k0_pay84]
  simp only [h361, h368, h371, h372, reals] <;> rfl

/-- The same, as it is stored. -/
theorem pay85_at {s : Fin 256 → Fin 704 → ℝ} {q : Fin 256 → Fin 704 → ℝ} {z : Fin 256 → Fin 704 → ℝ} {o : Fin 256 → Fin 704 → ℝ}
    {v361 : FVec Ideal S256x704 .f32} {v368 : FVec Ideal S256x704 .f32} {v371 : FVec Ideal S256x704 .f32} {v372 : FVec Ideal S256x704 .f32}
    (h361 : ∀ p k, v361 (ix2 p k) = ((s p k : ℝ) : EReal)) (h368 : ∀ p k, v368 (ix2 p k) = ((q p k : ℝ) : EReal)) (h371 : ∀ p k, v371 (ix2 p k) = ((z p k : ℝ) : EReal)) (h372 : ∀ p k, v372 (ix2 p k) = ((o p k : ℝ) : EReal)) (p : Fin 256) (k : Fin 704) :
    k0_pay85 (F := Ideal) v361 v368 v371 v372 (ix3 0 p k) = (((q p k * (s p k * (o p k + z p k))) : ℝ) : EReal) := by
  pointwise [k0_pay85]
  simp only [h361, h368, h371, h372, pay84_at h361 h368 h371 h372, reals] <;> rfl

/-- The gradient at the up half, as it is stored. -/
theorem pay86_at {u : Fin 256 → Fin 704 → ℝ}
    {v367 : FVec Ideal S256x704 .bf16}
    (h367 : ∀ p k, v367 (ix2 p k) = ((u p k : ℝ) : EReal)) (p : Fin 256) (k : Fin 704) :
    k0_pay86 (F := Ideal) v367 (ix3 0 p k) = ((u p k : ℝ) : EReal) := by
  pointwise [k0_pay86]
  simp only [h367, reals] <;> rfl

/-- The pulled back gradient, third chunk added. -/
theorem pay87_at {e : Fin 256 → Fin 256 → ℝ} {s : Fin 256 → Fin 704 → ℝ} {u : Fin 256 → Fin 704 → ℝ} {q : Fin 256 → Fin 704 → ℝ} {z : Fin 256 → Fin 704 → ℝ} {o : Fin 256 → Fin 704 → ℝ} {wg : Fin 704 → Fin 256 → ℝ} {wu : Fin 704 → Fin 256 → ℝ}
    {v340 : FVec Ideal S256x256 .f32} {v361 : FVec Ideal S256x704 .f32} {v367 : FVec Ideal S256x704 .bf16} {v368 : FVec Ideal S256x704 .f32} {v371 : FVec Ideal S256x704 .f32} {v372 : FVec Ideal S256x704 .f32} {v383 : Vec Ideal S1x704x256 .bf16} {v387 : Vec Ideal S1x704x256 .bf16}
    (h340 : ∀ p k, v340 (ix2 p k) = ((e p k : ℝ) : EReal)) (h361 : ∀ p k, v361 (ix2 p k) = ((s p k : ℝ) : EReal)) (h367 : ∀ p k, v367 (ix2 p k) = ((u p k : ℝ) : EReal)) (h368 : ∀ p k, v368 (ix2 p k) = ((q p k : ℝ) : EReal)) (h371 : ∀ p k, v371 (ix2 p k) = ((z p k : ℝ) : EReal)) (h372 : ∀ p k, v372 (ix2 p k) = ((o p k : ℝ) : EReal)) (h383 : ∀ p k, v383 (ix3 0 p k) = ((wg p k : ℝ) : EReal)) (h387 : ∀ p k, v387 (ix3 0 p k) = ((wu p k : ℝ) : EReal)) (p : Fin 256) (k : Fin 256) :
    k0_pay87 (F := Ideal) v340 v361 v367 v368 v371 v372 v383 v387 (ix2 p k) = ((e p k + (∑ i, (q p i * (s p i * (o p i + z p i))) * wg i k) + ∑ i, u p i * wu i k : ℝ) : EReal) := by
  pointwise [k0_pay87]
  simp only [h340, h361, h367, h368, h371, h372, h383, h387, pay84_at h361 h368 h371 h372, reals] <;> rfl

/-- The pulled back gradient, third chunk added. -/
theorem pay88_at {e : Fin 256 → Fin 768 → ℝ} {s : Fin 256 → Fin 704 → ℝ} {u : Fin 256 → Fin 704 → ℝ} {q : Fin 256 → Fin 704 → ℝ} {z : Fin 256 → Fin 704 → ℝ} {o : Fin 256 → Fin 704 → ℝ} {wg : Fin 704 → Fin 768 → ℝ} {wu : Fin 704 → Fin 768 → ℝ}
    {v348 : FVec Ideal S256x768 .f32} {v361 : FVec Ideal S256x704 .f32} {v367 : FVec Ideal S256x704 .bf16} {v368 : FVec Ideal S256x704 .f32} {v371 : FVec Ideal S256x704 .f32} {v372 : FVec Ideal S256x704 .f32} {v391 : Vec Ideal S1x704x768 .bf16} {v395 : Vec Ideal S1x704x768 .bf16}
    (h348 : ∀ p k, v348 (ix2 p k) = ((e p k : ℝ) : EReal)) (h361 : ∀ p k, v361 (ix2 p k) = ((s p k : ℝ) : EReal)) (h367 : ∀ p k, v367 (ix2 p k) = ((u p k : ℝ) : EReal)) (h368 : ∀ p k, v368 (ix2 p k) = ((q p k : ℝ) : EReal)) (h371 : ∀ p k, v371 (ix2 p k) = ((z p k : ℝ) : EReal)) (h372 : ∀ p k, v372 (ix2 p k) = ((o p k : ℝ) : EReal)) (h391 : ∀ p k, v391 (ix3 0 p k) = ((wg p k : ℝ) : EReal)) (h395 : ∀ p k, v395 (ix3 0 p k) = ((wu p k : ℝ) : EReal)) (p : Fin 256) (k : Fin 768) :
    k0_pay88 (F := Ideal) v348 v361 v367 v368 v371 v372 v391 v395 (ix2 p k) = ((e p k + (∑ i, (q p i * (s p i * (o p i + z p i))) * wg i k) + ∑ i, u p i * wu i k : ℝ) : EReal) := by
  pointwise [k0_pay88]
  simp only [h348, h361, h367, h368, h371, h372, h391, h395, pay84_at h361 h368 h371 h372, reals] <;> rfl

/-- The kept gate slab, fourth chunk. -/
theorem pay89_at {g : Fin 256 → Fin 704 → ℝ}
    {v399 : Vec Ideal S1x256x704 .bf16}
    (h399 : ∀ p k, v399 (ix3 0 p k) = ((g p k : ℝ) : EReal)) (p : Fin 256) (k : Fin 704) :
    k0_pay89 (F := Ideal) v399 (ix2 p k) = ((g p k : ℝ) : EReal) := by
  pointwise [k0_pay89]
  simp only [h399, reals] <;> rfl

/-- The logistic function of the gate, fourth chunk. -/
theorem pay90_at {g : Fin 256 → Fin 704 → ℝ}
    {v401 : FVec Ideal S256x704 .f32}
    (h401 : ∀ p k, v401 (ix2 p k) = ((g p k : ℝ) : EReal)) (p : Fin 256) (k : Fin 704) :
    k0_pay90 (F := Ideal) v401 (ix2 p k) = ((lgst (g p k) : ℝ) : EReal) := by
  pointwise [k0_pay90]
  simp only [h401, reals] <;> rfl

/-- The gradient at the activation, fourth chunk. -/
theorem pay91_at {D : Fin 256 → Fin 1024 → ℝ} {w : Fin 704 → Fin 1024 → ℝ}
    {v245 : FVec Ideal S256x1024 .bf16} {v413 : Vec Ideal S1x704x1024 .bf16}
    (h245 : ∀ p k, v245 (ix2 p k) = ((D p k : ℝ) : EReal)) (h413 : ∀ p k, v413 (ix3 0 p k) = ((w p k : ℝ) : EReal)) (p : Fin 256) (k : Fin 704) :
    k0_pay91 (F := Ideal) v245 v413 (ix2 p k) = (((∑ i, D p i * w k i) : ℝ) : EReal) := by
  pointwise [k0_pay91]
  simp only [h245, h413, reals] <;> rfl

/-- The gradient at the up half, fourth chunk. -/
theorem pay92_at {D : Fin 256 → Fin 1024 → ℝ} {g : Fin 256 → Fin 704 → ℝ} {w : Fin 704 → Fin 1024 → ℝ}
    {v245 : FVec Ideal S256x1024 .bf16} {v401 : FVec Ideal S256x704 .f32} {v413 : Vec Ideal S1x704x1024 .bf16}
    (h245 : ∀ p k, v245 (ix2 p k) = ((D p k : ℝ) : EReal)) (h401 : ∀ p k, v401 (ix2 p k) = ((g p k : ℝ) : EReal)) (h413 : ∀ p k, v413 (ix3 0 p k) = ((w p k : ℝ) : EReal)) (p : Fin 256) (k : Fin 704) :
    k0_pay92 (F := Ideal) v245 v401 v413 (ix2 p k) = (((∑ i, D p i * w k i) * (g p k * lgst (g p k)) : ℝ) : EReal) := by
  pointwise [k0_pay92]
  simp only [h245, h401, h413, pay90_at h401, pay91_at h245 h413, reals] <;> rfl

/-- The gradient at the gate half, fourth chunk. -/
theorem pay93_at {D : Fin 256 → Fin 1024 → ℝ} {g : Fin 256 → Fin 704 → ℝ} {u : Fin 256 → Fin 704 → ℝ} {w : Fin 704 → Fin 1024 → ℝ}
    {v245 : FVec Ideal S256x1024 .bf16} {v401 : FVec Ideal S256x704 .f32} {v402 : Vec Ideal S1x256x704 .bf16} {v413 : Vec Ideal S1x704x1024 .bf16}
    (h245 : ∀ p k, v245 (ix2 p k) = ((D p k : ℝ) : EReal)) (h401 : ∀ p k, v401 (ix2 p k) = ((g p k : ℝ) : EReal)) (h402 : ∀ p k, v402 (ix3 0 p k) = ((u p k : ℝ) : EReal)) (h413 : ∀ p k, v413 (ix3 0 p k) = ((w p k : ℝ) : EReal)) (p : Fin 256) (k : Fin 704) :
    k0_pay93 (F := Ideal) v245 v401 v402 v413 (ix2 p k) = (((∑ i, D p i * w k i) * u p k * (lgst (g p k) * (1 + g p k * (1 - lgst (g p k)))) : ℝ) : EReal) := by
  pointwise [k0_pay93]
  simp only [h245, h401, h402, h413, pay90_at h401, pay91_at h245 h413, reals] <;> rfl

/-- The same, as it is stored. -/
theorem pay94_at {D : Fin 256 → Fin 1024 → ℝ} {g : Fin 256 → Fin 704 → ℝ} {u : Fin 256 → Fin 704 → ℝ} {w : Fin 704 → Fin 1024 → ℝ}
    {v245 : FVec Ideal S256x1024 .bf16} {v401 : FVec Ideal S256x704 .f32} {v402 : Vec Ideal S1x256x704 .bf16} {v413 : Vec Ideal S1x704x1024 .bf16}
    (h245 : ∀ p k, v245 (ix2 p k) = ((D p k : ℝ) : EReal)) (h401 : ∀ p k, v401 (ix2 p k) = ((g p k : ℝ) : EReal)) (h402 : ∀ p k, v402 (ix3 0 p k) = ((u p k : ℝ) : EReal)) (h413 : ∀ p k, v413 (ix3 0 p k) = ((w p k : ℝ) : EReal)) (p : Fin 256) (k : Fin 704) :
    k0_pay94 (F := Ideal) v245 v401 v402 v413 (ix3 0 p k) = (((∑ i, D p i * w k i) * u p k * (lgst (g p k) * (1 + g p k * (1 - lgst (g p k)))) : ℝ) : EReal) := by
  pointwise [k0_pay94]
  simp only [h245, h401, h402, h413, pay93_at h245 h401 h402 h413, reals] <;> rfl

/-- The gradient at the up half, as it is stored. -/
theorem pay95_at {D : Fin 256 → Fin 1024 → ℝ} {g : Fin 256 → Fin 704 → ℝ} {w : Fin 704 → Fin 1024 → ℝ}
    {v245 : FVec Ideal S256x1024 .bf16} {v401 : FVec Ideal S256x704 .f32} {v413 : Vec Ideal S1x704x1024 .bf16}
    (h245 : ∀ p k, v245 (ix2 p k) = ((D p k : ℝ) : EReal)) (h401 : ∀ p k, v401 (ix2 p k) = ((g p k : ℝ) : EReal)) (h413 : ∀ p k, v413 (ix3 0 p k) = ((w p k : ℝ) : EReal)) (p : Fin 256) (k : Fin 704) :
    k0_pay95 (F := Ideal) v245 v401 v413 (ix3 0 p k) = (((∑ i, D p i * w k i) * (g p k * lgst (g p k)) : ℝ) : EReal) := by
  pointwise [k0_pay95]
  simp only [h245, h401, h413, pay92_at h245 h401 h413, reals] <;> rfl

/-- The pulled back gradient, fourth chunk of the gate half added. -/
theorem pay96_at {D : Fin 256 → Fin 1024 → ℝ} {e : Fin 256 → Fin 256 → ℝ} {g : Fin 256 → Fin 704 → ℝ} {u : Fin 256 → Fin 704 → ℝ} {w : Fin 704 → Fin 1024 → ℝ} {wg : Fin 704 → Fin 256 → ℝ}
    {v245 : FVec Ideal S256x1024 .bf16} {v390 : FVec Ideal S256x256 .f32} {v401 : FVec Ideal S256x704 .f32} {v402 : Vec Ideal S1x256x704 .bf16} {v413 : Vec Ideal S1x704x1024 .bf16} {v433 : Vec Ideal S1x704x256 .bf16}
    (h245 : ∀ p k, v245 (ix2 p k) = ((D p k : ℝ) : EReal)) (h390 : ∀ p k, v390 (ix2 p k) = ((e p k : ℝ) : EReal)) (h401 : ∀ p k, v401 (ix2 p k) = ((g p k : ℝ) : EReal)) (h402 : ∀ p k, v402 (ix3 0 p k) = ((u p k : ℝ) : EReal)) (h413 : ∀ p k, v413 (ix3 0 p k) = ((w p k : ℝ) : EReal)) (h433 : ∀ p k, v433 (ix3 0 p k) = ((wg p k : ℝ) : EReal)) (p : Fin 256) (k : Fin 256) :
    k0_pay96 (F := Ideal) v245 v390 v401 v402 v413 v433 (ix2 p k) = ((e p k + ∑ i, ((∑ j, D p j * w i j) * u p i * (lgst (g p i) * (1 + g p i * (1 - lgst (g p i))))) * wg i k : ℝ) : EReal) := by
  pointwise [k0_pay96]
  simp only [h245, h390, h401, h402, h413, h433, pay93_at h245 h401 h402 h413, reals] <;> rfl

/-- The last slab, its first 256 columns. -/
theorem pay97_at {w : Fin 704 → Fin 256 → ℝ}
    {v437 : Vec Ideal S1x704x256 .bf16}
    (h437 : ∀ p k, v437 (ix3 0 p k) = ((w p k : ℝ) : EReal)) (p : Fin 704) (k : Fin 256) :
    k0_pay97 (F := Ideal) v437 (ix2 p k) = ((w p k : ℝ) : EReal) := by
  pointwise [k0_pay97]
  simp only [h437, reals] <;> rfl

/-- The pulled back gradient, both halves of its columns. -/
theorem pay98_at {e : Fin 256 → Fin 768 → ℝ} {u : Fin 256 → Fin 704 → ℝ} {q : Fin 256 → Fin 704 → ℝ} {c : Fin 256 → Fin 256 → ℝ} {wa : Fin 704 → Fin 256 → ℝ} {wg : Fin 704 → Fin 768 → ℝ} {wu : Fin 704 → Fin 768 → ℝ}
    {v398 : FVec Ideal S256x768 .f32} {v417 : FVec Ideal S256x704 .bf16} {v426 : FVec Ideal S256x704 .bf16} {v436 : FVec Ideal S256x256 .f32} {v438 : FVec Ideal S704x256 .bf16} {v441 : Vec Ideal S1x704x768 .bf16} {v445 : Vec Ideal S1x704x768 .bf16}
    (h398 : ∀ p k, v398 (ix2 p k) = ((e p k : ℝ) : EReal)) (h417 : ∀ p k, v417 (ix2 p k) = ((u p k : ℝ) : EReal)) (h426 : ∀ p k, v426 (ix2 p k) = ((q p k : ℝ) : EReal)) (h436 : ∀ p k, v436 (ix2 p k) = ((c p k : ℝ) : EReal)) (h438 : ∀ p k, v438 (ix2 p k) = ((wa p k : ℝ) : EReal)) (h441 : ∀ p k, v441 (ix3 0 p k) = ((wg p k : ℝ) : EReal)) (h445 : ∀ p k, v445 (ix3 0 p k) = ((wu p k : ℝ) : EReal)) {D : Fin 256 → Fin 1024 → ℝ}
    (hlo : ∀ p k, c p k + ∑ i, u p i * wa i k = D p (lo k))
    (hhi : ∀ p k, e p k + (∑ i, q p i * wg i k) + ∑ i, u p i * wu i k = D p (hi k)) (p : Fin 256) (k : Fin 1024) :
    k0_pay98 (F := Ideal) v398 v417 v426 v436 v438 v441 v445 (ix2 p k) = ((D p k : ℝ) : EReal) := by
  pointwise [k0_pay98]
  split
  · rename_i hk
    have e1 := hlo p ⟨k.val, hk⟩
    simp only [h398, h417, h426, h436, h438, h441, h445, ← EReal.coe_mul, sum_coe, ← EReal.coe_add, e1] <;> rfl
  · rename_i hk
    have e2 := hhi p ⟨k.val - 256, by omega⟩
    have e3 : hi ⟨k.val - 256, by omega⟩ = k := Fin.ext (by simp only [hi]; omega)
    simp only [h398, h417, h426, h436, h438, h441, h445, ← EReal.coe_mul, sum_coe, ← EReal.coe_add, e2, e3] <;> rfl

/-- The gradient at the scale. -/
theorem pay99_at {n : Fin 256 → Fin 1024 → ℝ} {D : Fin 256 → Fin 1024 → ℝ}
    {v23 : FVec Ideal S256x1024 .f32} {v398 : FVec Ideal S256x768 .f32} {v417 : FVec Ideal S256x704 .bf16} {v426 : FVec Ideal S256x704 .bf16} {v436 : FVec Ideal S256x256 .f32} {v438 : FVec Ideal S704x256 .bf16} {v441 : Vec Ideal S1x704x768 .bf16} {v445 : Vec Ideal S1x704x768 .bf16}
    (h23 : ∀ p k, v23 (ix2 p k) = ((n p k : ℝ) : EReal)) (hD : ∀ p k, k0_pay98 (F := Ideal) v398 v417 v426 v436 v438 v441 v445 (ix2 p k) = ((D p k : ℝ) : EReal)) (k : Fin 1024) :
    k0_pay99 (F := Ideal) v23 v398 v417 v426 v436 v438 v441 v445 (ix2 0 k) = ((∑ p, D p k * n p k : ℝ) : EReal) := by
  pointwise [k0_pay99]
  simp only [h23, hD, reals] <;> rfl

/-- The gradient at the shift. -/
theorem pay100_at {D : Fin 256 → Fin 1024 → ℝ}
    {v398 : FVec Ideal S256x768 .f32} {v417 : FVec Ideal S256x704 .bf16} {v426 : FVec Ideal S256x704 .bf16} {v436 : FVec Ideal S256x256 .f32} {v438 : FVec Ideal S704x256 .bf16} {v441 : Vec Ideal S1x704x768 .bf16} {v445 : Vec Ideal S1x704x768 .bf16}
    (hD : ∀ p k, k0_pay98 (F := Ideal) v398 v417 v426 v436 v438 v441 v445 (ix2 p k) = ((D p k : ℝ) : EReal)) (k : Fin 1024) :
    k0_pay100 (F := Ideal) v398 v417 v426 v436 v438 v441 v445 (ix2 0 k) = ((∑ p, D p k : ℝ) : EReal) := by
  pointwise [k0_pay100]
  simp only [hD, reals] <;> rfl

/-- The gradient at the normalised input times the gain. -/
theorem pay101_at {sc : Fin 1024 → ℝ} {D : Fin 256 → Fin 1024 → ℝ}
    {v5 : FVec Ideal S1x1024 .f32} {v398 : FVec Ideal S256x768 .f32} {v417 : FVec Ideal S256x704 .bf16} {v426 : FVec Ideal S256x704 .bf16} {v436 : FVec Ideal S256x256 .f32} {v438 : FVec Ideal S704x256 .bf16} {v441 : Vec Ideal S1x704x768 .bf16} {v445 : Vec Ideal S1x704x768 .bf16}
    (h5 : ∀ k, v5 (ix2 0 k) = ((sc k : ℝ) : EReal)) (hD : ∀ p k, k0_pay98 (F := Ideal) v398 v417 v426 v436 v438 v441 v445 (ix2 p k) = ((D p k : ℝ) : EReal)) (p : Fin 256) (k : Fin 1024) :
    k0_pay101 (F := Ideal) v5 v398 v417 v426 v436 v438 v441 v445 (ix2 p k) = ((D p k * (1 + sc k) : ℝ) : EReal) := by
  pointwise [k0_pay101]
  simp only [h5, hD, reals] <;> rfl

/-- The gradient at the first gain. -/
theorem pay102_at {sc : Fin 1024 → ℝ} {xh : Fin 256 → Fin 1024 → ℝ} {D : Fin 256 → Fin 1024 → ℝ}
    {v5 : FVec Ideal S1x1024 .f32} {v21 : FVec Ideal S256x1024 .f32} {v398 : FVec Ideal S256x768 .f32} {v417 : FVec Ideal S256x704 .bf16} {v426 : FVec Ideal S256x704 .bf16} {v436 : FVec Ideal S256x256 .f32} {v438 : FVec Ideal S704x256 .bf16} {v441 : Vec Ideal S1x704x768 .bf16} {v445 : Vec Ideal S1x704x768 .bf16}
    (h5 : ∀ k, v5 (ix2 0 k) = ((sc k : ℝ) : EReal)) (h21 : ∀ p k, v21 (ix2 p k) = ((xh p k : ℝ) : EReal)) (hD : ∀ p k, k0_pay98 (F := Ideal) v398 v417 v426 v436 v438 v441 v445 (ix2 p k) = ((D p k : ℝ) : EReal)) (k : Fin 1024) :
    k0_pay102 (F := Ideal) v5 v21 v398 v417 v426 v436 v438 v441 v445 (ix2 0 k) = ((∑ p, D p k * (1 + sc k) * xh p k : ℝ) : EReal) := by
  pointwise [k0_pay102]
  simp only [h5, h21, hD, pay101_at h5 hD, reals] <;> rfl

/-- The gradient at the block's input. -/
theorem pay103_at {sc : Fin 1024 → ℝ} {g : Fin 1024 → ℝ} {r : Fin 256 → ℝ} {xh : Fin 256 → Fin 1024 → ℝ} {d : Fin 256 → Fin 1024 → ℝ} {D : Fin 256 → Fin 1024 → ℝ}
    {v5 : FVec Ideal S1x1024 .f32} {v9 : FVec Ideal S1x1024 .f32} {v19 : FVec Ideal S256x1 .f32} {v21 : FVec Ideal S256x1024 .f32} {v220 : FVec Ideal S256x1024 .f32} {v398 : FVec Ideal S256x768 .f32} {v417 : FVec Ideal S256x704 .bf16} {v426 : FVec Ideal S256x704 .bf16} {v436 : FVec Ideal S256x256 .f32} {v438 : FVec Ideal S704x256 .bf16} {v441 : Vec Ideal S1x704x768 .bf16} {v445 : Vec Ideal S1x704x768 .bf16}
    (h5 : ∀ k, v5 (ix2 0 k) = ((sc k : ℝ) : EReal)) (h9 : ∀ k, v9 (ix2 0 k) = ((g k : ℝ) : EReal)) (h19 : ∀ p, v19 (ix2 p 0) = ((r p : ℝ) : EReal)) (h21 : ∀ p k, v21 (ix2 p k) = ((xh p k : ℝ) : EReal)) (h220 : ∀ p k, v220 (ix2 p k) = ((d p k : ℝ) : EReal)) (hD : ∀ p k, k0_pay98 (F := Ideal) v398 v417 v426 v436 v438 v441 v445 (ix2 p k) = ((D p k : ℝ) : EReal)) (p : Fin 256) (k : Fin 1024) :
    k0_pay103 (F := Ideal) v5 v9 v19 v21 v220 v398 v417 v426 v436 v438 v441 v445 (ix2 p k) = ((d p k + rmsBack (r p) (xh p) (fun i => D p i * (1 + sc i) * g i) k : ℝ) : EReal) := by
  pointwise [k0_pay103]
  simp only [h5, h9, h19, h21, h220, hD, pay101_at h5 hD, reals] <;> rfl

/-- One row added into its accumulator. -/
theorem pay107_at {a : Fin 1024 → ℝ} {v454 : FVec Ideal S1x1024 .f32} (v492 : Vec Ideal S1x1x1024 .f32)
    (h454 : ∀ k, v454 (ix2 0 k) = ((a k : ℝ) : EReal)) (k : Fin 1024) :
    k0_pay107 (F := Ideal) v454 v492 (ix3 0 0 k) = (v492 (ix3 0 0 k) + ((a k : ℝ) : EReal) : EReal) := by
  pointwise [k0_pay107]
  rw [h454]

/-- One row added into its accumulator. -/
theorem pay108_at {a : Fin 1024 → ℝ} {v452 : FVec Ideal S1x1024 .f32} (v498 : Vec Ideal S1x1x1024 .f32)
    (h452 : ∀ k, v452 (ix2 0 k) = ((a k : ℝ) : EReal)) (k : Fin 1024) :
    k0_pay108 (F := Ideal) v452 v498 (ix3 0 0 k) = (v498 (ix3 0 0 k) + ((a k : ℝ) : EReal) : EReal) := by
  pointwise [k0_pay108]
  rw [h452]

/-- One row added into its accumulator. -/
theorem pay109_at {a : Fin 1024 → ℝ} {v225 : FVec Ideal S1x1024 .f32} (v504 : Vec Ideal S1x1x1024 .f32)
    (h225 : ∀ k, v225 (ix2 0 k) = ((a k : ℝ) : EReal)) (k : Fin 1024) :
    k0_pay109 (F := Ideal) v225 v504 (ix2 0 k) = (v504 (ix3 0 0 k) + ((a k : ℝ) : EReal) : EReal) := by
  pointwise [k0_pay109]
  rw [h225]

/-- One row added into its accumulator. -/
theorem pay2_at {a : Fin 1024 → ℝ} {v461 : FVec Ideal S1x1024 .f32} (v510 : Vec Ideal S1x1024 .f32)
    (h461 : ∀ k, v461 (ix2 0 k) = ((a k : ℝ) : EReal)) (k : Fin 1024) :
    k0_pay2 (F := Ideal) v461 v510 (ix2 0 k) = (v510 (ix2 0 k) + ((a k : ℝ) : EReal) : EReal) := by
  pointwise [k0_pay2]
  rw [h461]

/-- One row added into its accumulator. -/
theorem pay3_at {a : Fin 1024 → ℝ} {v232 : FVec Ideal S1x1024 .f32} (v514 : Vec Ideal S1x1024 .f32)
    (h232 : ∀ k, v232 (ix2 0 k) = ((a k : ℝ) : EReal)) (k : Fin 1024) :
    k0_pay3 (F := Ideal) v232 v514 (ix2 0 k) = (v514 (ix2 0 k) + ((a k : ℝ) : EReal) : EReal) := by
  pointwise [k0_pay3]
  rw [h232]

/-- A row as it is stored. -/
theorem pay1_at (v506 : FVec Ideal S1x1024 .f32) (k : Fin 1024) :
    k0_pay1 (F := Ideal) v506 (ix3 0 0 k) = v506 (ix2 0 k) := by
  pointwise [k0_pay1]

/-- Half the sum of the rows' mean squared errors, added into every element of the accumulator. -/
theorem pay4_at {e : Fin 256 → Fin 1024 → ℝ} {v218 : FVec Ideal S256x1024 .f32} (v518 : Vec Ideal S8x1024 .f32)
    (h218 : ∀ p k, v218 (ix2 p k) = ((e p k : ℝ) : EReal)) (i : Fin 8) (k : Fin 1024) :
    k0_pay4 (F := Ideal) v218 v518 (ix2 i k)
      = (v518 (ix2 i k) + ((1 / 2 * ∑ p, mean (fun k => e p k * e p k) : ℝ) : EReal) : EReal) := by
  pointwise [k0_pay4]
  simp only [h218, reals] <;> rfl

/-- The accumulators start from zero. -/
theorem pay104_at (i : Fin 8) (k : Fin 1024) : k0_pay104 (F := Ideal) (ix3 0 i k) = (0 : EReal) := by
  pointwise [k0_pay104]

theorem pay105_at (i : Fin 8) (k : Fin 1024) : k0_pay105 (F := Ideal) (ix2 i k) = (0 : EReal) := by
  pointwise [k0_pay105]

theorem pay106_at (i : Fin 8) (k : Fin 1024) : k0_pay106 (F := Ideal) (ix2 i k) = (0 : EReal) := by
  pointwise [k0_pay106]

end Cert.KernelIdeal.Value

end
-- ==== Proof.Words.lean ====
module

public import proofs.«01_k».proof.Proof.PayBwd

@[expose] public section

set_option maxRecDepth 16384

/-!
The kernel's body, value by value: every value is a function of the blocks of one grid point, and, at an index, it is
the corresponding quantity of the token the row belongs to.
-/

noncomputable section

namespace Cert.KernelIdeal.Value

open Cert.KernelIdeal Cert.KernelIdeal.Gen Cert.Ffn
open Idealize.ShloMosaic Idealize.ShloMosaic.TcCoe Idealize.SL.Sem

/-- The input blocks of one grid point. -/
structure Blk where
  x0 : Vec Ideal S256x1024 .f32
  x1 : Vec Ideal S256x1024 .f32
  x2 : Vec Ideal S1x8x1024 .f32
  x3 : Vec Ideal S8x1024 .f32
  x4 : Vec Ideal S8x704x256 .bf16
  x5 : Vec Ideal S8x704x768 .bf16
  x6 : Vec Ideal S4x704x1024 .bf16

/-- The real numbers in one grid point's blocks: 256 tokens of one sequence. -/
structure Tile where
  x : Fin 256 → Fin 1024 → ℝ
  t : Fin 256 → Fin 1024 → ℝ
  sh : Fin 1024 → ℝ
  sc : Fin 1024 → ℝ
  gt : Fin 1024 → ℝ
  gpre : Fin 1024 → ℝ
  gpost : Fin 1024 → ℝ
  wi : Fin 1024 → Fin 5632 → ℝ
  wo : Fin 2816 → Fin 1024 → ℝ

/-- Token `p` of the tile. -/
def Tile.tok (Z : Tile) (p : Fin 256) : Tok := ⟨Z.x p, Z.t p, Z.sh, Z.sc, Z.gt, Z.gpre, Z.gpost, Z.wi, Z.wo⟩

/-- The blocks hold the tile's numbers. -/
structure Holds (B : Blk) (Z : Tile) : Prop where
  x0 : ∀ p k, B.x0 (ix2 p k) = ((Z.x p k : ℝ) : EReal)
  x1 : ∀ p k, B.x1 (ix2 p k) = ((Z.t p k : ℝ) : EReal)
  sh : ∀ k, B.x2 (ix3 0 0 k) = ((Z.sh k : ℝ) : EReal)
  sc : ∀ k, B.x2 (ix3 0 1 k) = ((Z.sc k : ℝ) : EReal)
  gt : ∀ k, B.x2 (ix3 0 2 k) = ((Z.gt k : ℝ) : EReal)
  gpre : ∀ k, B.x3 (ix2 0 k) = ((Z.gpre k : ℝ) : EReal)
  gpost : ∀ k, B.x3 (ix2 1 k) = ((Z.gpost k : ℝ) : EReal)
  wlo : ∀ g f k, B.x4 (ix3 g f k) = ((Z.wi (lo k) (slab g f) : ℝ) : EReal)
  whi : ∀ g f k, B.x5 (ix3 g f k) = ((Z.wi (hi k) (slab g f) : ℝ) : EReal)
  wo : ∀ c f k, B.x6 (ix3 c f k) = ((Z.wo (ch c f) k : ℝ) : EReal)

variable (B : Blk)

/-! ### The pieces of the blocks the body loads -/

/-- Row 0 of the modulation. -/
def l2_0 : Vec Ideal S1x1x1024 .f32 := View.ld B.x2 (Rect.unit ![0, 0, 0] ![1, 1, 1024] inb_S1x8x1024_S1x1x1024_0_0_0)
/-- Row 1 of the modulation. -/
def l2_1 : Vec Ideal S1x1x1024 .f32 := View.ld B.x2 (Rect.unit ![0, 1, 0] ![1, 1, 1024] inb_S1x8x1024_S1x1x1024_0_1_0)
/-- Row 2 of the modulation. -/
def l2_2 : Vec Ideal S1x1x1024 .f32 := View.ld B.x2 (Rect.unit ![0, 2, 0] ![1, 1, 1024] inb_S1x8x1024_S1x1x1024_0_2_0)
/-- Row 0 of the gains. -/
def l3_0 : Vec Ideal S1x1024 .f32 := View.ld B.x3 (Rect.unit ![0, 0] ![1, 1024] inb_S8x1024_S1x1024_0_0)
/-- Row 1 of the gains. -/
def l3_1 : Vec Ideal S1x1024 .f32 := View.ld B.x3 (Rect.unit ![1, 0] ![1, 1024] inb_S8x1024_S1x1024_1_0)
/-- Slab 0 of the input projection, first columns. -/
def l4_0 : Vec Ideal S1x704x256 .bf16 := View.ld B.x4 (Rect.unit ![0, 0, 0] ![1, 704, 256] inb_S8x704x256_S1x704x256_0_0_0)
/-- Slab 1 of the input projection, first columns. -/
def l4_1 : Vec Ideal S1x704x256 .bf16 := View.ld B.x4 (Rect.unit ![1, 0, 0] ![1, 704, 256] inb_S8x704x256_S1x704x256_1_0_0)
/-- Slab 2 of the input projection, first columns. -/
def l4_2 : Vec Ideal S1x704x256 .bf16 := View.ld B.x4 (Rect.unit ![2, 0, 0] ![1, 704, 256] inb_S8x704x256_S1x704x256_2_0_0)
/-- Slab 3 of the input projection, first columns. -/
def l4_3 : Vec Ideal S1x704x256 .bf16 := View.ld B.x4 (Rect.unit ![3, 0, 0] ![1, 704, 256] inb_S8x704x256_S1x704x256_3_0_0)
/-- Slab 4 of the input projection, first columns. -/
def l4_4 : Vec Ideal S1x704x256 .bf16 := View.ld B.x4 (Rect.unit ![4, 0, 0] ![1, 704, 256] inb_S8x704x256_S1x704x256_4_0_0)
/-- Slab 5 of the input projection, first columns. -/
def l4_5 : Vec Ideal S1x704x256 .bf16 := View.ld B.x4 (Rect.unit ![5, 0, 0] ![1, 704, 256] inb_S8x704x256_S1x704x256_5_0_0)
/-- Slab 6 of the input projection, first columns. -/
def l4_6 : Vec Ideal S1x704x256 .bf16 := View.ld B.x4 (Rect.unit ![6, 0, 0] ![1, 704, 256] inb_S8x704x256_S1x704x256_6_0_0)
/-- Slab 7 of the input projection, first columns. -/
def l4_7 : Vec Ideal S1x704x256 .bf16 := View.ld B.x4 (Rect.unit ![7, 0, 0] ![1, 704, 256] inb_S8x704x256_S1x704x256_7_0_0)
/-- Slab 0 of the input projection, last columns. -/
def l5_0 : Vec Ideal S1x704x768 .bf16 := View.ld B.x5 (Rect.unit ![0, 0, 0] ![1, 704, 768] inb_S8x704x768_S1x704x768_0_0_0)
/-- Slab 1 of the input projection, last columns. -/
def l5_1 : Vec Ideal S1x704x768 .bf16 := View.ld B.x5 (Rect.unit ![1, 0, 0] ![1, 704, 768] inb_S8x704x768_S1x704x768_1_0_0)
/-- Slab 2 of the input projection, last columns. -/
def l5_2 : Vec Ideal S1x704x768 .bf16 := View.ld B.x5 (Rect.unit ![2, 0, 0] ![1, 704, 768] inb_S8x704x768_S1x704x768_2_0_0)
/-- Slab 3 of the input projection, last columns. -/
def l5_3 : Vec Ideal S1x704x768 .bf16 := View.ld B.x5 (Rect.unit ![3, 0, 0] ![1, 704, 768] inb_S8x704x768_S1x704x768_3_0_0)
/-- Slab 4 of the input projection, last columns. -/
def l5_4 : Vec Ideal S1x704x768 .bf16 := View.ld B.x5 (Rect.unit ![4, 0, 0] ![1, 704, 768] inb_S8x704x768_S1x704x768_4_0_0)
/-- Slab 5 of the input projection, last columns. -/
def l5_5 : Vec Ideal S1x704x768 .bf16 := View.ld B.x5 (Rect.unit ![5, 0, 0] ![1, 704, 768] inb_S8x704x768_S1x704x768_5_0_0)
/-- Slab 6 of the input projection, last columns. -/
def l5_6 : Vec Ideal S1x704x768 .bf16 := View.ld B.x5 (Rect.unit ![6, 0, 0] ![1, 704, 768] inb_S8x704x768_S1x704x768_6_0_0)
/-- Slab 7 of the input projection, last columns. -/
def l5_7 : Vec Ideal S1x704x768 .bf16 := View.ld B.x5 (Rect.unit ![7, 0, 0] ![1, 704, 768] inb_S8x704x768_S1x704x768_7_0_0)
/-- Chunk 0 of the output projection. -/
def l6_0 : Vec Ideal S1x704x1024 .bf16 := View.ld B.x6 (Rect.unit ![0, 0, 0] ![1, 704, 1024] inb_S4x704x1024_S1x704x1024_0_0_0)
/-- Chunk 1 of the output projection. -/
def l6_1 : Vec Ideal S1x704x1024 .bf16 := View.ld B.x6 (Rect.unit ![1, 0, 0] ![1, 704, 1024] inb_S4x704x1024_S1x704x1024_1_0_0)
/-- Chunk 2 of the output projection. -/
def l6_2 : Vec Ideal S1x704x1024 .bf16 := View.ld B.x6 (Rect.unit ![2, 0, 0] ![1, 704, 1024] inb_S4x704x1024_S1x704x1024_2_0_0)
/-- Chunk 3 of the output projection. -/
def l6_3 : Vec Ideal S1x704x1024 .bf16 := View.ld B.x6 (Rect.unit ![3, 0, 0] ![1, 704, 1024] inb_S4x704x1024_S1x704x1024_3_0_0)

/-! ### The body's values -/

/-- the modulated input, first columns -/
def hba : FVec Ideal S256x256 .bf16 := k0_pay14 B.x0 (l2_0 B) (l2_1 B) (l3_0 B)
/-- the modulated input, last columns -/
def hbb : FVec Ideal S256x768 .bf16 := k0_pay15 B.x0 (l2_0 B) (l2_1 B) (l3_0 B)
/-- second gate slab -/
def ga1 : FVec Ideal S256x704 .f32 := k0_pay24 (hba B) (hbb B) (l4_1 B) (l5_1 B)
/-- second up slab -/
def ua1 : FVec Ideal S256x704 .f32 := k0_pay25 (hba B) (hbb B) (l4_5 B) (l5_5 B)
/-- third gate slab -/
def ga2 : FVec Ideal S256x704 .f32 := k0_pay31 (hba B) (hbb B) (l4_2 B) (l5_2 B)
/-- third up slab, first piece -/
def ua2 : FVec Ideal S256x704 .f32 := k0_pay32 (hba B) (l4_6 B)
/-- activation, first chunk -/
def act0 : FVec Ideal S1x256x704 .bf16 := k0_pay22 (k0_pay21 (hba B) (hbb B) (l4_0 B) (l5_0 B) (l4_4 B) (l5_4 B))
/-- activation, second chunk -/
def act1 : FVec Ideal S1x256x704 .bf16 := k0_pay29 (ga1 B) (ua1 B)
/-- activation, third chunk -/
def act2 : FVec Ideal S1x256x704 .bf16 := k0_pay36 (hbb B) (ga2 B) (ua2 B) (l5_6 B)
/-- activation, fourth chunk -/
def act3 : FVec Ideal S1x256x704 .bf16 := k0_pay43 (k0_pay42 (hba B) (hbb B) (l4_3 B) (l5_3 B) (l4_7 B) (l5_7 B))
/-- output projection, one chunk -/
def y1 : FVec Ideal S256x1024 .f32 := k0_pay23 (k0_pay16 (F := Ideal)) (act0 B) (l6_0 B)
/-- output projection, two chunks -/
def y2 : FVec Ideal S256x1024 .f32 := k0_pay30 (y1 B) (act1 B) (l6_1 B)
/-- output projection, three chunks -/
def y3 : FVec Ideal S256x1024 .f32 := k0_pay37 (y2 B) (act2 B) (l6_2 B)
/-- output projection -/
def yw : FVec Ideal S256x1024 .f32 := k0_pay44 (y3 B) (act3 B) (l6_3 B)
/-- its reciprocal root mean square -/
def ryw : FVec Ideal S256x1 .f32 := k0_pay45 (y3 B) (act3 B) (l6_3 B)
/-- normalised output projection -/
def yhw : FVec Ideal S256x1024 .f32 := k0_pay46 (y3 B) (act3 B) (l6_3 B)
/-- the input -/
def xw : FVec Ideal S256x1024 .f32 := k0_pay5 B.x0
/-- the gate row -/
def gtw : FVec Ideal S1x1024 .f32 := k0_pay7 (l2_2 B)
/-- the second gain -/
def gpw : FVec Ideal S1x1024 .f32 := k0_pay9 (l3_1 B)
/-- the error -/
def errw : FVec Ideal S256x1024 .f32 := k0_pay48 (xw B) (gtw B) (gpw B) (y3 B) (act3 B) (l6_3 B) B.x1
/-- gradient at the block's output -/
def dxow : FVec Ideal S256x1024 .f32 := k0_pay49 (xw B) (gtw B) (gpw B) (y3 B) (act3 B) (l6_3 B) B.x1
/-- gradient at the output gate -/
def dgtw : FVec Ideal S1x1024 .f32 := k0_pay50 (xw B) (gtw B) (gpw B) (y3 B) (act3 B) (l6_3 B) B.x1
/-- gradient at the scaled normalised output projection -/
def dpw : FVec Ideal S256x1024 .f32 := k0_pay51 (xw B) (gtw B) (gpw B) (y3 B) (act3 B) (l6_3 B) B.x1
/-- gradient at the second gain -/
def dgpostw : FVec Ideal S1x1024 .f32 := k0_pay52 (xw B) (gtw B) (gpw B) (y3 B) (act3 B) (l6_3 B) B.x1
/-- gradient at the output projection -/
def dyw : FVec Ideal S256x1024 .bf16 := k0_pay53 (gpw B) (ryw B) (yhw B) (dpw B)
/-- kept gate slab -/
def g0 : FVec Ideal S1x256x704 .bf16 := k0_pay19 (hba B) (hbb B) (l4_0 B) (l5_0 B)
/-- kept up slab -/
def u0 : FVec Ideal S1x256x704 .bf16 := k0_pay20 (hba B) (hbb B) (l4_4 B) (l5_4 B)
/-- kept gate slab -/
def g1 : FVec Ideal S1x256x704 .bf16 := k0_pay26 (hba B) (hbb B) (l4_1 B) (l5_1 B)
/-- kept up slab -/
def u1 : FVec Ideal S1x256x704 .bf16 := k0_pay28 (k0_pay27 (hba B) (hbb B) (l4_5 B) (l5_5 B))
/-- kept gate slab -/
def g2 : FVec Ideal S1x256x704 .bf16 := k0_pay34 (ga2 B)
/-- kept up slab -/
def u2 : FVec Ideal S1x256x704 .bf16 := k0_pay35 (hbb B) (ua2 B) (l5_6 B)
/-- kept gate slab -/
def g3 : FVec Ideal S1x256x704 .bf16 := k0_pay40 (hba B) (hbb B) (l4_3 B) (l5_3 B)
/-- kept up slab -/
def u3 : FVec Ideal S1x256x704 .bf16 := k0_pay41 (hba B) (hbb B) (l4_7 B) (l5_7 B)
/-- logistic of the gate -/
def s0 : FVec Ideal S256x704 .f32 := k0_pay57 (g0 B)
/-- gradient at the up half -/
def du0 : FVec Ideal S256x704 .bf16 := k0_pay59 (gpw B) (ryw B) (yhw B) (dpw B) (g0 B) (l6_0 B)
/-- gradient at the activation times the up half -/
def q0 : FVec Ideal S256x704 .f32 := k0_pay60 (gpw B) (ryw B) (yhw B) (dpw B) (u0 B) (l6_0 B)
/-- gate times one less its logistic -/
def z0 : FVec Ideal S256x704 .f32 := k0_pay61 (g0 B)
/-- stored gradient at the gate half, chunk 0 -/
def og0 : FVec Ideal S1x256x704 .bf16 := k0_pay63 (s0 B) (q0 B) (z0 B)
/-- stored gradient at the up half, chunk 0 -/
def ou0 : FVec Ideal S1x256x704 .bf16 := k0_pay64 (du0 B)
/-- pulled back gradient, first columns -/
def ea1 : FVec Ideal S256x256 .f32 := k0_pay65 (k0_pay54 (F := Ideal)) (s0 B) (du0 B) (q0 B) (z0 B) (l4_0 B) (l4_4 B)
/-- pulled back gradient, last columns -/
def eb1 : FVec Ideal S256x768 .f32 := k0_pay66 (k0_pay55 (F := Ideal)) (s0 B) (du0 B) (q0 B) (z0 B) (l5_0 B) (l5_4 B)
/-- gate -/
def gg1 : FVec Ideal S256x704 .f32 := k0_pay67 (g1 B)
/-- gradient at the up half -/
def du1 : FVec Ideal S256x704 .bf16 := k0_pay70 (dyw B) (gg1 B) (l6_1 B)
/-- gradient at the gate half -/
def dg1 : FVec Ideal S256x704 .bf16 := k0_pay71 (dyw B) (gg1 B) (u1 B) (l6_1 B)
/-- stored gradient at the gate half, chunk 1 -/
def og1 : FVec Ideal S1x256x704 .bf16 := k0_pay72 (dyw B) (gg1 B) (u1 B) (l6_1 B)
/-- stored gradient at the up half, chunk 1 -/
def ou1 : FVec Ideal S1x256x704 .bf16 := k0_pay73 (dyw B) (gg1 B) (l6_1 B)
/-- pulled back gradient -/
def ea2 : FVec Ideal S256x256 .f32 := k0_pay74 (dyw B) (ea1 B) (gg1 B) (u1 B) (l6_1 B) (l4_1 B)
/-- pulled back gradient -/
def ea3 : FVec Ideal S256x256 .f32 := k0_pay75 (du1 B) (ea2 B) (l4_5 B)
/-- pulled back gradient -/
def eb2 : FVec Ideal S256x768 .f32 := k0_pay76 (eb1 B) (du1 B) (dg1 B) (l5_1 B) (l5_5 B)
/-- logistic of the gate -/
def s2 : FVec Ideal S256x704 .f32 := k0_pay78 (g2 B)
/-- gradient at the up half -/
def du2 : FVec Ideal S256x704 .bf16 := k0_pay80 (dyw B) (g2 B) (l6_2 B)
/-- gradient at the activation times the up half -/
def q2 : FVec Ideal S256x704 .f32 := k0_pay81 (dyw B) (u2 B) (l6_2 B)
/-- gate times one less its logistic -/
def z2 : FVec Ideal S256x704 .f32 := k0_pay82 (g2 B)
/-- stored gradient at the gate half, chunk 2 -/
def og2 : FVec Ideal S1x256x704 .bf16 := k0_pay85 (s2 B) (q2 B) (z2 B) (k0_pay83 (F := Ideal))
/-- stored gradient at the up half, chunk 2 -/
def ou2 : FVec Ideal S1x256x704 .bf16 := k0_pay86 (du2 B)
/-- pulled back gradient -/
def ea4 : FVec Ideal S256x256 .f32 := k0_pay87 (ea3 B) (s2 B) (du2 B) (q2 B) (z2 B) (k0_pay83 (F := Ideal)) (l4_2 B) (l4_6 B)
/-- pulled back gradient -/
def eb3 : FVec Ideal S256x768 .f32 := k0_pay88 (eb2 B) (s2 B) (du2 B) (q2 B) (z2 B) (k0_pay83 (F := Ideal)) (l5_2 B) (l5_6 B)
/-- gate -/
def gg3 : FVec Ideal S256x704 .f32 := k0_pay89 (g3 B)
/-- gradient at the up half -/
def du3 : FVec Ideal S256x704 .bf16 := k0_pay92 (dyw B) (gg3 B) (l6_3 B)
/-- gradient at the gate half -/
def dg3 : FVec Ideal S256x704 .bf16 := k0_pay93 (dyw B) (gg3 B) (u3 B) (l6_3 B)
/-- stored gradient at the gate half, chunk 3 -/
def og3 : FVec Ideal S1x256x704 .bf16 := k0_pay94 (dyw B) (gg3 B) (u3 B) (l6_3 B)
/-- stored gradient at the up half, chunk 3 -/
def ou3 : FVec Ideal S1x256x704 .bf16 := k0_pay95 (dyw B) (gg3 B) (l6_3 B)
/-- pulled back gradient -/
def ea5 : FVec Ideal S256x256 .f32 := k0_pay96 (dyw B) (ea4 B) (gg3 B) (u3 B) (l6_3 B) (l4_3 B)
/-- last slab, first columns -/
def lst : FVec Ideal S704x256 .bf16 := k0_pay97 (l4_7 B)
/-- gradient at the modulated input -/
def dhw : FVec Ideal S256x1024 .f32 := k0_pay98 (eb3 B) (du3 B) (dg3 B) (ea5 B) (lst B) (l5_3 B) (l5_7 B)
/-- normalised input times the gain -/
def nw : FVec Ideal S256x1024 .f32 := k0_pay12 B.x0 (l3_0 B)
/-- the scale row -/
def scw : FVec Ideal S1x1024 .f32 := k0_pay6 (l2_1 B)
/-- the first gain -/
def g1w : FVec Ideal S1x1024 .f32 := k0_pay8 (l3_0 B)
/-- reciprocal root mean square of the input -/
def rw0 : FVec Ideal S256x1 .f32 := k0_pay10 B.x0
/-- normalised input -/
def xhw : FVec Ideal S256x1024 .f32 := k0_pay11 B.x0
/-- gradient at the scale -/
def dscw : FVec Ideal S1x1024 .f32 := k0_pay99 (nw B) (eb3 B) (du3 B) (dg3 B) (ea5 B) (lst B) (l5_3 B) (l5_7 B)
/-- gradient at the shift -/
def dshw : FVec Ideal S1x1024 .f32 := k0_pay100 (eb3 B) (du3 B) (dg3 B) (ea5 B) (lst B) (l5_3 B) (l5_7 B)
/-- gradient at the first gain -/
def dgprew : FVec Ideal S1x1024 .f32 := k0_pay102 (scw B) (xhw B) (eb3 B) (du3 B) (dg3 B) (ea5 B) (lst B) (l5_3 B) (l5_7 B)
/-- gradient at the block's input -/
def dxw : FVec Ideal S256x1024 .f32 := k0_pay103 (scw B) (g1w B) (rw0 B) (xhw B) (dxow B) (eb3 B) (du3 B) (dg3 B) (ea5 B) (lst B) (l5_3 B) (l5_7 B)
/-- modulated input -/
def hw : FVec Ideal S256x1024 .bf16 := k0_pay13 B.x0 (l2_0 B) (l2_1 B) (l3_0 B)

/-! ### Regrouping one token's sums -/

/-- A gate column, contracted in two pieces. -/
theorem gate_eq (T : Tok) (c : Fin 4) (g : Fin 8) (f : Fin 704) (hg : g.val = c.val) :
    (∑ i, T.h (lo i) * T.wi (lo i) (slab g f)) + ∑ i, T.h (hi i) * T.wi (hi i) (slab g f) = T.gate (ch c f) := by
  rw [slab_gate c f g hg, Tok.gate, Tok.gu_lohi]

/-- An up column, contracted in two pieces. -/
theorem up_eq (T : Tok) (c : Fin 4) (g : Fin 8) (f : Fin 704) (hg : g.val = 4 + c.val) :
    (∑ i, T.h (lo i) * T.wi (lo i) (slab g f)) + ∑ i, T.h (hi i) * T.wi (hi i) (slab g f) = T.up (ch c f) := by
  rw [slab_up c f g hg, Tok.up, Tok.gu_lohi]

/-- The activation from its two columns. -/
theorem act_eq {T : Tok} {f : Fin 2816} {a b : ℝ} (ha : a = T.gate f) (hb : b = T.up f) :
    a * lgst a * b = T.act f := by
  rw [ha, hb, Tok.act]

/-- The output projection, chunk by chunk. -/
theorem y_eq (T : Tok) (k : Fin 1024) :
    0 + (∑ f, T.act (ch 0 f) * T.wo (ch 0 f) k) + (∑ f, T.act (ch 1 f) * T.wo (ch 1 f) k)
      + (∑ f, T.act (ch 2 f) * T.wo (ch 2 f) k) + (∑ f, T.act (ch 3 f) * T.wo (ch 3 f) k) = T.y k := by
  rw [Tok.y, sum_ch, zero_add]

/-- The pulled back gradient, chunk by chunk. -/
theorem dh_eq (T : Tok) (k : Fin 1024) :
    0 + (∑ f, T.dgate (ch 0 f) * T.wi k (slab 0 f)) + (∑ f, T.dup (ch 0 f) * T.wi k (slab 4 f))
      + (∑ f, T.dgate (ch 1 f) * T.wi k (slab 1 f)) + (∑ f, T.dup (ch 1 f) * T.wi k (slab 5 f))
      + (∑ f, T.dgate (ch 2 f) * T.wi k (slab 2 f)) + (∑ f, T.dup (ch 2 f) * T.wi k (slab 6 f))
      + (∑ f, T.dgate (ch 3 f) * T.wi k (slab 3 f)) + (∑ f, T.dup (ch 3 f) * T.wi k (slab 7 f)) = T.dh k := by
  simp only [slab_gate 0 _ 0 rfl, slab_gate 1 _ 1 rfl, slab_gate 2 _ 2 rfl, slab_gate 3 _ 3 rfl,
    slab_up 0 _ 4 rfl, slab_up 1 _ 5 rfl, slab_up 2 _ 6 rfl, slab_up 3 _ 7 rfl]
  rw [Tok.dh_chunks, zero_add]

/-! ### The values at an index -/

variable {B} {Z : Tile}

theorem l2_0_at (H : Holds B Z) (k : Fin 1024) : l2_0 B (ix3 0 0 k) = ((Z.sh k : ℝ) : EReal) := by
  pointwise [l2_0]
  exact H.sh k
theorem l2_1_at (H : Holds B Z) (k : Fin 1024) : l2_1 B (ix3 0 0 k) = ((Z.sc k : ℝ) : EReal) := by
  pointwise [l2_1]
  exact H.sc k
theorem l2_2_at (H : Holds B Z) (k : Fin 1024) : l2_2 B (ix3 0 0 k) = ((Z.gt k : ℝ) : EReal) := by
  pointwise [l2_2]
  exact H.gt k
theorem l3_0_at (H : Holds B Z) (k : Fin 1024) : l3_0 B (ix2 0 k) = ((Z.gpre k : ℝ) : EReal) := by
  pointwise [l3_0]
  exact H.gpre k
theorem l3_1_at (H : Holds B Z) (k : Fin 1024) : l3_1 B (ix2 0 k) = ((Z.gpost k : ℝ) : EReal) := by
  pointwise [l3_1]
  exact H.gpost k
theorem l4_0_at (H : Holds B Z) (f : Fin 704) (k : Fin 256) : l4_0 B (ix3 0 f k) = ((Z.wi (lo k) (slab 0 f) : ℝ) : EReal) := by
  pointwise [l4_0]
  exact H.wlo 0 f k
theorem l4_1_at (H : Holds B Z) (f : Fin 704) (k : Fin 256) : l4_1 B (ix3 0 f k) = ((Z.wi (lo k) (slab 1 f) : ℝ) : EReal) := by
  pointwise [l4_1]
  exact H.wlo 1 f k
theorem l4_2_at (H : Holds B Z) (f : Fin 704) (k : Fin 256) : l4_2 B (ix3 0 f k) = ((Z.wi (lo k) (slab 2 f) : ℝ) : EReal) := by
  pointwise [l4_2]
  exact H.wlo 2 f k
theorem l4_3_at (H : Holds B Z) (f : Fin 704) (k : Fin 256) : l4_3 B (ix3 0 f k) = ((Z.wi (lo k) (slab 3 f) : ℝ) : EReal) := by
  pointwise [l4_3]
  exact H.wlo 3 f k
theorem l4_4_at (H : Holds B Z) (f : Fin 704) (k : Fin 256) : l4_4 B (ix3 0 f k) = ((Z.wi (lo k) (slab 4 f) : ℝ) : EReal) := by
  pointwise [l4_4]
  exact H.wlo 4 f k
theorem l4_5_at (H : Holds B Z) (f : Fin 704) (k : Fin 256) : l4_5 B (ix3 0 f k) = ((Z.wi (lo k) (slab 5 f) : ℝ) : EReal) := by
  pointwise [l4_5]
  exact H.wlo 5 f k
theorem l4_6_at (H : Holds B Z) (f : Fin 704) (k : Fin 256) : l4_6 B (ix3 0 f k) = ((Z.wi (lo k) (slab 6 f) : ℝ) : EReal) := by
  pointwise [l4_6]
  exact H.wlo 6 f k
theorem l4_7_at (H : Holds B Z) (f : Fin 704) (k : Fin 256) : l4_7 B (ix3 0 f k) = ((Z.wi (lo k) (slab 7 f) : ℝ) : EReal) := by
  pointwise [l4_7]
  exact H.wlo 7 f k
theorem l5_0_at (H : Holds B Z) (f : Fin 704) (k : Fin 768) : l5_0 B (ix3 0 f k) = ((Z.wi (hi k) (slab 0 f) : ℝ) : EReal) := by
  pointwise [l5_0]
  exact H.whi 0 f k
theorem l5_1_at (H : Holds B Z) (f : Fin 704) (k : Fin 768) : l5_1 B (ix3 0 f k) = ((Z.wi (hi k) (slab 1 f) : ℝ) : EReal) := by
  pointwise [l5_1]
  exact H.whi 1 f k
theorem l5_2_at (H : Holds B Z) (f : Fin 704) (k : Fin 768) : l5_2 B (ix3 0 f k) = ((Z.wi (hi k) (slab 2 f) : ℝ) : EReal) := by
  pointwise [l5_2]
  exact H.whi 2 f k
theorem l5_3_at (H : Holds B Z) (f : Fin 704) (k : Fin 768) : l5_3 B (ix3 0 f k) = ((Z.wi (hi k) (slab 3 f) : ℝ) : EReal) := by
  pointwise [l5_3]
  exact H.whi 3 f k
theorem l5_4_at (H : Holds B Z) (f : Fin 704) (k : Fin 768) : l5_4 B (ix3 0 f k) = ((Z.wi (hi k) (slab 4 f) : ℝ) : EReal) := by
  pointwise [l5_4]
  exact H.whi 4 f k
theorem l5_5_at (H : Holds B Z) (f : Fin 704) (k : Fin 768) : l5_5 B (ix3 0 f k) = ((Z.wi (hi k) (slab 5 f) : ℝ) : EReal) := by
  pointwise [l5_5]
  exact H.whi 5 f k
theorem l5_6_at (H : Holds B Z) (f : Fin 704) (k : Fin 768) : l5_6 B (ix3 0 f k) = ((Z.wi (hi k) (slab 6 f) : ℝ) : EReal) := by
  pointwise [l5_6]
  exact H.whi 6 f k
theorem l5_7_at (H : Holds B Z) (f : Fin 704) (k : Fin 768) : l5_7 B (ix3 0 f k) = ((Z.wi (hi k) (slab 7 f) : ℝ) : EReal) := by
  pointwise [l5_7]
  exact H.whi 7 f k
theorem l6_0_at (H : Holds B Z) (f : Fin 704) (k : Fin 1024) : l6_0 B (ix3 0 f k) = ((Z.wo (ch 0 f) k : ℝ) : EReal) := by
  pointwise [l6_0]
  exact H.wo 0 f k
theorem l6_1_at (H : Holds B Z) (f : Fin 704) (k : Fin 1024) : l6_1 B (ix3 0 f k) = ((Z.wo (ch 1 f) k : ℝ) : EReal) := by
  pointwise [l6_1]
  exact H.wo 1 f k
theorem l6_2_at (H : Holds B Z) (f : Fin 704) (k : Fin 1024) : l6_2 B (ix3 0 f k) = ((Z.wo (ch 2 f) k : ℝ) : EReal) := by
  pointwise [l6_2]
  exact H.wo 2 f k
theorem l6_3_at (H : Holds B Z) (f : Fin 704) (k : Fin 1024) : l6_3 B (ix3 0 f k) = ((Z.wo (ch 3 f) k : ℝ) : EReal) := by
  pointwise [l6_3]
  exact H.wo 3 f k

theorem hba_at (H : Holds B Z) (p : Fin 256) (k : Fin 256) :
    hba B (ix2 p k) = (((Z.tok p).h (lo k) : ℝ) : EReal) :=
  pay14_at H.x0 (l2_0_at H) (l2_1_at H) (l3_0_at H) p k
theorem hbb_at (H : Holds B Z) (p : Fin 256) (k : Fin 768) :
    hbb B (ix2 p k) = (((Z.tok p).h (hi k) : ℝ) : EReal) :=
  pay15_at H.x0 (l2_0_at H) (l2_1_at H) (l3_0_at H) p k
theorem ga1_at (H : Holds B Z) (p : Fin 256) (k : Fin 704) :
    ga1 B (ix2 p k) = (((Z.tok p).gate (ch 1 k) : ℝ) : EReal) :=
  (pay24_at (hba_at H) (hbb_at H) (l4_1_at H) (l5_1_at H) p k).trans (congrArg Real.toEReal (gate_eq (Z.tok p) 1 1 k rfl))
theorem ua1_at (H : Holds B Z) (p : Fin 256) (k : Fin 704) :
    ua1 B (ix2 p k) = (((Z.tok p).up (ch 1 k) : ℝ) : EReal) :=
  (pay25_at (hba_at H) (hbb_at H) (l4_5_at H) (l5_5_at H) p k).trans (congrArg Real.toEReal (up_eq (Z.tok p) 1 5 k rfl))
theorem ga2_at (H : Holds B Z) (p : Fin 256) (k : Fin 704) :
    ga2 B (ix2 p k) = (((Z.tok p).gate (ch 2 k) : ℝ) : EReal) :=
  (pay31_at (hba_at H) (hbb_at H) (l4_2_at H) (l5_2_at H) p k).trans (congrArg Real.toEReal (gate_eq (Z.tok p) 2 2 k rfl))
theorem ua2_at (H : Holds B Z) (p : Fin 256) (k : Fin 704) :
    ua2 B (ix2 p k) = ((∑ i, (Z.tok p).h (lo i) * Z.wi (lo i) (slab 6 k) : ℝ) : EReal) :=
  pay32_at (hba_at H) (l4_6_at H) p k
theorem act0_at (H : Holds B Z) (p : Fin 256) (k : Fin 704) :
    act0 B (ix3 0 p k) = (((Z.tok p).act (ch 0 k) : ℝ) : EReal) :=
  (pay22_at (pay21_at (hba_at H) (hbb_at H) (l4_0_at H) (l5_0_at H) (l4_4_at H) (l5_4_at H)) p k).trans (congrArg Real.toEReal (act_eq (gate_eq (Z.tok p) 0 0 k rfl) (up_eq (Z.tok p) 0 4 k rfl)))
theorem act1_at (H : Holds B Z) (p : Fin 256) (k : Fin 704) :
    act1 B (ix3 0 p k) = (((Z.tok p).act (ch 1 k) : ℝ) : EReal) :=
  pay29_at (ga1_at H) (ua1_at H) p k
theorem act2_at (H : Holds B Z) (p : Fin 256) (k : Fin 704) :
    act2 B (ix3 0 p k) = (((Z.tok p).act (ch 2 k) : ℝ) : EReal) :=
  (pay36_at (hbb_at H) (ga2_at H) (ua2_at H) (l5_6_at H) p k).trans (congrArg Real.toEReal (act_eq (T := (Z.tok p)) rfl (up_eq (Z.tok p) 2 6 k rfl)))
theorem act3_at (H : Holds B Z) (p : Fin 256) (k : Fin 704) :
    act3 B (ix3 0 p k) = (((Z.tok p).act (ch 3 k) : ℝ) : EReal) :=
  (pay43_at (pay42_at (hba_at H) (hbb_at H) (l4_3_at H) (l5_3_at H) (l4_7_at H) (l5_7_at H)) p k).trans (congrArg Real.toEReal (act_eq (gate_eq (Z.tok p) 3 3 k rfl) (up_eq (Z.tok p) 3 7 k rfl)))
theorem y1_at (H : Holds B Z) (p : Fin 256) (k : Fin 1024) :
    y1 B (ix2 p k) = ((0 + (∑ f, (Z.tok p).act (ch 0 f) * Z.wo (ch 0 f) k) : ℝ) : EReal) :=
  pay23_at pay16_at (act0_at H) (l6_0_at H) p k
theorem y2_at (H : Holds B Z) (p : Fin 256) (k : Fin 1024) :
    y2 B (ix2 p k) = ((0 + (∑ f, (Z.tok p).act (ch 0 f) * Z.wo (ch 0 f) k) + (∑ f, (Z.tok p).act (ch 1 f) * Z.wo (ch 1 f) k) : ℝ) : EReal) :=
  pay30_at (y1_at H) (act1_at H) (l6_1_at H) p k
theorem y3_at (H : Holds B Z) (p : Fin 256) (k : Fin 1024) :
    y3 B (ix2 p k) = ((0 + (∑ f, (Z.tok p).act (ch 0 f) * Z.wo (ch 0 f) k) + (∑ f, (Z.tok p).act (ch 1 f) * Z.wo (ch 1 f) k) + (∑ f, (Z.tok p).act (ch 2 f) * Z.wo (ch 2 f) k) : ℝ) : EReal) :=
  pay37_at (y2_at H) (act2_at H) (l6_2_at H) p k
theorem yw_at (H : Holds B Z) (p : Fin 256) (k : Fin 1024) :
    yw B (ix2 p k) = (((Z.tok p).y k : ℝ) : EReal) :=
  (pay44_at (y3_at H) (act3_at H) (l6_3_at H) p k).trans (congrArg Real.toEReal (y_eq (Z.tok p) k))
theorem ryw_at (H : Holds B Z) (p : Fin 256) :
    ryw B (ix2 p 0) = (((Z.tok p).ry : ℝ) : EReal) :=
  pay45_at (Y := fun p k => (Z.tok p).y k) (yw_at H) p
theorem yhw_at (H : Holds B Z) (p : Fin 256) (k : Fin 1024) :
    yhw B (ix2 p k) = (((Z.tok p).yh k : ℝ) : EReal) :=
  pay46_at (Y := fun p k => (Z.tok p).y k) (yw_at H) p k
theorem xw_at (H : Holds B Z) (p : Fin 256) (k : Fin 1024) :
    xw B (ix2 p k) = ((Z.x p k : ℝ) : EReal) :=
  pay5_at H.x0 p k
theorem gtw_at (H : Holds B Z) (k : Fin 1024) :
    gtw B (ix2 0 k) = ((Z.gt k : ℝ) : EReal) :=
  pay7_at (l2_2_at H) k
theorem gpw_at (H : Holds B Z) (k : Fin 1024) :
    gpw B (ix2 0 k) = ((Z.gpost k : ℝ) : EReal) :=
  pay9_at (l3_1_at H) k
theorem errw_at (H : Holds B Z) (p : Fin 256) (k : Fin 1024) :
    errw B (ix2 p k) = (((Z.tok p).err k : ℝ) : EReal) :=
  pay48_at (xw_at H) (gtw_at H) (gpw_at H) H.x1 (Y := fun p k => (Z.tok p).y k) (yw_at H) p k
theorem dxow_at (H : Holds B Z) (p : Fin 256) (k : Fin 1024) :
    dxow B (ix2 p k) = (((Z.tok p).dxo k : ℝ) : EReal) :=
  pay49_at (xw_at H) (gtw_at H) (gpw_at H) H.x1 (Y := fun p k => (Z.tok p).y k) (yw_at H) p k
theorem dgtw_at (H : Holds B Z) (k : Fin 1024) :
    dgtw B (ix2 0 k) = ((∑ p, 1 / 2 * (Z.tok p).dxo k * (Z.tok p).pn k : ℝ) : EReal) :=
  pay50_at (xw_at H) (gtw_at H) (gpw_at H) H.x1 (Y := fun p k => (Z.tok p).y k) (yw_at H) k
theorem dpw_at (H : Holds B Z) (p : Fin 256) (k : Fin 1024) :
    dpw B (ix2 p k) = (((Z.tok p).dp k : ℝ) : EReal) :=
  pay51_at (xw_at H) (gtw_at H) (gpw_at H) H.x1 (Y := fun p k => (Z.tok p).y k) (yw_at H) p k
theorem dgpostw_at (H : Holds B Z) (k : Fin 1024) :
    dgpostw B (ix2 0 k) = ((∑ p, (Z.tok p).dp k * (Z.tok p).yh k : ℝ) : EReal) :=
  pay52_at (xw_at H) (gtw_at H) (gpw_at H) H.x1 (Y := fun p k => (Z.tok p).y k) (yw_at H) k
theorem dyw_at (H : Holds B Z) (p : Fin 256) (k : Fin 1024) :
    dyw B (ix2 p k) = (((Z.tok p).dy k : ℝ) : EReal) :=
  pay53_at (gpw_at H) (ryw_at H) (yhw_at H) (dpw_at H) p k
theorem g0_at (H : Holds B Z) (p : Fin 256) (k : Fin 704) :
    g0 B (ix3 0 p k) = (((Z.tok p).gate (ch 0 k) : ℝ) : EReal) :=
  (pay19_at (hba_at H) (hbb_at H) (l4_0_at H) (l5_0_at H) p k).trans (congrArg Real.toEReal (gate_eq (Z.tok p) 0 0 k rfl))
theorem u0_at (H : Holds B Z) (p : Fin 256) (k : Fin 704) :
    u0 B (ix3 0 p k) = (((Z.tok p).up (ch 0 k) : ℝ) : EReal) :=
  (pay20_at (hba_at H) (hbb_at H) (l4_4_at H) (l5_4_at H) p k).trans (congrArg Real.toEReal (up_eq (Z.tok p) 0 4 k rfl))
theorem g1_at (H : Holds B Z) (p : Fin 256) (k : Fin 704) :
    g1 B (ix3 0 p k) = (((Z.tok p).gate (ch 1 k) : ℝ) : EReal) :=
  (pay26_at (hba_at H) (hbb_at H) (l4_1_at H) (l5_1_at H) p k).trans (congrArg Real.toEReal (gate_eq (Z.tok p) 1 1 k rfl))
theorem u1_at (H : Holds B Z) (p : Fin 256) (k : Fin 704) :
    u1 B (ix3 0 p k) = (((Z.tok p).up (ch 1 k) : ℝ) : EReal) :=
  (pay28_at (pay27_at (hba_at H) (hbb_at H) (l4_5_at H) (l5_5_at H)) p k).trans (congrArg Real.toEReal (up_eq (Z.tok p) 1 5 k rfl))
theorem g2_at (H : Holds B Z) (p : Fin 256) (k : Fin 704) :
    g2 B (ix3 0 p k) = (((Z.tok p).gate (ch 2 k) : ℝ) : EReal) :=
  pay34_at (ga2_at H) p k
theorem u2_at (H : Holds B Z) (p : Fin 256) (k : Fin 704) :
    u2 B (ix3 0 p k) = (((Z.tok p).up (ch 2 k) : ℝ) : EReal) :=
  (pay35_at (hbb_at H) (ua2_at H) (l5_6_at H) p k).trans (congrArg Real.toEReal (up_eq (Z.tok p) 2 6 k rfl))
theorem g3_at (H : Holds B Z) (p : Fin 256) (k : Fin 704) :
    g3 B (ix3 0 p k) = (((Z.tok p).gate (ch 3 k) : ℝ) : EReal) :=
  (pay40_at (hba_at H) (hbb_at H) (l4_3_at H) (l5_3_at H) p k).trans (congrArg Real.toEReal (gate_eq (Z.tok p) 3 3 k rfl))
theorem u3_at (H : Holds B Z) (p : Fin 256) (k : Fin 704) :
    u3 B (ix3 0 p k) = (((Z.tok p).up (ch 3 k) : ℝ) : EReal) :=
  (pay41_at (hba_at H) (hbb_at H) (l4_7_at H) (l5_7_at H) p k).trans (congrArg Real.toEReal (up_eq (Z.tok p) 3 7 k rfl))
theorem s0_at (H : Holds B Z) (p : Fin 256) (k : Fin 704) :
    s0 B (ix2 p k) = ((lgst ((Z.tok p).gate (ch 0 k)) : ℝ) : EReal) :=
  pay57_at (g0_at H) p k
theorem du0_at (H : Holds B Z) (p : Fin 256) (k : Fin 704) :
    du0 B (ix2 p k) = (((Z.tok p).dup (ch 0 k) : ℝ) : EReal) :=
  pay59_at (g0_at H) (l6_0_at H) (D := fun p k => (Z.tok p).dy k) (dyw_at H) p k
theorem q0_at (H : Holds B Z) (p : Fin 256) (k : Fin 704) :
    q0 B (ix2 p k) = (((Z.tok p).dact (ch 0 k) * (Z.tok p).up (ch 0 k) : ℝ) : EReal) :=
  pay60_at (u0_at H) (l6_0_at H) (D := fun p k => (Z.tok p).dy k) (dyw_at H) p k
theorem z0_at (H : Holds B Z) (p : Fin 256) (k : Fin 704) :
    z0 B (ix2 p k) = (((Z.tok p).gate (ch 0 k) * (1 - lgst ((Z.tok p).gate (ch 0 k))) : ℝ) : EReal) :=
  pay61_at (g0_at H) p k
theorem og0_at (H : Holds B Z) (p : Fin 256) (k : Fin 704) :
    og0 B (ix3 0 p k) = (((Z.tok p).dgate (ch 0 k) : ℝ) : EReal) :=
  pay63_at (s0_at H) (q0_at H) (z0_at H) p k
theorem ou0_at (H : Holds B Z) (p : Fin 256) (k : Fin 704) :
    ou0 B (ix3 0 p k) = (((Z.tok p).dup (ch 0 k) : ℝ) : EReal) :=
  pay64_at (du0_at H) p k
theorem ea1_at (H : Holds B Z) (p : Fin 256) (k : Fin 256) :
    ea1 B (ix2 p k) = ((0 + (∑ f, (Z.tok p).dgate (ch 0 f) * Z.wi (lo k) (slab 0 f)) + (∑ f, (Z.tok p).dup (ch 0 f) * Z.wi (lo k) (slab 4 f)) : ℝ) : EReal) :=
  pay65_at pay54_at (s0_at H) (du0_at H) (q0_at H) (z0_at H) (l4_0_at H) (l4_4_at H) p k
theorem eb1_at (H : Holds B Z) (p : Fin 256) (k : Fin 768) :
    eb1 B (ix2 p k) = ((0 + (∑ f, (Z.tok p).dgate (ch 0 f) * Z.wi (hi k) (slab 0 f)) + (∑ f, (Z.tok p).dup (ch 0 f) * Z.wi (hi k) (slab 4 f)) : ℝ) : EReal) :=
  pay66_at pay55_at (s0_at H) (du0_at H) (q0_at H) (z0_at H) (l5_0_at H) (l5_4_at H) p k
theorem gg1_at (H : Holds B Z) (p : Fin 256) (k : Fin 704) :
    gg1 B (ix2 p k) = (((Z.tok p).gate (ch 1 k) : ℝ) : EReal) :=
  pay67_at (g1_at H) p k
theorem du1_at (H : Holds B Z) (p : Fin 256) (k : Fin 704) :
    du1 B (ix2 p k) = (((Z.tok p).dup (ch 1 k) : ℝ) : EReal) :=
  pay70_at (D := fun p k => (Z.tok p).dy k) (dyw_at H) (gg1_at H) (l6_1_at H) p k
theorem dg1_at (H : Holds B Z) (p : Fin 256) (k : Fin 704) :
    dg1 B (ix2 p k) = (((Z.tok p).dgate (ch 1 k) : ℝ) : EReal) :=
  pay71_at (D := fun p k => (Z.tok p).dy k) (dyw_at H) (gg1_at H) (u1_at H) (l6_1_at H) p k
theorem og1_at (H : Holds B Z) (p : Fin 256) (k : Fin 704) :
    og1 B (ix3 0 p k) = (((Z.tok p).dgate (ch 1 k) : ℝ) : EReal) :=
  pay72_at (D := fun p k => (Z.tok p).dy k) (dyw_at H) (gg1_at H) (u1_at H) (l6_1_at H) p k
theorem ou1_at (H : Holds B Z) (p : Fin 256) (k : Fin 704) :
    ou1 B (ix3 0 p k) = (((Z.tok p).dup (ch 1 k) : ℝ) : EReal) :=
  pay73_at (D := fun p k => (Z.tok p).dy k) (dyw_at H) (gg1_at H) (l6_1_at H) p k
theorem ea2_at (H : Holds B Z) (p : Fin 256) (k : Fin 256) :
    ea2 B (ix2 p k) = ((0 + (∑ f, (Z.tok p).dgate (ch 0 f) * Z.wi (lo k) (slab 0 f)) + (∑ f, (Z.tok p).dup (ch 0 f) * Z.wi (lo k) (slab 4 f)) + (∑ f, (Z.tok p).dgate (ch 1 f) * Z.wi (lo k) (slab 1 f)) : ℝ) : EReal) :=
  pay74_at (D := fun p k => (Z.tok p).dy k) (dyw_at H) (ea1_at H) (gg1_at H) (u1_at H) (l6_1_at H) (l4_1_at H) p k
theorem ea3_at (H : Holds B Z) (p : Fin 256) (k : Fin 256) :
    ea3 B (ix2 p k) = ((0 + (∑ f, (Z.tok p).dgate (ch 0 f) * Z.wi (lo k) (slab 0 f)) + (∑ f, (Z.tok p).dup (ch 0 f) * Z.wi (lo k) (slab 4 f)) + (∑ f, (Z.tok p).dgate (ch 1 f) * Z.wi (lo k) (slab 1 f)) + (∑ f, (Z.tok p).dup (ch 1 f) * Z.wi (lo k) (slab 5 f)) : ℝ) : EReal) :=
  pay75_at (du1_at H) (ea2_at H) (l4_5_at H) p k
theorem eb2_at (H : Holds B Z) (p : Fin 256) (k : Fin 768) :
    eb2 B (ix2 p k) = ((0 + (∑ f, (Z.tok p).dgate (ch 0 f) * Z.wi (hi k) (slab 0 f)) + (∑ f, (Z.tok p).dup (ch 0 f) * Z.wi (hi k) (slab 4 f)) + (∑ f, (Z.tok p).dgate (ch 1 f) * Z.wi (hi k) (slab 1 f)) + (∑ f, (Z.tok p).dup (ch 1 f) * Z.wi (hi k) (slab 5 f)) : ℝ) : EReal) :=
  pay76_at (eb1_at H) (du1_at H) (dg1_at H) (l5_1_at H) (l5_5_at H) p k
theorem s2_at (H : Holds B Z) (p : Fin 256) (k : Fin 704) :
    s2 B (ix2 p k) = ((lgst ((Z.tok p).gate (ch 2 k)) : ℝ) : EReal) :=
  pay78_at (g2_at H) p k
theorem du2_at (H : Holds B Z) (p : Fin 256) (k : Fin 704) :
    du2 B (ix2 p k) = (((Z.tok p).dup (ch 2 k) : ℝ) : EReal) :=
  pay80_at (D := fun p k => (Z.tok p).dy k) (dyw_at H) (g2_at H) (l6_2_at H) p k
theorem q2_at (H : Holds B Z) (p : Fin 256) (k : Fin 704) :
    q2 B (ix2 p k) = (((Z.tok p).dact (ch 2 k) * (Z.tok p).up (ch 2 k) : ℝ) : EReal) :=
  pay81_at (D := fun p k => (Z.tok p).dy k) (dyw_at H) (u2_at H) (l6_2_at H) p k
theorem z2_at (H : Holds B Z) (p : Fin 256) (k : Fin 704) :
    z2 B (ix2 p k) = (((Z.tok p).gate (ch 2 k) * (1 - lgst ((Z.tok p).gate (ch 2 k))) : ℝ) : EReal) :=
  pay82_at (g2_at H) p k
theorem og2_at (H : Holds B Z) (p : Fin 256) (k : Fin 704) :
    og2 B (ix3 0 p k) = (((Z.tok p).dgate (ch 2 k) : ℝ) : EReal) :=
  pay85_at (s2_at H) (q2_at H) (z2_at H) pay83_at p k
theorem ou2_at (H : Holds B Z) (p : Fin 256) (k : Fin 704) :
    ou2 B (ix3 0 p k) = (((Z.tok p).dup (ch 2 k) : ℝ) : EReal) :=
  pay86_at (du2_at H) p k
theorem ea4_at (H : Holds B Z) (p : Fin 256) (k : Fin 256) :
    ea4 B (ix2 p k) = ((0 + (∑ f, (Z.tok p).dgate (ch 0 f) * Z.wi (lo k) (slab 0 f)) + (∑ f, (Z.tok p).dup (ch 0 f) * Z.wi (lo k) (slab 4 f)) + (∑ f, (Z.tok p).dgate (ch 1 f) * Z.wi (lo k) (slab 1 f)) + (∑ f, (Z.tok p).dup (ch 1 f) * Z.wi (lo k) (slab 5 f)) + (∑ f, (Z.tok p).dgate (ch 2 f) * Z.wi (lo k) (slab 2 f)) + (∑ f, (Z.tok p).dup (ch 2 f) * Z.wi (lo k) (slab 6 f)) : ℝ) : EReal) :=
  pay87_at (ea3_at H) (s2_at H) (du2_at H) (q2_at H) (z2_at H) pay83_at (l4_2_at H) (l4_6_at H) p k
theorem eb3_at (H : Holds B Z) (p : Fin 256) (k : Fin 768) :
    eb3 B (ix2 p k) = ((0 + (∑ f, (Z.tok p).dgate (ch 0 f) * Z.wi (hi k) (slab 0 f)) + (∑ f, (Z.tok p).dup (ch 0 f) * Z.wi (hi k) (slab 4 f)) + (∑ f, (Z.tok p).dgate (ch 1 f) * Z.wi (hi k) (slab 1 f)) + (∑ f, (Z.tok p).dup (ch 1 f) * Z.wi (hi k) (slab 5 f)) + (∑ f, (Z.tok p).dgate (ch 2 f) * Z.wi (hi k) (slab 2 f)) + (∑ f, (Z.tok p).dup (ch 2 f) * Z.wi (hi k) (slab 6 f)) : ℝ) : EReal) :=
  pay88_at (eb2_at H) (s2_at H) (du2_at H) (q2_at H) (z2_at H) pay83_at (l5_2_at H) (l5_6_at H) p k
theorem gg3_at (H : Holds B Z) (p : Fin 256) (k : Fin 704) :
    gg3 B (ix2 p k) = (((Z.tok p).gate (ch 3 k) : ℝ) : EReal) :=
  pay89_at (g3_at H) p k
theorem du3_at (H : Holds B Z) (p : Fin 256) (k : Fin 704) :
    du3 B (ix2 p k) = (((Z.tok p).dup (ch 3 k) : ℝ) : EReal) :=
  pay92_at (D := fun p k => (Z.tok p).dy k) (dyw_at H) (gg3_at H) (l6_3_at H) p k
theorem dg3_at (H : Holds B Z) (p : Fin 256) (k : Fin 704) :
    dg3 B (ix2 p k) = (((Z.tok p).dgate (ch 3 k) : ℝ) : EReal) :=
  pay93_at (D := fun p k => (Z.tok p).dy k) (dyw_at H) (gg3_at H) (u3_at H) (l6_3_at H) p k
theorem og3_at (H : Holds B Z) (p : Fin 256) (k : Fin 704) :
    og3 B (ix3 0 p k) = (((Z.tok p).dgate (ch 3 k) : ℝ) : EReal) :=
  pay94_at (D := fun p k => (Z.tok p).dy k) (dyw_at H) (gg3_at H) (u3_at H) (l6_3_at H) p k
theorem ou3_at (H : Holds B Z) (p : Fin 256) (k : Fin 704) :
    ou3 B (ix3 0 p k) = (((Z.tok p).dup (ch 3 k) : ℝ) : EReal) :=
  pay95_at (D := fun p k => (Z.tok p).dy k) (dyw_at H) (gg3_at H) (l6_3_at H) p k
theorem ea5_at (H : Holds B Z) (p : Fin 256) (k : Fin 256) :
    ea5 B (ix2 p k) = ((0 + (∑ f, (Z.tok p).dgate (ch 0 f) * Z.wi (lo k) (slab 0 f)) + (∑ f, (Z.tok p).dup (ch 0 f) * Z.wi (lo k) (slab 4 f)) + (∑ f, (Z.tok p).dgate (ch 1 f) * Z.wi (lo k) (slab 1 f)) + (∑ f, (Z.tok p).dup (ch 1 f) * Z.wi (lo k) (slab 5 f)) + (∑ f, (Z.tok p).dgate (ch 2 f) * Z.wi (lo k) (slab 2 f)) + (∑ f, (Z.tok p).dup (ch 2 f) * Z.wi (lo k) (slab 6 f)) + (∑ f, (Z.tok p).dgate (ch 3 f) * Z.wi (lo k) (slab 3 f)) : ℝ) : EReal) :=
  pay96_at (D := fun p k => (Z.tok p).dy k) (dyw_at H) (ea4_at H) (gg3_at H) (u3_at H) (l6_3_at H) (l4_3_at H) p k
theorem lst_at (H : Holds B Z) (p : Fin 704) (k : Fin 256) :
    lst B (ix2 p k) = ((Z.wi (lo k) (slab 7 p) : ℝ) : EReal) :=
  pay97_at (l4_7_at H) p k
theorem dhw_at (H : Holds B Z) (p : Fin 256) (k : Fin 1024) :
    dhw B (ix2 p k) = (((Z.tok p).dh k : ℝ) : EReal) :=
  pay98_at (D := fun p k => (Z.tok p).dh k) (eb3_at H) (du3_at H) (dg3_at H) (ea5_at H) (lst_at H) (l5_3_at H) (l5_7_at H) (fun p k => dh_eq (Z.tok p) (lo k)) (fun p k => dh_eq (Z.tok p) (hi k)) p k
theorem nw_at (H : Holds B Z) (p : Fin 256) (k : Fin 1024) :
    nw B (ix2 p k) = (((Z.tok p).n k : ℝ) : EReal) :=
  pay12_at H.x0 (l3_0_at H) p k
theorem scw_at (H : Holds B Z) (k : Fin 1024) :
    scw B (ix2 0 k) = ((Z.sc k : ℝ) : EReal) :=
  pay6_at (l2_1_at H) k
theorem g1w_at (H : Holds B Z) (k : Fin 1024) :
    g1w B (ix2 0 k) = ((Z.gpre k : ℝ) : EReal) :=
  pay8_at (l3_0_at H) k
theorem rw0_at (H : Holds B Z) (p : Fin 256) :
    rw0 B (ix2 p 0) = (((Z.tok p).r : ℝ) : EReal) :=
  pay10_at H.x0 p
theorem xhw_at (H : Holds B Z) (p : Fin 256) (k : Fin 1024) :
    xhw B (ix2 p k) = (((Z.tok p).xh k : ℝ) : EReal) :=
  pay11_at H.x0 p k
theorem dscw_at (H : Holds B Z) (k : Fin 1024) :
    dscw B (ix2 0 k) = ((∑ p, (Z.tok p).dh k * (Z.tok p).n k : ℝ) : EReal) :=
  pay99_at (D := fun p k => (Z.tok p).dh k) (nw_at H) (dhw_at H) k
theorem dshw_at (H : Holds B Z) (k : Fin 1024) :
    dshw B (ix2 0 k) = ((∑ p, (Z.tok p).dh k : ℝ) : EReal) :=
  pay100_at (D := fun p k => (Z.tok p).dh k) (dhw_at H) k
theorem dgprew_at (H : Holds B Z) (k : Fin 1024) :
    dgprew B (ix2 0 k) = ((∑ p, (Z.tok p).dn k * (Z.tok p).xh k : ℝ) : EReal) :=
  pay102_at (D := fun p k => (Z.tok p).dh k) (scw_at H) (xhw_at H) (dhw_at H) k
theorem dxw_at (H : Holds B Z) (p : Fin 256) (k : Fin 1024) :
    dxw B (ix2 p k) = (((Z.tok p).dx k : ℝ) : EReal) :=
  pay103_at (D := fun p k => (Z.tok p).dh k) (scw_at H) (g1w_at H) (rw0_at H) (xhw_at H) (dxow_at H) (dhw_at H) p k
theorem hw_at (H : Holds B Z) (p : Fin 256) (k : Fin 1024) :
    hw B (ix2 p k) = (((Z.tok p).h k : ℝ) : EReal) :=
  pay13_at H.x0 (l2_0_at H) (l2_1_at H) (l3_0_at H) p k

end Cert.KernelIdeal.Value

end
-- ==== Proof.Args.lean ====
module

public import proofs.«01_k».proof.Proof.Reals

@[expose] public section

/-!
The arguments as real numbers, and what both programs return, as functions of them.
-/

noncomputable section

namespace Cert.Ffn

open Idealize.ShloMosaic

/-- The arguments: two sequences of 2048 tokens, each sequence's modulation rows, the gains and the weights. -/
structure Args where
  X : Fin 2 → Fin 2048 → Fin 1024 → ℝ
  T : Fin 2 → Fin 2048 → Fin 1024 → ℝ
  sh : Fin 2 → Fin 1024 → ℝ
  sc : Fin 2 → Fin 1024 → ℝ
  gt : Fin 2 → Fin 1024 → ℝ
  gpre : Fin 1024 → ℝ
  gpost : Fin 1024 → ℝ
  wi : Fin 1024 → Fin 5632 → ℝ
  wo : Fin 2816 → Fin 1024 → ℝ

namespace Args

variable (A : Args)

/-- Token `s` of sequence `b`. -/
def tok (b : Fin 2) (s : Fin 2048) : Tok :=
  ⟨A.X b s, A.T b s, A.sh b, A.sc b, A.gt b, A.gpre, A.gpost, A.wi, A.wo⟩

/-- Row `n` of the 4096 rows, the sequences one after the other. -/
def row (n : Fin 4096) : Tok := A.tok ⟨n.val / 2048, by omega⟩ ⟨n.val % 2048, by omega⟩

/-- The gradient at row `i` of sequence `b`'s modulation: shift, scale, gate, and nothing. -/
def dmod (b : Fin 2) (i : ℕ) (k : Fin 1024) : ℝ :=
  if i = 0 then ∑ s, (A.tok b s).dh k
  else if i = 1 then ∑ s, (A.tok b s).dh k * (A.tok b s).n k
  else if i = 2 then ∑ s, 1 / 2 * (A.tok b s).dxo k * (A.tok b s).pn k
  else 0

/-- The gradient at row `i` of the gains: the first, the second, and nothing. -/
def dgain (i : ℕ) (k : Fin 1024) : ℝ :=
  if i = 0 then ∑ b, ∑ s, (A.tok b s).dn k * (A.tok b s).xh k
  else if i = 1 then ∑ b, ∑ s, (A.tok b s).dp k * (A.tok b s).yh k
  else 0

/-- The loss: half the sum of the tokens' mean squared errors. -/
def loss : ℝ := 1 / 2 * ∑ b, ∑ s, (A.tok b s).mse

/-! ### The results as arrays -/

/-- The gradient at the block's input. -/
def resDx (j : (⟨2, ![4096, 1024]⟩ : Shape).Idx) : EReal := (((A.row (j 0)).dx (j 1) : ℝ) : EReal)
/-- The gradient at the input projection, slab by slab. -/
def resDgu (j : (⟨3, ![8, 4096, 704]⟩ : Shape).Idx) : EReal := (((A.row (j 1)).dgu (slab (j 0) (j 2)) : ℝ) : EReal)
/-- The gated activation, chunk by chunk. -/
def resAct (j : (⟨3, ![4, 4096, 704]⟩ : Shape).Idx) : EReal := (((A.row (j 1)).act (ch (j 0) (j 2)) : ℝ) : EReal)
/-- The modulated input. -/
def resH (j : (⟨2, ![4096, 1024]⟩ : Shape).Idx) : EReal := (((A.row (j 0)).h (j 1) : ℝ) : EReal)
/-- The gradient at the output projection. -/
def resDy (j : (⟨2, ![4096, 1024]⟩ : Shape).Idx) : EReal := (((A.row (j 0)).dy (j 1) : ℝ) : EReal)
/-- The gradient at the modulation. -/
def resMod (j : (⟨3, ![2, 8, 1024]⟩ : Shape).Idx) : EReal := ((A.dmod (j 0) (j 1).val (j 2) : ℝ) : EReal)
/-- The gradient at the gains. -/
def resGain (j : (⟨2, ![8, 1024]⟩ : Shape).Idx) : EReal := ((A.dgain (j 0).val (j 1) : ℝ) : EReal)
/-- The loss, in every element. -/
def resLoss (_ : (⟨2, ![8, 1024]⟩ : Shape).Idx) : EReal := ((A.loss : ℝ) : EReal)

end Args

end Cert.Ffn

end
-- ==== Proof.Blocks.lean ====
module

public import proofs.«01_k».proof.Proof.Gen.KernelIdeal.Frame
public import proofs.«01_k».proof.Proof.Words
public import proofs.«01_k».proof.Proof.Args
public import Idealize.ShloMosaic.Lib.Pipeline.ValueKit
public import Idealize.ShloMosaic.Lib.Pipeline.ReadBack
public import Idealize.ShloMosaic.Lib.Pointwise

@[expose] public section

set_option maxRecDepth 16384

/-!
What the blocks of a grid point hold: 256 consecutive tokens of one sequence, that sequence's modulation, the gains and
the weights.
-/

noncomputable section

namespace Cert.KernelIdeal.Value

open Cert.KernelIdeal Cert.KernelIdeal.Gen Cert.Ffn
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N,
    win0_0.index t = ![t.val, 0] ∧ win0_1.index t = ![t.val, 0] ∧ win0_2.index t = ![t.val / 8, 0, 0]
    ∧ win0_3.index t = ![0, 0] ∧ win0_4.index t = ![0, 0, 0] ∧ win0_5.index t = ![0, 0, 0]
    ∧ win0_6.index t = ![0, 0, 0] ∧ win0_7.index t = ![t.val, 0] ∧ win0_8.index t = ![0, t.val, 0]
    ∧ win0_9.index t = ![0, t.val, 0] ∧ win0_10.index t = ![t.val, 0] ∧ win0_11.index t = ![t.val, 0]
    ∧ win0_12.index t = ![t.val / 8, 0, 0] ∧ win0_13.index t = ![0, 0] ∧ win0_14.index t = ![0, 0] :=
  (by decide +kernel : ∀ t : Fin grid0.N, _)

theorem t_lt (t : Fin cfg0.N) : t.val < 16 := lt_of_lt_of_eq t.isLt N_0

/-- Sequence of grid point `t`. -/
def seqOf (t : Fin cfg0.N) : Fin 2 := ⟨t.val / 8, by have := t_lt t; omega⟩
/-- Place in its sequence of token `p` of grid point `t`. -/
def posOf (t : Fin cfg0.N) (p : Fin 256) : Fin 2048 := ⟨t.val % 8 * 256 + p.val, by omega⟩

theorem rd0 (t : Fin cfg0.N) (p : Fin 256) (k : Fin 1024) :
    iblk m c 0 t (ix2 p k) = m ((c : Thread nD τ).loc main_arg0) (ix3 (seqOf t) (posOf t p) k) := by
  have := t_lt t
  simp only [seqOf, posOf]
  blk_point [iblk, V, idx t]

theorem rd4 (t : Fin cfg0.N) (g : Fin 8) (f : Fin 704) (k : Fin 256) :
    iblk m c 4 t (ix3 g f k) = m ((c : Thread nD τ).loc main_arg7) (ix3 0 (lo k) (slab g f)) := by
  simp only [lo, slab]
  blk_point [iblk, V, idx t]

/-- The modulation rows the region finds. -/
def mod8 (x2 x3 x4 : Vec Ideal S2x1024 .f32) : Vec Ideal S2x8x1024 .f32 :=
  concatenate S2x8x1024 1 [⟨S2x1x1024, broadcastInDim S2x1x1024 ![0, 2] bcast_S2x1024_S2x1x1024_0_2 x2⟩,
    ⟨S2x1x1024, broadcastInDim S2x1x1024 ![0, 2] bcast_S2x1024_S2x1x1024_0_2 x3⟩,
    ⟨S2x1x1024, broadcastInDim S2x1x1024 ![0, 2] bcast_S2x1024_S2x1x1024_0_2 x4⟩,
    ⟨S2x5x1024, broadcastInDim S2x5x1024 ![] bcast_S_S2x5x1024 (constant (F := Ideal) S_ .f32 0x00000000#32)⟩]
    concatenates_S2x1x1024_S2x1x1024_S2x1x1024_S2x5x1024_S2x8x1024_d1

/-- Equal pieces give equal joins. -/
theorem cat4 {a a' b b' d d' : Vec Ideal S2x1x1024 .f32} {e e' : Vec Ideal S2x5x1024 .f32}
    (ha : a = a') (hb : b = b') (hd : d = d') (he : e = e') :
    concatenate S2x8x1024 1 [⟨S2x1x1024, a⟩, ⟨S2x1x1024, b⟩, ⟨S2x1x1024, d⟩, ⟨S2x5x1024, e⟩]
      concatenates_S2x1x1024_S2x1x1024_S2x1x1024_S2x5x1024_S2x8x1024_d1
    = concatenate S2x8x1024 1 [⟨S2x1x1024, a'⟩, ⟨S2x1x1024, b'⟩, ⟨S2x1x1024, d'⟩, ⟨S2x5x1024, e'⟩]
      concatenates_S2x1x1024_S2x1x1024_S2x1x1024_S2x5x1024_S2x8x1024_d1 := by
  subst ha hb hd he; rfl

theorem mod8_0 (x2 x3 x4 : Vec Ideal S2x1024 .f32) (b : Fin 2) (k : Fin 1024) : mod8 x2 x3 x4 (ix3 b 0 k) = x2 (ix2 b k) := by
  pointwise [mod8]

theorem mod8_1 (x2 x3 x4 : Vec Ideal S2x1024 .f32) (b : Fin 2) (k : Fin 1024) : mod8 x2 x3 x4 (ix3 b 1 k) = x3 (ix2 b k) := by
  pointwise [mod8]

theorem mod8_2 (x2 x3 x4 : Vec Ideal S2x1024 .f32) (b : Fin 2) (k : Fin 1024) : mod8 x2 x3 x4 (ix3 b 2 k) = x4 (ix2 b k) := by
  pointwise [mod8]

set_option maxHeartbeats 1000000 in
/-- The modulation rows are the three arguments' rows. -/
theorem V4 : V m c main_v4 = mod8 (m ((c : Thread nD τ).loc main_arg2)) (m ((c : Thread nD τ).loc main_arg3)) (m ((c : Thread nD τ).loc main_arg4)) := by
  unfold V
  after_results
  refine cat4 ?_ ?_ ?_ ?_
  all_goals
    beta_reduce
    simp only [Matrix.cons_val]
    after_results_steps

/-- The gain rows the region finds. -/
def gain8 (x5 x6 : Vec Ideal S1x1024 .f32) : Vec Ideal S8x1024 .f32 :=
  concatenate S8x1024 0 [⟨S1x1024, x5⟩, ⟨S1x1024, x6⟩,
    ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩]
    concatenates_S1x1024_S1x1024_S1x1024_S1x1024_S1x1024_S1x1024_S1x1024_S1x1024_S8x1024_d0

theorem gain8_0 (x5 x6 : Vec Ideal S1x1024 .f32) (k : Fin 1024) : gain8 x5 x6 (ix2 0 k) = x5 (ix2 0 k) := by
  pointwise [gain8]

theorem gain8_1 (x5 x6 : Vec Ideal S1x1024 .f32) (k : Fin 1024) : gain8 x5 x6 (ix2 1 k) = x6 (ix2 0 k) := by
  pointwise [gain8]

/-- Equal pieces give equal joins. -/
theorem cat8 {a a' b b' d d' e e' f f' g g' h h' i i' : Vec Ideal S1x1024 .f32}
    (ha : a = a') (hb : b = b') (hd : d = d') (he : e = e') (hf : f = f') (hg : g = g') (hh : h = h') (hi : i = i') :
    concatenate S8x1024 0 [⟨S1x1024, a⟩, ⟨S1x1024, b⟩, ⟨S1x1024, d⟩, ⟨S1x1024, e⟩, ⟨S1x1024, f⟩, ⟨S1x1024, g⟩, ⟨S1x1024, h⟩, ⟨S1x1024, i⟩]
      concatenates_S1x1024_S1x1024_S1x1024_S1x1024_S1x1024_S1x1024_S1x1024_S1x1024_S8x1024_d0
    = concatenate S8x1024 0 [⟨S1x1024, a'⟩, ⟨S1x1024, b'⟩, ⟨S1x1024, d'⟩, ⟨S1x1024, e'⟩, ⟨S1x1024, f'⟩, ⟨S1x1024, g'⟩, ⟨S1x1024, h'⟩, ⟨S1x1024, i'⟩]
      concatenates_S1x1024_S1x1024_S1x1024_S1x1024_S1x1024_S1x1024_S1x1024_S1x1024_S8x1024_d0 := by
  subst ha hb hd he hf hg hh hi; rfl

set_option maxHeartbeats 1000000 in
/-- The gain rows are the two arguments. -/
theorem V6 : V m c main_v6 = gain8 (m ((c : Thread nD τ).loc main_arg5)) (m ((c : Thread nD τ).loc main_arg6)) := by
  unfold V
  after_results
  refine cat8 ?_ ?_ ?_ ?_ ?_ ?_ ?_ ?_
  all_goals
    beta_reduce
    simp only [Matrix.cons_val]
    after_results_steps

theorem rd1 (t : Fin cfg0.N) (p : Fin 256) (k : Fin 1024) :
    iblk m c 1 t (ix2 p k) = m ((c : Thread nD τ).loc main_arg1) (ix3 (seqOf t) (posOf t p) k) := by
  have := t_lt t
  simp only [seqOf, posOf]
  blk_point [iblk, V, idx t]

theorem rd5 (t : Fin cfg0.N) (g : Fin 8) (f : Fin 704) (k : Fin 768) :
    iblk m c 5 t (ix3 g f k) = m ((c : Thread nD τ).loc main_arg7) (ix3 0 (hi k) (slab g f)) := by
  simp only [hi, slab]
  blk_point [iblk, V, idx t]

theorem rd6 (t : Fin cfg0.N) (g : Fin 4) (f : Fin 704) (k : Fin 1024) :
    iblk m c 6 t (ix3 g f k) = m ((c : Thread nD τ).loc main_arg8) (ix3 0 (ch g f) k) := by
  simp only [ch]
  blk_point [iblk, V, idx t]

theorem rd2 (t : Fin cfg0.N) (i : Fin 8) (k : Fin 1024) :
    iblk m c 2 t (ix3 0 i k) = V m c main_v4 (ix3 (seqOf t) i k) := by
  have := t_lt t
  simp only [seqOf]
  blk_point [iblk, idx t]

theorem rd3 (t : Fin cfg0.N) (i : Fin 8) (k : Fin 1024) :
    iblk m c 3 t (ix2 i k) = V m c main_v6 (ix2 i k) := by
  blk_point [iblk, idx t]

/-! ### The arguments as real numbers -/

/-- The arguments on device `c`. -/
def argsOf : Args where
  X b s k := (m ((c : Thread nD τ).loc main_arg0) (ix3 b s k) : EReal).toReal
  T b s k := (m ((c : Thread nD τ).loc main_arg1) (ix3 b s k) : EReal).toReal
  sh b k := (m ((c : Thread nD τ).loc main_arg2) (ix2 b k) : EReal).toReal
  sc b k := (m ((c : Thread nD τ).loc main_arg3) (ix2 b k) : EReal).toReal
  gt b k := (m ((c : Thread nD τ).loc main_arg4) (ix2 b k) : EReal).toReal
  gpre k := (m ((c : Thread nD τ).loc main_arg5) (ix2 0 k) : EReal).toReal
  gpost k := (m ((c : Thread nD τ).loc main_arg6) (ix2 0 k) : EReal).toReal
  wi k j := (m ((c : Thread nD τ).loc main_arg7) (ix3 0 k j) : EReal).toReal
  wo j k := (m ((c : Thread nD τ).loc main_arg8) (ix3 0 j k) : EReal).toReal

/-- Every argument holds real numbers. -/
structure Fin9 : Prop where
  f0 : ∀ i, ((((m ((c : Thread nD τ).loc main_arg0) i : EReal).toReal : ℝ)) : EReal) = m ((c : Thread nD τ).loc main_arg0) i
  f1 : ∀ i, ((((m ((c : Thread nD τ).loc main_arg1) i : EReal).toReal : ℝ)) : EReal) = m ((c : Thread nD τ).loc main_arg1) i
  f2 : ∀ i, ((((m ((c : Thread nD τ).loc main_arg2) i : EReal).toReal : ℝ)) : EReal) = m ((c : Thread nD τ).loc main_arg2) i
  f3 : ∀ i, ((((m ((c : Thread nD τ).loc main_arg3) i : EReal).toReal : ℝ)) : EReal) = m ((c : Thread nD τ).loc main_arg3) i
  f4 : ∀ i, ((((m ((c : Thread nD τ).loc main_arg4) i : EReal).toReal : ℝ)) : EReal) = m ((c : Thread nD τ).loc main_arg4) i
  f5 : ∀ i, ((((m ((c : Thread nD τ).loc main_arg5) i : EReal).toReal : ℝ)) : EReal) = m ((c : Thread nD τ).loc main_arg5) i
  f6 : ∀ i, ((((m ((c : Thread nD τ).loc main_arg6) i : EReal).toReal : ℝ)) : EReal) = m ((c : Thread nD τ).loc main_arg6) i
  f7 : ∀ i, ((((m ((c : Thread nD τ).loc main_arg7) i : EReal).toReal : ℝ)) : EReal) = m ((c : Thread nD τ).loc main_arg7) i
  f8 : ∀ i, ((((m ((c : Thread nD τ).loc main_arg8) i : EReal).toReal : ℝ)) : EReal) = m ((c : Thread nD τ).loc main_arg8) i

/-- The blocks of grid point `t`. -/
def blkOf (t : Fin cfg0.N) : Blk :=
  ⟨iblk m c 0 t, iblk m c 1 t, iblk m c 2 t, iblk m c 3 t, iblk m c 4 t, iblk m c 5 t, iblk m c 6 t⟩

/-- The real numbers of grid point `t`. -/
def tileOf (t : Fin cfg0.N) : Tile where
  x p := (argsOf m c).X (seqOf t) (posOf t p)
  t p := (argsOf m c).T (seqOf t) (posOf t p)
  sh := (argsOf m c).sh (seqOf t)
  sc := (argsOf m c).sc (seqOf t)
  gt := (argsOf m c).gt (seqOf t)
  gpre := (argsOf m c).gpre
  gpost := (argsOf m c).gpost
  wi := (argsOf m c).wi
  wo := (argsOf m c).wo

/-- Token `p` of grid point `t` is the argument token at its sequence and place. -/
theorem tile_tok (t : Fin cfg0.N) (p : Fin 256) : (tileOf m c t).tok p = (argsOf m c).tok (seqOf t) (posOf t p) := rfl

theorem hold_x0 (H : Fin9 m c) (t : Fin cfg0.N) (p : Fin 256) (k : Fin 1024) :
    iblk m c 0 t (ix2 p k) = (((argsOf m c).X (seqOf t) (posOf t p) k : ℝ) : EReal) := by
  rw [rd0]; exact (H.f0 _).symm

theorem hold_x1 (H : Fin9 m c) (t : Fin cfg0.N) (p : Fin 256) (k : Fin 1024) :
    iblk m c 1 t (ix2 p k) = (((argsOf m c).T (seqOf t) (posOf t p) k : ℝ) : EReal) := by
  rw [rd1]; exact (H.f1 _).symm

theorem hold_sh (H : Fin9 m c) (t : Fin cfg0.N) (k : Fin 1024) :
    iblk m c 2 t (ix3 0 0 k) = (((argsOf m c).sh (seqOf t) k : ℝ) : EReal) := by
  rw [rd2, V4, mod8_0]; exact (H.f2 _).symm

theorem hold_sc (H : Fin9 m c) (t : Fin cfg0.N) (k : Fin 1024) :
    iblk m c 2 t (ix3 0 1 k) = (((argsOf m c).sc (seqOf t) k : ℝ) : EReal) := by
  rw [rd2, V4, mod8_1]; exact (H.f3 _).symm

theorem hold_gt (H : Fin9 m c) (t : Fin cfg0.N) (k : Fin 1024) :
    iblk m c 2 t (ix3 0 2 k) = (((argsOf m c).gt (seqOf t) k : ℝ) : EReal) := by
  rw [rd2, V4, mod8_2]; exact (H.f4 _).symm

theorem hold_gpre (H : Fin9 m c) (t : Fin cfg0.N) (k : Fin 1024) :
    iblk m c 3 t (ix2 0 k) = (((argsOf m c).gpre k : ℝ) : EReal) := by
  rw [rd3, V6, gain8_0]; exact (H.f5 _).symm

theorem hold_gpost (H : Fin9 m c) (t : Fin cfg0.N) (k : Fin 1024) :
    iblk m c 3 t (ix2 1 k) = (((argsOf m c).gpost k : ℝ) : EReal) := by
  rw [rd3, V6, gain8_1]; exact (H.f6 _).symm

theorem hold_wlo (H : Fin9 m c) (t : Fin cfg0.N) (g : Fin 8) (f : Fin 704) (k : Fin 256) :
    iblk m c 4 t (ix3 g f k) = (((argsOf m c).wi (lo k) (slab g f) : ℝ) : EReal) := by
  rw [rd4]; exact (H.f7 _).symm

theorem hold_whi (H : Fin9 m c) (t : Fin cfg0.N) (g : Fin 8) (f : Fin 704) (k : Fin 768) :
    iblk m c 5 t (ix3 g f k) = (((argsOf m c).wi (hi k) (slab g f) : ℝ) : EReal) := by
  rw [rd5]; exact (H.f7 _).symm

theorem hold_wo (H : Fin9 m c) (t : Fin cfg0.N) (g : Fin 4) (f : Fin 704) (k : Fin 1024) :
    iblk m c 6 t (ix3 g f k) = (((argsOf m c).wo (ch g f) k : ℝ) : EReal) := by
  rw [rd6]; exact (H.f8 _).symm

/-- The blocks hold the arguments' numbers. -/
theorem holds (H : Fin9 m c) (t : Fin cfg0.N) : Holds (blkOf m c t) (tileOf m c t) :=
  ⟨hold_x0 m c H t, hold_x1 m c H t, hold_sh m c H t, hold_sc m c H t, hold_gt m c H t, hold_gpre m c H t,
    hold_gpost m c H t, hold_wlo m c H t, hold_whi m c H t, hold_wo m c H t⟩

end Cert.KernelIdeal.Value

end
-- ==== Proof.WinWhole.lean ====
module

public import proofs.«01_k».proof.Proof.Blocks

@[expose] public section

set_option maxRecDepth 16384

/-!
What a grid point leaves in the three windows it stores in one piece.
-/

noncomputable section

namespace Cert.KernelIdeal.Value

open Cert.KernelIdeal Cert.KernelIdeal.Gen Cert.Ffn
open Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 1000000 in
/-- The gradient at the block's input a grid point leaves, at the first point of the first sequence. -/
theorem w7_A (t : Fin cfg0.N) (h0 : t.val % 8 = 0) (h1 : t.val % 16 = 0) :
    (outsAt0 m c t.val t.isLt).1 = dxw (blkOf m c t) := by
  funext j
  rw [outsAt0_A m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

set_option maxHeartbeats 1000000 in
/-- The gradient at the block's input a grid point leaves, at a later point of a sequence. -/
theorem w7_B (t : Fin cfg0.N) (h0 : ¬t.val % 8 = 0) (h1 : ¬t.val % 16 = 0) :
    (outsAt0 m c t.val t.isLt).1 = dxw (blkOf m c t) := by
  funext j
  rw [outsAt0_B m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

set_option maxHeartbeats 1000000 in
/-- The gradient at the block's input a grid point leaves, at the first point of a later sequence. -/
theorem w7_C (t : Fin cfg0.N) (h0 : t.val % 8 = 0) (h1 : ¬t.val % 16 = 0) :
    (outsAt0 m c t.val t.isLt).1 = dxw (blkOf m c t) := by
  funext j
  rw [outsAt0_C m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

/-- The gradient at the block's input a grid point leaves. -/
theorem w7 (t : Fin cfg0.N) : (outsAt0 m c t.val t.isLt).1 = dxw (blkOf m c t) := by
  by_cases h1 : t.val % 16 = 0
  · exact w7_A m c t (by omega) h1
  · by_cases h0 : t.val % 8 = 0
    · exact w7_C m c t h0 h1
    · exact w7_B m c t h0 h1

set_option maxHeartbeats 1000000 in
/-- The gradient at the output projection a grid point leaves, at the first point of the first sequence. -/
theorem w11_A (t : Fin cfg0.N) (h0 : t.val % 8 = 0) (h1 : t.val % 16 = 0) :
    (outsAt0 m c t.val t.isLt).2.2.2.2.1 = dyw (blkOf m c t) := by
  funext j
  rw [outsAt0_A m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

set_option maxHeartbeats 1000000 in
/-- The gradient at the output projection a grid point leaves, at a later point of a sequence. -/
theorem w11_B (t : Fin cfg0.N) (h0 : ¬t.val % 8 = 0) (h1 : ¬t.val % 16 = 0) :
    (outsAt0 m c t.val t.isLt).2.2.2.2.1 = dyw (blkOf m c t) := by
  funext j
  rw [outsAt0_B m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

set_option maxHeartbeats 1000000 in
/-- The gradient at the output projection a grid point leaves, at the first point of a later sequence. -/
theorem w11_C (t : Fin cfg0.N) (h0 : t.val % 8 = 0) (h1 : ¬t.val % 16 = 0) :
    (outsAt0 m c t.val t.isLt).2.2.2.2.1 = dyw (blkOf m c t) := by
  funext j
  rw [outsAt0_C m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

/-- The gradient at the output projection a grid point leaves. -/
theorem w11 (t : Fin cfg0.N) : (outsAt0 m c t.val t.isLt).2.2.2.2.1 = dyw (blkOf m c t) := by
  by_cases h1 : t.val % 16 = 0
  · exact w11_A m c t (by omega) h1
  · by_cases h0 : t.val % 8 = 0
    · exact w11_C m c t h0 h1
    · exact w11_B m c t h0 h1

set_option maxHeartbeats 1000000 in
/-- The modulated input a grid point leaves, at the first point of the first sequence. -/
theorem w10_A (t : Fin cfg0.N) (h0 : t.val % 8 = 0) (h1 : t.val % 16 = 0) :
    (outsAt0 m c t.val t.isLt).2.2.2.1 = hw (blkOf m c t) := by
  funext j
  rw [outsAt0_A m c t h0 h1]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

set_option maxHeartbeats 1000000 in
/-- The modulated input a grid point leaves, at a later point of a sequence. -/
theorem w10_B (t : Fin cfg0.N) (h0 : ¬t.val % 8 = 0) (h1 : ¬t.val % 16 = 0) :
    (outsAt0 m c t.val t.isLt).2.2.2.1 = hw (blkOf m c t) := by
  funext j
  rw [outsAt0_B m c t h0 h1]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

set_option maxHeartbeats 1000000 in
/-- The modulated input a grid point leaves, at the first point of a later sequence. -/
theorem w10_C (t : Fin cfg0.N) (h0 : t.val % 8 = 0) (h1 : ¬t.val % 16 = 0) :
    (outsAt0 m c t.val t.isLt).2.2.2.1 = hw (blkOf m c t) := by
  funext j
  rw [outsAt0_C m c t h0 h1]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf]

/-- The modulated input a grid point leaves. -/
theorem w10 (t : Fin cfg0.N) : (outsAt0 m c t.val t.isLt).2.2.2.1 = hw (blkOf m c t) := by
  by_cases h1 : t.val % 16 = 0
  · exact w10_A m c t (by omega) h1
  · by_cases h0 : t.val % 8 = 0
    · exact w10_C m c t h0 h1
    · exact w10_B m c t h0 h1

end Cert.KernelIdeal.Value

end
-- ==== Proof.WinPlanes.lean ====
module

public import proofs.«01_k».proof.Proof.Blocks

@[expose] public section

set_option maxRecDepth 16384

/-!
What a grid point leaves in the two windows it stores plane by plane.
-/

noncomputable section

namespace Cert.KernelIdeal.Value

open Cert.KernelIdeal Cert.KernelIdeal.Gen Cert.Ffn
open Idealize.ShloMosaic Idealize.ShloMosaic.TcCoe Idealize.SL.Sem
open Idealize.ShloMosaic.Pipeline (Dat)

variable (m : (ℓ : Loc nD τ sig) → Buf (Elt Ideal) ℓ) (c : Dev nD)

/-- An index of one plane by its row and column. -/
theorem idx_plane (x : S1x256x704.Idx) (p : Fin 256) (f : Fin 704) (h1 : p.val = (x 1).val) (h2 : f.val = (x 2).val) :
    x = ix3 0 p f := by
  refine funext fun a => Fin.ext ?_
  match a with
  | 0 => have h : (x 0).val < 1 := (x 0).isLt
         show (x 0).val = 0
         omega
  | 1 => exact h1.symm
  | 2 => exact h2.symm

/-- The activation, chunk by chunk. -/
def actBlk (B : Blk) : Vec Ideal S4x256x704 .bf16 :=
  View.canon [
    ⟨Rect.unit ![3, 0, 0] ![1, 256, 704] inb_S4x256x704_S1x256x704_3_0_0, act3 B⟩,
    ⟨Rect.unit ![2, 0, 0] ![1, 256, 704] inb_S4x256x704_S1x256x704_2_0_0, act2 B⟩,
    ⟨Rect.unit ![1, 0, 0] ![1, 256, 704] inb_S4x256x704_S1x256x704_1_0_0, act1 B⟩,
    ⟨Rect.unit ![0, 0, 0] ![1, 256, 704] inb_S4x256x704_S1x256x704_0_0_0, act0 B⟩]

/-- The activation, chunk by chunk, of the token the row belongs to. -/
theorem actBlk_at {B : Blk} {Z : Tile} (H : Holds B Z) (g : Fin 4) (p : Fin 256) (f : Fin 704) :
    actBlk B (ix3 g p f) = (((Z.tok p).act (ch g f) : ℝ) : EReal) := by
  unfold actBlk
  canon_tiles x h
  case piece0 =>
    have h0' : g.val = 3 + (x 0).val := h0
    obtain rfl : g = 3 := Fin.ext (by show g.val = 3; omega)
    rw [idx_plane x p f h1 h2]
    exact act3_at H p f
  case piece1 =>
    have h0' : g.val = 2 + (x 0).val := h0
    obtain rfl : g = 2 := Fin.ext (by show g.val = 2; omega)
    rw [idx_plane x p f h1 h2]
    exact act2_at H p f
  case piece2 =>
    have h0' : g.val = 1 + (x 0).val := h0
    obtain rfl : g = 1 := Fin.ext (by show g.val = 1; omega)
    rw [idx_plane x p f h1 h2]
    exact act1_at H p f
  case piece3 =>
    have h0' : g.val = 0 + (x 0).val := h0.trans (Nat.zero_add _).symm
    obtain rfl : g = 0 := Fin.ext (by show g.val = 0; omega)
    rw [idx_plane x p f h1 h2]
    exact act0_at H p f

/-- The gradient at the input projection, slab by slab. -/
def dguBlk (B : Blk) : Vec Ideal S8x256x704 .bf16 :=
  View.canon [
    ⟨Rect.unit ![7, 0, 0] ![1, 256, 704] inb_S8x256x704_S1x256x704_7_0_0, ou3 B⟩,
    ⟨Rect.unit ![3, 0, 0] ![1, 256, 704] inb_S8x256x704_S1x256x704_3_0_0, og3 B⟩,
    ⟨Rect.unit ![6, 0, 0] ![1, 256, 704] inb_S8x256x704_S1x256x704_6_0_0, ou2 B⟩,
    ⟨Rect.unit ![2, 0, 0] ![1, 256, 704] inb_S8x256x704_S1x256x704_2_0_0, og2 B⟩,
    ⟨Rect.unit ![5, 0, 0] ![1, 256, 704] inb_S8x256x704_S1x256x704_5_0_0, ou1 B⟩,
    ⟨Rect.unit ![1, 0, 0] ![1, 256, 704] inb_S8x256x704_S1x256x704_1_0_0, og1 B⟩,
    ⟨Rect.unit ![4, 0, 0] ![1, 256, 704] inb_S8x256x704_S1x256x704_4_0_0, ou0 B⟩,
    ⟨Rect.unit ![0, 0, 0] ![1, 256, 704] inb_S8x256x704_S1x256x704_0_0_0, og0 B⟩]

/-- The gradient at the input projection, slab by slab, of the token the row belongs to. -/
theorem dguBlk_at {B : Blk} {Z : Tile} (H : Holds B Z) (g : Fin 8) (p : Fin 256) (f : Fin 704) :
    dguBlk B (ix3 g p f) = (((Z.tok p).dgu (slab g f) : ℝ) : EReal) := by
  unfold dguBlk
  canon_tiles x h
  case piece0 =>
    have h0' : g.val = 7 + (x 0).val := h0
    obtain rfl : g = 7 := Fin.ext (by show g.val = 7; omega)
    rw [idx_plane x p f h1 h2]
    rw [slab_up 3 f 7 rfl, Tok.dgu_ucol]
    exact ou3_at H p f
  case piece1 =>
    have h0' : g.val = 3 + (x 0).val := h0
    obtain rfl : g = 3 := Fin.ext (by show g.val = 3; omega)
    rw [idx_plane x p f h1 h2]
    rw [slab_gate 3 f 3 rfl, Tok.dgu_gcol]
    exact og3_at H p f
  case piece2 =>
    have h0' : g.val = 6 + (x 0).val := h0
    obtain rfl : g = 6 := Fin.ext (by show g.val = 6; omega)
    rw [idx_plane x p f h1 h2]
    rw [slab_up 2 f 6 rfl, Tok.dgu_ucol]
    exact ou2_at H p f
  case piece3 =>
    have h0' : g.val = 2 + (x 0).val := h0
    obtain rfl : g = 2 := Fin.ext (by show g.val = 2; omega)
    rw [idx_plane x p f h1 h2]
    rw [slab_gate 2 f 2 rfl, Tok.dgu_gcol]
    exact og2_at H p f
  case piece4 =>
    have h0' : g.val = 5 + (x 0).val := h0
    obtain rfl : g = 5 := Fin.ext (by show g.val = 5; omega)
    rw [idx_plane x p f h1 h2]
    rw [slab_up 1 f 5 rfl, Tok.dgu_ucol]
    exact ou1_at H p f
  case piece5 =>
    have h0' : g.val = 1 + (x 0).val := h0
    obtain rfl : g = 1 := Fin.ext (by show g.val = 1; omega)
    rw [idx_plane x p f h1 h2]
    rw [slab_gate 1 f 1 rfl, Tok.dgu_gcol]
    exact og1_at H p f
  case piece6 =>
    have h0' : g.val = 4 + (x 0).val := h0
    obtain rfl : g = 4 := Fin.ext (by show g.val = 4; omega)
    rw [idx_plane x p f h1 h2]
    rw [slab_up 0 f 4 rfl, Tok.dgu_ucol]
    exact ou0_at H p f
  case piece7 =>
    have h0' : g.val = 0 + (x 0).val := h0.trans (Nat.zero_add _).symm
    obtain rfl : g = 0 := Fin.ext (by show g.val = 0; omega)
    rw [idx_plane x p f h1 h2]
    rw [slab_gate 0 f 0 rfl, Tok.dgu_gcol]
    exact og0_at H p f

set_option maxHeartbeats 1000000 in
/-- The activation a grid point leaves, at the first point of the first sequence. -/
theorem w9_A (t : Fin cfg0.N) (h0 : t.val % 8 = 0) (h1 : t.val % 16 = 0) :
    (outsAt0 m c t.val t.isLt).2.2.1 = actBlk (blkOf m c t) := by
  funext j
  rw [outsAt0_A m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, actBlk]

set_option maxHeartbeats 1000000 in
/-- The activation a grid point leaves, at a later point of a sequence. -/
theorem w9_B (t : Fin cfg0.N) (h0 : ¬t.val % 8 = 0) (h1 : ¬t.val % 16 = 0) :
    (outsAt0 m c t.val t.isLt).2.2.1 = actBlk (blkOf m c t) := by
  funext j
  rw [outsAt0_B m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, actBlk]

set_option maxHeartbeats 1000000 in
/-- The activation a grid point leaves, at the first point of a later sequence. -/
theorem w9_C (t : Fin cfg0.N) (h0 : t.val % 8 = 0) (h1 : ¬t.val % 16 = 0) :
    (outsAt0 m c t.val t.isLt).2.2.1 = actBlk (blkOf m c t) := by
  funext j
  rw [outsAt0_C m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, actBlk]

/-- The activation a grid point leaves. -/
theorem w9 (t : Fin cfg0.N) : (outsAt0 m c t.val t.isLt).2.2.1 = actBlk (blkOf m c t) := by
  by_cases h1 : t.val % 16 = 0
  · exact w9_A m c t (by omega) h1
  · by_cases h0 : t.val % 8 = 0
    · exact w9_C m c t h0 h1
    · exact w9_B m c t h0 h1

set_option maxHeartbeats 1000000 in
/-- The gradient at the input projection a grid point leaves, at the first point of the first sequence. -/
theorem w8_A (t : Fin cfg0.N) (h0 : t.val % 8 = 0) (h1 : t.val % 16 = 0) :
    (outsAt0 m c t.val t.isLt).2.1 = dguBlk (blkOf m c t) := by
  funext j
  rw [outsAt0_A m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, dguBlk]

set_option maxHeartbeats 1000000 in
/-- The gradient at the input projection a grid point leaves, at a later point of a sequence. -/
theorem w8_B (t : Fin cfg0.N) (h0 : ¬t.val % 8 = 0) (h1 : ¬t.val % 16 = 0) :
    (outsAt0 m c t.val t.isLt).2.1 = dguBlk (blkOf m c t) := by
  funext j
  rw [outsAt0_B m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, dguBlk]

set_option maxHeartbeats 1000000 in
/-- The gradient at the input projection a grid point leaves, at the first point of a later sequence. -/
theorem w8_C (t : Fin cfg0.N) (h0 : t.val % 8 = 0) (h1 : ¬t.val % 16 = 0) :
    (outsAt0 m c t.val t.isLt).2.1 = dguBlk (blkOf m c t) := by
  funext j
  rw [outsAt0_C m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, dguBlk]

/-- The gradient at the input projection a grid point leaves. -/
theorem w8 (t : Fin cfg0.N) : (outsAt0 m c t.val t.isLt).2.1 = dguBlk (blkOf m c t) := by
  by_cases h1 : t.val % 16 = 0
  · exact w8_A m c t (by omega) h1
  · by_cases h0 : t.val % 8 = 0
    · exact w8_C m c t h0 h1
    · exact w8_B m c t h0 h1

end Cert.KernelIdeal.Value

end
-- ==== Proof.WinAcc.lean ====
module

public import proofs.«01_k».proof.Proof.Blocks
public import Idealize.ShloMosaic.Lib.WritesUnit

@[expose] public section

set_option maxRecDepth 16384

/-!
What a grid point adds into the three windows it accumulates.
-/

noncomputable section

namespace Cert.KernelIdeal.Value

open Cert.KernelIdeal Cert.KernelIdeal.Gen Cert.Ffn
open Idealize.ShloMosaic Idealize.ShloMosaic.TcCoe Idealize.SL.Sem
open Idealize.ShloMosaic.Pipeline (Dat)

variable (m : (ℓ : Loc nD τ sig) → Buf (Elt Ideal) ℓ) (c : Dev nD)

section

variable {S : Shape} {e : EltTy} {Val : EltTy → Type} [∀ e, Nonempty (Val e)]

/-- An index in the newest piece's rectangle reads that piece. -/
theorem canon_in {off size : Fin S.rank → ℕ} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]
  exact View.canon_cons_emb _ _ _ _

/-- An index outside the newest piece's rectangle reads the earlier ones. -/
theorem canon_out {off size : Fin S.rank → ℕ} (inb : ∀ a, off a + size a ≤ S.size a)
    (w : (Rect.unit off size inb).shape.Idx → Val e) (L : List (View.Piece Val S e)) (y : S.Idx) (a : Fin S.rank)
    (ha : (y a).val < off a ∨ off a + size a ≤ (y a).val) :
    View.canon ((⟨Rect.unit off size inb, w⟩ : View.Piece Val S e) :: L) y = View.canon L y := by
  refine View.canon_cons_of_not_mem _ _ fun hm => ?_
  have hm' : y ∈ (Rect.unit off size inb).set := hm
  rw [Rect.mem_set_unit] at hm'
  have := hm' a
  omega

end

/-- The newest rows over a whole block. -/
theorem rows12_canon (P : Vec Ideal S1x8x1024 .f32) (w0 w1 w2 : Vec Ideal S1x1x1024 .f32) (i : Fin 8) (k : Fin 1024) :
    View.canon (Val := Elt Ideal) [⟨Rect.unit ![0, 2, 0] ![1, 1, 1024] inb_S1x8x1024_S1x1x1024_0_2_0, w2⟩, ⟨Rect.unit ![0, 1, 0] ![1, 1, 1024] inb_S1x8x1024_S1x1x1024_0_1_0, w1⟩, ⟨Rect.unit ![0, 0, 0] ![1, 1, 1024] inb_S1x8x1024_S1x1x1024_0_0_0, w0⟩, ⟨Rect.unit ![0, 0, 0] ![1, 8, 1024] inb_S1x8x1024_S1x8x1024_0_0_0, P⟩] (ix3 0 i k)
      = if i = 2 then w2 (ix3 0 0 k) else if i = 1 then w1 (ix3 0 0 k) else if i = 0 then w0 (ix3 0 0 k) else P (ix3 0 i k) := by
  by_cases h2 : i = 2
  · subst h2
    rw [if_pos rfl]
    exact canon_in (S := S1x8x1024) _ _ _ _ (ix3 0 0 k) (by intro a; match a with
        | 0 => exact (Nat.zero_add _).symm
        | 1 => rfl
        | 2 => exact (Nat.zero_add _).symm)
  rw [if_neg h2]
  by_cases h1 : i = 1
  · subst h1
    rw [if_pos rfl]
    refine (canon_out _ _ _ _ 1 (by show (1 : ℕ) < 2 ∨ 2 + 1 ≤ 1; decide)).trans ?_
    exact canon_in (S := S1x8x1024) _ _ _ _ (ix3 0 0 k) (by intro a; match a with
        | 0 => exact (Nat.zero_add _).symm
        | 1 => rfl
        | 2 => exact (Nat.zero_add _).symm)
  rw [if_neg h1]
  by_cases h0 : i = 0
  · subst h0
    rw [if_pos rfl]
    refine (canon_out _ _ _ _ 1 (by show (0 : ℕ) < 2 ∨ 2 + 1 ≤ 0; decide)).trans ?_
    refine (canon_out _ _ _ _ 1 (by show (0 : ℕ) < 1 ∨ 1 + 1 ≤ 0; decide)).trans ?_
    exact canon_in (S := S1x8x1024) _ _ _ _ (ix3 0 0 k) (by intro a; match a with
        | 0 => exact (Nat.zero_add _).symm
        | 1 => rfl
        | 2 => exact (Nat.zero_add _).symm)
  rw [if_neg h0]
  refine (canon_out _ _ _ _ 1 (by
    show i.val < 2 ∨ 2 + 1 ≤ i.val
    have : i.val ≠ 2 := fun h => h2 (Fin.ext h)
    omega)).trans ?_
  refine (canon_out _ _ _ _ 1 (by
    show i.val < 1 ∨ 1 + 1 ≤ i.val
    have : i.val ≠ 1 := fun h => h1 (Fin.ext h)
    omega)).trans ?_
  refine (canon_out _ _ _ _ 1 (by
    show i.val < 0 ∨ 0 + 1 ≤ i.val
    have : i.val ≠ 0 := fun h => h0 (Fin.ext h)
    omega)).trans ?_
  exact canon_in (S := S1x8x1024) _ _ _ _ (ix3 0 i k) (by intro a; match a with
        | 0 => exact (Nat.zero_add _).symm
        | 1 => exact (Nat.zero_add _).symm
        | 2 => exact (Nat.zero_add _).symm)

/-- The newest rows over what the block held. -/
theorem rows12_writes {κ : Kind} {sp : Space} (v : View sig κ sp S1x8x1024 .f32) (f : v.ty.Contents (Elt Ideal)) (w0 w1 w2 : Vec Ideal S1x1x1024 .f32) (i : Fin 8) (k : Fin 1024) :
    View.read (Elt Ideal) v (v.writes (Elt Ideal) f [⟨Rect.unit ![0, 2, 0] ![1, 1, 1024] inb_S1x8x1024_S1x1x1024_0_2_0, w2⟩, ⟨Rect.unit ![0, 1, 0] ![1, 1, 1024] inb_S1x8x1024_S1x1x1024_0_1_0, w1⟩, ⟨Rect.unit ![0, 0, 0] ![1, 1, 1024] inb_S1x8x1024_S1x1x1024_0_0_0, w0⟩]) (ix3 0 i k)
      = if i = 2 then w2 (ix3 0 0 k) else if i = 1 then w1 (ix3 0 0 k) else if i = 0 then w0 (ix3 0 0 k) else View.read (Elt Ideal) v f (ix3 0 i k) := by
  by_cases h2 : i = 2
  · subst h2
    rw [if_pos rfl]
    exact View.read_writes_cons_unit_of_mem v f _ _ _ _ (ix3 0 0 k) rfl (by intro a; match a with
        | 0 => exact (Nat.zero_add _).symm
        | 1 => rfl
        | 2 => exact (Nat.zero_add _).symm)
  rw [if_neg h2]
  by_cases h1 : i = 1
  · subst h1
    rw [if_pos rfl]
    refine (View.read_writes_cons_unit_of_not_mem v f _ _ _ _ rfl 1 (by show (1 : ℕ) < 2 ∨ 2 + 1 ≤ 1; decide)).trans ?_
    exact View.read_writes_cons_unit_of_mem v f _ _ _ _ (ix3 0 0 k) rfl (by intro a; match a with
        | 0 => exact (Nat.zero_add _).symm
        | 1 => rfl
        | 2 => exact (Nat.zero_add _).symm)
  rw [if_neg h1]
  by_cases h0 : i = 0
  · subst h0
    rw [if_pos rfl]
    refine (View.read_writes_cons_unit_of_not_mem v f _ _ _ _ rfl 1 (by show (0 : ℕ) < 2 ∨ 2 + 1 ≤ 0; decide)).trans ?_
    refine (View.read_writes_cons_unit_of_not_mem v f _ _ _ _ rfl 1 (by show (0 : ℕ) < 1 ∨ 1 + 1 ≤ 0; decide)).trans ?_
    exact View.read_writes_cons_unit_of_mem v f _ _ _ _ (ix3 0 0 k) rfl (by intro a; match a with
        | 0 => exact (Nat.zero_add _).symm
        | 1 => rfl
        | 2 => exact (Nat.zero_add _).symm)
  rw [if_neg h0]
  refine (View.read_writes_cons_unit_of_not_mem v f _ _ _ _ rfl 1 (by
    show i.val < 2 ∨ 2 + 1 ≤ i.val
    have : i.val ≠ 2 := fun h => h2 (Fin.ext h)
    omega)).trans ?_
  refine (View.read_writes_cons_unit_of_not_mem v f _ _ _ _ rfl 1 (by
    show i.val < 1 ∨ 1 + 1 ≤ i.val
    have : i.val ≠ 1 := fun h => h1 (Fin.ext h)
    omega)).trans ?_
  refine (View.read_writes_cons_unit_of_not_mem v f _ _ _ _ rfl 1 (by
    show i.val < 0 ∨ 0 + 1 ≤ i.val
    have : i.val ≠ 0 := fun h => h0 (Fin.ext h)
    omega)).trans ?_
  rfl

/-- The newest rows over a whole block. -/
theorem rows13_canon (P : Vec Ideal S8x1024 .f32) (w0 w1 : Vec Ideal S1x1024 .f32) (i : Fin 8) (k : Fin 1024) :
    View.canon (Val := Elt Ideal) [⟨Rect.unit ![1, 0] ![1, 1024] inb_S8x1024_S1x1024_1_0, w1⟩, ⟨Rect.unit ![0, 0] ![1, 1024] inb_S8x1024_S1x1024_0_0, w0⟩, ⟨Rect.unit ![0, 0] ![8, 1024] inb_S8x1024_S8x1024_0_0, P⟩] (ix2 i k)
      = if i = 1 then w1 (ix2 0 k) else if i = 0 then w0 (ix2 0 k) else P (ix2 i k) := by
  by_cases h1 : i = 1
  · subst h1
    rw [if_pos rfl]
    exact canon_in (S := S8x1024) _ _ _ _ (ix2 0 k) (by intro a; match a with
        | 0 => rfl
        | 1 => exact (Nat.zero_add _).symm)
  rw [if_neg h1]
  by_cases h0 : i = 0
  · subst h0
    rw [if_pos rfl]
    refine (canon_out _ _ _ _ 0 (by show (0 : ℕ) < 1 ∨ 1 + 1 ≤ 0; decide)).trans ?_
    exact canon_in (S := S8x1024) _ _ _ _ (ix2 0 k) (by intro a; match a with
        | 0 => rfl
        | 1 => exact (Nat.zero_add _).symm)
  rw [if_neg h0]
  refine (canon_out _ _ _ _ 0 (by
    show i.val < 1 ∨ 1 + 1 ≤ i.val
    have : i.val ≠ 1 := fun h => h1 (Fin.ext h)
    omega)).trans ?_
  refine (canon_out _ _ _ _ 0 (by
    show i.val < 0 ∨ 0 + 1 ≤ i.val
    have : i.val ≠ 0 := fun h => h0 (Fin.ext h)
    omega)).trans ?_
  exact canon_in (S := S8x1024) _ _ _ _ (ix2 i k) (by intro a; match a with
        | 0 => exact (Nat.zero_add _).symm
        | 1 => exact (Nat.zero_add _).symm)

/-- The newest rows over what the block held. -/
theorem rows13_writes {κ : Kind} {sp : Space} (v : View sig κ sp S8x1024 .f32) (f : v.ty.Contents (Elt Ideal)) (w0 w1 : Vec Ideal S1x1024 .f32) (i : Fin 8) (k : Fin 1024) :
    View.read (Elt Ideal) v (v.writes (Elt Ideal) f [⟨Rect.unit ![1, 0] ![1, 1024] inb_S8x1024_S1x1024_1_0, w1⟩, ⟨Rect.unit ![0, 0] ![1, 1024] inb_S8x1024_S1x1024_0_0, w0⟩]) (ix2 i k)
      = if i = 1 then w1 (ix2 0 k) else if i = 0 then w0 (ix2 0 k) else View.read (Elt Ideal) v f (ix2 i k) := by
  by_cases h1 : i = 1
  · subst h1
    rw [if_pos rfl]
    exact View.read_writes_cons_unit_of_mem v f _ _ _ _ (ix2 0 k) rfl (by intro a; match a with
        | 0 => rfl
        | 1 => exact (Nat.zero_add _).symm)
  rw [if_neg h1]
  by_cases h0 : i = 0
  · subst h0
    rw [if_pos rfl]
    refine (View.read_writes_cons_unit_of_not_mem v f _ _ _ _ rfl 0 (by show (0 : ℕ) < 1 ∨ 1 + 1 ≤ 0; decide)).trans ?_
    exact View.read_writes_cons_unit_of_mem v f _ _ _ _ (ix2 0 k) rfl (by intro a; match a with
        | 0 => rfl
        | 1 => exact (Nat.zero_add _).symm)
  rw [if_neg h0]
  refine (View.read_writes_cons_unit_of_not_mem v f _ _ _ _ rfl 0 (by
    show i.val < 1 ∨ 1 + 1 ≤ i.val
    have : i.val ≠ 1 := fun h => h1 (Fin.ext h)
    omega)).trans ?_
  refine (View.read_writes_cons_unit_of_not_mem v f _ _ _ _ rfl 0 (by
    show i.val < 0 ∨ 0 + 1 ≤ i.val
    have : i.val ≠ 0 := fun h => h0 (Fin.ext h)
    omega)).trans ?_
  rfl

/-- Row 0 of an accumulator's block. -/
def lr12_0 (P : Vec Ideal S1x8x1024 .f32) : Vec Ideal S1x1x1024 .f32 := View.ld P (Rect.unit ![0, 0, 0] ![1, 1, 1024] inb_S1x8x1024_S1x1x1024_0_0_0)

/-- Row 0, at an index. -/
theorem lr12_0_at (P : Vec Ideal S1x8x1024 .f32) (k : Fin 1024) : lr12_0 P (ix3 0 0 k) = P (ix3 0 0 k) := by
  pointwise [lr12_0]

/-- Row 1 of an accumulator's block. -/
def lr12_1 (P : Vec Ideal S1x8x1024 .f32) : Vec Ideal S1x1x1024 .f32 := View.ld P (Rect.unit ![0, 1, 0] ![1, 1, 1024] inb_S1x8x1024_S1x1x1024_0_1_0)

/-- Row 1, at an index. -/
theorem lr12_1_at (P : Vec Ideal S1x8x1024 .f32) (k : Fin 1024) : lr12_1 P (ix3 0 0 k) = P (ix3 0 1 k) := by
  pointwise [lr12_1]

/-- Row 2 of an accumulator's block. -/
def lr12_2 (P : Vec Ideal S1x8x1024 .f32) : Vec Ideal S1x1x1024 .f32 := View.ld P (Rect.unit ![0, 2, 0] ![1, 1, 1024] inb_S1x8x1024_S1x1x1024_0_2_0)

/-- Row 2, at an index. -/
theorem lr12_2_at (P : Vec Ideal S1x8x1024 .f32) (k : Fin 1024) : lr12_2 P (ix3 0 0 k) = P (ix3 0 2 k) := by
  pointwise [lr12_2]

/-- Row 0 of an accumulator's block. -/
def lr13_0 (P : Vec Ideal S8x1024 .f32) : Vec Ideal S1x1024 .f32 := View.ld P (Rect.unit ![0, 0] ![1, 1024] inb_S8x1024_S1x1024_0_0)

/-- Row 0, at an index. -/
theorem lr13_0_at (P : Vec Ideal S8x1024 .f32) (k : Fin 1024) : lr13_0 P (ix2 0 k) = P (ix2 0 k) := by
  pointwise [lr13_0]

/-- Row 1 of an accumulator's block. -/
def lr13_1 (P : Vec Ideal S8x1024 .f32) : Vec Ideal S1x1024 .f32 := View.ld P (Rect.unit ![1, 0] ![1, 1024] inb_S8x1024_S1x1024_1_0)

/-- Row 1, at an index. -/
theorem lr13_1_at (P : Vec Ideal S8x1024 .f32) (k : Fin 1024) : lr13_1 P (ix2 0 k) = P (ix2 1 k) := by
  pointwise [lr13_1]

set_option maxHeartbeats 1000000 in
/-- The modulation's gradient a grid point leaves, its rows over zero, at the first point of the first sequence. -/
theorem w12_A (t : Fin cfg0.N) (h0 : t.val % 8 = 0) (h1 : t.val % 16 = 0) (j) :
    (outsAt0 m c t.val t.isLt).2.2.2.2.2.1 j = View.canon (Val := Elt Ideal) [
      ⟨Rect.unit ![0, 2, 0] ![1, 1, 1024] inb_S1x8x1024_S1x1x1024_0_2_0, k0_pay1 (k0_pay109 (dgtw (blkOf m c t)) (lr12_2 (k0_pay104 (F := Ideal))))⟩,
      ⟨Rect.unit ![0, 1, 0] ![1, 1, 1024] inb_S1x8x1024_S1x1x1024_0_1_0, k0_pay108 (dscw (blkOf m c t)) (lr12_1 (k0_pay104 (F := Ideal)))⟩,
      ⟨Rect.unit ![0, 0, 0] ![1, 1, 1024] inb_S1x8x1024_S1x1x1024_0_0_0, k0_pay107 (dshw (blkOf m c t)) (lr12_0 (k0_pay104 (F := Ideal)))⟩,
      ⟨Rect.unit ![0, 0, 0] ![1, 8, 1024] inb_S1x8x1024_S1x8x1024_0_0_0, (k0_pay104 (F := Ideal))⟩] j := by
  rw [outsAt0_A m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The modulation's gradient a grid point leaves, its rows over what it found, at a later point of a sequence. -/
theorem w12_B (t : Fin cfg0.N) (h0 : ¬t.val % 8 = 0) (h1 : ¬t.val % 16 = 0) (j) :
    (outsAt0 m c t.val t.isLt).2.2.2.2.2.1 j = View.read (Elt Ideal) (ms0_12 t).view ((ms0_12 t).view.writes (Elt Ideal) ((hs0_12 t).unread ((outsAt0 m c (t.val - 1) (Nat.lt_of_le_of_lt (Nat.sub_le _ _) t.isLt)).2.2.2.2.2.1)) [
      ⟨Rect.unit ![0, 2, 0] ![1, 1, 1024] inb_S1x8x1024_S1x1x1024_0_2_0, k0_pay1 (k0_pay109 (dgtw (blkOf m c t)) (lr12_2 (outsAt0 m c (t.val - 1) (Nat.lt_of_le_of_lt (Nat.sub_le _ _) t.isLt)).2.2.2.2.2.1))⟩,
      ⟨Rect.unit ![0, 1, 0] ![1, 1, 1024] inb_S1x8x1024_S1x1x1024_0_1_0, k0_pay108 (dscw (blkOf m c t)) (lr12_1 (outsAt0 m c (t.val - 1) (Nat.lt_of_le_of_lt (Nat.sub_le _ _) t.isLt)).2.2.2.2.2.1)⟩,
      ⟨Rect.unit ![0, 0, 0] ![1, 1, 1024] inb_S1x8x1024_S1x1x1024_0_0_0, k0_pay107 (dshw (blkOf m c t)) (lr12_0 (outsAt0 m c (t.val - 1) (Nat.lt_of_le_of_lt (Nat.sub_le _ _) t.isLt)).2.2.2.2.2.1)⟩]) j := by
  rw [outsAt0_B m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The modulation's gradient a grid point leaves, its rows over zero, at the first point of a later sequence. -/
theorem w12_C (t : Fin cfg0.N) (h0 : t.val % 8 = 0) (h1 : ¬t.val % 16 = 0) (j) :
    (outsAt0 m c t.val t.isLt).2.2.2.2.2.1 j = View.canon (Val := Elt Ideal) [
      ⟨Rect.unit ![0, 2, 0] ![1, 1, 1024] inb_S1x8x1024_S1x1x1024_0_2_0, k0_pay1 (k0_pay109 (dgtw (blkOf m c t)) (lr12_2 (k0_pay104 (F := Ideal))))⟩,
      ⟨Rect.unit ![0, 1, 0] ![1, 1, 1024] inb_S1x8x1024_S1x1x1024_0_1_0, k0_pay108 (dscw (blkOf m c t)) (lr12_1 (k0_pay104 (F := Ideal)))⟩,
      ⟨Rect.unit ![0, 0, 0] ![1, 1, 1024] inb_S1x8x1024_S1x1x1024_0_0_0, k0_pay107 (dshw (blkOf m c t)) (lr12_0 (k0_pay104 (F := Ideal)))⟩,
      ⟨Rect.unit ![0, 0, 0] ![1, 8, 1024] inb_S1x8x1024_S1x8x1024_0_0_0, (k0_pay104 (F := Ideal))⟩] j := by
  rw [outsAt0_C m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The gains' gradient a grid point leaves, its rows over zero, at the first point of the first sequence. -/
theorem w13_A (t : Fin cfg0.N) (h0 : t.val % 8 = 0) (h1 : t.val % 16 = 0) (j) :
    (outsAt0 m c t.val t.isLt).2.2.2.2.2.2.1 j = View.canon (Val := Elt Ideal) [
      ⟨Rect.unit ![1, 0] ![1, 1024] inb_S8x1024_S1x1024_1_0, k0_pay3 (dgpostw (blkOf m c t)) (lr13_1 (k0_pay105 (F := Ideal)))⟩,
      ⟨Rect.unit ![0, 0] ![1, 1024] inb_S8x1024_S1x1024_0_0, k0_pay2 (dgprew (blkOf m c t)) (lr13_0 (k0_pay105 (F := Ideal)))⟩,
      ⟨Rect.unit ![0, 0] ![8, 1024] inb_S8x1024_S8x1024_0_0, (k0_pay105 (F := Ideal))⟩] j := by
  rw [outsAt0_A m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The gains' gradient a grid point leaves, its rows over what it found, at a later point of a sequence. -/
theorem w13_B (t : Fin cfg0.N) (h0 : ¬t.val % 8 = 0) (h1 : ¬t.val % 16 = 0) (j) :
    (outsAt0 m c t.val t.isLt).2.2.2.2.2.2.1 j = View.read (Elt Ideal) (ms0_13 t).view ((ms0_13 t).view.writes (Elt Ideal) ((hs0_13 t).unread ((outsAt0 m c (t.val - 1) (Nat.lt_of_le_of_lt (Nat.sub_le _ _) t.isLt)).2.2.2.2.2.2.1)) [
      ⟨Rect.unit ![1, 0] ![1, 1024] inb_S8x1024_S1x1024_1_0, k0_pay3 (dgpostw (blkOf m c t)) (lr13_1 (outsAt0 m c (t.val - 1) (Nat.lt_of_le_of_lt (Nat.sub_le _ _) t.isLt)).2.2.2.2.2.2.1)⟩,
      ⟨Rect.unit ![0, 0] ![1, 1024] inb_S8x1024_S1x1024_0_0, k0_pay2 (dgprew (blkOf m c t)) (lr13_0 (outsAt0 m c (t.val - 1) (Nat.lt_of_le_of_lt (Nat.sub_le _ _) t.isLt)).2.2.2.2.2.2.1)⟩]) j := by
  rw [outsAt0_B m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The gains' gradient a grid point leaves, its rows over what it found, at the first point of a later sequence. -/
theorem w13_C (t : Fin cfg0.N) (h0 : t.val % 8 = 0) (h1 : ¬t.val % 16 = 0) (j) :
    (outsAt0 m c t.val t.isLt).2.2.2.2.2.2.1 j = View.read (Elt Ideal) (ms0_13 t).view ((ms0_13 t).view.writes (Elt Ideal) ((hs0_13 t).unread ((outsAt0 m c (t.val - 1) (Nat.lt_of_le_of_lt (Nat.sub_le _ _) t.isLt)).2.2.2.2.2.2.1)) [
      ⟨Rect.unit ![1, 0] ![1, 1024] inb_S8x1024_S1x1024_1_0, k0_pay3 (dgpostw (blkOf m c t)) (lr13_1 (outsAt0 m c (t.val - 1) (Nat.lt_of_le_of_lt (Nat.sub_le _ _) t.isLt)).2.2.2.2.2.2.1)⟩,
      ⟨Rect.unit ![0, 0] ![1, 1024] inb_S8x1024_S1x1024_0_0, k0_pay2 (dgprew (blkOf m c t)) (lr13_0 (outsAt0 m c (t.val - 1) (Nat.lt_of_le_of_lt (Nat.sub_le _ _) t.isLt)).2.2.2.2.2.2.1)⟩]) j := by
  rw [outsAt0_C m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The loss a grid point leaves, at the first point of the first sequence. -/
theorem w14_A (t : Fin cfg0.N) (h0 : t.val % 8 = 0) (h1 : t.val % 16 = 0) (j) :
    (outsAt0 m c t.val t.isLt).2.2.2.2.2.2.2 j = k0_pay4 (errw (blkOf m c t)) ((k0_pay106 (F := Ideal))) j := by
  rw [outsAt0_A m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The loss a grid point leaves, at a later point of a sequence. -/
theorem w14_B (t : Fin cfg0.N) (h0 : ¬t.val % 8 = 0) (h1 : ¬t.val % 16 = 0) (j) :
    (outsAt0 m c t.val t.isLt).2.2.2.2.2.2.2 j = k0_pay4 (errw (blkOf m c t)) ((outsAt0 m c (t.val - 1) (Nat.lt_of_le_of_lt (Nat.sub_le _ _) t.isLt)).2.2.2.2.2.2.2) j := by
  rw [outsAt0_B m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

set_option maxHeartbeats 1000000 in
/-- The loss a grid point leaves, at the first point of a later sequence. -/
theorem w14_C (t : Fin cfg0.N) (h0 : t.val % 8 = 0) (h1 : ¬t.val % 16 = 0) (j) :
    (outsAt0 m c t.val t.isLt).2.2.2.2.2.2.2 j = k0_pay4 (errw (blkOf m c t)) ((outsAt0 m c (t.val - 1) (Nat.lt_of_le_of_lt (Nat.sub_le _ _) t.isLt)).2.2.2.2.2.2.2) j := by
  rw [outsAt0_C m c t h0 h1]
  frame_open
  simp (disch := decide) only [↓ View.readCov_skip, ↓ View.readCov_cons_toLoadRect, ↓ View.readCov_fill]
  frame_out
  simp only [
    l2_0, l2_1, l2_2, l3_0, l3_1, l4_0, l4_1, l4_2, l4_3, l4_4, l4_5, l4_6, l4_7, l5_0, l5_1, l5_2, l5_3, l5_4, l5_5,
    l5_6, l5_7, l6_0, l6_1, l6_2, l6_3, hba, hbb, ga1, ua1, ga2, ua2, act0, act1, act2, act3, y1, y2, y3, yw, ryw,
    yhw, xw, gtw, gpw, errw, dxow, dgtw, dpw, dgpostw, dyw, g0, u0, g1, u1, g2, u2, g3, u3, s0, du0, q0, z0, og0, ou0,
    ea1, eb1, gg1, du1, dg1, og1, ou1, ea2, ea3, eb2, s2, du2, q2, z2, og2, ou2, ea4, eb3, gg3, du3, dg3, og3, ou3,
    ea5, lst, dhw, nw, scw, g1w, rw0, xhw, dscw, dshw, dgprew, dxw, hw, blkOf, lr12_0, lr12_1, lr12_2, lr13_0, lr13_1]

/-! ### The same in real numbers -/

/-- What one tile adds to row `i` of its sequence's modulation gradient. -/
def modPart (Z : Tile) (i : Fin 8) (k : Fin 1024) : ℝ :=
  if i = 2 then ∑ p, 1 / 2 * (Z.tok p).dxo k * (Z.tok p).pn k
  else if i = 1 then ∑ p, (Z.tok p).dh k * (Z.tok p).n k
  else if i = 0 then ∑ p, (Z.tok p).dh k
  else 0

/-- What one tile adds to row `i` of the gains' gradient. -/
def gainPart (Z : Tile) (i : Fin 8) (k : Fin 1024) : ℝ :=
  if i = 1 then ∑ p, (Z.tok p).dp k * (Z.tok p).yh k
  else if i = 0 then ∑ p, (Z.tok p).dn k * (Z.tok p).xh k
  else 0

/-- What one tile adds to the loss. -/
def lossPart (Z : Tile) : ℝ := 1 / 2 * ∑ p, (Z.tok p).mse

/-- The modulation's gradient a grid point leaves, at the first point of the first sequence, in real numbers. -/
theorem a12_A (Hd : Fin9 m c) (t : Fin cfg0.N) (h0 : t.val % 8 = 0) (h1 : t.val % 16 = 0) (i : Fin 8) (k : Fin 1024) :
    ((outsAt0 m c t.val t.isLt).2.2.2.2.2.1 (ix3 0 i k) : EReal) = ((modPart (tileOf m c t) i k : ℝ) : EReal) := by
  have HB := holds m c Hd t
  rw [w12_A m c t h0 h1, rows12_canon]
  unfold modPart
  by_cases g2 : i = 2
  · subst g2
    rw [if_pos rfl, if_pos rfl]
    refine (pay1_at _ k).trans <| (pay109_at _ (dgtw_at HB) k).trans ?_
    rw [lr12_2_at]
    rw [pay104_at]
    exact zero_add _
  rw [if_neg g2, if_neg g2]
  by_cases g1 : i = 1
  · subst g1
    rw [if_pos rfl, if_pos rfl]
    refine (pay108_at _ (dscw_at HB) k).trans ?_
    rw [lr12_1_at]
    rw [pay104_at]
    exact zero_add _
  rw [if_neg g1, if_neg g1]
  by_cases g0 : i = 0
  · subst g0
    rw [if_pos rfl, if_pos rfl]
    refine (pay107_at _ (dshw_at HB) k).trans ?_
    rw [lr12_0_at]
    rw [pay104_at]
    exact zero_add _
  rw [if_neg g0, if_neg g0]
  rw [pay104_at]
  exact EReal.coe_zero.symm

/-- The modulation's gradient a grid point leaves, at a later point of a sequence, in real numbers. -/
theorem a12_B (Hd : Fin9 m c) (t : Fin cfg0.N) (h0 : ¬t.val % 8 = 0) (h1 : ¬t.val % 16 = 0) (i : Fin 8) (k : Fin 1024) :
    ((outsAt0 m c t.val t.isLt).2.2.2.2.2.1 (ix3 0 i k) : EReal) = ((outsAt0 m c (t.val - 1) (Nat.lt_of_le_of_lt (Nat.sub_le _ _) t.isLt)).2.2.2.2.2.1 (ix3 0 i k) + ((modPart (tileOf m c t) i k : ℝ) : EReal) : EReal) := by
  have HB := holds m c Hd t
  rw [w12_B m c t h0 h1, rows12_writes]
  rw [(hs0_12 t).read_unread]
  unfold modPart
  by_cases g2 : i = 2
  · subst g2
    rw [if_pos rfl, if_pos rfl]
    refine (pay1_at _ k).trans <| (pay109_at _ (dgtw_at HB) k).trans ?_
    rw [lr12_2_at]
  rw [if_neg g2, if_neg g2]
  by_cases g1 : i = 1
  · subst g1
    rw [if_pos rfl, if_pos rfl]
    refine (pay108_at _ (dscw_at HB) k).trans ?_
    rw [lr12_1_at]
  rw [if_neg g1, if_neg g1]
  by_cases g0 : i = 0
  · subst g0
    rw [if_pos rfl, if_pos rfl]
    refine (pay107_at _ (dshw_at HB) k).trans ?_
    rw [lr12_0_at]
  rw [if_neg g0, if_neg g0]
  exact (add_zero _).symm

/-- The modulation's gradient a grid point leaves, at the first point of a later sequence, in real numbers. -/
theorem a12_C (Hd : Fin9 m c) (t : Fin cfg0.N) (h0 : t.val % 8 = 0) (h1 : ¬t.val % 16 = 0) (i : Fin 8) (k : Fin 1024) :
    ((outsAt0 m c t.val t.isLt).2.2.2.2.2.1 (ix3 0 i k) : EReal) = ((modPart (tileOf m c t) i k : ℝ) : EReal) := by
  have HB := holds m c Hd t
  rw [w12_C m c t h0 h1, rows12_canon]
  unfold modPart
  by_cases g2 : i = 2
  · subst g2
    rw [if_pos rfl, if_pos rfl]
    refine (pay1_at _ k).trans <| (pay109_at _ (dgtw_at HB) k).trans ?_
    rw [lr12_2_at]
    rw [pay104_at]
    exact zero_add _
  rw [if_neg g2, if_neg g2]
  by_cases g1 : i = 1
  · subst g1
    rw [if_pos rfl, if_pos rfl]
    refine (pay108_at _ (dscw_at HB) k).trans ?_
    rw [lr12_1_at]
    rw [pay104_at]
    exact zero_add _
  rw [if_neg g1, if_neg g1]
  by_cases g0 : i = 0
  · subst g0
    rw [if_pos rfl, if_pos rfl]
    refine (pay107_at _ (dshw_at HB) k).trans ?_
    rw [lr12_0_at]
    rw [pay104_at]
    exact zero_add _
  rw [if_neg g0, if_neg g0]
  rw [pay104_at]
  exact EReal.coe_zero.symm

/-- The gains' gradient a grid point leaves, at the first point of the first sequence, in real numbers. -/
theorem a13_A (Hd : Fin9 m c) (t : Fin cfg0.N) (h0 : t.val % 8 = 0) (h1 : t.val % 16 = 0) (i : Fin 8) (k : Fin 1024) :
    ((outsAt0 m c t.val t.isLt).2.2.2.2.2.2.1 (ix2 i k) : EReal) = ((gainPart (tileOf m c t) i k : ℝ) : EReal) := by
  have HB := holds m c Hd t
  rw [w13_A m c t h0 h1, rows13_canon]
  unfold gainPart
  by_cases g1 : i = 1
  · subst g1
    rw [if_pos rfl, if_pos rfl]
    refine (pay3_at _ (dgpostw_at HB) k).trans ?_
    rw [lr13_1_at]
    rw [pay105_at]
    exact zero_add _
  rw [if_neg g1, if_neg g1]
  by_cases g0 : i = 0
  · subst g0
    rw [if_pos rfl, if_pos rfl]
    refine (pay2_at _ (dgprew_at HB) k).trans ?_
    rw [lr13_0_at]
    rw [pay105_at]
    exact zero_add _
  rw [if_neg g0, if_neg g0]
  rw [pay105_at]
  exact EReal.coe_zero.symm

/-- The gains' gradient a grid point leaves, at a later point of a sequence, in real numbers. -/
theorem a13_B (Hd : Fin9 m c) (t : Fin cfg0.N) (h0 : ¬t.val % 8 = 0) (h1 : ¬t.val % 16 = 0) (i : Fin 8) (k : Fin 1024) :
    ((outsAt0 m c t.val t.isLt).2.2.2.2.2.2.1 (ix2 i k) : EReal) = ((outsAt0 m c (t.val - 1) (Nat.lt_of_le_of_lt (Nat.sub_le _ _) t.isLt)).2.2.2.2.2.2.1 (ix2 i k) + ((gainPart (tileOf m c t) i k : ℝ) : EReal) : EReal) := by
  have HB := holds m c Hd t
  rw [w13_B m c t h0 h1, rows13_writes]
  rw [(hs0_13 t).read_unread]
  unfold gainPart
  by_cases g1 : i = 1
  · subst g1
    rw [if_pos rfl, if_pos rfl]
    refine (pay3_at _ (dgpostw_at HB) k).trans ?_
    rw [lr13_1_at]
  rw [if_neg g1, if_neg g1]
  by_cases g0 : i = 0
  · subst g0
    rw [if_pos rfl, if_pos rfl]
    refine (pay2_at _ (dgprew_at HB) k).trans ?_
    rw [lr13_0_at]
  rw [if_neg g0, if_neg g0]
  exact (add_zero _).symm

/-- The gains' gradient a grid point leaves, at the first point of a later sequence, in real numbers. -/
theorem a13_C (Hd : Fin9 m c) (t : Fin cfg0.N) (h0 : t.val % 8 = 0) (h1 : ¬t.val % 16 = 0) (i : Fin 8) (k : Fin 1024) :
    ((outsAt0 m c t.val t.isLt).2.2.2.2.2.2.1 (ix2 i k) : EReal) = ((outsAt0 m c (t.val - 1) (Nat.lt_of_le_of_lt (Nat.sub_le _ _) t.isLt)).2.2.2.2.2.2.1 (ix2 i k) + ((gainPart (tileOf m c t) i k : ℝ) : EReal) : EReal) := by
  have HB := holds m c Hd t
  rw [w13_C m c t h0 h1, rows13_writes]
  rw [(hs0_13 t).read_unread]
  unfold gainPart
  by_cases g1 : i = 1
  · subst g1
    rw [if_pos rfl, if_pos rfl]
    refine (pay3_at _ (dgpostw_at HB) k).trans ?_
    rw [lr13_1_at]
  rw [if_neg g1, if_neg g1]
  by_cases g0 : i = 0
  · subst g0
    rw [if_pos rfl, if_pos rfl]
    refine (pay2_at _ (dgprew_at HB) k).trans ?_
    rw [lr13_0_at]
  rw [if_neg g0, if_neg g0]
  exact (add_zero _).symm

/-- The loss a grid point leaves, at the first point of the first sequence, in real numbers. -/
theorem a14_A (Hd : Fin9 m c) (t : Fin cfg0.N) (h0 : t.val % 8 = 0) (h1 : t.val % 16 = 0) (i : Fin 8) (k : Fin 1024) :
    ((outsAt0 m c t.val t.isLt).2.2.2.2.2.2.2 (ix2 i k) : EReal) = ((lossPart (tileOf m c t) : ℝ) : EReal) := by
  have HB := holds m c Hd t
  rw [w14_A m c t h0 h1]
  refine (pay4_at _ (errw_at HB) i k).trans ?_
  rw [pay106_at]
  exact zero_add _

/-- The loss a grid point leaves, at a later point of a sequence, in real numbers. -/
theorem a14_B (Hd : Fin9 m c) (t : Fin cfg0.N) (h0 : ¬t.val % 8 = 0) (h1 : ¬t.val % 16 = 0) (i : Fin 8) (k : Fin 1024) :
    ((outsAt0 m c t.val t.isLt).2.2.2.2.2.2.2 (ix2 i k) : EReal) = ((outsAt0 m c (t.val - 1) (Nat.lt_of_le_of_lt (Nat.sub_le _ _) t.isLt)).2.2.2.2.2.2.2 (ix2 i k) + ((lossPart (tileOf m c t) : ℝ) : EReal) : EReal) := by
  have HB := holds m c Hd t
  rw [w14_B m c t h0 h1]
  refine (pay4_at _ (errw_at HB) i k).trans ?_
  rfl

/-- The loss a grid point leaves, at the first point of a later sequence, in real numbers. -/
theorem a14_C (Hd : Fin9 m c) (t : Fin cfg0.N) (h0 : t.val % 8 = 0) (h1 : ¬t.val % 16 = 0) (i : Fin 8) (k : Fin 1024) :
    ((outsAt0 m c t.val t.isLt).2.2.2.2.2.2.2 (ix2 i k) : EReal) = ((outsAt0 m c (t.val - 1) (Nat.lt_of_le_of_lt (Nat.sub_le _ _) t.isLt)).2.2.2.2.2.2.2 (ix2 i k) + ((lossPart (tileOf m c t) : ℝ) : EReal) : EReal) := by
  have HB := holds m c Hd t
  rw [w14_C m c t h0 h1]
  refine (pay4_at _ (errw_at HB) i k).trans ?_
  rfl

end Cert.KernelIdeal.Value

end
-- ==== Proof.Kernel.lean ====
module

public import proofs.«01_k».proof.Proof.WinWhole
public import proofs.«01_k».proof.Proof.WinPlanes
public import proofs.«01_k».proof.Proof.WinAcc

@[expose] public section

set_option maxRecDepth 2000

/-!
The kernel's eight result arrays, in terms of the arguments' tokens.
-/

noncomputable section

namespace Cert.KernelIdeal.Value

open Cert.KernelIdeal Cert.KernelIdeal.Gen Cert.Ffn
open Idealize.ShloMosaic Idealize.ShloMosaic.TcCoe Idealize.SL.Sem
open Idealize.ShloMosaic.Pipeline (Dat)

variable (m : (ℓ : Loc nD τ sig) → Buf (Elt Ideal) ℓ) (c : Dev nD)

/-! ### Indices -/

/-- A two-axis index by its coordinates. -/
theorem eta2 {a b : ℕ} (y : (⟨2, ![a, b]⟩ : Shape).Idx) : y = ix2 (y 0) (y 1) := by
  funext i
  match i with
  | 0 => rfl
  | 1 => rfl

/-- A three-axis index by its coordinates. -/
theorem eta3 {a b d : ℕ} (y : (⟨3, ![a, b, d]⟩ : Shape).Idx) : y = ix3 (y 0) (y 1) (y 2) := by
  funext i
  match i with
  | 0 => rfl
  | 1 => rfl
  | 2 => rfl

/-- Token `p` of grid point `t` is row `256 t + p`. -/
theorem tok_row (t : Fin cfg0.N) (p : Fin 256) (n : Fin 4096) (h : n.val = t.val * 256 + p.val) :
    (tileOf m c t).tok p = (argsOf m c).row n := by
  have ht := t_lt t
  have hb : seqOf t = ⟨n.val / 2048, by omega⟩ := Fin.ext (by show t.val / 8 = n.val / 2048; omega)
  have hs : posOf t p = ⟨n.val % 2048, by omega⟩ := Fin.ext (by show t.val % 8 * 256 + p.val = n.val % 2048; omega)
  rw [tile_tok, hb, hs]
  rfl

/-! ### The blocks stored once -/

/-- A grid point's block of the gradient at the block's input. -/
theorem pt7 (Hd : Fin9 m c) (t : Fin cfg0.N) (y : S256x1024.Idx) (j : S4096x1024.Idx)
    (h0 : (j 0).val = t.val * 256 + (y 0).val) (h1 : (j 1).val = (y 1).val) :
    dxw (blkOf m c t) y = (argsOf m c).resDx j := by
  rw [eta2 y]
  refine (dxw_at (holds m c Hd t) (y 0) (y 1)).trans ?_
  rw [tok_row m c t (y 0) (j 0) h0, ← (Fin.ext h1 : j 1 = y 1)]
  rfl

/-- A grid point's block of the modulated input. -/
theorem pt10 (Hd : Fin9 m c) (t : Fin cfg0.N) (y : S256x1024.Idx) (j : S4096x1024.Idx)
    (h0 : (j 0).val = t.val * 256 + (y 0).val) (h1 : (j 1).val = (y 1).val) :
    hw (blkOf m c t) y = (argsOf m c).resH j := by
  rw [eta2 y]
  refine (hw_at (holds m c Hd t) (y 0) (y 1)).trans ?_
  rw [tok_row m c t (y 0) (j 0) h0, ← (Fin.ext h1 : j 1 = y 1)]
  rfl

/-- A grid point's block of the gradient at the output projection. -/
theorem pt11 (Hd : Fin9 m c) (t : Fin cfg0.N) (y : S256x1024.Idx) (j : S4096x1024.Idx)
    (h0 : (j 0).val = t.val * 256 + (y 0).val) (h1 : (j 1).val = (y 1).val) :
    dyw (blkOf m c t) y = (argsOf m c).resDy j := by
  rw [eta2 y]
  refine (dyw_at (holds m c Hd t) (y 0) (y 1)).trans ?_
  rw [tok_row m c t (y 0) (j 0) h0, ← (Fin.ext h1 : j 1 = y 1)]
  rfl

/-- A grid point's planes of the gradient at the input projection. -/
theorem pt8 (Hd : Fin9 m c) (t : Fin cfg0.N) (y : S8x256x704.Idx) (j : S8x4096x704.Idx)
    (h0 : (j 0).val = (y 0).val) (h1 : (j 1).val = t.val * 256 + (y 1).val) (h2 : (j 2).val = (y 2).val) :
    dguBlk (blkOf m c t) y = (argsOf m c).resDgu j := by
  rw [eta3 y]
  refine (dguBlk_at (holds m c Hd t) (y 0) (y 1) (y 2)).trans ?_
  rw [tok_row m c t (y 1) (j 1) h1, ← (Fin.ext h0 : j 0 = y 0), ← (Fin.ext h2 : j 2 = y 2)]
  rfl

/-- A grid point's planes of the activation. -/
theorem pt9 (Hd : Fin9 m c) (t : Fin cfg0.N) (y : S4x256x704.Idx) (j : S4x4096x704.Idx)
    (h0 : (j 0).val = (y 0).val) (h1 : (j 1).val = t.val * 256 + (y 1).val) (h2 : (j 2).val = (y 2).val) :
    actBlk (blkOf m c t) y = (argsOf m c).resAct j := by
  rw [eta3 y]
  refine (actBlk_at (holds m c Hd t) (y 0) (y 1) (y 2)).trans ?_
  rw [tok_row m c t (y 1) (j 1) h1, ← (Fin.ext h0 : j 0 = y 0), ← (Fin.ext h2 : j 2 = y 2)]
  rfl

/-- The kernel's gradient at the block's input. -/
theorem final7 (Hd : Fin9 m c) : (dats m 0 c).arrAt 7 cfg0.N = (argsOf m c).resDx := by
  refine (dats m 0 c).arrAt_eq_of_covers 7 _ (by decide +kernel) fun t hf y => ?_
  blk_simp
  rw [after0_7, w7]
  refine pt7 m c Hd t y _ ?_ ?_ <;> (blk_simp [idx t] <;> try omega)

/-- The kernel's gradient at the input projection. -/
theorem final8 (Hd : Fin9 m c) : (dats m 0 c).arrAt 8 cfg0.N = (argsOf m c).resDgu := by
  refine (dats m 0 c).arrAt_eq_of_covers 8 _ (by decide +kernel) fun t hf y => ?_
  blk_simp
  rw [after0_8, w8]
  refine pt8 m c Hd t y _ ?_ ?_ ?_ <;> (blk_simp [idx t] <;> try omega)

/-- The kernel's activation. -/
theorem final9 (Hd : Fin9 m c) : (dats m 0 c).arrAt 9 cfg0.N = (argsOf m c).resAct := by
  refine (dats m 0 c).arrAt_eq_of_covers 9 _ (by decide +kernel) fun t hf y => ?_
  blk_simp
  rw [after0_9, w9]
  refine pt9 m c Hd t y _ ?_ ?_ ?_ <;> (blk_simp [idx t] <;> try omega)

/-- The kernel's modulated input. -/
theorem final10 (Hd : Fin9 m c) : (dats m 0 c).arrAt 10 cfg0.N = (argsOf m c).resH := by
  refine (dats m 0 c).arrAt_eq_of_covers 10 _ (by decide +kernel) fun t hf y => ?_
  blk_simp
  rw [after0_10, w10]
  refine pt10 m c Hd t y _ ?_ ?_ <;> (blk_simp [idx t] <;> try omega)

/-- The kernel's gradient at the output projection. -/
theorem final11 (Hd : Fin9 m c) : (dats m 0 c).arrAt 11 cfg0.N = (argsOf m c).resDy := by
  refine (dats m 0 c).arrAt_eq_of_covers 11 _ (by decide +kernel) fun t hf y => ?_
  blk_simp
  rw [after0_11, w11]
  refine pt11 m c Hd t y _ ?_ ?_ <;> (blk_simp [idx t] <;> try omega)

/-! ### The sums over the grid points -/

/-- A sum over `a * n` places, in `a` runs of `n`. -/
theorem sum_runs (a n : ℕ) (F : ℕ → ℝ) :
    ∑ s ∈ Finset.range a, ∑ p ∈ Finset.range n, F (s * n + p) = ∑ q ∈ Finset.range (a * n), F q := by
  induction a with
  | zero => simp
  | succ a ih => rw [Finset.sum_range_succ, ih, Nat.succ_mul, Finset.sum_range_add]

/-- A function on the first `N` numbers, zero afterwards. -/
def padded {N : ℕ} (F : Fin N → ℝ) (k : ℕ) : ℝ := if h : k < N then F ⟨k, h⟩ else 0

/-- The padded function at a number below `N`. -/
theorem padded_at {N : ℕ} (F : Fin N → ℝ) (k : ℕ) (h : k < N) : padded F k = F ⟨k, h⟩ := dif_pos h

/-- A sum over `N` places, in `a` runs of `n`. -/
theorem sum_fin_runs (a n N : ℕ) (hN : N = a * n) (F : Fin N → ℝ) (hlt : ∀ (s : Fin a) (p : Fin n), s.val * n + p.val < N) :
    ∑ s : Fin a, ∑ p : Fin n, F ⟨s.val * n + p.val, hlt s p⟩ = ∑ q, F q := by
  have e := sum_runs a n (padded F)
  rw [Finset.sum_range, ← hN, Finset.sum_range] at e
  refine Eq.trans (Finset.sum_congr rfl fun s _ => ?_) (e.trans (Finset.sum_congr rfl fun q _ => padded_at F q.val q.isLt))
  rw [Finset.sum_range]
  exact Finset.sum_congr rfl fun p _ => (padded_at F _ (hlt s p)).symm

/-- The eight grid points of sequence `b` sum to the sequence's 2048 tokens. -/
theorem sum_seq (φ : Tok → ℝ) (b : Fin 2) (n : ℕ) (hn : n = b.val) (hlt : ∀ s : Fin 8, 8 * n + s.val < cfg0.N) :
    ∑ s : Fin 8, ∑ p, φ ((tileOf m c ⟨8 * n + s.val, hlt s⟩).tok p) = ∑ q, φ ((argsOf m c).tok b q) := by
  rw [← sum_fin_runs 8 256 2048 (by decide) (fun q => φ ((argsOf m c).tok b q)) (fun s p => by omega)]
  refine Finset.sum_congr rfl fun s _ => Finset.sum_congr rfl fun p _ => ?_
  rw [tile_tok]
  have hb : seqOf ⟨8 * n + s.val, hlt s⟩ = b := Fin.ext (by show (8 * n + s.val) / 8 = b.val; omega)
  have hs : posOf ⟨8 * n + s.val, hlt s⟩ p = ⟨s.val * 256 + p.val, by omega⟩ :=
    Fin.ext (by show (8 * n + s.val) % 8 * 256 + p.val = s.val * 256 + p.val; omega)
  rw [hb, hs]

/-- A sum over the sixteen grid points, sequence by sequence. -/
theorem sum_points (G : Fin cfg0.N → ℝ) (hlt : ∀ (b : Fin 2) (s : Fin 8), 8 * b.val + s.val < cfg0.N) :
    ∑ t, G t = ∑ b : Fin 2, ∑ s : Fin 8, G ⟨8 * b.val + s.val, hlt b s⟩ := by
  rw [← sum_fin_runs 2 8 cfg0.N N_0 G (fun b s => by have := hlt b s; omega)]
  refine Finset.sum_congr rfl fun b _ => Finset.sum_congr rfl fun s _ => congrArg G (Fin.ext ?_)
  show b.val * 8 + s.val = 8 * b.val + s.val
  omega

/-- The sixteen grid points sum to all tokens. -/
theorem sum_all (φ : Tok → ℝ) :
    ∑ t, ∑ p, φ ((tileOf m c t).tok p) = ∑ b, ∑ q, φ ((argsOf m c).tok b q) := by
  rw [sum_points _ (fun b s => by show _ < 16; omega)]
  exact Finset.sum_congr rfl fun b _ => sum_seq m c φ b b.val rfl (fun s => by show _ < 16; omega)

/-- The modulation's gradient, from the eight grid points of a sequence. -/
theorem mod_sum (b : Fin 2) (i : Fin 8) (k : Fin 1024) (n : ℕ) (hn : n = b.val) (hlt : ∀ s : Fin 8, 8 * n + s.val < cfg0.N) :
    ∑ s : Fin 8, modPart (tileOf m c ⟨8 * n + s.val, hlt s⟩) i k = (argsOf m c).dmod b i.val k := by
  unfold modPart Args.dmod
  by_cases h0 : i = 0
  · subst h0
    exact sum_seq m c (fun T => T.dh k) b n hn hlt
  by_cases h1 : i = 1
  · subst h1
    exact sum_seq m c (fun T => T.dh k * T.n k) b n hn hlt
  by_cases h2 : i = 2
  · subst h2
    exact sum_seq m c (fun T => 1 / 2 * T.dxo k * T.pn k) b n hn hlt
  have e0 : ¬i.val = 0 := fun h => h0 (Fin.ext h)
  have e1 : ¬i.val = 1 := fun h => h1 (Fin.ext h)
  have e2 : ¬i.val = 2 := fun h => h2 (Fin.ext h)
  simp only [if_neg h0, if_neg h1, if_neg h2, if_neg e0, if_neg e1, if_neg e2]
  exact Finset.sum_const_zero

/-- The gains' gradient, from all grid points. -/
theorem gain_sum (i : Fin 8) (k : Fin 1024) :
    ∑ t, gainPart (tileOf m c t) i k = (argsOf m c).dgain i.val k := by
  unfold gainPart Args.dgain
  by_cases h0 : i = 0
  · subst h0
    exact sum_all m c (fun T => T.dn k * T.xh k)
  by_cases h1 : i = 1
  · subst h1
    exact sum_all m c (fun T => T.dp k * T.yh k)
  have e0 : ¬i.val = 0 := fun h => h0 (Fin.ext h)
  have e1 : ¬i.val = 1 := fun h => h1 (Fin.ext h)
  simp only [if_neg h0, if_neg h1, if_neg e0, if_neg e1]
  exact Finset.sum_const_zero

/-- The loss, from all grid points. -/
theorem loss_sum : ∑ t, lossPart (tileOf m c t) = (argsOf m c).loss := by
  unfold lossPart Args.loss
  rw [← Finset.mul_sum, sum_all m c (fun T => T.mse)]

/-- The modulation's accumulator after the last point of a sequence. -/
theorem acc12 (Hd : Fin9 m c) (t : Fin cfg0.N) (ht : t.val % 8 = 7) (y : S1x8x1024.Idx) (b : Fin 2) (hb : t.val / 8 = b.val) :
    ((outsAt0 m c t.val t.isLt).2.2.2.2.2.1 y : EReal) = (((argsOf m c).dmod b (y 1).val (y 2) : ℝ) : EReal) := by
  have key := Pipeline.eq_sum_fin_of_reset_step_apply_of_flush (M := EReal)
    (fun n h => ((outsAt0 m c n h).2.2.2.2.2.1 : S1x8x1024.Idx → EReal)) 8 (fun _ => 0)
    (fun t y => ((modPart (tileOf m c t) (y 1) (y 2) : ℝ) : EReal))
    (fun t h y => by
      rw [eta3 y, Fin.fin_one_eq_zero (y 0)]
      refine Eq.trans ?_ (zero_add _).symm
      by_cases h1 : t.val % 16 = 0
      · exact a12_A m c Hd t h h1 (y 1) (y 2)
      · exact a12_C m c Hd t h h1 (y 1) (y 2))
    (fun t h y => by
      rw [eta3 y, Fin.fin_one_eq_zero (y 0)]
      exact a12_B m c Hd t h (by omega) (y 1) (y 2)) t ht y
  refine key.trans ?_
  rw [zero_add, sum_coe]
  exact congrArg Real.toEReal (mod_sum m c b (y 1) (y 2) (t.val / 8) hb _)

/-- The gains' accumulator after the last point. -/
theorem acc13 (Hd : Fin9 m c) (t : Fin cfg0.N) (ht : t.val % 16 = 15) (y : S8x1024.Idx) :
    ((outsAt0 m c t.val t.isLt).2.2.2.2.2.2.1 y : EReal) = (((argsOf m c).dgain (y 0).val (y 1) : ℝ) : EReal) := by
  have key := Pipeline.eq_sum_fin_of_reset_step_apply_last (M := EReal)
    (fun n h => ((outsAt0 m c n h).2.2.2.2.2.2.1 : S8x1024.Idx → EReal)) 16 (fun _ => 0)
    (fun t y => ((gainPart (tileOf m c t) (y 0) (y 1) : ℝ) : EReal))
    (fun t h y => by
      rw [eta2 y]
      refine Eq.trans ?_ (zero_add _).symm
      exact a13_A m c Hd t (by omega) h (y 0) (y 1))
    (fun t h y => by
      rw [eta2 y]
      by_cases h0 : t.val % 8 = 0
      · exact a13_C m c Hd t h0 h (y 0) (y 1)
      · exact a13_B m c Hd t h0 h (y 0) (y 1)) (le_of_eq N_0) t
    (by have := t_lt t; show _ = 16; omega) y
  refine key.trans ?_
  rw [zero_add, sum_coe]
  exact congrArg Real.toEReal (gain_sum m c (y 0) (y 1))

/-- The loss' accumulator after the last point. -/
theorem acc14 (Hd : Fin9 m c) (t : Fin cfg0.N) (ht : t.val % 16 = 15) (y : S8x1024.Idx) :
    ((outsAt0 m c t.val t.isLt).2.2.2.2.2.2.2 y : EReal) = (((argsOf m c).loss : ℝ) : EReal) := by
  have key := Pipeline.eq_sum_fin_of_reset_step_apply_last (M := EReal)
    (fun n h => ((outsAt0 m c n h).2.2.2.2.2.2.2 : S8x1024.Idx → EReal)) 16 (fun _ => 0)
    (fun t _ => ((lossPart (tileOf m c t) : ℝ) : EReal))
    (fun t h y => by
      rw [eta2 y]
      refine Eq.trans ?_ (zero_add _).symm
      exact a14_A m c Hd t (by omega) h (y 0) (y 1))
    (fun t h y => by
      rw [eta2 y]
      by_cases h0 : t.val % 8 = 0
      · exact a14_C m c Hd t h0 h (y 0) (y 1)
      · exact a14_B m c Hd t h0 h (y 0) (y 1)) (le_of_eq N_0) t
    (by have := t_lt t; show _ = 16; omega) y
  refine key.trans ?_
  rw [zero_add, sum_coe]
  exact congrArg Real.toEReal (loss_sum m c)

/-- The modulation's accumulator, as its sequence's rows of the result. -/
theorem pt12 (Hd : Fin9 m c) (t : Fin cfg0.N) (ht : t.val % 8 = 7) (y : S1x8x1024.Idx) (j : S2x8x1024.Idx)
    (h0 : (j 0).val = t.val / 8) (h1 : (j 1).val = (y 1).val) (h2 : (j 2).val = (y 2).val) :
    ((outsAt0 m c t.val t.isLt).2.2.2.2.2.1 y : EReal) = (argsOf m c).resMod j := by
  refine (acc12 m c Hd t ht y (j 0) h0.symm).trans ?_
  rw [← (Fin.ext h1 : j 1 = y 1), ← (Fin.ext h2 : j 2 = y 2)]
  rfl

/-- The gains' accumulator, as the result. -/
theorem pt13 (Hd : Fin9 m c) (t : Fin cfg0.N) (ht : t.val % 16 = 15) (y : S8x1024.Idx) (j : S8x1024.Idx)
    (h0 : (j 0).val = (y 0).val) (h1 : (j 1).val = (y 1).val) :
    ((outsAt0 m c t.val t.isLt).2.2.2.2.2.2.1 y : EReal) = (argsOf m c).resGain j := by
  refine (acc13 m c Hd t ht y).trans ?_
  rw [← (Fin.ext h0 : j 0 = y 0), ← (Fin.ext h1 : j 1 = y 1)]
  rfl

/-- The kernel's gradient at the modulation. -/
theorem final12 (Hd : Fin9 m c) : (dats m 0 c).arrAt 12 cfg0.N = (argsOf m c).resMod := by
  refine (dats m 0 c).arrAt_eq_of_covers 12 _ (by decide +kernel) fun t hf y => ?_
  have hf' := (flush0_12 t).mp hf
  blk_simp
  rw [after0_12]
  refine pt12 m c Hd t (by omega) y _ ?_ ?_ ?_ <;> (blk_simp [idx t] <;> try omega)

/-- The kernel's gradient at the gains. -/
theorem final13 (Hd : Fin9 m c) : (dats m 0 c).arrAt 13 cfg0.N = (argsOf m c).resGain := by
  refine (dats m 0 c).arrAt_eq_of_covers 13 _ (by decide +kernel) fun t hf y => ?_
  have hf' := (flush0_13 t).mp hf
  blk_simp
  rw [after0_13]
  refine pt13 m c Hd t (by omega) y _ ?_ ?_ <;> (blk_simp [idx t] <;> try omega)

/-- The kernel's loss. -/
theorem final14 (Hd : Fin9 m c) : (dats m 0 c).arrAt 14 cfg0.N = (argsOf m c).resLoss := by
  refine (dats m 0 c).arrAt_eq_of_covers 14 _ (by decide +kernel) fun t hf y => ?_
  have hf' := (flush0_14 t).mp hf
  blk_simp
  rw [after0_14]
  exact acc14 m c Hd t (by omega) y

end Cert.KernelIdeal.Value

end
-- ==== Proof.RefBase.lean ====
module

public import proofs.«01_k».proof.Proof.Args
public import proofs.«01_k».proof.Proof.Gen.ReferenceIdeal.Read
public import Idealize.ShloMosaic.Lib.Pointwise

@[expose] public section

/-!
The reference's arguments as arrays of real numbers, and its operations at real numbers.
-/

noncomputable section

namespace Cert.ReferenceIdeal.Read

open Cert.ReferenceIdeal Cert.ReferenceIdeal.Gen Cert.Ffn
open Idealize.ShloMosaic Idealize.ShloMosaic.TcCoe Idealize.SL.Sem Idealize.ShloMosaic.StableHlo

/-! ### The arguments as arrays -/

/-- The input. -/
def X0 (A : Args) : (⟨S2x2048x1024, .f32⟩ : BufTy).Contents (Elt Ideal) := fun i => ((A.X (i 0) (i 1) (i 2) : ℝ) : EReal)
/-- The target. -/
def X1 (A : Args) : (⟨S2x2048x1024, .f32⟩ : BufTy).Contents (Elt Ideal) := fun i => ((A.T (i 0) (i 1) (i 2) : ℝ) : EReal)
/-- The shifts. -/
def X2 (A : Args) : (⟨S2x1024, .f32⟩ : BufTy).Contents (Elt Ideal) := fun i => ((A.sh (i 0) (i 1) : ℝ) : EReal)
/-- The scales. -/
def X3 (A : Args) : (⟨S2x1024, .f32⟩ : BufTy).Contents (Elt Ideal) := fun i => ((A.sc (i 0) (i 1) : ℝ) : EReal)
/-- The output gates. -/
def X4 (A : Args) : (⟨S2x1024, .f32⟩ : BufTy).Contents (Elt Ideal) := fun i => ((A.gt (i 0) (i 1) : ℝ) : EReal)
/-- The gain before the block. -/
def X5 (A : Args) : (⟨S1x1024, .f32⟩ : BufTy).Contents (Elt Ideal) := fun i => ((A.gpre (i 1) : ℝ) : EReal)
/-- The gain after the block. -/
def X6 (A : Args) : (⟨S1x1024, .f32⟩ : BufTy).Contents (Elt Ideal) := fun i => ((A.gpost (i 1) : ℝ) : EReal)
/-- The input projection. -/
def X7 (A : Args) : (⟨S1x1024x5632, .f32⟩ : BufTy).Contents (Elt Ideal) := fun i => ((A.wi (i 1) (i 2) : ℝ) : EReal)
/-- The output projection. -/
def X8 (A : Args) : (⟨S1x2816x1024, .f32⟩ : BufTy).Contents (Elt Ideal) := fun i => ((A.wo (i 1) (i 2) : ℝ) : EReal)

variable (A : Args)

/-- The input, at an index. -/
theorem rX0 (i : S2x2048x1024.Idx) : (X0 A i : EReal) = ((A.X (i 0) (i 1) (i 2) : ℝ) : EReal) := rfl
/-- The target, at an index. -/
theorem rX1 (i : S2x2048x1024.Idx) : (X1 A i : EReal) = ((A.T (i 0) (i 1) (i 2) : ℝ) : EReal) := rfl
/-- The shifts, at an index. -/
theorem rX2 (i : S2x1024.Idx) : (X2 A i : EReal) = ((A.sh (i 0) (i 1) : ℝ) : EReal) := rfl
/-- The scales, at an index. -/
theorem rX3 (i : S2x1024.Idx) : (X3 A i : EReal) = ((A.sc (i 0) (i 1) : ℝ) : EReal) := rfl
/-- The output gates, at an index. -/
theorem rX4 (i : S2x1024.Idx) : (X4 A i : EReal) = ((A.gt (i 0) (i 1) : ℝ) : EReal) := rfl
/-- The gain before the block, at an index. -/
theorem rX5 (i : S1x1024.Idx) : (X5 A i : EReal) = ((A.gpre (i 1) : ℝ) : EReal) := rfl
/-- The gain after the block, at an index. -/
theorem rX6 (i : S1x1024.Idx) : (X6 A i : EReal) = ((A.gpost (i 1) : ℝ) : EReal) := rfl
/-- The input projection, at an index. -/
theorem rX7 (i : S1x1024x5632.Idx) : (X7 A i : EReal) = ((A.wi (i 1) (i 2) : ℝ) : EReal) := rfl
/-- The output projection, at an index. -/
theorem rX8 (i : S1x2816x1024.Idx) : (X8 A i : EReal) = ((A.wo (i 1) (i 2) : ℝ) : EReal) := rfl

/-! ### Operations at real numbers -/

/-- The word of zero. -/
theorem lit_zero : Ideal.ofBits FTy.f32 0x00000000#32 = ((0 : ℝ) : EReal) := by simp [Ideal.ofBits, Ideal.ieee]

/-- The word of one. -/
theorem lit_one : Ideal.ofBits FTy.f32 0x3F800000#32 = ((1 : ℝ) : EReal) := by
  simp [Ideal.ofBits, Ideal.ieee, -EReal.coe_mul]; norm_num

/-- A sum of real numbers. -/
theorem addE {x y : ℝ} {a b : Ideal .f32} (ha : (a : EReal) = (x : EReal)) (hb : (b : EReal) = (y : EReal)) :
    (FloatOps.addf a b : EReal) = ((x + y : ℝ) : EReal) := by
  show (a + b : EReal) = _
  rw [ha, hb, EReal.coe_add]

/-- A difference of real numbers. -/
theorem subE {x y : ℝ} {a b : Ideal .f32} (ha : (a : EReal) = (x : EReal)) (hb : (b : EReal) = (y : EReal)) :
    (FloatOps.subf a b : EReal) = ((x - y : ℝ) : EReal) := by
  show (a - b : EReal) = _
  rw [ha, hb, EReal.coe_sub]

/-- A product of real numbers. -/
theorem mulE {x y : ℝ} {a b : Ideal .f32} (ha : (a : EReal) = (x : EReal)) (hb : (b : EReal) = (y : EReal)) :
    (FloatOps.mulf a b : EReal) = ((x * y : ℝ) : EReal) := by
  show (a * b : EReal) = _
  rw [ha, hb, EReal.coe_mul]

/-- A quotient of real numbers. -/
theorem divE {x y : ℝ} {a b : Ideal .f32} (hy : y ≠ 0) (ha : (a : EReal) = (x : EReal)) (hb : (b : EReal) = (y : EReal)) :
    (FloatOps.hostDivf a b : EReal) = ((x / y : ℝ) : EReal) := by
  show Ideal.div a b = _
  rw [ha, hb, Ideal.div_coe hy, ← EReal.coe_mul]
  congr 1
  ring

/-- `1024` is not zero. -/
theorem n1024 : (1024 : ℝ) ≠ 0 := by norm_num

/-- A sum of real numbers onto zero. -/
theorem sumE {ι : Type} [Fintype ι] {z : EReal} {f : ι → EReal} {g : ι → ℝ} (hz : z = ((0 : ℝ) : EReal))
    (h : ∀ k, f k = ((g k : ℝ) : EReal)) : z + ∑ k, f k = ((∑ k, g k : ℝ) : EReal) := by
  rw [hz, Finset.sum_congr rfl fun k _ => h k, sum_coe, EReal.coe_zero, zero_add]

/-- A sum of products of real numbers. -/
theorem dotE {n : ℕ} {l r : Fin n → EReal} {a b : Fin n → ℝ} (hl : ∀ k, l k = ((a k : ℝ) : EReal))
    (hr : ∀ k, r k = ((b k : ℝ) : EReal)) : ∑ k, l k * r k = ((∑ k, a k * b k : ℝ) : EReal) := by
  rw [← sum_coe]
  refine Finset.sum_congr rfl fun k _ => ?_
  rw [hl, hr, EReal.coe_mul]

/-- A function of one coordinate depends on its value. -/
theorem fin1 {n : ℕ} (g : Fin n → ℝ) {a a' : Fin n} (ha : a.val = a'.val) :
    ((g a : ℝ) : EReal) = ((g a' : ℝ) : EReal) := by rw [Fin.ext ha]

/-- A function of two coordinates depends on their values. -/
theorem fin2 {n m : ℕ} (g : Fin n → Fin m → ℝ) {a a' : Fin n} {b b' : Fin m} (ha : a.val = a'.val)
    (hb : b.val = b'.val) : ((g a b : ℝ) : EReal) = ((g a' b' : ℝ) : EReal) := by rw [Fin.ext ha, Fin.ext hb]

/-- A function of three coordinates depends on their values. -/
theorem fin3 {n m l : ℕ} (g : Fin n → Fin m → Fin l → ℝ) {a a' : Fin n} {b b' : Fin m} {d d' : Fin l}
    (ha : a.val = a'.val) (hb : b.val = b'.val) (hd : d.val = d'.val) :
    ((g a b d : ℝ) : EReal) = ((g a' b' d' : ℝ) : EReal) := by rw [Fin.ext ha, Fin.ext hb, Fin.ext hd]

/-- The logistic function, by the exponential. -/
theorem lgst_exp (v : ℝ) : 1 / (1 + Real.exp (-v)) = lgst v := by
  unfold lgst
  rw [Real.tanh_eq_sinh_div_cosh, Real.sinh_eq, Real.cosh_eq]
  have e1 : Real.exp (-v) = Real.exp (-(1 / 2 * v)) * Real.exp (-(1 / 2 * v)) := by rw [← Real.exp_add]; ring_nf
  have e2 : Real.exp (1 / 2 * v) * Real.exp (-(1 / 2 * v)) = 1 := by rw [← Real.exp_add]; simp
  have p1 := Real.exp_pos (1 / 2 * v)
  have p2 := Real.exp_pos (-(1 / 2 * v))
  rw [e1]
  generalize Real.exp (1 / 2 * v) = a at *
  generalize Real.exp (-(1 / 2 * v)) = b at *
  have h1 : (1 + b * b) ≠ 0 := by positivity
  have h2 : (a + b) ≠ 0 := by positivity
  field_simp
  nlinarith [e2]

/-- The square of a reciprocal root mean square. -/
theorem rrms_sq (v : Fin 1024 → ℝ) : rrms v * rrms v = ((∑ k, v k * v k) / 1024 + eps)⁻¹ := by
  show (√(mean (fun k => v k * v k) + eps))⁻¹ * (√(mean (fun k => v k * v k) + eps))⁻¹ = _
  rw [← mul_inv, Real.mul_self_sqrt (ms_pos v).le]
  rfl

/-- The gradient through a root-mean-square norm: the cotangent scaled, and the row's share of the scale's
    gradient, once for each factor of the square. -/
theorem norm_back (v d : Fin 1024 → ℝ) (k : Fin 1024) :
    d k * rrms v
      + v k * ((∑ i, v i * d i) * (-(1 / 2) * (rrms v / ((∑ i, v i * v i) / 1024 + eps))) / 1024)
      + (∑ i, v i * d i) * (-(1 / 2) * (rrms v / ((∑ i, v i * v i) / 1024 + eps))) / 1024 * v k
    = rmsBack (rrms v) (fun i => v i * rrms v) d k := by
  unfold rmsBack mean
  have e : ∑ i, d i * (v i * rrms v) = rrms v * ∑ i, v i * d i := by
    rw [Finset.mul_sum]
    exact Finset.sum_congr rfl fun i _ => by ring
  rw [e, div_eq_mul_inv (rrms v), ← rrms_sq]
  ring

/-- A sum over two coordinates of a three-axis array. -/
theorem sum01 {n0 n1 n2 : ℕ} {t : Shape} (h : (⟨3, ![n0, n1, n2]⟩ : Shape).ReducesTo [0, 1] t)
    (v : (⟨3, ![n0, n1, n2]⟩ : Shape).Idx → EReal) (j : t.Idx) (d : Fin n2)
    (hd : ∀ hlt : 0 < t.rank, d.val = (j ⟨0, hlt⟩).val) :
    ∑ i ∈ Finset.univ.filter (fun i => h.drop i = j), v i = ∑ a : Fin n0, ∑ b : Fin n1, v (ix3 a b d) := by
  have hr : t.rank = 1 := h.1
  have h0 : 0 < t.rank := by omega
  refine (Finset.sum_filter_eq_sum_of_fiber _ (fun k : Fin n0 × Fin n1 => ix3 k.1 k.2 d)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact (hd h0).trans (congrArg Fin.val (congrFun e ⟨0, h0⟩)).symm
    · rintro ⟨k, rfl⟩
      funext b
      apply Fin.ext
      match b with
      | ⟨0, _⟩ => exact hd h0
      | ⟨_ + 1, hb⟩ => exact absurd hb (by omega)
  · exact Fintype.sum_prod_type' (f := fun a b => v (ix3 a b d))

/-- A two-axis sum of real numbers onto zero, at a coordinate of the axis left. -/
theorem sum01E {n0 n1 n2 : ℕ} {t : Shape} (h : (⟨3, ![n0, n1, n2]⟩ : Shape).ReducesTo [0, 1] t)
    (v : (⟨3, ![n0, n1, n2]⟩ : Shape).Idx → EReal) {z : EReal} (hz : z = ((0 : ℝ) : EReal))
    (g : Fin n0 → Fin n1 → Fin n2 → ℝ) (hv : ∀ a b d, v (ix3 a b d) = ((g a b d : ℝ) : EReal))
    (j : t.Idx) (d : Fin n2) (hd : ∀ hlt : 0 < t.rank, d.val = (j ⟨0, hlt⟩).val) :
    Ideal.hostReduceAdd h v z j = ((∑ a, ∑ b, g a b d : ℝ) : EReal) := by
  unfold Ideal.hostReduceAdd
  rw [sum01 h v j d hd, hz, EReal.coe_zero, zero_add, ← sum_coe]
  refine Finset.sum_congr rfl fun a _ => ?_
  rw [← sum_coe]
  exact Finset.sum_congr rfl fun b _ => hv a b d

end Cert.ReferenceIdeal.Read

end
-- ==== Proof.Finite.lean ====
module

public import proofs.«01_k».proof.Defs
public import proofs.«01_k».proof.Proof.Kernel
public import proofs.«01_k».proof.Proof.RefBase

@[expose] public section

/-!
The precondition read: every argument holds real numbers, so that the memory's argument arrays are the arrays of the
tokens' arguments.
-/

noncomputable section

namespace Cert.Proof

open Idealize.ShloMosaic Idealize.ShloMosaic.TcCoe Idealize.SL.Sem Idealize.ShloMosaic.StableHlo Cert.Ffn

/-- The shapes the precondition's broadcasts take. -/
theorem preFacts : Cert.Pre_finite.Facts where
  bcast_S_S2x2048x1024 := by decide
  bcast_S_S2x1024 := by decide
  bcast_S_S1x1024 := by decide
  bcast_S_S1x1024x5632 := by decide
  bcast_S_S1x2816x1024 := by decide

/-- The word of positive infinity. -/
theorem inf_word : (FloatOps.ofBits (F := Ideal) .f32 0x7F800000#32 : EReal) = ⊤ := by
  show Ideal.ofBits .f32 0x7F800000#32 = ⊤
  simp [Ideal.ofBits, Ideal.ieee]

/-- An extended real below infinity in absolute value is a real number. -/
theorem real_of_abs (x : EReal) (h : max x (-x) < ⊤) : ((x.toReal : ℝ) : EReal) = x := by
  refine EReal.coe_toReal (ne_of_lt (lt_of_le_of_lt (le_max_left _ _) h)) fun hb => ?_
  have h2 := lt_of_le_of_lt (le_max_right _ _) h
  rw [hb] at h2
  exact absurd h2 (by simp)

/-- An array whose mask of finite entries is all ones holds real numbers. -/
theorem real_of_mask {s : Shape} (x : FVec Ideal s .f32) (hb : Cert.Pre_finite.S_.BroadcastsInDim s (![] : Fin 0 → Fin s.rank))
    (h : cmpf .olt (Host.absf x) (broadcastInDim s ![] hb (constant (F := Ideal) Cert.Pre_finite.S_ .f32 0x7F800000#32)) = fun _ => 1#1) (i : s.Idx) :
    (((x i : EReal).toReal : ℝ) : EReal) = x i := by
  refine real_of_abs _ ?_
  have hi : Ideal.cmp .olt (max (x i : EReal) (-(x i))) (FloatOps.ofBits (F := Ideal) .f32 0x7F800000#32) = 1#1 := congrFun h i
  rw [inf_word] at hi
  by_contra hn
  simp [Ideal.cmp, hn] at hi

open Cert.KernelIdeal Cert.KernelIdeal.Value

section Memory
variable (m : (ℓ : Loc nD τ sig) → Buf (Elt Ideal) ℓ) (c : Dev nD)

/-- Under the precondition every argument holds real numbers. -/
theorem fin9_of_pre (h : Cert.Pre_KernelIdeal_finite (hPre_finite := preFacts) m) : Fin9 m c := by
  obtain ⟨h0, h1, h2, h3, h4, h5, h6, h7, h8⟩ := h c
  exact ⟨real_of_mask _ _ h0, real_of_mask _ _ h1, real_of_mask _ _ h2, real_of_mask _ _ h3, real_of_mask _ _ h4,
    real_of_mask _ _ h5, real_of_mask _ _ h6, real_of_mask _ _ h7, real_of_mask _ _ h8⟩

/-- The memory's input. -/
theorem mem0 (H : Fin9 m c) : m ((c : Thread nD τ).loc main_arg0) = Cert.ReferenceIdeal.Read.X0 (argsOf m c) := by
  funext i
  refine (H.f0 i).symm.trans ?_
  refine congrArg (fun j => (((m ((c : Thread nD τ).loc main_arg0) j : EReal).toReal : ℝ) : EReal)) (funext fun b => ?_)
  match b with
  | ⟨0, _⟩ => exact rfl
  | ⟨1, _⟩ => exact rfl
  | ⟨2, _⟩ => exact rfl

/-- The memory's target. -/
theorem mem1 (H : Fin9 m c) : m ((c : Thread nD τ).loc main_arg1) = Cert.ReferenceIdeal.Read.X1 (argsOf m c) := by
  funext i
  refine (H.f1 i).symm.trans ?_
  refine congrArg (fun j => (((m ((c : Thread nD τ).loc main_arg1) j : EReal).toReal : ℝ) : EReal)) (funext fun b => ?_)
  match b with
  | ⟨0, _⟩ => exact rfl
  | ⟨1, _⟩ => exact rfl
  | ⟨2, _⟩ => exact rfl

/-- The memory's shifts. -/
theorem mem2 (H : Fin9 m c) : m ((c : Thread nD τ).loc main_arg2) = Cert.ReferenceIdeal.Read.X2 (argsOf m c) := by
  funext i
  refine (H.f2 i).symm.trans ?_
  refine congrArg (fun j => (((m ((c : Thread nD τ).loc main_arg2) j : EReal).toReal : ℝ) : EReal)) (funext fun b => ?_)
  match b with
  | ⟨0, _⟩ => exact rfl
  | ⟨1, _⟩ => exact rfl

/-- The memory's scales. -/
theorem mem3 (H : Fin9 m c) : m ((c : Thread nD τ).loc main_arg3) = Cert.ReferenceIdeal.Read.X3 (argsOf m c) := by
  funext i
  refine (H.f3 i).symm.trans ?_
  refine congrArg (fun j => (((m ((c : Thread nD τ).loc main_arg3) j : EReal).toReal : ℝ) : EReal)) (funext fun b => ?_)
  match b with
  | ⟨0, _⟩ => exact rfl
  | ⟨1, _⟩ => exact rfl

/-- The memory's output gates. -/
theorem mem4 (H : Fin9 m c) : m ((c : Thread nD τ).loc main_arg4) = Cert.ReferenceIdeal.Read.X4 (argsOf m c) := by
  funext i
  refine (H.f4 i).symm.trans ?_
  refine congrArg (fun j => (((m ((c : Thread nD τ).loc main_arg4) j : EReal).toReal : ℝ) : EReal)) (funext fun b => ?_)
  match b with
  | ⟨0, _⟩ => exact rfl
  | ⟨1, _⟩ => exact rfl

/-- The memory's gain before the block. -/
theorem mem5 (H : Fin9 m c) : m ((c : Thread nD τ).loc main_arg5) = Cert.ReferenceIdeal.Read.X5 (argsOf m c) := by
  funext i
  refine (H.f5 i).symm.trans ?_
  refine congrArg (fun j => (((m ((c : Thread nD τ).loc main_arg5) j : EReal).toReal : ℝ) : EReal)) (funext fun b => ?_)
  match b with
  | ⟨0, _⟩ => exact Subsingleton.elim (α := Fin 1) _ _
  | ⟨1, _⟩ => exact rfl

/-- The memory's gain after the block. -/
theorem mem6 (H : Fin9 m c) : m ((c : Thread nD τ).loc main_arg6) = Cert.ReferenceIdeal.Read.X6 (argsOf m c) := by
  funext i
  refine (H.f6 i).symm.trans ?_
  refine congrArg (fun j => (((m ((c : Thread nD τ).loc main_arg6) j : EReal).toReal : ℝ) : EReal)) (funext fun b => ?_)
  match b with
  | ⟨0, _⟩ => exact Subsingleton.elim (α := Fin 1) _ _
  | ⟨1, _⟩ => exact rfl

/-- The memory's input projection. -/
theorem mem7 (H : Fin9 m c) : m ((c : Thread nD τ).loc main_arg7) = Cert.ReferenceIdeal.Read.X7 (argsOf m c) := by
  funext i
  refine (H.f7 i).symm.trans ?_
  refine congrArg (fun j => (((m ((c : Thread nD τ).loc main_arg7) j : EReal).toReal : ℝ) : EReal)) (funext fun b => ?_)
  match b with
  | ⟨0, _⟩ => exact Subsingleton.elim (α := Fin 1) _ _
  | ⟨1, _⟩ => exact rfl
  | ⟨2, _⟩ => exact rfl

/-- The memory's output projection. -/
theorem mem8 (H : Fin9 m c) : m ((c : Thread nD τ).loc main_arg8) = Cert.ReferenceIdeal.Read.X8 (argsOf m c) := by
  funext i
  refine (H.f8 i).symm.trans ?_
  refine congrArg (fun j => (((m ((c : Thread nD τ).loc main_arg8) j : EReal).toReal : ℝ) : EReal)) (funext fun b => ?_)
  match b with
  | ⟨0, _⟩ => exact Subsingleton.elim (α := Fin 1) _ _
  | ⟨1, _⟩ => exact rfl
  | ⟨2, _⟩ => exact rfl

end Memory

end Cert.Proof

end
-- ==== Proof.RefFwd.lean ====
module

public import proofs.«01_k».proof.Proof.RefBase

@[expose] public section

/-!
The reference's forward pass, one operation after another, at the arguments' real numbers.
-/

noncomputable section

namespace Cert.ReferenceIdeal.Read

open Cert.ReferenceIdeal Cert.ReferenceIdeal.Gen Cert.Ffn
open Idealize.ShloMosaic Idealize.ShloMosaic.TcCoe Idealize.SL.Sem Idealize.ShloMosaic.StableHlo

variable (A : Args)

/-- The gain before the block. -/
theorem r2 (i : S1024.Idx) : (val_main_v2 (F := Ideal) (X5 A) i : EReal) = ((A.gpre (i 0) : ℝ) : EReal) := by
  have h0 : (i 0).val < 1024 := (i 0).isLt
  refine (val_main_v2_apply (F := Ideal) (X5 A) _).trans ((rX5 A _).trans (fin1 (fun k => A.gpre k) ?_ ))
  · show ((i 0).val) % 1024 = (i 0).val; omega

/-- The input's sum of squares. -/
theorem r4 (i : S2x2048.Idx) : (val_main_v4 (F := Ideal) (X0 A) i : EReal) = ((∑ k, (A.tok (i 0) (i 1)).x k * (A.tok (i 0) (i 1)).x k : ℝ) : EReal) :=
  (val_main_v4_apply (X0 A) _).trans (sumE ((val_main_cst_1_apply (F := Ideal)  _).trans lit_zero) fun k => ((val_main_v3_apply (F := Ideal) (X0 A) _).trans (mulE (rX0 A _) (rX0 A _))))

/-- The number under the input's square root. -/
theorem r9 (i : S2x2048x1.Idx) : (val_main_v9 (F := Ideal) (X0 A) i : EReal) = (((∑ k, (A.tok (i 0) (i 1)).x k * (A.tok (i 0) (i 1)).x k) / 1024 + eps : ℝ) : EReal) :=
  (val_main_v9_apply (F := Ideal) (X0 A) _).trans (addE ((val_main_v7_apply (F := Ideal) (X0 A) _).trans (divE n1024 ((val_main_v5_apply (F := Ideal) (X0 A) _).trans (r4 A _)) ((val_main_v6_apply (F := Ideal)  _).trans ((val_main_cst_2_apply (F := Ideal)  _).trans lit_1024)))) ((val_main_v8_apply (F := Ideal)  _).trans ((val_main_cst_3_apply (F := Ideal)  _).trans lit_eps)))

/-- The input's reciprocal root mean square. -/
theorem r10 (i : S2x2048x1.Idx) : (val_main_v10 (F := Ideal) (X0 A) i : EReal) = (((A.tok (i 0) (i 1)).r : ℝ) : EReal) :=
  (val_main_v10_apply (F := Ideal) (X0 A) _).trans ((congrArg Ideal.rsqrt (r9 A i)).trans (rsqrt_ms _))

/-- The derivative of the input's reciprocal root mean square by the number under the root. -/
theorem r13 (i : S2x2048x1.Idx) : (val_main_v13 (F := Ideal) (X0 A) i : EReal) = ((-(1 / 2) * ((A.tok (i 0) (i 1)).r / ((∑ k, (A.tok (i 0) (i 1)).x k * (A.tok (i 0) (i 1)).x k) / 1024 + eps)) : ℝ) : EReal) :=
  (val_main_v13_apply (F := Ideal) (X0 A) _).trans (mulE ((val_main_v12_apply (F := Ideal)  _).trans ((val_main_cst_4_apply (F := Ideal)  _).trans lit_neg_half)) ((val_main_v11_apply (F := Ideal) (X0 A) _).trans (divE (ms_pos (A.tok (i 0) (i 1)).x).ne' (r10 A _) (r9 A _))))

/-- The normalised input. -/
theorem r15 (i : S2x2048x1024.Idx) : (val_main_v15 (F := Ideal) (X0 A) i : EReal) = (((A.tok (i 0) (i 1)).xh (i 2) : ℝ) : EReal) :=
  (val_main_v15_apply (F := Ideal) (X0 A) _).trans (mulE (rX0 A _) ((val_main_v14_apply (F := Ideal) (X0 A) _).trans (r10 A _)))

/-- The normalised input times the gain. -/
theorem r18 (i : S2x2048x1024.Idx) : (val_main_v18 (F := Ideal) (X0 A) (X5 A) i : EReal) = (((A.tok (i 0) (i 1)).n (i 2) : ℝ) : EReal) :=
  (val_main_v18_apply (F := Ideal) (X0 A) (X5 A) _).trans (mulE (r15 A _) ((val_main_v17_apply (F := Ideal) (X5 A) _).trans ((val_main_v16_apply (F := Ideal) (X5 A) _).trans (r2 A _))))

/-- One plus the scale. -/
theorem r21 (i : S2x1x1024.Idx) : (val_main_v21 (F := Ideal) (X3 A) i : EReal) = ((1 + A.sc (i 0) (i 2) : ℝ) : EReal) :=
  (val_main_v21_apply (F := Ideal) (X3 A) _).trans (addE ((val_main_v20_apply (F := Ideal)  _).trans ((val_main_cst_5_apply (F := Ideal)  _).trans lit_one)) ((val_main_v19_apply (F := Ideal) (X3 A) _).trans (rX3 A _)))

/-- The modulated input. -/
theorem r26 (i : S2x2048x1024.Idx) : (val_main_v26 (F := Ideal) (X0 A) (X2 A) (X3 A) (X5 A) i : EReal) = (((A.tok (i 0) (i 1)).h (i 2) : ℝ) : EReal) :=
  (val_main_v26_apply (F := Ideal) (X0 A) (X2 A) (X3 A) (X5 A) _).trans (addE ((val_main_v23_apply (F := Ideal) (X0 A) (X3 A) (X5 A) _).trans (mulE (r18 A _) ((val_main_v22_apply (F := Ideal) (X3 A) _).trans (r21 A _)))) ((val_main_v25_apply (F := Ideal) (X2 A) _).trans ((val_main_v24_apply (F := Ideal) (X2 A) _).trans (rX2 A _))))

/-- The input projection's matrix. -/
theorem r27 (i : S1024x5632.Idx) : (val_main_v27 (F := Ideal) (X7 A) i : EReal) = ((A.wi (i 0) (i 1) : ℝ) : EReal) := by
  have h0 : (i 0).val < 1024 := (i 0).isLt; have h1 : (i 1).val < 5632 := (i 1).isLt
  refine (val_main_v27_apply (F := Ideal) (X7 A) _).trans ((rX7 A _).trans (fin2 (fun k j => A.wi k j) ?_ ?_ ))
  · show ((i 0).val * 5632 + (i 1).val) / 5632 % 1024 = (i 0).val; omega
  · show ((i 0).val * 5632 + (i 1).val) % 5632 = (i 1).val; omega

/-- The input projection. -/
theorem r28 (i : S2x2048x5632.Idx) : (val_main_v28 (F := Ideal) (X0 A) (X2 A) (X3 A) (X5 A) (X7 A) i : EReal) = (((A.tok (i 0) (i 1)).gu (i 2) : ℝ) : EReal) :=
  (val_main_v28_apply (X0 A) (X2 A) (X3 A) (X5 A) (X7 A) _).trans (dotE (fun k => (r26 A _)) fun k => (r27 A _))

/-- The input projection. -/
theorem r29 (i : S2x2048x5632.Idx) : (val_main_v29 (F := Ideal) (X0 A) (X2 A) (X3 A) (X5 A) (X7 A) i : EReal) = (((A.tok (i 0) (i 1)).gu (i 2) : ℝ) : EReal) := by
  refine ((val_main_v29_apply (F := Ideal) (X0 A) (X2 A) (X3 A) (X5 A) (X7 A) _).trans (addE (r28 A _) ((val_main_v0_apply (F := Ideal)  _).trans ((val_main_cst_apply (F := Ideal)  _).trans lit_zero)))).trans (congrArg Real.toEReal ?_)
  exact add_zero _

/-- The gate half. -/
theorem r30 (i : S2x2048x2816.Idx) : (val_main_v30 (F := Ideal) (X0 A) (X2 A) (X3 A) (X5 A) (X7 A) i : EReal) = (((A.tok (i 0) (i 1)).gate (i 2) : ℝ) : EReal) :=
  (val_main_v30_apply (F := Ideal) (X0 A) (X2 A) (X3 A) (X5 A) (X7 A) _).trans ((r29 A _).trans (fin1 (A.tok (i 0) (i 1)).gu rfl))

/-- The up half. -/
theorem r31 (i : S2x2048x2816.Idx) : (val_main_v31 (F := Ideal) (X0 A) (X2 A) (X3 A) (X5 A) (X7 A) i : EReal) = (((A.tok (i 0) (i 1)).up (i 2) : ℝ) : EReal) :=
  (val_main_v31_apply (F := Ideal) (X0 A) (X2 A) (X3 A) (X5 A) (X7 A) _).trans ((r29 A _).trans (fin1 (A.tok (i 0) (i 1)).gu rfl))

/-- The logistic function of the gate half. -/
theorem r32_2 (i : S2x2048x2816.Idx) : (val_main_v32_2 (F := Ideal) (X0 A) (X2 A) (X3 A) (X5 A) (X7 A) i : EReal) = ((lgst ((A.tok (i 0) (i 1)).gate (i 2)) : ℝ) : EReal) := by
  refine (val_main_v32_2_apply (F := Ideal) (X0 A) (X2 A) (X3 A) (X5 A) (X7 A) _).trans ?_
  have e1 : (val_main_call0_v1 (F := Ideal) (X0 A) (X2 A) (X3 A) (X5 A) (X7 A) i : EReal) = ((Real.exp (-((A.tok (i 0) (i 1)).gate (i 2))) : ℝ) : EReal) := by
    refine (val_main_call0_v1_apply (F := Ideal) (X0 A) (X2 A) (X3 A) (X5 A) (X7 A) i).trans ?_
    rw [val_main_call0_v0_apply (F := Ideal) (X0 A) (X2 A) (X3 A) (X5 A) (X7 A) i]
    show Ideal.exp (-(val_main_v30 (F := Ideal) (X0 A) (X2 A) (X3 A) (X5 A) (X7 A) i : EReal)) = _
    rw [r30, ← EReal.coe_neg, Ideal.exp_coe]
  refine (divE ?_ ((val_main_call0_v4_apply (F := Ideal)  _).trans ((val_main_call0_cst_0_apply (F := Ideal)  _).trans lit_one)) ((val_main_call0_v3_apply (F := Ideal) (X0 A) (X2 A) (X3 A) (X5 A) (X7 A) _).trans (addE ((val_main_call0_v2_apply (F := Ideal)  _).trans ((val_main_call0_cst_apply (F := Ideal)  _).trans lit_one)) e1))).trans (congrArg Real.toEReal (lgst_exp _))
  have := Real.exp_pos (-((A.tok (i 0) (i 1)).gate (i 2)))
  positivity

/-- The derivative of the logistic function of the gate half. -/
theorem r32_1 (i : S2x2048x2816.Idx) : (val_main_v32_1 (F := Ideal) (X0 A) (X2 A) (X3 A) (X5 A) (X7 A) i : EReal) = ((lgst ((A.tok (i 0) (i 1)).gate (i 2)) * (1 - lgst ((A.tok (i 0) (i 1)).gate (i 2))) : ℝ) : EReal) :=
  (val_main_v32_1_apply (F := Ideal) (X0 A) (X2 A) (X3 A) (X5 A) (X7 A) _).trans (mulE (r32_2 A _) ((val_main_call0_v7_apply (F := Ideal) (X0 A) (X2 A) (X3 A) (X5 A) (X7 A) _).trans (subE ((val_main_call0_v6_apply (F := Ideal)  _).trans ((val_main_call0_cst_1_apply (F := Ideal)  _).trans lit_one)) (r32_2 A _))))

/-- The gate half times its logistic function. -/
theorem r32_0 (i : S2x2048x2816.Idx) : (val_main_v32_0 (F := Ideal) (X0 A) (X2 A) (X3 A) (X5 A) (X7 A) i : EReal) = (((A.tok (i 0) (i 1)).gate (i 2) * lgst ((A.tok (i 0) (i 1)).gate (i 2)) : ℝ) : EReal) :=
  (val_main_v32_0_apply (F := Ideal) (X0 A) (X2 A) (X3 A) (X5 A) (X7 A) _).trans (mulE (r30 A _) (r32_2 A _))

/-- The gated activation. -/
theorem r33 (i : S2x2048x2816.Idx) : (val_main_v33 (F := Ideal) (X0 A) (X2 A) (X3 A) (X5 A) (X7 A) i : EReal) = (((A.tok (i 0) (i 1)).act (i 2) : ℝ) : EReal) :=
  (val_main_v33_apply (F := Ideal) (X0 A) (X2 A) (X3 A) (X5 A) (X7 A) _).trans (mulE (r32_0 A _) (r31 A _))

/-- Half the output gate. -/
theorem r36 (i : S2x1x1024.Idx) : (val_main_v36 (F := Ideal) (X4 A) i : EReal) = ((1 / 2 * A.gt (i 0) (i 2) : ℝ) : EReal) :=
  (val_main_v36_apply (F := Ideal) (X4 A) _).trans (mulE ((val_main_v35_apply (F := Ideal)  _).trans ((val_main_cst_6_apply (F := Ideal)  _).trans lit_half)) ((val_main_v34_apply (F := Ideal) (X4 A) _).trans (rX4 A _)))

/-- The output projection's matrix. -/
theorem r37 (i : S2816x1024.Idx) : (val_main_v37 (F := Ideal) (X8 A) i : EReal) = ((A.wo (i 0) (i 1) : ℝ) : EReal) := by
  have h0 : (i 0).val < 2816 := (i 0).isLt; have h1 : (i 1).val < 1024 := (i 1).isLt
  refine (val_main_v37_apply (F := Ideal) (X8 A) _).trans ((rX8 A _).trans (fin2 (fun f k => A.wo f k) ?_ ?_ ))
  · show ((i 0).val * 1024 + (i 1).val) / 1024 % 2816 = (i 0).val; omega
  · show ((i 0).val * 1024 + (i 1).val) % 1024 = (i 1).val; omega

/-- The output projection. -/
theorem r38 (i : S2x2048x1024.Idx) : (val_main_v38 (F := Ideal) (X0 A) (X2 A) (X3 A) (X5 A) (X7 A) (X8 A) i : EReal) = (((A.tok (i 0) (i 1)).y (i 2) : ℝ) : EReal) :=
  (val_main_v38_apply (X0 A) (X2 A) (X3 A) (X5 A) (X7 A) (X8 A) _).trans (dotE (fun k => (r33 A _)) fun k => (r37 A _))

/-- The output projection. -/
theorem r39 (i : S2x2048x1024.Idx) : (val_main_v39 (F := Ideal) (X0 A) (X2 A) (X3 A) (X5 A) (X7 A) (X8 A) i : EReal) = (((A.tok (i 0) (i 1)).y (i 2) : ℝ) : EReal) := by
  refine ((val_main_v39_apply (F := Ideal) (X0 A) (X2 A) (X3 A) (X5 A) (X7 A) (X8 A) _).trans (addE (r38 A _) ((val_main_v1_apply (F := Ideal)  _).trans ((val_main_cst_0_apply (F := Ideal)  _).trans lit_zero)))).trans (congrArg Real.toEReal ?_)
  exact add_zero _

/-- The gain after the block. -/
theorem r40 (i : S1024.Idx) : (val_main_v40 (F := Ideal) (X6 A) i : EReal) = ((A.gpost (i 0) : ℝ) : EReal) := by
  have h0 : (i 0).val < 1024 := (i 0).isLt
  refine (val_main_v40_apply (F := Ideal) (X6 A) _).trans ((rX6 A _).trans (fin1 (fun k => A.gpost k) ?_ ))
  · show ((i 0).val) % 1024 = (i 0).val; omega

/-- The output projection's sum of squares. -/
theorem r42 (i : S2x2048.Idx) : (val_main_v42 (F := Ideal) (X0 A) (X2 A) (X3 A) (X5 A) (X7 A) (X8 A) i : EReal) = ((∑ k, (A.tok (i 0) (i 1)).y k * (A.tok (i 0) (i 1)).y k : ℝ) : EReal) :=
  (val_main_v42_apply (X0 A) (X2 A) (X3 A) (X5 A) (X7 A) (X8 A) _).trans (sumE ((val_main_cst_7_apply (F := Ideal)  _).trans lit_zero) fun k => ((val_main_v41_apply (F := Ideal) (X0 A) (X2 A) (X3 A) (X5 A) (X7 A) (X8 A) _).trans (mulE (r39 A _) (r39 A _))))

/-- The number under the output projection's square root. -/
theorem r47 (i : S2x2048x1.Idx) : (val_main_v47 (F := Ideal) (X0 A) (X2 A) (X3 A) (X5 A) (X7 A) (X8 A) i : EReal) = (((∑ k, (A.tok (i 0) (i 1)).y k * (A.tok (i 0) (i 1)).y k) / 1024 + eps : ℝ) : EReal) :=
  (val_main_v47_apply (F := Ideal) (X0 A) (X2 A) (X3 A) (X5 A) (X7 A) (X8 A) _).trans (addE ((val_main_v45_apply (F := Ideal) (X0 A) (X2 A) (X3 A) (X5 A) (X7 A) (X8 A) _).trans (divE n1024 ((val_main_v43_apply (F := Ideal) (X0 A) (X2 A) (X3 A) (X5 A) (X7 A) (X8 A) _).trans (r42 A _)) ((val_main_v44_apply (F := Ideal)  _).trans ((val_main_cst_8_apply (F := Ideal)  _).trans lit_1024)))) ((val_main_v46_apply (F := Ideal)  _).trans ((val_main_cst_9_apply (F := Ideal)  _).trans lit_eps)))

/-- The output projection's reciprocal root mean square. -/
theorem r48 (i : S2x2048x1.Idx) : (val_main_v48 (F := Ideal) (X0 A) (X2 A) (X3 A) (X5 A) (X7 A) (X8 A) i : EReal) = (((A.tok (i 0) (i 1)).ry : ℝ) : EReal) :=
  (val_main_v48_apply (F := Ideal) (X0 A) (X2 A) (X3 A) (X5 A) (X7 A) (X8 A) _).trans ((congrArg Ideal.rsqrt (r47 A i)).trans (rsqrt_ms _))

/-- The derivative of the output projection's reciprocal root mean square by the number under the root. -/
theorem r51 (i : S2x2048x1.Idx) : (val_main_v51 (F := Ideal) (X0 A) (X2 A) (X3 A) (X5 A) (X7 A) (X8 A) i : EReal) = ((-(1 / 2) * ((A.tok (i 0) (i 1)).ry / ((∑ k, (A.tok (i 0) (i 1)).y k * (A.tok (i 0) (i 1)).y k) / 1024 + eps)) : ℝ) : EReal) :=
  (val_main_v51_apply (F := Ideal) (X0 A) (X2 A) (X3 A) (X5 A) (X7 A) (X8 A) _).trans (mulE ((val_main_v50_apply (F := Ideal)  _).trans ((val_main_cst_10_apply (F := Ideal)  _).trans lit_neg_half)) ((val_main_v49_apply (F := Ideal) (X0 A) (X2 A) (X3 A) (X5 A) (X7 A) (X8 A) _).trans (divE (ms_pos (A.tok (i 0) (i 1)).y).ne' (r48 A _) (r47 A _))))

/-- The normalised output projection. -/
theorem r53 (i : S2x2048x1024.Idx) : (val_main_v53 (F := Ideal) (X0 A) (X2 A) (X3 A) (X5 A) (X7 A) (X8 A) i : EReal) = (((A.tok (i 0) (i 1)).yh (i 2) : ℝ) : EReal) :=
  (val_main_v53_apply (F := Ideal) (X0 A) (X2 A) (X3 A) (X5 A) (X7 A) (X8 A) _).trans (mulE (r39 A _) ((val_main_v52_apply (F := Ideal) (X0 A) (X2 A) (X3 A) (X5 A) (X7 A) (X8 A) _).trans (r48 A _)))

/-- The normalised output projection times the gain. -/
theorem r56 (i : S2x2048x1024.Idx) : (val_main_v56 (F := Ideal) (X0 A) (X2 A) (X3 A) (X5 A) (X6 A) (X7 A) (X8 A) i : EReal) = (((A.tok (i 0) (i 1)).pn (i 2) : ℝ) : EReal) :=
  (val_main_v56_apply (F := Ideal) (X0 A) (X2 A) (X3 A) (X5 A) (X6 A) (X7 A) (X8 A) _).trans (mulE (r53 A _) ((val_main_v55_apply (F := Ideal) (X6 A) _).trans ((val_main_v54_apply (F := Ideal) (X6 A) _).trans (r40 A _))))

/-- The block's output less the target. -/
theorem r60 (i : S2x2048x1024.Idx) : (val_main_v60 (F := Ideal) (X0 A) (X1 A) (X2 A) (X3 A) (X4 A) (X5 A) (X6 A) (X7 A) (X8 A) i : EReal) = (((A.tok (i 0) (i 1)).err (i 2) : ℝ) : EReal) :=
  (val_main_v60_apply (F := Ideal) (X0 A) (X1 A) (X2 A) (X3 A) (X4 A) (X5 A) (X6 A) (X7 A) (X8 A) _).trans (subE ((val_main_v59_apply (F := Ideal) (X0 A) (X2 A) (X3 A) (X4 A) (X5 A) (X6 A) (X7 A) (X8 A) _).trans (addE (rX0 A _) ((val_main_v58_apply (F := Ideal) (X0 A) (X2 A) (X3 A) (X4 A) (X5 A) (X6 A) (X7 A) (X8 A) _).trans (mulE ((val_main_v57_apply (F := Ideal) (X4 A) _).trans (r36 A _)) (r56 A _))))) (rX1 A _))

/-- Twice the difference. -/
theorem r63 (i : S2x2048x1024.Idx) : (val_main_v63 (F := Ideal) (X0 A) (X1 A) (X2 A) (X3 A) (X4 A) (X5 A) (X6 A) (X7 A) (X8 A) i : EReal) = ((2 * (A.tok (i 0) (i 1)).err (i 2) : ℝ) : EReal) :=
  (val_main_v63_apply (F := Ideal) (X0 A) (X1 A) (X2 A) (X3 A) (X4 A) (X5 A) (X6 A) (X7 A) (X8 A) _).trans (mulE ((val_main_v62_apply (F := Ideal)  _).trans ((val_main_cst_11_apply (F := Ideal)  _).trans lit_two)) (r60 A _))

/-- A token's mean squared error. -/
theorem r66 (i : S2x2048.Idx) : (val_main_v66 (F := Ideal) (X0 A) (X1 A) (X2 A) (X3 A) (X4 A) (X5 A) (X6 A) (X7 A) (X8 A) i : EReal) = (((A.tok (i 0) (i 1)).mse : ℝ) : EReal) :=
  (val_main_v66_apply (F := Ideal) (X0 A) (X1 A) (X2 A) (X3 A) (X4 A) (X5 A) (X6 A) (X7 A) (X8 A) _).trans (divE n1024 ((val_main_v64_apply (X0 A) (X1 A) (X2 A) (X3 A) (X4 A) (X5 A) (X6 A) (X7 A) (X8 A) _).trans (sumE ((val_main_cst_12_apply (F := Ideal)  _).trans lit_zero) fun k => ((val_main_v61_apply (F := Ideal) (X0 A) (X1 A) (X2 A) (X3 A) (X4 A) (X5 A) (X6 A) (X7 A) (X8 A) _).trans (mulE (r60 A _) (r60 A _))))) ((val_main_v65_apply (F := Ideal)  _).trans ((val_main_cst_13_apply (F := Ideal)  _).trans lit_1024)))

/-- The tokens' mean squared errors together. -/
theorem r67 (i : S_.Idx) : (val_main_v67 (F := Ideal) (X0 A) (X1 A) (X2 A) (X3 A) (X4 A) (X5 A) (X6 A) (X7 A) (X8 A) i : EReal) = ((∑ b, ∑ s, (A.tok b s).mse : ℝ) : EReal) := by
  refine (val_main_v67_apply (X0 A) (X1 A) (X2 A) (X3 A) (X4 A) (X5 A) (X6 A) (X7 A) (X8 A) i).trans ((sumE ((val_main_cst_14_apply (F := Ideal)  _).trans lit_zero) fun j => r66 A j).trans (congrArg Real.toEReal ?_))
  rw [← Fintype.sum_prod_type' (f := fun b s => (A.tok b s).mse)]
  refine (Fintype.sum_equiv ⟨fun j : S2x2048.Idx => ((j 0 : Fin 2), (j 1 : Fin 2048)), fun p => ix2 p.1 p.2,
    fun j => funext fun a => (match a with | ⟨0, _⟩ => rfl | ⟨1, _⟩ => rfl), fun p => rfl⟩ _ _ fun j => rfl)

/-- The loss. -/
theorem r68 (i : S_.Idx) : (val_main_v68 (F := Ideal) (X0 A) (X1 A) (X2 A) (X3 A) (X4 A) (X5 A) (X6 A) (X7 A) (X8 A) i : EReal) = ((A.loss : ℝ) : EReal) :=
  (val_main_v68_apply (F := Ideal) (X0 A) (X1 A) (X2 A) (X3 A) (X4 A) (X5 A) (X6 A) (X7 A) (X8 A) _).trans (mulE ((val_main_cst_15_apply (F := Ideal)  _).trans lit_half) (r67 A _))

end Cert.ReferenceIdeal.Read

end
-- ==== Proof.RefBwd.lean ====
module

public import proofs.«01_k».proof.Proof.RefFwd

@[expose] public section

/-!
The reference's backward pass, one operation after another, at the arguments' real numbers.
-/

noncomputable section

namespace Cert.ReferenceIdeal.Read

open Cert.ReferenceIdeal Cert.ReferenceIdeal.Gen Cert.Ffn
open Idealize.ShloMosaic Idealize.ShloMosaic.TcCoe Idealize.SL.Sem Idealize.ShloMosaic.StableHlo

variable (A : Args)

/-- The loss' derivative by a token's sum of squares. -/
theorem r72 (i : S2x2048.Idx) : (val_main_v72 (F := Ideal)  i : EReal) = ((1 / 2 * 1 / 1024 : ℝ) : EReal) :=
  (val_main_v72_apply (F := Ideal)  _).trans (divE n1024 ((val_main_v70_apply (F := Ideal)  _).trans ((val_main_v69_apply (F := Ideal)  _).trans (mulE ((val_main_cst_16_apply (F := Ideal)  _).trans lit_half) ((val_main_cst_17_apply (F := Ideal)  _).trans lit_one)))) ((val_main_v71_apply (F := Ideal)  _).trans ((val_main_cst_18_apply (F := Ideal)  _).trans lit_1024)))

/-- The gradient at the block's output. -/
theorem r74 (i : S2x2048x1024.Idx) : (val_main_v74 (F := Ideal) (X0 A) (X1 A) (X2 A) (X3 A) (X4 A) (X5 A) (X6 A) (X7 A) (X8 A) i : EReal) = (((A.tok (i 0) (i 1)).dxo (i 2) : ℝ) : EReal) := by
  refine ((val_main_v74_apply (F := Ideal) (X0 A) (X1 A) (X2 A) (X3 A) (X4 A) (X5 A) (X6 A) (X7 A) (X8 A) _).trans (mulE ((val_main_v73_apply (F := Ideal)  _).trans (r72 _)) (r63 A _))).trans (congrArg Real.toEReal ?_)
  show 1 / 2 * 1 / 1024 * (2 * (A.tok (i 0) (i 1)).err (i 2)) = (A.tok (i 0) (i 1)).err (i 2) * (1 / 1024)
  ring

/-- The gradient at the normalised output projection times the gain. -/
theorem r76 (i : S2x2048x1024.Idx) : (val_main_v76 (F := Ideal) (X0 A) (X1 A) (X2 A) (X3 A) (X4 A) (X5 A) (X6 A) (X7 A) (X8 A) i : EReal) = (((A.tok (i 0) (i 1)).dp (i 2) : ℝ) : EReal) :=
  (val_main_v76_apply (F := Ideal) (X0 A) (X1 A) (X2 A) (X3 A) (X4 A) (X5 A) (X6 A) (X7 A) (X8 A) _).trans (mulE ((val_main_v75_apply (F := Ideal) (X4 A) _).trans (r36 A _)) (r74 A _))

/-- A sequence's sum of the output's gradient times the normalised output. -/
theorem r78 (i : S2x1024.Idx) : (val_main_v78 (F := Ideal) (X0 A) (X1 A) (X2 A) (X3 A) (X4 A) (X5 A) (X6 A) (X7 A) (X8 A) i : EReal) = ((∑ s, (A.tok (i 0) s).dxo (i 1) * (A.tok (i 0) s).pn (i 1) : ℝ) : EReal) :=
  (val_main_v78_apply (X0 A) (X1 A) (X2 A) (X3 A) (X4 A) (X5 A) (X6 A) (X7 A) (X8 A) _).trans (sumE ((val_main_cst_19_apply (F := Ideal)  _).trans lit_zero) fun k => ((val_main_v77_apply (F := Ideal) (X0 A) (X1 A) (X2 A) (X3 A) (X4 A) (X5 A) (X6 A) (X7 A) (X8 A) _).trans (mulE (r74 A _) (r56 A _))))

/-- The same, with an axis between. -/
theorem r79 (i : S2x1x1024.Idx) : (val_main_v79 (F := Ideal) (X0 A) (X1 A) (X2 A) (X3 A) (X4 A) (X5 A) (X6 A) (X7 A) (X8 A) i : EReal) = ((∑ s, (A.tok (i 0) s).dxo (i 2) * (A.tok (i 0) s).pn (i 2) : ℝ) : EReal) := by
  have h0 : (i 0).val < 2 := (i 0).isLt; have h1 : (i 1).val < 1 := (i 1).isLt; have h2 : (i 2).val < 1024 := (i 2).isLt
  refine (val_main_v79_apply (F := Ideal) (X0 A) (X1 A) (X2 A) (X3 A) (X4 A) (X5 A) (X6 A) (X7 A) (X8 A) _).trans ((r78 A _).trans (fin2 (fun b k => ∑ s, (A.tok b s).dxo k * (A.tok b s).pn k) ?_ ?_ ))
  · show (((i 0).val * 1 + (i 1).val) * 1024 + (i 2).val) / 1024 = (i 0).val; omega
  · show (((i 0).val * 1 + (i 1).val) * 1024 + (i 2).val) % 1024 = (i 2).val; omega

/-- The gradient at the gain after the block. -/
theorem r81 (i : S1024.Idx) : (val_main_v81 (F := Ideal) (X0 A) (X1 A) (X2 A) (X3 A) (X4 A) (X5 A) (X6 A) (X7 A) (X8 A) i : EReal) = ((∑ b, ∑ s, (A.tok b s).yh (i 0) * (A.tok b s).dp (i 0) : ℝ) : EReal) :=
  sum01E reducesTo_S2x2048x1024_S1024_d0_1 _ ((val_main_cst_20_apply (F := Ideal)  _).trans lit_zero) (fun a b k => (A.tok a b).yh k * (A.tok a b).dp k) (fun a b k => (val_main_v80_apply (F := Ideal) (X0 A) (X1 A) (X2 A) (X3 A) (X4 A) (X5 A) (X6 A) (X7 A) (X8 A) _).trans (mulE (r53 A _) (r76 A _))) i (i 0) (fun _ => rfl)

/-- The same, with two axes before. -/
theorem r82 (i : S1x1x1024.Idx) : (val_main_v82 (F := Ideal) (X0 A) (X1 A) (X2 A) (X3 A) (X4 A) (X5 A) (X6 A) (X7 A) (X8 A) i : EReal) = ((∑ b, ∑ s, (A.tok b s).yh (i 2) * (A.tok b s).dp (i 2) : ℝ) : EReal) := by
  have h0 : (i 0).val < 1 := (i 0).isLt; have h1 : (i 1).val < 1 := (i 1).isLt; have h2 : (i 2).val < 1024 := (i 2).isLt
  refine (val_main_v82_apply (F := Ideal) (X0 A) (X1 A) (X2 A) (X3 A) (X4 A) (X5 A) (X6 A) (X7 A) (X8 A) _).trans ((r81 A _).trans (fin1 (fun k => ∑ b, ∑ s, (A.tok b s).yh k * (A.tok b s).dp k) ?_ ))
  · show ((i 0).val * 1 + (i 1).val) * 1024 + (i 2).val = (i 2).val; omega

/-- The gradient at the gain after the block. -/
theorem r85 (i : S1024.Idx) : (val_main_v85 (F := Ideal) (X0 A) (X1 A) (X2 A) (X3 A) (X4 A) (X5 A) (X6 A) (X7 A) (X8 A) i : EReal) = ((∑ b, ∑ s, (A.tok b s).dp (i 0) * (A.tok b s).yh (i 0) : ℝ) : EReal) := by
  refine (sum01E reducesTo_S1x1x1024_S1024_d0_1 _ ((val_main_cst_21_apply (F := Ideal)  _).trans lit_zero) (fun _ _ k => ∑ b, ∑ s, (A.tok b s).yh k * (A.tok b s).dp k)
    (fun a b k => r82 A _) i (i 0) (fun _ => rfl)).trans (congrArg Real.toEReal ?_)
  simp only [Finset.univ_unique, Finset.sum_singleton]
  exact Finset.sum_congr rfl fun b _ => Finset.sum_congr rfl fun s _ => mul_comm _ _

/-- The gradient at the normalised output projection. -/
theorem r84 (i : S2x2048x1024.Idx) : (val_main_v84 (F := Ideal) (X0 A) (X1 A) (X2 A) (X3 A) (X4 A) (X5 A) (X6 A) (X7 A) (X8 A) i : EReal) = (((A.tok (i 0) (i 1)).dyh (i 2) : ℝ) : EReal) :=
  (val_main_v84_apply (F := Ideal) (X0 A) (X1 A) (X2 A) (X3 A) (X4 A) (X5 A) (X6 A) (X7 A) (X8 A) _).trans (mulE (r76 A _) ((val_main_v83_apply (F := Ideal) (X6 A) _).trans ((val_main_v54_apply (F := Ideal) (X6 A) _).trans (r40 A _))))

/-- The output projection times the normalised one's gradient, summed. -/
theorem r87 (i : S2x2048.Idx) : (val_main_v87 (F := Ideal) (X0 A) (X1 A) (X2 A) (X3 A) (X4 A) (X5 A) (X6 A) (X7 A) (X8 A) i : EReal) = ((∑ k, (A.tok (i 0) (i 1)).y k * (A.tok (i 0) (i 1)).dyh k : ℝ) : EReal) :=
  (val_main_v87_apply (X0 A) (X1 A) (X2 A) (X3 A) (X4 A) (X5 A) (X6 A) (X7 A) (X8 A) _).trans (sumE ((val_main_cst_22_apply (F := Ideal)  _).trans lit_zero) fun k => ((val_main_v86_apply (F := Ideal) (X0 A) (X1 A) (X2 A) (X3 A) (X4 A) (X5 A) (X6 A) (X7 A) (X8 A) _).trans (mulE (r39 A _) (r84 A _))))

/-- The same, with an axis after. -/
theorem r88 (i : S2x2048x1.Idx) : (val_main_v88 (F := Ideal) (X0 A) (X1 A) (X2 A) (X3 A) (X4 A) (X5 A) (X6 A) (X7 A) (X8 A) i : EReal) = ((∑ k, (A.tok (i 0) (i 1)).y k * (A.tok (i 0) (i 1)).dyh k : ℝ) : EReal) := by
  have h0 : (i 0).val < 2 := (i 0).isLt; have h1 : (i 1).val < 2048 := (i 1).isLt; have h2 : (i 2).val < 1 := (i 2).isLt
  refine (val_main_v88_apply (F := Ideal) (X0 A) (X1 A) (X2 A) (X3 A) (X4 A) (X5 A) (X6 A) (X7 A) (X8 A) _).trans ((r87 A _).trans (fin2 (fun b s => ∑ k, (A.tok b s).y k * (A.tok b s).dyh k) ?_ ?_ ))
  · show (((i 0).val * 2048 + (i 1).val) * 1 + (i 2).val) / 2048 = (i 0).val; omega
  · show (((i 0).val * 2048 + (i 1).val) * 1 + (i 2).val) % 2048 = (i 1).val; omega

/-- The gradient at the output projection's sum of squares. -/
theorem r93 (i : S2x2048x1.Idx) : (val_main_v93 (F := Ideal) (X0 A) (X1 A) (X2 A) (X3 A) (X4 A) (X5 A) (X6 A) (X7 A) (X8 A) i : EReal) = (((∑ k, (A.tok (i 0) (i 1)).y k * (A.tok (i 0) (i 1)).dyh k) * (-(1 / 2) * ((A.tok (i 0) (i 1)).ry / ((∑ k, (A.tok (i 0) (i 1)).y k * (A.tok (i 0) (i 1)).y k) / 1024 + eps))) / 1024 : ℝ) : EReal) :=
  (val_main_v93_apply (F := Ideal) (X0 A) (X1 A) (X2 A) (X3 A) (X4 A) (X5 A) (X6 A) (X7 A) (X8 A) _).trans (divE n1024 ((val_main_v91_apply (F := Ideal) (X0 A) (X1 A) (X2 A) (X3 A) (X4 A) (X5 A) (X6 A) (X7 A) (X8 A) _).trans (mulE (r88 A _) (r51 A _))) ((val_main_v92_apply (F := Ideal)  _).trans ((val_main_cst_23_apply (F := Ideal)  _).trans lit_1024)))

/-- The same, without the last axis. -/
theorem r94 (i : S2x2048.Idx) : (val_main_v94 (F := Ideal) (X0 A) (X1 A) (X2 A) (X3 A) (X4 A) (X5 A) (X6 A) (X7 A) (X8 A) i : EReal) = (((∑ k, (A.tok (i 0) (i 1)).y k * (A.tok (i 0) (i 1)).dyh k) * (-(1 / 2) * ((A.tok (i 0) (i 1)).ry / ((∑ k, (A.tok (i 0) (i 1)).y k * (A.tok (i 0) (i 1)).y k) / 1024 + eps))) / 1024 : ℝ) : EReal) := by
  refine ((val_main_v94_apply (X0 A) (X1 A) (X2 A) (X3 A) (X4 A) (X5 A) (X6 A) (X7 A) (X8 A) _).trans (sumE ((val_main_cst_24_apply (F := Ideal)  _).trans lit_zero) fun k => (r93 A _))).trans (congrArg Real.toEReal ?_)
  exact Fin.sum_univ_one _

/-- The gradient at the output projection. -/
theorem r99 (i : S2x2048x1024.Idx) : (val_main_v99 (F := Ideal) (X0 A) (X1 A) (X2 A) (X3 A) (X4 A) (X5 A) (X6 A) (X7 A) (X8 A) i : EReal) = (((A.tok (i 0) (i 1)).dy (i 2) : ℝ) : EReal) := by
  refine ((val_main_v99_apply (F := Ideal) (X0 A) (X1 A) (X2 A) (X3 A) (X4 A) (X5 A) (X6 A) (X7 A) (X8 A) _).trans (addE ((val_main_v97_apply (F := Ideal) (X0 A) (X1 A) (X2 A) (X3 A) (X4 A) (X5 A) (X6 A) (X7 A) (X8 A) _).trans (addE ((val_main_v90_apply (F := Ideal) (X0 A) (X1 A) (X2 A) (X3 A) (X4 A) (X5 A) (X6 A) (X7 A) (X8 A) _).trans (mulE (r84 A _) ((val_main_v89_apply (F := Ideal) (X0 A) (X2 A) (X3 A) (X5 A) (X7 A) (X8 A) _).trans (r48 A _)))) ((val_main_v96_apply (F := Ideal) (X0 A) (X1 A) (X2 A) (X3 A) (X4 A) (X5 A) (X6 A) (X7 A) (X8 A) _).trans (mulE (r39 A _) ((val_main_v95_apply (F := Ideal) (X0 A) (X1 A) (X2 A) (X3 A) (X4 A) (X5 A) (X6 A) (X7 A) (X8 A) _).trans (r94 A _)))))) ((val_main_v98_apply (F := Ideal) (X0 A) (X1 A) (X2 A) (X3 A) (X4 A) (X5 A) (X6 A) (X7 A) (X8 A) _).trans (mulE ((val_main_v95_apply (F := Ideal) (X0 A) (X1 A) (X2 A) (X3 A) (X4 A) (X5 A) (X6 A) (X7 A) (X8 A) _).trans (r94 A _)) (r39 A _))))).trans (congrArg Real.toEReal ?_)
  exact norm_back (A.tok (i 0) (i 1)).y (A.tok (i 0) (i 1)).dyh (i 2)

/-- The gradient at the gated activation. -/
theorem r101 (i : S2x2048x2816.Idx) : (val_main_v101 (F := Ideal) (X0 A) (X1 A) (X2 A) (X3 A) (X4 A) (X5 A) (X6 A) (X7 A) (X8 A) i : EReal) = (((A.tok (i 0) (i 1)).dact (i 2) : ℝ) : EReal) :=
  (val_main_v101_apply (X0 A) (X1 A) (X2 A) (X3 A) (X4 A) (X5 A) (X6 A) (X7 A) (X8 A) _).trans (dotE (fun k => (r99 A _)) fun k => (r37 A _))

/-- The gradient at the output gate. -/
theorem r104 (i : S2x1024.Idx) : (val_main_v104 (F := Ideal) (X0 A) (X1 A) (X2 A) (X3 A) (X4 A) (X5 A) (X6 A) (X7 A) (X8 A) i : EReal) = ((∑ s, 1 / 2 * (A.tok (i 0) s).dxo (i 1) * (A.tok (i 0) s).pn (i 1) : ℝ) : EReal) := by
  refine ((val_main_v104_apply (X0 A) (X1 A) (X2 A) (X3 A) (X4 A) (X5 A) (X6 A) (X7 A) (X8 A) _).trans (sumE ((val_main_cst_26_apply (F := Ideal)  _).trans lit_zero) fun k => ((val_main_v103_apply (F := Ideal) (X0 A) (X1 A) (X2 A) (X3 A) (X4 A) (X5 A) (X6 A) (X7 A) (X8 A) _).trans (mulE ((val_main_v102_apply (F := Ideal)  _).trans ((val_main_cst_25_apply (F := Ideal)  _).trans lit_half)) (r79 A _))))).trans (congrArg Real.toEReal ?_)
  refine (Fin.sum_univ_one _).trans ?_
  refine (Finset.mul_sum _ _ _).trans (Finset.sum_congr rfl fun s _ => ?_)
  exact (mul_assoc _ _ _).symm

/-- The gradient at the up half. -/
theorem r105 (i : S2x2048x2816.Idx) : (val_main_v105 (F := Ideal) (X0 A) (X1 A) (X2 A) (X3 A) (X4 A) (X5 A) (X6 A) (X7 A) (X8 A) i : EReal) = (((A.tok (i 0) (i 1)).dup (i 2) : ℝ) : EReal) := by
  refine ((val_main_v105_apply (F := Ideal) (X0 A) (X1 A) (X2 A) (X3 A) (X4 A) (X5 A) (X6 A) (X7 A) (X8 A) _).trans (mulE (r32_0 A _) (r101 A _))).trans (congrArg Real.toEReal ?_)
  exact mul_comm _ _

/-- The gradient at the gate half times its logistic function. -/
theorem r106 (i : S2x2048x2816.Idx) : (val_main_v106 (F := Ideal) (X0 A) (X1 A) (X2 A) (X3 A) (X4 A) (X5 A) (X6 A) (X7 A) (X8 A) i : EReal) = (((A.tok (i 0) (i 1)).dact (i 2) * (A.tok (i 0) (i 1)).up (i 2) : ℝ) : EReal) :=
  (val_main_v106_apply (F := Ideal) (X0 A) (X1 A) (X2 A) (X3 A) (X4 A) (X5 A) (X6 A) (X7 A) (X8 A) _).trans (mulE (r101 A _) (r31 A _))

/-- The gradient at the gate half. -/
theorem r107 (i : S2x2048x2816.Idx) : (val_main_v107 (F := Ideal) (X0 A) (X1 A) (X2 A) (X3 A) (X4 A) (X5 A) (X6 A) (X7 A) (X8 A) i : EReal) = (((A.tok (i 0) (i 1)).dgate (i 2) : ℝ) : EReal) := by
  refine ((val_main_v107_apply (F := Ideal) (X0 A) (X1 A) (X2 A) (X3 A) (X4 A) (X5 A) (X6 A) (X7 A) (X8 A) _).trans (addE ((val_main_call1_v1_apply (F := Ideal) (X0 A) (X1 A) (X2 A) (X3 A) (X4 A) (X5 A) (X6 A) (X7 A) (X8 A) _).trans (mulE (r106 A _) (r32_2 A _))) ((val_main_call1_v2_apply (F := Ideal) (X0 A) (X1 A) (X2 A) (X3 A) (X4 A) (X5 A) (X6 A) (X7 A) (X8 A) _).trans (mulE ((val_main_call1_v0_apply (F := Ideal) (X0 A) (X1 A) (X2 A) (X3 A) (X4 A) (X5 A) (X6 A) (X7 A) (X8 A) _).trans (mulE (r30 A _) (r106 A _))) (r32_1 A _))))).trans (congrArg Real.toEReal ?_)
  unfold Tok.dgate
  ring

/-- The gradient at the input projection. -/
theorem r108 (i : S2x2048x5632.Idx) : (val_main_v108 (F := Ideal) (X0 A) (X1 A) (X2 A) (X3 A) (X4 A) (X5 A) (X6 A) (X7 A) (X8 A) i : EReal) = (((A.tok (i 0) (i 1)).dgu (i 2) : ℝ) : EReal) := by
  unfold val_main_v108
  by_cases h : (i 2).val < 2816
  · refine (concatenate_pair_apply_left (s₁ := S2x2048x2816) (s₂ := S2x2048x2816) 2 _ _ concatenates_S2x2048x2816_S2x2048x2816_S2x2048x5632_d2 i rfl (ix3 (i 0) (i 1) ⟨(i 2).val, h⟩) ?_).trans ?_
    · intro b
      match b with
      | ⟨0, _⟩ => rfl
      | ⟨1, _⟩ => rfl
      | ⟨2, _⟩ => rfl
    · refine (r107 A _).trans (congrArg Real.toEReal ?_)
      exact (dif_pos h : (A.tok (i 0) (i 1)).dgu (i 2) = _).symm
  · have hi : (i 2).val < 5632 := (i 2).isLt
    refine (concatenate_pair_apply_right (s₁ := S2x2048x2816) (s₂ := S2x2048x2816) 2 _ _ concatenates_S2x2048x2816_S2x2048x2816_S2x2048x5632_d2 i rfl rfl (ix3 (i 0) (i 1) ⟨(i 2).val - 2816, by omega⟩) ?_ ?_).trans ?_
    · intro b
      match b with
      | ⟨0, _⟩ => exact fun _ => rfl
      | ⟨1, _⟩ => exact fun _ => rfl
      | ⟨2, _⟩ => exact fun hb => absurd rfl hb
    · show (i 2).val - 2816 + 2816 = (i 2).val
      omega
    · refine (r105 A _).trans (congrArg Real.toEReal ?_)
      exact (dif_neg h : (A.tok (i 0) (i 1)).dgu (i 2) = _).symm

/-- The gradient at the modulated input. -/
theorem r109 (i : S2x2048x1024.Idx) : (val_main_v109 (F := Ideal) (X0 A) (X1 A) (X2 A) (X3 A) (X4 A) (X5 A) (X6 A) (X7 A) (X8 A) i : EReal) = (((A.tok (i 0) (i 1)).dh (i 2) : ℝ) : EReal) :=
  (val_main_v109_apply (X0 A) (X1 A) (X2 A) (X3 A) (X4 A) (X5 A) (X6 A) (X7 A) (X8 A) _).trans (dotE (fun k => (r108 A _)) fun k => (r27 A _))

/-- The gradient at the shift. -/
theorem r110 (i : S2x1024.Idx) : (val_main_v110 (F := Ideal) (X0 A) (X1 A) (X2 A) (X3 A) (X4 A) (X5 A) (X6 A) (X7 A) (X8 A) i : EReal) = ((∑ s, (A.tok (i 0) s).dh (i 1) : ℝ) : EReal) :=
  (val_main_v110_apply (X0 A) (X1 A) (X2 A) (X3 A) (X4 A) (X5 A) (X6 A) (X7 A) (X8 A) _).trans (sumE ((val_main_cst_27_apply (F := Ideal)  _).trans lit_zero) fun k => (r109 A _))

/-- The same, with an axis between. -/
theorem r111 (i : S2x1x1024.Idx) : (val_main_v111 (F := Ideal) (X0 A) (X1 A) (X2 A) (X3 A) (X4 A) (X5 A) (X6 A) (X7 A) (X8 A) i : EReal) = ((∑ s, (A.tok (i 0) s).dh (i 2) : ℝ) : EReal) := by
  have h0 : (i 0).val < 2 := (i 0).isLt; have h1 : (i 1).val < 1 := (i 1).isLt; have h2 : (i 2).val < 1024 := (i 2).isLt
  refine (val_main_v111_apply (F := Ideal) (X0 A) (X1 A) (X2 A) (X3 A) (X4 A) (X5 A) (X6 A) (X7 A) (X8 A) _).trans ((r110 A _).trans (fin2 (fun b k => ∑ s, (A.tok b s).dh k) ?_ ?_ ))
  · show (((i 0).val * 1 + (i 1).val) * 1024 + (i 2).val) / 1024 = (i 0).val; omega
  · show (((i 0).val * 1 + (i 1).val) * 1024 + (i 2).val) % 1024 = (i 2).val; omega

/-- The gradient at the shift. -/
theorem r112 (i : S2x1024.Idx) : (val_main_v112 (F := Ideal) (X0 A) (X1 A) (X2 A) (X3 A) (X4 A) (X5 A) (X6 A) (X7 A) (X8 A) i : EReal) = ((∑ s, (A.tok (i 0) s).dh (i 1) : ℝ) : EReal) := by
  refine ((val_main_v112_apply (X0 A) (X1 A) (X2 A) (X3 A) (X4 A) (X5 A) (X6 A) (X7 A) (X8 A) _).trans (sumE ((val_main_cst_28_apply (F := Ideal)  _).trans lit_zero) fun k => (r111 A _))).trans (congrArg Real.toEReal ?_)
  exact Fin.sum_univ_one _

/-- The gradient at the scale. -/
theorem r114 (i : S2x1024.Idx) : (val_main_v114 (F := Ideal) (X0 A) (X1 A) (X2 A) (X3 A) (X4 A) (X5 A) (X6 A) (X7 A) (X8 A) i : EReal) = ((∑ s, (A.tok (i 0) s).n (i 1) * (A.tok (i 0) s).dh (i 1) : ℝ) : EReal) :=
  (val_main_v114_apply (X0 A) (X1 A) (X2 A) (X3 A) (X4 A) (X5 A) (X6 A) (X7 A) (X8 A) _).trans (sumE ((val_main_cst_29_apply (F := Ideal)  _).trans lit_zero) fun k => ((val_main_v113_apply (F := Ideal) (X0 A) (X1 A) (X2 A) (X3 A) (X4 A) (X5 A) (X6 A) (X7 A) (X8 A) _).trans (mulE (r18 A _) (r109 A _))))

/-- The same, with an axis between. -/
theorem r115 (i : S2x1x1024.Idx) : (val_main_v115 (F := Ideal) (X0 A) (X1 A) (X2 A) (X3 A) (X4 A) (X5 A) (X6 A) (X7 A) (X8 A) i : EReal) = ((∑ s, (A.tok (i 0) s).n (i 2) * (A.tok (i 0) s).dh (i 2) : ℝ) : EReal) := by
  have h0 : (i 0).val < 2 := (i 0).isLt; have h1 : (i 1).val < 1 := (i 1).isLt; have h2 : (i 2).val < 1024 := (i 2).isLt
  refine (val_main_v115_apply (F := Ideal) (X0 A) (X1 A) (X2 A) (X3 A) (X4 A) (X5 A) (X6 A) (X7 A) (X8 A) _).trans ((r114 A _).trans (fin2 (fun b k => ∑ s, (A.tok b s).n k * (A.tok b s).dh k) ?_ ?_ ))
  · show (((i 0).val * 1 + (i 1).val) * 1024 + (i 2).val) / 1024 = (i 0).val; omega
  · show (((i 0).val * 1 + (i 1).val) * 1024 + (i 2).val) % 1024 = (i 2).val; omega

/-- The gradient at the scale. -/
theorem r118 (i : S2x1024.Idx) : (val_main_v118 (F := Ideal) (X0 A) (X1 A) (X2 A) (X3 A) (X4 A) (X5 A) (X6 A) (X7 A) (X8 A) i : EReal) = ((∑ s, (A.tok (i 0) s).dh (i 1) * (A.tok (i 0) s).n (i 1) : ℝ) : EReal) := by
  refine ((val_main_v118_apply (X0 A) (X1 A) (X2 A) (X3 A) (X4 A) (X5 A) (X6 A) (X7 A) (X8 A) _).trans (sumE ((val_main_cst_30_apply (F := Ideal)  _).trans lit_zero) fun k => (r115 A _))).trans (congrArg Real.toEReal ?_)
  refine (Fin.sum_univ_one _).trans ?_
  exact Finset.sum_congr rfl fun s _ => mul_comm _ _

/-- The gradient at the normalised input times the gain. -/
theorem r117 (i : S2x2048x1024.Idx) : (val_main_v117 (F := Ideal) (X0 A) (X1 A) (X2 A) (X3 A) (X4 A) (X5 A) (X6 A) (X7 A) (X8 A) i : EReal) = (((A.tok (i 0) (i 1)).dn (i 2) : ℝ) : EReal) :=
  (val_main_v117_apply (F := Ideal) (X0 A) (X1 A) (X2 A) (X3 A) (X4 A) (X5 A) (X6 A) (X7 A) (X8 A) _).trans (mulE (r109 A _) ((val_main_v116_apply (F := Ideal) (X3 A) _).trans (r21 A _)))

/-- The gradient at the gain before the block. -/
theorem r120 (i : S1024.Idx) : (val_main_v120 (F := Ideal) (X0 A) (X1 A) (X2 A) (X3 A) (X4 A) (X5 A) (X6 A) (X7 A) (X8 A) i : EReal) = ((∑ b, ∑ s, (A.tok b s).xh (i 0) * (A.tok b s).dn (i 0) : ℝ) : EReal) :=
  sum01E reducesTo_S2x2048x1024_S1024_d0_1 _ ((val_main_cst_31_apply (F := Ideal)  _).trans lit_zero) (fun a b k => (A.tok a b).xh k * (A.tok a b).dn k) (fun a b k => (val_main_v119_apply (F := Ideal) (X0 A) (X1 A) (X2 A) (X3 A) (X4 A) (X5 A) (X6 A) (X7 A) (X8 A) _).trans (mulE (r15 A _) (r117 A _))) i (i 0) (fun _ => rfl)

/-- The same, with two axes before. -/
theorem r121 (i : S1x1x1024.Idx) : (val_main_v121 (F := Ideal) (X0 A) (X1 A) (X2 A) (X3 A) (X4 A) (X5 A) (X6 A) (X7 A) (X8 A) i : EReal) = ((∑ b, ∑ s, (A.tok b s).xh (i 2) * (A.tok b s).dn (i 2) : ℝ) : EReal) := by
  have h0 : (i 0).val < 1 := (i 0).isLt; have h1 : (i 1).val < 1 := (i 1).isLt; have h2 : (i 2).val < 1024 := (i 2).isLt
  refine (val_main_v121_apply (F := Ideal) (X0 A) (X1 A) (X2 A) (X3 A) (X4 A) (X5 A) (X6 A) (X7 A) (X8 A) _).trans ((r120 A _).trans (fin1 (fun k => ∑ b, ∑ s, (A.tok b s).xh k * (A.tok b s).dn k) ?_ ))
  · show ((i 0).val * 1 + (i 1).val) * 1024 + (i 2).val = (i 2).val; omega

/-- The gradient at the gain before the block. -/
theorem r124 (i : S1024.Idx) : (val_main_v124 (F := Ideal) (X0 A) (X1 A) (X2 A) (X3 A) (X4 A) (X5 A) (X6 A) (X7 A) (X8 A) i : EReal) = ((∑ b, ∑ s, (A.tok b s).dn (i 0) * (A.tok b s).xh (i 0) : ℝ) : EReal) := by
  refine (sum01E reducesTo_S1x1x1024_S1024_d0_1 _ ((val_main_cst_32_apply (F := Ideal)  _).trans lit_zero) (fun _ _ k => ∑ b, ∑ s, (A.tok b s).xh k * (A.tok b s).dn k)
    (fun a b k => r121 A _) i (i 0) (fun _ => rfl)).trans (congrArg Real.toEReal ?_)
  simp only [Finset.univ_unique, Finset.sum_singleton]
  exact Finset.sum_congr rfl fun b _ => Finset.sum_congr rfl fun s _ => mul_comm _ _

/-- The gradient at the normalised input. -/
theorem r123 (i : S2x2048x1024.Idx) : (val_main_v123 (F := Ideal) (X0 A) (X1 A) (X2 A) (X3 A) (X4 A) (X5 A) (X6 A) (X7 A) (X8 A) i : EReal) = (((A.tok (i 0) (i 1)).dxh (i 2) : ℝ) : EReal) :=
  (val_main_v123_apply (F := Ideal) (X0 A) (X1 A) (X2 A) (X3 A) (X4 A) (X5 A) (X6 A) (X7 A) (X8 A) _).trans (mulE (r117 A _) ((val_main_v122_apply (F := Ideal) (X5 A) _).trans ((val_main_v16_apply (F := Ideal) (X5 A) _).trans (r2 A _))))

/-- The input times the normalised one's gradient, summed. -/
theorem r126 (i : S2x2048.Idx) : (val_main_v126 (F := Ideal) (X0 A) (X1 A) (X2 A) (X3 A) (X4 A) (X5 A) (X6 A) (X7 A) (X8 A) i : EReal) = ((∑ k, (A.tok (i 0) (i 1)).x k * (A.tok (i 0) (i 1)).dxh k : ℝ) : EReal) :=
  (val_main_v126_apply (X0 A) (X1 A) (X2 A) (X3 A) (X4 A) (X5 A) (X6 A) (X7 A) (X8 A) _).trans (sumE ((val_main_cst_33_apply (F := Ideal)  _).trans lit_zero) fun k => ((val_main_v125_apply (F := Ideal) (X0 A) (X1 A) (X2 A) (X3 A) (X4 A) (X5 A) (X6 A) (X7 A) (X8 A) _).trans (mulE (rX0 A _) (r123 A _))))

/-- The same, with an axis after. -/
theorem r127 (i : S2x2048x1.Idx) : (val_main_v127 (F := Ideal) (X0 A) (X1 A) (X2 A) (X3 A) (X4 A) (X5 A) (X6 A) (X7 A) (X8 A) i : EReal) = ((∑ k, (A.tok (i 0) (i 1)).x k * (A.tok (i 0) (i 1)).dxh k : ℝ) : EReal) := by
  have h0 : (i 0).val < 2 := (i 0).isLt; have h1 : (i 1).val < 2048 := (i 1).isLt; have h2 : (i 2).val < 1 := (i 2).isLt
  refine (val_main_v127_apply (F := Ideal) (X0 A) (X1 A) (X2 A) (X3 A) (X4 A) (X5 A) (X6 A) (X7 A) (X8 A) _).trans ((r126 A _).trans (fin2 (fun b s => ∑ k, (A.tok b s).x k * (A.tok b s).dxh k) ?_ ?_ ))
  · show (((i 0).val * 2048 + (i 1).val) * 1 + (i 2).val) / 2048 = (i 0).val; omega
  · show (((i 0).val * 2048 + (i 1).val) * 1 + (i 2).val) % 2048 = (i 1).val; omega

/-- The gradient at the input's sum of squares. -/
theorem r133 (i : S2x2048x1.Idx) : (val_main_v133 (F := Ideal) (X0 A) (X1 A) (X2 A) (X3 A) (X4 A) (X5 A) (X6 A) (X7 A) (X8 A) i : EReal) = (((∑ k, (A.tok (i 0) (i 1)).x k * (A.tok (i 0) (i 1)).dxh k) * (-(1 / 2) * ((A.tok (i 0) (i 1)).r / ((∑ k, (A.tok (i 0) (i 1)).x k * (A.tok (i 0) (i 1)).x k) / 1024 + eps))) / 1024 : ℝ) : EReal) :=
  (val_main_v133_apply (F := Ideal) (X0 A) (X1 A) (X2 A) (X3 A) (X4 A) (X5 A) (X6 A) (X7 A) (X8 A) _).trans (divE n1024 ((val_main_v131_apply (F := Ideal) (X0 A) (X1 A) (X2 A) (X3 A) (X4 A) (X5 A) (X6 A) (X7 A) (X8 A) _).trans (mulE (r127 A _) (r13 A _))) ((val_main_v132_apply (F := Ideal)  _).trans ((val_main_cst_34_apply (F := Ideal)  _).trans lit_1024)))

/-- The same, without the last axis. -/
theorem r134 (i : S2x2048.Idx) : (val_main_v134 (F := Ideal) (X0 A) (X1 A) (X2 A) (X3 A) (X4 A) (X5 A) (X6 A) (X7 A) (X8 A) i : EReal) = (((∑ k, (A.tok (i 0) (i 1)).x k * (A.tok (i 0) (i 1)).dxh k) * (-(1 / 2) * ((A.tok (i 0) (i 1)).r / ((∑ k, (A.tok (i 0) (i 1)).x k * (A.tok (i 0) (i 1)).x k) / 1024 + eps))) / 1024 : ℝ) : EReal) := by
  refine ((val_main_v134_apply (X0 A) (X1 A) (X2 A) (X3 A) (X4 A) (X5 A) (X6 A) (X7 A) (X8 A) _).trans (sumE ((val_main_cst_35_apply (F := Ideal)  _).trans lit_zero) fun k => (r133 A _))).trans (congrArg Real.toEReal ?_)
  exact Fin.sum_univ_one _

/-- The gradient at the block's input. -/
theorem r139 (i : S2x2048x1024.Idx) : (val_main_v139 (F := Ideal) (X0 A) (X1 A) (X2 A) (X3 A) (X4 A) (X5 A) (X6 A) (X7 A) (X8 A) i : EReal) = (((A.tok (i 0) (i 1)).dx (i 2) : ℝ) : EReal) := by
  refine ((val_main_v139_apply (F := Ideal) (X0 A) (X1 A) (X2 A) (X3 A) (X4 A) (X5 A) (X6 A) (X7 A) (X8 A) _).trans (addE ((val_main_v137_apply (F := Ideal) (X0 A) (X1 A) (X2 A) (X3 A) (X4 A) (X5 A) (X6 A) (X7 A) (X8 A) _).trans (addE ((val_main_v130_apply (F := Ideal) (X0 A) (X1 A) (X2 A) (X3 A) (X4 A) (X5 A) (X6 A) (X7 A) (X8 A) _).trans (addE (r74 A _) ((val_main_v129_apply (F := Ideal) (X0 A) (X1 A) (X2 A) (X3 A) (X4 A) (X5 A) (X6 A) (X7 A) (X8 A) _).trans (mulE (r123 A _) ((val_main_v128_apply (F := Ideal) (X0 A) _).trans (r10 A _)))))) ((val_main_v136_apply (F := Ideal) (X0 A) (X1 A) (X2 A) (X3 A) (X4 A) (X5 A) (X6 A) (X7 A) (X8 A) _).trans (mulE (rX0 A _) ((val_main_v135_apply (F := Ideal) (X0 A) (X1 A) (X2 A) (X3 A) (X4 A) (X5 A) (X6 A) (X7 A) (X8 A) _).trans (r134 A _)))))) ((val_main_v138_apply (F := Ideal) (X0 A) (X1 A) (X2 A) (X3 A) (X4 A) (X5 A) (X6 A) (X7 A) (X8 A) _).trans (mulE ((val_main_v135_apply (F := Ideal) (X0 A) (X1 A) (X2 A) (X3 A) (X4 A) (X5 A) (X6 A) (X7 A) (X8 A) _).trans (r134 A _)) (rX0 A _))))).trans (congrArg Real.toEReal ?_)
  have e := norm_back (A.tok (i 0) (i 1)).x (A.tok (i 0) (i 1)).dxh (i 2)
  show _ = (A.tok (i 0) (i 1)).dxo (i 2) + rmsBack (rrms (A.tok (i 0) (i 1)).x) (fun i' => (A.tok (i 0) (i 1)).x i' * rrms (A.tok (i 0) (i 1)).x) (A.tok (i 0) (i 1)).dxh (i 2)
  rw [← e, ← add_assoc, ← add_assoc]
  rfl

end Cert.ReferenceIdeal.Read

end
-- ==== Proof.RefOut.lean ====
module

public import proofs.«01_k».proof.Proof.RefBwd
public import Idealize.ShloMosaic.Lib.KernelVsHost

@[expose] public section

/-!
The reference's eight results, in terms of the arguments' tokens.
-/

noncomputable section

namespace Cert.ReferenceIdeal.Read

open Cert.ReferenceIdeal Cert.ReferenceIdeal.Gen Cert.Ffn
open Idealize.ShloMosaic Idealize.ShloMosaic.TcCoe Idealize.SL.Sem Idealize.ShloMosaic.StableHlo

variable (A : Args)

/-- The integer zero, as a padding value. -/
theorem pad_zero : (FloatOps.sitofp (F := Ideal) .f32 (0#32) : EReal) = ((0 : ℝ) : EReal) := by
  show (((0#32 : BitVec 32).toInt : ℝ) : EReal) = _
  simp

/-- The gradient at the shift, with an axis between. -/
theorem r141 (i : S2x1x1024.Idx) : (val_main_v141 (F := Ideal) (X0 A) (X1 A) (X2 A) (X3 A) (X4 A) (X5 A) (X6 A) (X7 A) (X8 A) i : EReal) = ((∑ s, (A.tok (i 0) s).dh (i 2) : ℝ) : EReal) :=
  (val_main_v141_apply (F := Ideal) (X0 A) (X1 A) (X2 A) (X3 A) (X4 A) (X5 A) (X6 A) (X7 A) (X8 A) _).trans (r112 A _)

/-- The gradient at the scale, with an axis between. -/
theorem r142 (i : S2x1x1024.Idx) : (val_main_v142 (F := Ideal) (X0 A) (X1 A) (X2 A) (X3 A) (X4 A) (X5 A) (X6 A) (X7 A) (X8 A) i : EReal) = ((∑ s, (A.tok (i 0) s).dh (i 2) * (A.tok (i 0) s).n (i 2) : ℝ) : EReal) :=
  (val_main_v142_apply (F := Ideal) (X0 A) (X1 A) (X2 A) (X3 A) (X4 A) (X5 A) (X6 A) (X7 A) (X8 A) _).trans (r118 A _)

/-- The gradient at the output gate, with an axis between. -/
theorem r143 (i : S2x1x1024.Idx) : (val_main_v143 (F := Ideal) (X0 A) (X1 A) (X2 A) (X3 A) (X4 A) (X5 A) (X6 A) (X7 A) (X8 A) i : EReal) = ((∑ s, 1 / 2 * (A.tok (i 0) s).dxo (i 2) * (A.tok (i 0) s).pn (i 2) : ℝ) : EReal) :=
  (val_main_v143_apply (F := Ideal) (X0 A) (X1 A) (X2 A) (X3 A) (X4 A) (X5 A) (X6 A) (X7 A) (X8 A) _).trans (r104 A _)

/-- The gradient at the gain before the block, as a row. -/
theorem r140 (i : S1x1024.Idx) : (val_main_v140 (F := Ideal) (X0 A) (X1 A) (X2 A) (X3 A) (X4 A) (X5 A) (X6 A) (X7 A) (X8 A) i : EReal) = ((∑ b, ∑ s, (A.tok b s).dn (i 1) * (A.tok b s).xh (i 1) : ℝ) : EReal) :=
  (val_main_v140_apply (F := Ideal) (X0 A) (X1 A) (X2 A) (X3 A) (X4 A) (X5 A) (X6 A) (X7 A) (X8 A) _).trans (r124 A _)

/-- The gradient at the gain after the block, as a row. -/
theorem r100 (i : S1x1024.Idx) : (val_main_v100 (F := Ideal) (X0 A) (X1 A) (X2 A) (X3 A) (X4 A) (X5 A) (X6 A) (X7 A) (X8 A) i : EReal) = ((∑ b, ∑ s, (A.tok b s).dp (i 1) * (A.tok b s).yh (i 1) : ℝ) : EReal) :=
  (val_main_v100_apply (F := Ideal) (X0 A) (X1 A) (X2 A) (X3 A) (X4 A) (X5 A) (X6 A) (X7 A) (X8 A) _).trans (r85 A _)

/-- The modulation's gradient: shift, scale, output gate. -/
theorem r144 (i : S2x3x1024.Idx) : (val_main_v144 (F := Ideal) (X0 A) (X1 A) (X2 A) (X3 A) (X4 A) (X5 A) (X6 A) (X7 A) (X8 A) i : EReal) = ((A.dmod (i 0) (i 1).val (i 2) : ℝ) : EReal) := by
  have hi : (i 1).val < 3 := (i 1).isLt
  unfold val_main_v144
  by_cases h0 : (i 1).val = 0
  · refine (concatenate_apply_piece 1 [⟨S2x1x1024, _⟩, ⟨S2x1x1024, _⟩, ⟨S2x1x1024, _⟩] concatenates_S2x1x1024_S2x1x1024_S2x1x1024_S2x3x1024_d1 i 0 (by simp) S2x1x1024 _ rfl rfl 0 rfl
      (ix3 (i 0) 0 (i 2)) ?_ ?_).trans ?_
    · intro b
      match b with
      | ⟨0, _⟩ => exact fun _ => rfl
      | ⟨1, _⟩ => exact fun hb => absurd rfl hb
      | ⟨2, _⟩ => exact fun _ => rfl
    · show 0 + 0 = (i 1).val
      omega
    · refine (r141 A _).trans (congrArg Real.toEReal ?_)
      unfold Args.dmod
      rw [h0]
      rfl
  by_cases h1 : (i 1).val = 1
  · refine (concatenate_apply_piece 1 [⟨S2x1x1024, _⟩, ⟨S2x1x1024, _⟩, ⟨S2x1x1024, _⟩] concatenates_S2x1x1024_S2x1x1024_S2x1x1024_S2x3x1024_d1 i 1 (by simp) S2x1x1024 _ rfl rfl 1 rfl
      (ix3 (i 0) 0 (i 2)) ?_ ?_).trans ?_
    · intro b
      match b with
      | ⟨0, _⟩ => exact fun _ => rfl
      | ⟨1, _⟩ => exact fun hb => absurd rfl hb
      | ⟨2, _⟩ => exact fun _ => rfl
    · show 1 + 0 = (i 1).val
      omega
    · refine (r142 A _).trans (congrArg Real.toEReal ?_)
      unfold Args.dmod
      rw [h1]
      rfl
  have h2 : (i 1).val = 2 := by omega
  · refine (concatenate_apply_piece 1 [⟨S2x1x1024, _⟩, ⟨S2x1x1024, _⟩, ⟨S2x1x1024, _⟩] concatenates_S2x1x1024_S2x1x1024_S2x1x1024_S2x3x1024_d1 i 2 (by simp) S2x1x1024 _ rfl rfl 2 rfl
      (ix3 (i 0) 0 (i 2)) ?_ ?_).trans ?_
    · intro b
      match b with
      | ⟨0, _⟩ => exact fun _ => rfl
      | ⟨1, _⟩ => exact fun hb => absurd rfl hb
      | ⟨2, _⟩ => exact fun _ => rfl
    · show 2 + 0 = (i 1).val
      omega
    · refine (r143 A _).trans (congrArg Real.toEReal ?_)
      unfold Args.dmod
      rw [h2]
      rfl

/-- The gains' gradient: before the block, after the block. -/
theorem r157 (i : S2x1024.Idx) : (val_main_v157 (F := Ideal) (X0 A) (X1 A) (X2 A) (X3 A) (X4 A) (X5 A) (X6 A) (X7 A) (X8 A) i : EReal) = ((A.dgain (i 0).val (i 1) : ℝ) : EReal) := by
  have hi : (i 0).val < 2 := (i 0).isLt
  unfold val_main_v157
  by_cases h0 : (i 0).val = 0
  · refine (concatenate_pair_apply_left (s₁ := S1x1024) (s₂ := S1x1024) 0 _ _ concatenates_S1x1024_S1x1024_S2x1024_d0 i rfl (ix2 0 (i 1)) ?_).trans ?_
    · intro b
      match b with
      | ⟨0, _⟩ => exact h0.symm
      | ⟨1, _⟩ => rfl
    · refine (r140 A _).trans (congrArg Real.toEReal ?_)
      unfold Args.dgain
      rw [h0]
      rfl
  · have h1 : (i 0).val = 1 := by omega
    refine (concatenate_pair_apply_right (s₁ := S1x1024) (s₂ := S1x1024) 0 _ _ concatenates_S1x1024_S1x1024_S2x1024_d0 i rfl rfl (ix2 0 (i 1)) ?_ ?_).trans ?_
    · intro b
      match b with
      | ⟨0, _⟩ => exact fun hb => absurd rfl hb
      | ⟨1, _⟩ => exact fun _ => rfl
    · exact h1.symm
    · refine (r100 A _).trans (congrArg Real.toEReal ?_)
      unfold Args.dgain
      rw [h1]
      rfl

/-- The reference's gradient at the block's input. -/
theorem o145 : (val_main_v145 (F := Ideal) (X0 A) (X1 A) (X2 A) (X3 A) (X4 A) (X5 A) (X6 A) (X7 A) (X8 A) : S4096x1024.Idx → EReal) = A.resDx := by
  funext i
  have h0 : (i 0).val < 4096 := (i 0).isLt; have h1 : (i 1).val < 1024 := (i 1).isLt
  refine (val_main_v145_apply (F := Ideal) (X0 A) (X1 A) (X2 A) (X3 A) (X4 A) (X5 A) (X6 A) (X7 A) (X8 A) _).trans ((r139 A _).trans (fin3 (fun b s k => (A.tok b s).dx k) ?_ ?_ ?_))
  · show ((i 0).val * 1024 + (i 1).val) / 2097152 = (i 0).val / 2048; omega
  · show ((i 0).val * 1024 + (i 1).val) / 1024 % 2048 = (i 0).val % 2048; omega
  · show ((i 0).val * 1024 + (i 1).val) % 1024 = (i 1).val; omega

/-- The reference's modulated input. -/
theorem o153 : (val_main_v153 (F := Ideal) (X0 A) (X2 A) (X3 A) (X5 A) : S4096x1024.Idx → EReal) = A.resH := by
  funext i
  have h0 : (i 0).val < 4096 := (i 0).isLt; have h1 : (i 1).val < 1024 := (i 1).isLt
  refine ((val_main_v153_apply (F := Ideal) (X0 A) (X2 A) (X3 A) (X5 A) _).trans (val_main_v152_apply (F := Ideal) (X0 A) (X2 A) (X3 A) (X5 A) _)).trans ((r26 A _).trans (fin3 (fun b s k => (A.tok b s).h k) ?_ ?_ ?_))
  · show ((i 0).val * 1024 + (i 1).val) / 2097152 = (i 0).val / 2048; omega
  · show ((i 0).val * 1024 + (i 1).val) / 1024 % 2048 = (i 0).val % 2048; omega
  · show ((i 0).val * 1024 + (i 1).val) % 1024 = (i 1).val; omega

/-- The reference's gradient at the output projection. -/
theorem o155 : (val_main_v155 (F := Ideal) (X0 A) (X1 A) (X2 A) (X3 A) (X4 A) (X5 A) (X6 A) (X7 A) (X8 A) : S4096x1024.Idx → EReal) = A.resDy := by
  funext i
  have h0 : (i 0).val < 4096 := (i 0).isLt; have h1 : (i 1).val < 1024 := (i 1).isLt
  refine ((val_main_v155_apply (F := Ideal) (X0 A) (X1 A) (X2 A) (X3 A) (X4 A) (X5 A) (X6 A) (X7 A) (X8 A) _).trans (val_main_v154_apply (F := Ideal) (X0 A) (X1 A) (X2 A) (X3 A) (X4 A) (X5 A) (X6 A) (X7 A) (X8 A) _)).trans ((r99 A _).trans (fin3 (fun b s k => (A.tok b s).dy k) ?_ ?_ ?_))
  · show ((i 0).val * 1024 + (i 1).val) / 2097152 = (i 0).val / 2048; omega
  · show ((i 0).val * 1024 + (i 1).val) / 1024 % 2048 = (i 0).val % 2048; omega
  · show ((i 0).val * 1024 + (i 1).val) % 1024 = (i 1).val; omega

/-- The reference's gradient at the input projection. -/
theorem o148 : (val_main_v148 (F := Ideal) (X0 A) (X1 A) (X2 A) (X3 A) (X4 A) (X5 A) (X6 A) (X7 A) (X8 A) : S8x4096x704.Idx → EReal) = A.resDgu := by
  funext i
  have h0 : (i 0).val < 8 := (i 0).isLt; have h1 : (i 1).val < 4096 := (i 1).isLt; have h2 : (i 2).val < 704 := (i 2).isLt
  refine (((val_main_v148_apply (F := Ideal) (X0 A) (X1 A) (X2 A) (X3 A) (X4 A) (X5 A) (X6 A) (X7 A) (X8 A) _).trans (val_main_v147_apply (F := Ideal) (X0 A) (X1 A) (X2 A) (X3 A) (X4 A) (X5 A) (X6 A) (X7 A) (X8 A) _)).trans (val_main_v146_apply (F := Ideal) (X0 A) (X1 A) (X2 A) (X3 A) (X4 A) (X5 A) (X6 A) (X7 A) (X8 A) _)).trans ((r108 A _).trans (fin3 (fun b s k => (A.tok b s).dgu k) ?_ ?_ ?_))
  · show (((i 1).val * 8 + (i 0).val) * 704 + (i 2).val) / 11534336 = (i 1).val / 2048; omega
  · show (((i 1).val * 8 + (i 0).val) * 704 + (i 2).val) / 5632 % 2048 = (i 1).val % 2048; omega
  · show (((i 1).val * 8 + (i 0).val) * 704 + (i 2).val) % 5632 = 704 * (i 0).val + (i 2).val; omega

/-- The reference's gated activation. -/
theorem o151 : (val_main_v151 (F := Ideal) (X0 A) (X2 A) (X3 A) (X5 A) (X7 A) : S4x4096x704.Idx → EReal) = A.resAct := by
  funext i
  have h0 : (i 0).val < 4 := (i 0).isLt; have h1 : (i 1).val < 4096 := (i 1).isLt; have h2 : (i 2).val < 704 := (i 2).isLt
  refine (((val_main_v151_apply (F := Ideal) (X0 A) (X2 A) (X3 A) (X5 A) (X7 A) _).trans (val_main_v150_apply (F := Ideal) (X0 A) (X2 A) (X3 A) (X5 A) (X7 A) _)).trans (val_main_v149_apply (F := Ideal) (X0 A) (X2 A) (X3 A) (X5 A) (X7 A) _)).trans ((r33 A _).trans (fin3 (fun b s k => (A.tok b s).act k) ?_ ?_ ?_))
  · show (((i 1).val * 4 + (i 0).val) * 704 + (i 2).val) / 5767168 = (i 1).val / 2048; omega
  · show (((i 1).val * 4 + (i 0).val) * 704 + (i 2).val) / 2816 % 2048 = (i 1).val % 2048; omega
  · show (((i 1).val * 4 + (i 0).val) * 704 + (i 2).val) % 2816 = 704 * (i 0).val + (i 2).val; omega

/-- The reference's gradient at the modulation. -/
theorem o156 : (val_main_v156 (F := Ideal) (X0 A) (X1 A) (X2 A) (X3 A) (X4 A) (X5 A) (X6 A) (X7 A) (X8 A) : S2x8x1024.Idx → EReal) = A.resMod := by
  funext i
  unfold val_main_v156
  by_cases h : (i 1).val < 3
  · refine (pad_apply_of_inside ![0, 0, 0] ![0, 5, 0] ![0, 0, 0] _ _ pads_S2x3x1024_S2x8x1024_000_050_000 h_S_ i (ix3 (i 0) ⟨(i 1).val, h⟩ (i 2)) ?_).trans (r144 A _)
    intro a
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega
  · refine (pad_apply_of_not_inside (s := S2x3x1024) (t := S2x8x1024) ![0, 0, 0] ![0, 5, 0] ![0, 0, 0] _ _ pads_S2x3x1024_S2x8x1024_000_050_000 h_S_ i 1 ?_).trans ?_
    · intro hin
      have h3 : ((i 1).val - 0) / (0 + 1) < 3 := hin.2.2
      omega
    · refine pad_zero.trans (congrArg Real.toEReal ?_)
      have n0 : ¬(i 1).val = 0 := by omega
      have n1 : ¬(i 1).val = 1 := by omega
      have n2 : ¬(i 1).val = 2 := by omega
      exact ((if_neg n0).trans ((if_neg n1).trans (if_neg n2))).symm

/-- The reference's gradient at the gains. -/
theorem o158 : (val_main_v158 (F := Ideal) (X0 A) (X1 A) (X2 A) (X3 A) (X4 A) (X5 A) (X6 A) (X7 A) (X8 A) : S8x1024.Idx → EReal) = A.resGain := by
  funext i
  unfold val_main_v158
  by_cases h : (i 0).val < 2
  · refine (pad_apply_of_inside ![0, 0] ![6, 0] ![0, 0] _ _ pads_S2x1024_S8x1024_060_000 h_S_ i (ix2 ⟨(i 0).val, h⟩ (i 1)) ?_).trans (r157 A _)
    intro a
    match a with
    | ⟨0, _⟩ => show (i 0).val = 0 + (i 0).val * (0 + 1); omega
    | ⟨1, _⟩ => show (i 1).val = 0 + (i 1).val * (0 + 1); omega
  · refine (pad_apply_of_not_inside (s := S2x1024) (t := S8x1024) ![0, 0] ![6, 0] ![0, 0] _ _ pads_S2x1024_S8x1024_060_000 h_S_ i 0 ?_).trans ?_
    · intro hin
      have h3 : ((i 0).val - 0) / (0 + 1) < 2 := hin.2.2
      omega
    · refine pad_zero.trans (congrArg Real.toEReal ?_)
      have n0 : ¬(i 0).val = 0 := by omega
      have n1 : ¬(i 0).val = 1 := by omega
      exact ((if_neg n0).trans (if_neg n1)).symm

/-- The reference's loss. -/
theorem o159 : (val_main_v159 (F := Ideal) (X0 A) (X1 A) (X2 A) (X3 A) (X4 A) (X5 A) (X6 A) (X7 A) (X8 A) : S8x1024.Idx → EReal) = A.resLoss :=
  funext fun i => (val_main_v159_apply (F := Ideal) (X0 A) (X1 A) (X2 A) (X3 A) (X4 A) (X5 A) (X6 A) (X7 A) (X8 A) _).trans (r68 A _)

end Cert.ReferenceIdeal.Read

end
-- ==== Proof.Algebraic.lean ====
module

public import proofs.«01_k».proof.Proof.Finite
public import proofs.«01_k».proof.Proof.RefOut
public import proofs.«01_k».proof.Proof.Gen.ReferenceIdeal.Run
public import proofs.«01_k».proof.Proof.Gen.KernelIdeal.Value

@[expose] public section

/-!
The value claim: the kernel's and the reference's runs end with the same eight results, the arrays of the arguments'
tokens.
-/

noncomputable section

namespace Cert.Proof

open Idealize.ShloMosaic Idealize.ShloMosaic.TcCoe Idealize.SL.Sem Idealize.ShloMosaic.StableHlo Cert.Ffn
open Cert.KernelIdeal.Value

/-- Contents of the reference's arguments that are the arrays of real arguments. -/
structure Reads (V0 : Valuation Cert.ReferenceIdeal.τ Cert.ReferenceIdeal.sig (Elt Ideal)) (A : Args) : Prop where
  a0 : V0 (Proc.devRef .tc Cert.ReferenceIdeal.main_arg0) = Cert.ReferenceIdeal.Read.X0 A
  a1 : V0 (Proc.devRef .tc Cert.ReferenceIdeal.main_arg1) = Cert.ReferenceIdeal.Read.X1 A
  a2 : V0 (Proc.devRef .tc Cert.ReferenceIdeal.main_arg2) = Cert.ReferenceIdeal.Read.X2 A
  a3 : V0 (Proc.devRef .tc Cert.ReferenceIdeal.main_arg3) = Cert.ReferenceIdeal.Read.X3 A
  a4 : V0 (Proc.devRef .tc Cert.ReferenceIdeal.main_arg4) = Cert.ReferenceIdeal.Read.X4 A
  a5 : V0 (Proc.devRef .tc Cert.ReferenceIdeal.main_arg5) = Cert.ReferenceIdeal.Read.X5 A
  a6 : V0 (Proc.devRef .tc Cert.ReferenceIdeal.main_arg6) = Cert.ReferenceIdeal.Read.X6 A
  a7 : V0 (Proc.devRef .tc Cert.ReferenceIdeal.main_arg7) = Cert.ReferenceIdeal.Read.X7 A
  a8 : V0 (Proc.devRef .tc Cert.ReferenceIdeal.main_arg8) = Cert.ReferenceIdeal.Read.X8 A

/-- The reference's gradient at the block's input, over such contents. -/
theorem read_v145 (V0 : Valuation Cert.ReferenceIdeal.τ Cert.ReferenceIdeal.sig (Elt Ideal)) (A : Args) (h : Reads V0 A) :
    Cert.ReferenceIdeal.Read.val_main_v145 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) = A.resDx := by
  rw [h.a0, h.a1, h.a2, h.a3, h.a4, h.a5, h.a6, h.a7, h.a8]
  exact Cert.ReferenceIdeal.Read.o145 A

/-- The reference's gradient at the input projection, over such contents. -/
theorem read_v148 (V0 : Valuation Cert.ReferenceIdeal.τ Cert.ReferenceIdeal.sig (Elt Ideal)) (A : Args) (h : Reads V0 A) :
    Cert.ReferenceIdeal.Read.val_main_v148 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) = A.resDgu := by
  rw [h.a0, h.a1, h.a2, h.a3, h.a4, h.a5, h.a6, h.a7, h.a8]
  exact Cert.ReferenceIdeal.Read.o148 A

/-- The reference's gated activation, over such contents. -/
theorem read_v151 (V0 : Valuation Cert.ReferenceIdeal.τ Cert.ReferenceIdeal.sig (Elt Ideal)) (A : Args) (h : Reads V0 A) :
    Cert.ReferenceIdeal.Read.val_main_v151 (F := Ideal) (V0 (Proc.devRef .tc Cert.ReferenceIdeal.main_arg0)) (V0 (Proc.devRef .tc Cert.ReferenceIdeal.main_arg2)) (V0 (Proc.devRef .tc Cert.ReferenceIdeal.main_arg3)) (V0 (Proc.devRef .tc Cert.ReferenceIdeal.main_arg5)) (V0 (Proc.devRef .tc Cert.ReferenceIdeal.main_arg7)) = A.resAct := by
  rw [h.a0, h.a2, h.a3, h.a5, h.a7]
  exact Cert.ReferenceIdeal.Read.o151 A

/-- The reference's modulated input, over such contents. -/
theorem read_v153 (V0 : Valuation Cert.ReferenceIdeal.τ Cert.ReferenceIdeal.sig (Elt Ideal)) (A : Args) (h : Reads V0 A) :
    Cert.ReferenceIdeal.Read.val_main_v153 (F := Ideal) (V0 (Proc.devRef .tc Cert.ReferenceIdeal.main_arg0)) (V0 (Proc.devRef .tc Cert.ReferenceIdeal.main_arg2)) (V0 (Proc.devRef .tc Cert.ReferenceIdeal.main_arg3)) (V0 (Proc.devRef .tc Cert.ReferenceIdeal.main_arg5)) = A.resH := by
  rw [h.a0, h.a2, h.a3, h.a5]
  exact Cert.ReferenceIdeal.Read.o153 A

/-- The reference's gradient at the output projection, over such contents. -/
theorem read_v155 (V0 : Valuation Cert.ReferenceIdeal.τ Cert.ReferenceIdeal.sig (Elt Ideal)) (A : Args) (h : Reads V0 A) :
    Cert.ReferenceIdeal.Read.val_main_v155 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) = A.resDy := by
  rw [h.a0, h.a1, h.a2, h.a3, h.a4, h.a5, h.a6, h.a7, h.a8]
  exact Cert.ReferenceIdeal.Read.o155 A

/-- The reference's gradient at the modulation, over such contents. -/
theorem read_v156 (V0 : Valuation Cert.ReferenceIdeal.τ Cert.ReferenceIdeal.sig (Elt Ideal)) (A : Args) (h : Reads V0 A) :
    Cert.ReferenceIdeal.Read.val_main_v156 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) = A.resMod := by
  rw [h.a0, h.a1, h.a2, h.a3, h.a4, h.a5, h.a6, h.a7, h.a8]
  exact Cert.ReferenceIdeal.Read.o156 A

/-- The reference's gradient at the gains, over such contents. -/
theorem read_v158 (V0 : Valuation Cert.ReferenceIdeal.τ Cert.ReferenceIdeal.sig (Elt Ideal)) (A : Args) (h : Reads V0 A) :
    Cert.ReferenceIdeal.Read.val_main_v158 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) = A.resGain := by
  rw [h.a0, h.a1, h.a2, h.a3, h.a4, h.a5, h.a6, h.a7, h.a8]
  exact Cert.ReferenceIdeal.Read.o158 A

/-- The reference's loss, over such contents. -/
theorem read_v159 (V0 : Valuation Cert.ReferenceIdeal.τ Cert.ReferenceIdeal.sig (Elt Ideal)) (A : Args) (h : Reads V0 A) :
    Cert.ReferenceIdeal.Read.val_main_v159 (F := Ideal) (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) (V0 (Proc.devRef .tc Cert.ReferenceIdeal.main_arg5)) (V0 (Proc.devRef .tc Cert.ReferenceIdeal.main_arg6)) (V0 (Proc.devRef .tc Cert.ReferenceIdeal.main_arg7)) (V0 (Proc.devRef .tc Cert.ReferenceIdeal.main_arg8)) = A.resLoss := by
  rw [h.a0, h.a1, h.a2, h.a3, h.a4, h.a5, h.a6, h.a7, h.a8]
  exact Cert.ReferenceIdeal.Read.o159 A

/-- Under the precondition the reference's contents at the start are the kernel's arguments as real arrays. -/
theorem reads_of (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (H : Fin9 m c)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Reads (launchContents m' c) (argsOf m c) := by
  obtain ⟨a0, a1, a2, a3, a4, a5, a6, a7, a8⟩ := ha
  exact ⟨a0.trans (mem0 m c H), a1.trans (mem1 m c H), a2.trans (mem2 m c H), a3.trans (mem3 m c H), a4.trans (mem4 m c H), a5.trans (mem5 m c H), a6.trans (mem6 m c H), a7.trans (mem7 m c H), a8.trans (mem8 m c H)⟩

/-- The value claim, under the precondition that every argument is finite. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hagree
  refine ⟨fun c => (argsOf m c).resDx, fun c => (argsOf m c).resDgu, fun c => (argsOf m c).resAct, fun c => (argsOf m c).resH, fun c => (argsOf m c).resDy, fun c => (argsOf m c).resMod, fun c => (argsOf m c).resGain, fun c => (argsOf m c).resLoss, ?_, ?_⟩
  · refine (θ_run Cert.KernelIdeal.defs _ _).mono (fun r h c => ?_) (run_blocks (F := Ideal) m g)
    have H := fin9_of_pre m c hpre
    obtain ⟨h0, h1, h2, h3, h4, h5, h6, h7, hk⟩ := h c
    exact ⟨h0.trans (final7 m c H), h1.trans (final8 m c H), h2.trans (final9 m c H), h3.trans (final10 m c H), h4.trans (final11 m c H), h5.trans (final12 m c H), h6.trans (final13 m c H), h7.trans (final14 m c H), hk⟩
  · refine (θ_run Cert.ReferenceIdeal.defs _ _).mono (fun r h c => ?_) (Cert.ReferenceIdeal.Value.run (F := Ideal) m' g')
    have R := reads_of m m' c (fin9_of_pre m c hpre) (hagree c)
    obtain ⟨h0, h1, h2, h3, h4, h5, h6, h7, hk⟩ := h c
    exact ⟨h0.trans ((Cert.ReferenceIdeal.Read.val_main_v145_eq (launchContents m' c)).trans (read_v145 _ _ R)),
      h1.trans ((Cert.ReferenceIdeal.Read.val_main_v148_eq (launchContents m' c)).trans (read_v148 _ _ R)),
      h2.trans ((Cert.ReferenceIdeal.Read.val_main_v151_eq (launchContents m' c)).trans (read_v151 _ _ R)),
      h3.trans ((Cert.ReferenceIdeal.Read.val_main_v153_eq (launchContents m' c)).trans (read_v153 _ _ R)),
      h4.trans ((Cert.ReferenceIdeal.Read.val_main_v155_eq (launchContents m' c)).trans (read_v155 _ _ R)),
      h5.trans ((Cert.ReferenceIdeal.Read.val_main_v156_eq (launchContents m' c)).trans (read_v156 _ _ R)),
      h6.trans ((Cert.ReferenceIdeal.Read.val_main_v158_eq (launchContents m' c)).trans (read_v158 _ _ R)),
      h7.trans ((Cert.ReferenceIdeal.Read.val_main_v159_eq (launchContents m' c)).trans (read_v159 _ _ R)), hk⟩

/-- The reference's run leaves its arguments and every counter as they were. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

end Cert.Proof

end
-- ==== Proof.BwdPay.lean ====
module

public import proofs.«01_k».proof.Proof.Gen.Kernel2Ideal.Skeleton
public import proofs.«01_k».proof.Proof.Reals
public import Idealize.ShloMosaic.Lib.Pointwise

@[expose] public section

set_option maxRecDepth 16384

/-!
What each value of the backward call's body is at an index, when the values it is computed from are real numbers.
-/

noncomputable section

namespace Cert.Kernel2Ideal.Bwd

open Cert.Kernel2Ideal Cert.Kernel2Ideal.Gen Cert.Ffn
open Idealize.ShloMosaic Idealize.ShloMosaic.TcCoe Idealize.SL.Sem

/-- The block's input. -/
theorem pay4_at {x : Fin 256 → Fin 1024 → ℝ}
    {v0 : Vec Ideal S256x1024 .f32}
    (h0 : ∀ p k, v0 (ix2 p k) = ((x p k : ℝ) : EReal)) (p : Fin 256) (k : Fin 1024) :
    k1_pay4 (F := Ideal) v0 (ix2 p k) = ((x p k : ℝ) : EReal) := by
  pointwise [k1_pay4]
  simp only [h0, reals] <;> rfl

/-- The gradient at the block's output. -/
theorem pay5_at {x : Fin 256 → Fin 1024 → ℝ}
    {v2 : Vec Ideal S256x1024 .f32}
    (h2 : ∀ p k, v2 (ix2 p k) = ((x p k : ℝ) : EReal)) (p : Fin 256) (k : Fin 1024) :
    k1_pay5 (F := Ideal) v2 (ix2 p k) = ((x p k : ℝ) : EReal) := by
  pointwise [k1_pay5]
  simp only [h2, reals] <;> rfl

/-- The kept output projection. -/
theorem pay6_at {x : Fin 256 → Fin 1024 → ℝ}
    {v4 : Vec Ideal S256x1024 .f32}
    (h4 : ∀ p k, v4 (ix2 p k) = ((x p k : ℝ) : EReal)) (p : Fin 256) (k : Fin 1024) :
    k1_pay6 (F := Ideal) v4 (ix2 p k) = ((x p k : ℝ) : EReal) := by
  pointwise [k1_pay6]
  simp only [h4, reals] <;> rfl

/-- The scale row. -/
theorem pay7_at {s : Fin 1024 → ℝ}
    {v8 : Vec Ideal S1x1x1024 .f32}
    (h8 : ∀ k, v8 (ix3 0 0 k) = ((s k : ℝ) : EReal)) (k : Fin 1024) :
    k1_pay7 (F := Ideal) v8 (ix2 0 k) = ((s k : ℝ) : EReal) := by
  pointwise [k1_pay7]
  simp only [h8, reals] <;> rfl

/-- The gate row. -/
theorem pay8_at {s : Fin 1024 → ℝ}
    {v10 : Vec Ideal S1x1x1024 .f32}
    (h10 : ∀ k, v10 (ix3 0 0 k) = ((s k : ℝ) : EReal)) (k : Fin 1024) :
    k1_pay8 (F := Ideal) v10 (ix2 0 k) = ((s k : ℝ) : EReal) := by
  pointwise [k1_pay8]
  simp only [h10, reals] <;> rfl

/-- The first gain. -/
theorem pay9_at {s : Fin 1024 → ℝ}
    {v12 : Vec Ideal S1x1024 .f32}
    (h12 : ∀ k, v12 (ix2 0 k) = ((s k : ℝ) : EReal)) (k : Fin 1024) :
    k1_pay9 (F := Ideal) v12 (ix2 0 k) = ((s k : ℝ) : EReal) := by
  pointwise [k1_pay9]
  simp only [h12, reals] <;> rfl

/-- The second gain. -/
theorem pay10_at {s : Fin 1024 → ℝ}
    {v14 : Vec Ideal S1x1024 .f32}
    (h14 : ∀ k, v14 (ix2 0 k) = ((s k : ℝ) : EReal)) (k : Fin 1024) :
    k1_pay10 (F := Ideal) v14 (ix2 0 k) = ((s k : ℝ) : EReal) := by
  pointwise [k1_pay10]
  simp only [h14, reals] <;> rfl

/-- The reciprocal root mean square of the input. -/
theorem pay11_at {x : Fin 256 → Fin 1024 → ℝ}
    {v0 : Vec Ideal S256x1024 .f32}
    (h0 : ∀ p k, v0 (ix2 p k) = ((x p k : ℝ) : EReal)) (p : Fin 256) :
    k1_pay11 (F := Ideal) v0 (ix2 p 0) = ((rrms (x p) : ℝ) : EReal) := by
  pointwise [k1_pay11]
  simp only [h0, pay4_at h0, reals] <;> rfl

/-- The normalised input. -/
theorem pay12_at {x : Fin 256 → Fin 1024 → ℝ}
    {v0 : Vec Ideal S256x1024 .f32}
    (h0 : ∀ p k, v0 (ix2 p k) = ((x p k : ℝ) : EReal)) (p : Fin 256) (k : Fin 1024) :
    k1_pay12 (F := Ideal) v0 (ix2 p k) = ((x p k * rrms (x p) : ℝ) : EReal) := by
  pointwise [k1_pay12]
  simp only [h0, pay4_at h0, pay11_at h0, reals] <;> rfl

/-- The normalised input times the gain. -/
theorem pay13_at {x : Fin 256 → Fin 1024 → ℝ} {g : Fin 1024 → ℝ}
    {v0 : Vec Ideal S256x1024 .f32} {v12 : Vec Ideal S1x1024 .f32}
    (h0 : ∀ p k, v0 (ix2 p k) = ((x p k : ℝ) : EReal)) (h12 : ∀ k, v12 (ix2 0 k) = ((g k : ℝ) : EReal)) (p : Fin 256) (k : Fin 1024) :
    k1_pay13 (F := Ideal) v0 v12 (ix2 p k) = ((x p k * rrms (x p) * g k : ℝ) : EReal) := by
  pointwise [k1_pay13]
  simp only [h0, h12, pay9_at h12, pay12_at h0, reals] <;> rfl

/-- The modulated input. -/
theorem pay14_at {x : Fin 256 → Fin 1024 → ℝ} {sh : Fin 1024 → ℝ} {sc : Fin 1024 → ℝ} {g : Fin 1024 → ℝ}
    {v0 : Vec Ideal S256x1024 .f32} {v6 : Vec Ideal S1x1x1024 .f32} {v8 : Vec Ideal S1x1x1024 .f32} {v12 : Vec Ideal S1x1024 .f32}
    (h0 : ∀ p k, v0 (ix2 p k) = ((x p k : ℝ) : EReal)) (h6 : ∀ k, v6 (ix3 0 0 k) = ((sh k : ℝ) : EReal)) (h8 : ∀ k, v8 (ix3 0 0 k) = ((sc k : ℝ) : EReal)) (h12 : ∀ k, v12 (ix2 0 k) = ((g k : ℝ) : EReal)) (p : Fin 256) (k : Fin 1024) :
    k1_pay14 (F := Ideal) v0 v6 v8 v12 (ix2 p k) = ((x p k * rrms (x p) * g k * (1 + sc k) + sh k : ℝ) : EReal) := by
  pointwise [k1_pay14]
  simp only [h0, h6, h8, h12, pay7_at h8, pay13_at h0 h12, reals] <;> rfl

/-- The reciprocal root mean square of the output projection. -/
theorem pay15_at {y : Fin 256 → Fin 1024 → ℝ}
    {v5 : FVec Ideal S256x1024 .f32}
    (h5 : ∀ p k, v5 (ix2 p k) = ((y p k : ℝ) : EReal)) (p : Fin 256) :
    k1_pay15 (F := Ideal) v5 (ix2 p 0) = ((rrms (y p) : ℝ) : EReal) := by
  pointwise [k1_pay15]
  simp only [h5, reals] <;> rfl

/-- The normalised output projection. -/
theorem pay16_at {y : Fin 256 → Fin 1024 → ℝ}
    {v5 : FVec Ideal S256x1024 .f32}
    (h5 : ∀ p k, v5 (ix2 p k) = ((y p k : ℝ) : EReal)) (p : Fin 256) (k : Fin 1024) :
    k1_pay16 (F := Ideal) v5 (ix2 p k) = ((y p k * rrms (y p) : ℝ) : EReal) := by
  pointwise [k1_pay16]
  simp only [h5, pay15_at h5, reals] <;> rfl

/-- The gradient at the output gate. -/
theorem pay17_at {d : Fin 256 → Fin 1024 → ℝ} {y : Fin 256 → Fin 1024 → ℝ} {g : Fin 1024 → ℝ}
    {v3 : FVec Ideal S256x1024 .f32} {v5 : FVec Ideal S256x1024 .f32} {v15 : FVec Ideal S1x1024 .f32}
    (h3 : ∀ p k, v3 (ix2 p k) = ((d p k : ℝ) : EReal)) (h5 : ∀ p k, v5 (ix2 p k) = ((y p k : ℝ) : EReal)) (h15 : ∀ k, v15 (ix2 0 k) = ((g k : ℝ) : EReal)) (k : Fin 1024) :
    k1_pay17 (F := Ideal) v3 v5 v15 (ix2 0 k) = ((∑ p, 1 / 2 * d p k * (y p k * rrms (y p) * g k) : ℝ) : EReal) := by
  pointwise [k1_pay17]
  simp only [h3, h5, h15, pay16_at h5, reals] <;> rfl

/-- The gradient at the normalised output projection times the gain. -/
theorem pay18_at {d : Fin 256 → Fin 1024 → ℝ} {gt : Fin 1024 → ℝ}
    {v3 : FVec Ideal S256x1024 .f32} {v11 : FVec Ideal S1x1024 .f32}
    (h3 : ∀ p k, v3 (ix2 p k) = ((d p k : ℝ) : EReal)) (h11 : ∀ k, v11 (ix2 0 k) = ((gt k : ℝ) : EReal)) (p : Fin 256) (k : Fin 1024) :
    k1_pay18 (F := Ideal) v3 v11 (ix2 p k) = ((1 / 2 * gt k * d p k : ℝ) : EReal) := by
  pointwise [k1_pay18]
  simp only [h3, h11, reals] <;> rfl

/-- The gradient at the second gain. -/
theorem pay19_at {d : Fin 256 → Fin 1024 → ℝ} {y : Fin 256 → Fin 1024 → ℝ} {gt : Fin 1024 → ℝ}
    {v3 : FVec Ideal S256x1024 .f32} {v5 : FVec Ideal S256x1024 .f32} {v11 : FVec Ideal S1x1024 .f32}
    (h3 : ∀ p k, v3 (ix2 p k) = ((d p k : ℝ) : EReal)) (h5 : ∀ p k, v5 (ix2 p k) = ((y p k : ℝ) : EReal)) (h11 : ∀ k, v11 (ix2 0 k) = ((gt k : ℝ) : EReal)) (k : Fin 1024) :
    k1_pay19 (F := Ideal) v3 v5 v11 (ix2 0 k) = ((∑ p, 1 / 2 * gt k * d p k * (y p k * rrms (y p)) : ℝ) : EReal) := by
  pointwise [k1_pay19]
  simp only [h3, h5, h11, pay16_at h5, pay18_at h3 h11, reals] <;> rfl

/-- The gradient at the output projection. -/
theorem pay20_at {d : Fin 256 → Fin 1024 → ℝ} {y : Fin 256 → Fin 1024 → ℝ} {gt : Fin 1024 → ℝ} {g : Fin 1024 → ℝ}
    {v3 : FVec Ideal S256x1024 .f32} {v5 : FVec Ideal S256x1024 .f32} {v11 : FVec Ideal S1x1024 .f32} {v15 : FVec Ideal S1x1024 .f32}
    (h3 : ∀ p k, v3 (ix2 p k) = ((d p k : ℝ) : EReal)) (h5 : ∀ p k, v5 (ix2 p k) = ((y p k : ℝ) : EReal)) (h11 : ∀ k, v11 (ix2 0 k) = ((gt k : ℝ) : EReal)) (h15 : ∀ k, v15 (ix2 0 k) = ((g k : ℝ) : EReal)) (p : Fin 256) (k : Fin 1024) :
    k1_pay20 (F := Ideal) v3 v5 v11 v15 (ix2 p k) = ((rmsBack (rrms (y p)) (fun i => y p i * rrms (y p)) (fun i => 1 / 2 * gt i * d p i * g i) k : ℝ) : EReal) := by
  pointwise [k1_pay20]
  simp only [h3, h5, h11, h15, pay15_at h5, pay16_at h5, pay18_at h3 h11, reals] <;> rfl

/-- The zero the pulled back gradient starts from. -/
theorem pay21_at (p : Fin 256) (k : Fin 1024) : k1_pay21 (F := Ideal) (ix2 p k) = ((0 : ℝ) : EReal) := by
  pointwise [k1_pay21]
  exact EReal.coe_zero.symm

/-- The kept gate slab, first chunk. -/
theorem pay22_at {g : Fin 256 → Fin 704 → ℝ}
    {v75 : Vec Ideal S1x256x704 .bf16}
    (h75 : ∀ p k, v75 (ix3 0 p k) = ((g p k : ℝ) : EReal)) (p : Fin 256) (k : Fin 704) :
    k1_pay22 (F := Ideal) v75 (ix2 p k) = ((g p k : ℝ) : EReal) := by
  pointwise [k1_pay22]
  simp only [h75, reals] <;> rfl

/-- The kept gate slab, first chunk. -/
theorem pay23_at {g : Fin 256 → Fin 704 → ℝ}
    {v76 : FVec Ideal S256x704 .bf16}
    (h76 : ∀ p k, v76 (ix2 p k) = ((g p k : ℝ) : EReal)) (p : Fin 256) (k : Fin 704) :
    k1_pay23 (F := Ideal) v76 (ix2 p k) = ((g p k : ℝ) : EReal) := by
  pointwise [k1_pay23]
  simp only [h76, reals] <;> rfl

/-- The kept up slab, first chunk. -/
theorem pay24_at {u : Fin 256 → Fin 704 → ℝ}
    {v78 : Vec Ideal S1x256x704 .bf16}
    (h78 : ∀ p k, v78 (ix3 0 p k) = ((u p k : ℝ) : EReal)) (p : Fin 256) (k : Fin 704) :
    k1_pay24 (F := Ideal) v78 (ix2 p k) = ((u p k : ℝ) : EReal) := by
  pointwise [k1_pay24]
  simp only [h78, reals] <;> rfl

/-- The logistic function of the gate, first chunk. -/
theorem pay25_at {g : Fin 256 → Fin 704 → ℝ}
    {v76 : FVec Ideal S256x704 .bf16}
    (h76 : ∀ p k, v76 (ix2 p k) = ((g p k : ℝ) : EReal)) (p : Fin 256) (k : Fin 704) :
    k1_pay25 (F := Ideal) v76 (ix2 p k) = ((lgst (g p k) : ℝ) : EReal) := by
  pointwise [k1_pay25]
  simp only [h76, pay23_at h76, reals] <;> rfl

/-- The gate times its logistic function, first chunk. -/
theorem pay26_at {g : Fin 256 → Fin 704 → ℝ}
    {v76 : FVec Ideal S256x704 .bf16}
    (h76 : ∀ p k, v76 (ix2 p k) = ((g p k : ℝ) : EReal)) (p : Fin 256) (k : Fin 704) :
    k1_pay26 (F := Ideal) v76 (ix2 p k) = ((g p k * lgst (g p k) : ℝ) : EReal) := by
  pointwise [k1_pay26]
  simp only [h76, pay23_at h76, pay25_at h76, reals] <;> rfl

/-- The activation as it is stored, first chunk. -/
theorem pay27_at {g : Fin 256 → Fin 704 → ℝ} {u : Fin 256 → Fin 704 → ℝ}
    {v76 : FVec Ideal S256x704 .bf16} {v78 : Vec Ideal S1x256x704 .bf16}
    (h76 : ∀ p k, v76 (ix2 p k) = ((g p k : ℝ) : EReal)) (h78 : ∀ p k, v78 (ix3 0 p k) = ((u p k : ℝ) : EReal)) (p : Fin 256) (k : Fin 704) :
    k1_pay27 (F := Ideal) v76 v78 (ix3 0 p k) = ((g p k * lgst (g p k) * u p k : ℝ) : EReal) := by
  pointwise [k1_pay27]
  simp only [h76, h78, pay26_at h76, pay24_at h78, reals] <;> rfl

/-- The gradient at the activation, first chunk. -/
theorem pay28_at {D : Fin 256 → Fin 1024 → ℝ} {w : Fin 704 → Fin 1024 → ℝ}
    {v72 : FVec Ideal S256x1024 .bf16} {v94 : Vec Ideal S1x704x1024 .bf16}
    (h72 : ∀ p k, v72 (ix2 p k) = ((D p k : ℝ) : EReal)) (h94 : ∀ p k, v94 (ix3 0 p k) = ((w p k : ℝ) : EReal)) (p : Fin 256) (k : Fin 704) :
    k1_pay28 (F := Ideal) v72 v94 (ix2 p k) = (((∑ i, D p i * w k i) : ℝ) : EReal) := by
  pointwise [k1_pay28]
  simp only [h72, h94, reals] <;> rfl

/-- The gradient at the up half, first chunk. -/
theorem pay29_at {D : Fin 256 → Fin 1024 → ℝ} {g : Fin 256 → Fin 704 → ℝ} {w : Fin 704 → Fin 1024 → ℝ}
    {v72 : FVec Ideal S256x1024 .bf16} {v76 : FVec Ideal S256x704 .bf16} {v94 : Vec Ideal S1x704x1024 .bf16}
    (h72 : ∀ p k, v72 (ix2 p k) = ((D p k : ℝ) : EReal)) (h76 : ∀ p k, v76 (ix2 p k) = ((g p k : ℝ) : EReal)) (h94 : ∀ p k, v94 (ix3 0 p k) = ((w p k : ℝ) : EReal)) (p : Fin 256) (k : Fin 704) :
    k1_pay29 (F := Ideal) v72 v76 v94 (ix2 p k) = (((∑ i, D p i * w k i) * (g p k * lgst (g p k)) : ℝ) : EReal) := by
  pointwise [k1_pay29]
  simp only [h72, h76, h94, pay28_at h72 h94, pay26_at h76, reals] <;> rfl

/-- The gradient at the gate half, first chunk. -/
theorem pay30_at {D : Fin 256 → Fin 1024 → ℝ} {g : Fin 256 → Fin 704 → ℝ} {u : Fin 256 → Fin 704 → ℝ} {w : Fin 704 → Fin 1024 → ℝ}
    {v72 : FVec Ideal S256x1024 .bf16} {v76 : FVec Ideal S256x704 .bf16} {v78 : Vec Ideal S1x256x704 .bf16} {v94 : Vec Ideal S1x704x1024 .bf16}
    (h72 : ∀ p k, v72 (ix2 p k) = ((D p k : ℝ) : EReal)) (h76 : ∀ p k, v76 (ix2 p k) = ((g p k : ℝ) : EReal)) (h78 : ∀ p k, v78 (ix3 0 p k) = ((u p k : ℝ) : EReal)) (h94 : ∀ p k, v94 (ix3 0 p k) = ((w p k : ℝ) : EReal)) (p : Fin 256) (k : Fin 704) :
    k1_pay30 (F := Ideal) v72 v76 v78 v94 (ix2 p k) = (((∑ i, D p i * w k i) * u p k * (lgst (g p k) * (1 + g p k * (1 - lgst (g p k)))) : ℝ) : EReal) := by
  pointwise [k1_pay30]
  simp only [h72, h76, h78, h94, pay28_at h72 h94, pay24_at h78, pay23_at h76, pay25_at h76, reals] <;> rfl

/-- The same, as it is stored. -/
theorem pay31_at {D : Fin 256 → Fin 1024 → ℝ} {g : Fin 256 → Fin 704 → ℝ} {u : Fin 256 → Fin 704 → ℝ} {w : Fin 704 → Fin 1024 → ℝ}
    {v72 : FVec Ideal S256x1024 .bf16} {v76 : FVec Ideal S256x704 .bf16} {v78 : Vec Ideal S1x256x704 .bf16} {v94 : Vec Ideal S1x704x1024 .bf16}
    (h72 : ∀ p k, v72 (ix2 p k) = ((D p k : ℝ) : EReal)) (h76 : ∀ p k, v76 (ix2 p k) = ((g p k : ℝ) : EReal)) (h78 : ∀ p k, v78 (ix3 0 p k) = ((u p k : ℝ) : EReal)) (h94 : ∀ p k, v94 (ix3 0 p k) = ((w p k : ℝ) : EReal)) (p : Fin 256) (k : Fin 704) :
    k1_pay31 (F := Ideal) v72 v76 v78 v94 (ix3 0 p k) = (((∑ i, D p i * w k i) * u p k * (lgst (g p k) * (1 + g p k * (1 - lgst (g p k)))) : ℝ) : EReal) := by
  pointwise [k1_pay31]
  simp only [h72, h76, h78, h94, pay30_at h72 h76 h78 h94, reals] <;> rfl

/-- The gradient at the up half, as it is stored. -/
theorem pay32_at {D : Fin 256 → Fin 1024 → ℝ} {g : Fin 256 → Fin 704 → ℝ} {w : Fin 704 → Fin 1024 → ℝ}
    {v72 : FVec Ideal S256x1024 .bf16} {v76 : FVec Ideal S256x704 .bf16} {v94 : Vec Ideal S1x704x1024 .bf16}
    (h72 : ∀ p k, v72 (ix2 p k) = ((D p k : ℝ) : EReal)) (h76 : ∀ p k, v76 (ix2 p k) = ((g p k : ℝ) : EReal)) (h94 : ∀ p k, v94 (ix3 0 p k) = ((w p k : ℝ) : EReal)) (p : Fin 256) (k : Fin 704) :
    k1_pay32 (F := Ideal) v72 v76 v94 (ix3 0 p k) = (((∑ i, D p i * w k i) * (g p k * lgst (g p k)) : ℝ) : EReal) := by
  pointwise [k1_pay32]
  simp only [h72, h76, h94, pay29_at h72 h76 h94, reals] <;> rfl

/-- The pulled back gradient, first chunk added. -/
theorem pay33_at {e : Fin 256 → Fin 1024 → ℝ} {u : Fin 256 → Fin 704 → ℝ} {q : Fin 256 → Fin 704 → ℝ} {wg : Fin 704 → Fin 1024 → ℝ} {wu : Fin 704 → Fin 1024 → ℝ}
    {v74 : FVec Ideal S256x1024 .f32} {v98 : FVec Ideal S256x704 .bf16} {v107 : FVec Ideal S256x704 .bf16} {v114 : Vec Ideal S1x704x1024 .bf16} {v118 : Vec Ideal S1x704x1024 .bf16}
    (h74 : ∀ p k, v74 (ix2 p k) = ((e p k : ℝ) : EReal)) (h98 : ∀ p k, v98 (ix2 p k) = ((u p k : ℝ) : EReal)) (h107 : ∀ p k, v107 (ix2 p k) = ((q p k : ℝ) : EReal)) (h114 : ∀ p k, v114 (ix3 0 p k) = ((wg p k : ℝ) : EReal)) (h118 : ∀ p k, v118 (ix3 0 p k) = ((wu p k : ℝ) : EReal)) (p : Fin 256) (k : Fin 1024) :
    k1_pay33 (F := Ideal) v74 v98 v107 v114 v118 (ix2 p k) = ((e p k + (∑ i, q p i * wg i k) + ∑ i, u p i * wu i k : ℝ) : EReal) := by
  pointwise [k1_pay33]
  simp only [h74, h98, h107, h114, h118, reals] <;> rfl

/-- The kept gate slab, second chunk. -/
theorem pay34_at {g : Fin 256 → Fin 704 → ℝ}
    {v122 : Vec Ideal S1x256x704 .bf16}
    (h122 : ∀ p k, v122 (ix3 0 p k) = ((g p k : ℝ) : EReal)) (p : Fin 256) (k : Fin 704) :
    k1_pay34 (F := Ideal) v122 (ix2 p k) = ((g p k : ℝ) : EReal) := by
  pointwise [k1_pay34]
  simp only [h122, reals] <;> rfl

/-- The kept up slab, second chunk. -/
theorem pay35_at {u : Fin 256 → Fin 704 → ℝ}
    {v125 : Vec Ideal S1x256x704 .bf16}
    (h125 : ∀ p k, v125 (ix3 0 p k) = ((u p k : ℝ) : EReal)) (p : Fin 256) (k : Fin 704) :
    k1_pay35 (F := Ideal) v125 (ix2 p k) = ((u p k : ℝ) : EReal) := by
  pointwise [k1_pay35]
  simp only [h125, reals] <;> rfl

/-- The logistic function of the gate, second chunk. -/
theorem pay36_at {g : Fin 256 → Fin 704 → ℝ}
    {v122 : Vec Ideal S1x256x704 .bf16}
    (h122 : ∀ p k, v122 (ix3 0 p k) = ((g p k : ℝ) : EReal)) (p : Fin 256) (k : Fin 704) :
    k1_pay36 (F := Ideal) v122 (ix2 p k) = ((lgst (g p k) : ℝ) : EReal) := by
  pointwise [k1_pay36]
  simp only [h122, pay34_at h122, reals] <;> rfl

/-- The gate times its logistic function, second chunk. -/
theorem pay37_at {g : Fin 256 → Fin 704 → ℝ}
    {v122 : Vec Ideal S1x256x704 .bf16}
    (h122 : ∀ p k, v122 (ix3 0 p k) = ((g p k : ℝ) : EReal)) (p : Fin 256) (k : Fin 704) :
    k1_pay37 (F := Ideal) v122 (ix2 p k) = ((g p k * lgst (g p k) : ℝ) : EReal) := by
  pointwise [k1_pay37]
  simp only [h122, pay34_at h122, pay36_at h122, reals] <;> rfl

/-- The activation as it is stored, second chunk. -/
theorem pay38_at {g : Fin 256 → Fin 704 → ℝ} {u : Fin 256 → Fin 704 → ℝ}
    {v122 : Vec Ideal S1x256x704 .bf16} {v125 : Vec Ideal S1x256x704 .bf16}
    (h122 : ∀ p k, v122 (ix3 0 p k) = ((g p k : ℝ) : EReal)) (h125 : ∀ p k, v125 (ix3 0 p k) = ((u p k : ℝ) : EReal)) (p : Fin 256) (k : Fin 704) :
    k1_pay38 (F := Ideal) v122 v125 (ix3 0 p k) = ((g p k * lgst (g p k) * u p k : ℝ) : EReal) := by
  pointwise [k1_pay38]
  simp only [h122, h125, pay37_at h122, pay35_at h125, reals] <;> rfl

/-- The gradient at the activation, second chunk. -/
theorem pay39_at {D : Fin 256 → Fin 1024 → ℝ} {w : Fin 704 → Fin 1024 → ℝ}
    {v72 : FVec Ideal S256x1024 .bf16} {v141 : Vec Ideal S1x704x1024 .bf16}
    (h72 : ∀ p k, v72 (ix2 p k) = ((D p k : ℝ) : EReal)) (h141 : ∀ p k, v141 (ix3 0 p k) = ((w p k : ℝ) : EReal)) (p : Fin 256) (k : Fin 704) :
    k1_pay39 (F := Ideal) v72 v141 (ix2 p k) = (((∑ i, D p i * w k i) : ℝ) : EReal) := by
  pointwise [k1_pay39]
  simp only [h72, h141, reals] <;> rfl

/-- The gradient at the up half, second chunk. -/
theorem pay40_at {D : Fin 256 → Fin 1024 → ℝ} {g : Fin 256 → Fin 704 → ℝ} {w : Fin 704 → Fin 1024 → ℝ}
    {v72 : FVec Ideal S256x1024 .bf16} {v122 : Vec Ideal S1x256x704 .bf16} {v141 : Vec Ideal S1x704x1024 .bf16}
    (h72 : ∀ p k, v72 (ix2 p k) = ((D p k : ℝ) : EReal)) (h122 : ∀ p k, v122 (ix3 0 p k) = ((g p k : ℝ) : EReal)) (h141 : ∀ p k, v141 (ix3 0 p k) = ((w p k : ℝ) : EReal)) (p : Fin 256) (k : Fin 704) :
    k1_pay40 (F := Ideal) v72 v122 v141 (ix2 p k) = (((∑ i, D p i * w k i) * (g p k * lgst (g p k)) : ℝ) : EReal) := by
  pointwise [k1_pay40]
  simp only [h72, h122, h141, pay39_at h72 h141, pay37_at h122, reals] <;> rfl

/-- The gradient at the activation times the up half, second chunk. -/
theorem pay41_at {D : Fin 256 → Fin 1024 → ℝ} {u : Fin 256 → Fin 704 → ℝ} {w : Fin 704 → Fin 1024 → ℝ}
    {v72 : FVec Ideal S256x1024 .bf16} {v125 : Vec Ideal S1x256x704 .bf16} {v141 : Vec Ideal S1x704x1024 .bf16}
    (h72 : ∀ p k, v72 (ix2 p k) = ((D p k : ℝ) : EReal)) (h125 : ∀ p k, v125 (ix3 0 p k) = ((u p k : ℝ) : EReal)) (h141 : ∀ p k, v141 (ix3 0 p k) = ((w p k : ℝ) : EReal)) (p : Fin 256) (k : Fin 704) :
    k1_pay41 (F := Ideal) v72 v125 v141 (ix2 p k) = (((∑ i, D p i * w k i) * u p k : ℝ) : EReal) := by
  pointwise [k1_pay41]
  simp only [h72, h125, h141, pay39_at h72 h141, pay35_at h125, reals] <;> rfl

/-- The gradient at the gate half, second chunk. -/
theorem pay42_at {g : Fin 256 → Fin 704 → ℝ} {s : Fin 256 → Fin 704 → ℝ} {m : Fin 256 → Fin 704 → ℝ} {o : ℝ}
    {v124 : FVec Ideal S256x704 .f32} {v134 : FVec Ideal S256x704 .f32} {v146 : FVec Ideal S256x704 .f32} {v88 : Ideal .f32}
    (h124 : ∀ p k, v124 (ix2 p k) = ((g p k : ℝ) : EReal)) (h134 : ∀ p k, v134 (ix2 p k) = ((s p k : ℝ) : EReal)) (h146 : ∀ p k, v146 (ix2 p k) = ((m p k : ℝ) : EReal)) (h88 : v88 = ((o : ℝ) : EReal)) (p : Fin 256) (k : Fin 704) :
    k1_pay42 (F := Ideal) v124 v134 v146 v88 (ix2 p k) = (((m p k * (s p k * (1 + g p k * (o - s p k)))) : ℝ) : EReal) := by
  pointwise [k1_pay42]
  simp only [h124, h134, h146, h88, reals] <;> rfl

/-- The same, as it is stored. -/
theorem pay43_at {g : Fin 256 → Fin 704 → ℝ} {s : Fin 256 → Fin 704 → ℝ} {m : Fin 256 → Fin 704 → ℝ} {o : ℝ}
    {v124 : FVec Ideal S256x704 .f32} {v134 : FVec Ideal S256x704 .f32} {v146 : FVec Ideal S256x704 .f32} {v88 : Ideal .f32}
    (h124 : ∀ p k, v124 (ix2 p k) = ((g p k : ℝ) : EReal)) (h134 : ∀ p k, v134 (ix2 p k) = ((s p k : ℝ) : EReal)) (h146 : ∀ p k, v146 (ix2 p k) = ((m p k : ℝ) : EReal)) (h88 : v88 = ((o : ℝ) : EReal)) (p : Fin 256) (k : Fin 704) :
    k1_pay43 (F := Ideal) v124 v134 v146 v88 (ix3 0 p k) = (((m p k * (s p k * (1 + g p k * (o - s p k)))) : ℝ) : EReal) := by
  pointwise [k1_pay43]
  simp only [h124, h134, h146, pay42_at h124 h134 h146 h88, reals] <;> rfl

/-- The gradient at the up half, as it is stored. -/
theorem pay44_at {u : Fin 256 → Fin 704 → ℝ}
    {v145 : FVec Ideal S256x704 .bf16}
    (h145 : ∀ p k, v145 (ix2 p k) = ((u p k : ℝ) : EReal)) (p : Fin 256) (k : Fin 704) :
    k1_pay44 (F := Ideal) v145 (ix3 0 p k) = ((u p k : ℝ) : EReal) := by
  pointwise [k1_pay44]
  simp only [h145, reals] <;> rfl

/-- The pulled back gradient, second chunk added. -/
theorem pay45_at {e : Fin 256 → Fin 1024 → ℝ} {g : Fin 256 → Fin 704 → ℝ} {s : Fin 256 → Fin 704 → ℝ} {u : Fin 256 → Fin 704 → ℝ} {m : Fin 256 → Fin 704 → ℝ} {o : ℝ} {wg : Fin 704 → Fin 1024 → ℝ} {wu : Fin 704 → Fin 1024 → ℝ}
    {v121 : FVec Ideal S256x1024 .f32} {v124 : FVec Ideal S256x704 .f32} {v134 : FVec Ideal S256x704 .f32} {v145 : FVec Ideal S256x704 .bf16} {v146 : FVec Ideal S256x704 .f32} {v88 : Ideal .f32} {v161 : Vec Ideal S1x704x1024 .bf16} {v165 : Vec Ideal S1x704x1024 .bf16}
    (h121 : ∀ p k, v121 (ix2 p k) = ((e p k : ℝ) : EReal)) (h124 : ∀ p k, v124 (ix2 p k) = ((g p k : ℝ) : EReal)) (h134 : ∀ p k, v134 (ix2 p k) = ((s p k : ℝ) : EReal)) (h145 : ∀ p k, v145 (ix2 p k) = ((u p k : ℝ) : EReal)) (h146 : ∀ p k, v146 (ix2 p k) = ((m p k : ℝ) : EReal)) (h88 : v88 = ((o : ℝ) : EReal)) (h161 : ∀ p k, v161 (ix3 0 p k) = ((wg p k : ℝ) : EReal)) (h165 : ∀ p k, v165 (ix3 0 p k) = ((wu p k : ℝ) : EReal)) (p : Fin 256) (k : Fin 1024) :
    k1_pay45 (F := Ideal) v121 v124 v134 v145 v146 v88 v161 v165 (ix2 p k) = ((e p k + (∑ i, (m p i * (s p i * (1 + g p i * (o - s p i)))) * wg i k) + ∑ i, u p i * wu i k : ℝ) : EReal) := by
  pointwise [k1_pay45]
  simp only [h121, h124, h134, h145, h146, h161, h165, pay42_at h124 h134 h146 h88, reals] <;> rfl

/-- The kept gate slab, third chunk. -/
theorem pay46_at {g : Fin 256 → Fin 704 → ℝ}
    {v169 : Vec Ideal S1x256x704 .bf16}
    (h169 : ∀ p k, v169 (ix3 0 p k) = ((g p k : ℝ) : EReal)) (p : Fin 256) (k : Fin 704) :
    k1_pay46 (F := Ideal) v169 (ix2 p k) = ((g p k : ℝ) : EReal) := by
  pointwise [k1_pay46]
  simp only [h169, reals] <;> rfl

/-- The kept up slab, third chunk. -/
theorem pay47_at {u : Fin 256 → Fin 704 → ℝ}
    {v172 : Vec Ideal S1x256x704 .bf16}
    (h172 : ∀ p k, v172 (ix3 0 p k) = ((u p k : ℝ) : EReal)) (p : Fin 256) (k : Fin 704) :
    k1_pay47 (F := Ideal) v172 (ix2 p k) = ((u p k : ℝ) : EReal) := by
  pointwise [k1_pay47]
  simp only [h172, reals] <;> rfl

/-- The gate's hyperbolic tangent, halved, third chunk. -/
theorem pay48_at {g : Fin 256 → Fin 704 → ℝ}
    {v169 : Vec Ideal S1x256x704 .bf16}
    (h169 : ∀ p k, v169 (ix3 0 p k) = ((g p k : ℝ) : EReal)) (p : Fin 256) (k : Fin 704) :
    k1_pay48 (F := Ideal) v169 (ix2 p k) = ((1 / 2 * Real.tanh (1 / 2 * g p k) : ℝ) : EReal) := by
  pointwise [k1_pay48]
  simp only [h169, pay46_at h169, reals] <;> rfl

/-- The half of the third chunk. -/
theorem pay49_at (p : Fin 256) (k : Fin 704) : k1_pay49 (F := Ideal) (ix2 p k) = ((1 / 2 : ℝ) : EReal) := by
  pointwise [k1_pay49]
  exact lit_half

/-- The logistic function of the gate, third chunk. -/
theorem pay50_at {t : Fin 256 → Fin 704 → ℝ} {o : Fin 256 → Fin 704 → ℝ}
    {v179 : FVec Ideal S256x704 .f32} {v180 : FVec Ideal S256x704 .f32}
    (h179 : ∀ p k, v179 (ix2 p k) = ((t p k : ℝ) : EReal)) (h180 : ∀ p k, v180 (ix2 p k) = ((o p k : ℝ) : EReal)) (p : Fin 256) (k : Fin 704) :
    k1_pay50 (F := Ideal) v179 v180 (ix2 p k) = ((t p k + o p k : ℝ) : EReal) := by
  pointwise [k1_pay50]
  simp only [h179, h180, reals] <;> rfl

/-- The gate times its logistic function, third chunk. -/
theorem pay51_at {g : Fin 256 → Fin 704 → ℝ} {t : Fin 256 → Fin 704 → ℝ} {o : Fin 256 → Fin 704 → ℝ}
    {v171 : FVec Ideal S256x704 .f32} {v179 : FVec Ideal S256x704 .f32} {v180 : FVec Ideal S256x704 .f32}
    (h171 : ∀ p k, v171 (ix2 p k) = ((g p k : ℝ) : EReal)) (h179 : ∀ p k, v179 (ix2 p k) = ((t p k : ℝ) : EReal)) (h180 : ∀ p k, v180 (ix2 p k) = ((o p k : ℝ) : EReal)) (p : Fin 256) (k : Fin 704) :
    k1_pay51 (F := Ideal) v171 v179 v180 (ix2 p k) = ((g p k * (t p k + o p k) : ℝ) : EReal) := by
  pointwise [k1_pay51]
  simp only [h171, h179, h180, pay50_at h179 h180, reals] <;> rfl

/-- The activation as it is stored, third chunk. -/
theorem pay52_at {g : Fin 256 → Fin 704 → ℝ} {u : Fin 256 → Fin 704 → ℝ} {t : Fin 256 → Fin 704 → ℝ} {o : Fin 256 → Fin 704 → ℝ}
    {v171 : FVec Ideal S256x704 .f32} {v174 : FVec Ideal S256x704 .f32} {v179 : FVec Ideal S256x704 .f32} {v180 : FVec Ideal S256x704 .f32}
    (h171 : ∀ p k, v171 (ix2 p k) = ((g p k : ℝ) : EReal)) (h174 : ∀ p k, v174 (ix2 p k) = ((u p k : ℝ) : EReal)) (h179 : ∀ p k, v179 (ix2 p k) = ((t p k : ℝ) : EReal)) (h180 : ∀ p k, v180 (ix2 p k) = ((o p k : ℝ) : EReal)) (p : Fin 256) (k : Fin 704) :
    k1_pay52 (F := Ideal) v171 v174 v179 v180 (ix3 0 p k) = ((g p k * (t p k + o p k) * u p k : ℝ) : EReal) := by
  pointwise [k1_pay52]
  simp only [h171, h174, h179, h180, pay51_at h171 h179 h180, reals] <;> rfl

/-- The gradient at the activation, third chunk. -/
theorem pay53_at {D : Fin 256 → Fin 1024 → ℝ} {w : Fin 704 → Fin 1024 → ℝ}
    {v72 : FVec Ideal S256x1024 .bf16} {v188 : Vec Ideal S1x704x1024 .bf16}
    (h72 : ∀ p k, v72 (ix2 p k) = ((D p k : ℝ) : EReal)) (h188 : ∀ p k, v188 (ix3 0 p k) = ((w p k : ℝ) : EReal)) (p : Fin 256) (k : Fin 704) :
    k1_pay53 (F := Ideal) v72 v188 (ix2 p k) = (((∑ i, D p i * w k i) : ℝ) : EReal) := by
  pointwise [k1_pay53]
  simp only [h72, h188, reals] <;> rfl

/-- The gradient at the up half, third chunk. -/
theorem pay54_at {D : Fin 256 → Fin 1024 → ℝ} {g : Fin 256 → Fin 704 → ℝ} {t : Fin 256 → Fin 704 → ℝ} {o : Fin 256 → Fin 704 → ℝ} {w : Fin 704 → Fin 1024 → ℝ}
    {v72 : FVec Ideal S256x1024 .bf16} {v171 : FVec Ideal S256x704 .f32} {v179 : FVec Ideal S256x704 .f32} {v180 : FVec Ideal S256x704 .f32} {v188 : Vec Ideal S1x704x1024 .bf16}
    (h72 : ∀ p k, v72 (ix2 p k) = ((D p k : ℝ) : EReal)) (h171 : ∀ p k, v171 (ix2 p k) = ((g p k : ℝ) : EReal)) (h179 : ∀ p k, v179 (ix2 p k) = ((t p k : ℝ) : EReal)) (h180 : ∀ p k, v180 (ix2 p k) = ((o p k : ℝ) : EReal)) (h188 : ∀ p k, v188 (ix3 0 p k) = ((w p k : ℝ) : EReal)) (p : Fin 256) (k : Fin 704) :
    k1_pay54 (F := Ideal) v72 v171 v179 v180 v188 (ix2 p k) = (((∑ i, D p i * w k i) * (g p k * (t p k + o p k)) : ℝ) : EReal) := by
  pointwise [k1_pay54]
  simp only [h72, h171, h179, h180, h188, pay53_at h72 h188, pay51_at h171 h179 h180, reals] <;> rfl

/-- The gradient at the gate half, third chunk. -/
theorem pay55_at {D : Fin 256 → Fin 1024 → ℝ} {g : Fin 256 → Fin 704 → ℝ} {u : Fin 256 → Fin 704 → ℝ} {t : Fin 256 → Fin 704 → ℝ} {o : Fin 256 → Fin 704 → ℝ} {w : Fin 704 → Fin 1024 → ℝ}
    {v72 : FVec Ideal S256x1024 .bf16} {v171 : FVec Ideal S256x704 .f32} {v174 : FVec Ideal S256x704 .f32} {v179 : FVec Ideal S256x704 .f32} {v180 : FVec Ideal S256x704 .f32} {v188 : Vec Ideal S1x704x1024 .bf16}
    (h72 : ∀ p k, v72 (ix2 p k) = ((D p k : ℝ) : EReal)) (h171 : ∀ p k, v171 (ix2 p k) = ((g p k : ℝ) : EReal)) (h174 : ∀ p k, v174 (ix2 p k) = ((u p k : ℝ) : EReal)) (h179 : ∀ p k, v179 (ix2 p k) = ((t p k : ℝ) : EReal)) (h180 : ∀ p k, v180 (ix2 p k) = ((o p k : ℝ) : EReal)) (h188 : ∀ p k, v188 (ix3 0 p k) = ((w p k : ℝ) : EReal)) (p : Fin 256) (k : Fin 704) :
    k1_pay55 (F := Ideal) v72 v171 v174 v179 v180 v188 (ix2 p k) = (((∑ i, D p i * w k i) * u p k * ((t p k + o p k) * (1 + g p k * (1 - (t p k + o p k)))) : ℝ) : EReal) := by
  pointwise [k1_pay55]
  simp only [h72, h171, h174, h179, h180, h188, pay53_at h72 h188, pay50_at h179 h180, reals] <;> rfl

/-- The same, as it is stored. -/
theorem pay56_at {D : Fin 256 → Fin 1024 → ℝ} {g : Fin 256 → Fin 704 → ℝ} {u : Fin 256 → Fin 704 → ℝ} {t : Fin 256 → Fin 704 → ℝ} {o : Fin 256 → Fin 704 → ℝ} {w : Fin 704 → Fin 1024 → ℝ}
    {v72 : FVec Ideal S256x1024 .bf16} {v171 : FVec Ideal S256x704 .f32} {v174 : FVec Ideal S256x704 .f32} {v179 : FVec Ideal S256x704 .f32} {v180 : FVec Ideal S256x704 .f32} {v188 : Vec Ideal S1x704x1024 .bf16}
    (h72 : ∀ p k, v72 (ix2 p k) = ((D p k : ℝ) : EReal)) (h171 : ∀ p k, v171 (ix2 p k) = ((g p k : ℝ) : EReal)) (h174 : ∀ p k, v174 (ix2 p k) = ((u p k : ℝ) : EReal)) (h179 : ∀ p k, v179 (ix2 p k) = ((t p k : ℝ) : EReal)) (h180 : ∀ p k, v180 (ix2 p k) = ((o p k : ℝ) : EReal)) (h188 : ∀ p k, v188 (ix3 0 p k) = ((w p k : ℝ) : EReal)) (p : Fin 256) (k : Fin 704) :
    k1_pay56 (F := Ideal) v72 v171 v174 v179 v180 v188 (ix3 0 p k) = (((∑ i, D p i * w k i) * u p k * ((t p k + o p k) * (1 + g p k * (1 - (t p k + o p k)))) : ℝ) : EReal) := by
  pointwise [k1_pay56]
  simp only [h72, h171, h174, h179, h180, h188, pay55_at h72 h171 h174 h179 h180 h188, reals] <;> rfl

/-- The gradient at the up half, as it is stored. -/
theorem pay57_at {D : Fin 256 → Fin 1024 → ℝ} {g : Fin 256 → Fin 704 → ℝ} {t : Fin 256 → Fin 704 → ℝ} {o : Fin 256 → Fin 704 → ℝ} {w : Fin 704 → Fin 1024 → ℝ}
    {v72 : FVec Ideal S256x1024 .bf16} {v171 : FVec Ideal S256x704 .f32} {v179 : FVec Ideal S256x704 .f32} {v180 : FVec Ideal S256x704 .f32} {v188 : Vec Ideal S1x704x1024 .bf16}
    (h72 : ∀ p k, v72 (ix2 p k) = ((D p k : ℝ) : EReal)) (h171 : ∀ p k, v171 (ix2 p k) = ((g p k : ℝ) : EReal)) (h179 : ∀ p k, v179 (ix2 p k) = ((t p k : ℝ) : EReal)) (h180 : ∀ p k, v180 (ix2 p k) = ((o p k : ℝ) : EReal)) (h188 : ∀ p k, v188 (ix3 0 p k) = ((w p k : ℝ) : EReal)) (p : Fin 256) (k : Fin 704) :
    k1_pay57 (F := Ideal) v72 v171 v179 v180 v188 (ix3 0 p k) = (((∑ i, D p i * w k i) * (g p k * (t p k + o p k)) : ℝ) : EReal) := by
  pointwise [k1_pay57]
  simp only [h72, h171, h179, h180, h188, pay54_at h72 h171 h179 h180 h188, reals] <;> rfl

/-- The pulled back gradient, third chunk of the gate half added. -/
theorem pay58_at {D : Fin 256 → Fin 1024 → ℝ} {e : Fin 256 → Fin 1024 → ℝ} {g : Fin 256 → Fin 704 → ℝ} {u : Fin 256 → Fin 704 → ℝ} {t : Fin 256 → Fin 704 → ℝ} {o : Fin 256 → Fin 704 → ℝ} {w : Fin 704 → Fin 1024 → ℝ} {wg : Fin 704 → Fin 1024 → ℝ}
    {v72 : FVec Ideal S256x1024 .bf16} {v168 : FVec Ideal S256x1024 .f32} {v171 : FVec Ideal S256x704 .f32} {v174 : FVec Ideal S256x704 .f32} {v179 : FVec Ideal S256x704 .f32} {v180 : FVec Ideal S256x704 .f32} {v188 : Vec Ideal S1x704x1024 .bf16} {v208 : Vec Ideal S1x704x1024 .bf16}
    (h72 : ∀ p k, v72 (ix2 p k) = ((D p k : ℝ) : EReal)) (h168 : ∀ p k, v168 (ix2 p k) = ((e p k : ℝ) : EReal)) (h171 : ∀ p k, v171 (ix2 p k) = ((g p k : ℝ) : EReal)) (h174 : ∀ p k, v174 (ix2 p k) = ((u p k : ℝ) : EReal)) (h179 : ∀ p k, v179 (ix2 p k) = ((t p k : ℝ) : EReal)) (h180 : ∀ p k, v180 (ix2 p k) = ((o p k : ℝ) : EReal)) (h188 : ∀ p k, v188 (ix3 0 p k) = ((w p k : ℝ) : EReal)) (h208 : ∀ p k, v208 (ix3 0 p k) = ((wg p k : ℝ) : EReal)) (p : Fin 256) (k : Fin 1024) :
    k1_pay58 (F := Ideal) v72 v168 v171 v174 v179 v180 v188 v208 (ix2 p k) = ((e p k + ∑ i, ((∑ j, D p j * w i j) * u p i * ((t p i + o p i) * (1 + g p i * (1 - (t p i + o p i))))) * wg i k : ℝ) : EReal) := by
  pointwise [k1_pay58]
  simp only [h72, h168, h171, h174, h179, h180, h188, h208, pay55_at h72 h171 h174 h179 h180 h188, reals] <;> rfl

/-- The third chunk of the up half. -/
theorem pay59_at {D : Fin 256 → Fin 1024 → ℝ} {g : Fin 256 → Fin 704 → ℝ} {t : Fin 256 → Fin 704 → ℝ} {o : Fin 256 → Fin 704 → ℝ} {w : Fin 704 → Fin 1024 → ℝ} {wu : Fin 704 → Fin 1024 → ℝ}
    {v72 : FVec Ideal S256x1024 .bf16} {v171 : FVec Ideal S256x704 .f32} {v179 : FVec Ideal S256x704 .f32} {v180 : FVec Ideal S256x704 .f32} {v188 : Vec Ideal S1x704x1024 .bf16} {v212 : Vec Ideal S1x704x1024 .bf16}
    (h72 : ∀ p k, v72 (ix2 p k) = ((D p k : ℝ) : EReal)) (h171 : ∀ p k, v171 (ix2 p k) = ((g p k : ℝ) : EReal)) (h179 : ∀ p k, v179 (ix2 p k) = ((t p k : ℝ) : EReal)) (h180 : ∀ p k, v180 (ix2 p k) = ((o p k : ℝ) : EReal)) (h188 : ∀ p k, v188 (ix3 0 p k) = ((w p k : ℝ) : EReal)) (h212 : ∀ p k, v212 (ix3 0 p k) = ((wu p k : ℝ) : EReal)) (p : Fin 256) (k : Fin 1024) :
    k1_pay59 (F := Ideal) v72 v171 v179 v180 v188 v212 (ix2 p k) = ((∑ i, (∑ j, D p j * w i j) * (g p i * (t p i + o p i)) * wu i k : ℝ) : EReal) := by
  pointwise [k1_pay59]
  simp only [h72, h171, h179, h180, h188, h212, pay54_at h72 h171 h179 h180 h188, reals] <;> rfl

/-- The pulled back gradient, third chunk added. -/
theorem pay60_at {e : Fin 256 → Fin 1024 → ℝ} {f : Fin 256 → Fin 1024 → ℝ}
    {v211 : FVec Ideal S256x1024 .f32} {v214 : FVec Ideal S256x1024 .f32}
    (h211 : ∀ p k, v211 (ix2 p k) = ((e p k : ℝ) : EReal)) (h214 : ∀ p k, v214 (ix2 p k) = ((f p k : ℝ) : EReal)) (p : Fin 256) (k : Fin 1024) :
    k1_pay60 (F := Ideal) v211 v214 (ix2 p k) = ((e p k + f p k : ℝ) : EReal) := by
  pointwise [k1_pay60]
  simp only [h211, h214, reals] <;> rfl

/-- The kept gate slab, fourth chunk. -/
theorem pay61_at {g : Fin 256 → Fin 704 → ℝ}
    {v216 : Vec Ideal S1x256x704 .bf16}
    (h216 : ∀ p k, v216 (ix3 0 p k) = ((g p k : ℝ) : EReal)) (p : Fin 256) (k : Fin 704) :
    k1_pay61 (F := Ideal) v216 (ix2 p k) = ((g p k : ℝ) : EReal) := by
  pointwise [k1_pay61]
  simp only [h216, reals] <;> rfl

/-- The kept up slab, fourth chunk. -/
theorem pay62_at {u : Fin 256 → Fin 704 → ℝ}
    {v219 : Vec Ideal S1x256x704 .bf16}
    (h219 : ∀ p k, v219 (ix3 0 p k) = ((u p k : ℝ) : EReal)) (p : Fin 256) (k : Fin 704) :
    k1_pay62 (F := Ideal) v219 (ix2 p k) = ((u p k : ℝ) : EReal) := by
  pointwise [k1_pay62]
  simp only [h219, reals] <;> rfl

/-- The logistic function of the gate, fourth chunk. -/
theorem pay63_at {g : Fin 256 → Fin 704 → ℝ}
    {v216 : Vec Ideal S1x256x704 .bf16}
    (h216 : ∀ p k, v216 (ix3 0 p k) = ((g p k : ℝ) : EReal)) (p : Fin 256) (k : Fin 704) :
    k1_pay63 (F := Ideal) v216 (ix2 p k) = ((lgst (g p k) : ℝ) : EReal) := by
  pointwise [k1_pay63]
  simp only [h216, pay61_at h216, reals] <;> rfl

/-- The gate times its logistic function, fourth chunk. -/
theorem pay64_at {g : Fin 256 → Fin 704 → ℝ}
    {v216 : Vec Ideal S1x256x704 .bf16}
    (h216 : ∀ p k, v216 (ix3 0 p k) = ((g p k : ℝ) : EReal)) (p : Fin 256) (k : Fin 704) :
    k1_pay64 (F := Ideal) v216 (ix2 p k) = ((g p k * lgst (g p k) : ℝ) : EReal) := by
  pointwise [k1_pay64]
  simp only [h216, pay61_at h216, pay63_at h216, reals] <;> rfl

/-- The activation as it is stored, fourth chunk. -/
theorem pay65_at {g : Fin 256 → Fin 704 → ℝ} {u : Fin 256 → Fin 704 → ℝ}
    {v216 : Vec Ideal S1x256x704 .bf16} {v219 : Vec Ideal S1x256x704 .bf16}
    (h216 : ∀ p k, v216 (ix3 0 p k) = ((g p k : ℝ) : EReal)) (h219 : ∀ p k, v219 (ix3 0 p k) = ((u p k : ℝ) : EReal)) (p : Fin 256) (k : Fin 704) :
    k1_pay65 (F := Ideal) v216 v219 (ix3 0 p k) = ((g p k * lgst (g p k) * u p k : ℝ) : EReal) := by
  pointwise [k1_pay65]
  simp only [h216, h219, pay64_at h216, pay62_at h219, reals] <;> rfl

/-- The gradient at the activation, fourth chunk. -/
theorem pay66_at {D : Fin 256 → Fin 1024 → ℝ} {w : Fin 704 → Fin 1024 → ℝ}
    {v72 : FVec Ideal S256x1024 .bf16} {v235 : Vec Ideal S1x704x1024 .bf16}
    (h72 : ∀ p k, v72 (ix2 p k) = ((D p k : ℝ) : EReal)) (h235 : ∀ p k, v235 (ix3 0 p k) = ((w p k : ℝ) : EReal)) (p : Fin 256) (k : Fin 704) :
    k1_pay66 (F := Ideal) v72 v235 (ix2 p k) = (((∑ i, D p i * w k i) : ℝ) : EReal) := by
  pointwise [k1_pay66]
  simp only [h72, h235, reals] <;> rfl

/-- The gradient at the up half, fourth chunk. -/
theorem pay67_at {D : Fin 256 → Fin 1024 → ℝ} {g : Fin 256 → Fin 704 → ℝ} {w : Fin 704 → Fin 1024 → ℝ}
    {v72 : FVec Ideal S256x1024 .bf16} {v216 : Vec Ideal S1x256x704 .bf16} {v235 : Vec Ideal S1x704x1024 .bf16}
    (h72 : ∀ p k, v72 (ix2 p k) = ((D p k : ℝ) : EReal)) (h216 : ∀ p k, v216 (ix3 0 p k) = ((g p k : ℝ) : EReal)) (h235 : ∀ p k, v235 (ix3 0 p k) = ((w p k : ℝ) : EReal)) (p : Fin 256) (k : Fin 704) :
    k1_pay67 (F := Ideal) v72 v216 v235 (ix2 p k) = (((∑ i, D p i * w k i) * (g p k * lgst (g p k)) : ℝ) : EReal) := by
  pointwise [k1_pay67]
  simp only [h72, h216, h235, pay66_at h72 h235, pay64_at h216, reals] <;> rfl

/-- The gradient at the gate half, fourth chunk. -/
theorem pay68_at {D : Fin 256 → Fin 1024 → ℝ} {g : Fin 256 → Fin 704 → ℝ} {u : Fin 256 → Fin 704 → ℝ} {w : Fin 704 → Fin 1024 → ℝ}
    {v72 : FVec Ideal S256x1024 .bf16} {v216 : Vec Ideal S1x256x704 .bf16} {v219 : Vec Ideal S1x256x704 .bf16} {v235 : Vec Ideal S1x704x1024 .bf16}
    (h72 : ∀ p k, v72 (ix2 p k) = ((D p k : ℝ) : EReal)) (h216 : ∀ p k, v216 (ix3 0 p k) = ((g p k : ℝ) : EReal)) (h219 : ∀ p k, v219 (ix3 0 p k) = ((u p k : ℝ) : EReal)) (h235 : ∀ p k, v235 (ix3 0 p k) = ((w p k : ℝ) : EReal)) (p : Fin 256) (k : Fin 704) :
    k1_pay68 (F := Ideal) v72 v216 v219 v235 (ix2 p k) = (((∑ i, D p i * w k i) * u p k * (lgst (g p k) * (1 + g p k * (1 - lgst (g p k)))) : ℝ) : EReal) := by
  pointwise [k1_pay68]
  simp only [h72, h216, h219, h235, pay66_at h72 h235, pay62_at h219, pay61_at h216, pay63_at h216, reals] <;> rfl

/-- The same, as it is stored. -/
theorem pay69_at {D : Fin 256 → Fin 1024 → ℝ} {g : Fin 256 → Fin 704 → ℝ} {u : Fin 256 → Fin 704 → ℝ} {w : Fin 704 → Fin 1024 → ℝ}
    {v72 : FVec Ideal S256x1024 .bf16} {v216 : Vec Ideal S1x256x704 .bf16} {v219 : Vec Ideal S1x256x704 .bf16} {v235 : Vec Ideal S1x704x1024 .bf16}
    (h72 : ∀ p k, v72 (ix2 p k) = ((D p k : ℝ) : EReal)) (h216 : ∀ p k, v216 (ix3 0 p k) = ((g p k : ℝ) : EReal)) (h219 : ∀ p k, v219 (ix3 0 p k) = ((u p k : ℝ) : EReal)) (h235 : ∀ p k, v235 (ix3 0 p k) = ((w p k : ℝ) : EReal)) (p : Fin 256) (k : Fin 704) :
    k1_pay69 (F := Ideal) v72 v216 v219 v235 (ix3 0 p k) = (((∑ i, D p i * w k i) * u p k * (lgst (g p k) * (1 + g p k * (1 - lgst (g p k)))) : ℝ) : EReal) := by
  pointwise [k1_pay69]
  simp only [h72, h216, h219, h235, pay68_at h72 h216 h219 h235, reals] <;> rfl

/-- The gradient at the up half, as it is stored. -/
theorem pay70_at {u : Fin 256 → Fin 704 → ℝ}
    {v239 : FVec Ideal S256x704 .bf16}
    (h239 : ∀ p k, v239 (ix2 p k) = ((u p k : ℝ) : EReal)) (p : Fin 256) (k : Fin 704) :
    k1_pay70 (F := Ideal) v239 (ix3 0 p k) = ((u p k : ℝ) : EReal) := by
  pointwise [k1_pay70]
  simp only [h239, reals] <;> rfl

/-- The pulled back gradient, fourth chunk added. -/
theorem pay71_at {e : Fin 256 → Fin 1024 → ℝ} {u : Fin 256 → Fin 704 → ℝ} {q : Fin 256 → Fin 704 → ℝ} {wg : Fin 704 → Fin 1024 → ℝ} {wu : Fin 704 → Fin 1024 → ℝ}
    {v215 : FVec Ideal S256x1024 .f32} {v239 : FVec Ideal S256x704 .bf16} {v248 : FVec Ideal S256x704 .bf16} {v255 : Vec Ideal S1x704x1024 .bf16} {v259 : Vec Ideal S1x704x1024 .bf16}
    (h215 : ∀ p k, v215 (ix2 p k) = ((e p k : ℝ) : EReal)) (h239 : ∀ p k, v239 (ix2 p k) = ((u p k : ℝ) : EReal)) (h248 : ∀ p k, v248 (ix2 p k) = ((q p k : ℝ) : EReal)) (h255 : ∀ p k, v255 (ix3 0 p k) = ((wg p k : ℝ) : EReal)) (h259 : ∀ p k, v259 (ix3 0 p k) = ((wu p k : ℝ) : EReal)) (p : Fin 256) (k : Fin 1024) :
    k1_pay71 (F := Ideal) v215 v239 v248 v255 v259 (ix2 p k) = ((e p k + (∑ i, q p i * wg i k) + ∑ i, u p i * wu i k : ℝ) : EReal) := by
  pointwise [k1_pay71]
  simp only [h215, h239, h248, h255, h259, reals] <;> rfl

/-- The gradient at the scale. -/
theorem pay72_at {n : Fin 256 → Fin 1024 → ℝ} {D : Fin 256 → Fin 1024 → ℝ}
    {v27 : FVec Ideal S256x1024 .f32} {v215 : FVec Ideal S256x1024 .f32} {v239 : FVec Ideal S256x704 .bf16} {v248 : FVec Ideal S256x704 .bf16} {v255 : Vec Ideal S1x704x1024 .bf16} {v259 : Vec Ideal S1x704x1024 .bf16}
    (h27 : ∀ p k, v27 (ix2 p k) = ((n p k : ℝ) : EReal)) (hD : ∀ p k, k1_pay71 (F := Ideal) v215 v239 v248 v255 v259 (ix2 p k) = ((D p k : ℝ) : EReal)) (k : Fin 1024) :
    k1_pay72 (F := Ideal) v27 v215 v239 v248 v255 v259 (ix2 0 k) = ((∑ p, D p k * n p k : ℝ) : EReal) := by
  pointwise [k1_pay72]
  simp only [h27, hD, reals] <;> rfl

/-- The gradient at the shift. -/
theorem pay73_at {D : Fin 256 → Fin 1024 → ℝ}
    {v215 : FVec Ideal S256x1024 .f32} {v239 : FVec Ideal S256x704 .bf16} {v248 : FVec Ideal S256x704 .bf16} {v255 : Vec Ideal S1x704x1024 .bf16} {v259 : Vec Ideal S1x704x1024 .bf16}
    (hD : ∀ p k, k1_pay71 (F := Ideal) v215 v239 v248 v255 v259 (ix2 p k) = ((D p k : ℝ) : EReal)) (k : Fin 1024) :
    k1_pay73 (F := Ideal) v215 v239 v248 v255 v259 (ix2 0 k) = ((∑ p, D p k : ℝ) : EReal) := by
  pointwise [k1_pay73]
  simp only [hD, reals] <;> rfl

/-- The gradient at the normalised input times the gain. -/
theorem pay74_at {sc : Fin 1024 → ℝ} {D : Fin 256 → Fin 1024 → ℝ}
    {v9 : FVec Ideal S1x1024 .f32} {v215 : FVec Ideal S256x1024 .f32} {v239 : FVec Ideal S256x704 .bf16} {v248 : FVec Ideal S256x704 .bf16} {v255 : Vec Ideal S1x704x1024 .bf16} {v259 : Vec Ideal S1x704x1024 .bf16}
    (h9 : ∀ k, v9 (ix2 0 k) = ((sc k : ℝ) : EReal)) (hD : ∀ p k, k1_pay71 (F := Ideal) v215 v239 v248 v255 v259 (ix2 p k) = ((D p k : ℝ) : EReal)) (p : Fin 256) (k : Fin 1024) :
    k1_pay74 (F := Ideal) v9 v215 v239 v248 v255 v259 (ix2 p k) = ((D p k * (1 + sc k) : ℝ) : EReal) := by
  pointwise [k1_pay74]
  simp only [h9, hD, reals] <;> rfl

/-- The gradient at the first gain. -/
theorem pay75_at {sc : Fin 1024 → ℝ} {xh : Fin 256 → Fin 1024 → ℝ} {D : Fin 256 → Fin 1024 → ℝ}
    {v9 : FVec Ideal S1x1024 .f32} {v25 : FVec Ideal S256x1024 .f32} {v215 : FVec Ideal S256x1024 .f32} {v239 : FVec Ideal S256x704 .bf16} {v248 : FVec Ideal S256x704 .bf16} {v255 : Vec Ideal S1x704x1024 .bf16} {v259 : Vec Ideal S1x704x1024 .bf16}
    (h9 : ∀ k, v9 (ix2 0 k) = ((sc k : ℝ) : EReal)) (h25 : ∀ p k, v25 (ix2 p k) = ((xh p k : ℝ) : EReal)) (hD : ∀ p k, k1_pay71 (F := Ideal) v215 v239 v248 v255 v259 (ix2 p k) = ((D p k : ℝ) : EReal)) (k : Fin 1024) :
    k1_pay75 (F := Ideal) v9 v25 v215 v239 v248 v255 v259 (ix2 0 k) = ((∑ p, D p k * (1 + sc k) * xh p k : ℝ) : EReal) := by
  pointwise [k1_pay75]
  simp only [h9, h25, hD, pay74_at h9 hD, reals] <;> rfl

/-- The gradient at the block's input. -/
theorem pay76_at {d : Fin 256 → Fin 1024 → ℝ} {sc : Fin 1024 → ℝ} {g : Fin 1024 → ℝ} {r : Fin 256 → ℝ} {xh : Fin 256 → Fin 1024 → ℝ} {D : Fin 256 → Fin 1024 → ℝ}
    {v3 : FVec Ideal S256x1024 .f32} {v9 : FVec Ideal S1x1024 .f32} {v13 : FVec Ideal S1x1024 .f32} {v23 : FVec Ideal S256x1 .f32} {v25 : FVec Ideal S256x1024 .f32} {v215 : FVec Ideal S256x1024 .f32} {v239 : FVec Ideal S256x704 .bf16} {v248 : FVec Ideal S256x704 .bf16} {v255 : Vec Ideal S1x704x1024 .bf16} {v259 : Vec Ideal S1x704x1024 .bf16}
    (h3 : ∀ p k, v3 (ix2 p k) = ((d p k : ℝ) : EReal)) (h9 : ∀ k, v9 (ix2 0 k) = ((sc k : ℝ) : EReal)) (h13 : ∀ k, v13 (ix2 0 k) = ((g k : ℝ) : EReal)) (h23 : ∀ p, v23 (ix2 p 0) = ((r p : ℝ) : EReal)) (h25 : ∀ p k, v25 (ix2 p k) = ((xh p k : ℝ) : EReal)) (hD : ∀ p k, k1_pay71 (F := Ideal) v215 v239 v248 v255 v259 (ix2 p k) = ((D p k : ℝ) : EReal)) (p : Fin 256) (k : Fin 1024) :
    k1_pay76 (F := Ideal) v3 v9 v13 v23 v25 v215 v239 v248 v255 v259 (ix2 p k) = ((d p k + rmsBack (r p) (xh p) (fun i => D p i * (1 + sc i) * g i) k : ℝ) : EReal) := by
  pointwise [k1_pay76]
  simp only [h3, h9, h13, h23, h25, hD, pay74_at h9 hD, reals] <;> rfl

/-- One row added into its accumulator. -/
theorem pay79_at {a : Fin 1024 → ℝ} {v267 : FVec Ideal S1x1024 .f32} (v305 : Vec Ideal S1x1x1024 .f32)
    (h267 : ∀ k, v267 (ix2 0 k) = ((a k : ℝ) : EReal)) (k : Fin 1024) :
    k1_pay79 (F := Ideal) v267 v305 (ix3 0 0 k) = (v305 (ix3 0 0 k) + ((a k : ℝ) : EReal) : EReal) := by
  pointwise [k1_pay79]
  rw [h267]

/-- One row added into its accumulator. -/
theorem pay80_at {a : Fin 1024 → ℝ} {v265 : FVec Ideal S1x1024 .f32} (v311 : Vec Ideal S1x1x1024 .f32)
    (h265 : ∀ k, v265 (ix2 0 k) = ((a k : ℝ) : EReal)) (k : Fin 1024) :
    k1_pay80 (F := Ideal) v265 v311 (ix3 0 0 k) = (v311 (ix3 0 0 k) + ((a k : ℝ) : EReal) : EReal) := by
  pointwise [k1_pay80]
  rw [h265]

/-- One row added into its accumulator. -/
theorem pay81_at {a : Fin 1024 → ℝ} {v52 : FVec Ideal S1x1024 .f32} (v317 : Vec Ideal S1x1x1024 .f32)
    (h52 : ∀ k, v52 (ix2 0 k) = ((a k : ℝ) : EReal)) (k : Fin 1024) :
    k1_pay81 (F := Ideal) v52 v317 (ix2 0 k) = (v317 (ix3 0 0 k) + ((a k : ℝ) : EReal) : EReal) := by
  pointwise [k1_pay81]
  rw [h52]

/-- One row added into its accumulator. -/
theorem pay2_at {a : Fin 1024 → ℝ} {v274 : FVec Ideal S1x1024 .f32} (v323 : Vec Ideal S1x1024 .f32)
    (h274 : ∀ k, v274 (ix2 0 k) = ((a k : ℝ) : EReal)) (k : Fin 1024) :
    k1_pay2 (F := Ideal) v274 v323 (ix2 0 k) = (v323 (ix2 0 k) + ((a k : ℝ) : EReal) : EReal) := by
  pointwise [k1_pay2]
  rw [h274]

/-- One row added into its accumulator. -/
theorem pay3_at {a : Fin 1024 → ℝ} {v59 : FVec Ideal S1x1024 .f32} (v327 : Vec Ideal S1x1024 .f32)
    (h59 : ∀ k, v59 (ix2 0 k) = ((a k : ℝ) : EReal)) (k : Fin 1024) :
    k1_pay3 (F := Ideal) v59 v327 (ix2 0 k) = (v327 (ix2 0 k) + ((a k : ℝ) : EReal) : EReal) := by
  pointwise [k1_pay3]
  rw [h59]

/-- A row as it is stored. -/
theorem pay1_at (v319 : FVec Ideal S1x1024 .f32) (k : Fin 1024) :
    k1_pay1 (F := Ideal) v319 (ix3 0 0 k) = v319 (ix2 0 k) := by
  pointwise [k1_pay1]

/-- The accumulators start from zero. -/
theorem pay77_at (i : Fin 8) (k : Fin 1024) : k1_pay77 (F := Ideal) (ix3 0 i k) = (0 : EReal) := by
  pointwise [k1_pay77]

/-- The accumulators start from zero. -/
theorem pay78_at (i : Fin 8) (k : Fin 1024) : k1_pay78 (F := Ideal) (ix2 i k) = (0 : EReal) := by
  pointwise [k1_pay78]

end Cert.Kernel2Ideal.Bwd

end
-- ==== Proof.FfnPay.lean ====
module

public import proofs.«01_k».proof.Proof.Gen.Kernel2Ideal.Skeleton
public import proofs.«01_k».proof.Proof.Reals
public import Idealize.ShloMosaic.Lib.Pointwise

@[expose] public section

set_option maxRecDepth 16384

/-!
What each value of the forward call's body is at an index, when the values it is computed from are real numbers.
-/

noncomputable section

namespace Cert.Kernel2Ideal.Fwd

open Cert.Kernel2Ideal Cert.Kernel2Ideal.Gen Cert.Ffn
open Idealize.ShloMosaic Idealize.ShloMosaic.TcCoe Idealize.SL.Sem

/-- The input block. -/
theorem pay3_at {x : Fin 256 → Fin 1024 → ℝ}
    {v0 : Vec Ideal S256x1024 .f32}
    (h0 : ∀ p k, v0 (ix2 p k) = ((x p k : ℝ) : EReal)) (p : Fin 256) (k : Fin 1024) :
    k0_pay3 (F := Ideal) v0 (ix2 p k) = ((x p k : ℝ) : EReal) := by
  pointwise [k0_pay3]
  simp only [h0, reals] <;> rfl

/-- The gate row. -/
theorem pay4_at {s : Fin 1024 → ℝ}
    {v6 : Vec Ideal S1x1x1024 .f32}
    (h6 : ∀ k, v6 (ix3 0 0 k) = ((s k : ℝ) : EReal)) (k : Fin 1024) :
    k0_pay4 (F := Ideal) v6 (ix2 0 k) = ((s k : ℝ) : EReal) := by
  pointwise [k0_pay4]
  simp only [h6, reals] <;> rfl

/-- The modulated input. -/
theorem pay5_at {x : Fin 256 → Fin 1024 → ℝ} {sh : Fin 1024 → ℝ} {sc : Fin 1024 → ℝ} {g : Fin 1024 → ℝ}
    {v0 : Vec Ideal S256x1024 .f32} {v2 : Vec Ideal S1x1x1024 .f32} {v4 : Vec Ideal S1x1x1024 .f32} {v18 : Vec Ideal S1x1024 .f32}
    (h0 : ∀ p k, v0 (ix2 p k) = ((x p k : ℝ) : EReal)) (h2 : ∀ k, v2 (ix3 0 0 k) = ((sh k : ℝ) : EReal)) (h4 : ∀ k, v4 (ix3 0 0 k) = ((sc k : ℝ) : EReal)) (h18 : ∀ k, v18 (ix2 0 k) = ((g k : ℝ) : EReal)) (p : Fin 256) (k : Fin 1024) :
    k0_pay5 (F := Ideal) v0 v2 v4 v18 (ix2 p k) = ((x p k * rrms (x p) * g k * (1 + sc k) + sh k : ℝ) : EReal) := by
  pointwise [k0_pay5]
  simp only [h0, h2, h4, h18, pay3_at h0, reals] <;> rfl

/-- The zero the output projection starts from. -/
theorem pay6_at (p : Fin 256) (k : Fin 1024) : k0_pay6 (F := Ideal) (ix2 p k) = ((0 : ℝ) : EReal) := by
  pointwise [k0_pay6]
  exact EReal.coe_zero.symm

/-- The first gate slab. -/
theorem pay7_at {w : Fin 704 → Fin 1024 → ℝ} {a : Fin 256 → Fin 1024 → ℝ}
    {v0 : Vec Ideal S256x1024 .f32} {v2 : Vec Ideal S1x1x1024 .f32} {v4 : Vec Ideal S1x1x1024 .f32} {v18 : Vec Ideal S1x1024 .f32} {v30 : Vec Ideal S1x704x1024 .bf16}
    (h30 : ∀ p k, v30 (ix3 0 p k) = ((w p k : ℝ) : EReal)) (hH : ∀ p k, k0_pay5 (F := Ideal) v0 v2 v4 v18 (ix2 p k) = ((a p k : ℝ) : EReal)) (p : Fin 256) (k : Fin 704) :
    k0_pay7 (F := Ideal) v0 v2 v4 v18 v30 (ix2 p k) = ((∑ i, a p i * w k i : ℝ) : EReal) := by
  pointwise [k0_pay7]
  simp only [h30, hH, reals] <;> rfl

/-- A slab of the input projection. -/
theorem pay8_at {a : Fin 256 → Fin 1024 → ℝ} {w : Fin 704 → Fin 1024 → ℝ}
    {v28 : FVec Ideal S256x1024 .bf16} {v33 : Vec Ideal S1x704x1024 .bf16}
    (h28 : ∀ p k, v28 (ix2 p k) = ((a p k : ℝ) : EReal)) (h33 : ∀ p k, v33 (ix3 0 p k) = ((w p k : ℝ) : EReal)) (p : Fin 256) (k : Fin 704) :
    k0_pay8 (F := Ideal) v28 v33 (ix2 p k) = ((∑ i, a p i * w k i : ℝ) : EReal) := by
  pointwise [k0_pay8]
  simp only [h28, h33, reals] <;> rfl

/-- A slab of the input projection. -/
theorem pay12_at {a : Fin 256 → Fin 1024 → ℝ} {w : Fin 704 → Fin 1024 → ℝ}
    {v28 : FVec Ideal S256x1024 .bf16} {v58 : Vec Ideal S1x704x1024 .bf16}
    (h28 : ∀ p k, v28 (ix2 p k) = ((a p k : ℝ) : EReal)) (h58 : ∀ p k, v58 (ix3 0 p k) = ((w p k : ℝ) : EReal)) (p : Fin 256) (k : Fin 704) :
    k0_pay12 (F := Ideal) v28 v58 (ix2 p k) = ((∑ i, a p i * w k i : ℝ) : EReal) := by
  pointwise [k0_pay12]
  simp only [h28, h58, reals] <;> rfl

/-- A slab of the input projection. -/
theorem pay13_at {a : Fin 256 → Fin 1024 → ℝ} {w : Fin 704 → Fin 1024 → ℝ}
    {v28 : FVec Ideal S256x1024 .bf16} {v61 : Vec Ideal S1x704x1024 .bf16}
    (h28 : ∀ p k, v28 (ix2 p k) = ((a p k : ℝ) : EReal)) (h61 : ∀ p k, v61 (ix3 0 p k) = ((w p k : ℝ) : EReal)) (p : Fin 256) (k : Fin 704) :
    k0_pay13 (F := Ideal) v28 v61 (ix2 p k) = ((∑ i, a p i * w k i : ℝ) : EReal) := by
  pointwise [k0_pay13]
  simp only [h28, h61, reals] <;> rfl

/-- A slab of the input projection. -/
theorem pay18_at {a : Fin 256 → Fin 1024 → ℝ} {w : Fin 704 → Fin 1024 → ℝ}
    {v28 : FVec Ideal S256x1024 .bf16} {v86 : Vec Ideal S1x704x1024 .bf16}
    (h28 : ∀ p k, v28 (ix2 p k) = ((a p k : ℝ) : EReal)) (h86 : ∀ p k, v86 (ix3 0 p k) = ((w p k : ℝ) : EReal)) (p : Fin 256) (k : Fin 704) :
    k0_pay18 (F := Ideal) v28 v86 (ix2 p k) = ((∑ i, a p i * w k i : ℝ) : EReal) := by
  pointwise [k0_pay18]
  simp only [h28, h86, reals] <;> rfl

/-- A slab of the input projection. -/
theorem pay19_at {a : Fin 256 → Fin 1024 → ℝ} {w : Fin 704 → Fin 1024 → ℝ}
    {v28 : FVec Ideal S256x1024 .bf16} {v89 : Vec Ideal S1x704x1024 .bf16}
    (h28 : ∀ p k, v28 (ix2 p k) = ((a p k : ℝ) : EReal)) (h89 : ∀ p k, v89 (ix3 0 p k) = ((w p k : ℝ) : EReal)) (p : Fin 256) (k : Fin 704) :
    k0_pay19 (F := Ideal) v28 v89 (ix2 p k) = ((∑ i, a p i * w k i : ℝ) : EReal) := by
  pointwise [k0_pay19]
  simp only [h28, h89, reals] <;> rfl

/-- A slab of the input projection. -/
theorem pay23_at {a : Fin 256 → Fin 1024 → ℝ} {w : Fin 704 → Fin 1024 → ℝ}
    {v28 : FVec Ideal S256x1024 .bf16} {v114 : Vec Ideal S1x704x1024 .bf16}
    (h28 : ∀ p k, v28 (ix2 p k) = ((a p k : ℝ) : EReal)) (h114 : ∀ p k, v114 (ix3 0 p k) = ((w p k : ℝ) : EReal)) (p : Fin 256) (k : Fin 704) :
    k0_pay23 (F := Ideal) v28 v114 (ix2 p k) = ((∑ i, a p i * w k i : ℝ) : EReal) := by
  pointwise [k0_pay23]
  simp only [h28, h114, reals] <;> rfl

/-- A slab of the input projection. -/
theorem pay24_at {a : Fin 256 → Fin 1024 → ℝ} {w : Fin 704 → Fin 1024 → ℝ}
    {v28 : FVec Ideal S256x1024 .bf16} {v117 : Vec Ideal S1x704x1024 .bf16}
    (h28 : ∀ p k, v28 (ix2 p k) = ((a p k : ℝ) : EReal)) (h117 : ∀ p k, v117 (ix3 0 p k) = ((w p k : ℝ) : EReal)) (p : Fin 256) (k : Fin 704) :
    k0_pay24 (F := Ideal) v28 v117 (ix2 p k) = ((∑ i, a p i * w k i : ℝ) : EReal) := by
  pointwise [k0_pay24]
  simp only [h28, h117, reals] <;> rfl

/-- A slab, as it is kept. -/
theorem pay10_at {a : Fin 256 → Fin 1024 → ℝ} {w : Fin 704 → Fin 1024 → ℝ}
    {v28 : FVec Ideal S256x1024 .bf16} {v33 : Vec Ideal S1x704x1024 .bf16}
    (h28 : ∀ p k, v28 (ix2 p k) = ((a p k : ℝ) : EReal)) (h33 : ∀ p k, v33 (ix3 0 p k) = ((w p k : ℝ) : EReal)) (p : Fin 256) (k : Fin 704) :
    k0_pay10 (F := Ideal) v28 v33 (ix3 0 p k) = ((∑ i, a p i * w k i : ℝ) : EReal) := by
  pointwise [k0_pay10]
  simp only [h28, h33, pay8_at h28 h33, reals] <;> rfl

/-- A slab, as it is kept. -/
theorem pay20_at {a : Fin 256 → Fin 1024 → ℝ} {w : Fin 704 → Fin 1024 → ℝ}
    {v28 : FVec Ideal S256x1024 .bf16} {v86 : Vec Ideal S1x704x1024 .bf16}
    (h28 : ∀ p k, v28 (ix2 p k) = ((a p k : ℝ) : EReal)) (h86 : ∀ p k, v86 (ix3 0 p k) = ((w p k : ℝ) : EReal)) (p : Fin 256) (k : Fin 704) :
    k0_pay20 (F := Ideal) v28 v86 (ix3 0 p k) = ((∑ i, a p i * w k i : ℝ) : EReal) := by
  pointwise [k0_pay20]
  simp only [h28, h86, pay18_at h28 h86, reals] <;> rfl

/-- A slab, as it is kept. -/
theorem pay21_at {a : Fin 256 → Fin 1024 → ℝ} {w : Fin 704 → Fin 1024 → ℝ}
    {v28 : FVec Ideal S256x1024 .bf16} {v89 : Vec Ideal S1x704x1024 .bf16}
    (h28 : ∀ p k, v28 (ix2 p k) = ((a p k : ℝ) : EReal)) (h89 : ∀ p k, v89 (ix3 0 p k) = ((w p k : ℝ) : EReal)) (p : Fin 256) (k : Fin 704) :
    k0_pay21 (F := Ideal) v28 v89 (ix3 0 p k) = ((∑ i, a p i * w k i : ℝ) : EReal) := by
  pointwise [k0_pay21]
  simp only [h28, h89, pay19_at h28 h89, reals] <;> rfl

/-- A slab, as it is kept. -/
theorem pay25_at {a : Fin 256 → Fin 1024 → ℝ} {w : Fin 704 → Fin 1024 → ℝ}
    {v28 : FVec Ideal S256x1024 .bf16} {v114 : Vec Ideal S1x704x1024 .bf16}
    (h28 : ∀ p k, v28 (ix2 p k) = ((a p k : ℝ) : EReal)) (h114 : ∀ p k, v114 (ix3 0 p k) = ((w p k : ℝ) : EReal)) (p : Fin 256) (k : Fin 704) :
    k0_pay25 (F := Ideal) v28 v114 (ix3 0 p k) = ((∑ i, a p i * w k i : ℝ) : EReal) := by
  pointwise [k0_pay25]
  simp only [h28, h114, pay23_at h28 h114, reals] <;> rfl

/-- A slab, as it is kept. -/
theorem pay26_at {a : Fin 256 → Fin 1024 → ℝ} {w : Fin 704 → Fin 1024 → ℝ}
    {v28 : FVec Ideal S256x1024 .bf16} {v117 : Vec Ideal S1x704x1024 .bf16}
    (h28 : ∀ p k, v28 (ix2 p k) = ((a p k : ℝ) : EReal)) (h117 : ∀ p k, v117 (ix3 0 p k) = ((w p k : ℝ) : EReal)) (p : Fin 256) (k : Fin 704) :
    k0_pay26 (F := Ideal) v28 v117 (ix3 0 p k) = ((∑ i, a p i * w k i : ℝ) : EReal) := by
  pointwise [k0_pay26]
  simp only [h28, h117, pay24_at h28 h117, reals] <;> rfl

/-- A slab, narrowed. -/
theorem pay14_at {a : Fin 256 → Fin 1024 → ℝ} {w : Fin 704 → Fin 1024 → ℝ}
    {v28 : FVec Ideal S256x1024 .bf16} {v58 : Vec Ideal S1x704x1024 .bf16}
    (h28 : ∀ p k, v28 (ix2 p k) = ((a p k : ℝ) : EReal)) (h58 : ∀ p k, v58 (ix3 0 p k) = ((w p k : ℝ) : EReal)) (p : Fin 256) (k : Fin 704) :
    k0_pay14 (F := Ideal) v28 v58 (ix2 p k) = ((∑ i, a p i * w k i : ℝ) : EReal) := by
  pointwise [k0_pay14]
  simp only [h28, h58, pay12_at h28 h58, reals] <;> rfl

/-- A slab, as it is kept. -/
theorem pay9_at {g : Fin 256 → Fin 704 → ℝ}
    {v32 : FVec Ideal S256x704 .f32}
    (h32 : ∀ p k, v32 (ix2 p k) = ((g p k : ℝ) : EReal)) (p : Fin 256) (k : Fin 704) :
    k0_pay9 (F := Ideal) v32 (ix3 0 p k) = ((g p k : ℝ) : EReal) := by
  pointwise [k0_pay9]
  simp only [h32, reals] <;> rfl

/-- A slab, as it is kept. -/
theorem pay15_at {g : Fin 256 → Fin 704 → ℝ}
    {v64 : FVec Ideal S256x704 .bf16}
    (h64 : ∀ p k, v64 (ix2 p k) = ((g p k : ℝ) : EReal)) (p : Fin 256) (k : Fin 704) :
    k0_pay15 (F := Ideal) v64 (ix3 0 p k) = ((g p k : ℝ) : EReal) := by
  pointwise [k0_pay15]
  simp only [h64, reals] <;> rfl

/-- A slab, as it is kept. -/
theorem pay16_at {g : Fin 256 → Fin 704 → ℝ}
    {v63 : FVec Ideal S256x704 .f32}
    (h63 : ∀ p k, v63 (ix2 p k) = ((g p k : ℝ) : EReal)) (p : Fin 256) (k : Fin 704) :
    k0_pay16 (F := Ideal) v63 (ix3 0 p k) = ((g p k : ℝ) : EReal) := by
  pointwise [k0_pay16]
  simp only [h63, reals] <;> rfl

/-- The output projection, the first chunk added. -/
theorem pay11_at {a : Fin 256 → Fin 1024 → ℝ} {y : Fin 256 → Fin 1024 → ℝ} {g : Fin 256 → Fin 704 → ℝ} {u : Fin 704 → Fin 1024 → ℝ} {w : Fin 704 → Fin 1024 → ℝ}
    {v28 : FVec Ideal S256x1024 .bf16} {v29 : FVec Ideal S256x1024 .f32} {v32 : FVec Ideal S256x704 .f32} {v33 : Vec Ideal S1x704x1024 .bf16} {v54 : Vec Ideal S1x704x1024 .bf16}
    (h28 : ∀ p k, v28 (ix2 p k) = ((a p k : ℝ) : EReal)) (h29 : ∀ p k, v29 (ix2 p k) = ((y p k : ℝ) : EReal)) (h32 : ∀ p k, v32 (ix2 p k) = ((g p k : ℝ) : EReal)) (h33 : ∀ p k, v33 (ix3 0 p k) = ((u p k : ℝ) : EReal)) (h54 : ∀ p k, v54 (ix3 0 p k) = ((w p k : ℝ) : EReal)) (p : Fin 256) (k : Fin 1024) :
    k0_pay11 (F := Ideal) v28 v29 v32 v33 v54 (ix2 p k) = ((y p k + ∑ i, g p i * lgst (g p i) * (∑ j, a p j * u i j) * w i k : ℝ) : EReal) := by
  pointwise [k0_pay11]
  simp only [h28, h29, h32, h33, h54, pay8_at h28 h33, reals] <;> rfl

/-- The output projection, one more chunk added. -/
theorem pay17_at {y : Fin 256 → Fin 1024 → ℝ} {g : Fin 256 → Fin 704 → ℝ} {u : Fin 256 → Fin 704 → ℝ} {w : Fin 704 → Fin 1024 → ℝ}
    {v57 : FVec Ideal S256x1024 .f32} {v60 : FVec Ideal S256x704 .f32} {v63 : FVec Ideal S256x704 .f32} {v82 : Vec Ideal S1x704x1024 .bf16}
    (h57 : ∀ p k, v57 (ix2 p k) = ((y p k : ℝ) : EReal)) (h60 : ∀ p k, v60 (ix2 p k) = ((g p k : ℝ) : EReal)) (h63 : ∀ p k, v63 (ix2 p k) = ((u p k : ℝ) : EReal)) (h82 : ∀ p k, v82 (ix3 0 p k) = ((w p k : ℝ) : EReal)) (p : Fin 256) (k : Fin 1024) :
    k0_pay17 (F := Ideal) v57 v60 v63 v82 (ix2 p k) = ((y p k + ∑ i, g p i * lgst (g p i) * u p i * w i k : ℝ) : EReal) := by
  pointwise [k0_pay17]
  simp only [h57, h60, h63, h82, reals] <;> rfl

/-- The output projection, one more chunk added. -/
theorem pay22_at {y : Fin 256 → Fin 1024 → ℝ} {g : Fin 256 → Fin 704 → ℝ} {u : Fin 256 → Fin 704 → ℝ} {w : Fin 704 → Fin 1024 → ℝ}
    {v85 : FVec Ideal S256x1024 .f32} {v88 : FVec Ideal S256x704 .f32} {v91 : FVec Ideal S256x704 .f32} {v110 : Vec Ideal S1x704x1024 .bf16}
    (h85 : ∀ p k, v85 (ix2 p k) = ((y p k : ℝ) : EReal)) (h88 : ∀ p k, v88 (ix2 p k) = ((g p k : ℝ) : EReal)) (h91 : ∀ p k, v91 (ix2 p k) = ((u p k : ℝ) : EReal)) (h110 : ∀ p k, v110 (ix3 0 p k) = ((w p k : ℝ) : EReal)) (p : Fin 256) (k : Fin 1024) :
    k0_pay22 (F := Ideal) v85 v88 v91 v110 (ix2 p k) = ((y p k + ∑ i, g p i * lgst (g p i) * u p i * w i k : ℝ) : EReal) := by
  pointwise [k0_pay22]
  simp only [h85, h88, h91, h110, reals] <;> rfl

/-- The fourth gate slab's hyperbolic tangent, halved. -/
theorem pay27_at {a : Fin 256 → Fin 1024 → ℝ} {w : Fin 704 → Fin 1024 → ℝ}
    {v28 : FVec Ideal S256x1024 .bf16} {v114 : Vec Ideal S1x704x1024 .bf16}
    (h28 : ∀ p k, v28 (ix2 p k) = ((a p k : ℝ) : EReal)) (h114 : ∀ p k, v114 (ix3 0 p k) = ((w p k : ℝ) : EReal)) (p : Fin 256) (k : Fin 704) :
    k0_pay27 (F := Ideal) v28 v114 (ix2 p k) = ((1 / 2 * Real.tanh (1 / 2 * ∑ i, a p i * w k i) : ℝ) : EReal) := by
  pointwise [k0_pay27]
  simp only [h28, h114, pay23_at h28 h114, reals] <;> rfl

/-- The output projection, the last chunk added. -/
theorem pay1_at {y : Fin 256 → Fin 1024 → ℝ} {g : Fin 256 → Fin 704 → ℝ} {u : Fin 256 → Fin 704 → ℝ} {s : Fin 256 → Fin 704 → ℝ} {w : Fin 704 → Fin 1024 → ℝ}
    {v113 : FVec Ideal S256x1024 .f32} {v116 : FVec Ideal S256x704 .f32} {v119 : FVec Ideal S256x704 .f32} {v132 : FVec Ideal S256x704 .f32} {v138 : Vec Ideal S1x704x1024 .bf16}
    (h113 : ∀ p k, v113 (ix2 p k) = ((y p k : ℝ) : EReal)) (h116 : ∀ p k, v116 (ix2 p k) = ((g p k : ℝ) : EReal)) (h119 : ∀ p k, v119 (ix2 p k) = ((u p k : ℝ) : EReal)) (h132 : ∀ p k, v132 (ix2 p k) = ((s p k : ℝ) : EReal)) (h138 : ∀ p k, v138 (ix3 0 p k) = ((w p k : ℝ) : EReal)) (p : Fin 256) (k : Fin 1024) :
    k0_pay1 (F := Ideal) v113 v116 v119 v132 (Scalar.ofBits (F := Ideal) .f32 0x3F000000#32) v138 (ix2 p k) = ((y p k + ∑ i, g p i * (s p i + 1 / 2) * u p i * w i k : ℝ) : EReal) := by
  pointwise [k0_pay1]
  simp only [h113, h116, h119, h132, h138, reals] <;> rfl

/-- The block's output. -/
theorem pay2_at {x : Fin 256 → Fin 1024 → ℝ} {gt : Fin 1024 → ℝ} {g : Fin 1024 → ℝ} {Y : Fin 256 → Fin 1024 → ℝ}
    {v1 : FVec Ideal S256x1024 .f32} {v7 : FVec Ideal S1x1024 .f32} {v113 : FVec Ideal S256x1024 .f32} {v116 : FVec Ideal S256x704 .f32} {v119 : FVec Ideal S256x704 .f32} {v132 : FVec Ideal S256x704 .f32} {v88 : Ideal .f32} {v138 : Vec Ideal S1x704x1024 .bf16} {v155 : Vec Ideal S1x1024 .f32}
    (h1 : ∀ p k, v1 (ix2 p k) = ((x p k : ℝ) : EReal)) (h7 : ∀ k, v7 (ix2 0 k) = ((gt k : ℝ) : EReal)) (h155 : ∀ k, v155 (ix2 0 k) = ((g k : ℝ) : EReal)) (hY : ∀ p k, k0_pay1 (F := Ideal) v113 v116 v119 v132 v88 v138 (ix2 p k) = ((Y p k : ℝ) : EReal)) (p : Fin 256) (k : Fin 1024) :
    k0_pay2 (F := Ideal) v1 v7 v113 v116 v119 v132 v88 v138 v155 (ix2 p k) = ((x p k + 1 / 2 * gt k * (Y p k * rrms (Y p) * g k) : ℝ) : EReal) := by
  pointwise [k0_pay2]
  simp only [h1, h7, h155, hY, reals] <;> rfl

end Cert.Kernel2Ideal.Fwd

end
-- ==== Proof.FfnFwd.lean ====
module

public import proofs.«01_k».proof.Proof.Gen.Kernel2Ideal.Frame
public import proofs.«01_k».proof.Proof.FfnPay
public import proofs.«01_k».proof.Proof.Kernel

@[expose] public section

set_option maxRecDepth 16384

/-!
What one grid point of the forward call leaves, when its blocks hold the numbers of 256 tokens of one sequence.
-/

noncomputable section

namespace Cert.Kernel2Ideal.Fwd

open Cert.Kernel2Ideal Cert.Kernel2Ideal.Gen Cert.Ffn
open Cert.KernelIdeal.Value (Tile idx_plane eta2 eta3)
open Idealize.ShloMosaic Idealize.ShloMosaic.TcCoe Idealize.SL.Sem

/-- The blocks of the forward call hold the tile's numbers. -/
structure Holds (x0 : Vec Ideal S256x1024 .f32) (x1 : Vec Ideal S1x8x1024 .f32) (x2 : Vec Ideal S8x1024 .f32)
    (x3 : Vec Ideal S8x704x1024 .bf16) (x4 : Vec Ideal S4x704x1024 .bf16) (Z : Tile) : Prop where
  x : ∀ p k, x0 (ix2 p k) = ((Z.x p k : ℝ) : EReal)
  sh : ∀ k, x1 (ix3 0 0 k) = ((Z.sh k : ℝ) : EReal)
  sc : ∀ k, x1 (ix3 0 1 k) = ((Z.sc k : ℝ) : EReal)
  gt : ∀ k, x1 (ix3 0 2 k) = ((Z.gt k : ℝ) : EReal)
  gpre : ∀ k, x2 (ix2 0 k) = ((Z.gpre k : ℝ) : EReal)
  gpost : ∀ k, x2 (ix2 1 k) = ((Z.gpost k : ℝ) : EReal)
  wi : ∀ g f k, x3 (ix3 g f k) = ((Z.wi k (slab g f) : ℝ) : EReal)
  wo : ∀ c f k, x4 (ix3 c f k) = ((Z.wo (ch c f) k : ℝ) : EReal)

variable {x0 : Vec Ideal S256x1024 .f32} {x1 : Vec Ideal S1x8x1024 .f32} {x2 : Vec Ideal S8x1024 .f32}
  {x3 : Vec Ideal S8x704x1024 .bf16} {x4 : Vec Ideal S4x704x1024 .bf16} {Z : Tile}

/-! ### The pieces of the blocks the body loads -/

theorem ld0 (H : Holds x0 x1 x2 x3 x4 Z) (p : Fin 256) (k : Fin 1024) : View.ld x0 r0_0 (ix2 p k) = ((Z.x p k : ℝ) : EReal) := by
  pointwise [r0_0]
  exact H.x p k
theorem ld1 (H : Holds x0 x1 x2 x3 x4 Z) (k : Fin 1024) : View.ld x1 r0_1 (ix3 0 0 k) = ((Z.sh k : ℝ) : EReal) := by
  pointwise [r0_1]
  exact H.sh k
theorem ld2 (H : Holds x0 x1 x2 x3 x4 Z) (k : Fin 1024) : View.ld x1 r0_2 (ix3 0 0 k) = ((Z.sc k : ℝ) : EReal) := by
  pointwise [r0_2]
  exact H.sc k
theorem ld3 (H : Holds x0 x1 x2 x3 x4 Z) (k : Fin 1024) : View.ld x1 r0_3 (ix3 0 0 k) = ((Z.gt k : ℝ) : EReal) := by
  pointwise [r0_3]
  exact H.gt k
theorem ld4 (H : Holds x0 x1 x2 x3 x4 Z) (k : Fin 1024) : View.ld x2 r0_4 (ix2 0 k) = ((Z.gpre k : ℝ) : EReal) := by
  pointwise [r0_4]
  exact H.gpre k
theorem ld25 (H : Holds x0 x1 x2 x3 x4 Z) (k : Fin 1024) : View.ld x2 r0_25 (ix2 0 k) = ((Z.gpost k : ℝ) : EReal) := by
  pointwise [r0_25]
  exact H.gpost k
theorem ld5 (H : Holds x0 x1 x2 x3 x4 Z) (f : Fin 704) (k : Fin 1024) : View.ld x3 r0_5 (ix3 0 f k) = ((Z.wi k (slab 0 f) : ℝ) : EReal) := by
  pointwise [r0_5]
  exact H.wi 0 f k
theorem ld6 (H : Holds x0 x1 x2 x3 x4 Z) (f : Fin 704) (k : Fin 1024) : View.ld x3 r0_6 (ix3 0 f k) = ((Z.wi k (slab 4 f) : ℝ) : EReal) := by
  pointwise [r0_6]
  exact H.wi 4 f k
theorem ld10 (H : Holds x0 x1 x2 x3 x4 Z) (f : Fin 704) (k : Fin 1024) : View.ld x3 r0_10 (ix3 0 f k) = ((Z.wi k (slab 1 f) : ℝ) : EReal) := by
  pointwise [r0_10]
  exact H.wi 1 f k
theorem ld11 (H : Holds x0 x1 x2 x3 x4 Z) (f : Fin 704) (k : Fin 1024) : View.ld x3 r0_11 (ix3 0 f k) = ((Z.wi k (slab 5 f) : ℝ) : EReal) := by
  pointwise [r0_11]
  exact H.wi 5 f k
theorem ld15 (H : Holds x0 x1 x2 x3 x4 Z) (f : Fin 704) (k : Fin 1024) : View.ld x3 r0_15 (ix3 0 f k) = ((Z.wi k (slab 2 f) : ℝ) : EReal) := by
  pointwise [r0_15]
  exact H.wi 2 f k
theorem ld16 (H : Holds x0 x1 x2 x3 x4 Z) (f : Fin 704) (k : Fin 1024) : View.ld x3 r0_16 (ix3 0 f k) = ((Z.wi k (slab 6 f) : ℝ) : EReal) := by
  pointwise [r0_16]
  exact H.wi 6 f k
theorem ld20 (H : Holds x0 x1 x2 x3 x4 Z) (f : Fin 704) (k : Fin 1024) : View.ld x3 r0_20 (ix3 0 f k) = ((Z.wi k (slab 3 f) : ℝ) : EReal) := by
  pointwise [r0_20]
  exact H.wi 3 f k
theorem ld21 (H : Holds x0 x1 x2 x3 x4 Z) (f : Fin 704) (k : Fin 1024) : View.ld x3 r0_21 (ix3 0 f k) = ((Z.wi k (slab 7 f) : ℝ) : EReal) := by
  pointwise [r0_21]
  exact H.wi 7 f k
theorem ld9 (H : Holds x0 x1 x2 x3 x4 Z) (f : Fin 704) (k : Fin 1024) : View.ld x4 r0_9 (ix3 0 f k) = ((Z.wo (ch 0 f) k : ℝ) : EReal) := by
  pointwise [r0_9]
  exact H.wo 0 f k
theorem ld14 (H : Holds x0 x1 x2 x3 x4 Z) (f : Fin 704) (k : Fin 1024) : View.ld x4 r0_14 (ix3 0 f k) = ((Z.wo (ch 1 f) k : ℝ) : EReal) := by
  pointwise [r0_14]
  exact H.wo 1 f k
theorem ld19 (H : Holds x0 x1 x2 x3 x4 Z) (f : Fin 704) (k : Fin 1024) : View.ld x4 r0_19 (ix3 0 f k) = ((Z.wo (ch 2 f) k : ℝ) : EReal) := by
  pointwise [r0_19]
  exact H.wo 2 f k
theorem ld24 (H : Holds x0 x1 x2 x3 x4 Z) (f : Fin 704) (k : Fin 1024) : View.ld x4 r0_24 (ix3 0 f k) = ((Z.wo (ch 3 f) k : ℝ) : EReal) := by
  pointwise [r0_24]
  exact H.wo 3 f k

/-! ### The body's values -/

/-- A gate slab of a token's input projection. -/
theorem gate_slab (T : Tok) (c : Fin 4) (g : Fin 8) (f : Fin 704) (h : g.val = c.val) :
    ∑ i, T.h i * T.wi i (slab g f) = T.gate (ch c f) := by
  rw [slab_gate c f g h]
  rfl

/-- An up slab of a token's input projection. -/
theorem up_slab (T : Tok) (c : Fin 4) (g : Fin 8) (f : Fin 704) (h : g.val = 4 + c.val) :
    ∑ i, T.h i * T.wi i (slab g f) = T.up (ch c f) := by
  rw [slab_up c f g h]
  rfl

/-- The modulated input. -/
theorem v28_at (H : Holds x0 x1 x2 x3 x4 Z) (p : Fin 256) (k : Fin 1024) :
    k0_pay28 x0 x1 x2 x3 x4 (ix2 p k) = (((Z.tok p).h k : ℝ) : EReal) :=
  pay5_at (ld0 H) (ld1 H) (ld2 H) (ld4 H) p k

/-- The first gate slab. -/
theorem v29_at (H : Holds x0 x1 x2 x3 x4 Z) (p : Fin 256) (f : Fin 704) :
    k0_pay29 x0 x1 x2 x3 x4 (ix2 p f) = (((Z.tok p).gate (ch 0 f) : ℝ) : EReal) :=
  (pay7_at (a := fun p k => (Z.tok p).h k) (ld5 H) (v28_at H) p f).trans (congrArg Real.toEReal (gate_slab (Z.tok p) 0 0 f rfl))

/-- The second gate slab. -/
theorem v12_at (H : Holds x0 x1 x2 x3 x4 Z) (p : Fin 256) (f : Fin 704) :
    k0_pay12 (k0_pay28 x0 x1 x2 x3 x4) (View.ld x3 r0_10) (ix2 p f) = (((Z.tok p).gate (ch 1 f) : ℝ) : EReal) :=
  (pay12_at (v28_at H) (ld10 H) p f).trans (congrArg Real.toEReal (gate_slab (Z.tok p) 1 1 f rfl))

/-- The second up slab. -/
theorem v30_at (H : Holds x0 x1 x2 x3 x4 Z) (p : Fin 256) (f : Fin 704) :
    k0_pay30 x0 x1 x2 x3 x4 (ix2 p f) = (((Z.tok p).up (ch 1 f) : ℝ) : EReal) :=
  (pay13_at (v28_at H) (ld11 H) p f).trans (congrArg Real.toEReal (up_slab (Z.tok p) 1 5 f rfl))

/-- The third gate slab. -/
theorem v18_at (H : Holds x0 x1 x2 x3 x4 Z) (p : Fin 256) (f : Fin 704) :
    k0_pay18 (k0_pay28 x0 x1 x2 x3 x4) (View.ld x3 r0_15) (ix2 p f) = (((Z.tok p).gate (ch 2 f) : ℝ) : EReal) :=
  (pay18_at (v28_at H) (ld15 H) p f).trans (congrArg Real.toEReal (gate_slab (Z.tok p) 2 2 f rfl))

/-- The third up slab. -/
theorem v19_at (H : Holds x0 x1 x2 x3 x4 Z) (p : Fin 256) (f : Fin 704) :
    k0_pay19 (k0_pay28 x0 x1 x2 x3 x4) (View.ld x3 r0_16) (ix2 p f) = (((Z.tok p).up (ch 2 f) : ℝ) : EReal) :=
  (pay19_at (v28_at H) (ld16 H) p f).trans (congrArg Real.toEReal (up_slab (Z.tok p) 2 6 f rfl))

/-- The fourth gate slab. -/
theorem v32_at (H : Holds x0 x1 x2 x3 x4 Z) (p : Fin 256) (f : Fin 704) :
    k0_pay32 x0 x1 x2 x3 x4 (ix2 p f) = (((Z.tok p).gate (ch 3 f) : ℝ) : EReal) :=
  (pay23_at (v28_at H) (ld20 H) p f).trans (congrArg Real.toEReal (gate_slab (Z.tok p) 3 3 f rfl))

/-- The fourth up slab. -/
theorem v33_at (H : Holds x0 x1 x2 x3 x4 Z) (p : Fin 256) (f : Fin 704) :
    k0_pay33 x0 x1 x2 x3 x4 (ix2 p f) = (((Z.tok p).up (ch 3 f) : ℝ) : EReal) :=
  (pay24_at (v28_at H) (ld21 H) p f).trans (congrArg Real.toEReal (up_slab (Z.tok p) 3 7 f rfl))

/-- The fourth gate slab's hyperbolic tangent, halved. -/
theorem v34_at (H : Holds x0 x1 x2 x3 x4 Z) (p : Fin 256) (f : Fin 704) :
    k0_pay34 x0 x1 x2 x3 x4 (ix2 p f) = ((1 / 2 * Real.tanh (1 / 2 * (Z.tok p).gate (ch 3 f)) : ℝ) : EReal) :=
  (pay27_at (v28_at H) (ld20 H) p f).trans
    (congrArg (fun r : ℝ => ((1 / 2 * Real.tanh (1 / 2 * r) : ℝ) : EReal)) (gate_slab (Z.tok p) 3 3 f rfl))

/-- One chunk's part of the output projection. -/
def part (T : Tok) (c : Fin 4) (k : Fin 1024) : ℝ := ∑ f, T.act (ch c f) * T.wo (ch c f) k

/-- The output projection, chunk by chunk. -/
theorem y_parts (T : Tok) (k : Fin 1024) : T.y k = part T 0 k + part T 1 k + part T 2 k + part T 3 k := by
  unfold Tok.y
  rw [sum_ch]
  rfl

/-- The output projection, its first three chunks. -/
theorem v31_at (H : Holds x0 x1 x2 x3 x4 Z) (p : Fin 256) (k : Fin 1024) :
    k0_pay31 x0 x1 x2 x3 x4 (ix2 p k)
      = ((0 + part (Z.tok p) 0 k + part (Z.tok p) 1 k + part (Z.tok p) 2 k : ℝ) : EReal) := by
  have e0 : ∀ p k, k0_pay11 (k0_pay28 x0 x1 x2 x3 x4) (k0_pay6 (F := Ideal)) (k0_pay29 x0 x1 x2 x3 x4) (View.ld x3 r0_6) (View.ld x4 r0_9) (ix2 p k)
      = ((0 + part (Z.tok p) 0 k : ℝ) : EReal) := fun p k => by
    refine (pay11_at (v28_at H) pay6_at (v29_at H) (ld6 H) (ld9 H) p k).trans (congrArg Real.toEReal ?_)
    have h : ∀ f, ∑ i, (Z.tok p).h i * Z.wi i (slab 4 f) = (Z.tok p).up (ch 0 f) := fun f => up_slab (Z.tok p) 0 4 f rfl
    simp only [h]
    rfl
  have e1 := pay17_at e0 (v12_at H) (v30_at H) (ld14 H)
  exact pay22_at e1 (v18_at H) (v19_at H) (ld19 H) p k

/-- The output projection as it is stored. -/
theorem y_at (H : Holds x0 x1 x2 x3 x4 Z) (p : Fin 256) (k : Fin 1024) :
    k0_pay1 (k0_pay31 x0 x1 x2 x3 x4) (k0_pay32 x0 x1 x2 x3 x4) (k0_pay33 x0 x1 x2 x3 x4) (k0_pay34 x0 x1 x2 x3 x4)
      (Scalar.ofBits .f32 0x3F000000#32) (View.ld x4 r0_24) (ix2 p k) = (((Z.tok p).y k : ℝ) : EReal) := by
  refine (pay1_at (v31_at H) (v32_at H) (v33_at H) (v34_at H) (ld24 H) p k).trans (congrArg Real.toEReal ?_)
  rw [y_parts]
  show 0 + part (Z.tok p) 0 k + part (Z.tok p) 1 k + part (Z.tok p) 2 k + part (Z.tok p) 3 k = _
  rw [zero_add]

/-- The block's output, for one token. -/
def xo (T : Tok) (k : Fin 1024) : ℝ := T.x k + 1 / 2 * T.gt k * T.pn k

/-- The block's output as it is stored. -/
theorem xo_at (H : Holds x0 x1 x2 x3 x4 Z) (p : Fin 256) (k : Fin 1024) :
    k0_pay2 (k0_pay3 x0) (k0_pay4 (View.ld x1 r0_3)) (k0_pay31 x0 x1 x2 x3 x4) (k0_pay32 x0 x1 x2 x3 x4)
      (k0_pay33 x0 x1 x2 x3 x4) (k0_pay34 x0 x1 x2 x3 x4) (Scalar.ofBits .f32 0x3F000000#32) (View.ld x4 r0_24)
      (View.ld x2 r0_25) (ix2 p k) = ((xo (Z.tok p) k : ℝ) : EReal) :=
  pay2_at (Y := fun p k => (Z.tok p).y k) (pay3_at H.x) (pay4_at (ld3 H)) (ld25 H) (y_at H) p k

/-! ### The stored blocks -/

/-- The block of the block's output. -/
theorem out5_at (H : Holds x0 x1 x2 x3 x4 Z) (y : S256x1024.Idx) :
    out0_5 x0 x1 x2 x3 x4 y = ((xo (Z.tok (y 0)) (y 1) : ℝ) : EReal) := by
  unfold out0_5
  frame_out
  rw [eta2 y]
  exact xo_at H (y 0) (y 1)

/-- The block of the output projection. -/
theorem out7_at (H : Holds x0 x1 x2 x3 x4 Z) (y : S256x1024.Idx) :
    out0_7 x0 x1 x2 x3 x4 y = (((Z.tok (y 0)).y (y 1) : ℝ) : EReal) := by
  unfold out0_7
  frame_out
  rw [eta2 y]
  exact y_at H (y 0) (y 1)

/-- The block of the input projection. -/
theorem out6_at (H : Holds x0 x1 x2 x3 x4 Z) (g : Fin 8) (p : Fin 256) (f : Fin 704) :
    out0_6 x0 x1 x2 x3 x4 (ix3 g p f) = (((Z.tok p).gu (slab g f) : ℝ) : EReal) := by
  unfold out0_6
  canon_tiles x h
  case piece0 =>
    have h0' : g.val = 7 + (x 0).val := h0
    obtain rfl : g = 7 := Fin.ext (by show g.val = 7; omega)
    rw [idx_plane x p f h1 h2]
    exact pay26_at (v28_at H) (ld21 H) p f
  case piece1 =>
    have h0' : g.val = 3 + (x 0).val := h0
    obtain rfl : g = 3 := Fin.ext (by show g.val = 3; omega)
    rw [idx_plane x p f h1 h2]
    exact pay25_at (v28_at H) (ld20 H) p f
  case piece2 =>
    have h0' : g.val = 6 + (x 0).val := h0
    obtain rfl : g = 6 := Fin.ext (by show g.val = 6; omega)
    rw [idx_plane x p f h1 h2]
    exact pay21_at (v28_at H) (ld16 H) p f
  case piece3 =>
    have h0' : g.val = 2 + (x 0).val := h0
    obtain rfl : g = 2 := Fin.ext (by show g.val = 2; omega)
    rw [idx_plane x p f h1 h2]
    exact pay20_at (v28_at H) (ld15 H) p f
  case piece4 =>
    have h0' : g.val = 5 + (x 0).val := h0
    obtain rfl : g = 5 := Fin.ext (by show g.val = 5; omega)
    rw [idx_plane x p f h1 h2]
    rw [slab_up 1 f 5 rfl]
    exact pay16_at (v30_at H) p f
  case piece5 =>
    have h0' : g.val = 1 + (x 0).val := h0
    obtain rfl : g = 1 := Fin.ext (by show g.val = 1; omega)
    rw [idx_plane x p f h1 h2]
    exact pay15_at (pay14_at (v28_at H) (ld10 H)) p f
  case piece6 =>
    have h0' : g.val = 4 + (x 0).val := h0
    obtain rfl : g = 4 := Fin.ext (by show g.val = 4; omega)
    rw [idx_plane x p f h1 h2]
    exact pay10_at (v28_at H) (ld6 H) p f
  case piece7 =>
    have h0' : g.val = 0 + (x 0).val := h0.trans (Nat.zero_add _).symm
    obtain rfl : g = 0 := Fin.ext (by show g.val = 0; omega)
    rw [idx_plane x p f h1 h2]
    rw [slab_gate 0 f 0 rfl]
    exact pay9_at (v29_at H) p f

end Cert.Kernel2Ideal.Fwd

end
-- ==== Proof.BwdWords.lean ====
module

public import proofs.«01_k».proof.Proof.BwdPay
public import proofs.«01_k».proof.Proof.FfnFwd

@[expose] public section

set_option maxRecDepth 16384

/-!
The backward call's body, value by value: every value is a function of the blocks of one grid point, and, at an index,
it is the corresponding quantity of the token the row belongs to.
-/

noncomputable section

namespace Cert.Kernel2Ideal.Bwd

open Cert.Kernel2Ideal Cert.Kernel2Ideal.Gen Cert.Ffn
open Cert.KernelIdeal.Value (Tile dh_eq act_eq)
open Idealize.ShloMosaic Idealize.ShloMosaic.TcCoe Idealize.SL.Sem

/-- The input blocks of one grid point of the backward call. -/
structure Blk where
  x0 : Vec Ideal S256x1024 .f32
  x1 : Vec Ideal S256x1024 .f32
  x2 : Vec Ideal S256x1024 .f32
  x3 : Vec Ideal S8x256x704 .bf16
  x4 : Vec Ideal S1x8x1024 .f32
  x5 : Vec Ideal S8x1024 .f32
  x6 : Vec Ideal S8x704x1024 .bf16
  x7 : Vec Ideal S4x704x1024 .bf16

/-- The blocks of the backward call hold the tile's numbers. -/
structure Holds (B : Blk) (Z : Tile) : Prop where
  d : ∀ p k, B.x0 (ix2 p k) = (((Z.tok p).dxo k : ℝ) : EReal)
  x : ∀ p k, B.x1 (ix2 p k) = ((Z.x p k : ℝ) : EReal)
  y : ∀ p k, B.x2 (ix2 p k) = (((Z.tok p).y k : ℝ) : EReal)
  gu : ∀ g p f, B.x3 (ix3 g p f) = (((Z.tok p).gu (slab g f) : ℝ) : EReal)
  sh : ∀ k, B.x4 (ix3 0 0 k) = ((Z.sh k : ℝ) : EReal)
  sc : ∀ k, B.x4 (ix3 0 1 k) = ((Z.sc k : ℝ) : EReal)
  gt : ∀ k, B.x4 (ix3 0 2 k) = ((Z.gt k : ℝ) : EReal)
  gpre : ∀ k, B.x5 (ix2 0 k) = ((Z.gpre k : ℝ) : EReal)
  gpost : ∀ k, B.x5 (ix2 1 k) = ((Z.gpost k : ℝ) : EReal)
  wi : ∀ g f k, B.x6 (ix3 g f k) = ((Z.wi k (slab g f) : ℝ) : EReal)
  wo : ∀ c f k, B.x7 (ix3 c f k) = ((Z.wo (ch c f) k : ℝ) : EReal)

variable (B : Blk)

/-! ### The pieces of the blocks the body loads -/

/-- Slab 0 of the kept input projection. -/
def l3_0 : Vec Ideal S1x256x704 .bf16 := View.ld B.x3 (Rect.unit ![0, 0, 0] ![1, 256, 704] inb_S8x256x704_S1x256x704_0_0_0)
/-- Slab 1 of the kept input projection. -/
def l3_1 : Vec Ideal S1x256x704 .bf16 := View.ld B.x3 (Rect.unit ![1, 0, 0] ![1, 256, 704] inb_S8x256x704_S1x256x704_1_0_0)
/-- Slab 2 of the kept input projection. -/
def l3_2 : Vec Ideal S1x256x704 .bf16 := View.ld B.x3 (Rect.unit ![2, 0, 0] ![1, 256, 704] inb_S8x256x704_S1x256x704_2_0_0)
/-- Slab 3 of the kept input projection. -/
def l3_3 : Vec Ideal S1x256x704 .bf16 := View.ld B.x3 (Rect.unit ![3, 0, 0] ![1, 256, 704] inb_S8x256x704_S1x256x704_3_0_0)
/-- Slab 4 of the kept input projection. -/
def l3_4 : Vec Ideal S1x256x704 .bf16 := View.ld B.x3 (Rect.unit ![4, 0, 0] ![1, 256, 704] inb_S8x256x704_S1x256x704_4_0_0)
/-- Slab 5 of the kept input projection. -/
def l3_5 : Vec Ideal S1x256x704 .bf16 := View.ld B.x3 (Rect.unit ![5, 0, 0] ![1, 256, 704] inb_S8x256x704_S1x256x704_5_0_0)
/-- Slab 6 of the kept input projection. -/
def l3_6 : Vec Ideal S1x256x704 .bf16 := View.ld B.x3 (Rect.unit ![6, 0, 0] ![1, 256, 704] inb_S8x256x704_S1x256x704_6_0_0)
/-- Slab 7 of the kept input projection. -/
def l3_7 : Vec Ideal S1x256x704 .bf16 := View.ld B.x3 (Rect.unit ![7, 0, 0] ![1, 256, 704] inb_S8x256x704_S1x256x704_7_0_0)
/-- Row 0 of the modulation. -/
def l4_0 : Vec Ideal S1x1x1024 .f32 := View.ld B.x4 (Rect.unit ![0, 0, 0] ![1, 1, 1024] inb_S1x8x1024_S1x1x1024_0_0_0)
/-- Row 1 of the modulation. -/
def l4_1 : Vec Ideal S1x1x1024 .f32 := View.ld B.x4 (Rect.unit ![0, 1, 0] ![1, 1, 1024] inb_S1x8x1024_S1x1x1024_0_1_0)
/-- Row 2 of the modulation. -/
def l4_2 : Vec Ideal S1x1x1024 .f32 := View.ld B.x4 (Rect.unit ![0, 2, 0] ![1, 1, 1024] inb_S1x8x1024_S1x1x1024_0_2_0)
/-- Row 0 of the gains. -/
def l5_0 : Vec Ideal S1x1024 .f32 := View.ld B.x5 (Rect.unit ![0, 0] ![1, 1024] inb_S8x1024_S1x1024_0_0)
/-- Row 1 of the gains. -/
def l5_1 : Vec Ideal S1x1024 .f32 := View.ld B.x5 (Rect.unit ![1, 0] ![1, 1024] inb_S8x1024_S1x1024_1_0)
/-- Slab 0 of the input projection. -/
def l6_0 : Vec Ideal S1x704x1024 .bf16 := View.ld B.x6 (Rect.unit ![0, 0, 0] ![1, 704, 1024] inb_S8x704x1024_S1x704x1024_0_0_0)
/-- Slab 1 of the input projection. -/
def l6_1 : Vec Ideal S1x704x1024 .bf16 := View.ld B.x6 (Rect.unit ![1, 0, 0] ![1, 704, 1024] inb_S8x704x1024_S1x704x1024_1_0_0)
/-- Slab 2 of the input projection. -/
def l6_2 : Vec Ideal S1x704x1024 .bf16 := View.ld B.x6 (Rect.unit ![2, 0, 0] ![1, 704, 1024] inb_S8x704x1024_S1x704x1024_2_0_0)
/-- Slab 3 of the input projection. -/
def l6_3 : Vec Ideal S1x704x1024 .bf16 := View.ld B.x6 (Rect.unit ![3, 0, 0] ![1, 704, 1024] inb_S8x704x1024_S1x704x1024_3_0_0)
/-- Slab 4 of the input projection. -/
def l6_4 : Vec Ideal S1x704x1024 .bf16 := View.ld B.x6 (Rect.unit ![4, 0, 0] ![1, 704, 1024] inb_S8x704x1024_S1x704x1024_4_0_0)
/-- Slab 5 of the input projection. -/
def l6_5 : Vec Ideal S1x704x1024 .bf16 := View.ld B.x6 (Rect.unit ![5, 0, 0] ![1, 704, 1024] inb_S8x704x1024_S1x704x1024_5_0_0)
/-- Slab 6 of the input projection. -/
def l6_6 : Vec Ideal S1x704x1024 .bf16 := View.ld B.x6 (Rect.unit ![6, 0, 0] ![1, 704, 1024] inb_S8x704x1024_S1x704x1024_6_0_0)
/-- Slab 7 of the input projection. -/
def l6_7 : Vec Ideal S1x704x1024 .bf16 := View.ld B.x6 (Rect.unit ![7, 0, 0] ![1, 704, 1024] inb_S8x704x1024_S1x704x1024_7_0_0)
/-- Chunk 0 of the output projection. -/
def l7_0 : Vec Ideal S1x704x1024 .bf16 := View.ld B.x7 (Rect.unit ![0, 0, 0] ![1, 704, 1024] inb_S4x704x1024_S1x704x1024_0_0_0)
/-- Chunk 1 of the output projection. -/
def l7_1 : Vec Ideal S1x704x1024 .bf16 := View.ld B.x7 (Rect.unit ![1, 0, 0] ![1, 704, 1024] inb_S4x704x1024_S1x704x1024_1_0_0)
/-- Chunk 2 of the output projection. -/
def l7_2 : Vec Ideal S1x704x1024 .bf16 := View.ld B.x7 (Rect.unit ![2, 0, 0] ![1, 704, 1024] inb_S4x704x1024_S1x704x1024_2_0_0)
/-- Chunk 3 of the output projection. -/
def l7_3 : Vec Ideal S1x704x1024 .bf16 := View.ld B.x7 (Rect.unit ![3, 0, 0] ![1, 704, 1024] inb_S4x704x1024_S1x704x1024_3_0_0)

/-! ### The body's values -/

/-- gradient at the block's output -/
def dxow : FVec Ideal S256x1024 .f32 := k1_pay5 B.x0
/-- the kept output projection -/
def yw : FVec Ideal S256x1024 .f32 := k1_pay6 B.x2
/-- the scale row -/
def scw : FVec Ideal S1x1024 .f32 := k1_pay7 (l4_1 B)
/-- the gate row -/
def gtw : FVec Ideal S1x1024 .f32 := k1_pay8 (l4_2 B)
/-- the first gain -/
def g1w : FVec Ideal S1x1024 .f32 := k1_pay9 (l5_0 B)
/-- the second gain -/
def gpw : FVec Ideal S1x1024 .f32 := k1_pay10 (l5_1 B)
/-- reciprocal root mean square of the input -/
def rw0 : FVec Ideal S256x1 .f32 := k1_pay11 B.x1
/-- normalised input -/
def xhw : FVec Ideal S256x1024 .f32 := k1_pay12 B.x1
/-- normalised input times the gain -/
def nw : FVec Ideal S256x1024 .f32 := k1_pay13 B.x1 (l5_0 B)
/-- modulated input -/
def hw : FVec Ideal S256x1024 .bf16 := k1_pay14 B.x1 (l4_0 B) (l4_1 B) (l5_0 B)
/-- gradient at the output gate -/
def dgtw : FVec Ideal S1x1024 .f32 := k1_pay17 (dxow B) (yw B) (gpw B)
/-- gradient at the second gain -/
def dgpostw : FVec Ideal S1x1024 .f32 := k1_pay19 (dxow B) (yw B) (gtw B)
/-- gradient at the output projection -/
def dyw : FVec Ideal S256x1024 .bf16 := k1_pay20 (dxow B) (yw B) (gtw B) (gpw B)
/-- first gate slab -/
def gb0 : FVec Ideal S256x704 .f32 := k1_pay22 (l3_0 B)
/-- activation, first chunk -/
def act0 : FVec Ideal S1x256x704 .bf16 := k1_pay27 (gb0 B) (l3_4 B)
/-- gradient at the up half, first chunk -/
def du0 : FVec Ideal S256x704 .bf16 := k1_pay29 (dyw B) (gb0 B) (l7_0 B)
/-- gradient at the gate half, first chunk -/
def dg0 : FVec Ideal S256x704 .bf16 := k1_pay30 (dyw B) (gb0 B) (l3_4 B) (l7_0 B)
/-- stored gradient at the gate half, first chunk -/
def og0 : FVec Ideal S1x256x704 .bf16 := k1_pay31 (dyw B) (gb0 B) (l3_4 B) (l7_0 B)
/-- stored gradient at the up half, first chunk -/
def ou0 : FVec Ideal S1x256x704 .bf16 := k1_pay32 (dyw B) (gb0 B) (l7_0 B)
/-- pulled back gradient, one chunk -/
def e1 : FVec Ideal S256x1024 .f32 := k1_pay33 (k1_pay21 (F := Ideal)) (du0 B) (dg0 B) (l6_0 B) (l6_4 B)
/-- second gate slab -/
def gg1 : FVec Ideal S256x704 .f32 := k1_pay34 (l3_1 B)
/-- logistic of the second gate slab -/
def s1 : FVec Ideal S256x704 .f32 := k1_pay36 (l3_1 B)
/-- activation, second chunk -/
def act1 : FVec Ideal S1x256x704 .bf16 := k1_pay38 (l3_1 B) (l3_5 B)
/-- gradient at the up half, second chunk -/
def du1 : FVec Ideal S256x704 .bf16 := k1_pay40 (dyw B) (l3_1 B) (l7_1 B)
/-- gradient at the activation times the up half, second chunk -/
def q1 : FVec Ideal S256x704 .f32 := k1_pay41 (dyw B) (l3_5 B) (l7_1 B)
/-- stored gradient at the gate half, second chunk -/
def og1 : FVec Ideal S1x256x704 .bf16 := k1_pay43 (gg1 B) (s1 B) (q1 B) (FloatOps.ofBits .f32 0x3F800000#32)
/-- stored gradient at the up half, second chunk -/
def ou1 : FVec Ideal S1x256x704 .bf16 := k1_pay44 (du1 B)
/-- pulled back gradient, two chunks -/
def e2 : FVec Ideal S256x1024 .f32 := k1_pay45 (e1 B) (gg1 B) (s1 B) (du1 B) (q1 B) (FloatOps.ofBits .f32 0x3F800000#32) (l6_1 B) (l6_5 B)
/-- third gate slab -/
def g2 : FVec Ideal S256x704 .f32 := k1_pay46 (l3_2 B)
/-- third up slab -/
def u2 : FVec Ideal S256x704 .f32 := k1_pay47 (l3_6 B)
/-- half the hyperbolic tangent of half the third gate slab -/
def t2 : FVec Ideal S256x704 .f32 := k1_pay48 (l3_2 B)
/-- activation, third chunk -/
def act2 : FVec Ideal S1x256x704 .bf16 := k1_pay52 (g2 B) (u2 B) (t2 B) (k1_pay49 (F := Ideal))
/-- stored gradient at the gate half, third chunk -/
def og2 : FVec Ideal S1x256x704 .bf16 := k1_pay56 (dyw B) (g2 B) (u2 B) (t2 B) (k1_pay49 (F := Ideal)) (l7_2 B)
/-- stored gradient at the up half, third chunk -/
def ou2 : FVec Ideal S1x256x704 .bf16 := k1_pay57 (dyw B) (g2 B) (t2 B) (k1_pay49 (F := Ideal)) (l7_2 B)
/-- pulled back gradient, third chunk begun -/
def e3 : FVec Ideal S256x1024 .f32 := k1_pay58 (dyw B) (e2 B) (g2 B) (u2 B) (t2 B) (k1_pay49 (F := Ideal)) (l7_2 B) (l6_2 B)
/-- pulled back gradient, up half of the third chunk -/
def f3 : FVec Ideal S256x1024 .f32 := k1_pay59 (dyw B) (g2 B) (t2 B) (k1_pay49 (F := Ideal)) (l7_2 B) (l6_6 B)
/-- pulled back gradient, three chunks -/
def e4 : FVec Ideal S256x1024 .f32 := k1_pay60 (e3 B) (f3 B)
/-- activation, fourth chunk -/
def act3 : FVec Ideal S1x256x704 .bf16 := k1_pay65 (l3_3 B) (l3_7 B)
/-- gradient at the up half, fourth chunk -/
def du3 : FVec Ideal S256x704 .bf16 := k1_pay67 (dyw B) (l3_3 B) (l7_3 B)
/-- gradient at the gate half, fourth chunk -/
def dg3 : FVec Ideal S256x704 .bf16 := k1_pay68 (dyw B) (l3_3 B) (l3_7 B) (l7_3 B)
/-- stored gradient at the gate half, fourth chunk -/
def og3 : FVec Ideal S1x256x704 .bf16 := k1_pay69 (dyw B) (l3_3 B) (l3_7 B) (l7_3 B)
/-- stored gradient at the up half, fourth chunk -/
def ou3 : FVec Ideal S1x256x704 .bf16 := k1_pay70 (du3 B)
/-- gradient at the modulated input -/
def dhw : FVec Ideal S256x1024 .f32 := k1_pay71 (e4 B) (du3 B) (dg3 B) (l6_3 B) (l6_7 B)
/-- gradient at the scale -/
def dscw : FVec Ideal S1x1024 .f32 := k1_pay72 (nw B) (e4 B) (du3 B) (dg3 B) (l6_3 B) (l6_7 B)
/-- gradient at the shift -/
def dshw : FVec Ideal S1x1024 .f32 := k1_pay73 (e4 B) (du3 B) (dg3 B) (l6_3 B) (l6_7 B)
/-- gradient at the first gain -/
def dgprew : FVec Ideal S1x1024 .f32 := k1_pay75 (scw B) (xhw B) (e4 B) (du3 B) (dg3 B) (l6_3 B) (l6_7 B)
/-- gradient at the block's input -/
def dxw : FVec Ideal S256x1024 .f32 := k1_pay76 (dxow B) (scw B) (g1w B) (rw0 B) (xhw B) (e4 B) (du3 B) (dg3 B) (l6_3 B) (l6_7 B)

/-! ### The values at an index -/

theorem one_eq : (FloatOps.ofBits .f32 0x3F800000#32 : Ideal .f32) = ((1 : ℝ) : EReal) := by
  pointwise []
  exact EReal.coe_one.symm

variable {B} {Z : Tile}

theorem l3_0_at (H : Holds B Z) (p : Fin 256) (k : Fin 704) : l3_0 B (ix3 0 p k) = (((Z.tok p).gate (ch 0 k) : ℝ) : EReal) := by
  pointwise [l3_0]
  exact (H.gu 0 p k).trans (by rw [slab_gate 0 k 0 rfl]; rfl)
theorem l3_1_at (H : Holds B Z) (p : Fin 256) (k : Fin 704) : l3_1 B (ix3 0 p k) = (((Z.tok p).gate (ch 1 k) : ℝ) : EReal) := by
  pointwise [l3_1]
  exact (H.gu 1 p k).trans (by rw [slab_gate 1 k 1 rfl]; rfl)
theorem l3_2_at (H : Holds B Z) (p : Fin 256) (k : Fin 704) : l3_2 B (ix3 0 p k) = (((Z.tok p).gate (ch 2 k) : ℝ) : EReal) := by
  pointwise [l3_2]
  exact (H.gu 2 p k).trans (by rw [slab_gate 2 k 2 rfl]; rfl)
theorem l3_3_at (H : Holds B Z) (p : Fin 256) (k : Fin 704) : l3_3 B (ix3 0 p k) = (((Z.tok p).gate (ch 3 k) : ℝ) : EReal) := by
  pointwise [l3_3]
  exact (H.gu 3 p k).trans (by rw [slab_gate 3 k 3 rfl]; rfl)
theorem l3_4_at (H : Holds B Z) (p : Fin 256) (k : Fin 704) : l3_4 B (ix3 0 p k) = (((Z.tok p).up (ch 0 k) : ℝ) : EReal) := by
  pointwise [l3_4]
  exact (H.gu 4 p k).trans (by rw [slab_up 0 k 4 rfl]; rfl)
theorem l3_5_at (H : Holds B Z) (p : Fin 256) (k : Fin 704) : l3_5 B (ix3 0 p k) = (((Z.tok p).up (ch 1 k) : ℝ) : EReal) := by
  pointwise [l3_5]
  exact (H.gu 5 p k).trans (by rw [slab_up 1 k 5 rfl]; rfl)
theorem l3_6_at (H : Holds B Z) (p : Fin 256) (k : Fin 704) : l3_6 B (ix3 0 p k) = (((Z.tok p).up (ch 2 k) : ℝ) : EReal) := by
  pointwise [l3_6]
  exact (H.gu 6 p k).trans (by rw [slab_up 2 k 6 rfl]; rfl)
theorem l3_7_at (H : Holds B Z) (p : Fin 256) (k : Fin 704) : l3_7 B (ix3 0 p k) = (((Z.tok p).up (ch 3 k) : ℝ) : EReal) := by
  pointwise [l3_7]
  exact (H.gu 7 p k).trans (by rw [slab_up 3 k 7 rfl]; rfl)
theorem l4_0_at (H : Holds B Z) (k : Fin 1024) : l4_0 B (ix3 0 0 k) = ((Z.sh k : ℝ) : EReal) := by
  pointwise [l4_0]
  exact H.sh k
theorem l4_1_at (H : Holds B Z) (k : Fin 1024) : l4_1 B (ix3 0 0 k) = ((Z.sc k : ℝ) : EReal) := by
  pointwise [l4_1]
  exact H.sc k
theorem l4_2_at (H : Holds B Z) (k : Fin 1024) : l4_2 B (ix3 0 0 k) = ((Z.gt k : ℝ) : EReal) := by
  pointwise [l4_2]
  exact H.gt k
theorem l5_0_at (H : Holds B Z) (k : Fin 1024) : l5_0 B (ix2 0 k) = ((Z.gpre k : ℝ) : EReal) := by
  pointwise [l5_0]
  exact H.gpre k
theorem l5_1_at (H : Holds B Z) (k : Fin 1024) : l5_1 B (ix2 0 k) = ((Z.gpost k : ℝ) : EReal) := by
  pointwise [l5_1]
  exact H.gpost k
theorem l6_0_at (H : Holds B Z) (f : Fin 704) (k : Fin 1024) : l6_0 B (ix3 0 f k) = ((Z.wi k (slab 0 f) : ℝ) : EReal) := by
  pointwise [l6_0]
  exact H.wi 0 f k
theorem l6_1_at (H : Holds B Z) (f : Fin 704) (k : Fin 1024) : l6_1 B (ix3 0 f k) = ((Z.wi k (slab 1 f) : ℝ) : EReal) := by
  pointwise [l6_1]
  exact H.wi 1 f k
theorem l6_2_at (H : Holds B Z) (f : Fin 704) (k : Fin 1024) : l6_2 B (ix3 0 f k) = ((Z.wi k (slab 2 f) : ℝ) : EReal) := by
  pointwise [l6_2]
  exact H.wi 2 f k
theorem l6_3_at (H : Holds B Z) (f : Fin 704) (k : Fin 1024) : l6_3 B (ix3 0 f k) = ((Z.wi k (slab 3 f) : ℝ) : EReal) := by
  pointwise [l6_3]
  exact H.wi 3 f k
theorem l6_4_at (H : Holds B Z) (f : Fin 704) (k : Fin 1024) : l6_4 B (ix3 0 f k) = ((Z.wi k (slab 4 f) : ℝ) : EReal) := by
  pointwise [l6_4]
  exact H.wi 4 f k
theorem l6_5_at (H : Holds B Z) (f : Fin 704) (k : Fin 1024) : l6_5 B (ix3 0 f k) = ((Z.wi k (slab 5 f) : ℝ) : EReal) := by
  pointwise [l6_5]
  exact H.wi 5 f k
theorem l6_6_at (H : Holds B Z) (f : Fin 704) (k : Fin 1024) : l6_6 B (ix3 0 f k) = ((Z.wi k (slab 6 f) : ℝ) : EReal) := by
  pointwise [l6_6]
  exact H.wi 6 f k
theorem l6_7_at (H : Holds B Z) (f : Fin 704) (k : Fin 1024) : l6_7 B (ix3 0 f k) = ((Z.wi k (slab 7 f) : ℝ) : EReal) := by
  pointwise [l6_7]
  exact H.wi 7 f k
theorem l7_0_at (H : Holds B Z) (f : Fin 704) (k : Fin 1024) : l7_0 B (ix3 0 f k) = ((Z.wo (ch 0 f) k : ℝ) : EReal) := by
  pointwise [l7_0]
  exact H.wo 0 f k
theorem l7_1_at (H : Holds B Z) (f : Fin 704) (k : Fin 1024) : l7_1 B (ix3 0 f k) = ((Z.wo (ch 1 f) k : ℝ) : EReal) := by
  pointwise [l7_1]
  exact H.wo 1 f k
theorem l7_2_at (H : Holds B Z) (f : Fin 704) (k : Fin 1024) : l7_2 B (ix3 0 f k) = ((Z.wo (ch 2 f) k : ℝ) : EReal) := by
  pointwise [l7_2]
  exact H.wo 2 f k
theorem l7_3_at (H : Holds B Z) (f : Fin 704) (k : Fin 1024) : l7_3 B (ix3 0 f k) = ((Z.wo (ch 3 f) k : ℝ) : EReal) := by
  pointwise [l7_3]
  exact H.wo 3 f k

theorem dxow_at (H : Holds B Z) (p : Fin 256) (k : Fin 1024) :
    dxow B (ix2 p k) = (((Z.tok p).dxo k : ℝ) : EReal) :=
  pay5_at (x := fun p k => (Z.tok p).dxo k) H.d p k
theorem yw_at (H : Holds B Z) (p : Fin 256) (k : Fin 1024) :
    yw B (ix2 p k) = (((Z.tok p).y k : ℝ) : EReal) :=
  pay6_at (x := fun p k => (Z.tok p).y k) H.y p k
theorem scw_at (H : Holds B Z) (k : Fin 1024) :
    scw B (ix2 0 k) = ((Z.sc k : ℝ) : EReal) :=
  pay7_at (l4_1_at H) k
theorem gtw_at (H : Holds B Z) (k : Fin 1024) :
    gtw B (ix2 0 k) = ((Z.gt k : ℝ) : EReal) :=
  pay8_at (l4_2_at H) k
theorem g1w_at (H : Holds B Z) (k : Fin 1024) :
    g1w B (ix2 0 k) = ((Z.gpre k : ℝ) : EReal) :=
  pay9_at (l5_0_at H) k
theorem gpw_at (H : Holds B Z) (k : Fin 1024) :
    gpw B (ix2 0 k) = ((Z.gpost k : ℝ) : EReal) :=
  pay10_at (l5_1_at H) k
theorem rw0_at (H : Holds B Z) (p : Fin 256) :
    rw0 B (ix2 p 0) = (((Z.tok p).r : ℝ) : EReal) :=
  pay11_at H.x p
theorem xhw_at (H : Holds B Z) (p : Fin 256) (k : Fin 1024) :
    xhw B (ix2 p k) = (((Z.tok p).xh k : ℝ) : EReal) :=
  pay12_at H.x p k
theorem nw_at (H : Holds B Z) (p : Fin 256) (k : Fin 1024) :
    nw B (ix2 p k) = (((Z.tok p).n k : ℝ) : EReal) :=
  pay13_at H.x (l5_0_at H) p k
theorem hw_at (H : Holds B Z) (p : Fin 256) (k : Fin 1024) :
    hw B (ix2 p k) = (((Z.tok p).h k : ℝ) : EReal) :=
  pay14_at H.x (l4_0_at H) (l4_1_at H) (l5_0_at H) p k
theorem dgtw_at (H : Holds B Z) (k : Fin 1024) :
    dgtw B (ix2 0 k) = ((∑ p, 1 / 2 * (Z.tok p).dxo k * (Z.tok p).pn k : ℝ) : EReal) :=
  pay17_at (d := fun p k => (Z.tok p).dxo k) (y := fun p k => (Z.tok p).y k) (dxow_at H) (yw_at H) (gpw_at H) k
theorem dgpostw_at (H : Holds B Z) (k : Fin 1024) :
    dgpostw B (ix2 0 k) = ((∑ p, (Z.tok p).dp k * (Z.tok p).yh k : ℝ) : EReal) :=
  pay19_at (d := fun p k => (Z.tok p).dxo k) (y := fun p k => (Z.tok p).y k) (dxow_at H) (yw_at H) (gtw_at H) k
theorem dyw_at (H : Holds B Z) (p : Fin 256) (k : Fin 1024) :
    dyw B (ix2 p k) = (((Z.tok p).dy k : ℝ) : EReal) :=
  pay20_at (d := fun p k => (Z.tok p).dxo k) (y := fun p k => (Z.tok p).y k) (dxow_at H) (yw_at H) (gtw_at H) (gpw_at H) p k
theorem gb0_at (H : Holds B Z) (p : Fin 256) (k : Fin 704) :
    gb0 B (ix2 p k) = (((Z.tok p).gate (ch 0 k) : ℝ) : EReal) :=
  pay22_at (g := fun p k => (Z.tok p).gate (ch 0 k)) (l3_0_at H) p k
theorem act0_at (H : Holds B Z) (p : Fin 256) (k : Fin 704) :
    act0 B (ix3 0 p k) = (((Z.tok p).act (ch 0 k) : ℝ) : EReal) :=
  pay27_at (g := fun p k => (Z.tok p).gate (ch 0 k)) (u := fun p k => (Z.tok p).up (ch 0 k)) (gb0_at H) (l3_4_at H) p k
theorem du0_at (H : Holds B Z) (p : Fin 256) (k : Fin 704) :
    du0 B (ix2 p k) = (((Z.tok p).dup (ch 0 k) : ℝ) : EReal) :=
  pay29_at (D := fun p k => (Z.tok p).dy k) (g := fun p k => (Z.tok p).gate (ch 0 k)) (dyw_at H) (gb0_at H) (l7_0_at H) p k
theorem dg0_at (H : Holds B Z) (p : Fin 256) (k : Fin 704) :
    dg0 B (ix2 p k) = (((Z.tok p).dgate (ch 0 k) : ℝ) : EReal) :=
  pay30_at (D := fun p k => (Z.tok p).dy k) (g := fun p k => (Z.tok p).gate (ch 0 k)) (u := fun p k => (Z.tok p).up (ch 0 k)) (dyw_at H) (gb0_at H) (l3_4_at H) (l7_0_at H) p k
theorem og0_at (H : Holds B Z) (p : Fin 256) (k : Fin 704) :
    og0 B (ix3 0 p k) = (((Z.tok p).dgate (ch 0 k) : ℝ) : EReal) :=
  pay31_at (D := fun p k => (Z.tok p).dy k) (g := fun p k => (Z.tok p).gate (ch 0 k)) (u := fun p k => (Z.tok p).up (ch 0 k)) (dyw_at H) (gb0_at H) (l3_4_at H) (l7_0_at H) p k
theorem ou0_at (H : Holds B Z) (p : Fin 256) (k : Fin 704) :
    ou0 B (ix3 0 p k) = (((Z.tok p).dup (ch 0 k) : ℝ) : EReal) :=
  pay32_at (D := fun p k => (Z.tok p).dy k) (g := fun p k => (Z.tok p).gate (ch 0 k)) (dyw_at H) (gb0_at H) (l7_0_at H) p k
theorem e1_at (H : Holds B Z) (p : Fin 256) (k : Fin 1024) :
    e1 B (ix2 p k) = ((0 + (∑ f, (Z.tok p).dgate (ch 0 f) * Z.wi k (slab 0 f)) + (∑ f, (Z.tok p).dup (ch 0 f) * Z.wi k (slab 4 f)) : ℝ) : EReal) :=
  pay33_at (e := fun _ _ => 0) (u := fun p k => (Z.tok p).dup (ch 0 k)) (q := fun p k => (Z.tok p).dgate (ch 0 k)) pay21_at (du0_at H) (dg0_at H) (l6_0_at H) (l6_4_at H) p k
theorem gg1_at (H : Holds B Z) (p : Fin 256) (k : Fin 704) :
    gg1 B (ix2 p k) = (((Z.tok p).gate (ch 1 k) : ℝ) : EReal) :=
  pay34_at (g := fun p k => (Z.tok p).gate (ch 1 k)) (l3_1_at H) p k
theorem s1_at (H : Holds B Z) (p : Fin 256) (k : Fin 704) :
    s1 B (ix2 p k) = ((lgst ((Z.tok p).gate (ch 1 k)) : ℝ) : EReal) :=
  pay36_at (g := fun p k => (Z.tok p).gate (ch 1 k)) (l3_1_at H) p k
theorem act1_at (H : Holds B Z) (p : Fin 256) (k : Fin 704) :
    act1 B (ix3 0 p k) = (((Z.tok p).act (ch 1 k) : ℝ) : EReal) :=
  pay38_at (g := fun p k => (Z.tok p).gate (ch 1 k)) (u := fun p k => (Z.tok p).up (ch 1 k)) (l3_1_at H) (l3_5_at H) p k
theorem du1_at (H : Holds B Z) (p : Fin 256) (k : Fin 704) :
    du1 B (ix2 p k) = (((Z.tok p).dup (ch 1 k) : ℝ) : EReal) :=
  pay40_at (D := fun p k => (Z.tok p).dy k) (g := fun p k => (Z.tok p).gate (ch 1 k)) (dyw_at H) (l3_1_at H) (l7_1_at H) p k
theorem q1_at (H : Holds B Z) (p : Fin 256) (k : Fin 704) :
    q1 B (ix2 p k) = (((Z.tok p).dact (ch 1 k) * (Z.tok p).up (ch 1 k) : ℝ) : EReal) :=
  pay41_at (D := fun p k => (Z.tok p).dy k) (u := fun p k => (Z.tok p).up (ch 1 k)) (dyw_at H) (l3_5_at H) (l7_1_at H) p k
theorem og1_at (H : Holds B Z) (p : Fin 256) (k : Fin 704) :
    og1 B (ix3 0 p k) = (((Z.tok p).dgate (ch 1 k) : ℝ) : EReal) :=
  pay43_at (g := fun p k => (Z.tok p).gate (ch 1 k)) (s := fun p k => lgst ((Z.tok p).gate (ch 1 k))) (m := fun p k => (Z.tok p).dact (ch 1 k) * (Z.tok p).up (ch 1 k)) (o := 1) (gg1_at H) (s1_at H) (q1_at H) one_eq p k
theorem ou1_at (H : Holds B Z) (p : Fin 256) (k : Fin 704) :
    ou1 B (ix3 0 p k) = (((Z.tok p).dup (ch 1 k) : ℝ) : EReal) :=
  pay44_at (u := fun p k => (Z.tok p).dup (ch 1 k)) (du1_at H) p k
theorem e2_at (H : Holds B Z) (p : Fin 256) (k : Fin 1024) :
    e2 B (ix2 p k) = ((0 + (∑ f, (Z.tok p).dgate (ch 0 f) * Z.wi k (slab 0 f)) + (∑ f, (Z.tok p).dup (ch 0 f) * Z.wi k (slab 4 f)) + (∑ f, (Z.tok p).dgate (ch 1 f) * Z.wi k (slab 1 f)) + (∑ f, (Z.tok p).dup (ch 1 f) * Z.wi k (slab 5 f)) : ℝ) : EReal) :=
  pay45_at (e := fun p k => 0 + (∑ f, (Z.tok p).dgate (ch 0 f) * Z.wi k (slab 0 f)) + (∑ f, (Z.tok p).dup (ch 0 f) * Z.wi k (slab 4 f))) (g := fun p k => (Z.tok p).gate (ch 1 k)) (u := fun p k => (Z.tok p).dup (ch 1 k)) (s := fun p k => lgst ((Z.tok p).gate (ch 1 k))) (m := fun p k => (Z.tok p).dact (ch 1 k) * (Z.tok p).up (ch 1 k)) (o := 1) (e1_at H) (gg1_at H) (s1_at H) (du1_at H) (q1_at H) one_eq (l6_1_at H) (l6_5_at H) p k
theorem g2_at (H : Holds B Z) (p : Fin 256) (k : Fin 704) :
    g2 B (ix2 p k) = (((Z.tok p).gate (ch 2 k) : ℝ) : EReal) :=
  pay46_at (g := fun p k => (Z.tok p).gate (ch 2 k)) (l3_2_at H) p k
theorem u2_at (H : Holds B Z) (p : Fin 256) (k : Fin 704) :
    u2 B (ix2 p k) = (((Z.tok p).up (ch 2 k) : ℝ) : EReal) :=
  pay47_at (u := fun p k => (Z.tok p).up (ch 2 k)) (l3_6_at H) p k
theorem t2_at (H : Holds B Z) (p : Fin 256) (k : Fin 704) :
    t2 B (ix2 p k) = ((1 / 2 * Real.tanh (1 / 2 * (Z.tok p).gate (ch 2 k)) : ℝ) : EReal) :=
  pay48_at (g := fun p k => (Z.tok p).gate (ch 2 k)) (l3_2_at H) p k
theorem act2_at (H : Holds B Z) (p : Fin 256) (k : Fin 704) :
    act2 B (ix3 0 p k) = (((Z.tok p).act (ch 2 k) : ℝ) : EReal) :=
  pay52_at (g := fun p k => (Z.tok p).gate (ch 2 k)) (u := fun p k => (Z.tok p).up (ch 2 k)) (t := fun p k => 1 / 2 * Real.tanh (1 / 2 * (Z.tok p).gate (ch 2 k))) (o := fun _ _ => 1 / 2) (g2_at H) (u2_at H) (t2_at H) pay49_at p k
theorem og2_at (H : Holds B Z) (p : Fin 256) (k : Fin 704) :
    og2 B (ix3 0 p k) = (((Z.tok p).dgate (ch 2 k) : ℝ) : EReal) :=
  pay56_at (D := fun p k => (Z.tok p).dy k) (g := fun p k => (Z.tok p).gate (ch 2 k)) (u := fun p k => (Z.tok p).up (ch 2 k)) (t := fun p k => 1 / 2 * Real.tanh (1 / 2 * (Z.tok p).gate (ch 2 k))) (o := fun _ _ => 1 / 2) (dyw_at H) (g2_at H) (u2_at H) (t2_at H) pay49_at (l7_2_at H) p k
theorem ou2_at (H : Holds B Z) (p : Fin 256) (k : Fin 704) :
    ou2 B (ix3 0 p k) = (((Z.tok p).dup (ch 2 k) : ℝ) : EReal) :=
  pay57_at (D := fun p k => (Z.tok p).dy k) (g := fun p k => (Z.tok p).gate (ch 2 k)) (t := fun p k => 1 / 2 * Real.tanh (1 / 2 * (Z.tok p).gate (ch 2 k))) (o := fun _ _ => 1 / 2) (dyw_at H) (g2_at H) (t2_at H) pay49_at (l7_2_at H) p k
theorem e3_at (H : Holds B Z) (p : Fin 256) (k : Fin 1024) :
    e3 B (ix2 p k) = ((0 + (∑ f, (Z.tok p).dgate (ch 0 f) * Z.wi k (slab 0 f)) + (∑ f, (Z.tok p).dup (ch 0 f) * Z.wi k (slab 4 f)) + (∑ f, (Z.tok p).dgate (ch 1 f) * Z.wi k (slab 1 f)) + (∑ f, (Z.tok p).dup (ch 1 f) * Z.wi k (slab 5 f)) + (∑ f, (Z.tok p).dgate (ch 2 f) * Z.wi k (slab 2 f)) : ℝ) : EReal) :=
  pay58_at (D := fun p k => (Z.tok p).dy k) (e := fun p k => 0 + (∑ f, (Z.tok p).dgate (ch 0 f) * Z.wi k (slab 0 f)) + (∑ f, (Z.tok p).dup (ch 0 f) * Z.wi k (slab 4 f)) + (∑ f, (Z.tok p).dgate (ch 1 f) * Z.wi k (slab 1 f)) + (∑ f, (Z.tok p).dup (ch 1 f) * Z.wi k (slab 5 f))) (g := fun p k => (Z.tok p).gate (ch 2 k)) (u := fun p k => (Z.tok p).up (ch 2 k)) (t := fun p k => 1 / 2 * Real.tanh (1 / 2 * (Z.tok p).gate (ch 2 k))) (o := fun _ _ => 1 / 2) (dyw_at H) (e2_at H) (g2_at H) (u2_at H) (t2_at H) pay49_at (l7_2_at H) (l6_2_at H) p k
theorem f3_at (H : Holds B Z) (p : Fin 256) (k : Fin 1024) :
    f3 B (ix2 p k) = ((∑ f, (Z.tok p).dup (ch 2 f) * Z.wi k (slab 6 f) : ℝ) : EReal) :=
  pay59_at (D := fun p k => (Z.tok p).dy k) (g := fun p k => (Z.tok p).gate (ch 2 k)) (t := fun p k => 1 / 2 * Real.tanh (1 / 2 * (Z.tok p).gate (ch 2 k))) (o := fun _ _ => 1 / 2) (dyw_at H) (g2_at H) (t2_at H) pay49_at (l7_2_at H) (l6_6_at H) p k
theorem e4_at (H : Holds B Z) (p : Fin 256) (k : Fin 1024) :
    e4 B (ix2 p k) = ((0 + (∑ f, (Z.tok p).dgate (ch 0 f) * Z.wi k (slab 0 f)) + (∑ f, (Z.tok p).dup (ch 0 f) * Z.wi k (slab 4 f)) + (∑ f, (Z.tok p).dgate (ch 1 f) * Z.wi k (slab 1 f)) + (∑ f, (Z.tok p).dup (ch 1 f) * Z.wi k (slab 5 f)) + (∑ f, (Z.tok p).dgate (ch 2 f) * Z.wi k (slab 2 f)) + (∑ f, (Z.tok p).dup (ch 2 f) * Z.wi k (slab 6 f)) : ℝ) : EReal) :=
  pay60_at (e := fun p k => 0 + (∑ f, (Z.tok p).dgate (ch 0 f) * Z.wi k (slab 0 f)) + (∑ f, (Z.tok p).dup (ch 0 f) * Z.wi k (slab 4 f)) + (∑ f, (Z.tok p).dgate (ch 1 f) * Z.wi k (slab 1 f)) + (∑ f, (Z.tok p).dup (ch 1 f) * Z.wi k (slab 5 f)) + (∑ f, (Z.tok p).dgate (ch 2 f) * Z.wi k (slab 2 f))) (f := fun p k => ∑ f, (Z.tok p).dup (ch 2 f) * Z.wi k (slab 6 f)) (e3_at H) (f3_at H) p k
theorem act3_at (H : Holds B Z) (p : Fin 256) (k : Fin 704) :
    act3 B (ix3 0 p k) = (((Z.tok p).act (ch 3 k) : ℝ) : EReal) :=
  pay65_at (g := fun p k => (Z.tok p).gate (ch 3 k)) (u := fun p k => (Z.tok p).up (ch 3 k)) (l3_3_at H) (l3_7_at H) p k
theorem du3_at (H : Holds B Z) (p : Fin 256) (k : Fin 704) :
    du3 B (ix2 p k) = (((Z.tok p).dup (ch 3 k) : ℝ) : EReal) :=
  pay67_at (D := fun p k => (Z.tok p).dy k) (g := fun p k => (Z.tok p).gate (ch 3 k)) (dyw_at H) (l3_3_at H) (l7_3_at H) p k
theorem dg3_at (H : Holds B Z) (p : Fin 256) (k : Fin 704) :
    dg3 B (ix2 p k) = (((Z.tok p).dgate (ch 3 k) : ℝ) : EReal) :=
  pay68_at (D := fun p k => (Z.tok p).dy k) (g := fun p k => (Z.tok p).gate (ch 3 k)) (u := fun p k => (Z.tok p).up (ch 3 k)) (dyw_at H) (l3_3_at H) (l3_7_at H) (l7_3_at H) p k
theorem og3_at (H : Holds B Z) (p : Fin 256) (k : Fin 704) :
    og3 B (ix3 0 p k) = (((Z.tok p).dgate (ch 3 k) : ℝ) : EReal) :=
  pay69_at (D := fun p k => (Z.tok p).dy k) (g := fun p k => (Z.tok p).gate (ch 3 k)) (u := fun p k => (Z.tok p).up (ch 3 k)) (dyw_at H) (l3_3_at H) (l3_7_at H) (l7_3_at H) p k
theorem ou3_at (H : Holds B Z) (p : Fin 256) (k : Fin 704) :
    ou3 B (ix3 0 p k) = (((Z.tok p).dup (ch 3 k) : ℝ) : EReal) :=
  pay70_at (u := fun p k => (Z.tok p).dup (ch 3 k)) (du3_at H) p k
theorem dhw_at (H : Holds B Z) (p : Fin 256) (k : Fin 1024) :
    dhw B (ix2 p k) = (((Z.tok p).dh k : ℝ) : EReal) :=
  (pay71_at (e := fun p k => 0 + (∑ f, (Z.tok p).dgate (ch 0 f) * Z.wi k (slab 0 f)) + (∑ f, (Z.tok p).dup (ch 0 f) * Z.wi k (slab 4 f)) + (∑ f, (Z.tok p).dgate (ch 1 f) * Z.wi k (slab 1 f)) + (∑ f, (Z.tok p).dup (ch 1 f) * Z.wi k (slab 5 f)) + (∑ f, (Z.tok p).dgate (ch 2 f) * Z.wi k (slab 2 f)) + (∑ f, (Z.tok p).dup (ch 2 f) * Z.wi k (slab 6 f))) (u := fun p k => (Z.tok p).dup (ch 3 k)) (q := fun p k => (Z.tok p).dgate (ch 3 k)) (e4_at H) (du3_at H) (dg3_at H) (l6_3_at H) (l6_7_at H) p k).trans (congrArg Real.toEReal (dh_eq (Z.tok p) k))
theorem dscw_at (H : Holds B Z) (k : Fin 1024) :
    dscw B (ix2 0 k) = ((∑ p, (Z.tok p).dh k * (Z.tok p).n k : ℝ) : EReal) :=
  pay72_at (D := fun p k => (Z.tok p).dh k) (nw_at H) (dhw_at H) k
theorem dshw_at (H : Holds B Z) (k : Fin 1024) :
    dshw B (ix2 0 k) = ((∑ p, (Z.tok p).dh k : ℝ) : EReal) :=
  pay73_at (D := fun p k => (Z.tok p).dh k)  (dhw_at H) k
theorem dgprew_at (H : Holds B Z) (k : Fin 1024) :
    dgprew B (ix2 0 k) = ((∑ p, (Z.tok p).dn k * (Z.tok p).xh k : ℝ) : EReal) :=
  pay75_at (D := fun p k => (Z.tok p).dh k) (scw_at H) (xhw_at H) (dhw_at H) k
theorem dxw_at (H : Holds B Z) (p : Fin 256) (k : Fin 1024) :
    dxw B (ix2 p k) = (((Z.tok p).dx k : ℝ) : EReal) :=
  pay76_at (D := fun p k => (Z.tok p).dh k) (d := fun p k => (Z.tok p).dxo k) (dxow_at H) (scw_at H) (g1w_at H) (rw0_at H) (xhw_at H) (dhw_at H) p k

end Cert.Kernel2Ideal.Bwd

end
-- ==== Proof.BwdWhole.lean ====
module

public import proofs.«01_k».proof.Proof.BwdWords

@[expose] public section

set_option maxRecDepth 16384

/-!
What a grid point of the backward call leaves in the three windows it stores in one piece.
-/

noncomputable section

namespace Cert.Kernel2Ideal.Bwd

open Cert.Kernel2Ideal Cert.Kernel2Ideal.Gen Cert.Ffn
open Cert.KernelIdeal.Value (Tile idx_plane canon_in canon_out modPart gainPart)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The blocks of grid point `t`. -/
def blkOf (t : Fin cfg1.N) : Blk :=
  ⟨iblk1 V c 0 t, iblk1 V c 1 t, iblk1 V c 2 t, iblk1 V c 3 t, iblk1 V c 4 t, iblk1 V c 5 t, iblk1 V c 6 t, iblk1 V c 7 t⟩

set_option maxHeartbeats 1000000 in
/-- The gradient at the block's input a grid point leaves, at the first point of the first sequence. -/
theorem w8_A (t : Fin cfg1.N) (h0 : t.val % 8 = 0) (h1 : t.val % 16 = 0) :
    (outsAt1 V c t.val t.isLt).1 = dxw (blkOf V c t) := by
  funext j
  rw [outsAt1_A V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

set_option maxHeartbeats 1000000 in
/-- The gradient at the block's input a grid point leaves, at a later point of a sequence. -/
theorem w8_B (t : Fin cfg1.N) (h0 : ¬t.val % 8 = 0) (h1 : ¬t.val % 16 = 0) :
    (outsAt1 V c t.val t.isLt).1 = dxw (blkOf V c t) := by
  funext j
  rw [outsAt1_B V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

set_option maxHeartbeats 1000000 in
/-- The gradient at the block's input a grid point leaves, at the first point of a later sequence. -/
theorem w8_C (t : Fin cfg1.N) (h0 : t.val % 8 = 0) (h1 : ¬t.val % 16 = 0) :
    (outsAt1 V c t.val t.isLt).1 = dxw (blkOf V c t) := by
  funext j
  rw [outsAt1_C V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

/-- The gradient at the block's input a grid point leaves. -/
theorem w8 (t : Fin cfg1.N) : (outsAt1 V c t.val t.isLt).1 = dxw (blkOf V c t) := by
  by_cases h1 : t.val % 16 = 0
  · exact w8_A V c t (by omega) h1
  · by_cases h0 : t.val % 8 = 0
    · exact w8_C V c t h0 h1
    · exact w8_B V c t h0 h1

set_option maxHeartbeats 1000000 in
/-- The gradient at the output projection a grid point leaves, at the first point of the first sequence. -/
theorem w12_A (t : Fin cfg1.N) (h0 : t.val % 8 = 0) (h1 : t.val % 16 = 0) :
    (outsAt1 V c t.val t.isLt).2.2.2.2.1 = dyw (blkOf V c t) := by
  funext j
  rw [outsAt1_A V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

set_option maxHeartbeats 1000000 in
/-- The gradient at the output projection a grid point leaves, at a later point of a sequence. -/
theorem w12_B (t : Fin cfg1.N) (h0 : ¬t.val % 8 = 0) (h1 : ¬t.val % 16 = 0) :
    (outsAt1 V c t.val t.isLt).2.2.2.2.1 = dyw (blkOf V c t) := by
  funext j
  rw [outsAt1_B V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

set_option maxHeartbeats 1000000 in
/-- The gradient at the output projection a grid point leaves, at the first point of a later sequence. -/
theorem w12_C (t : Fin cfg1.N) (h0 : t.val % 8 = 0) (h1 : ¬t.val % 16 = 0) :
    (outsAt1 V c t.val t.isLt).2.2.2.2.1 = dyw (blkOf V c t) := by
  funext j
  rw [outsAt1_C V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

/-- The gradient at the output projection a grid point leaves. -/
theorem w12 (t : Fin cfg1.N) : (outsAt1 V c t.val t.isLt).2.2.2.2.1 = dyw (blkOf V c t) := by
  by_cases h1 : t.val % 16 = 0
  · exact w12_A V c t (by omega) h1
  · by_cases h0 : t.val % 8 = 0
    · exact w12_C V c t h0 h1
    · exact w12_B V c t h0 h1

set_option maxHeartbeats 1000000 in
/-- The modulated input a grid point leaves, at the first point of the first sequence. -/
theorem w11_A (t : Fin cfg1.N) (h0 : t.val % 8 = 0) (h1 : t.val % 16 = 0) :
    (outsAt1 V c t.val t.isLt).2.2.2.1 = hw (blkOf V c t) := by
  funext j
  rw [outsAt1_A V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

set_option maxHeartbeats 1000000 in
/-- The modulated input a grid point leaves, at a later point of a sequence. -/
theorem w11_B (t : Fin cfg1.N) (h0 : ¬t.val % 8 = 0) (h1 : ¬t.val % 16 = 0) :
    (outsAt1 V c t.val t.isLt).2.2.2.1 = hw (blkOf V c t) := by
  funext j
  rw [outsAt1_B V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

set_option maxHeartbeats 1000000 in
/-- The modulated input a grid point leaves, at the first point of a later sequence. -/
theorem w11_C (t : Fin cfg1.N) (h0 : t.val % 8 = 0) (h1 : ¬t.val % 16 = 0) :
    (outsAt1 V c t.val t.isLt).2.2.2.1 = hw (blkOf V c t) := by
  funext j
  rw [outsAt1_C V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf]

/-- The modulated input a grid point leaves. -/
theorem w11 (t : Fin cfg1.N) : (outsAt1 V c t.val t.isLt).2.2.2.1 = hw (blkOf V c t) := by
  by_cases h1 : t.val % 16 = 0
  · exact w11_A V c t (by omega) h1
  · by_cases h0 : t.val % 8 = 0
    · exact w11_C V c t h0 h1
    · exact w11_B V c t h0 h1

end Cert.Kernel2Ideal.Bwd

end
-- ==== Proof.BwdPlanes.lean ====
module

public import proofs.«01_k».proof.Proof.BwdWhole

@[expose] public section

set_option maxRecDepth 16384

/-!
What a grid point leaves in the two windows it stores plane by plane.
-/

noncomputable section

namespace Cert.Kernel2Ideal.Bwd

open Cert.Kernel2Ideal Cert.Kernel2Ideal.Gen Cert.Ffn
open Cert.KernelIdeal.Value (Tile idx_plane canon_in canon_out modPart gainPart)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The activation, chunk by chunk. -/
def actBlk (B : Blk) : Vec Ideal S4x256x704 .bf16 :=
  View.canon [
    ⟨Rect.unit ![3, 0, 0] ![1, 256, 704] inb_S4x256x704_S1x256x704_3_0_0, act3 B⟩,
    ⟨Rect.unit ![2, 0, 0] ![1, 256, 704] inb_S4x256x704_S1x256x704_2_0_0, act2 B⟩,
    ⟨Rect.unit ![1, 0, 0] ![1, 256, 704] inb_S4x256x704_S1x256x704_1_0_0, act1 B⟩,
    ⟨Rect.unit ![0, 0, 0] ![1, 256, 704] inb_S4x256x704_S1x256x704_0_0_0, act0 B⟩]

/-- The activation, chunk by chunk, of the token the row belongs to. -/
theorem actBlk_at {B : Blk} {Z : Tile} (H : Holds B Z) (g : Fin 4) (p : Fin 256) (f : Fin 704) :
    actBlk B (ix3 g p f) = (((Z.tok p).act (ch g f) : ℝ) : EReal) := by
  unfold actBlk
  canon_tiles x h
  case piece0 =>
    have h0' : g.val = 3 + (x 0).val := h0
    obtain rfl : g = 3 := Fin.ext (by show g.val = 3; omega)
    rw [idx_plane x p f h1 h2]
    exact act3_at H p f
  case piece1 =>
    have h0' : g.val = 2 + (x 0).val := h0
    obtain rfl : g = 2 := Fin.ext (by show g.val = 2; omega)
    rw [idx_plane x p f h1 h2]
    exact act2_at H p f
  case piece2 =>
    have h0' : g.val = 1 + (x 0).val := h0
    obtain rfl : g = 1 := Fin.ext (by show g.val = 1; omega)
    rw [idx_plane x p f h1 h2]
    exact act1_at H p f
  case piece3 =>
    have h0' : g.val = 0 + (x 0).val := h0.trans (Nat.zero_add _).symm
    obtain rfl : g = 0 := Fin.ext (by show g.val = 0; omega)
    rw [idx_plane x p f h1 h2]
    exact act0_at H p f

/-- The gradient at the input projection, slab by slab. -/
def dguBlk (B : Blk) : Vec Ideal S8x256x704 .bf16 :=
  View.canon [
    ⟨Rect.unit ![7, 0, 0] ![1, 256, 704] inb_S8x256x704_S1x256x704_7_0_0, ou3 B⟩,
    ⟨Rect.unit ![3, 0, 0] ![1, 256, 704] inb_S8x256x704_S1x256x704_3_0_0, og3 B⟩,
    ⟨Rect.unit ![6, 0, 0] ![1, 256, 704] inb_S8x256x704_S1x256x704_6_0_0, ou2 B⟩,
    ⟨Rect.unit ![2, 0, 0] ![1, 256, 704] inb_S8x256x704_S1x256x704_2_0_0, og2 B⟩,
    ⟨Rect.unit ![5, 0, 0] ![1, 256, 704] inb_S8x256x704_S1x256x704_5_0_0, ou1 B⟩,
    ⟨Rect.unit ![1, 0, 0] ![1, 256, 704] inb_S8x256x704_S1x256x704_1_0_0, og1 B⟩,
    ⟨Rect.unit ![4, 0, 0] ![1, 256, 704] inb_S8x256x704_S1x256x704_4_0_0, ou0 B⟩,
    ⟨Rect.unit ![0, 0, 0] ![1, 256, 704] inb_S8x256x704_S1x256x704_0_0_0, og0 B⟩]

/-- The gradient at the input projection, slab by slab, of the token the row belongs to. -/
theorem dguBlk_at {B : Blk} {Z : Tile} (H : Holds B Z) (g : Fin 8) (p : Fin 256) (f : Fin 704) :
    dguBlk B (ix3 g p f) = (((Z.tok p).dgu (slab g f) : ℝ) : EReal) := by
  unfold dguBlk
  canon_tiles x h
  case piece0 =>
    have h0' : g.val = 7 + (x 0).val := h0
    obtain rfl : g = 7 := Fin.ext (by show g.val = 7; omega)
    rw [idx_plane x p f h1 h2]
    rw [slab_up 3 f 7 rfl, Tok.dgu_ucol]
    exact ou3_at H p f
  case piece1 =>
    have h0' : g.val = 3 + (x 0).val := h0
    obtain rfl : g = 3 := Fin.ext (by show g.val = 3; omega)
    rw [idx_plane x p f h1 h2]
    rw [slab_gate 3 f 3 rfl, Tok.dgu_gcol]
    exact og3_at H p f
  case piece2 =>
    have h0' : g.val = 6 + (x 0).val := h0
    obtain rfl : g = 6 := Fin.ext (by show g.val = 6; omega)
    rw [idx_plane x p f h1 h2]
    rw [slab_up 2 f 6 rfl, Tok.dgu_ucol]
    exact ou2_at H p f
  case piece3 =>
    have h0' : g.val = 2 + (x 0).val := h0
    obtain rfl : g = 2 := Fin.ext (by show g.val = 2; omega)
    rw [idx_plane x p f h1 h2]
    rw [slab_gate 2 f 2 rfl, Tok.dgu_gcol]
    exact og2_at H p f
  case piece4 =>
    have h0' : g.val = 5 + (x 0).val := h0
    obtain rfl : g = 5 := Fin.ext (by show g.val = 5; omega)
    rw [idx_plane x p f h1 h2]
    rw [slab_up 1 f 5 rfl, Tok.dgu_ucol]
    exact ou1_at H p f
  case piece5 =>
    have h0' : g.val = 1 + (x 0).val := h0
    obtain rfl : g = 1 := Fin.ext (by show g.val = 1; omega)
    rw [idx_plane x p f h1 h2]
    rw [slab_gate 1 f 1 rfl, Tok.dgu_gcol]
    exact og1_at H p f
  case piece6 =>
    have h0' : g.val = 4 + (x 0).val := h0
    obtain rfl : g = 4 := Fin.ext (by show g.val = 4; omega)
    rw [idx_plane x p f h1 h2]
    rw [slab_up 0 f 4 rfl, Tok.dgu_ucol]
    exact ou0_at H p f
  case piece7 =>
    have h0' : g.val = 0 + (x 0).val := h0.trans (Nat.zero_add _).symm
    obtain rfl : g = 0 := Fin.ext (by show g.val = 0; omega)
    rw [idx_plane x p f h1 h2]
    rw [slab_gate 0 f 0 rfl, Tok.dgu_gcol]
    exact og0_at H p f

set_option maxHeartbeats 1000000 in
/-- The activation a grid point leaves, at the first point of the first sequence. -/
theorem w10_A (t : Fin cfg1.N) (h0 : t.val % 8 = 0) (h1 : t.val % 16 = 0) :
    (outsAt1 V c t.val t.isLt).2.2.1 = actBlk (blkOf V c t) := by
  funext j
  rw [outsAt1_A V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, actBlk]

set_option maxHeartbeats 1000000 in
/-- The activation a grid point leaves, at a later point of a sequence. -/
theorem w10_B (t : Fin cfg1.N) (h0 : ¬t.val % 8 = 0) (h1 : ¬t.val % 16 = 0) :
    (outsAt1 V c t.val t.isLt).2.2.1 = actBlk (blkOf V c t) := by
  funext j
  rw [outsAt1_B V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, actBlk]

set_option maxHeartbeats 1000000 in
/-- The activation a grid point leaves, at the first point of a later sequence. -/
theorem w10_C (t : Fin cfg1.N) (h0 : t.val % 8 = 0) (h1 : ¬t.val % 16 = 0) :
    (outsAt1 V c t.val t.isLt).2.2.1 = actBlk (blkOf V c t) := by
  funext j
  rw [outsAt1_C V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, actBlk]

/-- The activation a grid point leaves. -/
theorem w10 (t : Fin cfg1.N) : (outsAt1 V c t.val t.isLt).2.2.1 = actBlk (blkOf V c t) := by
  by_cases h1 : t.val % 16 = 0
  · exact w10_A V c t (by omega) h1
  · by_cases h0 : t.val % 8 = 0
    · exact w10_C V c t h0 h1
    · exact w10_B V c t h0 h1

set_option maxHeartbeats 1000000 in
/-- The gradient at the input projection a grid point leaves, at the first point of the first sequence. -/
theorem w9_A (t : Fin cfg1.N) (h0 : t.val % 8 = 0) (h1 : t.val % 16 = 0) :
    (outsAt1 V c t.val t.isLt).2.1 = dguBlk (blkOf V c t) := by
  funext j
  rw [outsAt1_A V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, dguBlk]

set_option maxHeartbeats 1000000 in
/-- The gradient at the input projection a grid point leaves, at a later point of a sequence. -/
theorem w9_B (t : Fin cfg1.N) (h0 : ¬t.val % 8 = 0) (h1 : ¬t.val % 16 = 0) :
    (outsAt1 V c t.val t.isLt).2.1 = dguBlk (blkOf V c t) := by
  funext j
  rw [outsAt1_B V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, dguBlk]

set_option maxHeartbeats 1000000 in
/-- The gradient at the input projection a grid point leaves, at the first point of a later sequence. -/
theorem w9_C (t : Fin cfg1.N) (h0 : t.val % 8 = 0) (h1 : ¬t.val % 16 = 0) :
    (outsAt1 V c t.val t.isLt).2.1 = dguBlk (blkOf V c t) := by
  funext j
  rw [outsAt1_C V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, dguBlk]

/-- The gradient at the input projection a grid point leaves. -/
theorem w9 (t : Fin cfg1.N) : (outsAt1 V c t.val t.isLt).2.1 = dguBlk (blkOf V c t) := by
  by_cases h1 : t.val % 16 = 0
  · exact w9_A V c t (by omega) h1
  · by_cases h0 : t.val % 8 = 0
    · exact w9_C V c t h0 h1
    · exact w9_B V c t h0 h1

end Cert.Kernel2Ideal.Bwd

end
-- ==== Proof.BwdAcc.lean ====
module

public import proofs.«01_k».proof.Proof.BwdWhole
public import Idealize.ShloMosaic.Lib.WritesUnit

@[expose] public section

set_option maxRecDepth 16384

/-!
What a grid point adds into the two windows it accumulates.
-/

noncomputable section

namespace Cert.Kernel2Ideal.Bwd

open Cert.Kernel2Ideal Cert.Kernel2Ideal.Gen Cert.Ffn
open Cert.KernelIdeal.Value (Tile idx_plane canon_in canon_out modPart gainPart)
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The newest rows over a whole block. -/
theorem rows13_canon (P : Vec Ideal S1x8x1024 .f32) (w0 w1 w2 : Vec Ideal S1x1x1024 .f32) (i : Fin 8) (k : Fin 1024) :
    View.canon (Val := Elt Ideal) [⟨Rect.unit ![0, 2, 0] ![1, 1, 1024] inb_S1x8x1024_S1x1x1024_0_2_0, w2⟩, ⟨Rect.unit ![0, 1, 0] ![1, 1, 1024] inb_S1x8x1024_S1x1x1024_0_1_0, w1⟩, ⟨Rect.unit ![0, 0, 0] ![1, 1, 1024] inb_S1x8x1024_S1x1x1024_0_0_0, w0⟩, ⟨Rect.unit ![0, 0, 0] ![1, 8, 1024] inb_S1x8x1024_S1x8x1024_0_0_0, P⟩] (ix3 0 i k)
      = if i = 2 then w2 (ix3 0 0 k) else if i = 1 then w1 (ix3 0 0 k) else if i = 0 then w0 (ix3 0 0 k) else P (ix3 0 i k) := by
  by_cases h2 : i = 2
  · subst h2
    rw [if_pos rfl]
    exact canon_in (S := S1x8x1024) _ _ _ _ (ix3 0 0 k) (by intro a; match a with
        | 0 => exact (Nat.zero_add _).symm
        | 1 => rfl
        | 2 => exact (Nat.zero_add _).symm)
  rw [if_neg h2]
  by_cases h1 : i = 1
  · subst h1
    rw [if_pos rfl]
    refine (canon_out _ _ _ _ 1 (by show (1 : ℕ) < 2 ∨ 2 + 1 ≤ 1; decide)).trans ?_
    exact canon_in (S := S1x8x1024) _ _ _ _ (ix3 0 0 k) (by intro a; match a with
        | 0 => exact (Nat.zero_add _).symm
        | 1 => rfl
        | 2 => exact (Nat.zero_add _).symm)
  rw [if_neg h1]
  by_cases h0 : i = 0
  · subst h0
    rw [if_pos rfl]
    refine (canon_out _ _ _ _ 1 (by show (0 : ℕ) < 2 ∨ 2 + 1 ≤ 0; decide)).trans ?_
    refine (canon_out _ _ _ _ 1 (by show (0 : ℕ) < 1 ∨ 1 + 1 ≤ 0; decide)).trans ?_
    exact canon_in (S := S1x8x1024) _ _ _ _ (ix3 0 0 k) (by intro a; match a with
        | 0 => exact (Nat.zero_add _).symm
        | 1 => rfl
        | 2 => exact (Nat.zero_add _).symm)
  rw [if_neg h0]
  refine (canon_out _ _ _ _ 1 (by
    show i.val < 2 ∨ 2 + 1 ≤ i.val
    have : i.val ≠ 2 := fun h => h2 (Fin.ext h)
    omega)).trans ?_
  refine (canon_out _ _ _ _ 1 (by
    show i.val < 1 ∨ 1 + 1 ≤ i.val
    have : i.val ≠ 1 := fun h => h1 (Fin.ext h)
    omega)).trans ?_
  refine (canon_out _ _ _ _ 1 (by
    show i.val < 0 ∨ 0 + 1 ≤ i.val
    have : i.val ≠ 0 := fun h => h0 (Fin.ext h)
    omega)).trans ?_
  exact canon_in (S := S1x8x1024) _ _ _ _ (ix3 0 i k) (by intro a; match a with
        | 0 => exact (Nat.zero_add _).symm
        | 1 => exact (Nat.zero_add _).symm
        | 2 => exact (Nat.zero_add _).symm)

/-- The newest rows over what the block held. -/
theorem rows13_writes {κ : Kind} {sp : Space} (v : View sig κ sp S1x8x1024 .f32) (f : v.ty.Contents (Elt Ideal)) (w0 w1 w2 : Vec Ideal S1x1x1024 .f32) (i : Fin 8) (k : Fin 1024) :
    View.read (Elt Ideal) v (v.writes (Elt Ideal) f [⟨Rect.unit ![0, 2, 0] ![1, 1, 1024] inb_S1x8x1024_S1x1x1024_0_2_0, w2⟩, ⟨Rect.unit ![0, 1, 0] ![1, 1, 1024] inb_S1x8x1024_S1x1x1024_0_1_0, w1⟩, ⟨Rect.unit ![0, 0, 0] ![1, 1, 1024] inb_S1x8x1024_S1x1x1024_0_0_0, w0⟩]) (ix3 0 i k)
      = if i = 2 then w2 (ix3 0 0 k) else if i = 1 then w1 (ix3 0 0 k) else if i = 0 then w0 (ix3 0 0 k) else View.read (Elt Ideal) v f (ix3 0 i k) := by
  by_cases h2 : i = 2
  · subst h2
    rw [if_pos rfl]
    exact View.read_writes_cons_unit_of_mem v f _ _ _ _ (ix3 0 0 k) rfl (by intro a; match a with
        | 0 => exact (Nat.zero_add _).symm
        | 1 => rfl
        | 2 => exact (Nat.zero_add _).symm)
  rw [if_neg h2]
  by_cases h1 : i = 1
  · subst h1
    rw [if_pos rfl]
    refine (View.read_writes_cons_unit_of_not_mem v f _ _ _ _ rfl 1 (by show (1 : ℕ) < 2 ∨ 2 + 1 ≤ 1; decide)).trans ?_
    exact View.read_writes_cons_unit_of_mem v f _ _ _ _ (ix3 0 0 k) rfl (by intro a; match a with
        | 0 => exact (Nat.zero_add _).symm
        | 1 => rfl
        | 2 => exact (Nat.zero_add _).symm)
  rw [if_neg h1]
  by_cases h0 : i = 0
  · subst h0
    rw [if_pos rfl]
    refine (View.read_writes_cons_unit_of_not_mem v f _ _ _ _ rfl 1 (by show (0 : ℕ) < 2 ∨ 2 + 1 ≤ 0; decide)).trans ?_
    refine (View.read_writes_cons_unit_of_not_mem v f _ _ _ _ rfl 1 (by show (0 : ℕ) < 1 ∨ 1 + 1 ≤ 0; decide)).trans ?_
    exact View.read_writes_cons_unit_of_mem v f _ _ _ _ (ix3 0 0 k) rfl (by intro a; match a with
        | 0 => exact (Nat.zero_add _).symm
        | 1 => rfl
        | 2 => exact (Nat.zero_add _).symm)
  rw [if_neg h0]
  refine (View.read_writes_cons_unit_of_not_mem v f _ _ _ _ rfl 1 (by
    show i.val < 2 ∨ 2 + 1 ≤ i.val
    have : i.val ≠ 2 := fun h => h2 (Fin.ext h)
    omega)).trans ?_
  refine (View.read_writes_cons_unit_of_not_mem v f _ _ _ _ rfl 1 (by
    show i.val < 1 ∨ 1 + 1 ≤ i.val
    have : i.val ≠ 1 := fun h => h1 (Fin.ext h)
    omega)).trans ?_
  refine (View.read_writes_cons_unit_of_not_mem v f _ _ _ _ rfl 1 (by
    show i.val < 0 ∨ 0 + 1 ≤ i.val
    have : i.val ≠ 0 := fun h => h0 (Fin.ext h)
    omega)).trans ?_
  rfl

/-- The newest rows over a whole block. -/
theorem rows14_canon (P : Vec Ideal S8x1024 .f32) (w0 w1 : Vec Ideal S1x1024 .f32) (i : Fin 8) (k : Fin 1024) :
    View.canon (Val := Elt Ideal) [⟨Rect.unit ![1, 0] ![1, 1024] inb_S8x1024_S1x1024_1_0, w1⟩, ⟨Rect.unit ![0, 0] ![1, 1024] inb_S8x1024_S1x1024_0_0, w0⟩, ⟨Rect.unit ![0, 0] ![8, 1024] inb_S8x1024_S8x1024_0_0, P⟩] (ix2 i k)
      = if i = 1 then w1 (ix2 0 k) else if i = 0 then w0 (ix2 0 k) else P (ix2 i k) := by
  by_cases h1 : i = 1
  · subst h1
    rw [if_pos rfl]
    exact canon_in (S := S8x1024) _ _ _ _ (ix2 0 k) (by intro a; match a with
        | 0 => rfl
        | 1 => exact (Nat.zero_add _).symm)
  rw [if_neg h1]
  by_cases h0 : i = 0
  · subst h0
    rw [if_pos rfl]
    refine (canon_out _ _ _ _ 0 (by show (0 : ℕ) < 1 ∨ 1 + 1 ≤ 0; decide)).trans ?_
    exact canon_in (S := S8x1024) _ _ _ _ (ix2 0 k) (by intro a; match a with
        | 0 => rfl
        | 1 => exact (Nat.zero_add _).symm)
  rw [if_neg h0]
  refine (canon_out _ _ _ _ 0 (by
    show i.val < 1 ∨ 1 + 1 ≤ i.val
    have : i.val ≠ 1 := fun h => h1 (Fin.ext h)
    omega)).trans ?_
  refine (canon_out _ _ _ _ 0 (by
    show i.val < 0 ∨ 0 + 1 ≤ i.val
    have : i.val ≠ 0 := fun h => h0 (Fin.ext h)
    omega)).trans ?_
  exact canon_in (S := S8x1024) _ _ _ _ (ix2 i k) (by intro a; match a with
        | 0 => exact (Nat.zero_add _).symm
        | 1 => exact (Nat.zero_add _).symm)

/-- The newest rows over what the block held. -/
theorem rows14_writes {κ : Kind} {sp : Space} (v : View sig κ sp S8x1024 .f32) (f : v.ty.Contents (Elt Ideal)) (w0 w1 : Vec Ideal S1x1024 .f32) (i : Fin 8) (k : Fin 1024) :
    View.read (Elt Ideal) v (v.writes (Elt Ideal) f [⟨Rect.unit ![1, 0] ![1, 1024] inb_S8x1024_S1x1024_1_0, w1⟩, ⟨Rect.unit ![0, 0] ![1, 1024] inb_S8x1024_S1x1024_0_0, w0⟩]) (ix2 i k)
      = if i = 1 then w1 (ix2 0 k) else if i = 0 then w0 (ix2 0 k) else View.read (Elt Ideal) v f (ix2 i k) := by
  by_cases h1 : i = 1
  · subst h1
    rw [if_pos rfl]
    exact View.read_writes_cons_unit_of_mem v f _ _ _ _ (ix2 0 k) rfl (by intro a; match a with
        | 0 => rfl
        | 1 => exact (Nat.zero_add _).symm)
  rw [if_neg h1]
  by_cases h0 : i = 0
  · subst h0
    rw [if_pos rfl]
    refine (View.read_writes_cons_unit_of_not_mem v f _ _ _ _ rfl 0 (by show (0 : ℕ) < 1 ∨ 1 + 1 ≤ 0; decide)).trans ?_
    exact View.read_writes_cons_unit_of_mem v f _ _ _ _ (ix2 0 k) rfl (by intro a; match a with
        | 0 => rfl
        | 1 => exact (Nat.zero_add _).symm)
  rw [if_neg h0]
  refine (View.read_writes_cons_unit_of_not_mem v f _ _ _ _ rfl 0 (by
    show i.val < 1 ∨ 1 + 1 ≤ i.val
    have : i.val ≠ 1 := fun h => h1 (Fin.ext h)
    omega)).trans ?_
  refine (View.read_writes_cons_unit_of_not_mem v f _ _ _ _ rfl 0 (by
    show i.val < 0 ∨ 0 + 1 ≤ i.val
    have : i.val ≠ 0 := fun h => h0 (Fin.ext h)
    omega)).trans ?_
  rfl

/-- Row 0 of an accumulator's block. -/
def lr13_0 (P : Vec Ideal S1x8x1024 .f32) : Vec Ideal S1x1x1024 .f32 := View.ld P (Rect.unit ![0, 0, 0] ![1, 1, 1024] inb_S1x8x1024_S1x1x1024_0_0_0)

/-- Row 0, at an index. -/
theorem lr13_0_at (P : Vec Ideal S1x8x1024 .f32) (k : Fin 1024) : lr13_0 P (ix3 0 0 k) = P (ix3 0 0 k) := by
  pointwise [lr13_0]

/-- Row 1 of an accumulator's block. -/
def lr13_1 (P : Vec Ideal S1x8x1024 .f32) : Vec Ideal S1x1x1024 .f32 := View.ld P (Rect.unit ![0, 1, 0] ![1, 1, 1024] inb_S1x8x1024_S1x1x1024_0_1_0)

/-- Row 1, at an index. -/
theorem lr13_1_at (P : Vec Ideal S1x8x1024 .f32) (k : Fin 1024) : lr13_1 P (ix3 0 0 k) = P (ix3 0 1 k) := by
  pointwise [lr13_1]

/-- Row 2 of an accumulator's block. -/
def lr13_2 (P : Vec Ideal S1x8x1024 .f32) : Vec Ideal S1x1x1024 .f32 := View.ld P (Rect.unit ![0, 2, 0] ![1, 1, 1024] inb_S1x8x1024_S1x1x1024_0_2_0)

/-- Row 2, at an index. -/
theorem lr13_2_at (P : Vec Ideal S1x8x1024 .f32) (k : Fin 1024) : lr13_2 P (ix3 0 0 k) = P (ix3 0 2 k) := by
  pointwise [lr13_2]

/-- Row 0 of an accumulator's block. -/
def lr14_0 (P : Vec Ideal S8x1024 .f32) : Vec Ideal S1x1024 .f32 := View.ld P (Rect.unit ![0, 0] ![1, 1024] inb_S8x1024_S1x1024_0_0)

/-- Row 0, at an index. -/
theorem lr14_0_at (P : Vec Ideal S8x1024 .f32) (k : Fin 1024) : lr14_0 P (ix2 0 k) = P (ix2 0 k) := by
  pointwise [lr14_0]

/-- Row 1 of an accumulator's block. -/
def lr14_1 (P : Vec Ideal S8x1024 .f32) : Vec Ideal S1x1024 .f32 := View.ld P (Rect.unit ![1, 0] ![1, 1024] inb_S8x1024_S1x1024_1_0)

/-- Row 1, at an index. -/
theorem lr14_1_at (P : Vec Ideal S8x1024 .f32) (k : Fin 1024) : lr14_1 P (ix2 0 k) = P (ix2 1 k) := by
  pointwise [lr14_1]

set_option maxHeartbeats 1000000 in
/-- The modulation's gradient a grid point leaves, its rows over zero, at the first point of the first sequence. -/
theorem w13_A (t : Fin cfg1.N) (h0 : t.val % 8 = 0) (h1 : t.val % 16 = 0) (j) :
    (outsAt1 V c t.val t.isLt).2.2.2.2.2.1 j = View.canon (Val := Elt Ideal) [
      ⟨Rect.unit ![0, 2, 0] ![1, 1, 1024] inb_S1x8x1024_S1x1x1024_0_2_0, k1_pay1 (k1_pay81 (dgtw (blkOf V c t)) (lr13_2 (k1_pay77 (F := Ideal))))⟩,
      ⟨Rect.unit ![0, 1, 0] ![1, 1, 1024] inb_S1x8x1024_S1x1x1024_0_1_0, k1_pay80 (dscw (blkOf V c t)) (lr13_1 (k1_pay77 (F := Ideal)))⟩,
      ⟨Rect.unit ![0, 0, 0] ![1, 1, 1024] inb_S1x8x1024_S1x1x1024_0_0_0, k1_pay79 (dshw (blkOf V c t)) (lr13_0 (k1_pay77 (F := Ideal)))⟩,
      ⟨Rect.unit ![0, 0, 0] ![1, 8, 1024] inb_S1x8x1024_S1x8x1024_0_0_0, (k1_pay77 (F := Ideal))⟩] j := by
  rw [outsAt1_A V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, lr13_0, lr13_1, lr13_2, lr14_0, lr14_1]

set_option maxHeartbeats 1000000 in
/-- The modulation's gradient a grid point leaves, its rows over what it found, at a later point of a sequence. -/
theorem w13_B (t : Fin cfg1.N) (h0 : ¬t.val % 8 = 0) (h1 : ¬t.val % 16 = 0) (j) :
    (outsAt1 V c t.val t.isLt).2.2.2.2.2.1 j = View.read (Elt Ideal) (ms1_13 t).view ((ms1_13 t).view.writes (Elt Ideal) ((hs1_13 t).unread ((outsAt1 V c (t.val - 1) (Nat.lt_of_le_of_lt (Nat.sub_le _ _) t.isLt)).2.2.2.2.2.1)) [
      ⟨Rect.unit ![0, 2, 0] ![1, 1, 1024] inb_S1x8x1024_S1x1x1024_0_2_0, k1_pay1 (k1_pay81 (dgtw (blkOf V c t)) (lr13_2 (outsAt1 V c (t.val - 1) (Nat.lt_of_le_of_lt (Nat.sub_le _ _) t.isLt)).2.2.2.2.2.1))⟩,
      ⟨Rect.unit ![0, 1, 0] ![1, 1, 1024] inb_S1x8x1024_S1x1x1024_0_1_0, k1_pay80 (dscw (blkOf V c t)) (lr13_1 (outsAt1 V c (t.val - 1) (Nat.lt_of_le_of_lt (Nat.sub_le _ _) t.isLt)).2.2.2.2.2.1)⟩,
      ⟨Rect.unit ![0, 0, 0] ![1, 1, 1024] inb_S1x8x1024_S1x1x1024_0_0_0, k1_pay79 (dshw (blkOf V c t)) (lr13_0 (outsAt1 V c (t.val - 1) (Nat.lt_of_le_of_lt (Nat.sub_le _ _) t.isLt)).2.2.2.2.2.1)⟩]) j := by
  rw [outsAt1_B V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, lr13_0, lr13_1, lr13_2, lr14_0, lr14_1]

set_option maxHeartbeats 1000000 in
/-- The modulation's gradient a grid point leaves, its rows over zero, at the first point of a later sequence. -/
theorem w13_C (t : Fin cfg1.N) (h0 : t.val % 8 = 0) (h1 : ¬t.val % 16 = 0) (j) :
    (outsAt1 V c t.val t.isLt).2.2.2.2.2.1 j = View.canon (Val := Elt Ideal) [
      ⟨Rect.unit ![0, 2, 0] ![1, 1, 1024] inb_S1x8x1024_S1x1x1024_0_2_0, k1_pay1 (k1_pay81 (dgtw (blkOf V c t)) (lr13_2 (k1_pay77 (F := Ideal))))⟩,
      ⟨Rect.unit ![0, 1, 0] ![1, 1, 1024] inb_S1x8x1024_S1x1x1024_0_1_0, k1_pay80 (dscw (blkOf V c t)) (lr13_1 (k1_pay77 (F := Ideal)))⟩,
      ⟨Rect.unit ![0, 0, 0] ![1, 1, 1024] inb_S1x8x1024_S1x1x1024_0_0_0, k1_pay79 (dshw (blkOf V c t)) (lr13_0 (k1_pay77 (F := Ideal)))⟩,
      ⟨Rect.unit ![0, 0, 0] ![1, 8, 1024] inb_S1x8x1024_S1x8x1024_0_0_0, (k1_pay77 (F := Ideal))⟩] j := by
  rw [outsAt1_C V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, lr13_0, lr13_1, lr13_2, lr14_0, lr14_1]

set_option maxHeartbeats 1000000 in
/-- The gains' gradient a grid point leaves, its rows over zero, at the first point of the first sequence. -/
theorem w14_A (t : Fin cfg1.N) (h0 : t.val % 8 = 0) (h1 : t.val % 16 = 0) (j) :
    (outsAt1 V c t.val t.isLt).2.2.2.2.2.2 j = View.canon (Val := Elt Ideal) [
      ⟨Rect.unit ![1, 0] ![1, 1024] inb_S8x1024_S1x1024_1_0, k1_pay3 (dgpostw (blkOf V c t)) (lr14_1 (k1_pay78 (F := Ideal)))⟩,
      ⟨Rect.unit ![0, 0] ![1, 1024] inb_S8x1024_S1x1024_0_0, k1_pay2 (dgprew (blkOf V c t)) (lr14_0 (k1_pay78 (F := Ideal)))⟩,
      ⟨Rect.unit ![0, 0] ![8, 1024] inb_S8x1024_S8x1024_0_0, (k1_pay78 (F := Ideal))⟩] j := by
  rw [outsAt1_A V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, lr13_0, lr13_1, lr13_2, lr14_0, lr14_1]

set_option maxHeartbeats 1000000 in
/-- The gains' gradient a grid point leaves, its rows over what it found, at a later point of a sequence. -/
theorem w14_B (t : Fin cfg1.N) (h0 : ¬t.val % 8 = 0) (h1 : ¬t.val % 16 = 0) (j) :
    (outsAt1 V c t.val t.isLt).2.2.2.2.2.2 j = View.read (Elt Ideal) (ms1_14 t).view ((ms1_14 t).view.writes (Elt Ideal) ((hs1_14 t).unread ((outsAt1 V c (t.val - 1) (Nat.lt_of_le_of_lt (Nat.sub_le _ _) t.isLt)).2.2.2.2.2.2)) [
      ⟨Rect.unit ![1, 0] ![1, 1024] inb_S8x1024_S1x1024_1_0, k1_pay3 (dgpostw (blkOf V c t)) (lr14_1 (outsAt1 V c (t.val - 1) (Nat.lt_of_le_of_lt (Nat.sub_le _ _) t.isLt)).2.2.2.2.2.2)⟩,
      ⟨Rect.unit ![0, 0] ![1, 1024] inb_S8x1024_S1x1024_0_0, k1_pay2 (dgprew (blkOf V c t)) (lr14_0 (outsAt1 V c (t.val - 1) (Nat.lt_of_le_of_lt (Nat.sub_le _ _) t.isLt)).2.2.2.2.2.2)⟩]) j := by
  rw [outsAt1_B V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, lr13_0, lr13_1, lr13_2, lr14_0, lr14_1]

set_option maxHeartbeats 1000000 in
/-- The gains' gradient a grid point leaves, its rows over what it found, at the first point of a later sequence. -/
theorem w14_C (t : Fin cfg1.N) (h0 : t.val % 8 = 0) (h1 : ¬t.val % 16 = 0) (j) :
    (outsAt1 V c t.val t.isLt).2.2.2.2.2.2 j = View.read (Elt Ideal) (ms1_14 t).view ((ms1_14 t).view.writes (Elt Ideal) ((hs1_14 t).unread ((outsAt1 V c (t.val - 1) (Nat.lt_of_le_of_lt (Nat.sub_le _ _) t.isLt)).2.2.2.2.2.2)) [
      ⟨Rect.unit ![1, 0] ![1, 1024] inb_S8x1024_S1x1024_1_0, k1_pay3 (dgpostw (blkOf V c t)) (lr14_1 (outsAt1 V c (t.val - 1) (Nat.lt_of_le_of_lt (Nat.sub_le _ _) t.isLt)).2.2.2.2.2.2)⟩,
      ⟨Rect.unit ![0, 0] ![1, 1024] inb_S8x1024_S1x1024_0_0, k1_pay2 (dgprew (blkOf V c t)) (lr14_0 (outsAt1 V c (t.val - 1) (Nat.lt_of_le_of_lt (Nat.sub_le _ _) t.isLt)).2.2.2.2.2.2)⟩]) j := by
  rw [outsAt1_C V c t h0 h1]
  frame_open
  simp (disch := decide) only [↓ View.readCov_skip, ↓ View.readCov_cons_toLoadRect, ↓ View.readCov_fill]
  frame_out
  simp only [
    l3_0, l3_1, l3_2, l3_3, l3_4, l3_5, l3_6, l3_7, l4_0, l4_1, l4_2, l5_0, l5_1, l6_0, l6_1, l6_2, l6_3, l6_4, l6_5,
    l6_6, l6_7, l7_0, l7_1, l7_2, l7_3, dxow, yw, scw, gtw, g1w, gpw, rw0, xhw, nw, hw, dgtw, dgpostw, dyw, gb0, act0,
    du0, dg0, og0, ou0, e1, gg1, s1, act1, du1, q1, og1, ou1, e2, g2, u2, t2, act2, og2, ou2, e3, f3, e4, act3, du3,
    dg3, og3, ou3, dhw, dscw, dshw, dgprew, dxw, blkOf, lr13_0, lr13_1, lr13_2, lr14_0, lr14_1]

/-- The modulation's gradient a grid point leaves, at the first point of the first sequence, in real numbers. -/
theorem a13_A (t : Fin cfg1.N) {Z : Tile} (HB : Holds (blkOf V c t) Z) (h0 : t.val % 8 = 0) (h1 : t.val % 16 = 0) (i : Fin 8) (k : Fin 1024) :
    ((outsAt1 V c t.val t.isLt).2.2.2.2.2.1 (ix3 0 i k) : EReal) = ((modPart Z i k : ℝ) : EReal) := by
  rw [w13_A V c t h0 h1, rows13_canon]
  unfold modPart
  by_cases g2 : i = 2
  · subst g2
    rw [if_pos rfl, if_pos rfl]
    refine (pay1_at _ k).trans <| (pay81_at _ (dgtw_at HB) k).trans ?_
    rw [lr13_2_at]
    rw [pay77_at]
    exact zero_add _
  rw [if_neg g2, if_neg g2]
  by_cases g1 : i = 1
  · subst g1
    rw [if_pos rfl, if_pos rfl]
    refine (pay80_at _ (dscw_at HB) k).trans ?_
    rw [lr13_1_at]
    rw [pay77_at]
    exact zero_add _
  rw [if_neg g1, if_neg g1]
  by_cases g0 : i = 0
  · subst g0
    rw [if_pos rfl, if_pos rfl]
    refine (pay79_at _ (dshw_at HB) k).trans ?_
    rw [lr13_0_at]
    rw [pay77_at]
    exact zero_add _
  rw [if_neg g0, if_neg g0]
  rw [pay77_at]
  exact EReal.coe_zero.symm

/-- The modulation's gradient a grid point leaves, at a later point of a sequence, in real numbers. -/
theorem a13_B (t : Fin cfg1.N) {Z : Tile} (HB : Holds (blkOf V c t) Z) (h0 : ¬t.val % 8 = 0) (h1 : ¬t.val % 16 = 0) (i : Fin 8) (k : Fin 1024) :
    ((outsAt1 V c t.val t.isLt).2.2.2.2.2.1 (ix3 0 i k) : EReal) = ((outsAt1 V c (t.val - 1) (Nat.lt_of_le_of_lt (Nat.sub_le _ _) t.isLt)).2.2.2.2.2.1 (ix3 0 i k) + ((modPart Z i k : ℝ) : EReal) : EReal) := by
  rw [w13_B V c t h0 h1, rows13_writes]
  rw [(hs1_13 t).read_unread]
  unfold modPart
  by_cases g2 : i = 2
  · subst g2
    rw [if_pos rfl, if_pos rfl]
    refine (pay1_at _ k).trans <| (pay81_at _ (dgtw_at HB) k).trans ?_
    rw [lr13_2_at]
  rw [if_neg g2, if_neg g2]
  by_cases g1 : i = 1
  · subst g1
    rw [if_pos rfl, if_pos rfl]
    refine (pay80_at _ (dscw_at HB) k).trans ?_
    rw [lr13_1_at]
  rw [if_neg g1, if_neg g1]
  by_cases g0 : i = 0
  · subst g0
    rw [if_pos rfl, if_pos rfl]
    refine (pay79_at _ (dshw_at HB) k).trans ?_
    rw [lr13_0_at]
  rw [if_neg g0, if_neg g0]
  exact (add_zero _).symm

/-- The modulation's gradient a grid point leaves, at the first point of a later sequence, in real numbers. -/
theorem a13_C (t : Fin cfg1.N) {Z : Tile} (HB : Holds (blkOf V c t) Z) (h0 : t.val % 8 = 0) (h1 : ¬t.val % 16 = 0) (i : Fin 8) (k : Fin 1024) :
    ((outsAt1 V c t.val t.isLt).2.2.2.2.2.1 (ix3 0 i k) : EReal) = ((modPart Z i k : ℝ) : EReal) := by
  rw [w13_C V c t h0 h1, rows13_canon]
  unfold modPart
  by_cases g2 : i = 2
  · subst g2
    rw [if_pos rfl, if_pos rfl]
    refine (pay1_at _ k).trans <| (pay81_at _ (dgtw_at HB) k).trans ?_
    rw [lr13_2_at]
    rw [pay77_at]
    exact zero_add _
  rw [if_neg g2, if_neg g2]
  by_cases g1 : i = 1
  · subst g1
    rw [if_pos rfl, if_pos rfl]
    refine (pay80_at _ (dscw_at HB) k).trans ?_
    rw [lr13_1_at]
    rw [pay77_at]
    exact zero_add _
  rw [if_neg g1, if_neg g1]
  by_cases g0 : i = 0
  · subst g0
    rw [if_pos rfl, if_pos rfl]
    refine (pay79_at _ (dshw_at HB) k).trans ?_
    rw [lr13_0_at]
    rw [pay77_at]
    exact zero_add _
  rw [if_neg g0, if_neg g0]
  rw [pay77_at]
  exact EReal.coe_zero.symm

/-- The gains' gradient a grid point leaves, at the first point of the first sequence, in real numbers. -/
theorem a14_A (t : Fin cfg1.N) {Z : Tile} (HB : Holds (blkOf V c t) Z) (h0 : t.val % 8 = 0) (h1 : t.val % 16 = 0) (i : Fin 8) (k : Fin 1024) :
    ((outsAt1 V c t.val t.isLt).2.2.2.2.2.2 (ix2 i k) : EReal) = ((gainPart Z i k : ℝ) : EReal) := by
  rw [w14_A V c t h0 h1, rows14_canon]
  unfold gainPart
  by_cases g1 : i = 1
  · subst g1
    rw [if_pos rfl, if_pos rfl]
    refine (pay3_at _ (dgpostw_at HB) k).trans ?_
    rw [lr14_1_at]
    rw [pay78_at]
    exact zero_add _
  rw [if_neg g1, if_neg g1]
  by_cases g0 : i = 0
  · subst g0
    rw [if_pos rfl, if_pos rfl]
    refine (pay2_at _ (dgprew_at HB) k).trans ?_
    rw [lr14_0_at]
    rw [pay78_at]
    exact zero_add _
  rw [if_neg g0, if_neg g0]
  rw [pay78_at]
  exact EReal.coe_zero.symm

/-- The gains' gradient a grid point leaves, at a later point of a sequence, in real numbers. -/
theorem a14_B (t : Fin cfg1.N) {Z : Tile} (HB : Holds (blkOf V c t) Z) (h0 : ¬t.val % 8 = 0) (h1 : ¬t.val % 16 = 0) (i : Fin 8) (k : Fin 1024) :
    ((outsAt1 V c t.val t.isLt).2.2.2.2.2.2 (ix2 i k) : EReal) = ((outsAt1 V c (t.val - 1) (Nat.lt_of_le_of_lt (Nat.sub_le _ _) t.isLt)).2.2.2.2.2.2 (ix2 i k) + ((gainPart Z i k : ℝ) : EReal) : EReal) := by
  rw [w14_B V c t h0 h1, rows14_writes]
  rw [(hs1_14 t).read_unread]
  unfold gainPart
  by_cases g1 : i = 1
  · subst g1
    rw [if_pos rfl, if_pos rfl]
    refine (pay3_at _ (dgpostw_at HB) k).trans ?_
    rw [lr14_1_at]
  rw [if_neg g1, if_neg g1]
  by_cases g0 : i = 0
  · subst g0
    rw [if_pos rfl, if_pos rfl]
    refine (pay2_at _ (dgprew_at HB) k).trans ?_
    rw [lr14_0_at]
  rw [if_neg g0, if_neg g0]
  exact (add_zero _).symm

/-- The gains' gradient a grid point leaves, at the first point of a later sequence, in real numbers. -/
theorem a14_C (t : Fin cfg1.N) {Z : Tile} (HB : Holds (blkOf V c t) Z) (h0 : t.val % 8 = 0) (h1 : ¬t.val % 16 = 0) (i : Fin 8) (k : Fin 1024) :
    ((outsAt1 V c t.val t.isLt).2.2.2.2.2.2 (ix2 i k) : EReal) = ((outsAt1 V c (t.val - 1) (Nat.lt_of_le_of_lt (Nat.sub_le _ _) t.isLt)).2.2.2.2.2.2 (ix2 i k) + ((gainPart Z i k : ℝ) : EReal) : EReal) := by
  rw [w14_C V c t h0 h1, rows14_writes]
  rw [(hs1_14 t).read_unread]
  unfold gainPart
  by_cases g1 : i = 1
  · subst g1
    rw [if_pos rfl, if_pos rfl]
    refine (pay3_at _ (dgpostw_at HB) k).trans ?_
    rw [lr14_1_at]
  rw [if_neg g1, if_neg g1]
  by_cases g0 : i = 0
  · subst g0
    rw [if_pos rfl, if_pos rfl]
    refine (pay2_at _ (dgprew_at HB) k).trans ?_
    rw [lr14_0_at]
  rw [if_neg g0, if_neg g0]
  exact (add_zero _).symm

end Cert.Kernel2Ideal.Bwd

end
-- ==== Proof.Incoming.lean ====
module

public import proofs.«01_k».proof.Proof.Args

@[expose] public section

/-!
A block between two others: the gradient at its output comes from outside. It is the gradient of the half mean squared
error at one particular target, so that everything stated of a target holds of an incoming gradient.
-/

noncomputable section

namespace Cert.Ffn

/-- The output of a token's block. -/
def Tok.xo (T : Tok) (k : Fin 1024) : ℝ := T.x k + 1 / 2 * T.gt k * T.pn k

namespace Args

variable (A : Args)

/-- The arguments whose target makes the gradient at the block's output the rows given as target. -/
def incoming : Args :=
  { A with T := fun b s k => (A.tok b s).xo k - 1024 * A.T b s k }

/-- The gradient at the block's output is the one given. -/
theorem incoming_dxo (b : Fin 2) (s : Fin 2048) (k : Fin 1024) : (A.incoming.tok b s).dxo k = A.T b s k := by
  show (A.X b s k + 1 / 2 * A.gt b k * (A.tok b s).pn k
    - (A.X b s k + 1 / 2 * A.gt b k * (A.tok b s).pn k - 1024 * A.T b s k)) * (1 / 1024) = A.T b s k
  ring

/-- The block's output. -/
def resOut (j : (⟨2, ![4096, 1024]⟩ : Idealize.ShloMosaic.Shape).Idx) : EReal := (((A.row (j 0)).xo (j 1) : ℝ) : EReal)
/-- The output projection. -/
def resY (j : (⟨2, ![4096, 1024]⟩ : Idealize.ShloMosaic.Shape).Idx) : EReal := (((A.row (j 0)).y (j 1) : ℝ) : EReal)
/-- The input projection, slab by slab. -/
def resGu (j : (⟨3, ![8, 4096, 704]⟩ : Idealize.ShloMosaic.Shape).Idx) : EReal :=
  (((A.row (j 1)).gu (slab (j 0) (j 2)) : ℝ) : EReal)

end Args

end Cert.Ffn

end
-- ==== Proof.PairBlocks.lean ====
module

public import proofs.«01_k».proof.Proof.BwdPlanes
public import proofs.«01_k».proof.Proof.BwdAcc
public import proofs.«01_k».proof.Proof.Incoming

@[expose] public section

set_option maxRecDepth 16384

/-!
What the two calls find in their blocks: 256 consecutive tokens of one sequence, that sequence's modulation, the gains and
the weights; the backward call also the gradient at the block's output and what the forward call left.
-/

noncomputable section

namespace Cert.Kernel2Ideal.Pair

open Cert.Kernel2Ideal Cert.Kernel2Ideal.Gen Cert.Ffn
open Cert.KernelIdeal.Value (Tile)
open Idealize.ShloMosaic Idealize.ShloMosaic.TcCoe Idealize.SL.Sem
open Idealize.ShloMosaic.Pipeline (Dat)

section

variable (V : (c : Dev nD) → (b : Ref sig .tc) → Buf (Elt Ideal) ((c : Thread nD τ).loc b)) (c : Dev nD)

/-! ### Which part of its array a block is -/

theorem idx0 : ∀ t : Fin cfg0.N,
    win0_0.index t = ![t.val, 0] ∧ win0_1.index t = ![t.val / 8, 0, 0] ∧ win0_2.index t = ![0, 0]
    ∧ win0_3.index t = ![0, 0, 0] ∧ win0_4.index t = ![0, 0, 0] ∧ win0_5.index t = ![t.val, 0]
    ∧ win0_6.index t = ![0, t.val, 0] ∧ win0_7.index t = ![t.val, 0] :=
  (by decide +kernel : ∀ t : Fin grid0.N, _)

theorem idx1 : ∀ t : Fin cfg1.N,
    win1_0.index t = ![t.val, 0] ∧ win1_1.index t = ![t.val, 0] ∧ win1_2.index t = ![t.val, 0]
    ∧ win1_3.index t = ![0, t.val, 0] ∧ win1_4.index t = ![t.val / 8, 0, 0] ∧ win1_5.index t = ![0, 0]
    ∧ win1_6.index t = ![0, 0, 0] ∧ win1_7.index t = ![0, 0, 0] ∧ win1_8.index t = ![t.val, 0]
    ∧ win1_9.index t = ![0, t.val, 0] ∧ win1_10.index t = ![0, t.val, 0] ∧ win1_11.index t = ![t.val, 0]
    ∧ win1_12.index t = ![t.val, 0] ∧ win1_13.index t = ![t.val / 8, 0, 0] ∧ win1_14.index t = ![0, 0] :=
  (by decide +kernel : ∀ t : Fin grid1.N, _)

theorem lt0 (t : Fin cfg0.N) : t.val < 16 := lt_of_lt_of_eq t.isLt N_0
theorem lt1 (t : Fin cfg1.N) : t.val < 16 := lt_of_lt_of_eq t.isLt N_1

/-- Row `p` of block `n` of the 4096 rows. -/
def rowOf (n : ℕ) (h : n < 16) (p : Fin 256) : Fin 4096 := ⟨n * 256 + p.val, by omega⟩
/-- Sequence of block `n`. -/
def seqOf (n : ℕ) (h : n < 16) : Fin 2 := ⟨n / 8, by omega⟩
/-- Place in its sequence of row `p` of block `n`. -/
def posOf (n : ℕ) (p : Fin 256) : Fin 2048 := ⟨n % 8 * 256 + p.val, by omega⟩

theorem rd0_0 (t : Fin cfg0.N) (p : Fin 256) (k : Fin 1024) :
    iblk0 V c 0 t (ix2 p k) = V c main_v14 (ix2 (rowOf t.val (lt0 t) p) k) := by
  have := lt0 t
  simp only [rowOf, seqOf]
  blk_point [iblk0, idx0 t]
theorem rd0_1 (t : Fin cfg0.N) (i : Fin 8) (k : Fin 1024) :
    iblk0 V c 1 t (ix3 0 i k) = V c main_v4 (ix3 (seqOf t.val (lt0 t)) i k) := by
  have := lt0 t
  simp only [rowOf, seqOf]
  blk_point [iblk0, idx0 t]
theorem rd0_2 (t : Fin cfg0.N) (i : Fin 8) (k : Fin 1024) :
    iblk0 V c 2 t (ix2 i k) = V c main_v6 (ix2 i k) := by
  have := lt0 t
  simp only [rowOf, seqOf]
  blk_point [iblk0, idx0 t]
theorem rd0_3 (t : Fin cfg0.N) (g : Fin 8) (f : Fin 704) (k : Fin 1024) :
    iblk0 V c 3 t (ix3 g f k) = V c main_v10 (ix3 g f k) := by
  have := lt0 t
  simp only [rowOf, seqOf]
  blk_point [iblk0, idx0 t]
theorem rd0_4 (t : Fin cfg0.N) (g : Fin 4) (f : Fin 704) (k : Fin 1024) :
    iblk0 V c 4 t (ix3 g f k) = V c main_v13 (ix3 g f k) := by
  have := lt0 t
  simp only [rowOf, seqOf]
  blk_point [iblk0, idx0 t]
theorem rd1_0 (t : Fin cfg1.N) (p : Fin 256) (k : Fin 1024) :
    iblk1 V c 0 t (ix2 p k) = V c main_v15 (ix2 (rowOf t.val (lt1 t) p) k) := by
  have := lt1 t
  simp only [rowOf, seqOf]
  blk_point [iblk1, idx1 t]
theorem rd1_1 (t : Fin cfg1.N) (p : Fin 256) (k : Fin 1024) :
    iblk1 V c 1 t (ix2 p k) = V c main_v14 (ix2 (rowOf t.val (lt1 t) p) k) := by
  have := lt1 t
  simp only [rowOf, seqOf]
  blk_point [iblk1, idx1 t]
theorem rd1_2 (t : Fin cfg1.N) (p : Fin 256) (k : Fin 1024) :
    iblk1 V c 2 t (ix2 p k) = V c main_v16_2 (ix2 (rowOf t.val (lt1 t) p) k) := by
  have := lt1 t
  simp only [rowOf, seqOf]
  blk_point [iblk1, idx1 t]
theorem rd1_3 (t : Fin cfg1.N) (g : Fin 8) (p : Fin 256) (f : Fin 704) :
    iblk1 V c 3 t (ix3 g p f) = V c main_v16_1 (ix3 g (rowOf t.val (lt1 t) p) f) := by
  have := lt1 t
  simp only [rowOf, seqOf]
  blk_point [iblk1, idx1 t]
theorem rd1_4 (t : Fin cfg1.N) (i : Fin 8) (k : Fin 1024) :
    iblk1 V c 4 t (ix3 0 i k) = V c main_v4 (ix3 (seqOf t.val (lt1 t)) i k) := by
  have := lt1 t
  simp only [rowOf, seqOf]
  blk_point [iblk1, idx1 t]
theorem rd1_5 (t : Fin cfg1.N) (i : Fin 8) (k : Fin 1024) :
    iblk1 V c 5 t (ix2 i k) = V c main_v6 (ix2 i k) := by
  have := lt1 t
  simp only [rowOf, seqOf]
  blk_point [iblk1, idx1 t]
theorem rd1_6 (t : Fin cfg1.N) (g : Fin 8) (f : Fin 704) (k : Fin 1024) :
    iblk1 V c 6 t (ix3 g f k) = V c main_v10 (ix3 g f k) := by
  have := lt1 t
  simp only [rowOf, seqOf]
  blk_point [iblk1, idx1 t]
theorem rd1_7 (t : Fin cfg1.N) (g : Fin 4) (f : Fin 704) (k : Fin 1024) :
    iblk1 V c 7 t (ix3 g f k) = V c main_v13 (ix3 g f k) := by
  have := lt1 t
  simp only [rowOf, seqOf]
  blk_point [iblk1, idx1 t]

end

variable (m : (ℓ : Loc nD τ sig) → Buf (Elt Ideal) ℓ) (ρ : Dev nD → PrngReg) (c : Dev nD)

/-! ### The arrays the forward call finds -/

/-- The modulation rows the region finds. -/
def mod8 (x2 x3 x4 : Vec Ideal S2x1024 .f32) : Vec Ideal S2x8x1024 .f32 :=
  concatenate S2x8x1024 1 [⟨S2x1x1024, broadcastInDim S2x1x1024 ![0, 2] bcast_S2x1024_S2x1x1024_0_2 x2⟩,
    ⟨S2x1x1024, broadcastInDim S2x1x1024 ![0, 2] bcast_S2x1024_S2x1x1024_0_2 x3⟩,
    ⟨S2x1x1024, broadcastInDim S2x1x1024 ![0, 2] bcast_S2x1024_S2x1x1024_0_2 x4⟩,
    ⟨S2x5x1024, broadcastInDim S2x5x1024 ![] bcast_S_S2x5x1024 (constant (F := Ideal) S_ .f32 0x00000000#32)⟩]
    concatenates_S2x1x1024_S2x1x1024_S2x1x1024_S2x5x1024_S2x8x1024_d1

/-- Equal pieces give equal joins. -/
theorem cat4 {a a' b b' d d' : Vec Ideal S2x1x1024 .f32} {e e' : Vec Ideal S2x5x1024 .f32}
    (ha : a = a') (hb : b = b') (hd : d = d') (he : e = e') :
    concatenate S2x8x1024 1 [⟨S2x1x1024, a⟩, ⟨S2x1x1024, b⟩, ⟨S2x1x1024, d⟩, ⟨S2x5x1024, e⟩]
      concatenates_S2x1x1024_S2x1x1024_S2x1x1024_S2x5x1024_S2x8x1024_d1
    = concatenate S2x8x1024 1 [⟨S2x1x1024, a'⟩, ⟨S2x1x1024, b'⟩, ⟨S2x1x1024, d'⟩, ⟨S2x5x1024, e'⟩]
      concatenates_S2x1x1024_S2x1x1024_S2x1x1024_S2x5x1024_S2x8x1024_d1 := by
  subst ha hb hd he; rfl

theorem mod8_0 (x2 x3 x4 : Vec Ideal S2x1024 .f32) (b : Fin 2) (k : Fin 1024) : mod8 x2 x3 x4 (ix3 b 0 k) = x2 (ix2 b k) := by
  pointwise [mod8]

theorem mod8_1 (x2 x3 x4 : Vec Ideal S2x1024 .f32) (b : Fin 2) (k : Fin 1024) : mod8 x2 x3 x4 (ix3 b 1 k) = x3 (ix2 b k) := by
  pointwise [mod8]

theorem mod8_2 (x2 x3 x4 : Vec Ideal S2x1024 .f32) (b : Fin 2) (k : Fin 1024) : mod8 x2 x3 x4 (ix3 b 2 k) = x4 (ix2 b k) := by
  pointwise [mod8]

set_option maxHeartbeats 1000000 in
/-- The modulation rows are the three arguments' rows. -/
theorem V4 : V1 m ρ c main_v4 = mod8 (m ((c : Thread nD τ).loc main_arg2)) (m ((c : Thread nD τ).loc main_arg3)) (m ((c : Thread nD τ).loc main_arg4)) := by
  unfold V1 W1 W0
  after_results
  refine cat4 ?_ ?_ ?_ ?_
  all_goals
    beta_reduce
    simp only [Matrix.cons_val]
    after_results_steps
    try rfl

/-- The gain rows the region finds. -/
def gain8 (x5 x6 : Vec Ideal S1x1024 .f32) : Vec Ideal S8x1024 .f32 :=
  concatenate S8x1024 0 [⟨S1x1024, x5⟩, ⟨S1x1024, x6⟩,
    ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩, ⟨S1x1024, broadcastInDim S1x1024 ![] bcast_S_S1x1024 (constant (F := Ideal) S_ .f32 0x00000000#32)⟩]
    concatenates_S1x1024_S1x1024_S1x1024_S1x1024_S1x1024_S1x1024_S1x1024_S1x1024_S8x1024_d0

theorem gain8_0 (x5 x6 : Vec Ideal S1x1024 .f32) (k : Fin 1024) : gain8 x5 x6 (ix2 0 k) = x5 (ix2 0 k) := by
  pointwise [gain8]

theorem gain8_1 (x5 x6 : Vec Ideal S1x1024 .f32) (k : Fin 1024) : gain8 x5 x6 (ix2 1 k) = x6 (ix2 0 k) := by
  pointwise [gain8]

/-- Equal pieces give equal joins. -/
theorem cat8 {a a' b b' d d' e e' f f' g g' h h' i i' : Vec Ideal S1x1024 .f32}
    (ha : a = a') (hb : b = b') (hd : d = d') (he : e = e') (hf : f = f') (hg : g = g') (hh : h = h') (hi : i = i') :
    concatenate S8x1024 0 [⟨S1x1024, a⟩, ⟨S1x1024, b⟩, ⟨S1x1024, d⟩, ⟨S1x1024, e⟩, ⟨S1x1024, f⟩, ⟨S1x1024, g⟩, ⟨S1x1024, h⟩, ⟨S1x1024, i⟩]
      concatenates_S1x1024_S1x1024_S1x1024_S1x1024_S1x1024_S1x1024_S1x1024_S1x1024_S8x1024_d0
    = concatenate S8x1024 0 [⟨S1x1024, a'⟩, ⟨S1x1024, b'⟩, ⟨S1x1024, d'⟩, ⟨S1x1024, e'⟩, ⟨S1x1024, f'⟩, ⟨S1x1024, g'⟩, ⟨S1x1024, h'⟩, ⟨S1x1024, i'⟩]
      concatenates_S1x1024_S1x1024_S1x1024_S1x1024_S1x1024_S1x1024_S1x1024_S1x1024_S8x1024_d0 := by
  subst ha hb hd he hf hg hh hi; rfl

set_option maxHeartbeats 1000000 in
/-- The gain rows are the two arguments. -/
theorem V6 : V1 m ρ c main_v6 = gain8 (m ((c : Thread nD τ).loc main_arg5)) (m ((c : Thread nD τ).loc main_arg6)) := by
  unfold V1 W1 W0
  after_results
  refine cat8 ?_ ?_ ?_ ?_ ?_ ?_ ?_ ?_
  all_goals
    beta_reduce
    simp only [Matrix.cons_val]
    after_results_steps
    try rfl

/-- The rows of the block's input. -/
theorem V14 (n : Fin 4096) (k : Fin 1024) : V1 m ρ c main_v14 (ix2 n k)
    = m ((c : Thread nD τ).loc main_arg0) (ix3 ⟨n.val / 2048, by omega⟩ ⟨n.val % 2048, by omega⟩ k) := by
  unfold V1 W1 W0
  after_results
  pointwise []

/-- The rows of the gradient at the block's output. -/
theorem V15 (n : Fin 4096) (k : Fin 1024) : V1 m ρ c main_v15 (ix2 n k)
    = m ((c : Thread nD τ).loc main_arg1) (ix3 ⟨n.val / 2048, by omega⟩ ⟨n.val % 2048, by omega⟩ k) := by
  unfold V1 W1 W0
  after_results
  pointwise []

/-- The slabs of the input projection. -/
theorem V10 (g : Fin 8) (f : Fin 704) (k : Fin 1024) : V1 m ρ c main_v10 (ix3 g f k)
    = m ((c : Thread nD τ).loc main_arg7) (ix3 0 k (slab g f)) := by
  unfold V1 W1 W0
  after_results
  pointwise []
  exact congrArg (fun q => m ((c : Thread nD τ).loc main_arg7) (ix3 0 k q))
    (Fin.ext (by show g.val * 704 + f.val = 704 * g.val + f.val; omega))

/-- The chunks of the output projection. -/
theorem V13 (g : Fin 4) (f : Fin 704) (k : Fin 1024) : V1 m ρ c main_v13 (ix3 g f k)
    = m ((c : Thread nD τ).loc main_arg8) (ix3 0 (ch g f) k) := by
  unfold V1 W1 W0
  after_results
  pointwise []
  exact congrArg (fun q => m ((c : Thread nD τ).loc main_arg8) (ix3 0 q k))
    (Fin.ext (by show g.val * 704 + f.val = 704 * g.val + f.val; omega))

/-! ### The arguments as real numbers -/

/-- The arguments on device `c`, the second being the gradient at the block's output. -/
def rawOf : Args where
  X b s k := (m ((c : Thread nD τ).loc main_arg0) (ix3 b s k) : EReal).toReal
  T b s k := (m ((c : Thread nD τ).loc main_arg1) (ix3 b s k) : EReal).toReal
  sh b k := (m ((c : Thread nD τ).loc main_arg2) (ix2 b k) : EReal).toReal
  sc b k := (m ((c : Thread nD τ).loc main_arg3) (ix2 b k) : EReal).toReal
  gt b k := (m ((c : Thread nD τ).loc main_arg4) (ix2 b k) : EReal).toReal
  gpre k := (m ((c : Thread nD τ).loc main_arg5) (ix2 0 k) : EReal).toReal
  gpost k := (m ((c : Thread nD τ).loc main_arg6) (ix2 0 k) : EReal).toReal
  wi k j := (m ((c : Thread nD τ).loc main_arg7) (ix3 0 k j) : EReal).toReal
  wo j k := (m ((c : Thread nD τ).loc main_arg8) (ix3 0 j k) : EReal).toReal

/-- The arguments on device `c`, as those of a block whose target gives that gradient. -/
def argsOf : Args := (rawOf m c).incoming

/-- Every argument holds real numbers. -/
structure Fin9 : Prop where
  f0 : ∀ i, ((((m ((c : Thread nD τ).loc main_arg0) i : EReal).toReal : ℝ)) : EReal) = m ((c : Thread nD τ).loc main_arg0) i
  f1 : ∀ i, ((((m ((c : Thread nD τ).loc main_arg1) i : EReal).toReal : ℝ)) : EReal) = m ((c : Thread nD τ).loc main_arg1) i
  f2 : ∀ i, ((((m ((c : Thread nD τ).loc main_arg2) i : EReal).toReal : ℝ)) : EReal) = m ((c : Thread nD τ).loc main_arg2) i
  f3 : ∀ i, ((((m ((c : Thread nD τ).loc main_arg3) i : EReal).toReal : ℝ)) : EReal) = m ((c : Thread nD τ).loc main_arg3) i
  f4 : ∀ i, ((((m ((c : Thread nD τ).loc main_arg4) i : EReal).toReal : ℝ)) : EReal) = m ((c : Thread nD τ).loc main_arg4) i
  f5 : ∀ i, ((((m ((c : Thread nD τ).loc main_arg5) i : EReal).toReal : ℝ)) : EReal) = m ((c : Thread nD τ).loc main_arg5) i
  f6 : ∀ i, ((((m ((c : Thread nD τ).loc main_arg6) i : EReal).toReal : ℝ)) : EReal) = m ((c : Thread nD τ).loc main_arg6) i
  f7 : ∀ i, ((((m ((c : Thread nD τ).loc main_arg7) i : EReal).toReal : ℝ)) : EReal) = m ((c : Thread nD τ).loc main_arg7) i
  f8 : ∀ i, ((((m ((c : Thread nD τ).loc main_arg8) i : EReal).toReal : ℝ)) : EReal) = m ((c : Thread nD τ).loc main_arg8) i

/-- The real numbers of block `n`. -/
def tileOf (n : ℕ) (h : n < 16) : Tile where
  x p := (argsOf m c).X (seqOf n h) (posOf n p)
  t p := (argsOf m c).T (seqOf n h) (posOf n p)
  sh := (argsOf m c).sh (seqOf n h)
  sc := (argsOf m c).sc (seqOf n h)
  gt := (argsOf m c).gt (seqOf n h)
  gpre := (argsOf m c).gpre
  gpost := (argsOf m c).gpost
  wi := (argsOf m c).wi
  wo := (argsOf m c).wo

/-- Token `p` of block `n` is the argument token at its sequence and place. -/
theorem tile_tok (n : ℕ) (h : n < 16) (p : Fin 256) :
    (tileOf m c n h).tok p = (argsOf m c).tok (seqOf n h) (posOf n p) := rfl

/-- Token `p` of block `n` is row `256 n + p`. -/
theorem tok_row (n : ℕ) (h : n < 16) (p : Fin 256) (j : Fin 4096) (hj : j.val = n * 256 + p.val) :
    (tileOf m c n h).tok p = (argsOf m c).row j := by
  have hb : seqOf n h = ⟨j.val / 2048, by omega⟩ := Fin.ext (by show n / 8 = j.val / 2048; omega)
  have hs : posOf n p = ⟨j.val % 2048, by omega⟩ := Fin.ext (by show n % 8 * 256 + p.val = j.val % 2048; omega)
  rw [tile_tok, hb, hs]
  rfl

/-- A row of the 4096 is its sequence and place. -/
theorem split (n : ℕ) (h : n < 16) (p : Fin 256) {α : Type} (F : Fin 2 → Fin 2048 → α) :
    F ⟨(rowOf n h p).val / 2048, by omega⟩ ⟨(rowOf n h p).val % 2048, by omega⟩ = F (seqOf n h) (posOf n p) := by
  have hb : seqOf n h = ⟨(rowOf n h p).val / 2048, by omega⟩ :=
    Fin.ext (by show n / 8 = (n * 256 + p.val) / 2048; omega)
  have hs : posOf n p = ⟨(rowOf n h p).val % 2048, by omega⟩ :=
    Fin.ext (by show n % 8 * 256 + p.val = (n * 256 + p.val) % 2048; omega)
  rw [hb, hs]

variable {m c}

theorem in_x (H : Fin9 m c) (n : ℕ) (h : n < 16) (p : Fin 256) (k : Fin 1024) :
    V1 m ρ c main_v14 (ix2 (rowOf n h p) k) = (((tileOf m c n h).x p k : ℝ) : EReal) := by
  rw [V14, split n h p fun b s => m ((c : Thread nD τ).loc main_arg0) (ix3 b s k)]
  exact (H.f0 _).symm

theorem in_d (H : Fin9 m c) (n : ℕ) (h : n < 16) (p : Fin 256) (k : Fin 1024) :
    V1 m ρ c main_v15 (ix2 (rowOf n h p) k) = ((((tileOf m c n h).tok p).dxo k : ℝ) : EReal) := by
  rw [V15, split n h p fun b s => m ((c : Thread nD τ).loc main_arg1) (ix3 b s k), tile_tok]
  refine (H.f1 _).symm.trans (congrArg Real.toEReal ?_)
  exact ((rawOf m c).incoming_dxo (seqOf n h) (posOf n p) k).symm

theorem in_sh (H : Fin9 m c) (n : ℕ) (h : n < 16) (k : Fin 1024) :
    V1 m ρ c main_v4 (ix3 (seqOf n h) 0 k) = (((tileOf m c n h).sh k : ℝ) : EReal) := by
  rw [V4, mod8_0]; exact (H.f2 _).symm

theorem in_sc (H : Fin9 m c) (n : ℕ) (h : n < 16) (k : Fin 1024) :
    V1 m ρ c main_v4 (ix3 (seqOf n h) 1 k) = (((tileOf m c n h).sc k : ℝ) : EReal) := by
  rw [V4, mod8_1]; exact (H.f3 _).symm

theorem in_gt (H : Fin9 m c) (n : ℕ) (h : n < 16) (k : Fin 1024) :
    V1 m ρ c main_v4 (ix3 (seqOf n h) 2 k) = (((tileOf m c n h).gt k : ℝ) : EReal) := by
  rw [V4, mod8_2]; exact (H.f4 _).symm

theorem in_gpre (H : Fin9 m c) (n : ℕ) (h : n < 16) (k : Fin 1024) :
    V1 m ρ c main_v6 (ix2 0 k) = (((tileOf m c n h).gpre k : ℝ) : EReal) := by
  rw [V6, gain8_0]; exact (H.f5 _).symm

theorem in_gpost (H : Fin9 m c) (n : ℕ) (h : n < 16) (k : Fin 1024) :
    V1 m ρ c main_v6 (ix2 1 k) = (((tileOf m c n h).gpost k : ℝ) : EReal) := by
  rw [V6, gain8_1]; exact (H.f6 _).symm

theorem in_wi (H : Fin9 m c) (n : ℕ) (h : n < 16) (g : Fin 8) (f : Fin 704) (k : Fin 1024) :
    V1 m ρ c main_v10 (ix3 g f k) = (((tileOf m c n h).wi k (slab g f) : ℝ) : EReal) := by
  rw [V10]; exact (H.f7 _).symm

theorem in_wo (H : Fin9 m c) (n : ℕ) (h : n < 16) (g : Fin 4) (f : Fin 704) (k : Fin 1024) :
    V1 m ρ c main_v13 (ix3 g f k) = (((tileOf m c n h).wo (ch g f) k : ℝ) : EReal) := by
  rw [V13]; exact (H.f8 _).symm

/-- The forward call's blocks hold the arguments' numbers. -/
theorem holds0 (H : Fin9 m c) (t : Fin cfg0.N) :
    Fwd.Holds (iblk0 (V1 m ρ) c 0 t) (iblk0 (V1 m ρ) c 1 t) (iblk0 (V1 m ρ) c 2 t) (iblk0 (V1 m ρ) c 3 t)
      (iblk0 (V1 m ρ) c 4 t) (tileOf m c t.val (lt0 t)) :=
  ⟨fun p k => (rd0_0 _ c t p k).trans (in_x ρ H _ _ p k),
    fun k => (rd0_1 _ c t 0 k).trans (in_sh ρ H _ _ k),
    fun k => (rd0_1 _ c t 1 k).trans (in_sc ρ H _ _ k),
    fun k => (rd0_1 _ c t 2 k).trans (in_gt ρ H _ _ k),
    fun k => (rd0_2 _ c t 0 k).trans (in_gpre ρ H _ _ k),
    fun k => (rd0_2 _ c t 1 k).trans (in_gpost ρ H _ _ k),
    fun g f k => (rd0_3 _ c t g f k).trans (in_wi ρ H _ _ g f k),
    fun g f k => (rd0_4 _ c t g f k).trans (in_wo ρ H _ _ g f k)⟩

/-! ### What the forward call leaves -/

theorem pt5 (H : Fin9 m c) (t : Fin cfg0.N) (y : S256x1024.Idx) (j : S4096x1024.Idx)
    (h0 : (j 0).val = t.val * 256 + (y 0).val) (h1 : (j 1).val = (y 1).val) :
    out0_5 (iblk0 (V1 m ρ) c 0 t) (iblk0 (V1 m ρ) c 1 t) (iblk0 (V1 m ρ) c 2 t) (iblk0 (V1 m ρ) c 3 t) (iblk0 (V1 m ρ) c 4 t) y
      = (argsOf m c).resOut j := by
  refine (Fwd.out5_at (holds0 ρ H t) y).trans ?_
  rw [tok_row m c t.val (lt0 t) (y 0) (j 0) h0, ← (Fin.ext h1 : j 1 = y 1)]
  rfl

theorem pt7 (H : Fin9 m c) (t : Fin cfg0.N) (y : S256x1024.Idx) (j : S4096x1024.Idx)
    (h0 : (j 0).val = t.val * 256 + (y 0).val) (h1 : (j 1).val = (y 1).val) :
    out0_7 (iblk0 (V1 m ρ) c 0 t) (iblk0 (V1 m ρ) c 1 t) (iblk0 (V1 m ρ) c 2 t) (iblk0 (V1 m ρ) c 3 t) (iblk0 (V1 m ρ) c 4 t) y
      = (argsOf m c).resY j := by
  refine (Fwd.out7_at (holds0 ρ H t) y).trans ?_
  rw [tok_row m c t.val (lt0 t) (y 0) (j 0) h0, ← (Fin.ext h1 : j 1 = y 1)]
  rfl

theorem pt6 (H : Fin9 m c) (t : Fin cfg0.N) (y : S8x256x704.Idx) (j : S8x4096x704.Idx)
    (h0 : (j 0).val = (y 0).val) (h1 : (j 1).val = t.val * 256 + (y 1).val) (h2 : (j 2).val = (y 2).val) :
    out0_6 (iblk0 (V1 m ρ) c 0 t) (iblk0 (V1 m ρ) c 1 t) (iblk0 (V1 m ρ) c 2 t) (iblk0 (V1 m ρ) c 3 t) (iblk0 (V1 m ρ) c 4 t) y
      = (argsOf m c).resGu j := by
  rw [Cert.KernelIdeal.Value.eta3 y]
  refine (Fwd.out6_at (holds0 ρ H t) (y 0) (y 1) (y 2)).trans ?_
  rw [tok_row m c t.val (lt0 t) (y 1) (j 1) h1, ← (Fin.ext h0 : j 0 = y 0), ← (Fin.ext h2 : j 2 = y 2)]
  rfl

/-- The forward call's output of the block. -/
theorem final5 (H : Fin9 m c) : (dat0 (V1 m ρ) c).arrAt 5 cfg0.N = (argsOf m c).resOut := by
  refine (dat0 (V1 m ρ) c).arrAt_eq_of_covers 5 _ (by decide +kernel) fun t hf y => ?_
  blk_simp
  rw [after0_5]
  refine pt5 ρ H t y _ ?_ ?_ <;> (blk_simp [idx0 t] <;> try omega)

/-- The forward call's kept input projection. -/
theorem final6 (H : Fin9 m c) : (dat0 (V1 m ρ) c).arrAt 6 cfg0.N = (argsOf m c).resGu := by
  refine (dat0 (V1 m ρ) c).arrAt_eq_of_covers 6 _ (by decide +kernel) fun t hf y => ?_
  blk_simp
  rw [after0_6]
  refine pt6 ρ H t y _ ?_ ?_ ?_ <;> (blk_simp [idx0 t] <;> try omega)

/-- The forward call's kept output projection. -/
theorem final7 (H : Fin9 m c) : (dat0 (V1 m ρ) c).arrAt 7 cfg0.N = (argsOf m c).resY := by
  refine (dat0 (V1 m ρ) c).arrAt_eq_of_covers 7 _ (by decide +kernel) fun t hf y => ?_
  blk_simp
  rw [after0_7]
  refine pt7 ρ H t y _ ?_ ?_ <;> (blk_simp [idx0 t] <;> try omega)

/-! ### What the backward call finds -/

theorem V2_in (r : Ref sig .tc) (h : ∀ w : Fin cfg0.W, Pipeline.arrRef spec0 w = r → (cfg0.win w).isOut = false) :
    V2 m ρ c r = V1 m ρ c r := W2_of m ρ c r h

theorem in_y (H : Fin9 m c) (n : ℕ) (h : n < 16) (p : Fin 256) (k : Fin 1024) :
    V2 m ρ c main_v16_2 (ix2 (rowOf n h p) k) = ((((tileOf m c n h).tok p).y k : ℝ) : EReal) := by
  refine (congrFun ((W2_arr m ρ c 7).trans (final7 ρ H)) (ix2 (rowOf n h p) k)).trans ?_
  rw [tok_row m c n h p (rowOf n h p) rfl]
  rfl

theorem in_gu (H : Fin9 m c) (n : ℕ) (h : n < 16) (g : Fin 8) (p : Fin 256) (f : Fin 704) :
    V2 m ρ c main_v16_1 (ix3 g (rowOf n h p) f) = ((((tileOf m c n h).tok p).gu (slab g f) : ℝ) : EReal) := by
  refine (congrFun ((W2_arr m ρ c 6).trans (final6 ρ H)) (ix3 g (rowOf n h p) f)).trans ?_
  rw [tok_row m c n h p (rowOf n h p) rfl]
  rfl

/-- The backward call's blocks hold the arguments' numbers, and what the forward call left. -/
theorem holds1 (H : Fin9 m c) (t : Fin cfg1.N) :
    Bwd.Holds (Bwd.blkOf (V2 m ρ) c t) (tileOf m c t.val (lt1 t)) :=
  ⟨fun p k => (rd1_0 _ c t p k).trans ((congrFun (V2_in ρ main_v15 (by decide +kernel)) _).trans (in_d ρ H _ _ p k)),
    fun p k => (rd1_1 _ c t p k).trans ((congrFun (V2_in ρ main_v14 (by decide +kernel)) _).trans (in_x ρ H _ _ p k)),
    fun p k => (rd1_2 _ c t p k).trans (in_y ρ H _ _ p k),
    fun g p f => (rd1_3 _ c t g p f).trans (in_gu ρ H _ _ g p f),
    fun k => (rd1_4 _ c t 0 k).trans ((congrFun (V2_in ρ main_v4 (by decide +kernel)) _).trans (in_sh ρ H _ _ k)),
    fun k => (rd1_4 _ c t 1 k).trans ((congrFun (V2_in ρ main_v4 (by decide +kernel)) _).trans (in_sc ρ H _ _ k)),
    fun k => (rd1_4 _ c t 2 k).trans ((congrFun (V2_in ρ main_v4 (by decide +kernel)) _).trans (in_gt ρ H _ _ k)),
    fun k => (rd1_5 _ c t 0 k).trans ((congrFun (V2_in ρ main_v6 (by decide +kernel)) _).trans (in_gpre ρ H _ _ k)),
    fun k => (rd1_5 _ c t 1 k).trans ((congrFun (V2_in ρ main_v6 (by decide +kernel)) _).trans (in_gpost ρ H _ _ k)),
    fun g f k => (rd1_6 _ c t g f k).trans ((congrFun (V2_in ρ main_v10 (by decide +kernel)) _).trans (in_wi ρ H _ _ g f k)),
    fun g f k => (rd1_7 _ c t g f k).trans ((congrFun (V2_in ρ main_v13 (by decide +kernel)) _).trans (in_wo ρ H _ _ g f k))⟩

end Cert.Kernel2Ideal.Pair

end
-- ==== Proof.PairArrays.lean ====
module

public import proofs.«01_k».proof.Proof.PairBlocks
public import proofs.«01_k».proof.Proof.BwdWhole

@[expose] public section

set_option maxRecDepth 2000

/-!
The seven result arrays of the backward call, in terms of the arguments' tokens.
-/

noncomputable section

namespace Cert.Kernel2Ideal.Pair

open Cert.Kernel2Ideal Cert.Kernel2Ideal.Gen Cert.Kernel2Ideal.Bwd Cert.Ffn
open Cert.KernelIdeal.Value (Tile eta2 eta3 sum_fin_runs modPart gainPart)
open Idealize.ShloMosaic Idealize.ShloMosaic.TcCoe Idealize.SL.Sem
open Idealize.ShloMosaic.Pipeline (Dat)

variable {m : (ℓ : Loc nD τ sig) → Buf (Elt Ideal) ℓ} (ρ : Dev nD → PrngReg) {c : Dev nD}

/-! ### The blocks stored once -/

/-- A grid point's block of the gradient at the block's input. -/
theorem pt8 (H : Fin9 m c) (t : Fin cfg1.N) (y : S256x1024.Idx) (j : S4096x1024.Idx)
    (h0 : (j 0).val = t.val * 256 + (y 0).val) (h1 : (j 1).val = (y 1).val) :
    dxw (blkOf (V2 m ρ) c t) y = (argsOf m c).resDx j := by
  rw [eta2 y]
  refine (dxw_at (holds1 ρ H t) (y 0) (y 1)).trans ?_
  rw [tok_row m c t.val (lt1 t) (y 0) (j 0) h0, ← (Fin.ext h1 : j 1 = y 1)]
  rfl

/-- A grid point's block of the modulated input. -/
theorem pt11 (H : Fin9 m c) (t : Fin cfg1.N) (y : S256x1024.Idx) (j : S4096x1024.Idx)
    (h0 : (j 0).val = t.val * 256 + (y 0).val) (h1 : (j 1).val = (y 1).val) :
    hw (blkOf (V2 m ρ) c t) y = (argsOf m c).resH j := by
  rw [eta2 y]
  refine (hw_at (holds1 ρ H t) (y 0) (y 1)).trans ?_
  rw [tok_row m c t.val (lt1 t) (y 0) (j 0) h0, ← (Fin.ext h1 : j 1 = y 1)]
  rfl

/-- A grid point's block of the gradient at the output projection. -/
theorem pt12 (H : Fin9 m c) (t : Fin cfg1.N) (y : S256x1024.Idx) (j : S4096x1024.Idx)
    (h0 : (j 0).val = t.val * 256 + (y 0).val) (h1 : (j 1).val = (y 1).val) :
    dyw (blkOf (V2 m ρ) c t) y = (argsOf m c).resDy j := by
  rw [eta2 y]
  refine (dyw_at (holds1 ρ H t) (y 0) (y 1)).trans ?_
  rw [tok_row m c t.val (lt1 t) (y 0) (j 0) h0, ← (Fin.ext h1 : j 1 = y 1)]
  rfl

/-- A grid point's planes of the gradient at the input projection. -/
theorem pt9 (H : Fin9 m c) (t : Fin cfg1.N) (y : S8x256x704.Idx) (j : S8x4096x704.Idx)
    (h0 : (j 0).val = (y 0).val) (h1 : (j 1).val = t.val * 256 + (y 1).val) (h2 : (j 2).val = (y 2).val) :
    dguBlk (blkOf (V2 m ρ) c t) y = (argsOf m c).resDgu j := by
  rw [eta3 y]
  refine (dguBlk_at (holds1 ρ H t) (y 0) (y 1) (y 2)).trans ?_
  rw [tok_row m c t.val (lt1 t) (y 1) (j 1) h1, ← (Fin.ext h0 : j 0 = y 0), ← (Fin.ext h2 : j 2 = y 2)]
  rfl

/-- A grid point's planes of the activation. -/
theorem pt10 (H : Fin9 m c) (t : Fin cfg1.N) (y : S4x256x704.Idx) (j : S4x4096x704.Idx)
    (h0 : (j 0).val = (y 0).val) (h1 : (j 1).val = t.val * 256 + (y 1).val) (h2 : (j 2).val = (y 2).val) :
    actBlk (blkOf (V2 m ρ) c t) y = (argsOf m c).resAct j := by
  rw [eta3 y]
  refine (actBlk_at (holds1 ρ H t) (y 0) (y 1) (y 2)).trans ?_
  rw [tok_row m c t.val (lt1 t) (y 1) (j 1) h1, ← (Fin.ext h0 : j 0 = y 0), ← (Fin.ext h2 : j 2 = y 2)]
  rfl

/-- The backward call's gradient at the block's input. -/
theorem final8 (H : Fin9 m c) : (dat1 (V2 m ρ) c).arrAt 8 cfg1.N = (argsOf m c).resDx := by
  refine (dat1 (V2 m ρ) c).arrAt_eq_of_covers 8 _ (by decide +kernel) fun t hf y => ?_
  blk_simp
  rw [after1_8, w8]
  refine pt8 ρ H t y _ ?_ ?_ <;> (blk_simp [idx1 t] <;> try omega)

/-- The backward call's gradient at the input projection. -/
theorem final9 (H : Fin9 m c) : (dat1 (V2 m ρ) c).arrAt 9 cfg1.N = (argsOf m c).resDgu := by
  refine (dat1 (V2 m ρ) c).arrAt_eq_of_covers 9 _ (by decide +kernel) fun t hf y => ?_
  blk_simp
  rw [after1_9, w9]
  refine pt9 ρ H t y _ ?_ ?_ ?_ <;> (blk_simp [idx1 t] <;> try omega)

/-- The backward call's activation. -/
theorem final10 (H : Fin9 m c) : (dat1 (V2 m ρ) c).arrAt 10 cfg1.N = (argsOf m c).resAct := by
  refine (dat1 (V2 m ρ) c).arrAt_eq_of_covers 10 _ (by decide +kernel) fun t hf y => ?_
  blk_simp
  rw [after1_10, w10]
  refine pt10 ρ H t y _ ?_ ?_ ?_ <;> (blk_simp [idx1 t] <;> try omega)

/-- The backward call's modulated input. -/
theorem final11 (H : Fin9 m c) : (dat1 (V2 m ρ) c).arrAt 11 cfg1.N = (argsOf m c).resH := by
  refine (dat1 (V2 m ρ) c).arrAt_eq_of_covers 11 _ (by decide +kernel) fun t hf y => ?_
  blk_simp
  rw [after1_11, w11]
  refine pt11 ρ H t y _ ?_ ?_ <;> (blk_simp [idx1 t] <;> try omega)

/-- The backward call's gradient at the output projection. -/
theorem final12 (H : Fin9 m c) : (dat1 (V2 m ρ) c).arrAt 12 cfg1.N = (argsOf m c).resDy := by
  refine (dat1 (V2 m ρ) c).arrAt_eq_of_covers 12 _ (by decide +kernel) fun t hf y => ?_
  blk_simp
  rw [after1_12, w12]
  refine pt12 ρ H t y _ ?_ ?_ <;> (blk_simp [idx1 t] <;> try omega)

/-! ### The sums over the grid points -/

variable (m c)

/-- The eight grid points of sequence `b` sum to the sequence's 2048 tokens. -/
theorem sum_seq (φ : Tok → ℝ) (b : Fin 2) (n : ℕ) (hn : n = b.val) (hlt : ∀ s : Fin 8, 8 * n + s.val < cfg1.N) :
    ∑ s : Fin 8, ∑ p, φ ((tileOf m c (8 * n + s.val) (lt1 ⟨8 * n + s.val, hlt s⟩)).tok p) = ∑ q, φ ((argsOf m c).tok b q) := by
  rw [← sum_fin_runs 8 256 2048 (by decide) (fun q => φ ((argsOf m c).tok b q)) (fun s p => by omega)]
  refine Finset.sum_congr rfl fun s _ => Finset.sum_congr rfl fun p _ => ?_
  rw [tile_tok]
  have hb : seqOf (8 * n + s.val) (lt1 ⟨8 * n + s.val, hlt s⟩) = b := Fin.ext (by show (8 * n + s.val) / 8 = b.val; omega)
  have hs : posOf (8 * n + s.val) p = ⟨s.val * 256 + p.val, by omega⟩ :=
    Fin.ext (by show (8 * n + s.val) % 8 * 256 + p.val = s.val * 256 + p.val; omega)
  rw [hb, hs]

/-- A sum over the sixteen grid points, sequence by sequence. -/
theorem sum_points (G : Fin cfg1.N → ℝ) (hlt : ∀ (b : Fin 2) (s : Fin 8), 8 * b.val + s.val < cfg1.N) :
    ∑ t : Fin cfg1.N, G t = ∑ b : Fin 2, ∑ s : Fin 8, G ⟨8 * b.val + s.val, hlt b s⟩ := by
  rw [← sum_fin_runs 2 8 cfg1.N N_0 G (fun b s => by have := hlt b s; omega)]
  refine Finset.sum_congr rfl fun b _ => Finset.sum_congr rfl fun s _ => congrArg G (Fin.ext ?_)
  show b.val * 8 + s.val = 8 * b.val + s.val
  omega

/-- The sixteen grid points sum to all tokens. -/
theorem sum_all (φ : Tok → ℝ) :
    ∑ t : Fin cfg1.N, ∑ p, φ ((tileOf m c t.val (lt1 t)).tok p) = ∑ b, ∑ q, φ ((argsOf m c).tok b q) := by
  rw [sum_points (fun t => ∑ p, φ ((tileOf m c t.val (lt1 t)).tok p)) (fun b s => by show _ < 16; omega)]
  exact Finset.sum_congr rfl fun b _ => sum_seq m c φ b b.val rfl (fun s => by show _ < 16; omega)

/-- The modulation's gradient, from the eight grid points of a sequence. -/
theorem mod_sum (b : Fin 2) (i : Fin 8) (k : Fin 1024) (n : ℕ) (hn : n = b.val) (hlt : ∀ s : Fin 8, 8 * n + s.val < cfg1.N) :
    ∑ s : Fin 8, modPart (tileOf m c (8 * n + s.val) (lt1 ⟨8 * n + s.val, hlt s⟩)) i k = (argsOf m c).dmod b i.val k := by
  unfold modPart Args.dmod
  by_cases h0 : i = 0
  · subst h0
    exact sum_seq m c (fun T => T.dh k) b n hn hlt
  by_cases h1 : i = 1
  · subst h1
    exact sum_seq m c (fun T => T.dh k * T.n k) b n hn hlt
  by_cases h2 : i = 2
  · subst h2
    exact sum_seq m c (fun T => 1 / 2 * T.dxo k * T.pn k) b n hn hlt
  have e0 : ¬i.val = 0 := fun h => h0 (Fin.ext h)
  have e1 : ¬i.val = 1 := fun h => h1 (Fin.ext h)
  have e2 : ¬i.val = 2 := fun h => h2 (Fin.ext h)
  simp only [if_neg h0, if_neg h1, if_neg h2, if_neg e0, if_neg e1, if_neg e2]
  exact Finset.sum_const_zero

/-- The gains' gradient, from all grid points. -/
theorem gain_sum (i : Fin 8) (k : Fin 1024) :
    ∑ t : Fin cfg1.N, gainPart (tileOf m c t.val (lt1 t)) i k = (argsOf m c).dgain i.val k := by
  unfold gainPart Args.dgain
  by_cases h0 : i = 0
  · subst h0
    exact sum_all m c (fun T => T.dn k * T.xh k)
  by_cases h1 : i = 1
  · subst h1
    exact sum_all m c (fun T => T.dp k * T.yh k)
  have e0 : ¬i.val = 0 := fun h => h0 (Fin.ext h)
  have e1 : ¬i.val = 1 := fun h => h1 (Fin.ext h)
  simp only [if_neg h0, if_neg h1, if_neg e0, if_neg e1]
  exact Finset.sum_const_zero

variable {m c}

/-- The modulation's accumulator after the last point of a sequence. -/
theorem acc13 (H : Fin9 m c) (t : Fin cfg1.N) (ht : t.val % 8 = 7) (y : S1x8x1024.Idx) (b : Fin 2) (hb : t.val / 8 = b.val) :
    ((outsAt1 (V2 m ρ) c t.val t.isLt).2.2.2.2.2.1 y : EReal) = (((argsOf m c).dmod b (y 1).val (y 2) : ℝ) : EReal) := by
  have key := Pipeline.eq_sum_fin_of_reset_step_apply_of_flush (M := EReal)
    (fun n h => ((outsAt1 (V2 m ρ) c n h).2.2.2.2.2.1 : S1x8x1024.Idx → EReal)) 8 (fun _ => 0)
    (fun t y => ((modPart (tileOf m c t.val (lt1 t)) (y 1) (y 2) : ℝ) : EReal))
    (fun t h y => by
      rw [eta3 y, Fin.fin_one_eq_zero (y 0)]
      refine Eq.trans ?_ (zero_add _).symm
      by_cases h1 : t.val % 16 = 0
      · exact a13_A (V2 m ρ) c t (holds1 ρ H t) h h1 (y 1) (y 2)
      · exact a13_C (V2 m ρ) c t (holds1 ρ H t) h h1 (y 1) (y 2))
    (fun t h y => by
      rw [eta3 y, Fin.fin_one_eq_zero (y 0)]
      exact a13_B (V2 m ρ) c t (holds1 ρ H t) h (by omega) (y 1) (y 2)) t ht y
  refine key.trans ?_
  rw [zero_add, sum_coe]
  exact congrArg Real.toEReal (mod_sum m c b (y 1) (y 2) (t.val / 8) hb fun s => by have := lt1 t; show _ < 16; omega)

/-- The gains' accumulator after the last point. -/
theorem acc14 (H : Fin9 m c) (t : Fin cfg1.N) (ht : t.val % 16 = 15) (y : S8x1024.Idx) :
    ((outsAt1 (V2 m ρ) c t.val t.isLt).2.2.2.2.2.2 y : EReal) = (((argsOf m c).dgain (y 0).val (y 1) : ℝ) : EReal) := by
  have key := Pipeline.eq_sum_fin_of_reset_step_apply_last (M := EReal)
    (fun n h => ((outsAt1 (V2 m ρ) c n h).2.2.2.2.2.2 : S8x1024.Idx → EReal)) 16 (fun _ => 0)
    (fun t y => ((gainPart (tileOf m c t.val (lt1 t)) (y 0) (y 1) : ℝ) : EReal))
    (fun t h y => by
      rw [eta2 y]
      refine Eq.trans ?_ (zero_add _).symm
      exact a14_A (V2 m ρ) c t (holds1 ρ H t) (by omega) h (y 0) (y 1))
    (fun t h y => by
      rw [eta2 y]
      by_cases h0 : t.val % 8 = 0
      · exact a14_C (V2 m ρ) c t (holds1 ρ H t) h0 h (y 0) (y 1)
      · exact a14_B (V2 m ρ) c t (holds1 ρ H t) h0 h (y 0) (y 1)) (le_of_eq N_0) t
    (by have := lt1 t; show _ = 16; omega) y
  refine key.trans ?_
  rw [zero_add, sum_coe]
  exact congrArg Real.toEReal (gain_sum m c (y 0) (y 1))

/-- The modulation's accumulator, as its sequence's rows of the result. -/
theorem pt13 (H : Fin9 m c) (t : Fin cfg1.N) (ht : t.val % 8 = 7) (y : S1x8x1024.Idx) (j : S2x8x1024.Idx)
    (h0 : (j 0).val = t.val / 8) (h1 : (j 1).val = (y 1).val) (h2 : (j 2).val = (y 2).val) :
    ((outsAt1 (V2 m ρ) c t.val t.isLt).2.2.2.2.2.1 y : EReal) = (argsOf m c).resMod j := by
  refine (acc13 ρ H t ht y (j 0) h0.symm).trans ?_
  rw [← (Fin.ext h1 : j 1 = y 1), ← (Fin.ext h2 : j 2 = y 2)]
  rfl

/-- The gains' accumulator, as the result. -/
theorem pt14 (H : Fin9 m c) (t : Fin cfg1.N) (ht : t.val % 16 = 15) (y : S8x1024.Idx) (j : S8x1024.Idx)
    (h0 : (j 0).val = (y 0).val) (h1 : (j 1).val = (y 1).val) :
    ((outsAt1 (V2 m ρ) c t.val t.isLt).2.2.2.2.2.2 y : EReal) = (argsOf m c).resGain j := by
  refine (acc14 ρ H t ht y).trans ?_
  rw [← (Fin.ext h0 : j 0 = y 0), ← (Fin.ext h1 : j 1 = y 1)]
  rfl

/-- The backward call's gradient at the modulation. -/
theorem final13 (H : Fin9 m c) : (dat1 (V2 m ρ) c).arrAt 13 cfg1.N = (argsOf m c).resMod := by
  refine (dat1 (V2 m ρ) c).arrAt_eq_of_covers 13 _ (by decide +kernel) fun t hf y => ?_
  have hf' := (flush1_13 t).mp hf
  blk_simp
  rw [after1_13]
  refine pt13 ρ H t (by omega) y _ ?_ ?_ ?_ <;> (blk_simp [idx1 t] <;> try omega)

/-- The backward call's gradient at the gains. -/
theorem final14 (H : Fin9 m c) : (dat1 (V2 m ρ) c).arrAt 14 cfg1.N = (argsOf m c).resGain := by
  refine (dat1 (V2 m ρ) c).arrAt_eq_of_covers 14 _ (by decide +kernel) fun t hf y => ?_
  have hf' := (flush1_14 t).mp hf
  blk_simp
  rw [after1_14]
  refine pt14 ρ H t (by omega) y _ ?_ ?_ <;> (blk_simp [idx1 t] <;> try omega)

end Cert.Kernel2Ideal.Pair

end
-- ==== Proof.PairRun.lean ====
module

public import proofs.«01_k».proof.Proof.PairArrays
public import proofs.«01_k».proof.Proof.Gen.Kernel2Ideal.Frame

@[expose] public section

set_option maxRecDepth 16384

/-!
The run of the two calls: their eight result arrays and the arguments, at the end.
-/

noncomputable section

namespace Cert.Kernel2Ideal.Pair

open Cert.Kernel2Ideal Cert.Kernel2Ideal.Gen Cert.Ffn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run of the two calls ends with every buffer of the device as the two regions leave it. -/
theorem ends : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

variable {m} {c : Dev nD}

/-- The forward call's output is still there at the end. -/
theorem end_out (H : Fin9 m c) : W3 m ρ c (Proc.devRef .tc main_v16_0) = (argsOf m c).resOut :=
  (W3_of_ne m ρ c main_v16_0 (by decide +kernel)).trans ((W2_arr m ρ c 5).trans (final5 ρ H))

variable (m)

/-- Every run of the two calls ends with the eight arrays of the arguments' tokens and the arguments as they were. -/
theorem run (H : ∀ c, Fin9 m c) : θ_run defs (onTc (τ := τ) (main (F := Ideal))) ⟨m, fun _ => 0, ρ⟩ (fun r => ∀ c : Dev nD,
      r.2.mem ((c.tc : Thread nD τ).loc main_v16_0) = (argsOf m c).resOut
      ∧ r.2.mem ((c.tc : Thread nD τ).loc main_v17_0) = (argsOf m c).resDx
      ∧ r.2.mem ((c.tc : Thread nD τ).loc main_v17_1) = (argsOf m c).resDgu
      ∧ r.2.mem ((c.tc : Thread nD τ).loc main_v17_2) = (argsOf m c).resAct
      ∧ r.2.mem ((c.tc : Thread nD τ).loc main_v17_3) = (argsOf m c).resH
      ∧ r.2.mem ((c.tc : Thread nD τ).loc main_v17_4) = (argsOf m c).resDy
      ∧ r.2.mem ((c.tc : Thread nD τ).loc main_v17_5) = (argsOf m c).resMod
      ∧ r.2.mem ((c.tc : Thread nD τ).loc main_v17_6) = (argsOf m c).resGain
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v16_0 (by decide))).trans (end_out ρ (H c)),
     (h c _ (mem_uc main_v17_0 (by decide))).trans ((W3_arr m ρ c 8).trans (final8 ρ (H c))),
     (h c _ (mem_uc main_v17_1 (by decide))).trans ((W3_arr m ρ c 9).trans (final9 ρ (H c))),
     (h c _ (mem_uc main_v17_2 (by decide))).trans ((W3_arr m ρ c 10).trans (final10 ρ (H c))),
     (h c _ (mem_uc main_v17_3 (by decide))).trans ((W3_arr m ρ c 11).trans (final11 ρ (H c))),
     (h c _ (mem_uc main_v17_4 (by decide))).trans ((W3_arr m ρ c 12).trans (final12 ρ (H c))),
     (h c _ (mem_uc main_v17_5 (by decide))).trans ((W3_arr m ρ c 13).trans (final13 ρ (H c))),
     (h c _ (mem_uc main_v17_6 (by decide))).trans ((W3_arr m ρ c 14).trans (final14 ρ (H c))),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c),
     (h c _ (mem_uc main_arg8 (by decide))).trans (W3_main_arg8 m ρ c)⟩) (ends m ρ)

end Cert.Kernel2Ideal.Pair

end
-- ==== Proof.PairRef.lean ====
module

public import proofs.«01_k».proof.Proof.RefOut
public import proofs.«01_k».proof.Proof.Incoming
public import proofs.«01_k».proof.Proof.Gen.Reference2Ideal.Read

@[expose] public section

/-!
The reference of the two calls is the other block's reference without its loss: every value of it is the value of that
reference at the same place, once the gradient at the block's output is what the loss gives.
-/

noncomputable section

namespace Cert.Reference2Ideal.Pair

open Idealize.ShloMosaic Idealize.ShloMosaic.TcCoe Idealize.SL.Sem Idealize.ShloMosaic.StableHlo
open Cert.Ffn

/-! ### Value by value -/

section

variable {F : FTy → Type} [FloatOps F]
  (x0 x1 : (⟨Cert.ReferenceIdeal.S2x2048x1024, .f32⟩ : BufTy).Contents (Elt F))
  (x2 x3 x4 : (⟨Cert.ReferenceIdeal.S2x1024, .f32⟩ : BufTy).Contents (Elt F))
  (x5 x6 : (⟨Cert.ReferenceIdeal.S1x1024, .f32⟩ : BufTy).Contents (Elt F))
  (x7 : (⟨Cert.ReferenceIdeal.S1x1024x5632, .f32⟩ : BufTy).Contents (Elt F))
  (x8 : (⟨Cert.ReferenceIdeal.S1x2816x1024, .f32⟩ : BufTy).Contents (Elt F))

/-- The gradient at the block's output, as the loss gives it. -/
abbrev dOut := ReferenceIdeal.Read.val_main_v74 (F := F) x0 x1 x2 x3 x4 x5 x6 x7 x8

/-- The reshape to the shape it has. -/
theorem e60 : Read.val_main_v60 (F := F) (dOut x0 x1 x2 x3 x4 x5 x6 x7 x8) = dOut x0 x1 x2 x3 x4 x5 x6 x7 x8 := by
  unfold Read.val_main_v60
  exact shapeCast_self _ _

theorem e59 : Read.val_main_v59 (F := F) x0 x2 x3 x4 x5 x6 x7 x8 = ReferenceIdeal.Read.val_main_v59 (F := F) x0 x2 x3 x4 x5 x6 x7 x8 := rfl
theorem e62 : Read.val_main_v62 (F := F) (dOut x0 x1 x2 x3 x4 x5 x6 x7 x8) x4 = ReferenceIdeal.Read.val_main_v76 (F := F) x0 x1 x2 x3 x4 x5 x6 x7 x8 := by
  unfold Read.val_main_v62 ReferenceIdeal.Read.val_main_v76
  rw [e60]
  try rfl
theorem e70 : Read.val_main_v70 (F := F) (dOut x0 x1 x2 x3 x4 x5 x6 x7 x8) x4 x6 = ReferenceIdeal.Read.val_main_v84 (F := F) x0 x1 x2 x3 x4 x5 x6 x7 x8 := by
  unfold Read.val_main_v70 ReferenceIdeal.Read.val_main_v84
  rw [e62]
  try rfl
theorem e76 : Read.val_main_v76 (F := F) x0 (dOut x0 x1 x2 x3 x4 x5 x6 x7 x8) x2 x3 x4 x5 x6 x7 x8 = ReferenceIdeal.Read.val_main_v90 (F := F) x0 x1 x2 x3 x4 x5 x6 x7 x8 := by
  unfold Read.val_main_v76 ReferenceIdeal.Read.val_main_v90
  rw [e70]
  try rfl
theorem e72 : Read.val_main_v72 (F := F) x0 (dOut x0 x1 x2 x3 x4 x5 x6 x7 x8) x2 x3 x4 x5 x6 x7 x8 = ReferenceIdeal.Read.val_main_v86 (F := F) x0 x1 x2 x3 x4 x5 x6 x7 x8 := by
  unfold Read.val_main_v72 ReferenceIdeal.Read.val_main_v86
  rw [e70]
  try rfl
theorem e73 : Read.val_main_v73 (F := F) x0 (dOut x0 x1 x2 x3 x4 x5 x6 x7 x8) x2 x3 x4 x5 x6 x7 x8 = ReferenceIdeal.Read.val_main_v87 (F := F) x0 x1 x2 x3 x4 x5 x6 x7 x8 := by
  unfold Read.val_main_v73 ReferenceIdeal.Read.val_main_v87
  rw [e72]
  try rfl
theorem e74 : Read.val_main_v74 (F := F) x0 (dOut x0 x1 x2 x3 x4 x5 x6 x7 x8) x2 x3 x4 x5 x6 x7 x8 = ReferenceIdeal.Read.val_main_v88 (F := F) x0 x1 x2 x3 x4 x5 x6 x7 x8 := by
  unfold Read.val_main_v74 ReferenceIdeal.Read.val_main_v88
  rw [e73]
  try rfl
theorem e77 : Read.val_main_v77 (F := F) x0 (dOut x0 x1 x2 x3 x4 x5 x6 x7 x8) x2 x3 x4 x5 x6 x7 x8 = ReferenceIdeal.Read.val_main_v91 (F := F) x0 x1 x2 x3 x4 x5 x6 x7 x8 := by
  unfold Read.val_main_v77 ReferenceIdeal.Read.val_main_v91
  rw [e74]
  try rfl
theorem e79 : Read.val_main_v79 (F := F) x0 (dOut x0 x1 x2 x3 x4 x5 x6 x7 x8) x2 x3 x4 x5 x6 x7 x8 = ReferenceIdeal.Read.val_main_v93 (F := F) x0 x1 x2 x3 x4 x5 x6 x7 x8 := by
  unfold Read.val_main_v79 ReferenceIdeal.Read.val_main_v93
  rw [e77]
  try rfl
theorem e80 : Read.val_main_v80 (F := F) x0 (dOut x0 x1 x2 x3 x4 x5 x6 x7 x8) x2 x3 x4 x5 x6 x7 x8 = ReferenceIdeal.Read.val_main_v94 (F := F) x0 x1 x2 x3 x4 x5 x6 x7 x8 := by
  unfold Read.val_main_v80 ReferenceIdeal.Read.val_main_v94
  rw [e79]
  try rfl
theorem e81 : Read.val_main_v81 (F := F) x0 (dOut x0 x1 x2 x3 x4 x5 x6 x7 x8) x2 x3 x4 x5 x6 x7 x8 = ReferenceIdeal.Read.val_main_v95 (F := F) x0 x1 x2 x3 x4 x5 x6 x7 x8 := by
  unfold Read.val_main_v81 ReferenceIdeal.Read.val_main_v95
  rw [e80]
  try rfl
theorem e82 : Read.val_main_v82 (F := F) x0 (dOut x0 x1 x2 x3 x4 x5 x6 x7 x8) x2 x3 x4 x5 x6 x7 x8 = ReferenceIdeal.Read.val_main_v96 (F := F) x0 x1 x2 x3 x4 x5 x6 x7 x8 := by
  unfold Read.val_main_v82 ReferenceIdeal.Read.val_main_v96
  rw [e81]
  try rfl
theorem e83 : Read.val_main_v83 (F := F) x0 (dOut x0 x1 x2 x3 x4 x5 x6 x7 x8) x2 x3 x4 x5 x6 x7 x8 = ReferenceIdeal.Read.val_main_v97 (F := F) x0 x1 x2 x3 x4 x5 x6 x7 x8 := by
  unfold Read.val_main_v83 ReferenceIdeal.Read.val_main_v97
  rw [e76, e82]
  try rfl
theorem e84 : Read.val_main_v84 (F := F) x0 (dOut x0 x1 x2 x3 x4 x5 x6 x7 x8) x2 x3 x4 x5 x6 x7 x8 = ReferenceIdeal.Read.val_main_v98 (F := F) x0 x1 x2 x3 x4 x5 x6 x7 x8 := by
  unfold Read.val_main_v84 ReferenceIdeal.Read.val_main_v98
  rw [e81]
  try rfl
theorem e85 : Read.val_main_v85 (F := F) x0 (dOut x0 x1 x2 x3 x4 x5 x6 x7 x8) x2 x3 x4 x5 x6 x7 x8 = ReferenceIdeal.Read.val_main_v99 (F := F) x0 x1 x2 x3 x4 x5 x6 x7 x8 := by
  unfold Read.val_main_v85 ReferenceIdeal.Read.val_main_v99
  rw [e83, e84]
  try rfl
theorem e87 : Read.val_main_v87 (F := F) x0 (dOut x0 x1 x2 x3 x4 x5 x6 x7 x8) x2 x3 x4 x5 x6 x7 x8 = ReferenceIdeal.Read.val_main_v101 (F := F) x0 x1 x2 x3 x4 x5 x6 x7 x8 := by
  unfold Read.val_main_v87 ReferenceIdeal.Read.val_main_v101
  rw [e85]
  try rfl
theorem e92 : Read.val_main_v92 (F := F) x0 (dOut x0 x1 x2 x3 x4 x5 x6 x7 x8) x2 x3 x4 x5 x6 x7 x8 = ReferenceIdeal.Read.val_main_v106 (F := F) x0 x1 x2 x3 x4 x5 x6 x7 x8 := by
  unfold Read.val_main_v92 ReferenceIdeal.Read.val_main_v106
  rw [e87]
  try rfl
theorem e_call1_v1 : Read.val_main_call1_v1 (F := F) x0 (dOut x0 x1 x2 x3 x4 x5 x6 x7 x8) x2 x3 x4 x5 x6 x7 x8 = ReferenceIdeal.Read.val_main_call1_v1 (F := F) x0 x1 x2 x3 x4 x5 x6 x7 x8 := by
  unfold Read.val_main_call1_v1 ReferenceIdeal.Read.val_main_call1_v1
  rw [e92]
  try rfl
theorem e_call1_v0 : Read.val_main_call1_v0 (F := F) x0 (dOut x0 x1 x2 x3 x4 x5 x6 x7 x8) x2 x3 x4 x5 x6 x7 x8 = ReferenceIdeal.Read.val_main_call1_v0 (F := F) x0 x1 x2 x3 x4 x5 x6 x7 x8 := by
  unfold Read.val_main_call1_v0 ReferenceIdeal.Read.val_main_call1_v0
  rw [e92]
  try rfl
theorem e_call1_v2 : Read.val_main_call1_v2 (F := F) x0 (dOut x0 x1 x2 x3 x4 x5 x6 x7 x8) x2 x3 x4 x5 x6 x7 x8 = ReferenceIdeal.Read.val_main_call1_v2 (F := F) x0 x1 x2 x3 x4 x5 x6 x7 x8 := by
  unfold Read.val_main_call1_v2 ReferenceIdeal.Read.val_main_call1_v2
  rw [e_call1_v0]
  try rfl
theorem e93 : Read.val_main_v93 (F := F) x0 (dOut x0 x1 x2 x3 x4 x5 x6 x7 x8) x2 x3 x4 x5 x6 x7 x8 = ReferenceIdeal.Read.val_main_v107 (F := F) x0 x1 x2 x3 x4 x5 x6 x7 x8 := by
  unfold Read.val_main_v93 ReferenceIdeal.Read.val_main_v107
  rw [e_call1_v1, e_call1_v2]
  try rfl
theorem e91 : Read.val_main_v91 (F := F) x0 (dOut x0 x1 x2 x3 x4 x5 x6 x7 x8) x2 x3 x4 x5 x6 x7 x8 = ReferenceIdeal.Read.val_main_v105 (F := F) x0 x1 x2 x3 x4 x5 x6 x7 x8 := by
  unfold Read.val_main_v91 ReferenceIdeal.Read.val_main_v105
  rw [e87]
  try rfl
theorem e94 : Read.val_main_v94 (F := F) x0 (dOut x0 x1 x2 x3 x4 x5 x6 x7 x8) x2 x3 x4 x5 x6 x7 x8 = ReferenceIdeal.Read.val_main_v108 (F := F) x0 x1 x2 x3 x4 x5 x6 x7 x8 := by
  unfold Read.val_main_v94 ReferenceIdeal.Read.val_main_v108
  rw [e93, e91]
  try rfl
theorem e95 : Read.val_main_v95 (F := F) x0 (dOut x0 x1 x2 x3 x4 x5 x6 x7 x8) x2 x3 x4 x5 x6 x7 x8 = ReferenceIdeal.Read.val_main_v109 (F := F) x0 x1 x2 x3 x4 x5 x6 x7 x8 := by
  unfold Read.val_main_v95 ReferenceIdeal.Read.val_main_v109
  rw [e94]
  try rfl
theorem e103 : Read.val_main_v103 (F := F) x0 (dOut x0 x1 x2 x3 x4 x5 x6 x7 x8) x2 x3 x4 x5 x6 x7 x8 = ReferenceIdeal.Read.val_main_v117 (F := F) x0 x1 x2 x3 x4 x5 x6 x7 x8 := by
  unfold Read.val_main_v103 ReferenceIdeal.Read.val_main_v117
  rw [e95]
  try rfl
theorem e109 : Read.val_main_v109 (F := F) x0 (dOut x0 x1 x2 x3 x4 x5 x6 x7 x8) x2 x3 x4 x5 x6 x7 x8 = ReferenceIdeal.Read.val_main_v123 (F := F) x0 x1 x2 x3 x4 x5 x6 x7 x8 := by
  unfold Read.val_main_v109 ReferenceIdeal.Read.val_main_v123
  rw [e103]
  try rfl
theorem e115 : Read.val_main_v115 (F := F) x0 (dOut x0 x1 x2 x3 x4 x5 x6 x7 x8) x2 x3 x4 x5 x6 x7 x8 = ReferenceIdeal.Read.val_main_v129 (F := F) x0 x1 x2 x3 x4 x5 x6 x7 x8 := by
  unfold Read.val_main_v115 ReferenceIdeal.Read.val_main_v129
  rw [e109]
  try rfl
theorem e116 : Read.val_main_v116 (F := F) x0 (dOut x0 x1 x2 x3 x4 x5 x6 x7 x8) x2 x3 x4 x5 x6 x7 x8 = ReferenceIdeal.Read.val_main_v130 (F := F) x0 x1 x2 x3 x4 x5 x6 x7 x8 := by
  unfold Read.val_main_v116 ReferenceIdeal.Read.val_main_v130
  rw [e115]
  try rfl
theorem e111 : Read.val_main_v111 (F := F) x0 (dOut x0 x1 x2 x3 x4 x5 x6 x7 x8) x2 x3 x4 x5 x6 x7 x8 = ReferenceIdeal.Read.val_main_v125 (F := F) x0 x1 x2 x3 x4 x5 x6 x7 x8 := by
  unfold Read.val_main_v111 ReferenceIdeal.Read.val_main_v125
  rw [e109]
  try rfl
theorem e112 : Read.val_main_v112 (F := F) x0 (dOut x0 x1 x2 x3 x4 x5 x6 x7 x8) x2 x3 x4 x5 x6 x7 x8 = ReferenceIdeal.Read.val_main_v126 (F := F) x0 x1 x2 x3 x4 x5 x6 x7 x8 := by
  unfold Read.val_main_v112 ReferenceIdeal.Read.val_main_v126
  rw [e111]
  try rfl
theorem e113 : Read.val_main_v113 (F := F) x0 (dOut x0 x1 x2 x3 x4 x5 x6 x7 x8) x2 x3 x4 x5 x6 x7 x8 = ReferenceIdeal.Read.val_main_v127 (F := F) x0 x1 x2 x3 x4 x5 x6 x7 x8 := by
  unfold Read.val_main_v113 ReferenceIdeal.Read.val_main_v127
  rw [e112]
  try rfl
theorem e117 : Read.val_main_v117 (F := F) x0 (dOut x0 x1 x2 x3 x4 x5 x6 x7 x8) x2 x3 x4 x5 x6 x7 x8 = ReferenceIdeal.Read.val_main_v131 (F := F) x0 x1 x2 x3 x4 x5 x6 x7 x8 := by
  unfold Read.val_main_v117 ReferenceIdeal.Read.val_main_v131
  rw [e113]
  try rfl
theorem e119 : Read.val_main_v119 (F := F) x0 (dOut x0 x1 x2 x3 x4 x5 x6 x7 x8) x2 x3 x4 x5 x6 x7 x8 = ReferenceIdeal.Read.val_main_v133 (F := F) x0 x1 x2 x3 x4 x5 x6 x7 x8 := by
  unfold Read.val_main_v119 ReferenceIdeal.Read.val_main_v133
  rw [e117]
  try rfl
theorem e120 : Read.val_main_v120 (F := F) x0 (dOut x0 x1 x2 x3 x4 x5 x6 x7 x8) x2 x3 x4 x5 x6 x7 x8 = ReferenceIdeal.Read.val_main_v134 (F := F) x0 x1 x2 x3 x4 x5 x6 x7 x8 := by
  unfold Read.val_main_v120 ReferenceIdeal.Read.val_main_v134
  rw [e119]
  try rfl
theorem e121 : Read.val_main_v121 (F := F) x0 (dOut x0 x1 x2 x3 x4 x5 x6 x7 x8) x2 x3 x4 x5 x6 x7 x8 = ReferenceIdeal.Read.val_main_v135 (F := F) x0 x1 x2 x3 x4 x5 x6 x7 x8 := by
  unfold Read.val_main_v121 ReferenceIdeal.Read.val_main_v135
  rw [e120]
  try rfl
theorem e122 : Read.val_main_v122 (F := F) x0 (dOut x0 x1 x2 x3 x4 x5 x6 x7 x8) x2 x3 x4 x5 x6 x7 x8 = ReferenceIdeal.Read.val_main_v136 (F := F) x0 x1 x2 x3 x4 x5 x6 x7 x8 := by
  unfold Read.val_main_v122 ReferenceIdeal.Read.val_main_v136
  rw [e121]
  try rfl
theorem e123 : Read.val_main_v123 (F := F) x0 (dOut x0 x1 x2 x3 x4 x5 x6 x7 x8) x2 x3 x4 x5 x6 x7 x8 = ReferenceIdeal.Read.val_main_v137 (F := F) x0 x1 x2 x3 x4 x5 x6 x7 x8 := by
  unfold Read.val_main_v123 ReferenceIdeal.Read.val_main_v137
  rw [e116, e122]
  try rfl
theorem e124 : Read.val_main_v124 (F := F) x0 (dOut x0 x1 x2 x3 x4 x5 x6 x7 x8) x2 x3 x4 x5 x6 x7 x8 = ReferenceIdeal.Read.val_main_v138 (F := F) x0 x1 x2 x3 x4 x5 x6 x7 x8 := by
  unfold Read.val_main_v124 ReferenceIdeal.Read.val_main_v138
  rw [e121]
  try rfl
theorem e125 : Read.val_main_v125 (F := F) x0 (dOut x0 x1 x2 x3 x4 x5 x6 x7 x8) x2 x3 x4 x5 x6 x7 x8 = ReferenceIdeal.Read.val_main_v139 (F := F) x0 x1 x2 x3 x4 x5 x6 x7 x8 := by
  unfold Read.val_main_v125 ReferenceIdeal.Read.val_main_v139
  rw [e123, e124]
  try rfl
theorem e132 : Read.val_main_v132 (F := F) x0 (dOut x0 x1 x2 x3 x4 x5 x6 x7 x8) x2 x3 x4 x5 x6 x7 x8 = ReferenceIdeal.Read.val_main_v145 (F := F) x0 x1 x2 x3 x4 x5 x6 x7 x8 := by
  unfold Read.val_main_v132 ReferenceIdeal.Read.val_main_v145
  rw [e125]
  try rfl
theorem e133 : Read.val_main_v133 (F := F) x0 (dOut x0 x1 x2 x3 x4 x5 x6 x7 x8) x2 x3 x4 x5 x6 x7 x8 = ReferenceIdeal.Read.val_main_v146 (F := F) x0 x1 x2 x3 x4 x5 x6 x7 x8 := by
  unfold Read.val_main_v133 ReferenceIdeal.Read.val_main_v146
  rw [e94]
  try rfl
theorem e134 : Read.val_main_v134 (F := F) x0 (dOut x0 x1 x2 x3 x4 x5 x6 x7 x8) x2 x3 x4 x5 x6 x7 x8 = ReferenceIdeal.Read.val_main_v147 (F := F) x0 x1 x2 x3 x4 x5 x6 x7 x8 := by
  unfold Read.val_main_v134 ReferenceIdeal.Read.val_main_v147
  rw [e133]
  try rfl
theorem e135 : Read.val_main_v135 (F := F) x0 (dOut x0 x1 x2 x3 x4 x5 x6 x7 x8) x2 x3 x4 x5 x6 x7 x8 = ReferenceIdeal.Read.val_main_v148 (F := F) x0 x1 x2 x3 x4 x5 x6 x7 x8 := by
  unfold Read.val_main_v135 ReferenceIdeal.Read.val_main_v148
  rw [e134]
  try rfl
theorem e138 : Read.val_main_v138 (F := F) x0 x2 x3 x5 x7 = ReferenceIdeal.Read.val_main_v151 (F := F) x0 x2 x3 x5 x7 := rfl
theorem e140 : Read.val_main_v140 (F := F) x0 x2 x3 x5 = ReferenceIdeal.Read.val_main_v153 (F := F) x0 x2 x3 x5 := rfl
theorem e141 : Read.val_main_v141 (F := F) x0 (dOut x0 x1 x2 x3 x4 x5 x6 x7 x8) x2 x3 x4 x5 x6 x7 x8 = ReferenceIdeal.Read.val_main_v154 (F := F) x0 x1 x2 x3 x4 x5 x6 x7 x8 := by
  unfold Read.val_main_v141 ReferenceIdeal.Read.val_main_v154
  rw [e85]
  try rfl
theorem e142 : Read.val_main_v142 (F := F) x0 (dOut x0 x1 x2 x3 x4 x5 x6 x7 x8) x2 x3 x4 x5 x6 x7 x8 = ReferenceIdeal.Read.val_main_v155 (F := F) x0 x1 x2 x3 x4 x5 x6 x7 x8 := by
  unfold Read.val_main_v142 ReferenceIdeal.Read.val_main_v155
  rw [e141]
  try rfl
theorem e96 : Read.val_main_v96 (F := F) x0 (dOut x0 x1 x2 x3 x4 x5 x6 x7 x8) x2 x3 x4 x5 x6 x7 x8 = ReferenceIdeal.Read.val_main_v110 (F := F) x0 x1 x2 x3 x4 x5 x6 x7 x8 := by
  unfold Read.val_main_v96 ReferenceIdeal.Read.val_main_v110
  rw [e95]
  try rfl
theorem e97 : Read.val_main_v97 (F := F) x0 (dOut x0 x1 x2 x3 x4 x5 x6 x7 x8) x2 x3 x4 x5 x6 x7 x8 = ReferenceIdeal.Read.val_main_v111 (F := F) x0 x1 x2 x3 x4 x5 x6 x7 x8 := by
  unfold Read.val_main_v97 ReferenceIdeal.Read.val_main_v111
  rw [e96]
  try rfl
theorem e98 : Read.val_main_v98 (F := F) x0 (dOut x0 x1 x2 x3 x4 x5 x6 x7 x8) x2 x3 x4 x5 x6 x7 x8 = ReferenceIdeal.Read.val_main_v112 (F := F) x0 x1 x2 x3 x4 x5 x6 x7 x8 := by
  unfold Read.val_main_v98 ReferenceIdeal.Read.val_main_v112
  rw [e97]
  try rfl
theorem e127 : Read.val_main_v127 (F := F) x0 (dOut x0 x1 x2 x3 x4 x5 x6 x7 x8) x2 x3 x4 x5 x6 x7 x8 = ReferenceIdeal.Read.val_main_v141 (F := F) x0 x1 x2 x3 x4 x5 x6 x7 x8 := by
  unfold Read.val_main_v127 ReferenceIdeal.Read.val_main_v141
  rw [e98]
  try rfl
theorem e99 : Read.val_main_v99 (F := F) x0 (dOut x0 x1 x2 x3 x4 x5 x6 x7 x8) x2 x3 x4 x5 x6 x7 x8 = ReferenceIdeal.Read.val_main_v113 (F := F) x0 x1 x2 x3 x4 x5 x6 x7 x8 := by
  unfold Read.val_main_v99 ReferenceIdeal.Read.val_main_v113
  rw [e95]
  try rfl
theorem e100 : Read.val_main_v100 (F := F) x0 (dOut x0 x1 x2 x3 x4 x5 x6 x7 x8) x2 x3 x4 x5 x6 x7 x8 = ReferenceIdeal.Read.val_main_v114 (F := F) x0 x1 x2 x3 x4 x5 x6 x7 x8 := by
  unfold Read.val_main_v100 ReferenceIdeal.Read.val_main_v114
  rw [e99]
  try rfl
theorem e101 : Read.val_main_v101 (F := F) x0 (dOut x0 x1 x2 x3 x4 x5 x6 x7 x8) x2 x3 x4 x5 x6 x7 x8 = ReferenceIdeal.Read.val_main_v115 (F := F) x0 x1 x2 x3 x4 x5 x6 x7 x8 := by
  unfold Read.val_main_v101 ReferenceIdeal.Read.val_main_v115
  rw [e100]
  try rfl
theorem e104 : Read.val_main_v104 (F := F) x0 (dOut x0 x1 x2 x3 x4 x5 x6 x7 x8) x2 x3 x4 x5 x6 x7 x8 = ReferenceIdeal.Read.val_main_v118 (F := F) x0 x1 x2 x3 x4 x5 x6 x7 x8 := by
  unfold Read.val_main_v104 ReferenceIdeal.Read.val_main_v118
  rw [e101]
  try rfl
theorem e128 : Read.val_main_v128 (F := F) x0 (dOut x0 x1 x2 x3 x4 x5 x6 x7 x8) x2 x3 x4 x5 x6 x7 x8 = ReferenceIdeal.Read.val_main_v142 (F := F) x0 x1 x2 x3 x4 x5 x6 x7 x8 := by
  unfold Read.val_main_v128 ReferenceIdeal.Read.val_main_v142
  rw [e104]
  try rfl
theorem e63 : Read.val_main_v63 (F := F) x0 (dOut x0 x1 x2 x3 x4 x5 x6 x7 x8) x2 x3 x5 x6 x7 x8 = ReferenceIdeal.Read.val_main_v77 (F := F) x0 x1 x2 x3 x4 x5 x6 x7 x8 := by
  unfold Read.val_main_v63 ReferenceIdeal.Read.val_main_v77
  rw [e60]
  try rfl
theorem e64 : Read.val_main_v64 (F := F) x0 (dOut x0 x1 x2 x3 x4 x5 x6 x7 x8) x2 x3 x5 x6 x7 x8 = ReferenceIdeal.Read.val_main_v78 (F := F) x0 x1 x2 x3 x4 x5 x6 x7 x8 := by
  unfold Read.val_main_v64 ReferenceIdeal.Read.val_main_v78
  rw [e63]
  try rfl
theorem e65 : Read.val_main_v65 (F := F) x0 (dOut x0 x1 x2 x3 x4 x5 x6 x7 x8) x2 x3 x5 x6 x7 x8 = ReferenceIdeal.Read.val_main_v79 (F := F) x0 x1 x2 x3 x4 x5 x6 x7 x8 := by
  unfold Read.val_main_v65 ReferenceIdeal.Read.val_main_v79
  rw [e64]
  try rfl
theorem e89 : Read.val_main_v89 (F := F) x0 (dOut x0 x1 x2 x3 x4 x5 x6 x7 x8) x2 x3 x5 x6 x7 x8 = ReferenceIdeal.Read.val_main_v103 (F := F) x0 x1 x2 x3 x4 x5 x6 x7 x8 := by
  unfold Read.val_main_v89 ReferenceIdeal.Read.val_main_v103
  rw [e65]
  try rfl
theorem e90 : Read.val_main_v90 (F := F) x0 (dOut x0 x1 x2 x3 x4 x5 x6 x7 x8) x2 x3 x5 x6 x7 x8 = ReferenceIdeal.Read.val_main_v104 (F := F) x0 x1 x2 x3 x4 x5 x6 x7 x8 := by
  unfold Read.val_main_v90 ReferenceIdeal.Read.val_main_v104
  rw [e89]
  try rfl
theorem e129 : Read.val_main_v129 (F := F) x0 (dOut x0 x1 x2 x3 x4 x5 x6 x7 x8) x2 x3 x5 x6 x7 x8 = ReferenceIdeal.Read.val_main_v143 (F := F) x0 x1 x2 x3 x4 x5 x6 x7 x8 := by
  unfold Read.val_main_v129 ReferenceIdeal.Read.val_main_v143
  rw [e90]
  try rfl
theorem e130 : Read.val_main_v130 (F := F) x0 (dOut x0 x1 x2 x3 x4 x5 x6 x7 x8) x2 x3 x4 x5 x6 x7 x8 = ReferenceIdeal.Read.val_main_v144 (F := F) x0 x1 x2 x3 x4 x5 x6 x7 x8 := by
  unfold Read.val_main_v130 ReferenceIdeal.Read.val_main_v144
  rw [e127, e128, e129]
  try rfl
theorem e143 : Read.val_main_v143 (F := F) x0 (dOut x0 x1 x2 x3 x4 x5 x6 x7 x8) x2 x3 x4 x5 x6 x7 x8 = ReferenceIdeal.Read.val_main_v156 (F := F) x0 x1 x2 x3 x4 x5 x6 x7 x8 := by
  unfold Read.val_main_v143 ReferenceIdeal.Read.val_main_v156
  rw [e130]
  try rfl
theorem e105 : Read.val_main_v105 (F := F) x0 (dOut x0 x1 x2 x3 x4 x5 x6 x7 x8) x2 x3 x4 x5 x6 x7 x8 = ReferenceIdeal.Read.val_main_v119 (F := F) x0 x1 x2 x3 x4 x5 x6 x7 x8 := by
  unfold Read.val_main_v105 ReferenceIdeal.Read.val_main_v119
  rw [e103]
  try rfl
theorem e106 : Read.val_main_v106 (F := F) x0 (dOut x0 x1 x2 x3 x4 x5 x6 x7 x8) x2 x3 x4 x5 x6 x7 x8 = ReferenceIdeal.Read.val_main_v120 (F := F) x0 x1 x2 x3 x4 x5 x6 x7 x8 := by
  unfold Read.val_main_v106 ReferenceIdeal.Read.val_main_v120
  rw [e105]
  try rfl
theorem e107 : Read.val_main_v107 (F := F) x0 (dOut x0 x1 x2 x3 x4 x5 x6 x7 x8) x2 x3 x4 x5 x6 x7 x8 = ReferenceIdeal.Read.val_main_v121 (F := F) x0 x1 x2 x3 x4 x5 x6 x7 x8 := by
  unfold Read.val_main_v107 ReferenceIdeal.Read.val_main_v121
  rw [e106]
  try rfl
theorem e110 : Read.val_main_v110 (F := F) x0 (dOut x0 x1 x2 x3 x4 x5 x6 x7 x8) x2 x3 x4 x5 x6 x7 x8 = ReferenceIdeal.Read.val_main_v124 (F := F) x0 x1 x2 x3 x4 x5 x6 x7 x8 := by
  unfold Read.val_main_v110 ReferenceIdeal.Read.val_main_v124
  rw [e107]
  try rfl
theorem e126 : Read.val_main_v126 (F := F) x0 (dOut x0 x1 x2 x3 x4 x5 x6 x7 x8) x2 x3 x4 x5 x6 x7 x8 = ReferenceIdeal.Read.val_main_v140 (F := F) x0 x1 x2 x3 x4 x5 x6 x7 x8 := by
  unfold Read.val_main_v126 ReferenceIdeal.Read.val_main_v140
  rw [e110]
  try rfl
theorem e66 : Read.val_main_v66 (F := F) x0 (dOut x0 x1 x2 x3 x4 x5 x6 x7 x8) x2 x3 x4 x5 x7 x8 = ReferenceIdeal.Read.val_main_v80 (F := F) x0 x1 x2 x3 x4 x5 x6 x7 x8 := by
  unfold Read.val_main_v66 ReferenceIdeal.Read.val_main_v80
  rw [e62]
  try rfl
theorem e67 : Read.val_main_v67 (F := F) x0 (dOut x0 x1 x2 x3 x4 x5 x6 x7 x8) x2 x3 x4 x5 x7 x8 = ReferenceIdeal.Read.val_main_v81 (F := F) x0 x1 x2 x3 x4 x5 x6 x7 x8 := by
  unfold Read.val_main_v67 ReferenceIdeal.Read.val_main_v81
  rw [e66]
  try rfl
theorem e68 : Read.val_main_v68 (F := F) x0 (dOut x0 x1 x2 x3 x4 x5 x6 x7 x8) x2 x3 x4 x5 x7 x8 = ReferenceIdeal.Read.val_main_v82 (F := F) x0 x1 x2 x3 x4 x5 x6 x7 x8 := by
  unfold Read.val_main_v68 ReferenceIdeal.Read.val_main_v82
  rw [e67]
  try rfl
theorem e71 : Read.val_main_v71 (F := F) x0 (dOut x0 x1 x2 x3 x4 x5 x6 x7 x8) x2 x3 x4 x5 x7 x8 = ReferenceIdeal.Read.val_main_v85 (F := F) x0 x1 x2 x3 x4 x5 x6 x7 x8 := by
  unfold Read.val_main_v71 ReferenceIdeal.Read.val_main_v85
  rw [e68]
  try rfl
theorem e86 : Read.val_main_v86 (F := F) x0 (dOut x0 x1 x2 x3 x4 x5 x6 x7 x8) x2 x3 x4 x5 x7 x8 = ReferenceIdeal.Read.val_main_v100 (F := F) x0 x1 x2 x3 x4 x5 x6 x7 x8 := by
  unfold Read.val_main_v86 ReferenceIdeal.Read.val_main_v100
  rw [e71]
  try rfl
theorem e144 : Read.val_main_v144 (F := F) x0 (dOut x0 x1 x2 x3 x4 x5 x6 x7 x8) x2 x3 x4 x5 x6 x7 x8 = ReferenceIdeal.Read.val_main_v157 (F := F) x0 x1 x2 x3 x4 x5 x6 x7 x8 := by
  unfold Read.val_main_v144 ReferenceIdeal.Read.val_main_v157
  rw [e126, e86]
  try rfl
theorem e145 : Read.val_main_v145 (F := F) x0 (dOut x0 x1 x2 x3 x4 x5 x6 x7 x8) x2 x3 x4 x5 x6 x7 x8 = ReferenceIdeal.Read.val_main_v158 (F := F) x0 x1 x2 x3 x4 x5 x6 x7 x8 := by
  unfold Read.val_main_v145 ReferenceIdeal.Read.val_main_v158
  rw [e144]
  try rfl

end

/-! ### At the arguments' real numbers -/

variable (A : Args)

/-- The gradient at the block's output is the one given. -/
theorem dOut_eq : dOut (F := Ideal) (ReferenceIdeal.Read.X0 A.incoming) (ReferenceIdeal.Read.X1 A.incoming) (ReferenceIdeal.Read.X2 A.incoming) (ReferenceIdeal.Read.X3 A.incoming) (ReferenceIdeal.Read.X4 A.incoming) (ReferenceIdeal.Read.X5 A.incoming) (ReferenceIdeal.Read.X6 A.incoming) (ReferenceIdeal.Read.X7 A.incoming) (ReferenceIdeal.Read.X8 A.incoming) = ReferenceIdeal.Read.X1 A := by
  funext i
  exact (ReferenceIdeal.Read.r74 A.incoming i).trans (congrArg Real.toEReal (A.incoming_dxo (i 0) (i 1) (i 2)))

/-- The block's output, at a token. -/
theorem out_at (i : Cert.ReferenceIdeal.S2x2048x1024.Idx) : (ReferenceIdeal.Read.val_main_v59 (F := Ideal) (ReferenceIdeal.Read.X0 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) i : EReal) = (((A.tok (i 0) (i 1)).xo (i 2) : ℝ) : EReal) :=
  ((ReferenceIdeal.Read.val_main_v59_apply (F := Ideal) (ReferenceIdeal.Read.X0 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) i).trans (ReferenceIdeal.Read.addE (ReferenceIdeal.Read.rX0 A _) ((ReferenceIdeal.Read.val_main_v58_apply (F := Ideal) (ReferenceIdeal.Read.X0 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) _).trans (ReferenceIdeal.Read.mulE ((ReferenceIdeal.Read.val_main_v57_apply (F := Ideal) (ReferenceIdeal.Read.X4 A) _).trans (ReferenceIdeal.Read.r36 A _)) (ReferenceIdeal.Read.r56 A _)))))

/-- The reference's block's output. -/
theorem p131 : Read.val_main_v131 (F := Ideal) (ReferenceIdeal.Read.X0 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) = A.incoming.resOut := by
  funext i
  have h0 : (i 0).val < 4096 := (i 0).isLt; have h1 : (i 1).val < 1024 := (i 1).isLt
  refine (Read.val_main_v131_apply (F := Ideal) (ReferenceIdeal.Read.X0 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) i).trans ?_
  rw [e59]
  refine (out_at A _).trans (ReferenceIdeal.Read.fin3 (fun b s k => (A.tok b s).xo k) ?_ ?_ ?_)
  · show ((i 0).val * 1024 + (i 1).val) / 2097152 = (i 0).val / 2048; omega
  · show ((i 0).val * 1024 + (i 1).val) / 1024 % 2048 = (i 0).val % 2048; omega
  · show ((i 0).val * 1024 + (i 1).val) % 1024 = (i 1).val; omega

/-- The reference's gradient at the block's input. -/
theorem p132 : Read.val_main_v132 (F := Ideal) (ReferenceIdeal.Read.X0 A) (ReferenceIdeal.Read.X1 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) = A.incoming.resDx := by
  have h := (e132 (F := Ideal) (ReferenceIdeal.Read.X0 A.incoming) (ReferenceIdeal.Read.X1 A.incoming) (ReferenceIdeal.Read.X2 A.incoming) (ReferenceIdeal.Read.X3 A.incoming) (ReferenceIdeal.Read.X4 A.incoming) (ReferenceIdeal.Read.X5 A.incoming) (ReferenceIdeal.Read.X6 A.incoming) (ReferenceIdeal.Read.X7 A.incoming) (ReferenceIdeal.Read.X8 A.incoming)).trans (ReferenceIdeal.Read.o145 A.incoming)
  rw [dOut_eq] at h
  exact h

/-- The reference's gradient at the input projection. -/
theorem p135 : Read.val_main_v135 (F := Ideal) (ReferenceIdeal.Read.X0 A) (ReferenceIdeal.Read.X1 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) = A.incoming.resDgu := by
  have h := (e135 (F := Ideal) (ReferenceIdeal.Read.X0 A.incoming) (ReferenceIdeal.Read.X1 A.incoming) (ReferenceIdeal.Read.X2 A.incoming) (ReferenceIdeal.Read.X3 A.incoming) (ReferenceIdeal.Read.X4 A.incoming) (ReferenceIdeal.Read.X5 A.incoming) (ReferenceIdeal.Read.X6 A.incoming) (ReferenceIdeal.Read.X7 A.incoming) (ReferenceIdeal.Read.X8 A.incoming)).trans (ReferenceIdeal.Read.o148 A.incoming)
  rw [dOut_eq] at h
  exact h

/-- The reference's gated activation. -/
theorem p138 : Read.val_main_v138 (F := Ideal) (ReferenceIdeal.Read.X0 A) (ReferenceIdeal.Read.X2 A) (ReferenceIdeal.Read.X3 A) (ReferenceIdeal.Read.X5 A) (ReferenceIdeal.Read.X7 A) = A.incoming.resAct := by
  exact (e138 (F := Ideal) (ReferenceIdeal.Read.X0 A) (ReferenceIdeal.Read.X2 A) (ReferenceIdeal.Read.X3 A) (ReferenceIdeal.Read.X5 A) (ReferenceIdeal.Read.X7 A)).trans (ReferenceIdeal.Read.o151 A)

/-- The reference's modulated input. -/
theorem p140 : Read.val_main_v140 (F := Ideal) (ReferenceIdeal.Read.X0 A) (ReferenceIdeal.Read.X2 A) (ReferenceIdeal.Read.X3 A) (ReferenceIdeal.Read.X5 A) = A.incoming.resH := by
  exact (e140 (F := Ideal) (ReferenceIdeal.Read.X0 A) (ReferenceIdeal.Read.X2 A) (ReferenceIdeal.Read.X3 A) (ReferenceIdeal.Read.X5 A)).trans (ReferenceIdeal.Read.o153 A)

/-- The reference's gradient at the output projection. -/
theorem p142 : Read.val_main_v142 (F := Ideal) (ReferenceIdeal.Read.X0 A) (ReferenceIdeal.Read.X1 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) = A.incoming.resDy := by
  have h := (e142 (F := Ideal) (ReferenceIdeal.Read.X0 A.incoming) (ReferenceIdeal.Read.X1 A.incoming) (ReferenceIdeal.Read.X2 A.incoming) (ReferenceIdeal.Read.X3 A.incoming) (ReferenceIdeal.Read.X4 A.incoming) (ReferenceIdeal.Read.X5 A.incoming) (ReferenceIdeal.Read.X6 A.incoming) (ReferenceIdeal.Read.X7 A.incoming) (ReferenceIdeal.Read.X8 A.incoming)).trans (ReferenceIdeal.Read.o155 A.incoming)
  rw [dOut_eq] at h
  exact h

/-- The reference's gradient at the modulation. -/
theorem p143 : Read.val_main_v143 (F := Ideal) (ReferenceIdeal.Read.X0 A) (ReferenceIdeal.Read.X1 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) = A.incoming.resMod := by
  have h := (e143 (F := Ideal) (ReferenceIdeal.Read.X0 A.incoming) (ReferenceIdeal.Read.X1 A.incoming) (ReferenceIdeal.Read.X2 A.incoming) (ReferenceIdeal.Read.X3 A.incoming) (ReferenceIdeal.Read.X4 A.incoming) (ReferenceIdeal.Read.X5 A.incoming) (ReferenceIdeal.Read.X6 A.incoming) (ReferenceIdeal.Read.X7 A.incoming) (ReferenceIdeal.Read.X8 A.incoming)).trans (ReferenceIdeal.Read.o156 A.incoming)
  rw [dOut_eq] at h
  exact h

/-- The reference's gradient at the gains. -/
theorem p145 : Read.val_main_v145 (F := Ideal) (ReferenceIdeal.Read.X0 A) (ReferenceIdeal.Read.X1 A) (ReferenceIdeal.Read.X2 A) (ReferenceIdeal.Read.X3 A) (ReferenceIdeal.Read.X4 A) (ReferenceIdeal.Read.X5 A) (ReferenceIdeal.Read.X6 A) (ReferenceIdeal.Read.X7 A) (ReferenceIdeal.Read.X8 A) = A.incoming.resGain := by
  have h := (e145 (F := Ideal) (ReferenceIdeal.Read.X0 A.incoming) (ReferenceIdeal.Read.X1 A.incoming) (ReferenceIdeal.Read.X2 A.incoming) (ReferenceIdeal.Read.X3 A.incoming) (ReferenceIdeal.Read.X4 A.incoming) (ReferenceIdeal.Read.X5 A.incoming) (ReferenceIdeal.Read.X6 A.incoming) (ReferenceIdeal.Read.X7 A.incoming) (ReferenceIdeal.Read.X8 A.incoming)).trans (ReferenceIdeal.Read.o158 A.incoming)
  rw [dOut_eq] at h
  exact h

end Cert.Reference2Ideal.Pair

end
-- ==== Proof.PairAlgebraic.lean ====
module

public import proofs.«01_k».proof.Proof.Finite
public import proofs.«01_k».proof.Proof.PairRun
public import proofs.«01_k».proof.Proof.PairRef
public import proofs.«01_k».proof.Proof.Gen.Reference2Ideal.Run

@[expose] public section

/-!
The value claim of the two calls: their run and their reference's end with the same eight results, the arrays of the
arguments' tokens.
-/

noncomputable section

namespace Cert.Proof.Pair

open Idealize.ShloMosaic Idealize.ShloMosaic.TcCoe Idealize.SL.Sem Idealize.ShloMosaic.StableHlo Cert.Ffn
open Cert.Kernel2Ideal Cert.Kernel2Ideal.Pair
open Cert.KernelIdeal.Value (eta2 eta3)

section Memory

variable (m : (ℓ : Loc nD τ sig) → Buf (Elt Ideal) ℓ) (c : Dev nD)

/-- Under the precondition every argument holds real numbers. -/
theorem real_args (h : Cert.Pre_Kernel2Ideal_finite (hPre_finite := preFacts) m) : Fin9 m c := by
  obtain ⟨h0, h1, h2, h3, h4, h5, h6, h7, h8⟩ := h c
  exact ⟨real_of_mask _ _ h0, real_of_mask _ _ h1, real_of_mask _ _ h2, real_of_mask _ _ h3, real_of_mask _ _ h4,
    real_of_mask _ _ h5, real_of_mask _ _ h6, real_of_mask _ _ h7, real_of_mask _ _ h8⟩

/-- A row index by its column. -/
theorem row2 {b : ℕ} (y : (⟨2, ![1, b]⟩ : Shape).Idx) : y = ix2 0 (y 1) := by
  rw [← Fin.fin_one_eq_zero (y 0)]; exact eta2 y

/-- A matrix index by its row and column. -/
theorem row3 {b d : ℕ} (y : (⟨3, ![1, b, d]⟩ : Shape).Idx) : y = ix3 0 (y 1) (y 2) := by
  rw [← Fin.fin_one_eq_zero (y 0)]; exact eta3 y

/-- The memory's input. -/
theorem mem0 (H : Fin9 m c) : m ((c : Thread nD τ).loc main_arg0) = ReferenceIdeal.Read.X0 (rawOf m c) :=
  funext fun i => (H.f0 i).symm.trans
    (congrArg (fun j => (((m ((c : Thread nD τ).loc main_arg0) j : EReal).toReal : ℝ) : EReal)) (eta3 i))

/-- The memory's gradient at the block's output. -/
theorem mem1 (H : Fin9 m c) : m ((c : Thread nD τ).loc main_arg1) = ReferenceIdeal.Read.X1 (rawOf m c) :=
  funext fun i => (H.f1 i).symm.trans
    (congrArg (fun j => (((m ((c : Thread nD τ).loc main_arg1) j : EReal).toReal : ℝ) : EReal)) (eta3 i))

/-- The memory's shifts. -/
theorem mem2 (H : Fin9 m c) : m ((c : Thread nD τ).loc main_arg2) = ReferenceIdeal.Read.X2 (rawOf m c) :=
  funext fun i => (H.f2 i).symm.trans
    (congrArg (fun j => (((m ((c : Thread nD τ).loc main_arg2) j : EReal).toReal : ℝ) : EReal)) (eta2 i))

/-- The memory's scales. -/
theorem mem3 (H : Fin9 m c) : m ((c : Thread nD τ).loc main_arg3) = ReferenceIdeal.Read.X3 (rawOf m c) :=
  funext fun i => (H.f3 i).symm.trans
    (congrArg (fun j => (((m ((c : Thread nD τ).loc main_arg3) j : EReal).toReal : ℝ) : EReal)) (eta2 i))

/-- The memory's output gates. -/
theorem mem4 (H : Fin9 m c) : m ((c : Thread nD τ).loc main_arg4) = ReferenceIdeal.Read.X4 (rawOf m c) :=
  funext fun i => (H.f4 i).symm.trans
    (congrArg (fun j => (((m ((c : Thread nD τ).loc main_arg4) j : EReal).toReal : ℝ) : EReal)) (eta2 i))

/-- The memory's gain before the block. -/
theorem mem5 (H : Fin9 m c) : m ((c : Thread nD τ).loc main_arg5) = ReferenceIdeal.Read.X5 (rawOf m c) :=
  funext fun i => (H.f5 i).symm.trans
    (congrArg (fun j => (((m ((c : Thread nD τ).loc main_arg5) j : EReal).toReal : ℝ) : EReal)) (row2 i))

/-- The memory's gain after the block. -/
theorem mem6 (H : Fin9 m c) : m ((c : Thread nD τ).loc main_arg6) = ReferenceIdeal.Read.X6 (rawOf m c) :=
  funext fun i => (H.f6 i).symm.trans
    (congrArg (fun j => (((m ((c : Thread nD τ).loc main_arg6) j : EReal).toReal : ℝ) : EReal)) (row2 i))

/-- The memory's input projection. -/
theorem mem7 (H : Fin9 m c) : m ((c : Thread nD τ).loc main_arg7) = ReferenceIdeal.Read.X7 (rawOf m c) :=
  funext fun i => (H.f7 i).symm.trans
    (congrArg (fun j => (((m ((c : Thread nD τ).loc main_arg7) j : EReal).toReal : ℝ) : EReal)) (row3 i))

/-- The memory's output projection. -/
theorem mem8 (H : Fin9 m c) : m ((c : Thread nD τ).loc main_arg8) = ReferenceIdeal.Read.X8 (rawOf m c) :=
  funext fun i => (H.f8 i).symm.trans
    (congrArg (fun j => (((m ((c : Thread nD τ).loc main_arg8) j : EReal).toReal : ℝ) : EReal)) (row3 i))

end Memory

/-- Contents of the reference's arguments that are the arrays of real arguments. -/
structure Reads (V0 : Valuation Reference2Ideal.τ Reference2Ideal.sig (Elt Ideal)) (A : Args) : Prop where
  a0 : V0 (Proc.devRef .tc Reference2Ideal.main_arg0) = ReferenceIdeal.Read.X0 A
  a1 : V0 (Proc.devRef .tc Reference2Ideal.main_arg1) = ReferenceIdeal.Read.X1 A
  a2 : V0 (Proc.devRef .tc Reference2Ideal.main_arg2) = ReferenceIdeal.Read.X2 A
  a3 : V0 (Proc.devRef .tc Reference2Ideal.main_arg3) = ReferenceIdeal.Read.X3 A
  a4 : V0 (Proc.devRef .tc Reference2Ideal.main_arg4) = ReferenceIdeal.Read.X4 A
  a5 : V0 (Proc.devRef .tc Reference2Ideal.main_arg5) = ReferenceIdeal.Read.X5 A
  a6 : V0 (Proc.devRef .tc Reference2Ideal.main_arg6) = ReferenceIdeal.Read.X6 A
  a7 : V0 (Proc.devRef .tc Reference2Ideal.main_arg7) = ReferenceIdeal.Read.X7 A
  a8 : V0 (Proc.devRef .tc Reference2Ideal.main_arg8) = ReferenceIdeal.Read.X8 A

/-- Under the precondition the reference's contents at the start are the kernel's arguments as real arrays. -/
theorem reads_of (m : (ℓ : Loc nD τ sig) → Buf (Elt Ideal) ℓ)
    (m' : (ℓ : Loc Reference2Ideal.nD Reference2Ideal.τ Reference2Ideal.sig) → Buf (Elt Ideal) ℓ) (c : Dev nD) (H : Fin9 m c)
    (ha : m' ((c.tc : Thread Reference2Ideal.nD Reference2Ideal.τ).loc Reference2Ideal.main_arg0) = m ((c.tc : Thread nD τ).loc main_arg0)
      ∧ m' ((c.tc : Thread Reference2Ideal.nD Reference2Ideal.τ).loc Reference2Ideal.main_arg1) = m ((c.tc : Thread nD τ).loc main_arg1)
      ∧ m' ((c.tc : Thread Reference2Ideal.nD Reference2Ideal.τ).loc Reference2Ideal.main_arg2) = m ((c.tc : Thread nD τ).loc main_arg2)
      ∧ m' ((c.tc : Thread Reference2Ideal.nD Reference2Ideal.τ).loc Reference2Ideal.main_arg3) = m ((c.tc : Thread nD τ).loc main_arg3)
      ∧ m' ((c.tc : Thread Reference2Ideal.nD Reference2Ideal.τ).loc Reference2Ideal.main_arg4) = m ((c.tc : Thread nD τ).loc main_arg4)
      ∧ m' ((c.tc : Thread Reference2Ideal.nD Reference2Ideal.τ).loc Reference2Ideal.main_arg5) = m ((c.tc : Thread nD τ).loc main_arg5)
      ∧ m' ((c.tc : Thread Reference2Ideal.nD Reference2Ideal.τ).loc Reference2Ideal.main_arg6) = m ((c.tc : Thread nD τ).loc main_arg6)
      ∧ m' ((c.tc : Thread Reference2Ideal.nD Reference2Ideal.τ).loc Reference2Ideal.main_arg7) = m ((c.tc : Thread nD τ).loc main_arg7)
      ∧ m' ((c.tc : Thread Reference2Ideal.nD Reference2Ideal.τ).loc Reference2Ideal.main_arg8) = m ((c.tc : Thread nD τ).loc main_arg8)) :
    Reads (launchContents m' c) (rawOf m c) := by
  obtain ⟨a0, a1, a2, a3, a4, a5, a6, a7, a8⟩ := ha
  exact ⟨a0.trans (mem0 m c H), a1.trans (mem1 m c H), a2.trans (mem2 m c H), a3.trans (mem3 m c H), a4.trans (mem4 m c H), a5.trans (mem5 m c H), a6.trans (mem6 m c H), a7.trans (mem7 m c H), a8.trans (mem8 m c H)⟩

/-- The value claim of the two calls, under the precondition that every argument is finite. -/
theorem algebraic : Cert.algebraic_Kernel2Ideal_Reference2Ideal_pre_finite (hKernel2Ideal := Cert.Kernel2Ideal.Gen.facts)
    (hReference2Ideal := Reference2Ideal.Gen.facts) (hPre_finite := preFacts) := by
  intro m g m' g' hpre hagree
  refine ⟨fun c => (argsOf m c).resOut, fun c => (argsOf m c).resDx, fun c => (argsOf m c).resDgu, fun c => (argsOf m c).resAct, fun c => (argsOf m c).resH, fun c => (argsOf m c).resDy, fun c => (argsOf m c).resMod, fun c => (argsOf m c).resGain, ?_, ?_⟩
  · exact run m g fun c => real_args m c hpre
  · refine (θ_run Reference2Ideal.defs _ _).mono (fun r h c => ?_) (Reference2Ideal.Value.run (F := Ideal) m' g')
    have hr := reads_of m m' c (real_args m c hpre) (hagree c)
    obtain ⟨h0, h1, h2, h3, h4, h5, h6, h7, hk⟩ := h c
    exact ⟨h0.trans ((Reference2Ideal.Read.val_main_v131_eq (launchContents m' c)).trans (by rw [hr.a0, hr.a2, hr.a3, hr.a4, hr.a5, hr.a6, hr.a7, hr.a8]; exact Reference2Ideal.Pair.p131 (rawOf m c))),
      h1.trans ((Reference2Ideal.Read.val_main_v132_eq (launchContents m' c)).trans (by rw [hr.a0, hr.a1, hr.a2, hr.a3, hr.a4, hr.a5, hr.a6, hr.a7, hr.a8]; exact Reference2Ideal.Pair.p132 (rawOf m c))),
      h2.trans ((Reference2Ideal.Read.val_main_v135_eq (launchContents m' c)).trans (by rw [hr.a0, hr.a1, hr.a2, hr.a3, hr.a4, hr.a5, hr.a6, hr.a7, hr.a8]; exact Reference2Ideal.Pair.p135 (rawOf m c))),
      h3.trans ((Reference2Ideal.Read.val_main_v138_eq (launchContents m' c)).trans (by rw [hr.a0, hr.a2, hr.a3, hr.a5, hr.a7]; exact Reference2Ideal.Pair.p138 (rawOf m c))),
      h4.trans ((Reference2Ideal.Read.val_main_v140_eq (launchContents m' c)).trans (by rw [hr.a0, hr.a2, hr.a3, hr.a5]; exact Reference2Ideal.Pair.p140 (rawOf m c))),
      h5.trans ((Reference2Ideal.Read.val_main_v142_eq (launchContents m' c)).trans (by rw [hr.a0, hr.a1, hr.a2, hr.a3, hr.a4, hr.a5, hr.a6, hr.a7, hr.a8]; exact Reference2Ideal.Pair.p142 (rawOf m c))),
      h6.trans ((Reference2Ideal.Read.val_main_v143_eq (launchContents m' c)).trans (by rw [hr.a0, hr.a1, hr.a2, hr.a3, hr.a4, hr.a5, hr.a6, hr.a7, hr.a8]; exact Reference2Ideal.Pair.p143 (rawOf m c))),
      h7.trans ((Reference2Ideal.Read.val_main_v145_eq (launchContents m' c)).trans (by rw [hr.a0, hr.a1, hr.a2, hr.a3, hr.a4, hr.a5, hr.a6, hr.a7, hr.a8]; exact Reference2Ideal.Pair.p145 (rawOf m c))), hk⟩

/-- The reference's run leaves its arguments and every counter as they were. -/
theorem frame_reference : Cert.quiescent_Reference2Ideal (hReference2Ideal := Reference2Ideal.Gen.facts) := fun m ρ _ =>
  (θ_run Reference2Ideal.defs _ _).mono (fun r h => ⟨fun c => (h c).2.2.2.2.2.2.2.2, sem_eq_zero_of_no_sems (by decide) r.2⟩)
    (Reference2Ideal.Value.run (F := Ideal) m ρ)

end Cert.Proof.Pair

end
-- ==== Proof.AdamMath.lean ====
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pipeline.ReadBack
public import Idealize.ShloMosaic.Lib.Pointwise

@[expose] public section

set_option maxRecDepth 16384

/-!
One step of the optimiser at one weight: the moments and the change of the weight, on extended reals.
-/

noncomputable section

namespace Cert.Adam

open Idealize.ShloMosaic

/-- The first moment after the step, from the gradient and the moment before. -/
def mom (g m : Ideal .f32) : Ideal .f32 :=
  FloatOps.addf (FloatOps.mulf (FloatOps.ofBits .f32 0x3F666666#32) m) (FloatOps.mulf (FloatOps.ofBits .f32 0x3DCCCCCD#32) g)

/-- The second moment after the step. -/
def sqm (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- The change of the weight, from the weight and the two moments after the step. -/
def chg (w m v : Ideal .f32) : Ideal .f32 :=
  FloatOps.mulf (FloatOps.ofBits .f32 0xBA83126F#32)
    (FloatOps.addf (FloatOps.hostDivf (FloatOps.hostDivf m (FloatOps.ofBits .f32 0x3F26BD02#32))
        (FloatOps.addf (FloatOps.hostUnary .sqrt (FloatOps.hostDivf v (FloatOps.ofBits .f32 0x3C231ACC#32)))
          (FloatOps.ofBits .f32 0x322BCC77#32)))
      (FloatOps.mulf (FloatOps.ofBits .f32 0x3C23D70A#32) w))

/-- The sum of the four parts of a gradient, in the order the kernel adds them. -/
def sum4 (p : Fin 4 → Ideal .f32) : Ideal .f32 := ((p 0 + p 1 : EReal) + p 2 : EReal) + p 3

/-- The product of two columns, summed over the conditioning rows. -/
def sum64 (a b : Fin 64 → EReal) : Ideal .f32 := ∑ q : Fin 64, a q * b q

/-- Equal gradients, weights and moments before make equal changes and moments after. -/
theorem step {w w' a a' b b' G G' M M' Q Q' D D' : Ideal .f32} (hG : G = G') (hw : w = w') (ha : a = a') (hb : b = b')
    (hM : M = mom G a) (hQ : Q = sqm G b) (hD : D = chg w M Q) (hM' : M' = mom G' a') (hQ' : Q' = sqm G' b')
    (hD' : D' = chg w' M' Q') : G = G' ∧ D = D' ∧ M = M' ∧ Q = Q' := by
  subst hG hw ha hb hM hQ hD hM' hQ' hD'
  exact ⟨rfl, rfl, rfl, rfl⟩

end Cert.Adam

namespace Cert.Reference3Ideal.Adam

open Cert.Reference3Ideal.Read Cert.Adam
open Idealize.ShloMosaic

/-! ### The reference's gradients: the sum of the four parts, or of the conditioning rows -/

theorem zero0 (i : Cert.Reference3Ideal.S_.Idx) : val_main_cst (F := Ideal) i = (0 : EReal) := by
  rw [val_main_cst_apply]; pointwise

theorem four {z : EReal} (hz : z = 0) (p f : Fin 4 → EReal) (h : ∀ q, p q = f q) : z + ∑ q : Fin 4, p q = sum4 f := by
  rw [hz, zero_add, Fin.sum_univ_four, h, h, h, h]
  rfl

theorem g0 (x : (⟨Cert.Reference3Ideal.S4x704x1024, .bf16⟩ : BufTy).Contents (Elt Ideal)) (j : Cert.Reference3Ideal.S704x1024.Idx) :
    val_main_v1 (F := Ideal) x j = sum4 fun q => x (ix3 q (j 0) (j 1)) :=
  (val_main_v1_apply x j).trans (four (zero0 _) _ _ fun q => congrArg x (funext fun a => match a with | ⟨0, _⟩ => rfl | ⟨1, _⟩ => rfl | ⟨2, _⟩ => rfl))
theorem g1 (x : (⟨Cert.Reference3Ideal.S4x352x1024, .bf16⟩ : BufTy).Contents (Elt Ideal)) (j : Cert.Reference3Ideal.S352x1024.Idx) :
    val_main_v3 (F := Ideal) x j = sum4 fun q => x (ix3 q (j 0) (j 1)) :=
  (val_main_v3_apply x j).trans (four (zero0 _) _ _ fun q => congrArg x (funext fun a => match a with | ⟨0, _⟩ => rfl | ⟨1, _⟩ => rfl | ⟨2, _⟩ => rfl))
theorem g2 (x : (⟨Cert.Reference3Ideal.S4x1024x256, .bf16⟩ : BufTy).Contents (Elt Ideal)) (j : Cert.Reference3Ideal.S1024x256.Idx) :
    val_main_v5 (F := Ideal) x j = sum4 fun q => x (ix3 q (j 0) (j 1)) :=
  (val_main_v5_apply x j).trans (four (zero0 _) _ _ fun q => congrArg x (funext fun a => match a with | ⟨0, _⟩ => rfl | ⟨1, _⟩ => rfl | ⟨2, _⟩ => rfl))
theorem g3 (x : (⟨Cert.Reference3Ideal.S4x128x1024, .bf16⟩ : BufTy).Contents (Elt Ideal)) (j : Cert.Reference3Ideal.S128x1024.Idx) :
    val_main_v7 (F := Ideal) x j = sum4 fun q => x (ix3 q (j 0) (j 1)) :=
  (val_main_v7_apply x j).trans (four (zero0 _) _ _ fun q => congrArg x (funext fun a => match a with | ⟨0, _⟩ => rfl | ⟨1, _⟩ => rfl | ⟨2, _⟩ => rfl))
theorem g5 (x : (⟨Cert.Reference3Ideal.S4x704x1024, .bf16⟩ : BufTy).Contents (Elt Ideal)) (j : Cert.Reference3Ideal.S704x1024.Idx) :
    val_main_v13 (F := Ideal) x j = sum4 fun q => x (ix3 q (j 0) (j 1)) :=
  (val_main_v13_apply x j).trans (four (zero0 _) _ _ fun q => congrArg x (funext fun a => match a with | ⟨0, _⟩ => rfl | ⟨1, _⟩ => rfl | ⟨2, _⟩ => rfl))
theorem g6 (x : (⟨Cert.Reference3Ideal.S4x352x1024, .bf16⟩ : BufTy).Contents (Elt Ideal)) (j : Cert.Reference3Ideal.S352x1024.Idx) :
    val_main_v15 (F := Ideal) x j = sum4 fun q => x (ix3 q (j 0) (j 1)) :=
  (val_main_v15_apply x j).trans (four (zero0 _) _ _ fun q => congrArg x (funext fun a => match a with | ⟨0, _⟩ => rfl | ⟨1, _⟩ => rfl | ⟨2, _⟩ => rfl))
theorem g4 (x25 : (⟨Cert.Reference3Ideal.S64x1024, .f32⟩ : BufTy).Contents (Elt Ideal))
    (x26 : (⟨Cert.Reference3Ideal.S64x1152, .f32⟩ : BufTy).Contents (Elt Ideal)) (j : Cert.Reference3Ideal.S1024x1152.Idx) :
    val_main_v11 (F := Ideal) x25 x26 j = sum64 (fun q => x25 (ix2 q (j 0))) (fun q => x26 (ix2 q (j 1))) := by
  rw [val_main_v11_apply, val_main_v10_apply]
  refine Finset.sum_congr rfl fun q _ => (mul_comm _ _).trans ?_
  have e1 : lidx_main_v10 (idx_main_v11 j) q = ix2 q (j 1) := funext fun a => match a with | ⟨0, _⟩ => rfl | ⟨1, _⟩ => rfl
  have e2 : ridx_main_v10 (idx_main_v11 j) q = ix2 q (j 0) := funext fun a => match a with | ⟨0, _⟩ => rfl | ⟨1, _⟩ => rfl
  rw [e1, e2]
  rfl

end Cert.Reference3Ideal.Adam

namespace Cert.Kernel3Ideal.Adam

open Cert.Kernel3Ideal
open Idealize.ShloMosaic Idealize.ShloMosaic.TcCoe

/-- The memory's contents of an argument. -/
abbrev ar (m : (ℓ : Loc nD τ sig) → Buf (Elt Ideal) ℓ) (c : Dev nD) (r : Ref sig .tc) := m ((c : Thread nD τ).loc r)

end Cert.Kernel3Ideal.Adam

end
-- ==== Proof.AdamIn.lean ====
module

public import proofs.«01_k».proof.Proof.AdamMath

@[expose] public section

set_option maxRecDepth 16384

/-!
The first four optimiser calls: each block a call writes is one optimiser step at the elements it reads, so the arrays it
leaves are the reference's.
-/

noncomputable section

namespace Cert.Kernel3Ideal.Adam

open Cert.Kernel3Ideal Cert.Kernel3Ideal.Gen Cert.Adam
open Idealize.ShloMosaic Idealize.ShloMosaic.TcCoe Idealize.SL.Sem
open Cert.Reference3Ideal.Read

/-! ### `w_f2_in` -/

section

variable (V : (c : Dev nD) → (b : Ref sig .tc) → Buf (Elt Ideal) ((c : Thread nD τ).loc b)) (c : Dev nD) (t : Fin cfg0.N) (y : S352x1024.Idx)

abbrev G0 : S352x1024.Idx → Ideal .f32 := out0_4 (iblk0 V c 0 t) (iblk0 V c 1 t) (iblk0 V c 2 t) (iblk0 V c 3 t)
abbrev D0 : S352x1024.Idx → Ideal .f32 := out0_5 (iblk0 V c 0 t) (iblk0 V c 1 t) (iblk0 V c 2 t) (iblk0 V c 3 t)
abbrev M0 : S352x1024.Idx → Ideal .f32 := out0_6 (iblk0 V c 0 t) (iblk0 V c 1 t) (iblk0 V c 2 t) (iblk0 V c 3 t)
abbrev Q0 : S352x1024.Idx → Ideal .f32 := out0_7 (iblk0 V c 0 t) (iblk0 V c 1 t) (iblk0 V c 2 t) (iblk0 V c 3 t)
theorem g0 : G0 V c t y = sum4 fun q => (iblk0 V c 0 t) (ix3 q (y 0) (y 1)) := by
  unfold G0 out0_4; frame_out; pointwise [k0_pay2, sum4]
theorem m0 : M0 V c t y = mom (G0 V c t y) (iblk0 V c 2 t y) := by
  unfold G0 M0 out0_4 out0_6 k0_pay6; frame_out; pointwise [k0_pay4, mom]
theorem v0 : Q0 V c t y = sqm (G0 V c t y) (iblk0 V c 3 t y) := by
  unfold G0 Q0 out0_4 out0_7 k0_pay7; frame_out; pointwise [k0_pay5, sqm]
theorem d0 : D0 V c t y = chg (iblk0 V c 1 t y) (M0 V c t y) (Q0 V c t y) := by
  unfold D0 M0 Q0 out0_5 out0_6 out0_7; frame_out; pointwise [k0_pay1, k0_pay3, chg]
theorem idx0 : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

variable (j : S704x1024.Idx) (h0 : (j 0).val = t.val * 352 + (y 0).val) (h1 : (j 1).val = (y 1).val)
include h0 h1
theorem rd0 : (∀ q : Fin 4, iblk0 V c 0 t (ix3 q (y 0) (y 1)) = V c main_arg21 (ix3 q (j 0) (j 1)))
    ∧ iblk0 V c 1 t y = V c main_v1 j
    ∧ iblk0 V c 2 t y = V c main_v3 j
    ∧ iblk0 V c 3 t y = V c main_v5 j := by
  refine ⟨fun q => ?_, ?_, ?_, ?_⟩ <;> blk_point [iblk0, idx0 t] <;> omega

end

section

variable (m : (ℓ : Loc nD τ sig) → Buf (Elt Ideal) ℓ) (ρ : Dev nD → PrngReg) (c : Dev nD)

theorem A0_0 : V1 m ρ c main_v1 = val_main_v17 (F := Ideal) (ar m c main_arg0) := by
  unfold V1 W1 W0; after_results; rfl
theorem A0_1 : V1 m ρ c main_v3 = val_main_v19 (F := Ideal) (ar m c main_arg1) := by
  unfold V1 W1 W0; after_results; rfl
theorem A0_2 : V1 m ρ c main_v5 = val_main_v21 (F := Ideal) (ar m c main_arg2) := by
  unfold V1 W1 W0; after_results; rfl
abbrev RG0 := val_main_v1 (F := Ideal) (ar m c main_arg21)
abbrev RD0 := val_main_v66 (F := Ideal) (ar m c main_arg0) (ar m c main_arg1) (ar m c main_arg2) (ar m c main_arg21)
abbrev RM0 := val_main_v47 (F := Ideal) (ar m c main_arg1) (ar m c main_arg21)
abbrev RQ0 := val_main_v53 (F := Ideal) (ar m c main_arg2) (ar m c main_arg21)

section

variable (t : Fin cfg0.N) (y : S352x1024.Idx) (j : S704x1024.Idx) (h0 : (j 0).val = t.val * 352 + (y 0).val) (h1 : (j 1).val = (y 1).val)
include h0 h1
theorem p0 : G0 (V1 m ρ) c t y = RG0 m c j ∧ D0 (V1 m ρ) c t y = RD0 m c j
    ∧ M0 (V1 m ρ) c t y = RM0 m c j ∧ Q0 (V1 m ρ) c t y = RQ0 m c j := by
  obtain ⟨r0, r1, r2, r3⟩ := rd0 (V1 m ρ) c t y j h0 h1
  have e0 : ∀ q, iblk0 (V1 m ρ) c 0 t (ix3 q (y 0) (y 1)) = ar m c main_arg21 (ix3 q (j 0) (j 1)) := fun q =>
    (r0 q).trans (congrFun (W1_args m ρ c main_arg21 (by decide)) _)
  have hG : G0 (V1 m ρ) c t y = RG0 m c j := (g0 _ c t y).trans (Eq.trans (congrArg sum4 (funext e0)) (Cert.Reference3Ideal.Adam.g0 (ar m c main_arg21) j).symm)
  exact step hG (r1.trans (congrFun (A0_0 m ρ c) j)) (r2.trans (congrFun (A0_1 m ρ c) j)) (r3.trans (congrFun (A0_2 m ρ c) j))
    (m0 _ c t y) (v0 _ c t y) (d0 _ c t y) rfl rfl rfl

end

theorem fin0_0 : W2 m ρ c (Proc.devRef .tc main_v6_0) = RG0 m c :=
  (W2_arr m ρ c 4).trans ((dat0 (V1 m ρ) c).arrAt_eq_of_covers 4 _ (by decide +kernel) fun t hf y => by
    blk_simp; rw [after0_4]; refine (p0 m ρ c t y _ ?_ ?_).1 <;> (blk_simp [idx0 t] <;> try omega))
theorem fin0_1 : W2 m ρ c (Proc.devRef .tc main_v6_1) = RD0 m c :=
  (W2_arr m ρ c 5).trans ((dat0 (V1 m ρ) c).arrAt_eq_of_covers 5 _ (by decide +kernel) fun t hf y => by
    blk_simp; rw [after0_5]; refine (p0 m ρ c t y _ ?_ ?_).2.1 <;> (blk_simp [idx0 t] <;> try omega))
theorem fin0_2 : W2 m ρ c (Proc.devRef .tc main_v6_2) = RM0 m c :=
  (W2_arr m ρ c 6).trans ((dat0 (V1 m ρ) c).arrAt_eq_of_covers 6 _ (by decide +kernel) fun t hf y => by
    blk_simp; rw [after0_6]; refine (p0 m ρ c t y _ ?_ ?_).2.2.1 <;> (blk_simp [idx0 t] <;> try omega))
theorem fin0_3 : W2 m ρ c (Proc.devRef .tc main_v6_3) = RQ0 m c :=
  (W2_arr m ρ c 7).trans ((dat0 (V1 m ρ) c).arrAt_eq_of_covers 7 _ (by decide +kernel) fun t hf y => by
    blk_simp; rw [after0_7]; refine (p0 m ρ c t y _ ?_ ?_).2.2.2 <;> (blk_simp [idx0 t] <;> try omega))

end

/-! ### `w_f2_out` -/

section

variable (V : (c : Dev nD) → (b : Ref sig .tc) → Buf (Elt Ideal) ((c : Thread nD τ).loc b)) (c : Dev nD) (t : Fin cfg1.N) (y : S352x1024.Idx)

abbrev G1 : S352x1024.Idx → Ideal .f32 := (outsAt1 V c t).1
abbrev D1 : S352x1024.Idx → Ideal .f32 := (outsAt1 V c t).2.1
abbrev M1 : S352x1024.Idx → Ideal .f32 := (outsAt1 V c t).2.2.1
abbrev Q1 : S352x1024.Idx → Ideal .f32 := (outsAt1 V c t).2.2.2
theorem g1 : G1 V c t y = sum4 fun q => (iblk1 V c 0 t) (ix3 q (y 0) (y 1)) := by
  unfold G1 outsAt1; frame_open; frame_out; pointwise [k1_pay2, sum4]
theorem m1 : M1 V c t y = mom (G1 V c t y) (iblk1 V c 2 t y) := by
  unfold G1 M1 outsAt1; frame_open; frame_out; pointwise [k1_pay4, mom]
theorem v1 : Q1 V c t y = sqm (G1 V c t y) (iblk1 V c 3 t y) := by
  unfold G1 Q1 outsAt1; frame_open; frame_out; pointwise [k1_pay5, sqm]
theorem d1 : D1 V c t y = chg (iblk1 V c 1 t y) (M1 V c t y) (Q1 V c t y) := by
  unfold D1 M1 Q1 outsAt1; frame_open; frame_out; pointwise [k1_pay1, k1_pay3, chg]
theorem idx1 : ∀ t : Fin cfg1.N, win1_0.index t = ![0, 0, 0] ∧ win1_1.index t = ![0, 0] ∧ win1_2.index t = ![0, 0] ∧ win1_3.index t = ![0, 0] ∧ win1_4.index t = ![0, 0] ∧ win1_5.index t = ![0, 0] ∧ win1_6.index t = ![0, 0] ∧ win1_7.index t = ![0, 0] :=
  (by decide +kernel : ∀ t : Fin grid1.N, _)

variable (j : S352x1024.Idx) (h0 : (j 0).val = (y 0).val) (h1 : (j 1).val = (y 1).val)
include h0 h1
theorem rd1 : (∀ q : Fin 4, iblk1 V c 0 t (ix3 q (y 0) (y 1)) = V c main_arg22 (ix3 q (j 0) (j 1)))
    ∧ iblk1 V c 1 t y = V c main_v7 j
    ∧ iblk1 V c 2 t y = V c main_v8 j
    ∧ iblk1 V c 3 t y = V c main_v9 j := by
  refine ⟨fun q => ?_, ?_, ?_, ?_⟩ <;> blk_point [iblk1, idx1 t] <;> omega

end

section

variable (m : (ℓ : Loc nD τ sig) → Buf (Elt Ideal) ℓ) (ρ : Dev nD → PrngReg) (c : Dev nD)

theorem A1_0 : V3 m ρ c main_v7 = val_main_v22 (F := Ideal) (ar m c main_arg3) := by
  unfold V3 W3; after_results; rw [W2_args m ρ c main_arg3 (by decide)]; rfl
theorem A1_1 : V3 m ρ c main_v8 = val_main_v23 (F := Ideal) (ar m c main_arg4) := by
  unfold V3 W3; after_results; rw [W2_args m ρ c main_arg4 (by decide)]; rfl
theorem A1_2 : V3 m ρ c main_v9 = val_main_v24 (F := Ideal) (ar m c main_arg5) := by
  unfold V3 W3; after_results; rw [W2_args m ρ c main_arg5 (by decide)]; rfl
abbrev RG1 := val_main_v3 (F := Ideal) (ar m c main_arg22)
abbrev RD1 := val_main_v90 (F := Ideal) (ar m c main_arg3) (ar m c main_arg4) (ar m c main_arg5) (ar m c main_arg22)
abbrev RM1 := val_main_v71 (F := Ideal) (ar m c main_arg4) (ar m c main_arg22)
abbrev RQ1 := val_main_v77 (F := Ideal) (ar m c main_arg5) (ar m c main_arg22)

section

variable (t : Fin cfg1.N) (y : S352x1024.Idx) (j : S352x1024.Idx) (h0 : (j 0).val = (y 0).val) (h1 : (j 1).val = (y 1).val)
include h0 h1
theorem p1 : G1 (V3 m ρ) c t y = RG1 m c j ∧ D1 (V3 m ρ) c t y = RD1 m c j
    ∧ M1 (V3 m ρ) c t y = RM1 m c j ∧ Q1 (V3 m ρ) c t y = RQ1 m c j := by
  obtain ⟨r0, r1, r2, r3⟩ := rd1 (V3 m ρ) c t y j h0 h1
  have e0 : ∀ q, iblk1 (V3 m ρ) c 0 t (ix3 q (y 0) (y 1)) = ar m c main_arg22 (ix3 q (j 0) (j 1)) := fun q =>
    (r0 q).trans (congrFun (W3_args m ρ c main_arg22 (by decide)) _)
  have hG : G1 (V3 m ρ) c t y = RG1 m c j := (g1 _ c t y).trans (Eq.trans (congrArg sum4 (funext e0)) (Cert.Reference3Ideal.Adam.g1 (ar m c main_arg22) j).symm)
  exact step hG (r1.trans (congrFun (A1_0 m ρ c) j)) (r2.trans (congrFun (A1_1 m ρ c) j)) (r3.trans (congrFun (A1_2 m ρ c) j))
    (m1 _ c t y) (v1 _ c t y) (d1 _ c t y) rfl rfl rfl

end

theorem fin1_0 : W4 m ρ c (Proc.devRef .tc main_v10_0) = RG1 m c :=
  (W4_arr m ρ c 4).trans ((dat1 (V3 m ρ) c).arrAt_eq_of_covers 4 _ (by decide +kernel) fun t hf y => by
    blk_simp; rw [after1_4]; refine (p1 m ρ c t y _ ?_ ?_).1 <;> (blk_simp [idx1 t] <;> try omega))
theorem fin1_1 : W4 m ρ c (Proc.devRef .tc main_v10_1) = RD1 m c :=
  (W4_arr m ρ c 5).trans ((dat1 (V3 m ρ) c).arrAt_eq_of_covers 5 _ (by decide +kernel) fun t hf y => by
    blk_simp; rw [after1_5]; refine (p1 m ρ c t y _ ?_ ?_).2.1 <;> (blk_simp [idx1 t] <;> try omega))
theorem fin1_2 : W4 m ρ c (Proc.devRef .tc main_v10_2) = RM1 m c :=
  (W4_arr m ρ c 6).trans ((dat1 (V3 m ρ) c).arrAt_eq_of_covers 6 _ (by decide +kernel) fun t hf y => by
    blk_simp; rw [after1_6]; refine (p1 m ρ c t y _ ?_ ?_).2.2.1 <;> (blk_simp [idx1 t] <;> try omega))
theorem fin1_3 : W4 m ρ c (Proc.devRef .tc main_v10_3) = RQ1 m c :=
  (W4_arr m ρ c 7).trans ((dat1 (V3 m ρ) c).arrAt_eq_of_covers 7 _ (by decide +kernel) fun t hf y => by
    blk_simp; rw [after1_7]; refine (p1 m ρ c t y _ ?_ ?_).2.2.2 <;> (blk_simp [idx1 t] <;> try omega))

end

/-! ### `w_mix_in` -/

section

variable (V : (c : Dev nD) → (b : Ref sig .tc) → Buf (Elt Ideal) ((c : Thread nD τ).loc b)) (c : Dev nD) (t : Fin cfg2.N) (y : S256x256.Idx)

abbrev G2 : S256x256.Idx → Ideal .f32 := (outsAt2 V c t).1
abbrev D2 : S256x256.Idx → Ideal .f32 := (outsAt2 V c t).2.1
abbrev M2 : S256x256.Idx → Ideal .f32 := (outsAt2 V c t).2.2.1
abbrev Q2 : S256x256.Idx → Ideal .f32 := (outsAt2 V c t).2.2.2
theorem g2 : G2 V c t y = sum4 fun q => (iblk2 V c 0 t) (ix3 q (y 0) (y 1)) := by
  unfold G2 outsAt2; frame_open; frame_out; pointwise [k2_pay2, sum4]
theorem m2 : M2 V c t y = mom (G2 V c t y) (iblk2 V c 2 t y) := by
  unfold G2 M2 outsAt2; frame_open; frame_out; pointwise [k2_pay4, mom]
theorem v2 : Q2 V c t y = sqm (G2 V c t y) (iblk2 V c 3 t y) := by
  unfold G2 Q2 outsAt2; frame_open; frame_out; pointwise [k2_pay5, sqm]
theorem d2 : D2 V c t y = chg (iblk2 V c 1 t y) (M2 V c t y) (Q2 V c t y) := by
  unfold D2 M2 Q2 outsAt2; frame_open; frame_out; pointwise [k2_pay1, k2_pay3, chg]
theorem idx2 : ∀ t : Fin cfg2.N, win2_0.index t = ![0, t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] ∧ win2_7.index t = ![t.val, 0] :=
  (by decide +kernel : ∀ t : Fin grid2.N, _)

variable (j : S1024x256.Idx) (h0 : (j 0).val = t.val * 256 + (y 0).val) (h1 : (j 1).val = (y 1).val)
include h0 h1
theorem rd2 : (∀ q : Fin 4, iblk2 V c 0 t (ix3 q (y 0) (y 1)) = V c main_arg23 (ix3 q (j 0) (j 1)))
    ∧ iblk2 V c 1 t y = V c main_v11 j
    ∧ iblk2 V c 2 t y = V c main_v12 j
    ∧ iblk2 V c 3 t y = V c main_v13 j := by
  refine ⟨fun q => ?_, ?_, ?_, ?_⟩ <;> blk_point [iblk2, idx2 t] <;> omega

end

section

variable (m : (ℓ : Loc nD τ sig) → Buf (Elt Ideal) ℓ) (ρ : Dev nD → PrngReg) (c : Dev nD)

theorem A2_0 : V5 m ρ c main_v11 = val_main_v25 (F := Ideal) (ar m c main_arg6) := by
  unfold V5 W5; after_results; rw [W4_args m ρ c main_arg6 (by decide)]; rfl
theorem A2_1 : V5 m ρ c main_v12 = val_main_v26 (F := Ideal) (ar m c main_arg7) := by
  unfold V5 W5; after_results; rw [W4_args m ρ c main_arg7 (by decide)]; rfl
theorem A2_2 : V5 m ρ c main_v13 = val_main_v27 (F := Ideal) (ar m c main_arg8) := by
  unfold V5 W5; after_results; rw [W4_args m ρ c main_arg8 (by decide)]; rfl
abbrev RG2 := val_main_v5 (F := Ideal) (ar m c main_arg23)
abbrev RD2 := val_main_v114 (F := Ideal) (ar m c main_arg6) (ar m c main_arg7) (ar m c main_arg8) (ar m c main_arg23)
abbrev RM2 := val_main_v95 (F := Ideal) (ar m c main_arg7) (ar m c main_arg23)
abbrev RQ2 := val_main_v101 (F := Ideal) (ar m c main_arg8) (ar m c main_arg23)

section

variable (t : Fin cfg2.N) (y : S256x256.Idx) (j : S1024x256.Idx) (h0 : (j 0).val = t.val * 256 + (y 0).val) (h1 : (j 1).val = (y 1).val)
include h0 h1
theorem p2 : G2 (V5 m ρ) c t y = RG2 m c j ∧ D2 (V5 m ρ) c t y = RD2 m c j
    ∧ M2 (V5 m ρ) c t y = RM2 m c j ∧ Q2 (V5 m ρ) c t y = RQ2 m c j := by
  obtain ⟨r0, r1, r2, r3⟩ := rd2 (V5 m ρ) c t y j h0 h1
  have e0 : ∀ q, iblk2 (V5 m ρ) c 0 t (ix3 q (y 0) (y 1)) = ar m c main_arg23 (ix3 q (j 0) (j 1)) := fun q =>
    (r0 q).trans (congrFun (W5_args m ρ c main_arg23 (by decide)) _)
  have hG : G2 (V5 m ρ) c t y = RG2 m c j := (g2 _ c t y).trans (Eq.trans (congrArg sum4 (funext e0)) (Cert.Reference3Ideal.Adam.g2 (ar m c main_arg23) j).symm)
  exact step hG (r1.trans (congrFun (A2_0 m ρ c) j)) (r2.trans (congrFun (A2_1 m ρ c) j)) (r3.trans (congrFun (A2_2 m ρ c) j))
    (m2 _ c t y) (v2 _ c t y) (d2 _ c t y) rfl rfl rfl

end

theorem fin2_0 : W6 m ρ c (Proc.devRef .tc main_v14_0) = RG2 m c :=
  (W6_arr m ρ c 4).trans ((dat2 (V5 m ρ) c).arrAt_eq_of_covers 4 _ (by decide +kernel) fun t hf y => by
    blk_simp; rw [after2_4]; refine (p2 m ρ c t y _ ?_ ?_).1 <;> (blk_simp [idx2 t] <;> try omega))
theorem fin2_1 : W6 m ρ c (Proc.devRef .tc main_v14_1) = RD2 m c :=
  (W6_arr m ρ c 5).trans ((dat2 (V5 m ρ) c).arrAt_eq_of_covers 5 _ (by decide +kernel) fun t hf y => by
    blk_simp; rw [after2_5]; refine (p2 m ρ c t y _ ?_ ?_).2.1 <;> (blk_simp [idx2 t] <;> try omega))
theorem fin2_2 : W6 m ρ c (Proc.devRef .tc main_v14_2) = RM2 m c :=
  (W6_arr m ρ c 6).trans ((dat2 (V5 m ρ) c).arrAt_eq_of_covers 6 _ (by decide +kernel) fun t hf y => by
    blk_simp; rw [after2_6]; refine (p2 m ρ c t y _ ?_ ?_).2.2.1 <;> (blk_simp [idx2 t] <;> try omega))
theorem fin2_3 : W6 m ρ c (Proc.devRef .tc main_v14_3) = RQ2 m c :=
  (W6_arr m ρ c 7).trans ((dat2 (V5 m ρ) c).arrAt_eq_of_covers 7 _ (by decide +kernel) fun t hf y => by
    blk_simp; rw [after2_7]; refine (p2 m ρ c t y _ ?_ ?_).2.2.2 <;> (blk_simp [idx2 t] <;> try omega))

end

/-! ### `w_mix_out` -/

section

variable (V : (c : Dev nD) → (b : Ref sig .tc) → Buf (Elt Ideal) ((c : Thread nD τ).loc b)) (c : Dev nD) (t : Fin cfg3.N) (y : S128x1024.Idx)

abbrev G3 : S128x1024.Idx → Ideal .f32 := (outsAt3 V c t).1
abbrev D3 : S128x1024.Idx → Ideal .f32 := (outsAt3 V c t).2.1
abbrev M3 : S128x1024.Idx → Ideal .f32 := (outsAt3 V c t).2.2.1
abbrev Q3 : S128x1024.Idx → Ideal .f32 := (outsAt3 V c t).2.2.2
theorem g3 : G3 V c t y = sum4 fun q => (iblk3 V c 0 t) (ix3 q (y 0) (y 1)) := by
  unfold G3 outsAt3; frame_open; frame_out; pointwise [k3_pay2, sum4]
theorem m3 : M3 V c t y = mom (G3 V c t y) (iblk3 V c 2 t y) := by
  unfold G3 M3 outsAt3; frame_open; frame_out; pointwise [k3_pay4, mom]
theorem v3 : Q3 V c t y = sqm (G3 V c t y) (iblk3 V c 3 t y) := by
  unfold G3 Q3 outsAt3; frame_open; frame_out; pointwise [k3_pay5, sqm]
theorem d3 : D3 V c t y = chg (iblk3 V c 1 t y) (M3 V c t y) (Q3 V c t y) := by
  unfold D3 M3 Q3 outsAt3; frame_open; frame_out; pointwise [k3_pay1, k3_pay3, chg]
theorem idx3 : ∀ t : Fin cfg3.N, win3_0.index t = ![0, 0, 0] ∧ win3_1.index t = ![0, 0] ∧ win3_2.index t = ![0, 0] ∧ win3_3.index t = ![0, 0] ∧ win3_4.index t = ![0, 0] ∧ win3_5.index t = ![0, 0] ∧ win3_6.index t = ![0, 0] ∧ win3_7.index t = ![0, 0] :=
  (by decide +kernel : ∀ t : Fin grid3.N, _)

variable (j : S128x1024.Idx) (h0 : (j 0).val = (y 0).val) (h1 : (j 1).val = (y 1).val)
include h0 h1
theorem rd3 : (∀ q : Fin 4, iblk3 V c 0 t (ix3 q (y 0) (y 1)) = V c main_arg24 (ix3 q (j 0) (j 1)))
    ∧ iblk3 V c 1 t y = V c main_v15 j
    ∧ iblk3 V c 2 t y = V c main_v16 j
    ∧ iblk3 V c 3 t y = V c main_v17 j := by
  refine ⟨fun q => ?_, ?_, ?_, ?_⟩ <;> blk_point [iblk3, idx3 t] <;> omega

end

section

variable (m : (ℓ : Loc nD τ sig) → Buf (Elt Ideal) ℓ) (ρ : Dev nD → PrngReg) (c : Dev nD)

theorem A3_0 : V7 m ρ c main_v15 = val_main_v28 (F := Ideal) (ar m c main_arg9) := by
  unfold V7 W7; after_results; rw [W6_args m ρ c main_arg9 (by decide)]; rfl
theorem A3_1 : V7 m ρ c main_v16 = val_main_v29 (F := Ideal) (ar m c main_arg10) := by
  unfold V7 W7; after_results; rw [W6_args m ρ c main_arg10 (by decide)]; rfl
theorem A3_2 : V7 m ρ c main_v17 = val_main_v30 (F := Ideal) (ar m c main_arg11) := by
  unfold V7 W7; after_results; rw [W6_args m ρ c main_arg11 (by decide)]; rfl
abbrev RG3 := val_main_v7 (F := Ideal) (ar m c main_arg24)
abbrev RD3 := val_main_v138 (F := Ideal) (ar m c main_arg9) (ar m c main_arg10) (ar m c main_arg11) (ar m c main_arg24)
abbrev RM3 := val_main_v119 (F := Ideal) (ar m c main_arg10) (ar m c main_arg24)
abbrev RQ3 := val_main_v125 (F := Ideal) (ar m c main_arg11) (ar m c main_arg24)

section

variable (t : Fin cfg3.N) (y : S128x1024.Idx) (j : S128x1024.Idx) (h0 : (j 0).val = (y 0).val) (h1 : (j 1).val = (y 1).val)
include h0 h1
theorem p3 : G3 (V7 m ρ) c t y = RG3 m c j ∧ D3 (V7 m ρ) c t y = RD3 m c j
    ∧ M3 (V7 m ρ) c t y = RM3 m c j ∧ Q3 (V7 m ρ) c t y = RQ3 m c j := by
  obtain ⟨r0, r1, r2, r3⟩ := rd3 (V7 m ρ) c t y j h0 h1
  have e0 : ∀ q, iblk3 (V7 m ρ) c 0 t (ix3 q (y 0) (y 1)) = ar m c main_arg24 (ix3 q (j 0) (j 1)) := fun q =>
    (r0 q).trans (congrFun (W7_args m ρ c main_arg24 (by decide)) _)
  have hG : G3 (V7 m ρ) c t y = RG3 m c j := (g3 _ c t y).trans (Eq.trans (congrArg sum4 (funext e0)) (Cert.Reference3Ideal.Adam.g3 (ar m c main_arg24) j).symm)
  exact step hG (r1.trans (congrFun (A3_0 m ρ c) j)) (r2.trans (congrFun (A3_1 m ρ c) j)) (r3.trans (congrFun (A3_2 m ρ c) j))
    (m3 _ c t y) (v3 _ c t y) (d3 _ c t y) rfl rfl rfl

end

theorem fin3_0 : W8 m ρ c (Proc.devRef .tc main_v18_0) = RG3 m c :=
  (W8_arr m ρ c 4).trans ((dat3 (V7 m ρ) c).arrAt_eq_of_covers 4 _ (by decide +kernel) fun t hf y => by
    blk_simp; rw [after3_4]; refine (p3 m ρ c t y _ ?_ ?_).1 <;> (blk_simp [idx3 t] <;> try omega))
theorem fin3_1 : W8 m ρ c (Proc.devRef .tc main_v18_1) = RD3 m c :=
  (W8_arr m ρ c 5).trans ((dat3 (V7 m ρ) c).arrAt_eq_of_covers 5 _ (by decide +kernel) fun t hf y => by
    blk_simp; rw [after3_5]; refine (p3 m ρ c t y _ ?_ ?_).2.1 <;> (blk_simp [idx3 t] <;> try omega))
theorem fin3_2 : W8 m ρ c (Proc.devRef .tc main_v18_2) = RM3 m c :=
  (W8_arr m ρ c 6).trans ((dat3 (V7 m ρ) c).arrAt_eq_of_covers 6 _ (by decide +kernel) fun t hf y => by
    blk_simp; rw [after3_6]; refine (p3 m ρ c t y _ ?_ ?_).2.2.1 <;> (blk_simp [idx3 t] <;> try omega))
theorem fin3_3 : W8 m ρ c (Proc.devRef .tc main_v18_3) = RQ3 m c :=
  (W8_arr m ρ c 7).trans ((dat3 (V7 m ρ) c).arrAt_eq_of_covers 7 _ (by decide +kernel) fun t hf y => by
    blk_simp; rw [after3_7]; refine (p3 m ρ c t y _ ?_ ?_).2.2.2 <;> (blk_simp [idx3 t] <;> try omega))

end

end Cert.Kernel3Ideal.Adam

end
-- ==== Proof.AdamOut.lean ====
module

public import proofs.«01_k».proof.Proof.AdamMath

@[expose] public section

set_option maxRecDepth 16384

/-!
The last three optimiser calls, read as the first four are in `AdamIn.lean`.
-/

noncomputable section

namespace Cert.Kernel3Ideal.Adam

open Cert.Kernel3Ideal Cert.Kernel3Ideal.Gen Cert.Adam
open Idealize.ShloMosaic Idealize.ShloMosaic.TcCoe Idealize.SL.Sem
open Cert.Reference3Ideal.Read

/-! ### `w_ada` -/

section

variable (V : (c : Dev nD) → (b : Ref sig .tc) → Buf (Elt Ideal) ((c : Thread nD τ).loc b)) (c : Dev nD) (t : Fin cfg4.N) (y : S256x1152.Idx)

abbrev G4 : S256x1152.Idx → Ideal .f32 := (outsAt4 V c t).1
abbrev D4 : S256x1152.Idx → Ideal .f32 := (outsAt4 V c t).2.1
abbrev M4 : S256x1152.Idx → Ideal .f32 := (outsAt4 V c t).2.2.1
abbrev Q4 : S256x1152.Idx → Ideal .f32 := (outsAt4 V c t).2.2.2
theorem g4 : G4 V c t y = sum64 (fun q => iblk4 V c 0 t (ix2 q (y 0))) (fun q => iblk4 V c 1 t (ix2 q (y 1))) := by
  unfold G4 outsAt4; frame_open; frame_out; pointwise [k4_pay1, sum64]
theorem m4 : M4 V c t y = mom (G4 V c t y) (iblk4 V c 3 t y) := by
  unfold G4 M4 outsAt4; frame_open; frame_out; pointwise [k4_pay2, mom]
theorem v4 : Q4 V c t y = sqm (G4 V c t y) (iblk4 V c 4 t y) := by
  unfold G4 Q4 outsAt4; frame_open; frame_out; pointwise [k4_pay3, sqm]
theorem d4 : D4 V c t y = chg (iblk4 V c 2 t y) (M4 V c t y) (Q4 V c t y) := by
  unfold D4 M4 Q4 outsAt4; frame_open; frame_out; pointwise [k4_pay4, chg]
theorem idx4 : ∀ t : Fin cfg4.N, win4_0.index t = ![0, t.val] ∧ win4_1.index t = ![0, 0] ∧ win4_2.index t = ![t.val, 0] ∧ win4_3.index t = ![t.val, 0] ∧ win4_4.index t = ![t.val, 0] ∧ win4_5.index t = ![t.val, 0] ∧ win4_6.index t = ![t.val, 0] ∧ win4_7.index t = ![t.val, 0] ∧ win4_8.index t = ![t.val, 0] :=
  (by decide +kernel : ∀ t : Fin grid4.N, _)

variable (j : S1024x1152.Idx) (h0 : (j 0).val = t.val * 256 + (y 0).val) (h1 : (j 1).val = (y 1).val)
include h0 h1
theorem rd4 : (∀ q : Fin 64, iblk4 V c 0 t (ix2 q (y 0)) = V c main_arg25 (ix2 q (j 0)))
    ∧ (∀ q : Fin 64, iblk4 V c 1 t (ix2 q (y 1)) = V c main_arg26 (ix2 q (j 1)))
    ∧ iblk4 V c 2 t y = V c main_v19 j
    ∧ iblk4 V c 3 t y = V c main_v20 j
    ∧ iblk4 V c 4 t y = V c main_v21 j := by
  refine ⟨fun q => ?_, fun q => ?_, ?_, ?_, ?_⟩ <;> blk_point [iblk4, idx4 t] <;> omega

end

section

variable (m : (ℓ : Loc nD τ sig) → Buf (Elt Ideal) ℓ) (ρ : Dev nD → PrngReg) (c : Dev nD)

theorem A4_0 : V9 m ρ c main_v19 = val_main_v31 (F := Ideal) (ar m c main_arg12) := by
  unfold V9 W9; after_results; rw [W8_args m ρ c main_arg12 (by decide)]; rfl
theorem A4_1 : V9 m ρ c main_v20 = val_main_v32 (F := Ideal) (ar m c main_arg13) := by
  unfold V9 W9; after_results; rw [W8_args m ρ c main_arg13 (by decide)]; rfl
theorem A4_2 : V9 m ρ c main_v21 = val_main_v33 (F := Ideal) (ar m c main_arg14) := by
  unfold V9 W9; after_results; rw [W8_args m ρ c main_arg14 (by decide)]; rfl
abbrev RG4 := val_main_v11 (F := Ideal) (ar m c main_arg25) (ar m c main_arg26)
abbrev RD4 := val_main_v162 (F := Ideal) (ar m c main_arg12) (ar m c main_arg13) (ar m c main_arg14) (ar m c main_arg25) (ar m c main_arg26)
abbrev RM4 := val_main_v143 (F := Ideal) (ar m c main_arg13) (ar m c main_arg25) (ar m c main_arg26)
abbrev RQ4 := val_main_v149 (F := Ideal) (ar m c main_arg14) (ar m c main_arg25) (ar m c main_arg26)

section

variable (t : Fin cfg4.N) (y : S256x1152.Idx) (j : S1024x1152.Idx) (h0 : (j 0).val = t.val * 256 + (y 0).val) (h1 : (j 1).val = (y 1).val)
include h0 h1
theorem p4 : G4 (V9 m ρ) c t y = RG4 m c j ∧ D4 (V9 m ρ) c t y = RD4 m c j
    ∧ M4 (V9 m ρ) c t y = RM4 m c j ∧ Q4 (V9 m ρ) c t y = RQ4 m c j := by
  obtain ⟨r0, r1, r2, r3, r4⟩ := rd4 (V9 m ρ) c t y j h0 h1
  have e0 : ∀ q, iblk4 (V9 m ρ) c 0 t (ix2 q (y 0)) = ar m c main_arg25 (ix2 q (j 0)) := fun q =>
    (r0 q).trans (congrFun (W9_args m ρ c main_arg25 (by decide)) _)
  have e1 : ∀ q, iblk4 (V9 m ρ) c 1 t (ix2 q (y 1)) = ar m c main_arg26 (ix2 q (j 1)) := fun q =>
    (r1 q).trans (congrFun (W9_args m ρ c main_arg26 (by decide)) _)
  have hG : G4 (V9 m ρ) c t y = RG4 m c j := (g4 _ c t y).trans (Eq.trans (congrArg₂ sum64 (funext e0) (funext e1)) (Cert.Reference3Ideal.Adam.g4 (ar m c main_arg25) (ar m c main_arg26) j).symm)
  exact step hG (r2.trans (congrFun (A4_0 m ρ c) j)) (r3.trans (congrFun (A4_1 m ρ c) j)) (r4.trans (congrFun (A4_2 m ρ c) j))
    (m4 _ c t y) (v4 _ c t y) (d4 _ c t y) rfl rfl rfl

end

theorem fin4_0 : W10 m ρ c (Proc.devRef .tc main_v22_0) = RG4 m c :=
  (W10_arr m ρ c 5).trans ((dat4 (V9 m ρ) c).arrAt_eq_of_covers 5 _ (by decide +kernel) fun t hf y => by
    blk_simp; rw [after4_5]; refine (p4 m ρ c t y _ ?_ ?_).1 <;> (blk_simp [idx4 t] <;> try omega))
theorem fin4_1 : W10 m ρ c (Proc.devRef .tc main_v22_1) = RD4 m c :=
  (W10_arr m ρ c 6).trans ((dat4 (V9 m ρ) c).arrAt_eq_of_covers 6 _ (by decide +kernel) fun t hf y => by
    blk_simp; rw [after4_6]; refine (p4 m ρ c t y _ ?_ ?_).2.1 <;> (blk_simp [idx4 t] <;> try omega))
theorem fin4_2 : W10 m ρ c (Proc.devRef .tc main_v22_2) = RM4 m c :=
  (W10_arr m ρ c 7).trans ((dat4 (V9 m ρ) c).arrAt_eq_of_covers 7 _ (by decide +kernel) fun t hf y => by
    blk_simp; rw [after4_7]; refine (p4 m ρ c t y _ ?_ ?_).2.2.1 <;> (blk_simp [idx4 t] <;> try omega))
theorem fin4_3 : W10 m ρ c (Proc.devRef .tc main_v22_3) = RQ4 m c :=
  (W10_arr m ρ c 8).trans ((dat4 (V9 m ρ) c).arrAt_eq_of_covers 8 _ (by decide +kernel) fun t hf y => by
    blk_simp; rw [after4_8]; refine (p4 m ρ c t y _ ?_ ?_).2.2.2 <;> (blk_simp [idx4 t] <;> try omega))

end

/-! ### `w_f1_in` -/

section

variable (V : (c : Dev nD) → (b : Ref sig .tc) → Buf (Elt Ideal) ((c : Thread nD τ).loc b)) (c : Dev nD) (t : Fin cfg5.N) (y : S352x1024.Idx)

abbrev G5 : S352x1024.Idx → Ideal .f32 := out5_4 (iblk5 V c 0 t) (iblk5 V c 1 t) (iblk5 V c 2 t) (iblk5 V c 3 t)
abbrev D5 : S352x1024.Idx → Ideal .f32 := out5_5 (iblk5 V c 0 t) (iblk5 V c 1 t) (iblk5 V c 2 t) (iblk5 V c 3 t)
abbrev M5 : S352x1024.Idx → Ideal .f32 := out5_6 (iblk5 V c 0 t) (iblk5 V c 1 t) (iblk5 V c 2 t) (iblk5 V c 3 t)
abbrev Q5 : S352x1024.Idx → Ideal .f32 := out5_7 (iblk5 V c 0 t) (iblk5 V c 1 t) (iblk5 V c 2 t) (iblk5 V c 3 t)
theorem g5 : G5 V c t y = sum4 fun q => (iblk5 V c 0 t) (ix3 q (y 0) (y 1)) := by
  unfold G5 out5_4; frame_out; pointwise [k5_pay2, sum4]
theorem m5 : M5 V c t y = mom (G5 V c t y) (iblk5 V c 2 t y) := by
  unfold G5 M5 out5_4 out5_6 k5_pay6; frame_out; pointwise [k5_pay4, mom]
theorem v5 : Q5 V c t y = sqm (G5 V c t y) (iblk5 V c 3 t y) := by
  unfold G5 Q5 out5_4 out5_7 k5_pay7; frame_out; pointwise [k5_pay5, sqm]
theorem d5 : D5 V c t y = chg (iblk5 V c 1 t y) (M5 V c t y) (Q5 V c t y) := by
  unfold D5 M5 Q5 out5_5 out5_6 out5_7; frame_out; pointwise [k5_pay1, k5_pay3, chg]
theorem idx5 : ∀ t : Fin cfg5.N, win5_0.index t = ![0, t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] ∧ win5_7.index t = ![t.val, 0] :=
  (by decide +kernel : ∀ t : Fin grid5.N, _)

variable (j : S704x1024.Idx) (h0 : (j 0).val = t.val * 352 + (y 0).val) (h1 : (j 1).val = (y 1).val)
include h0 h1
theorem rd5 : (∀ q : Fin 4, iblk5 V c 0 t (ix3 q (y 0) (y 1)) = V c main_arg27 (ix3 q (j 0) (j 1)))
    ∧ iblk5 V c 1 t y = V c main_v24 j
    ∧ iblk5 V c 2 t y = V c main_v26 j
    ∧ iblk5 V c 3 t y = V c main_v28 j := by
  refine ⟨fun q => ?_, ?_, ?_, ?_⟩ <;> blk_point [iblk5, idx5 t] <;> omega

end

section

variable (m : (ℓ : Loc nD τ sig) → Buf (Elt Ideal) ℓ) (ρ : Dev nD → PrngReg) (c : Dev nD)

theorem A5_0 : V11 m ρ c main_v24 = val_main_v35 (F := Ideal) (ar m c main_arg15) := by
  unfold V11 W11; after_results; rw [W10_args m ρ c main_arg15 (by decide)]; rfl
theorem A5_1 : V11 m ρ c main_v26 = val_main_v37 (F := Ideal) (ar m c main_arg16) := by
  unfold V11 W11; after_results; rw [W10_args m ρ c main_arg16 (by decide)]; rfl
theorem A5_2 : V11 m ρ c main_v28 = val_main_v39 (F := Ideal) (ar m c main_arg17) := by
  unfold V11 W11; after_results; rw [W10_args m ρ c main_arg17 (by decide)]; rfl
abbrev RG5 := val_main_v13 (F := Ideal) (ar m c main_arg27)
abbrev RD5 := val_main_v186 (F := Ideal) (ar m c main_arg15) (ar m c main_arg16) (ar m c main_arg17) (ar m c main_arg27)
abbrev RM5 := val_main_v167 (F := Ideal) (ar m c main_arg16) (ar m c main_arg27)
abbrev RQ5 := val_main_v173 (F := Ideal) (ar m c main_arg17) (ar m c main_arg27)

section

variable (t : Fin cfg5.N) (y : S352x1024.Idx) (j : S704x1024.Idx) (h0 : (j 0).val = t.val * 352 + (y 0).val) (h1 : (j 1).val = (y 1).val)
include h0 h1
theorem p5 : G5 (V11 m ρ) c t y = RG5 m c j ∧ D5 (V11 m ρ) c t y = RD5 m c j
    ∧ M5 (V11 m ρ) c t y = RM5 m c j ∧ Q5 (V11 m ρ) c t y = RQ5 m c j := by
  obtain ⟨r0, r1, r2, r3⟩ := rd5 (V11 m ρ) c t y j h0 h1
  have e0 : ∀ q, iblk5 (V11 m ρ) c 0 t (ix3 q (y 0) (y 1)) = ar m c main_arg27 (ix3 q (j 0) (j 1)) := fun q =>
    (r0 q).trans (congrFun (W11_args m ρ c main_arg27 (by decide)) _)
  have hG : G5 (V11 m ρ) c t y = RG5 m c j := (g5 _ c t y).trans (Eq.trans (congrArg sum4 (funext e0)) (Cert.Reference3Ideal.Adam.g5 (ar m c main_arg27) j).symm)
  exact step hG (r1.trans (congrFun (A5_0 m ρ c) j)) (r2.trans (congrFun (A5_1 m ρ c) j)) (r3.trans (congrFun (A5_2 m ρ c) j))
    (m5 _ c t y) (v5 _ c t y) (d5 _ c t y) rfl rfl rfl

end

theorem fin5_0 : W12 m ρ c (Proc.devRef .tc main_v29_0) = RG5 m c :=
  (W12_arr m ρ c 4).trans ((dat5 (V11 m ρ) c).arrAt_eq_of_covers 4 _ (by decide +kernel) fun t hf y => by
    blk_simp; rw [after5_4]; refine (p5 m ρ c t y _ ?_ ?_).1 <;> (blk_simp [idx5 t] <;> try omega))
theorem fin5_1 : W12 m ρ c (Proc.devRef .tc main_v29_1) = RD5 m c :=
  (W12_arr m ρ c 5).trans ((dat5 (V11 m ρ) c).arrAt_eq_of_covers 5 _ (by decide +kernel) fun t hf y => by
    blk_simp; rw [after5_5]; refine (p5 m ρ c t y _ ?_ ?_).2.1 <;> (blk_simp [idx5 t] <;> try omega))
theorem fin5_2 : W12 m ρ c (Proc.devRef .tc main_v29_2) = RM5 m c :=
  (W12_arr m ρ c 6).trans ((dat5 (V11 m ρ) c).arrAt_eq_of_covers 6 _ (by decide +kernel) fun t hf y => by
    blk_simp; rw [after5_6]; refine (p5 m ρ c t y _ ?_ ?_).2.2.1 <;> (blk_simp [idx5 t] <;> try omega))
theorem fin5_3 : W12 m ρ c (Proc.devRef .tc main_v29_3) = RQ5 m c :=
  (W12_arr m ρ c 7).trans ((dat5 (V11 m ρ) c).arrAt_eq_of_covers 7 _ (by decide +kernel) fun t hf y => by
    blk_simp; rw [after5_7]; refine (p5 m ρ c t y _ ?_ ?_).2.2.2 <;> (blk_simp [idx5 t] <;> try omega))

end

/-! ### `w_f1_out` -/

section

variable (V : (c : Dev nD) → (b : Ref sig .tc) → Buf (Elt Ideal) ((c : Thread nD τ).loc b)) (c : Dev nD) (t : Fin cfg6.N) (y : S352x1024.Idx)

abbrev G6 : S352x1024.Idx → Ideal .f32 := out6_4 (iblk6 V c 0 t) (iblk6 V c 1 t) (iblk6 V c 2 t) (iblk6 V c 3 t)
abbrev D6 : S352x1024.Idx → Ideal .f32 := out6_5 (iblk6 V c 0 t) (iblk6 V c 1 t) (iblk6 V c 2 t) (iblk6 V c 3 t)
abbrev M6 : S352x1024.Idx → Ideal .f32 := out6_6 (iblk6 V c 0 t) (iblk6 V c 1 t) (iblk6 V c 2 t) (iblk6 V c 3 t)
abbrev Q6 : S352x1024.Idx → Ideal .f32 := out6_7 (iblk6 V c 0 t) (iblk6 V c 1 t) (iblk6 V c 2 t) (iblk6 V c 3 t)
theorem g6 : G6 V c t y = sum4 fun q => (iblk6 V c 0 t) (ix3 q (y 0) (y 1)) := by
  unfold G6 out6_4; frame_out; pointwise [k6_pay2, sum4]
theorem m6 : M6 V c t y = mom (G6 V c t y) (iblk6 V c 2 t y) := by
  unfold G6 M6 out6_4 out6_6 k6_pay6; frame_out; pointwise [k6_pay4, mom]
theorem v6 : Q6 V c t y = sqm (G6 V c t y) (iblk6 V c 3 t y) := by
  unfold G6 Q6 out6_4 out6_7 k6_pay7; frame_out; pointwise [k6_pay5, sqm]
theorem d6 : D6 V c t y = chg (iblk6 V c 1 t y) (M6 V c t y) (Q6 V c t y) := by
  unfold D6 M6 Q6 out6_5 out6_6 out6_7; frame_out; pointwise [k6_pay1, k6_pay3, chg]
theorem idx6 : ∀ t : Fin cfg6.N, win6_0.index t = ![0, 0, 0] ∧ win6_1.index t = ![0, 0] ∧ win6_2.index t = ![0, 0] ∧ win6_3.index t = ![0, 0] ∧ win6_4.index t = ![0, 0] ∧ win6_5.index t = ![0, 0] ∧ win6_6.index t = ![0, 0] ∧ win6_7.index t = ![0, 0] :=
  (by decide +kernel : ∀ t : Fin grid6.N, _)

variable (j : S352x1024.Idx) (h0 : (j 0).val = (y 0).val) (h1 : (j 1).val = (y 1).val)
include h0 h1
theorem rd6 : (∀ q : Fin 4, iblk6 V c 0 t (ix3 q (y 0) (y 1)) = V c main_arg28 (ix3 q (j 0) (j 1)))
    ∧ iblk6 V c 1 t y = V c main_v30 j
    ∧ iblk6 V c 2 t y = V c main_v31 j
    ∧ iblk6 V c 3 t y = V c main_v32 j := by
  refine ⟨fun q => ?_, ?_, ?_, ?_⟩ <;> blk_point [iblk6, idx6 t] <;> omega

end

section

variable (m : (ℓ : Loc nD τ sig) → Buf (Elt Ideal) ℓ) (ρ : Dev nD → PrngReg) (c : Dev nD)

theorem A6_0 : V13 m ρ c main_v30 = val_main_v40 (F := Ideal) (ar m c main_arg18) := by
  unfold V13 W13; after_results; rw [W12_args m ρ c main_arg18 (by decide)]; rfl
theorem A6_1 : V13 m ρ c main_v31 = val_main_v41 (F := Ideal) (ar m c main_arg19) := by
  unfold V13 W13; after_results; rw [W12_args m ρ c main_arg19 (by decide)]; rfl
theorem A6_2 : V13 m ρ c main_v32 = val_main_v42 (F := Ideal) (ar m c main_arg20) := by
  unfold V13 W13; after_results; rw [W12_args m ρ c main_arg20 (by decide)]; rfl
abbrev RG6 := val_main_v15 (F := Ideal) (ar m c main_arg28)
abbrev RD6 := val_main_v210 (F := Ideal) (ar m c main_arg18) (ar m c main_arg19) (ar m c main_arg20) (ar m c main_arg28)
abbrev RM6 := val_main_v191 (F := Ideal) (ar m c main_arg19) (ar m c main_arg28)
abbrev RQ6 := val_main_v197 (F := Ideal) (ar m c main_arg20) (ar m c main_arg28)

section

variable (t : Fin cfg6.N) (y : S352x1024.Idx) (j : S352x1024.Idx) (h0 : (j 0).val = (y 0).val) (h1 : (j 1).val = (y 1).val)
include h0 h1
theorem p6 : G6 (V13 m ρ) c t y = RG6 m c j ∧ D6 (V13 m ρ) c t y = RD6 m c j
    ∧ M6 (V13 m ρ) c t y = RM6 m c j ∧ Q6 (V13 m ρ) c t y = RQ6 m c j := by
  obtain ⟨r0, r1, r2, r3⟩ := rd6 (V13 m ρ) c t y j h0 h1
  have e0 : ∀ q, iblk6 (V13 m ρ) c 0 t (ix3 q (y 0) (y 1)) = ar m c main_arg28 (ix3 q (j 0) (j 1)) := fun q =>
    (r0 q).trans (congrFun (W13_args m ρ c main_arg28 (by decide)) _)
  have hG : G6 (V13 m ρ) c t y = RG6 m c j := (g6 _ c t y).trans (Eq.trans (congrArg sum4 (funext e0)) (Cert.Reference3Ideal.Adam.g6 (ar m c main_arg28) j).symm)
  exact step hG (r1.trans (congrFun (A6_0 m ρ c) j)) (r2.trans (congrFun (A6_1 m ρ c) j)) (r3.trans (congrFun (A6_2 m ρ c) j))
    (m6 _ c t y) (v6 _ c t y) (d6 _ c t y) rfl rfl rfl

end

theorem fin6_0 : W14 m ρ c (Proc.devRef .tc main_v33_0) = RG6 m c :=
  (W14_arr m ρ c 4).trans ((dat6 (V13 m ρ) c).arrAt_eq_of_covers 4 _ (by decide +kernel) fun t hf y => by
    blk_simp; rw [after6_4]; refine (p6 m ρ c t y _ ?_ ?_).1 <;> (blk_simp [idx6 t] <;> try omega))
theorem fin6_1 : W14 m ρ c (Proc.devRef .tc main_v33_1) = RD6 m c :=
  (W14_arr m ρ c 5).trans ((dat6 (V13 m ρ) c).arrAt_eq_of_covers 5 _ (by decide +kernel) fun t hf y => by
    blk_simp; rw [after6_5]; refine (p6 m ρ c t y _ ?_ ?_).2.1 <;> (blk_simp [idx6 t] <;> try omega))
theorem fin6_2 : W14 m ρ c (Proc.devRef .tc main_v33_2) = RM6 m c :=
  (W14_arr m ρ c 6).trans ((dat6 (V13 m ρ) c).arrAt_eq_of_covers 6 _ (by decide +kernel) fun t hf y => by
    blk_simp; rw [after6_6]; refine (p6 m ρ c t y _ ?_ ?_).2.2.1 <;> (blk_simp [idx6 t] <;> try omega))
theorem fin6_3 : W14 m ρ c (Proc.devRef .tc main_v33_3) = RQ6 m c :=
  (W14_arr m ρ c 7).trans ((dat6 (V13 m ρ) c).arrAt_eq_of_covers 7 _ (by decide +kernel) fun t hf y => by
    blk_simp; rw [after6_7]; refine (p6 m ρ c t y _ ?_ ?_).2.2.2 <;> (blk_simp [idx6 t] <;> try omega))

end

end Cert.Kernel3Ideal.Adam

end
-- ==== Proof.AdamRun.lean ====
module

public import proofs.«01_k».proof.Proof.AdamIn
public import proofs.«01_k».proof.Proof.AdamOut

@[expose] public section

set_option maxRecDepth 16384

/-!
The run of the seven optimiser calls: no later call touches what an earlier one left.
-/

noncomputable section

namespace Cert.Kernel3Ideal.Adam

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every run of the seven calls ends with every buffer of the device as they leave it. -/
theorem ends : θ_run defs (onTc (τ := τ) (main (F := Ideal))) ⟨m, fun _ => 0, ρ⟩ (fun r => ∀ c : Dev nD,
    ∀ b ∈ Pipeline.ucRefs τ sig, r.2.mem (((c : Thread nD τ)).1, b) = W14 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => h)

/-- The result arrays of the first six calls. -/
abbrev outs : List (Ref sig .tc) :=
  [main_v6_0, main_v6_1, main_v6_2, main_v6_3, main_v10_0, main_v10_1, main_v10_2, main_v10_3, main_v14_0, main_v14_1, main_v14_2, main_v14_3, main_v18_0, main_v18_1, main_v18_2, main_v18_3, main_v22_0, main_v22_1, main_v22_2, main_v22_3, main_v29_0, main_v29_1, main_v29_2, main_v29_3]

variable (c : Dev nD)

theorem step1 : ∀ r ∈ outs.take 4, W4 m ρ c (Proc.devRef .tc r) = W2 m ρ c (Proc.devRef .tc r) := fun r h =>
  (W4_of m ρ c r ((by decide +kernel : ∀ r ∈ outs.take 4, ∀ w : Fin cfg1.W, Pipeline.arrRef spec1 w = r → (cfg1.win w).isOut = false) r h)).trans
    (W3_of m ρ c r ((by decide +kernel : ∀ r ∈ outs.take 4, r ∉ hostOps1_W) r h))
theorem step2 : ∀ r ∈ outs.take 8, W6 m ρ c (Proc.devRef .tc r) = W4 m ρ c (Proc.devRef .tc r) := fun r h =>
  (W6_of m ρ c r ((by decide +kernel : ∀ r ∈ outs.take 8, ∀ w : Fin cfg2.W, Pipeline.arrRef spec2 w = r → (cfg2.win w).isOut = false) r h)).trans
    (W5_of m ρ c r ((by decide +kernel : ∀ r ∈ outs.take 8, r ∉ hostOps2_W) r h))
theorem step3 : ∀ r ∈ outs.take 12, W8 m ρ c (Proc.devRef .tc r) = W6 m ρ c (Proc.devRef .tc r) := fun r h =>
  (W8_of m ρ c r ((by decide +kernel : ∀ r ∈ outs.take 12, ∀ w : Fin cfg3.W, Pipeline.arrRef spec3 w = r → (cfg3.win w).isOut = false) r h)).trans
    (W7_of m ρ c r ((by decide +kernel : ∀ r ∈ outs.take 12, r ∉ hostOps3_W) r h))
theorem step4 : ∀ r ∈ outs.take 16, W10 m ρ c (Proc.devRef .tc r) = W8 m ρ c (Proc.devRef .tc r) := fun r h =>
  (W10_of m ρ c r ((by decide +kernel : ∀ r ∈ outs.take 16, ∀ w : Fin cfg4.W, Pipeline.arrRef spec4 w = r → (cfg4.win w).isOut = false) r h)).trans
    (W9_of m ρ c r ((by decide +kernel : ∀ r ∈ outs.take 16, r ∉ hostOps4_W) r h))
theorem step5 : ∀ r ∈ outs.take 20, W12 m ρ c (Proc.devRef .tc r) = W10 m ρ c (Proc.devRef .tc r) := fun r h =>
  (W12_of m ρ c r ((by decide +kernel : ∀ r ∈ outs.take 20, ∀ w : Fin cfg5.W, Pipeline.arrRef spec5 w = r → (cfg5.win w).isOut = false) r h)).trans
    (W11_of m ρ c r ((by decide +kernel : ∀ r ∈ outs.take 20, r ∉ hostOps5_W) r h))
theorem step6 : ∀ r ∈ outs.take 24, W14 m ρ c (Proc.devRef .tc r) = W12 m ρ c (Proc.devRef .tc r) := fun r h =>
  (W14_of m ρ c r ((by decide +kernel : ∀ r ∈ outs.take 24, ∀ w : Fin cfg6.W, Pipeline.arrRef spec6 w = r → (cfg6.win w).isOut = false) r h)).trans
    (W13_of m ρ c r ((by decide +kernel : ∀ r ∈ outs.take 24, r ∉ hostOps6_W) r h))
theorem keep5 : ∀ r ∈ outs.take 24, W14 m ρ c (Proc.devRef .tc r) = W12 m ρ c (Proc.devRef .tc r) := step6 m ρ c
theorem up4 : ∀ r ∈ outs.take 20, r ∈ outs.take 24 := by decide +kernel
theorem keep4 : ∀ r ∈ outs.take 20, W14 m ρ c (Proc.devRef .tc r) = W10 m ρ c (Proc.devRef .tc r) := fun r h =>
  (keep5 m ρ c r (up4 r h)).trans (step5 m ρ c r h)
theorem up3 : ∀ r ∈ outs.take 16, r ∈ outs.take 20 := by decide +kernel
theorem keep3 : ∀ r ∈ outs.take 16, W14 m ρ c (Proc.devRef .tc r) = W8 m ρ c (Proc.devRef .tc r) := fun r h =>
  (keep4 m ρ c r (up3 r h)).trans (step4 m ρ c r h)
theorem up2 : ∀ r ∈ outs.take 12, r ∈ outs.take 16 := by decide +kernel
theorem keep2 : ∀ r ∈ outs.take 12, W14 m ρ c (Proc.devRef .tc r) = W6 m ρ c (Proc.devRef .tc r) := fun r h =>
  (keep3 m ρ c r (up2 r h)).trans (step3 m ρ c r h)
theorem up1 : ∀ r ∈ outs.take 8, r ∈ outs.take 12 := by decide +kernel
theorem keep1 : ∀ r ∈ outs.take 8, W14 m ρ c (Proc.devRef .tc r) = W4 m ρ c (Proc.devRef .tc r) := fun r h =>
  (keep2 m ρ c r (up1 r h)).trans (step2 m ρ c r h)
theorem up0 : ∀ r ∈ outs.take 4, r ∈ outs.take 8 := by decide +kernel
theorem keep0 : ∀ r ∈ outs.take 4, W14 m ρ c (Proc.devRef .tc r) = W2 m ρ c (Proc.devRef .tc r) := fun r h =>
  (keep1 m ρ c r (up0 r h)).trans (step1 m ρ c r h)

end Cert.Kernel3Ideal.Adam

end
-- ==== Proof.AdamAlgebraic.lean ====
module

public import proofs.«01_k».proof.Defs
public import proofs.«01_k».proof.Proof.AdamRun
public import proofs.«01_k».proof.Proof.Gen.Reference3Ideal.Run

@[expose] public section

set_option maxRecDepth 16384

/-!
The value claim of the seven optimiser calls: their run and their reference's end with the same gradients, changes and
moments of the seven weights.
-/

noncomputable section

namespace Cert.Proof.Adam

open Idealize.ShloMosaic Idealize.ShloMosaic.TcCoe Idealize.SL.Sem Idealize.ShloMosaic.StableHlo
open Cert.Kernel3Ideal Cert.Kernel3Ideal.Gen Cert.Kernel3Ideal.Adam
open Cert.Reference3Ideal.Read

/-- The value claim of the seven optimiser calls, for every contents of their arguments. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨RG0 m, RD0 m, RM0 m, RQ0 m, RG1 m, RD1 m, RM1 m, RQ1 m, RG2 m, RD2 m, RM2 m, RQ2 m, RG3 m, RD3 m, RM3 m, RQ3 m, RG4 m, RD4 m, RM4 m, RQ4 m, RG5 m, RD5 m, RM5 m, RQ5 m, RG6 m, RD6 m, RM6 m, RQ6 m, ?_, ?_⟩
  · refine (θ_run defs _ _).mono (fun r h c => ?_) (ends m g)
    have rd : ∀ (b : Ref sig .tc), ¬ (Proc.devRef .tc b : DevRef τ sig).isScoped → ∀ v,
        W14 m g c (Proc.devRef .tc b) = v → r.2.mem ((c.tc : Thread nD τ).loc b) = v :=
      fun b hb v hv => (h c _ (mem_uc b hb)).trans hv
    have ra : ∀ a ∈ argRefs, r.2.mem ((c.tc : Thread nD τ).loc a) = m ((c.tc : Thread nD τ).loc a) := fun a ha =>
      rd a ((by decide +kernel : ∀ a ∈ argRefs, ¬ (Proc.devRef .tc a : DevRef τ sig).isScoped) a ha) _ (W14_args m g c a ha)
    exact ⟨rd main_v6_0 (by decide) _ ((keep0 m g c _ (by decide)).trans (fin0_0 m g c)),
      rd main_v6_1 (by decide) _ ((keep0 m g c _ (by decide)).trans (fin0_1 m g c)),
      rd main_v6_2 (by decide) _ ((keep0 m g c _ (by decide)).trans (fin0_2 m g c)),
      rd main_v6_3 (by decide) _ ((keep0 m g c _ (by decide)).trans (fin0_3 m g c)),
      rd main_v10_0 (by decide) _ ((keep1 m g c _ (by decide)).trans (fin1_0 m g c)),
      rd main_v10_1 (by decide) _ ((keep1 m g c _ (by decide)).trans (fin1_1 m g c)),
      rd main_v10_2 (by decide) _ ((keep1 m g c _ (by decide)).trans (fin1_2 m g c)),
      rd main_v10_3 (by decide) _ ((keep1 m g c _ (by decide)).trans (fin1_3 m g c)),
      rd main_v14_0 (by decide) _ ((keep2 m g c _ (by decide)).trans (fin2_0 m g c)),
      rd main_v14_1 (by decide) _ ((keep2 m g c _ (by decide)).trans (fin2_1 m g c)),
      rd main_v14_2 (by decide) _ ((keep2 m g c _ (by decide)).trans (fin2_2 m g c)),
      rd main_v14_3 (by decide) _ ((keep2 m g c _ (by decide)).trans (fin2_3 m g c)),
      rd main_v18_0 (by decide) _ ((keep3 m g c _ (by decide)).trans (fin3_0 m g c)),
      rd main_v18_1 (by decide) _ ((keep3 m g c _ (by decide)).trans (fin3_1 m g c)),
      rd main_v18_2 (by decide) _ ((keep3 m g c _ (by decide)).trans (fin3_2 m g c)),
      rd main_v18_3 (by decide) _ ((keep3 m g c _ (by decide)).trans (fin3_3 m g c)),
      rd main_v22_0 (by decide) _ ((keep4 m g c _ (by decide)).trans (fin4_0 m g c)),
      rd main_v22_1 (by decide) _ ((keep4 m g c _ (by decide)).trans (fin4_1 m g c)),
      rd main_v22_2 (by decide) _ ((keep4 m g c _ (by decide)).trans (fin4_2 m g c)),
      rd main_v22_3 (by decide) _ ((keep4 m g c _ (by decide)).trans (fin4_3 m g c)),
      rd main_v29_0 (by decide) _ ((keep5 m g c _ (by decide)).trans (fin5_0 m g c)),
      rd main_v29_1 (by decide) _ ((keep5 m g c _ (by decide)).trans (fin5_1 m g c)),
      rd main_v29_2 (by decide) _ ((keep5 m g c _ (by decide)).trans (fin5_2 m g c)),
      rd main_v29_3 (by decide) _ ((keep5 m g c _ (by decide)).trans (fin5_3 m g c)),
      rd main_v33_0 (by decide) _ (fin6_0 m g c),
      rd main_v33_1 (by decide) _ (fin6_1 m g c),
      rd main_v33_2 (by decide) _ (fin6_2 m g c),
      rd main_v33_3 (by decide) _ (fin6_3 m g c),
      ra main_arg0 (by decide), ra main_arg1 (by decide), ra main_arg2 (by decide), ra main_arg3 (by decide), ra main_arg4 (by decide), ra main_arg5 (by decide), ra main_arg6 (by decide), ra main_arg7 (by decide), ra main_arg8 (by decide), ra main_arg9 (by decide), ra main_arg10 (by decide), ra main_arg11 (by decide), ra main_arg12 (by decide), ra main_arg13 (by decide), ra main_arg14 (by decide), ra main_arg15 (by decide), ra main_arg16 (by decide), ra main_arg17 (by decide), ra main_arg18 (by decide), ra main_arg19 (by decide), ra main_arg20 (by decide), ra main_arg21 (by decide), ra main_arg22 (by decide), ra main_arg23 (by decide), ra main_arg24 (by decide), ra main_arg25 (by decide), ra main_arg26 (by decide), ra main_arg27 (by decide), ra main_arg28 (by decide)⟩
  · refine (θ_run Cert.Reference3Ideal.defs _ _).mono (fun r h c => ?_) (Cert.Reference3Ideal.Value.run (F := Ideal) m' g')
    obtain ⟨a0, a1, a2, a3, a4, a5, a6, a7, a8, a9, a10, a11, a12, a13, a14, a15, a16, a17, a18, a19, a20, a21, a22, a23, a24, a25, a26, a27, a28⟩ := hagree c
    obtain ⟨h0, h1, h2, h3, h4, h5, h6, h7, h8, h9, h10, h11, h12, h13, h14, h15, h16, h17, h18, h19, h20, h21, h22, h23, h24, h25, h26, h27, hk⟩ := h c
    exact ⟨h0.trans ((val_main_v1_eq (launchContents m' c)).trans (congrArg (val_main_v1 (F := Ideal)) a21)),
      h1.trans ((val_main_v66_eq (launchContents m' c)).trans (congr (congr (congr (congrArg (val_main_v66 (F := Ideal)) a0) a1) a2) a21)),
      h2.trans ((val_main_v47_eq (launchContents m' c)).trans (congr (congrArg (val_main_v47 (F := Ideal)) a1) a21)),
      h3.trans ((val_main_v53_eq (launchContents m' c)).trans (congr (congrArg (val_main_v53 (F := Ideal)) a2) a21)),
      h4.trans ((val_main_v3_eq (launchContents m' c)).trans (congrArg (val_main_v3 (F := Ideal)) a22)),
      h5.trans ((val_main_v90_eq (launchContents m' c)).trans (congr (congr (congr (congrArg (val_main_v90 (F := Ideal)) a3) a4) a5) a22)),
      h6.trans ((val_main_v71_eq (launchContents m' c)).trans (congr (congrArg (val_main_v71 (F := Ideal)) a4) a22)),
      h7.trans ((val_main_v77_eq (launchContents m' c)).trans (congr (congrArg (val_main_v77 (F := Ideal)) a5) a22)),
      h8.trans ((val_main_v5_eq (launchContents m' c)).trans (congrArg (val_main_v5 (F := Ideal)) a23)),
      h9.trans ((val_main_v114_eq (launchContents m' c)).trans (congr (congr (congr (congrArg (val_main_v114 (F := Ideal)) a6) a7) a8) a23)),
      h10.trans ((val_main_v95_eq (launchContents m' c)).trans (congr (congrArg (val_main_v95 (F := Ideal)) a7) a23)),
      h11.trans ((val_main_v101_eq (launchContents m' c)).trans (congr (congrArg (val_main_v101 (F := Ideal)) a8) a23)),
      h12.trans ((val_main_v7_eq (launchContents m' c)).trans (congrArg (val_main_v7 (F := Ideal)) a24)),
      h13.trans ((val_main_v138_eq (launchContents m' c)).trans (congr (congr (congr (congrArg (val_main_v138 (F := Ideal)) a9) a10) a11) a24)),
      h14.trans ((val_main_v119_eq (launchContents m' c)).trans (congr (congrArg (val_main_v119 (F := Ideal)) a10) a24)),
      h15.trans ((val_main_v125_eq (launchContents m' c)).trans (congr (congrArg (val_main_v125 (F := Ideal)) a11) a24)),
      h16.trans ((val_main_v11_eq (launchContents m' c)).trans (congr (congrArg (val_main_v11 (F := Ideal)) a25) a26)),
      h17.trans ((val_main_v162_eq (launchContents m' c)).trans (congr (congr (congr (congr (congrArg (val_main_v162 (F := Ideal)) a12) a13) a14) a25) a26)),
      h18.trans ((val_main_v143_eq (launchContents m' c)).trans (congr (congr (congrArg (val_main_v143 (F := Ideal)) a13) a25) a26)),
      h19.trans ((val_main_v149_eq (launchContents m' c)).trans (congr (congr (congrArg (val_main_v149 (F := Ideal)) a14) a25) a26)),
      h20.trans ((val_main_v13_eq (launchContents m' c)).trans (congrArg (val_main_v13 (F := Ideal)) a27)),
      h21.trans ((val_main_v186_eq (launchContents m' c)).trans (congr (congr (congr (congrArg (val_main_v186 (F := Ideal)) a15) a16) a17) a27)),
      h22.trans ((val_main_v167_eq (launchContents m' c)).trans (congr (congrArg (val_main_v167 (F := Ideal)) a16) a27)),
      h23.trans ((val_main_v173_eq (launchContents m' c)).trans (congr (congrArg (val_main_v173 (F := Ideal)) a17) a27)),
      h24.trans ((val_main_v15_eq (launchContents m' c)).trans (congrArg (val_main_v15 (F := Ideal)) a28)),
      h25.trans ((val_main_v210_eq (launchContents m' c)).trans (congr (congr (congr (congrArg (val_main_v210 (F := Ideal)) a18) a19) a20) a28)),
      h26.trans ((val_main_v191_eq (launchContents m' c)).trans (congr (congrArg (val_main_v191 (F := Ideal)) a19) a28)),
      h27.trans ((val_main_v197_eq (launchContents m' c)).trans (congr (congrArg (val_main_v197 (F := Ideal)) a20) a28)), hk⟩

/-- The reference's run leaves its arguments and every counter as they were. -/
theorem frame_reference : Cert.quiescent_Reference3Ideal (hReference3Ideal := Cert.Reference3Ideal.Gen.facts) := fun m ρ _ =>
  (θ_run Cert.Reference3Ideal.defs _ _).mono (fun r h => ⟨fun c => (h c).2.2.2.2.2.2.2.2.2.2.2.2.2.2.2.2.2.2.2.2.2.2.2.2.2.2.2.2, sem_eq_zero_of_no_sems (by decide) r.2⟩)
    (Cert.Reference3Ideal.Value.run (F := Ideal) m ρ)

end Cert.Proof.Adam

end
-- ==== Proof.lean ====
/-
The certificate: each program runs to its end leaving its arguments and every counter as they were, and the kernels'
results are those of their references: the two feed-forward blocks' wherever the arguments are finite
(`Proof/Algebraic.lean` for the second block, `Proof/PairAlgebraic.lean` for the first), the seven optimiser calls'
for every argument (`Proof/AdamAlgebraic.lean`).
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Algebraic
public import proofs.«01_k».proof.Proof.PairAlgebraic
public import proofs.«01_k».proof.Proof.AdamAlgebraic

@[expose] public section

noncomputable section

namespace Cert.Proof

open Idealize.ShloMosaic Idealize.SL.Sem

/-- The claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, preFacts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ,
    fun m ρ _ => Cert.Kernel2Ideal.Gen.frame m ρ, Pair.frame_reference, fun m ρ _ => Pair.frame_reference m ρ trivial,
    fun m ρ _ => Cert.Kernel3.Gen.frame m ρ, fun m ρ _ => Cert.Kernel3Ideal.Gen.frame m ρ, Adam.frame_reference,
    trivial, algebraic, trivial, Pair.algebraic, trivial, Adam.algebraic⟩

end Cert.Proof

end
